-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_tables_of_choice : Cert.Pre_tables_of_choice.Facts] (m : (ℓ : Loc Cert.Kernel4.nD Cert.Kernel4.τ Cert.Kernel4.sig) → Buf (Elt Bits) ℓ) : Prop :=
  ∀ c : Dev Cert.Kernel4.nD,
    (Cert.Pre_tables_of_choice.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).1 = (fun _ => 1#1)
    ∧ (Cert.Pre_tables_of_choice.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.1 = (fun _ => 1#1)
    ∧ (Cert.Pre_tables_of_choice.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.2.1 = (fun _ => 1#1)
    ∧ (Cert.Pre_tables_of_choice.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.2.2.1 = (fun _ => 1#1)
    ∧ (Cert.Pre_tables_of_choice.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.2.2.2.1 = (fun _ => 1#1)
    ∧ (Cert.Pre_tables_of_choice.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))).2.2.2.2.2 = (fun _ => 1#1)

def Pre_Kernel4Ideal [hPre_tables_of_choice : Cert.Pre_tables_of_choice.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables_of_choice.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_tables_of_choice.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_tables_of_choice.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_tables_of_choice.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_tables_of_choice.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.1 = (fun _ => 1#1)
    ∧ (Cert.Pre_tables_of_choice.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tables_of_choice [hPre_tables_of_choice : Cert.Pre_tables_of_choice.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables_of_choice.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_tables_of_choice.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_tables_of_choice.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_tables_of_choice.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_tables_of_choice.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.1 = (fun _ => 1#1)
    ∧ (Cert.Pre_tables_of_choice.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2.2 = (fun _ => 1#1)

def Pre_Kernel5 [hPre_columns_of_choice : Cert.Pre_columns_of_choice.Facts] (m : (ℓ : Loc Cert.Kernel5.nD Cert.Kernel5.τ Cert.Kernel5.sig) → Buf (Elt Bits) ℓ) : Prop :=
  ∀ c : Dev Cert.Kernel5.nD,
    (Cert.Pre_columns_of_choice.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).1 = (fun _ => 1#1)
    ∧ (Cert.Pre_columns_of_choice.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.1 = (fun _ => 1#1)
    ∧ (Cert.Pre_columns_of_choice.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.1 = (fun _ => 1#1)
    ∧ (Cert.Pre_columns_of_choice.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.2.1 = (fun _ => 1#1)
    ∧ (Cert.Pre_columns_of_choice.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.2.2.1 = (fun _ => 1#1)
    ∧ (Cert.Pre_columns_of_choice.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))).2.2.2.2.2 = (fun _ => 1#1)

def Pre_Kernel5Ideal [hPre_columns_of_choice : Cert.Pre_columns_of_choice.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_columns_of_choice.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_columns_of_choice.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_columns_of_choice.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_columns_of_choice.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_columns_of_choice.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_columns_of_choice.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_columns_of_choice [hPre_columns_of_choice : Cert.Pre_columns_of_choice.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_columns_of_choice.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_columns_of_choice.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_columns_of_choice.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_columns_of_choice.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_columns_of_choice.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_columns_of_choice.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] [hPre_tables_of_choice : Cert.Pre_tables_of_choice.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] [hPre_tables_of_choice : Cert.Pre_tables_of_choice.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_tables_of_choice [hReference4Ideal : Cert.Reference4Ideal.Facts] [hPre_tables_of_choice : Cert.Pre_tables_of_choice.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tables_of_choice m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] [hPre_columns_of_choice : Cert.Pre_columns_of_choice.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_columns_of_choice : Cert.Pre_columns_of_choice.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_columns_of_choice [hReference5Ideal : Cert.Reference5Ideal.Facts] [hPre_columns_of_choice : Cert.Pre_columns_of_choice.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_columns_of_choice m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "prescale" .f32 0x3E0293EE#32 ((((Real.sqrt 128) * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)) (v2 : (c : Dev Cert.Kernel2Ideal.nD) → Buf (Elt Ideal) ((c.tc : Thread Cert.Kernel2Ideal.nD Cert.Kernel2Ideal.τ).loc Cert.Kernel2Ideal.main_v35_2)) (v3 : (c : Dev Cert.Kernel2Ideal.nD) → Buf (Elt Ideal) ((c.tc : Thread Cert.Kernel2Ideal.nD Cert.Kernel2Ideal.τ).loc Cert.Kernel2Ideal.main_v35_3)) (v4 : (c : Dev Cert.Kernel2Ideal.nD) → Buf (Elt Ideal) ((c.tc : Thread Cert.Kernel2Ideal.nD Cert.Kernel2Ideal.τ).loc Cert.Kernel2Ideal.main_v35_4)) (v5 : (c : Dev Cert.Kernel2Ideal.nD) → Buf (Elt Ideal) ((c.tc : Thread Cert.Kernel2Ideal.nD Cert.Kernel2Ideal.τ).loc Cert.Kernel2Ideal.main_v35_5)) (v6 : (c : Dev Cert.Kernel2Ideal.nD) → Buf (Elt Ideal) ((c.tc : Thread Cert.Kernel2Ideal.nD Cert.Kernel2Ideal.τ).loc Cert.Kernel2Ideal.main_v35_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_v35_2) = v2 c
          ∧ r.2.mem ((c.tc : Thread Cert.Kernel2Ideal.nD Cert.Kernel2Ideal.τ).loc Cert.Kernel2Ideal.main_v35_3) = v3 c
          ∧ r.2.mem ((c.tc : Thread Cert.Kernel2Ideal.nD Cert.Kernel2Ideal.τ).loc Cert.Kernel2Ideal.main_v35_4) = v4 c
          ∧ r.2.mem ((c.tc : Thread Cert.Kernel2Ideal.nD Cert.Kernel2Ideal.τ).loc Cert.Kernel2Ideal.main_v35_5) = v5 c
          ∧ r.2.mem ((c.tc : Thread Cert.Kernel2Ideal.nD Cert.Kernel2Ideal.τ).loc Cert.Kernel2Ideal.main_v35_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v113) = v0 c
          ∧ r.2.mem ((c.tc : Thread Cert.Reference2Ideal.nD Cert.Reference2Ideal.τ).loc Cert.Reference2Ideal.main_v115) = v1 c
          ∧ r.2.mem ((c.tc : Thread Cert.Reference2Ideal.nD Cert.Reference2Ideal.τ).loc Cert.Reference2Ideal.main_v116) = v2 c
          ∧ r.2.mem ((c.tc : Thread Cert.Reference2Ideal.nD Cert.Reference2Ideal.τ).loc Cert.Reference2Ideal.main_v117) = v3 c
          ∧ r.2.mem ((c.tc : Thread Cert.Reference2Ideal.nD Cert.Reference2Ideal.τ).loc Cert.Reference2Ideal.main_v52) = v4 c
          ∧ r.2.mem ((c.tc : Thread Cert.Reference2Ideal.nD Cert.Reference2Ideal.τ).loc Cert.Reference2Ideal.main_v131) = v5 c
          ∧ r.2.mem ((c.tc : Thread Cert.Reference2Ideal.nD Cert.Reference2Ideal.τ).loc Cert.Reference2Ideal.main_v132) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] [hPre_tables_of_choice : Cert.Pre_tables_of_choice.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] [hPre_columns_of_choice : Cert.Pre_columns_of_choice.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_tables_of_choice : Cert.Pre_tables_of_choice.Facts) (hPre_columns_of_choice : Cert.Pre_columns_of_choice.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_tables_of_choice := hPre_tables_of_choice)
    ∧ quiescent_Kernel4Ideal (hKernel4Ideal := hKernel4Ideal) (hPre_tables_of_choice := hPre_tables_of_choice)
    ∧ quiescent_Reference4Ideal (hReference4Ideal := hReference4Ideal)
    ∧ quiescent_Reference4Ideal_pre_tables_of_choice (hReference4Ideal := hReference4Ideal) (hPre_tables_of_choice := hPre_tables_of_choice)
    ∧ quiescent_Kernel5 (hKernel5 := hKernel5) (hPre_columns_of_choice := hPre_columns_of_choice)
    ∧ quiescent_Kernel5Ideal (hKernel5Ideal := hKernel5Ideal) (hPre_columns_of_choice := hPre_columns_of_choice)
    ∧ quiescent_Reference5Ideal (hReference5Ideal := hReference5Ideal)
    ∧ quiescent_Reference5Ideal_pre_columns_of_choice (hReference5Ideal := hReference5Ideal) (hPre_columns_of_choice := hPre_columns_of_choice)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_tables_of_choice := hPre_tables_of_choice)
    ∧ preserves_Kernel5_Kernel5Ideal
    ∧ algebraic_Kernel5Ideal_Reference5Ideal (hKernel5Ideal := hKernel5Ideal) (hReference5Ideal := hReference5Ideal) (hPre_columns_of_choice := hPre_columns_of_choice)
-- ==== Pre_columns_of_choice.lean ====
abbrev S16x4096x1024 : Shape := ⟨3, ![16, 4096, 1024]⟩
abbrev S16x16x512x1024 : Shape := ⟨4, ![16, 16, 512, 1024]⟩
abbrev S16x16x512 : Shape := ⟨3, ![16, 16, 512]⟩
abbrev S16x4096x16 : Shape := ⟨3, ![16, 4096, 16]⟩
abbrev S8448 : Shape := ⟨1, ![8448]⟩
abbrev S16x1x1024 : Shape := ⟨3, ![16, 1, 1024]⟩
abbrev S1024 : Shape := ⟨1, ![1024]⟩
abbrev S16x16x33 : Shape := ⟨3, ![16, 16, 33]⟩
abbrev S16x16x8 : Shape := ⟨3, ![16, 16, 8]⟩
abbrev S16x16x4096 : Shape := ⟨3, ![16, 16, 4096]⟩
abbrev S16x16x8x512 : Shape := ⟨4, ![16, 16, 8, 512]⟩
abbrev S16x16x1x4096 : Shape := ⟨4, ![16, 16, 1, 4096]⟩
abbrev S_ : Shape := ⟨0, ![]⟩
abbrev S512 : Shape := ⟨1, ![512]⟩
abbrev S512x1 : Shape := ⟨2, ![512, 1]⟩
abbrev S1x1x512x1 : Shape := ⟨4, ![1, 1, 512, 1]⟩
abbrev S16x16x512x4096 : Shape := ⟨4, ![16, 16, 512, 4096]⟩
abbrev S16x16x512x1 : Shape := ⟨4, ![16, 16, 512, 1]⟩
abbrev S4096 : Shape := ⟨1, ![4096]⟩
abbrev S1x1x1x4096 : Shape := ⟨4, ![1, 1, 1, 4096]⟩
abbrev S16x16x8x1 : Shape := ⟨4, ![16, 16, 8, 1]⟩

class Facts : Prop where
  shapeCasts_S8448_S16x16x33 : S8448.ShapeCasts S16x16x33
  slicesBy_S16x16x33_S16x16x8_0s1_0s1_0s4 : S16x16x33.SlicesBy (![0, 0, 0] : Fin 3 → Nat) ![1, 1, 4] S16x16x8
  slicesBy_S16x16x33_S16x16x8_0s1_0s1_4s4 : S16x16x33.SlicesBy (![0, 0, 4] : Fin 3 → Nat) ![1, 1, 4] S16x16x8
  transposes_S16x4096x16_S16x16x4096_0_2_1 : S16x4096x16.Transposes [0, 2, 1] S16x16x4096
  shapeCasts_S16x16x4096_S16x16x8x512 : S16x16x4096.ShapeCasts S16x16x8x512
  bcast_S16x16x4096_S16x16x1x4096_0_1_3 : S16x16x4096.BroadcastsInDim S16x16x1x4096 (![0, 1, 3] : Fin 3 → Fin S16x16x1x4096.rank)
  bcast_S_S16x16x512 : S_.BroadcastsInDim S16x16x512 (![] : Fin 0 → Fin S16x16x512.rank)
  bcast_S_S8448 : S_.BroadcastsInDim S8448 (![] : Fin 0 → Fin S8448.rank)
  bcast_S512_S512x1_0 : S512.BroadcastsInDim S512x1 (![0] : Fin 1 → Fin S512x1.rank)
  bcast_S512x1_S1x1x512x1_2_3 : S512x1.BroadcastsInDim S1x1x512x1 (![2, 3] : Fin 2 → Fin S1x1x512x1.rank)
  bcast_S16x16x1x4096_S16x16x512x4096_0_1_2_3 : S16x16x1x4096.BroadcastsInDim S16x16x512x4096 (![0, 1, 2, 3] : Fin 4 → Fin S16x16x512x4096.rank)
  bcast_S1x1x512x1_S16x16x512x4096_0_1_2_3 : S1x1x512x1.BroadcastsInDim S16x16x512x4096 (![0, 1, 2, 3] : Fin 4 → Fin S16x16x512x4096.rank)
  bcast_S16x16x512_S16x16x512x1_0_1_2 : S16x16x512.BroadcastsInDim S16x16x512x1 (![0, 1, 2] : Fin 3 → Fin S16x16x512x1.rank)
  bcast_S4096_S1x1x1x4096_3 : S4096.BroadcastsInDim S1x1x1x4096 (![3] : Fin 1 → Fin S1x1x1x4096.rank)
  bcast_S16x16x512x1_S16x16x512x4096_0_1_2_3 : S16x16x512x1.BroadcastsInDim S16x16x512x4096 (![0, 1, 2, 3] : Fin 4 → Fin S16x16x512x4096.rank)
  bcast_S1x1x1x4096_S16x16x512x4096_0_1_2_3 : S1x1x1x4096.BroadcastsInDim S16x16x512x4096 (![0, 1, 2, 3] : Fin 4 → Fin S16x16x512x4096.rank)
  bcast_S_S16x16x8x512 : S_.BroadcastsInDim S16x16x8x512 (![] : Fin 0 → Fin S16x16x8x512.rank)
  bcast_S16x16x8_S16x16x8x1_0_1_2 : S16x16x8.BroadcastsInDim S16x16x8x1 (![0, 1, 2] : Fin 3 → Fin S16x16x8x1.rank)
  bcast_S16x16x8x1_S16x16x8x512_0_1_2_3 : S16x16x8x1.BroadcastsInDim S16x16x8x512 (![0, 1, 2, 3] : Fin 4 → Fin S16x16x8x512.rank)

variable [Facts]

def fn_part1 {F : FTy → Type} [FloatOps F] (main_arg2 : IVec S16x16x512 32) (main_v1 : IVec S16x16x8 32) (main_v2 : IVec S16x16x8 32) (main_v4 : IVec S16x16x8x512 32) (main_v8 : IVec S16x16x512 1) (main_v10 : IVec S16x16x512 1) (main_v12 : IVec S8448 1) (main_v14 : IVec S8448 1) (main_v18 : IVec S16x16x512x4096 32) (main_v19 : IVec S16x16x512x4096 32) : IVec S16x16x512 1 × IVec S16x16x512 1 × IVec S8448 1 × IVec S8448 1 × IVec S16x16x512x4096 1 × IVec S16x16x8x512 1 :=
  let main_v20 : IVec S16x16x512x4096 1 := cmpi .eq main_v18 main_v19
  let main_v21 : IVec S16x16x512x1 32 := broadcastInDim S16x16x512x1 ![0, 1, 2] bcast_S16x16x512_S16x16x512x1_0_1_2 main_arg2
  let main_v22 : IVec S4096 32 := iotaInDim S4096 32 0
  let main_v23 : IVec S1x1x1x4096 32 := broadcastInDim S1x1x1x4096 ![3] bcast_S4096_S1x1x1x4096_3 main_v22
  let main_v24 : IVec S16x16x512x4096 32 := broadcastInDim S16x16x512x4096 ![0, 1, 2, 3] bcast_S16x16x512x1_S16x16x512x4096_0_1_2_3 main_v21
  let main_v25 : IVec S16x16x512x4096 32 := broadcastInDim S16x16x512x4096 ![0, 1, 2, 3] bcast_S1x1x1x4096_S16x16x512x4096_0_1_2_3 main_v23
  let main_v26 : IVec S16x16x512x4096 1 := cmpi .eq main_v24 main_v25
  let main_v27 : IVec S16x16x512x4096 1 := cmpi .eq main_v20 main_v26
  let main_c_3 : IVec S_ 32 := constantI S_ 32 0#32
  let main_v28 : IVec S16x16x8x512 32 := broadcastInDim S16x16x8x512 ![] bcast_S_S16x16x8x512 main_c_3
  let main_v29 : IVec S16x16x8x512 1 := cmpi .slt main_v4 main_v28
  let main_v30 : IVec S16x16x8x1 32 := broadcastInDim S16x16x8x1 ![0, 1, 2] bcast_S16x16x8_S16x16x8x1_0_1_2 main_v1
  let main_v31 : IVec S16x16x8x512 32 := broadcastInDim S16x16x8x512 ![0, 1, 2, 3] bcast_S16x16x8x1_S16x16x8x512_0_1_2_3 main_v30
  let main_v32 : IVec S16x16x8x512 1 := cmpi .sge main_v4 main_v31
  let main_v33 : IVec S16x16x8x1 32 := broadcastInDim S16x16x8x1 ![0, 1, 2] bcast_S16x16x8_S16x16x8x1_0_1_2 main_v2
  let main_v34 : IVec S16x16x8x512 32 := broadcastInDim S16x16x8x512 ![0, 1, 2, 3] bcast_S16x16x8x1_S16x16x8x512_0_1_2_3 main_v33
  let main_v35 : IVec S16x16x8x512 1 := cmpi .slt main_v4 main_v34
  let main_v36 : IVec S16x16x8x512 1 := andi main_v32 main_v35
  let main_v37 : IVec S16x16x8x512 1 := ori main_v29 main_v36
  (main_v8, main_v10, main_v12, main_v14, main_v27, main_v37)

def fn {F : FTy → Type} [FloatOps F] (main_arg0 : FVec F S16x4096x1024 .f32) (main_arg1 : FVec F S16x16x512x1024 .bf16) (main_arg2 : IVec S16x16x512 32) (main_arg3 : IVec S16x4096x16 32) (main_arg4 : IVec S8448 32) (main_arg5 : FVec F S16x1x1024 .f32) (main_arg6 : FVec F S1024 .f32) : IVec S16x16x512 1 × IVec S16x16x512 1 × IVec S8448 1 × IVec S8448 1 × IVec S16x16x512x4096 1 × IVec S16x16x8x512 1 :=
  let main_v0 : IVec S16x16x33 32 := shapeCast S16x16x33 main_arg4 shapeCasts_S8448_S16x16x33
  let main_v1 : IVec S16x16x8 32 := (Host.slice S16x16x8 ![0, 0, 0] ![1, 1, 4] · slicesBy_S16x16x33_S16x16x8_0s1_0s1_0s4) main_v0
  let main_v2 : IVec S16x16x8 32 := (Host.slice S16x16x8 ![0, 0, 4] ![1, 1, 4] · slicesBy_S16x16x33_S16x16x8_0s1_0s1_4s4) main_v0
  let main_v3 : IVec S16x16x4096 32 := (transpose S16x16x4096 [0, 2, 1] · transposes_S16x4096x16_S16x16x4096_0_2_1) main_arg3
  let main_v4 : IVec S16x16x8x512 32 := shapeCast S16x16x8x512 main_v3 shapeCasts_S16x16x4096_S16x16x8x512
  let main_v5 : IVec S16x16x4096 32 := (transpose S16x16x4096 [0, 2, 1] · transposes_S16x4096x16_S16x16x4096_0_2_1) main_arg3
  let main_v6 : IVec S16x16x1x4096 32 := broadcastInDim S16x16x1x4096 ![0, 1, 3] bcast_S16x16x4096_S16x16x1x4096_0_1_3 main_v5
  let main_c : IVec S_ 32 := constantI S_ 32 0#32
  let main_v7 : IVec S16x16x512 32 := broadcastInDim S16x16x512 ![] bcast_S_S16x16x512 main_c
  let main_v8 : IVec S16x16x512 1 := cmpi .sge main_arg2 main_v7
  let main_c_0 : IVec S_ 32 := constantI S_ 32 4096#32
  let main_v9 : IVec S16x16x512 32 := broadcastInDim S16x16x512 ![] bcast_S_S16x16x512 main_c_0
  let main_v10 : IVec S16x16x512 1 := cmpi .slt main_arg2 main_v9
  let main_c_1 : IVec S_ 32 := constantI S_ 32 0#32
  let main_v11 : IVec S8448 32 := broadcastInDim S8448 ![] bcast_S_S8448 main_c_1
  let main_v12 : IVec S8448 1 := cmpi .sge main_arg4 main_v11
  let main_c_2 : IVec S_ 32 := constantI S_ 32 512#32
  let main_v13 : IVec S8448 32 := broadcastInDim S8448 ![] bcast_S_S8448 main_c_2
  let main_v14 : IVec S8448 1 := cmpi .sle main_arg4 main_v13
  let main_v15 : IVec S512 32 := iotaInDim S512 32 0
  let main_v16 : IVec S512x1 32 := broadcastInDim S512x1 ![0] bcast_S512_S512x1_0 main_v15
  let main_v17 : IVec S1x1x512x1 32 := broadcastInDim S1x1x512x1 ![2, 3] bcast_S512x1_S1x1x512x1_2_3 main_v16
  let main_v18 : IVec S16x16x512x4096 32 := broadcastInDim S16x16x512x4096 ![0, 1, 2, 3] bcast_S16x16x1x4096_S16x16x512x4096_0_1_2_3 main_v6
  let main_v19 : IVec S16x16x512x4096 32 := broadcastInDim S16x16x512x4096 ![0, 1, 2, 3] bcast_S1x1x512x1_S16x16x512x4096_0_1_2_3 main_v17
  fn_part1 (F := F) main_arg2 main_v1 main_v2 main_v4 main_v8 main_v10 main_v12 main_v14 main_v18 main_v19
-- ==== Pre_finite_scores.lean ====
abbrev S16x4096x8x128 : Shape := ⟨4, ![16, 4096, 8, 128]⟩
abbrev S16x4096x2x128 : Shape := ⟨4, ![16, 4096, 2, 128]⟩
abbrev S16x256x2x128 : Shape := ⟨4, ![16, 256, 2, 128]⟩
abbrev S_ : Shape := ⟨0, ![]⟩

class Facts : Prop where
  bcast_S_S16x4096x8x128 : S_.BroadcastsInDim S16x4096x8x128 (![] : Fin 0 → Fin S16x4096x8x128.rank)
  bcast_S_S16x4096x2x128 : S_.BroadcastsInDim S16x4096x2x128 (![] : Fin 0 → Fin S16x4096x2x128.rank)
  bcast_S_S16x256x2x128 : S_.BroadcastsInDim S16x256x2x128 (![] : Fin 0 → Fin S16x256x2x128.rank)

variable [Facts]

def fn {F : FTy → Type} [FloatOps F] (main_arg0 : FVec F S16x4096x8x128 .f32) (main_arg1 : FVec F S16x4096x2x128 .f32) (main_arg2 : FVec F S16x4096x2x128 .f32) (main_arg3 : FVec F S16x256x2x128 .f32) (main_arg4 : FVec F S16x256x2x128 .f32) : IVec S16x4096x8x128 1 × IVec S16x4096x2x128 1 × IVec S16x256x2x128 1 :=
  let main_v0 : FVec F S16x4096x8x128 .f32 := Host.absf main_arg0
  let main_cst : FVec F S_ .f32 := constant S_ .f32 0x7F800000#32
  let main_v1 : FVec F S16x4096x8x128 .f32 := broadcastInDim S16x4096x8x128 ![] bcast_S_S16x4096x8x128 main_cst
  let main_v2 : IVec S16x4096x8x128 1 := cmpf .olt main_v0 main_v1
  let main_v3 : FVec F S16x4096x2x128 .f32 := Host.absf main_arg1
  let main_cst_0 : FVec F S_ .f32 := constant S_ .f32 0x7F800000#32
  let main_v4 : FVec F S16x4096x2x128 .f32 := broadcastInDim S16x4096x2x128 ![] bcast_S_S16x4096x2x128 main_cst_0
  let main_v5 : IVec S16x4096x2x128 1 := cmpf .olt main_v3 main_v4
  let main_v6 : FVec F S16x256x2x128 .f32 := Host.absf main_arg3
  let main_cst_1 : FVec F S_ .f32 := constant S_ .f32 0x7F800000#32
  let main_v7 : FVec F S16x256x2x128 .f32 := broadcastInDim S16x256x2x128 ![] bcast_S_S16x256x2x128 main_cst_1
  let main_v8 : IVec S16x256x2x128 1 := cmpf .olt main_v6 main_v7
  (main_v2, main_v5, main_v8)
-- ==== Pre_tables_of_choice.lean ====
abbrev S16x4096x1024 : Shape := ⟨3, ![16, 4096, 1024]⟩
abbrev S16x16x512 : Shape := ⟨3, ![16, 16, 512]⟩
abbrev S16x16x4096 : Shape := ⟨3, ![16, 16, 4096]⟩
abbrev S8448 : Shape := ⟨1, ![8448]⟩
abbrev S4x16x1024x1024 : Shape := ⟨4, ![4, 16, 1024, 1024]⟩
abbrev S16x16x33 : Shape := ⟨3, ![16, 16, 33]⟩
abbrev S16x16x16 : Shape := ⟨3, ![16, 16, 16]⟩
abbrev S16x16x16x256 : Shape := ⟨4, ![16, 16, 16, 256]⟩
abbrev S_ : Shape := ⟨0, ![]⟩
abbrev S16x16x1x4096 : Shape := ⟨4, ![16, 16, 1, 4096]⟩
abbrev S512 : Shape := ⟨1, ![512]⟩
abbrev S512x1 : Shape := ⟨2, ![512, 1]⟩
abbrev S1x1x512x1 : Shape := ⟨4, ![1, 1, 512, 1]⟩
abbrev S16x16x512x4096 : Shape := ⟨4, ![16, 16, 512, 4096]⟩
abbrev S16x16x512x1 : Shape := ⟨4, ![16, 16, 512, 1]⟩
abbrev S4096 : Shape := ⟨1, ![4096]⟩
abbrev S1x1x1x4096 : Shape := ⟨4, ![1, 1, 1, 4096]⟩
abbrev S16x16x16x1 : Shape := ⟨4, ![16, 16, 16, 1]⟩

class Facts : Prop where
  shapeCasts_S8448_S16x16x33 : S8448.ShapeCasts S16x16x33
  slicesBy_S16x16x33_S16x16x16_0s1_0s1_0s2 : S16x16x33.SlicesBy (![0, 0, 0] : Fin 3 → Nat) ![1, 1, 2] S16x16x16
  slicesBy_S16x16x33_S16x16x16_0s1_0s1_2s2 : S16x16x33.SlicesBy (![0, 0, 2] : Fin 3 → Nat) ![1, 1, 2] S16x16x16
  shapeCasts_S16x16x4096_S16x16x16x256 : S16x16x4096.ShapeCasts S16x16x16x256
  bcast_S_S16x16x512 : S_.BroadcastsInDim S16x16x512 (![] : Fin 0 → Fin S16x16x512.rank)
  bcast_S_S8448 : S_.BroadcastsInDim S8448 (![] : Fin 0 → Fin S8448.rank)
  bcast_S16x16x4096_S16x16x1x4096_0_1_3 : S16x16x4096.BroadcastsInDim S16x16x1x4096 (![0, 1, 3] : Fin 3 → Fin S16x16x1x4096.rank)
  bcast_S512_S512x1_0 : S512.BroadcastsInDim S512x1 (![0] : Fin 1 → Fin S512x1.rank)
  bcast_S512x1_S1x1x512x1_2_3 : S512x1.BroadcastsInDim S1x1x512x1 (![2, 3] : Fin 2 → Fin S1x1x512x1.rank)
  bcast_S16x16x1x4096_S16x16x512x4096_0_1_2_3 : S16x16x1x4096.BroadcastsInDim S16x16x512x4096 (![0, 1, 2, 3] : Fin 4 → Fin S16x16x512x4096.rank)
  bcast_S1x1x512x1_S16x16x512x4096_0_1_2_3 : S1x1x512x1.BroadcastsInDim S16x16x512x4096 (![0, 1, 2, 3] : Fin 4 → Fin S16x16x512x4096.rank)
  bcast_S16x16x512_S16x16x512x1_0_1_2 : S16x16x512.BroadcastsInDim S16x16x512x1 (![0, 1, 2] : Fin 3 → Fin S16x16x512x1.rank)
  bcast_S4096_S1x1x1x4096_3 : S4096.BroadcastsInDim S1x1x1x4096 (![3] : Fin 1 → Fin S1x1x1x4096.rank)
  bcast_S16x16x512x1_S16x16x512x4096_0_1_2_3 : S16x16x512x1.BroadcastsInDim S16x16x512x4096 (![0, 1, 2, 3] : Fin 4 → Fin S16x16x512x4096.rank)
  bcast_S1x1x1x4096_S16x16x512x4096_0_1_2_3 : S1x1x1x4096.BroadcastsInDim S16x16x512x4096 (![0, 1, 2, 3] : Fin 4 → Fin S16x16x512x4096.rank)
  bcast_S_S16x16x16x256 : S_.BroadcastsInDim S16x16x16x256 (![] : Fin 0 → Fin S16x16x16x256.rank)
  bcast_S16x16x16_S16x16x16x1_0_1_2 : S16x16x16.BroadcastsInDim S16x16x16x1 (![0, 1, 2] : Fin 3 → Fin S16x16x16x1.rank)
  bcast_S16x16x16x1_S16x16x16x256_0_1_2_3 : S16x16x16x1.BroadcastsInDim S16x16x16x256 (![0, 1, 2, 3] : Fin 4 → Fin S16x16x16x256.rank)

variable [Facts]

def fn_part1 {F : FTy → Type} [FloatOps F] (main_v1 : IVec S16x16x16 32) (main_v2 : IVec S16x16x16 32) (main_v3 : IVec S16x16x16x256 32) (main_v5 : IVec S16x16x512 1) (main_v7 : IVec S16x16x512 1) (main_v9 : IVec S8448 1) (main_v11 : IVec S8448 1) (main_v18 : IVec S16x16x512x4096 1) (main_v19 : IVec S16x16x512x1 32) : IVec S16x16x512 1 × IVec S16x16x512 1 × IVec S8448 1 × IVec S8448 1 × IVec S16x16x512x4096 1 × IVec S16x16x16x256 1 :=
  let main_v20 : IVec S4096 32 := iotaInDim S4096 32 0
  let main_v21 : IVec S1x1x1x4096 32 := broadcastInDim S1x1x1x4096 ![3] bcast_S4096_S1x1x1x4096_3 main_v20
  let main_v22 : IVec S16x16x512x4096 32 := broadcastInDim S16x16x512x4096 ![0, 1, 2, 3] bcast_S16x16x512x1_S16x16x512x4096_0_1_2_3 main_v19
  let main_v23 : IVec S16x16x512x4096 32 := broadcastInDim S16x16x512x4096 ![0, 1, 2, 3] bcast_S1x1x1x4096_S16x16x512x4096_0_1_2_3 main_v21
  let main_v24 : IVec S16x16x512x4096 1 := cmpi .eq main_v22 main_v23
  let main_v25 : IVec S16x16x512x4096 1 := cmpi .eq main_v18 main_v24
  let main_c_3 : IVec S_ 32 := constantI S_ 32 0#32
  let main_v26 : IVec S16x16x16x256 32 := broadcastInDim S16x16x16x256 ![] bcast_S_S16x16x16x256 main_c_3
  let main_v27 : IVec S16x16x16x256 1 := cmpi .slt main_v3 main_v26
  let main_v28 : IVec S16x16x16x1 32 := broadcastInDim S16x16x16x1 ![0, 1, 2] bcast_S16x16x16_S16x16x16x1_0_1_2 main_v1
  let main_v29 : IVec S16x16x16x256 32 := broadcastInDim S16x16x16x256 ![0, 1, 2, 3] bcast_S16x16x16x1_S16x16x16x256_0_1_2_3 main_v28
  let main_v30 : IVec S16x16x16x256 1 := cmpi .sge main_v3 main_v29
  let main_v31 : IVec S16x16x16x1 32 := broadcastInDim S16x16x16x1 ![0, 1, 2] bcast_S16x16x16_S16x16x16x1_0_1_2 main_v2
  let main_v32 : IVec S16x16x16x256 32 := broadcastInDim S16x16x16x256 ![0, 1, 2, 3] bcast_S16x16x16x1_S16x16x16x256_0_1_2_3 main_v31
  let main_v33 : IVec S16x16x16x256 1 := cmpi .slt main_v3 main_v32
  let main_v34 : IVec S16x16x16x256 1 := andi main_v30 main_v33
  let main_v35 : IVec S16x16x16x256 1 := ori main_v27 main_v34
  (main_v5, main_v7, main_v9, main_v11, main_v25, main_v35)

def fn {F : FTy → Type} [FloatOps F] (main_arg0 : FVec F S16x4096x1024 .bf16) (main_arg1 : IVec S16x16x512 32) (main_arg2 : IVec S16x16x4096 32) (main_arg3 : FVec F S16x16x4096 .f32) (main_arg4 : IVec S8448 32) (main_arg5 : FVec F S4x16x1024x1024 .f32) (main_arg6 : FVec F S4x16x1024x1024 .f32) (main_arg7 : FVec F S4x16x1024x1024 .f32) : IVec S16x16x512 1 × IVec S16x16x512 1 × IVec S8448 1 × IVec S8448 1 × IVec S16x16x512x4096 1 × IVec S16x16x16x256 1 :=
  let main_v0 : IVec S16x16x33 32 := shapeCast S16x16x33 main_arg4 shapeCasts_S8448_S16x16x33
  let main_v1 : IVec S16x16x16 32 := (Host.slice S16x16x16 ![0, 0, 0] ![1, 1, 2] · slicesBy_S16x16x33_S16x16x16_0s1_0s1_0s2) main_v0
  let main_v2 : IVec S16x16x16 32 := (Host.slice S16x16x16 ![0, 0, 2] ![1, 1, 2] · slicesBy_S16x16x33_S16x16x16_0s1_0s1_2s2) main_v0
  let main_v3 : IVec S16x16x16x256 32 := shapeCast S16x16x16x256 main_arg2 shapeCasts_S16x16x4096_S16x16x16x256
  let main_c : IVec S_ 32 := constantI S_ 32 0#32
  let main_v4 : IVec S16x16x512 32 := broadcastInDim S16x16x512 ![] bcast_S_S16x16x512 main_c
  let main_v5 : IVec S16x16x512 1 := cmpi .sge main_arg1 main_v4
  let main_c_0 : IVec S_ 32 := constantI S_ 32 4096#32
  let main_v6 : IVec S16x16x512 32 := broadcastInDim S16x16x512 ![] bcast_S_S16x16x512 main_c_0
  let main_v7 : IVec S16x16x512 1 := cmpi .slt main_arg1 main_v6
  let main_c_1 : IVec S_ 32 := constantI S_ 32 0#32
  let main_v8 : IVec S8448 32 := broadcastInDim S8448 ![] bcast_S_S8448 main_c_1
  let main_v9 : IVec S8448 1 := cmpi .sge main_arg4 main_v8
  let main_c_2 : IVec S_ 32 := constantI S_ 32 512#32
  let main_v10 : IVec S8448 32 := broadcastInDim S8448 ![] bcast_S_S8448 main_c_2
  let main_v11 : IVec S8448 1 := cmpi .sle main_arg4 main_v10
  let main_v12 : IVec S16x16x1x4096 32 := broadcastInDim S16x16x1x4096 ![0, 1, 3] bcast_S16x16x4096_S16x16x1x4096_0_1_3 main_arg2
  let main_v13 : IVec S512 32 := iotaInDim S512 32 0
  let main_v14 : IVec S512x1 32 := broadcastInDim S512x1 ![0] bcast_S512_S512x1_0 main_v13
  let main_v15 : IVec S1x1x512x1 32 := broadcastInDim S1x1x512x1 ![2, 3] bcast_S512x1_S1x1x512x1_2_3 main_v14
  let main_v16 : IVec S16x16x512x4096 32 := broadcastInDim S16x16x512x4096 ![0, 1, 2, 3] bcast_S16x16x1x4096_S16x16x512x4096_0_1_2_3 main_v12
  let main_v17 : IVec S16x16x512x4096 32 := broadcastInDim S16x16x512x4096 ![0, 1, 2, 3] bcast_S1x1x512x1_S16x16x512x4096_0_1_2_3 main_v15
  let main_v18 : IVec S16x16x512x4096 1 := cmpi .eq main_v16 main_v17
  let main_v19 : IVec S16x16x512x1 32 := broadcastInDim S16x16x512x1 ![0, 1, 2] bcast_S16x16x512_S16x16x512x1_0_1_2 main_arg1
  fn_part1 (F := F) main_v1 main_v2 main_v3 main_v5 main_v7 main_v9 main_v11 main_v18 main_v19
-- ==== Kernel.lean ====
abbrev S16x4096x8x128 : Shape := ⟨4, ![16, 4096, 8, 128]⟩
abbrev S16x4096x2x128 : Shape := ⟨4, ![16, 4096, 2, 128]⟩
abbrev S16x256x2x128 : Shape := ⟨4, ![16, 256, 2, 128]⟩
abbrev S16x8x4096x128 : Shape := ⟨4, ![16, 8, 4096, 128]⟩
abbrev S16x4096x256 : Shape := ⟨3, ![16, 4096, 256]⟩
abbrev S16x256x256 : Shape := ⟨3, ![16, 256, 256]⟩
abbrev S16x4096x1024 : Shape := ⟨3, ![16, 4096, 1024]⟩
abbrev S1x4x1024x128 : Shape := ⟨4, ![1, 4, 1024, 128]⟩
abbrev S1x4096x128 : Shape := ⟨3, ![1, 4096, 128]⟩
abbrev S1x256x128 : Shape := ⟨3, ![1, 256, 128]⟩
abbrev S1x1024x512 : Shape := ⟨3, ![1, 1024, 512]⟩
abbrev S4352x128 : Shape := ⟨2, ![4352, 128]⟩
abbrev S4352x256 : Shape := ⟨2, ![4352, 256]⟩
abbrev S4096x128 : Shape := ⟨2, ![4096, 128]⟩
abbrev S256x128 : Shape := ⟨2, ![256, 128]⟩
abbrev S4x1024x128 : Shape := ⟨3, ![4, 1024, 128]⟩
abbrev S1024x128 : Shape := ⟨2, ![1024, 128]⟩
abbrev S1024x1 : Shape := ⟨2, ![1024, 1]⟩
abbrev S1024x256 : Shape := ⟨2, ![1024, 256]⟩
abbrev S512x128 : Shape := ⟨2, ![512, 128]⟩
abbrev S512x256 : Shape := ⟨2, ![512, 256]⟩
abbrev S1024x512 : Shape := ⟨2, ![1024, 512]⟩
abbrev S1024 : Shape := ⟨1, ![1024]⟩
abbrev S256x256 : Shape := ⟨2, ![256, 256]⟩
abbrev S1x1024x128 : Shape := ⟨3, ![1, 1024, 128]⟩

abbrev nBuf : Space → Nat
  | .hbm => 15
  | .vmem => 14
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x2x128, .f32⟩
  | .hbm, ⟨2, _⟩ => ⟨S16x4096x2x128, .f32⟩
  | .hbm, ⟨3, _⟩ => ⟨S16x256x2x128, .f32⟩
  | .hbm, ⟨4, _⟩ => ⟨S16x256x2x128, .f32⟩
  | .hbm, ⟨5, _⟩ => ⟨S16x8x4096x128, .f32⟩
  | .hbm, ⟨6, _⟩ => ⟨S16x4096x256, .f32⟩
  | .hbm, ⟨7, _⟩ => ⟨S16x4096x256, .bf16⟩
  | .hbm, ⟨8, _⟩ => ⟨S16x4096x256, .f32⟩
  | .hbm, ⟨9, _⟩ => ⟨S16x4096x256, .bf16⟩
  | .hbm, ⟨10, _⟩ => ⟨S16x256x256, .f32⟩
  | .hbm, ⟨11, _⟩ => ⟨S16x256x256, .bf16⟩
  | .hbm, ⟨12, _⟩ => ⟨S16x256x256, .f32⟩
  | .hbm, ⟨13, _⟩ => ⟨S16x256x256, .bf16⟩
  | .hbm, ⟨14, _⟩ => ⟨S16x4096x1024, .bf16⟩
  | .local _ .vmem, ⟨0, _⟩ => ⟨S1x4x1024x128, .f32⟩
  | .local _ .vmem, ⟨1, _⟩ => ⟨S1x4x1024x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x1024x512, .bf16⟩
  | .local _ .vmem, ⟨11, _⟩ => ⟨S1x1024x512, .bf16⟩
  | .local _ .vmem, ⟨12, _⟩ => ⟨S4352x128, .bf16⟩
  | .local _ .vmem, ⟨13, _⟩ => ⟨S4352x256, .bf16⟩
  | _, _ => ⟨S16x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "prescale" => some ((((Real.sqrt 128) * (Real.log 2))⁻¹ : ℝ) : EReal)
  | _ => none
-- ==== ReferenceIdeal.lean ====
abbrev S16x4096x8x128 : Shape := ⟨4, ![16, 4096, 8, 128]⟩
abbrev S16x4096x2x128 : Shape := ⟨4, ![16, 4096, 2, 128]⟩
abbrev S16x256x2x128 : Shape := ⟨4, ![16, 256, 2, 128]⟩
abbrev S16x4352x2x128 : Shape := ⟨4, ![16, 4352, 2, 128]⟩
abbrev S16x4096x2x4x128 : Shape := ⟨5, ![16, 4096, 2, 4, 128]⟩
abbrev S16x2x4352x4096x4 : Shape := ⟨5, ![16, 2, 4352, 4096, 4]⟩
abbrev S16x2x4x4096x4352 : Shape := ⟨5, ![16, 2, 4, 4096, 4352]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x128x4x4096 : Shape := ⟨5, ![16, 2, 128, 4, 4096]⟩
abbrev S16x4096x1024 : Shape := ⟨3, ![16, 4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x2x128, .f32⟩
  | .hbm, ⟨2, _⟩ => ⟨S16x4096x2x128, .f32⟩
  | .hbm, ⟨3, _⟩ => ⟨S16x256x2x128, .f32⟩
  | .hbm, ⟨4, _⟩ => ⟨S16x256x2x128, .f32⟩
  | .hbm, ⟨5, _⟩ => ⟨S16x4352x2x128, .f32⟩
  | .hbm, ⟨6, _⟩ => ⟨S16x4352x2x128, .f32⟩
  | .hbm, ⟨7, _⟩ => ⟨S16x4096x2x4x128, .f32⟩
  | .hbm, ⟨8, _⟩ => ⟨S16x2x4352x4096x4, .f32⟩
  | .hbm, ⟨9, _⟩ => ⟨S16x2x4x4096x4352, .f32⟩
  | .hbm, ⟨10, _⟩ => ⟨S_, .f32⟩
  | .hbm, ⟨11, _⟩ => ⟨S_, .f32⟩
  | .hbm, ⟨12, _⟩ => ⟨S16x2x4x4096x4352, .f32⟩
  | .hbm, ⟨13, _⟩ => ⟨S16x2x4x4096x4352, .f32⟩
  | .hbm, ⟨14, _⟩ => ⟨S_, .f32⟩
  | .hbm, ⟨15, _⟩ => ⟨S16x2x4x4096, .f32⟩
  | .hbm, ⟨16, _⟩ => ⟨S_, .f32⟩
  | .hbm, ⟨17, _⟩ => ⟨S16x2x4x4096, .f32⟩
  | .hbm, ⟨18, _⟩ => ⟨S16x2x4x4096, .f32⟩
  | .hbm, ⟨19, _⟩ => ⟨S16x2x4x4096x1, .f32⟩
  | .hbm, ⟨20, _⟩ => ⟨S16x2x4x4096x4352, .f32⟩
  | .hbm, ⟨21, _⟩ => ⟨S16x2x4x4096x4352, .f32⟩
  | .hbm, ⟨22, _⟩ => ⟨S16x2x4x4096x4352, .f32⟩
  | .hbm, ⟨23, _⟩ => ⟨S_, .f32⟩
  | .hbm, ⟨24, _⟩ => ⟨S16x2x4x4096, .f32⟩
  | .hbm, ⟨25, _⟩ => ⟨S16x2x4x4096x1, .f32⟩
  | .hbm, ⟨26, _⟩ => ⟨S16x2x4x4096x4352, .f32⟩
  | .hbm, ⟨27, _⟩ => ⟨S16x2x4x4096x4352, .f32⟩
  | .hbm, ⟨28, _⟩ => ⟨S16x2x128x4x4096, .f32⟩
  | .hbm, ⟨29, _⟩ => ⟨S16x4096x2x4x128, .f32⟩
  | .hbm, ⟨30, _⟩ => ⟨S16x4096x1024, .f32⟩
  | .hbm, ⟨31, _⟩ => ⟨S16x4096x1024, .bf16⟩
  | _, _ => ⟨S16x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x1x1024 : Shape := ⟨3, ![16, 1, 1024]⟩
abbrev S1024 : Shape := ⟨1, ![1024]⟩
abbrev S4x1024x7168 : Shape := ⟨3, ![4, 1024, 7168]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S24x1x1024 : Shape := ⟨3, ![24, 1, 1024]⟩
abbrev S1x1024 : Shape := ⟨2, ![1, 1024]⟩
abbrev S1x128 : Shape := ⟨2, ![1, 128]⟩
abbrev S16x8x4096x128 : Shape := ⟨4, ![16, 8, 4096, 128]⟩
abbrev S16x4096x256 : Shape := ⟨3, ![16, 4096, 256]⟩
abbrev S16x4096x1536 : Shape := ⟨3, ![16, 4096, 1536]⟩
abbrev S16x4096x512 : Shape := ⟨3, ![16, 4096, 512]⟩
abbrev S16x4096x3072 : Shape := ⟨3, ![16, 4096, 3072]⟩
abbrev S1x512x1024 : Shape := ⟨3, ![1, 512, 1024]⟩
abbrev S1x1x1024 : Shape := ⟨3, ![1, 1, 1024]⟩
abbrev S1x1024x7168 : Shape := ⟨3, ![1, 1024, 7168]⟩
abbrev S512x128 : Shape := ⟨2, ![512, 128]⟩
abbrev S1x8x512x128 : Shape := ⟨4, ![1, 8, 512, 128]⟩
abbrev S1x512x256 : Shape := ⟨3, ![1, 512, 256]⟩
abbrev S1x512x1536 : Shape := ⟨3, ![1, 512, 1536]⟩
abbrev S1x512x512 : Shape := ⟨3, ![1, 512, 512]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1x512x128 : Shape := ⟨4, ![1, 1, 512, 128]⟩
abbrev S1x1024x512 : Shape := ⟨3, ![1, 1024, 512]⟩
abbrev S1024x512 : Shape := ⟨2, ![1024, 512]⟩
abbrev S512x512 : Shape := ⟨2, ![512, 512]⟩
abbrev S1x512x128 : Shape := ⟨3, ![1, 512, 128]⟩
abbrev S512x256 : Shape := ⟨2, ![512, 256]⟩

abbrev nBuf : Space → Nat
  | .hbm => 55
  | .vmem => 28
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S1024, .f32⟩
  | .hbm, ⟨4, _⟩ => ⟨S4x1024x7168, .f32⟩
  | .hbm, ⟨5, _⟩ => ⟨S128, .f32⟩
  | .hbm, ⟨6, _⟩ => ⟨S128, .f32⟩
  | .hbm, ⟨7, _⟩ => ⟨S64, .f32⟩
  | .hbm, ⟨8, _⟩ => ⟨S64x64, .f32⟩
  | .hbm, ⟨9, _⟩ => ⟨S4096, .f32⟩
  | .hbm, ⟨10, _⟩ => ⟨S64, .f32⟩
  | .hbm, ⟨11, _⟩ => ⟨S1x64, .f32⟩
  | .hbm, ⟨12, _⟩ => ⟨S64x64, .f32⟩
  | .hbm, ⟨13, _⟩ => ⟨S4096, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x128, .f32⟩
  | .hbm, ⟨36, _⟩ => ⟨S4096x64, .f32⟩
  | .hbm, ⟨37, _⟩ => ⟨S4096x128, .f32⟩
  | .hbm, ⟨38, _⟩ => ⟨S_, .i32⟩
  | .hbm, ⟨39, _⟩ => ⟨S_, .f32⟩
  | .hbm, ⟨40, _⟩ => ⟨S24x1x1024, .f32⟩
  | .hbm, ⟨41, _⟩ => ⟨S_, .i32⟩
  | .hbm, ⟨42, _⟩ => ⟨S_, .f32⟩
  | .hbm, ⟨43, _⟩ => ⟨S24x1x1024, .f32⟩
  | .hbm, ⟨44, _⟩ => ⟨S1x1024, .f32⟩
  | .hbm, ⟨45, _⟩ => ⟨S4x1024x7168, .bf16⟩
  | .hbm, ⟨46, _⟩ => ⟨S1x128, .f32⟩
  | .hbm, ⟨47, _⟩ => ⟨S1x128, .f32⟩
  | .hbm, ⟨48, _⟩ => ⟨S16x8x4096x128, .f32⟩
  | .hbm, ⟨49, _⟩ => ⟨S16x4096x256, .bf16⟩
  | .hbm, ⟨50, _⟩ => ⟨S16x4096x256, .bf16⟩
  | .hbm, ⟨51, _⟩ => ⟨S16x4096x1536, .bf16⟩
  | .hbm, ⟨52, _⟩ => ⟨S16x4096x512, .f32⟩
  | .hbm, ⟨53, _⟩ => ⟨S16x4096x512, .bf16⟩
  | .hbm, ⟨54, _⟩ => ⟨S16x4096x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x7168, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x128, .f32⟩
  | .local _ .vmem, ⟨13, _⟩ => ⟨S1x128, .f32⟩
  | .local _ .vmem, ⟨14, _⟩ => ⟨S1x8x512x128, .f32⟩
  | .local _ .vmem, ⟨15, _⟩ => ⟨S1x8x512x128, .f32⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x1536, .bf16⟩
  | .local _ .vmem, ⟨21, _⟩ => ⟨S1x512x1536, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x3072, .bf16⟩
  | .local _ .vmem, ⟨27, _⟩ => ⟨S1x512x3072, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_c_1 : Ref sig .tc := ⟨.hbm, 41, rfl⟩
abbrev main_call1_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev main_v35_4 : Ref sig .tc := ⟨.hbm, 52, rfl⟩
abbrev main_v35_5 : Ref sig .tc := ⟨.hbm, 53, rfl⟩
abbrev main_v35_6 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S16x4096x1024 : Shape := ⟨3, ![16, 4096, 1024]⟩
abbrev S16x1x1024 : Shape := ⟨3, ![16, 1, 1024]⟩
abbrev S1024 : Shape := ⟨1, ![1024]⟩
abbrev S4x1024x7168 : Shape := ⟨3, ![4, 1024, 7168]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S16x4096 : Shape := ⟨2, ![16, 4096]⟩
abbrev S16x4096x1 : Shape := ⟨3, ![16, 4096, 1]⟩
abbrev S1x1x1024 : Shape := ⟨3, ![1, 1, 1024]⟩
abbrev S1x1024x7168 : Shape := ⟨3, ![1, 1024, 7168]⟩
abbrev S1024x7168 : Shape := ⟨2, ![1024, 7168]⟩
abbrev S16x4096x7168 : Shape := ⟨3, ![16, 4096, 7168]⟩
abbrev S16x4096x256 : Shape := ⟨3, ![16, 4096, 256]⟩
abbrev S16x4096x1536 : Shape := ⟨3, ![16, 4096, 1536]⟩
abbrev S16x4096x512 : Shape := ⟨3, ![16, 4096, 512]⟩
abbrev S16x4096x3072 : Shape := ⟨3, ![16, 4096, 3072]⟩
abbrev S16x4096x8x128 : Shape := ⟨4, ![16, 4096, 8, 128]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩
abbrev S16x4096x8x64 : Shape := ⟨4, ![16, 4096, 8, 64]⟩
abbrev S1x4096x1x64 : Shape := ⟨4, ![1, 4096, 1, 64]⟩
abbrev S16x4096x2x128 : Shape := ⟨4, ![16, 4096, 2, 128]⟩
abbrev S16x4096x2 : Shape := ⟨3, ![16, 4096, 2]⟩
abbrev S16x4096x2x1 : Shape := ⟨4, ![16, 4096, 2, 1]⟩
abbrev S16x4096x2x64 : Shape := ⟨4, ![16, 4096, 2, 64]⟩
abbrev S16x8x4096x128 : Shape := ⟨4, ![16, 8, 4096, 128]⟩

abbrev nBuf : Space → Nat
  | .hbm => 156
  | .vmem => 0
  | .smem => 0
  | _ => 0

abbrev hbmTy0_0 (i : Nat) : BufTy := match i % 128 with
  | 0 => ⟨S16x4096x1024, .f32⟩
  | 1 => ⟨S16x1x1024, .f32⟩
  | 2 => ⟨S16x1x1024, .f32⟩
  | 3 => ⟨S1024, .f32⟩
  | 4 => ⟨S4x1024x7168, .f32⟩
  | 5 => ⟨S128, .f32⟩
  | 6 => ⟨S128, .f32⟩
  | 7 => ⟨S64, .f32⟩
  | 8 => ⟨S64x64, .f32⟩
  | 9 => ⟨S4096, .f32⟩
  | 10 => ⟨S64, .f32⟩
  | 11 => ⟨S1x64, .f32⟩
  | 12 => ⟨S64x64, .f32⟩
  | 13 => ⟨S4096, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x1, .f32⟩
  | 28 => ⟨S1x32, .f32⟩
  | 29 => ⟨S4096x32, .f32⟩
  | 30 => ⟨S4096x32, .f32⟩
  | 31 => ⟨S4096x32, .f32⟩
  | 32 => ⟨S4096x64, .f32⟩
  | 33 => ⟨S4096x64, .f32⟩
  | 34 => ⟨S4096x64, .f32⟩
  | 35 => ⟨S16x4096x1024, .f32⟩
  | 36 => ⟨S_, .f32⟩
  | 37 => ⟨S16x4096, .f32⟩
  | 38 => ⟨S16x4096x1, .f32⟩
  | 39 => ⟨S_, .f32⟩
  | 40 => ⟨S16x4096x1, .f32⟩
  | 41 => ⟨S16x4096x1, .f32⟩
  | 42 => ⟨S_, .f32⟩
  | 43 => ⟨S16x4096x1, .f32⟩
  | 44 => ⟨S16x4096x1, .f32⟩
  | 45 => ⟨S16x4096x1, .f32⟩
  | 46 => ⟨S16x4096x1024, .f32⟩
  | 47 => ⟨S16x4096x1024, .f32⟩
  | 48 => ⟨S1x1x1024, .f32⟩
  | 49 => ⟨S16x4096x1024, .f32⟩
  | 50 => ⟨S16x4096x1024, .f32⟩
  | 51 => ⟨S_, .f32⟩
  | 52 => ⟨S16x1x1024, .f32⟩
  | 53 => ⟨S16x1x1024, .f32⟩
  | 54 => ⟨S16x4096x1024, .f32⟩
  | 55 => ⟨S16x4096x1024, .f32⟩
  | 56 => ⟨S16x4096x1024, .f32⟩
  | 57 => ⟨S16x4096x1024, .f32⟩
  | 58 => ⟨S1x1024x7168, .f32⟩
  | 59 => ⟨S1024x7168, .f32⟩
  | 60 => ⟨S16x4096x7168, .f32⟩
  | 61 => ⟨S16x4096x1024, .f32⟩
  | 62 => ⟨S16x4096x256, .f32⟩
  | 63 => ⟨S16x4096x256, .f32⟩
  | 64 => ⟨S16x4096x1536, .f32⟩
  | 65 => ⟨S16x4096x512, .f32⟩
  | 66 => ⟨S16x4096x512, .f32⟩
  | 67 => ⟨S16x4096x3072, .f32⟩
  | 68 => ⟨S16x4096x8x128, .f32⟩
  | 69 => ⟨S16x4096x8x128, .f32⟩
  | 70 => ⟨S_, .f32⟩
  | 71 => ⟨S16x4096x8, .f32⟩
  | 72 => ⟨S16x4096x8x1, .f32⟩
  | 73 => ⟨S_, .f32⟩
  | 74 => ⟨S16x4096x8x1, .f32⟩
  | 75 => ⟨S16x4096x8x1, .f32⟩
  | 76 => ⟨S_, .f32⟩
  | 77 => ⟨S16x4096x8x1, .f32⟩
  | 78 => ⟨S16x4096x8x1, .f32⟩
  | 79 => ⟨S16x4096x8x1, .f32⟩
  | 80 => ⟨S16x4096x8x128, .f32⟩
  | 81 => ⟨S16x4096x8x128, .f32⟩
  | 82 => ⟨S1x1x1x128, .f32⟩
  | 83 => ⟨S16x4096x8x128, .f32⟩
  | 84 => ⟨S16x4096x8x128, .f32⟩
  | 85 => ⟨S16x4096x8x64, .f32⟩
  | 86 => ⟨S16x4096x8x64, .f32⟩
  | 87 => ⟨S1x4096x1x64, .f32⟩
  | 88 => ⟨S1x4096x1x64, .f32⟩
  | 89 => ⟨S16x4096x8x64, .f32⟩
  | 90 => ⟨S16x4096x8x64, .f32⟩
  | 91 => ⟨S16x4096x8x64, .f32⟩
  | 92 => ⟨S16x4096x8x64, .f32⟩
  | 93 => ⟨S16x4096x8x64, .f32⟩
  | 94 => ⟨S16x4096x8x64, .f32⟩
  | 95 => ⟨S16x4096x8x64, .f32⟩
  | 96 => ⟨S16x4096x8x64, .f32⟩
  | 97 => ⟨S16x4096x8x64, .f32⟩
  | 98 => ⟨S16x4096x8x64, .f32⟩
  | 99 => ⟨S16x4096x8x128, .f32⟩
  | 100 => ⟨S16x4096x2x128, .f32⟩
  | 101 => ⟨S16x4096x2x128, .f32⟩
  | 102 => ⟨S_, .f32⟩
  | 103 => ⟨S16x4096x2, .f32⟩
  | 104 => ⟨S16x4096x2x1, .f32⟩
  | 105 => ⟨S_, .f32⟩
  | 106 => ⟨S16x4096x2x1, .f32⟩
  | 107 => ⟨S16x4096x2x1, .f32⟩
  | 108 => ⟨S_, .f32⟩
  | 109 => ⟨S16x4096x2x1, .f32⟩
  | 110 => ⟨S16x4096x2x1, .f32⟩
  | 111 => ⟨S16x4096x2x1, .f32⟩
  | 112 => ⟨S16x4096x2x128, .f32⟩
  | 113 => ⟨S16x4096x2x128, .f32⟩
  | 114 => ⟨S1x1x1x128, .f32⟩
  | 115 => ⟨S16x4096x2x128, .f32⟩
  | 116 => ⟨S16x4096x2x128, .f32⟩
  | 117 => ⟨S16x4096x2x64, .f32⟩
  | 118 => ⟨S16x4096x2x64, .f32⟩
  | 119 => ⟨S1x4096x1x64, .f32⟩
  | 120 => ⟨S1x4096x1x64, .f32⟩
  | 121 => ⟨S16x4096x2x64, .f32⟩
  | 122 => ⟨S16x4096x2x64, .f32⟩
  | 123 => ⟨S16x4096x2x64, .f32⟩
  | 124 => ⟨S16x4096x2x64, .f32⟩
  | 125 => ⟨S16x4096x2x64, .f32⟩
  | 126 => ⟨S16x4096x2x64, .f32⟩
  | 127 => ⟨S16x4096x2x64, .f32⟩
  | _ => ⟨S16x4096x1024, .f32⟩

abbrev hbmTy0_1 (i : Nat) : BufTy := match i % 128 with
  | 0 => ⟨S16x4096x2x64, .f32⟩
  | 1 => ⟨S16x4096x2x64, .f32⟩
  | 2 => ⟨S16x4096x2x64, .f32⟩
  | 3 => ⟨S16x4096x2x128, .f32⟩
  | 4 => ⟨S16x8x4096x128, .f32⟩
  | 5 => ⟨S16x4096x256, .f32⟩
  | 6 => ⟨S16x4096x256, .bf16⟩
  | 7 => ⟨S16x4096x256, .bf16⟩
  | 8 => ⟨S16x4096x1536, .bf16⟩
  | 9 => ⟨S16x4096x512, .f32⟩
  | 10 => ⟨S16x4096x512, .f32⟩
  | 11 => ⟨S_, .f32⟩
  | 12 => ⟨S16x4096x512, .f32⟩
  | 13 => ⟨S16x4096x512, .f32⟩
  | 14 => ⟨S16x4096x512, .f32⟩
  | 15 => ⟨S_, .f32⟩
  | 16 => ⟨S16x4096x512, .f32⟩
  | 17 => ⟨S16x4096x512, .f32⟩
  | 18 => ⟨S16x4096x512, .f32⟩
  | 19 => ⟨S_, .f32⟩
  | 20 => ⟨S16x4096x512, .f32⟩
  | 21 => ⟨S16x4096x512, .f32⟩
  | 22 => ⟨S_, .f32⟩
  | 23 => ⟨S16x4096x512, .f32⟩
  | 24 => ⟨S16x4096x512, .f32⟩
  | 25 => ⟨S16x4096x512, .f32⟩
  | 26 => ⟨S16x4096x512, .bf16⟩
  | 27 => ⟨S16x4096x3072, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_8 : Ref sig .tc := ⟨.hbm, 102, rfl⟩
abbrev main_v86 : Ref sig .tc := ⟨.hbm, 103, rfl⟩
abbrev main_v87 : Ref sig .tc := ⟨.hbm, 104, rfl⟩
abbrev main_cst_9 : Ref sig .tc := ⟨.hbm, 105, rfl⟩
abbrev main_v88 : Ref sig .tc := ⟨.hbm, 106, rfl⟩
abbrev main_v89 : Ref sig .tc := ⟨.hbm, 107, rfl⟩
abbrev main_cst_10 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_11 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_cst_12 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_cst_13 : Ref sig .tc := ⟨.hbm, 147, rfl⟩
abbrev main_v126 : Ref sig .tc := ⟨.hbm, 148, rfl⟩
abbrev main_v127 : Ref sig .tc := ⟨.hbm, 149, rfl⟩
abbrev main_cst_14 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩

abbrev nD : Nat := 1
abbrev τ : Topo := Topo.v7x

variable {F : FTy → Type} [FloatOps F]
-- ==== Kernel3.lean ====
abbrev S16x4096x3072 : Shape := ⟨3, ![16, 4096, 3072]⟩
abbrev S16x4096x1024 : Shape := ⟨3, ![16, 4096, 1024]⟩
abbrev S16x4096x512 : Shape := ⟨3, ![16, 4096, 512]⟩
abbrev S16x1x1024 : Shape := ⟨3, ![16, 1, 1024]⟩
abbrev S1024x1024 : Shape := ⟨2, ![1024, 1024]⟩
abbrev S512x1024 : Shape := ⟨2, ![512, 1024]⟩
abbrev S1024 : Shape := ⟨1, ![1024]⟩
abbrev S1024x16 : Shape := ⟨2, ![1024, 16]⟩
abbrev S_ : Shape := ⟨0, ![]⟩
abbrev S24x1x1024 : Shape := ⟨3, ![24, 1, 1024]⟩
abbrev S1x1024 : Shape := ⟨2, ![1, 1024]⟩
abbrev S16x1024 : Shape := ⟨2, ![16, 1024]⟩
abbrev S16x16x4096 : Shape := ⟨3, ![16, 16, 4096]⟩
abbrev S1x512x1024 : Shape := ⟨3, ![1, 512, 1024]⟩
abbrev S1x512x512 : Shape := ⟨3, ![1, 512, 512]⟩
abbrev S1x512x3072 : Shape := ⟨3, ![1, 512, 3072]⟩
abbrev S1x1x1024 : Shape := ⟨3, ![1, 1, 1024]⟩
abbrev S1x16x512 : Shape := ⟨3, ![1, 16, 512]⟩
abbrev S512x512 : Shape := ⟨2, ![512, 512]⟩
abbrev S512 : Shape := ⟨1, ![512]⟩
abbrev S512x1 : Shape := ⟨2, ![512, 1]⟩
abbrev S16x512 : Shape := ⟨2, ![16, 512]⟩

abbrev nBuf : Space → Nat
  | .hbm => 37
  | .vmem => 28
  | .smem => 0
  | _ => 0

abbrev bufTy : (tb : Table) → Fin (tcTables nBuf tb) → BufTy
  | .hbm, ⟨0, _⟩ => ⟨S16x4096x3072, .f32⟩
  | .hbm, ⟨1, _⟩ => ⟨S16x4096x1024, .f32⟩
  | .hbm, ⟨2, _⟩ => ⟨S16x4096x512, .f32⟩
  | .hbm, ⟨3, _⟩ => ⟨S16x4096x512, .f32⟩
  | .hbm, ⟨4, _⟩ => ⟨S16x4096x1024, .f32⟩
  | .hbm, ⟨5, _⟩ => ⟨S16x1x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S16x1x1024, .f32⟩
  | .hbm, ⟨12, _⟩ => ⟨S16x1x1024, .f32⟩
  | .hbm, ⟨13, _⟩ => ⟨S1024x16, .f32⟩
  | .hbm, ⟨14, _⟩ => ⟨S16x4096x1024, .bf16⟩
  | .hbm, ⟨15, _⟩ => ⟨S16x4096x512, .bf16⟩
  | .hbm, ⟨16, _⟩ => ⟨S16x4096x512, .bf16⟩
  | .hbm, ⟨17, _⟩ => ⟨S16x4096x3072, .bf16⟩
  | .hbm, ⟨18, _⟩ => ⟨S_, .i32⟩
  | .hbm, ⟨19, _⟩ => ⟨S_, .f32⟩
  | .hbm, ⟨20, _⟩ => ⟨S24x1x1024, .f32⟩
  | .hbm, ⟨21, _⟩ => ⟨S1024x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1x1024, .f32⟩
  | .hbm, ⟨26, _⟩ => ⟨S_, .i32⟩
  | .hbm, ⟨27, _⟩ => ⟨S_, .f32⟩
  | .hbm, ⟨28, _⟩ => ⟨S24x1x1024, .f32⟩
  | .hbm, ⟨29, _⟩ => ⟨S_, .i32⟩
  | .hbm, ⟨30, _⟩ => ⟨S_, .f32⟩
  | .hbm, ⟨31, _⟩ => ⟨S24x1x1024, .f32⟩
  | .hbm, ⟨32, _⟩ => ⟨S16x1024, .f32⟩
  | .hbm, ⟨33, _⟩ => ⟨S16x1024, .bf16⟩
  | .hbm, ⟨34, _⟩ => ⟨S16x4096x1024, .f32⟩
  | .hbm, ⟨35, _⟩ => ⟨S16x4096x1024, .bf16⟩
  | .hbm, ⟨36, _⟩ => ⟨S16x16x4096, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x3072, .bf16⟩
  | .local _ .vmem, ⟨7, _⟩ => ⟨S1x512x3072, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S16x1024, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x1024, .bf16⟩
  | .local _ .vmem, ⟨25, _⟩ => ⟨S1x512x1024, .bf16⟩
  | .local _ .vmem, ⟨26, _⟩ => ⟨S1x16x512, .f32⟩
  | .local _ .vmem, ⟨27, _⟩ => ⟨S1x16x512, .f32⟩
  | _, _ => ⟨S16x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_call1_v0 : Ref sig .tc := ⟨.hbm, 27, rfl⟩
abbrev main_v10 : Ref sig .tc := ⟨.hbm, 28, rfl⟩
abbrev main_c_1 : Ref sig .tc := ⟨.hbm, 29, rfl⟩
abbrev main_call2_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v14_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S16x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S16x4096x3072 : Shape := ⟨3, ![16, 4096, 3072]⟩
abbrev S16x4096x1024 : Shape := ⟨3, ![16, 4096, 1024]⟩
abbrev S16x4096x512 : Shape := ⟨3, ![16, 4096, 512]⟩
abbrev S16x1x1024 : Shape := ⟨3, ![16, 1, 1024]⟩
abbrev S1024x1024 : Shape := ⟨2, ![1024, 1024]⟩
abbrev S512x1024 : Shape := ⟨2, ![512, 1024]⟩
abbrev S1024 : Shape := ⟨1, ![1024]⟩
abbrev S1024x16 : Shape := ⟨2, ![1024, 16]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x16 : Shape := ⟨3, ![16, 4096, 16]⟩
abbrev S16x16x4096 : Shape := ⟨3, ![16, 16, 4096]⟩

abbrev nBuf : Space → Nat
  | .hbm => 63
  | .vmem => 0
  | .smem => 0
  | _ => 0

abbrev bufTy : (tb : Table) → Fin (tcTables nBuf tb) → BufTy
  | .hbm, ⟨0, _⟩ => ⟨S16x4096x3072, .f32⟩
  | .hbm, ⟨1, _⟩ => ⟨S16x4096x1024, .f32⟩
  | .hbm, ⟨2, _⟩ => ⟨S16x4096x512, .f32⟩
  | .hbm, ⟨3, _⟩ => ⟨S16x4096x512, .f32⟩
  | .hbm, ⟨4, _⟩ => ⟨S16x4096x1024, .f32⟩
  | .hbm, ⟨5, _⟩ => ⟨S16x1x1024, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S16x1x1024, .f32⟩
  | .hbm, ⟨12, _⟩ => ⟨S16x1x1024, .f32⟩
  | .hbm, ⟨13, _⟩ => ⟨S1024x16, .f32⟩
  | .hbm, ⟨14, _⟩ => ⟨S16x4096x3072, .f32⟩
  | .hbm, ⟨15, _⟩ => ⟨S16x4096x3072, .f32⟩
  | .hbm, ⟨16, _⟩ => ⟨S_, .f32⟩
  | .hbm, ⟨17, _⟩ => ⟨S16x4096x3072, .f32⟩
  | .hbm, ⟨18, _⟩ => ⟨S16x4096x3072, .f32⟩
  | .hbm, ⟨19, _⟩ => ⟨S_, .f32⟩
  | .hbm, ⟨20, _⟩ => ⟨S16x4096x3072, .f32⟩
  | .hbm, ⟨21, _⟩ => ⟨S16x4096x3072, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S16x4096x1024, .f32⟩
  | .hbm, ⟨26, _⟩ => ⟨S16x4096x1024, .f32⟩
  | .hbm, ⟨27, _⟩ => ⟨S16x4096x1024, .f32⟩
  | .hbm, ⟨28, _⟩ => ⟨S16x4096x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S_, .f32⟩
  | .hbm, ⟨45, _⟩ => ⟨S16x4096x1, .f32⟩
  | .hbm, ⟨46, _⟩ => ⟨S16x4096x1, .f32⟩
  | .hbm, ⟨47, _⟩ => ⟨S16x4096x1, .f32⟩
  | .hbm, ⟨48, _⟩ => ⟨S16x4096x1024, .f32⟩
  | .hbm, ⟨49, _⟩ => ⟨S16x4096x1024, .f32⟩
  | .hbm, ⟨50, _⟩ => ⟨S1x1x1024, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x1x1024, .f32⟩
  | .hbm, ⟨55, _⟩ => ⟨S16x1x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .bf16⟩
  | .hbm, ⟨61, _⟩ => ⟨S16x4096x16, .f32⟩
  | .hbm, ⟨62, _⟩ => ⟨S16x16x4096, .f32⟩
  | _, _ => ⟨S16x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel4.lean ====
abbrev S16x4096x1024 : Shape := ⟨3, ![16, 4096, 1024]⟩
abbrev S16x16x512 : Shape := ⟨3, ![16, 16, 512]⟩
abbrev S16x16x4096 : Shape := ⟨3, ![16, 16, 4096]⟩
abbrev S8448 : Shape := ⟨1, ![8448]⟩
abbrev S4x16x1024x1024 : Shape := ⟨4, ![4, 16, 1024, 1024]⟩
abbrev S16x16x16x256 : Shape := ⟨4, ![16, 16, 16, 256]⟩
abbrev S16x16x512x1024 : Shape := ⟨4, ![16, 16, 512, 1024]⟩
abbrev S1x4096x1024 : Shape := ⟨3, ![1, 4096, 1024]⟩
abbrev S1x1x16x256 : Shape := ⟨4, ![1, 1, 16, 256]⟩
abbrev S1x1x1024x1024 : Shape := ⟨4, ![1, 1, 1024, 1024]⟩
abbrev S1x1x512x1024 : Shape := ⟨4, ![1, 1, 512, 1024]⟩
abbrev S512x1024 : Shape := ⟨2, ![512, 1024]⟩
abbrev S512x1 : Shape := ⟨2, ![512, 1]⟩
abbrev S128x256 : Shape := ⟨2, ![128, 256]⟩
abbrev S1 : Shape := ⟨1, ![1]⟩
abbrev S1x1x1x256 : Shape := ⟨4, ![1, 1, 1, 256]⟩
abbrev S1x256 : Shape := ⟨2, ![1, 256]⟩
abbrev S128x1024 : Shape := ⟨2, ![128, 1024]⟩
abbrev S1x256x1024 : Shape := ⟨3, ![1, 256, 1024]⟩
abbrev S256x1024 : Shape := ⟨2, ![256, 1024]⟩
abbrev S128x1 : Shape := ⟨2, ![128, 1]⟩
abbrev S128 : Shape := ⟨1, ![128]⟩
abbrev S1024x1024 : Shape := ⟨2, ![1024, 1024]⟩

abbrev nBuf : Space → Nat
  | .hbm => 13
  | .vmem => 16
  | .smem => 1
  | _ => 0

abbrev bufTy : (tb : Table) → Fin (tcTables nBuf tb) → BufTy
  | .hbm, ⟨0, _⟩ => ⟨S16x4096x1024, .bf16⟩
  | .hbm, ⟨1, _⟩ => ⟨S16x16x512, .i32⟩
  | .hbm, ⟨2, _⟩ => ⟨S16x16x4096, .i32⟩
  | .hbm, ⟨3, _⟩ => ⟨S16x16x4096, .f32⟩
  | .hbm, ⟨4, _⟩ => ⟨S4x16x1024x1024, .f32⟩
  | .hbm, ⟨5, _⟩ => ⟨S4x16x1024x1024, .f32⟩
  | .hbm, ⟨6, _⟩ => ⟨S4x16x1024x1024, .f32⟩
  | .hbm, ⟨7, _⟩ => ⟨S4x16x1024x1024, .bf16⟩
  | .hbm, ⟨8, _⟩ => ⟨S4x16x1024x1024, .bf16⟩
  | .hbm, ⟨9, _⟩ => ⟨S4x16x1024x1024, .bf16⟩
  | .hbm, ⟨10, _⟩ => ⟨S16x16x16x256, .i32⟩
  | .hbm, ⟨11, _⟩ => ⟨S16x16x16x256, .f32⟩
  | .hbm, ⟨12, _⟩ => ⟨S16x16x512x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x1x16x256, .i32⟩
  | .local _ .vmem, ⟨3, _⟩ => ⟨S1x1x16x256, .i32⟩
  | .local _ .vmem, ⟨4, _⟩ => ⟨S1x1x16x256, .f32⟩
  | .local _ .vmem, ⟨5, _⟩ => ⟨S1x1x16x256, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S512x1024, .f32⟩
  | .local _ .vmem, ⟨15, _⟩ => ⟨S512x1, .f32⟩
  | .local _ .smem, ⟨0, _⟩ => ⟨S8448, .i32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c0_i32 : BitVec 32 := 0#32
  let v12 : BitVec 32 := Scalar.addi v2 c0_i32
  let v13 : Index := Scalar.indexCast v12
  ![v13.toNat]
def k0_mult1 (v14 : BitVec 32) : BitVec 32 :=
  let c_m8_i32 : BitVec 32 := 4294967288#32
  let v15 : BitVec 32 := Scalar.andi v14 c_m8_i32
  let c384_i32 : BitVec 32 := 384#32
  let v16 : BitVec 32 := Scalar.minsi v15 c384_i32
  v16

def k0_off2 (v14 : BitVec 32) : Fin 2 → Nat :=
  let c_m8_i32 : BitVec 32 := 4294967288#32
  let v15 : BitVec 32 := Scalar.andi v14 c_m8_i32
  let c384_i32 : BitVec 32 := 384#32
  let v16 : BitVec 32 := Scalar.minsi v15 c384_i32
  let v17 : BitVec 32 := v16
  let v26 : Index := Scalar.indexCast v17
  let c0_12 : Index := 0#32
  ![v26.toNat, 0]
def k0_off3 (v14 : BitVec 32) : Fin 2 → Nat :=
  let c_m8_i32 : BitVec 32 := 4294967288#32
  let v15 : BitVec 32 := Scalar.andi v14 c_m8_i32
  let c384_i32 : BitVec 32 := 384#32
  let v16 : BitVec 32 := Scalar.minsi v15 c384_i32
  let v17 : BitVec 32 := v16
  let v40 : Index := Scalar.indexCast v17
  let c0_20 : Index := 0#32
  ![v40.toNat, 0]

def k0_chk1 (v14 : BitVec 32) : Prop :=
  (8 ∣ (k0_mult1 v14).toNat) ∧
  (∀ a, (k0_off2 v14) a + S128x1024.size a ≤ S512x1024.size a) ∧
  (∀ a, (k0_off3 v14) a + S128x1.size a ≤ S512x1.size a)
theorem k0_mult1_dvd : ∀ (v14 : BitVec 32) (k0_hw1 : k0_chk1 v14), 8 ∣ (k0_mult1 v14).toNat := fun v14 k0_hw1 => k0_hw1.1
theorem k0_off2_inb : ∀ (v14 : BitVec 32) (k0_hw1 : k0_chk1 v14), ∀ a, (k0_off2 v14) a + S128x1024.size a ≤ S512x1024.size a := fun v14 k0_hw1 => k0_hw1.2.1
theorem k0_off3_inb : ∀ (v14 : BitVec 32) (k0_hw1 : k0_chk1 v14), ∀ a, (k0_off3 v14) a + S128x1.size a ≤ S512x1.size a := fun v14 k0_hw1 => k0_hw1.2.2

def k0_off4 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c2_i32 : BitVec 32 := 2#32
  let v53 : BitVec 32 := Scalar.addi v2 c2_i32
  let v54 : Index := Scalar.indexCast v53
  ![v54.toNat]
def k0_mult2 (v55 : BitVec 32) : BitVec 32 :=
  let c_m8_i32_24 : BitVec 32 := 4294967288#32
  let v56 : BitVec 32 := Scalar.andi v55 c_m8_i32_24
  let c384_i32_25 : BitVec 32 := 384#32
  let v57 : BitVec 32 := Scalar.minsi v56 c384_i32_25
  v57

def k0_off5 (v55 : BitVec 32) : Fin 2 → Nat :=
  let c_m8_i32_24 : BitVec 32 := 4294967288#32
  let v56 : BitVec 32 := Scalar.andi v55 c_m8_i32_24
  let c384_i32_25 : BitVec 32 := 384#32
  let v57 : BitVec 32 := Scalar.minsi v56 c384_i32_25
  let v58 : BitVec 32 := v57
  let v67 : Index := Scalar.indexCast v58
  let c0_33 : Index := 0#32
  ![v67.toNat, 0]
def k0_off6 (v55 : BitVec 32) : Fin 2 → Nat :=
  let c_m8_i32_24 : BitVec 32 := 4294967288#32
  let v56 : BitVec 32 := Scalar.andi v55 c_m8_i32_24
  let c384_i32_25 : BitVec 32 := 384#32
  let v57 : BitVec 32 := Scalar.minsi v56 c384_i32_25
  let v58 : BitVec 32 := v57
  let v81 : Index := Scalar.indexCast v58
  let c0_40 : Index := 0#32
  ![v81.toNat, 0]

def k0_chk2 (v55 : BitVec 32) : Prop :=
  (8 ∣ (k0_mult2 v55).toNat) ∧
  (∀ a, (k0_off5 v55) a + S128x1024.size a ≤ S512x1024.size a) ∧
  (∀ a, (k0_off6 v55) a + S128x1.size a ≤ S512x1.size a)
theorem k0_mult2_dvd : ∀ (v55 : BitVec 32) (k0_hw2 : k0_chk2 v55), 8 ∣ (k0_mult2 v55).toNat := fun v55 k0_hw2 => k0_hw2.1
theorem k0_off5_inb : ∀ (v55 : BitVec 32) (k0_hw2 : k0_chk2 v55), ∀ a, (k0_off5 v55) a + S128x1024.size a ≤ S512x1024.size a := fun v55 k0_hw2 => k0_hw2.2.1
theorem k0_off6_inb : ∀ (v55 : BitVec 32) (k0_hw2 : k0_chk2 v55), ∀ a, (k0_off6 v55) a + S128x1.size a ≤ S512x1.size a := fun v55 k0_hw2 => k0_hw2.2.2

def k0_off7 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c4_i32 : BitVec 32 := 4#32
  let v94 : BitVec 32 := Scalar.addi v2 c4_i32
  let v95 : Index := Scalar.indexCast v94
  ![v95.toNat]
def k0_mult3 (v96 : BitVec 32) : BitVec 32 :=
  let c_m8_i32_44 : BitVec 32 := 4294967288#32
  let v97 : BitVec 32 := Scalar.andi v96 c_m8_i32_44
  let c384_i32_45 : BitVec 32 := 384#32
  let v98 : BitVec 32 := Scalar.minsi v97 c384_i32_45
  v98

def k0_off8 (v96 : BitVec 32) : Fin 2 → Nat :=
  let c_m8_i32_44 : BitVec 32 := 4294967288#32
  let v97 : BitVec 32 := Scalar.andi v96 c_m8_i32_44
  let c384_i32_45 : BitVec 32 := 384#32
  let v98 : BitVec 32 := Scalar.minsi v97 c384_i32_45
  let v99 : BitVec 32 := v98
  let v108 : Index := Scalar.indexCast v99
  let c0_53 : Index := 0#32
  ![v108.toNat, 0]
def k0_off9 (v96 : BitVec 32) : Fin 2 → Nat :=
  let c_m8_i32_44 : BitVec 32 := 4294967288#32
  let v97 : BitVec 32 := Scalar.andi v96 c_m8_i32_44
  let c384_i32_45 : BitVec 32 := 384#32
  let v98 : BitVec 32 := Scalar.minsi v97 c384_i32_45
  let v99 : BitVec 32 := v98
  let v122 : Index := Scalar.indexCast v99
  let c0_60 : Index := 0#32
  ![v122.toNat, 0]

def k0_chk3 (v96 : BitVec 32) : Prop :=
  (8 ∣ (k0_mult3 v96).toNat) ∧
  (∀ a, (k0_off8 v96) a + S128x1024.size a ≤ S512x1024.size a) ∧
  (∀ a, (k0_off9 v96) a + S128x1.size a ≤ S512x1.size a)
theorem k0_mult3_dvd : ∀ (v96 : BitVec 32) (k0_hw3 : k0_chk3 v96), 8 ∣ (k0_mult3 v96).toNat := fun v96 k0_hw3 => k0_hw3.1
theorem k0_off8_inb : ∀ (v96 : BitVec 32) (k0_hw3 : k0_chk3 v96), ∀ a, (k0_off8 v96) a + S128x1024.size a ≤ S512x1024.size a := fun v96 k0_hw3 => k0_hw3.2.1
theorem k0_off9_inb : ∀ (v96 : BitVec 32) (k0_hw3 : k0_chk3 v96), ∀ a, (k0_off9 v96) a + S128x1.size a ≤ S512x1.size a := fun v96 k0_hw3 => k0_hw3.2.2

def k0_off10 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c6_i32 : BitVec 32 := 6#32
  let v135 : BitVec 32 := Scalar.addi v2 c6_i32
  let v136 : Index := Scalar.indexCast v135
  ![v136.toNat]
def k0_mult4 (v137 : BitVec 32) : BitVec 32 :=
  let c_m8_i32_64 : BitVec 32 := 4294967288#32
  let v138 : BitVec 32 := Scalar.andi v137 c_m8_i32_64
  let c384_i32_65 : BitVec 32 := 384#32
  let v139 : BitVec 32 := Scalar.minsi v138 c384_i32_65
  v139

def k0_off11 (v137 : BitVec 32) : Fin 2 → Nat :=
  let c_m8_i32_64 : BitVec 32 := 4294967288#32
  let v138 : BitVec 32 := Scalar.andi v137 c_m8_i32_64
  let c384_i32_65 : BitVec 32 := 384#32
  let v139 : BitVec 32 := Scalar.minsi v138 c384_i32_65
  let v140 : BitVec 32 := v139
  let v149 : Index := Scalar.indexCast v140
  let c0_73 : Index := 0#32
  ![v149.toNat, 0]
def k0_off12 (v137 : BitVec 32) : Fin 2 → Nat :=
  let c_m8_i32_64 : BitVec 32 := 4294967288#32
  let v138 : BitVec 32 := Scalar.andi v137 c_m8_i32_64
  let c384_i32_65 : BitVec 32 := 384#32
  let v139 : BitVec 32 := Scalar.minsi v138 c384_i32_65
  let v140 : BitVec 32 := v139
  let v163 : Index := Scalar.indexCast v140
  let c0_80 : Index := 0#32
  ![v163.toNat, 0]

def k0_chk4 (v137 : BitVec 32) : Prop :=
  (8 ∣ (k0_mult4 v137).toNat) ∧
  (∀ a, (k0_off11 v137) a + S128x1024.size a ≤ S512x1024.size a) ∧
  (∀ a, (k0_off12 v137) a + S128x1.size a ≤ S512x1.size a)
theorem k0_mult4_dvd : ∀ (v137 : BitVec 32) (k0_hw4 : k0_chk4 v137), 8 ∣ (k0_mult4 v137).toNat := fun v137 k0_hw4 => k0_hw4.1
theorem k0_off11_inb : ∀ (v137 : BitVec 32) (k0_hw4 : k0_chk4 v137), ∀ a, (k0_off11 v137) a + S128x1024.size a ≤ S512x1024.size a := fun v137 k0_hw4 => k0_hw4.2.1
theorem k0_off12_inb : ∀ (v137 : BitVec 32) (k0_hw4 : k0_chk4 v137), ∀ a, (k0_off12 v137) a + S128x1.size a ≤ S512x1.size a := fun v137 k0_hw4 => k0_hw4.2.2

def k0_off13 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c8_i32 : BitVec 32 := 8#32
  let v176 : BitVec 32 := Scalar.addi v2 c8_i32
  let v177 : Index := Scalar.indexCast v176
  ![v177.toNat]
def k0_mult5 (v178 : BitVec 32) : BitVec 32 :=
  let c_m8_i32_84 : BitVec 32 := 4294967288#32
  let v179 : BitVec 32 := Scalar.andi v178 c_m8_i32_84
  let c384_i32_85 : BitVec 32 := 384#32
  let v180 : BitVec 32 := Scalar.minsi v179 c384_i32_85
  v180

def k0_off14 (v178 : BitVec 32) : Fin 2 → Nat :=
  let c_m8_i32_84 : BitVec 32 := 4294967288#32
  let v179 : BitVec 32 := Scalar.andi v178 c_m8_i32_84
  let c384_i32_85 : BitVec 32 := 384#32
  let v180 : BitVec 32 := Scalar.minsi v179 c384_i32_85
  let v181 : BitVec 32 := v180
  let v190 : Index := Scalar.indexCast v181
  let c0_93 : Index := 0#32
  ![v190.toNat, 0]
def k0_off15 (v178 : BitVec 32) : Fin 2 → Nat :=
  let c_m8_i32_84 : BitVec 32 := 4294967288#32
  let v179 : BitVec 32 := Scalar.andi v178 c_m8_i32_84
  let c384_i32_85 : BitVec 32 := 384#32
  let v180 : BitVec 32 := Scalar.minsi v179 c384_i32_85
  let v181 : BitVec 32 := v180
  let v204 : Index := Scalar.indexCast v181
  let c0_100 : Index := 0#32
  ![v204.toNat, 0]

def k0_chk5 (v178 : BitVec 32) : Prop :=
  (8 ∣ (k0_mult5 v178).toNat) ∧
  (∀ a, (k0_off14 v178) a + S128x1024.size a ≤ S512x1024.size a) ∧
  (∀ a, (k0_off15 v178) a + S128x1.size a ≤ S512x1.size a)
theorem k0_mult5_dvd : ∀ (v178 : BitVec 32) (k0_hw5 : k0_chk5 v178), 8 ∣ (k0_mult5 v178).toNat := fun v178 k0_hw5 => k0_hw5.1
theorem k0_off14_inb : ∀ (v178 : BitVec 32) (k0_hw5 : k0_chk5 v178), ∀ a, (k0_off14 v178) a + S128x1024.size a ≤ S512x1024.size a := fun v178 k0_hw5 => k0_hw5.2.1
theorem k0_off15_inb : ∀ (v178 : BitVec 32) (k0_hw5 : k0_chk5 v178), ∀ a, (k0_off15 v178) a + S128x1.size a ≤ S512x1.size a := fun v178 k0_hw5 => k0_hw5.2.2

def k0_off16 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c10_i32 : BitVec 32 := 10#32
  let v217 : BitVec 32 := Scalar.addi v2 c10_i32
  let v218 : Index := Scalar.indexCast v217
  ![v218.toNat]
def k0_mult6 (v219 : BitVec 32) : BitVec 32 :=
  let c_m8_i32_104 : BitVec 32 := 4294967288#32
  let v220 : BitVec 32 := Scalar.andi v219 c_m8_i32_104
  let c384_i32_105 : BitVec 32 := 384#32
  let v221 : BitVec 32 := Scalar.minsi v220 c384_i32_105
  v221

def k0_off17 (v219 : BitVec 32) : Fin 2 → Nat :=
  let c_m8_i32_104 : BitVec 32 := 4294967288#32
  let v220 : BitVec 32 := Scalar.andi v219 c_m8_i32_104
  let c384_i32_105 : BitVec 32 := 384#32
  let v221 : BitVec 32 := Scalar.minsi v220 c384_i32_105
  let v222 : BitVec 32 := v221
  let v231 : Index := Scalar.indexCast v222
  let c0_113 : Index := 0#32
  ![v231.toNat, 0]
def k0_off18 (v219 : BitVec 32) : Fin 2 → Nat :=
  let c_m8_i32_104 : BitVec 32 := 4294967288#32
  let v220 : BitVec 32 := Scalar.andi v219 c_m8_i32_104
  let c384_i32_105 : BitVec 32 := 384#32
  let v221 : BitVec 32 := Scalar.minsi v220 c384_i32_105
  let v222 : BitVec 32 := v221
  let v245 : Index := Scalar.indexCast v222
  let c0_120 : Index := 0#32
  ![v245.toNat, 0]

def k0_chk6 (v219 : BitVec 32) : Prop :=
  (8 ∣ (k0_mult6 v219).toNat) ∧
  (∀ a, (k0_off17 v219) a + S128x1024.size a ≤ S512x1024.size a) ∧
  (∀ a, (k0_off18 v219) a + S128x1.size a ≤ S512x1.size a)
theorem k0_mult6_dvd : ∀ (v219 : BitVec 32) (k0_hw6 : k0_chk6 v219), 8 ∣ (k0_mult6 v219).toNat := fun v219 k0_hw6 => k0_hw6.1
theorem k0_off17_inb : ∀ (v219 : BitVec 32) (k0_hw6 : k0_chk6 v219), ∀ a, (k0_off17 v219) a + S128x1024.size a ≤ S512x1024.size a := fun v219 k0_hw6 => k0_hw6.2.1
theorem k0_off18_inb : ∀ (v219 : BitVec 32) (k0_hw6 : k0_chk6 v219), ∀ a, (k0_off18 v219) a + S128x1.size a ≤ S512x1.size a := fun v219 k0_hw6 => k0_hw6.2.2

def k0_off19 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c12_i32 : BitVec 32 := 12#32
  let v258 : BitVec 32 := Scalar.addi v2 c12_i32
  let v259 : Index := Scalar.indexCast v258
  ![v259.toNat]
def k0_mult7 (v260 : BitVec 32) : BitVec 32 :=
  let c_m8_i32_124 : BitVec 32 := 4294967288#32
  let v261 : BitVec 32 := Scalar.andi v260 c_m8_i32_124
  let c384_i32_125 : BitVec 32 := 384#32
  let v262 : BitVec 32 := Scalar.minsi v261 c384_i32_125
  v262

def k0_off20 (v260 : BitVec 32) : Fin 2 → Nat :=
  let c_m8_i32_124 : BitVec 32 := 4294967288#32
  let v261 : BitVec 32 := Scalar.andi v260 c_m8_i32_124
  let c384_i32_125 : BitVec 32 := 384#32
  let v262 : BitVec 32 := Scalar.minsi v261 c384_i32_125
  let v263 : BitVec 32 := v262
  let v272 : Index := Scalar.indexCast v263
  let c0_133 : Index := 0#32
  ![v272.toNat, 0]
def k0_off21 (v260 : BitVec 32) : Fin 2 → Nat :=
  let c_m8_i32_124 : BitVec 32 := 4294967288#32
  let v261 : BitVec 32 := Scalar.andi v260 c_m8_i32_124
  let c384_i32_125 : BitVec 32 := 384#32
  let v262 : BitVec 32 := Scalar.minsi v261 c384_i32_125
  let v263 : BitVec 32 := v262
  let v286 : Index := Scalar.indexCast v263
  let c0_140 : Index := 0#32
  ![v286.toNat, 0]

def k0_chk7 (v260 : BitVec 32) : Prop :=
  (8 ∣ (k0_mult7 v260).toNat) ∧
  (∀ a, (k0_off20 v260) a + S128x1024.size a ≤ S512x1024.size a) ∧
  (∀ a, (k0_off21 v260) a + S128x1.size a ≤ S512x1.size a)
theorem k0_mult7_dvd : ∀ (v260 : BitVec 32) (k0_hw7 : k0_chk7 v260), 8 ∣ (k0_mult7 v260).toNat := fun v260 k0_hw7 => k0_hw7.1
theorem k0_off20_inb : ∀ (v260 : BitVec 32) (k0_hw7 : k0_chk7 v260), ∀ a, (k0_off20 v260) a + S128x1024.size a ≤ S512x1024.size a := fun v260 k0_hw7 => k0_hw7.2.1
theorem k0_off21_inb : ∀ (v260 : BitVec 32) (k0_hw7 : k0_chk7 v260), ∀ a, (k0_off21 v260) a + S128x1.size a ≤ S512x1.size a := fun v260 k0_hw7 => k0_hw7.2.2

def k0_off22 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c14_i32 : BitVec 32 := 14#32
  let v299 : BitVec 32 := Scalar.addi v2 c14_i32
  let v300 : Index := Scalar.indexCast v299
  ![v300.toNat]
def k0_mult8 (v301 : BitVec 32) : BitVec 32 :=
  let c_m8_i32_144 : BitVec 32 := 4294967288#32
  let v302 : BitVec 32 := Scalar.andi v301 c_m8_i32_144
  let c384_i32_145 : BitVec 32 := 384#32
  let v303 : BitVec 32 := Scalar.minsi v302 c384_i32_145
  v303

def k0_off23 (v301 : BitVec 32) : Fin 2 → Nat :=
  let c_m8_i32_144 : BitVec 32 := 4294967288#32
  let v302 : BitVec 32 := Scalar.andi v301 c_m8_i32_144
  let c384_i32_145 : BitVec 32 := 384#32
  let v303 : BitVec 32 := Scalar.minsi v302 c384_i32_145
  let v304 : BitVec 32 := v303
  let v313 : Index := Scalar.indexCast v304
  let c0_153 : Index := 0#32
  ![v313.toNat, 0]
def k0_off24 (v301 : BitVec 32) : Fin 2 → Nat :=
  let c_m8_i32_144 : BitVec 32 := 4294967288#32
  let v302 : BitVec 32 := Scalar.andi v301 c_m8_i32_144
  let c384_i32_145 : BitVec 32 := 384#32
  let v303 : BitVec 32 := Scalar.minsi v302 c384_i32_145
  let v304 : BitVec 32 := v303
  let v327 : Index := Scalar.indexCast v304
  let c0_160 : Index := 0#32
  ![v327.toNat, 0]

def k0_chk8 (v301 : BitVec 32) : Prop :=
  (8 ∣ (k0_mult8 v301).toNat) ∧
  (∀ a, (k0_off23 v301) a + S128x1024.size a ≤ S512x1024.size a) ∧
  (∀ a, (k0_off24 v301) a + S128x1.size a ≤ S512x1.size a)
theorem k0_mult8_dvd : ∀ (v301 : BitVec 32) (k0_hw8 : k0_chk8 v301), 8 ∣ (k0_mult8 v301).toNat := fun v301 k0_hw8 => k0_hw8.1
theorem k0_off23_inb : ∀ (v301 : BitVec 32) (k0_hw8 : k0_chk8 v301), ∀ a, (k0_off23 v301) a + S128x1024.size a ≤ S512x1024.size a := fun v301 k0_hw8 => k0_hw8.2.1
theorem k0_off24_inb : ∀ (v301 : BitVec 32) (k0_hw8 : k0_chk8 v301), ∀ a, (k0_off24 v301) a + S128x1.size a ≤ S512x1.size a := fun v301 k0_hw8 => k0_hw8.2.2

def k0_off25 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c16_i32_164 : BitVec 32 := 16#32
  let v340 : BitVec 32 := Scalar.addi v2 c16_i32_164
  let v341 : Index := Scalar.indexCast v340
  ![v341.toNat]
def k0_mult9 (v342 : BitVec 32) : BitVec 32 :=
  let c_m8_i32_165 : BitVec 32 := 4294967288#32
  let v343 : BitVec 32 := Scalar.andi v342 c_m8_i32_165
  let c384_i32_166 : BitVec 32 := 384#32
  let v344 : BitVec 32 := Scalar.minsi v343 c384_i32_166
  v344

def k0_off26 (v342 : BitVec 32) : Fin 2 → Nat :=
  let c_m8_i32_165 : BitVec 32 := 4294967288#32
  let v343 : BitVec 32 := Scalar.andi v342 c_m8_i32_165
  let c384_i32_166 : BitVec 32 := 384#32
  let v344 : BitVec 32 := Scalar.minsi v343 c384_i32_166
  let v345 : BitVec 32 := v344
  let v354 : Index := Scalar.indexCast v345
  let c0_174 : Index := 0#32
  ![v354.toNat, 0]
def k0_off27 (v342 : BitVec 32) : Fin 2 → Nat :=
  let c_m8_i32_165 : BitVec 32 := 4294967288#32
  let v343 : BitVec 32 := Scalar.andi v342 c_m8_i32_165
  let c384_i32_166 : BitVec 32 := 384#32
  let v344 : BitVec 32 := Scalar.minsi v343 c384_i32_166
  let v345 : BitVec 32 := v344
  let v368 : Index := Scalar.indexCast v345
  let c0_181 : Index := 0#32
  ![v368.toNat, 0]

def k0_chk9 (v342 : BitVec 32) : Prop :=
  (8 ∣ (k0_mult9 v342).toNat) ∧
  (∀ a, (k0_off26 v342) a + S128x1024.size a ≤ S512x1024.size a) ∧
  (∀ a, (k0_off27 v342) a + S128x1.size a ≤ S512x1.size a)
theorem k0_mult9_dvd : ∀ (v342 : BitVec 32) (k0_hw9 : k0_chk9 v342), 8 ∣ (k0_mult9 v342).toNat := fun v342 k0_hw9 => k0_hw9.1
theorem k0_off26_inb : ∀ (v342 : BitVec 32) (k0_hw9 : k0_chk9 v342), ∀ a, (k0_off26 v342) a + S128x1024.size a ≤ S512x1024.size a := fun v342 k0_hw9 => k0_hw9.2.1
theorem k0_off27_inb : ∀ (v342 : BitVec 32) (k0_hw9 : k0_chk9 v342), ∀ a, (k0_off27 v342) a + S128x1.size a ≤ S512x1.size a := fun v342 k0_hw9 => k0_hw9.2.2

def k0_off28 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c18_i32 : BitVec 32 := 18#32
  let v381 : BitVec 32 := Scalar.addi v2 c18_i32
  let v382 : Index := Scalar.indexCast v381
  ![v382.toNat]
def k0_mult10 (v383 : BitVec 32) : BitVec 32 :=
  let c_m8_i32_185 : BitVec 32 := 4294967288#32
  let v384 : BitVec 32 := Scalar.andi v383 c_m8_i32_185
  let c384_i32_186 : BitVec 32 := 384#32
  let v385 : BitVec 32 := Scalar.minsi v384 c384_i32_186
  v385

def k0_off29 (v383 : BitVec 32) : Fin 2 → Nat :=
  let c_m8_i32_185 : BitVec 32 := 4294967288#32
  let v384 : BitVec 32 := Scalar.andi v383 c_m8_i32_185
  let c384_i32_186 : BitVec 32 := 384#32
  let v385 : BitVec 32 := Scalar.minsi v384 c384_i32_186
  let v386 : BitVec 32 := v385
  let v395 : Index := Scalar.indexCast v386
  let c0_194 : Index := 0#32
  ![v395.toNat, 0]
def k0_off30 (v383 : BitVec 32) : Fin 2 → Nat :=
  let c_m8_i32_185 : BitVec 32 := 4294967288#32
  let v384 : BitVec 32 := Scalar.andi v383 c_m8_i32_185
  let c384_i32_186 : BitVec 32 := 384#32
  let v385 : BitVec 32 := Scalar.minsi v384 c384_i32_186
  let v386 : BitVec 32 := v385
  let v409 : Index := Scalar.indexCast v386
  let c0_201 : Index := 0#32
  ![v409.toNat, 0]

def k0_chk10 (v383 : BitVec 32) : Prop :=
  (8 ∣ (k0_mult10 v383).toNat) ∧
  (∀ a, (k0_off29 v383) a + S128x1024.size a ≤ S512x1024.size a) ∧
  (∀ a, (k0_off30 v383) a + S128x1.size a ≤ S512x1.size a)
theorem k0_mult10_dvd : ∀ (v383 : BitVec 32) (k0_hw10 : k0_chk10 v383), 8 ∣ (k0_mult10 v383).toNat := fun v383 k0_hw10 => k0_hw10.1
theorem k0_off29_inb : ∀ (v383 : BitVec 32) (k0_hw10 : k0_chk10 v383), ∀ a, (k0_off29 v383) a + S128x1024.size a ≤ S512x1024.size a := fun v383 k0_hw10 => k0_hw10.2.1
theorem k0_off30_inb : ∀ (v383 : BitVec 32) (k0_hw10 : k0_chk10 v383), ∀ a, (k0_off30 v383) a + S128x1.size a ≤ S512x1.size a := fun v383 k0_hw10 => k0_hw10.2.2

def k0_off31 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c20_i32 : BitVec 32 := 20#32
  let v422 : BitVec 32 := Scalar.addi v2 c20_i32
  let v423 : Index := Scalar.indexCast v422
  ![v423.toNat]
def k0_mult11 (v424 : BitVec 32) : BitVec 32 :=
  let c_m8_i32_205 : BitVec 32 := 4294967288#32
  let v425 : BitVec 32 := Scalar.andi v424 c_m8_i32_205
  let c384_i32_206 : BitVec 32 := 384#32
  let v426 : BitVec 32 := Scalar.minsi v425 c384_i32_206
  v426

def k0_off32 (v424 : BitVec 32) : Fin 2 → Nat :=
  let c_m8_i32_205 : BitVec 32 := 4294967288#32
  let v425 : BitVec 32 := Scalar.andi v424 c_m8_i32_205
  let c384_i32_206 : BitVec 32 := 384#32
  let v426 : BitVec 32 := Scalar.minsi v425 c384_i32_206
  let v427 : BitVec 32 := v426
  let v436 : Index := Scalar.indexCast v427
  let c0_214 : Index := 0#32
  ![v436.toNat, 0]
def k0_off33 (v424 : BitVec 32) : Fin 2 → Nat :=
  let c_m8_i32_205 : BitVec 32 := 4294967288#32
  let v425 : BitVec 32 := Scalar.andi v424 c_m8_i32_205
  let c384_i32_206 : BitVec 32 := 384#32
  let v426 : BitVec 32 := Scalar.minsi v425 c384_i32_206
  let v427 : BitVec 32 := v426
  let v450 : Index := Scalar.indexCast v427
  let c0_221 : Index := 0#32
  ![v450.toNat, 0]

def k0_chk11 (v424 : BitVec 32) : Prop :=
  (8 ∣ (k0_mult11 v424).toNat) ∧
  (∀ a, (k0_off32 v424) a + S128x1024.size a ≤ S512x1024.size a) ∧
  (∀ a, (k0_off33 v424) a + S128x1.size a ≤ S512x1.size a)
theorem k0_mult11_dvd : ∀ (v424 : BitVec 32) (k0_hw11 : k0_chk11 v424), 8 ∣ (k0_mult11 v424).toNat := fun v424 k0_hw11 => k0_hw11.1
theorem k0_off32_inb : ∀ (v424 : BitVec 32) (k0_hw11 : k0_chk11 v424), ∀ a, (k0_off32 v424) a + S128x1024.size a ≤ S512x1024.size a := fun v424 k0_hw11 => k0_hw11.2.1
theorem k0_off33_inb : ∀ (v424 : BitVec 32) (k0_hw11 : k0_chk11 v424), ∀ a, (k0_off33 v424) a + S128x1.size a ≤ S512x1.size a := fun v424 k0_hw11 => k0_hw11.2.2

def k0_off34 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c22_i32 : BitVec 32 := 22#32
  let v463 : BitVec 32 := Scalar.addi v2 c22_i32
  let v464 : Index := Scalar.indexCast v463
  ![v464.toNat]
def k0_mult12 (v465 : BitVec 32) : BitVec 32 :=
  let c_m8_i32_225 : BitVec 32 := 4294967288#32
  let v466 : BitVec 32 := Scalar.andi v465 c_m8_i32_225
  let c384_i32_226 : BitVec 32 := 384#32
  let v467 : BitVec 32 := Scalar.minsi v466 c384_i32_226
  v467

def k0_off35 (v465 : BitVec 32) : Fin 2 → Nat :=
  let c_m8_i32_225 : BitVec 32 := 4294967288#32
  let v466 : BitVec 32 := Scalar.andi v465 c_m8_i32_225
  let c384_i32_226 : BitVec 32 := 384#32
  let v467 : BitVec 32 := Scalar.minsi v466 c384_i32_226
  let v468 : BitVec 32 := v467
  let v477 : Index := Scalar.indexCast v468
  let c0_234 : Index := 0#32
  ![v477.toNat, 0]
def k0_off36 (v465 : BitVec 32) : Fin 2 → Nat :=
  let c_m8_i32_225 : BitVec 32 := 4294967288#32
  let v466 : BitVec 32 := Scalar.andi v465 c_m8_i32_225
  let c384_i32_226 : BitVec 32 := 384#32
  let v467 : BitVec 32 := Scalar.minsi v466 c384_i32_226
  let v468 : BitVec 32 := v467
  let v491 : Index := Scalar.indexCast v468
  let c0_241 : Index := 0#32
  ![v491.toNat, 0]

def k0_chk12 (v465 : BitVec 32) : Prop :=
  (8 ∣ (k0_mult12 v465).toNat) ∧
  (∀ a, (k0_off35 v465) a + S128x1024.size a ≤ S512x1024.size a) ∧
  (∀ a, (k0_off36 v465) a + S128x1.size a ≤ S512x1.size a)
theorem k0_mult12_dvd : ∀ (v465 : BitVec 32) (k0_hw12 : k0_chk12 v465), 8 ∣ (k0_mult12 v465).toNat := fun v465 k0_hw12 => k0_hw12.1
theorem k0_off35_inb : ∀ (v465 : BitVec 32) (k0_hw12 : k0_chk12 v465), ∀ a, (k0_off35 v465) a + S128x1024.size a ≤ S512x1024.size a := fun v465 k0_hw12 => k0_hw12.2.1
theorem k0_off36_inb : ∀ (v465 : BitVec 32) (k0_hw12 : k0_chk12 v465), ∀ a, (k0_off36 v465) a + S128x1.size a ≤ S512x1.size a := fun v465 k0_hw12 => k0_hw12.2.2

def k0_off37 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c24_i32 : BitVec 32 := 24#32
  let v504 : BitVec 32 := Scalar.addi v2 c24_i32
  let v505 : Index := Scalar.indexCast v504
  ![v505.toNat]
def k0_mult13 (v506 : BitVec 32) : BitVec 32 :=
  let c_m8_i32_245 : BitVec 32 := 4294967288#32
  let v507 : BitVec 32 := Scalar.andi v506 c_m8_i32_245
  let c384_i32_246 : BitVec 32 := 384#32
  let v508 : BitVec 32 := Scalar.minsi v507 c384_i32_246
  v508

def k0_off38 (v506 : BitVec 32) : Fin 2 → Nat :=
  let c_m8_i32_245 : BitVec 32 := 4294967288#32
  let v507 : BitVec 32 := Scalar.andi v506 c_m8_i32_245
  let c384_i32_246 : BitVec 32 := 384#32
  let v508 : BitVec 32 := Scalar.minsi v507 c384_i32_246
  let v509 : BitVec 32 := v508
  let v518 : Index := Scalar.indexCast v509
  let c0_254 : Index := 0#32
  ![v518.toNat, 0]
def k0_off39 (v506 : BitVec 32) : Fin 2 → Nat :=
  let c_m8_i32_245 : BitVec 32 := 4294967288#32
  let v507 : BitVec 32 := Scalar.andi v506 c_m8_i32_245
  let c384_i32_246 : BitVec 32 := 384#32
  let v508 : BitVec 32 := Scalar.minsi v507 c384_i32_246
  let v509 : BitVec 32 := v508
  let v532 : Index := Scalar.indexCast v509
  let c0_261 : Index := 0#32
  ![v532.toNat, 0]

def k0_chk13 (v506 : BitVec 32) : Prop :=
  (8 ∣ (k0_mult13 v506).toNat) ∧
  (∀ a, (k0_off38 v506) a + S128x1024.size a ≤ S512x1024.size a) ∧
  (∀ a, (k0_off39 v506) a + S128x1.size a ≤ S512x1.size a)
theorem k0_mult13_dvd : ∀ (v506 : BitVec 32) (k0_hw13 : k0_chk13 v506), 8 ∣ (k0_mult13 v506).toNat := fun v506 k0_hw13 => k0_hw13.1
theorem k0_off38_inb : ∀ (v506 : BitVec 32) (k0_hw13 : k0_chk13 v506), ∀ a, (k0_off38 v506) a + S128x1024.size a ≤ S512x1024.size a := fun v506 k0_hw13 => k0_hw13.2.1
theorem k0_off39_inb : ∀ (v506 : BitVec 32) (k0_hw13 : k0_chk13 v506), ∀ a, (k0_off39 v506) a + S128x1.size a ≤ S512x1.size a := fun v506 k0_hw13 => k0_hw13.2.2

def k0_off40 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c26_i32 : BitVec 32 := 26#32
  let v545 : BitVec 32 := Scalar.addi v2 c26_i32
  let v546 : Index := Scalar.indexCast v545
  ![v546.toNat]
def k0_mult14 (v547 : BitVec 32) : BitVec 32 :=
  let c_m8_i32_265 : BitVec 32 := 4294967288#32
  let v548 : BitVec 32 := Scalar.andi v547 c_m8_i32_265
  let c384_i32_266 : BitVec 32 := 384#32
  let v549 : BitVec 32 := Scalar.minsi v548 c384_i32_266
  v549

def k0_off41 (v547 : BitVec 32) : Fin 2 → Nat :=
  let c_m8_i32_265 : BitVec 32 := 4294967288#32
  let v548 : BitVec 32 := Scalar.andi v547 c_m8_i32_265
  let c384_i32_266 : BitVec 32 := 384#32
  let v549 : BitVec 32 := Scalar.minsi v548 c384_i32_266
  let v550 : BitVec 32 := v549
  let v559 : Index := Scalar.indexCast v550
  let c0_274 : Index := 0#32
  ![v559.toNat, 0]
def k0_off42 (v547 : BitVec 32) : Fin 2 → Nat :=
  let c_m8_i32_265 : BitVec 32 := 4294967288#32
  let v548 : BitVec 32 := Scalar.andi v547 c_m8_i32_265
  let c384_i32_266 : BitVec 32 := 384#32
  let v549 : BitVec 32 := Scalar.minsi v548 c384_i32_266
  let v550 : BitVec 32 := v549
  let v573 : Index := Scalar.indexCast v550
  let c0_281 : Index := 0#32
  ![v573.toNat, 0]

def k0_chk14 (v547 : BitVec 32) : Prop :=
  (8 ∣ (k0_mult14 v547).toNat) ∧
  (∀ a, (k0_off41 v547) a + S128x1024.size a ≤ S512x1024.size a) ∧
  (∀ a, (k0_off42 v547) a + S128x1.size a ≤ S512x1.size a)
theorem k0_mult14_dvd : ∀ (v547 : BitVec 32) (k0_hw14 : k0_chk14 v547), 8 ∣ (k0_mult14 v547).toNat := fun v547 k0_hw14 => k0_hw14.1
theorem k0_off41_inb : ∀ (v547 : BitVec 32) (k0_hw14 : k0_chk14 v547), ∀ a, (k0_off41 v547) a + S128x1024.size a ≤ S512x1024.size a := fun v547 k0_hw14 => k0_hw14.2.1
theorem k0_off42_inb : ∀ (v547 : BitVec 32) (k0_hw14 : k0_chk14 v547), ∀ a, (k0_off42 v547) a + S128x1.size a ≤ S512x1.size a := fun v547 k0_hw14 => k0_hw14.2.2

def k0_off43 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c28_i32 : BitVec 32 := 28#32
  let v586 : BitVec 32 := Scalar.addi v2 c28_i32
  let v587 : Index := Scalar.indexCast v586
  ![v587.toNat]
def k0_mult15 (v588 : BitVec 32) : BitVec 32 :=
  let c_m8_i32_285 : BitVec 32 := 4294967288#32
  let v589 : BitVec 32 := Scalar.andi v588 c_m8_i32_285
  let c384_i32_286 : BitVec 32 := 384#32
  let v590 : BitVec 32 := Scalar.minsi v589 c384_i32_286
  v590

def k0_off44 (v588 : BitVec 32) : Fin 2 → Nat :=
  let c_m8_i32_285 : BitVec 32 := 4294967288#32
  let v589 : BitVec 32 := Scalar.andi v588 c_m8_i32_285
  let c384_i32_286 : BitVec 32 := 384#32
  let v590 : BitVec 32 := Scalar.minsi v589 c384_i32_286
  let v591 : BitVec 32 := v590
  let v600 : Index := Scalar.indexCast v591
  let c0_294 : Index := 0#32
  ![v600.toNat, 0]
def k0_off45 (v588 : BitVec 32) : Fin 2 → Nat :=
  let c_m8_i32_285 : BitVec 32 := 4294967288#32
  let v589 : BitVec 32 := Scalar.andi v588 c_m8_i32_285
  let c384_i32_286 : BitVec 32 := 384#32
  let v590 : BitVec 32 := Scalar.minsi v589 c384_i32_286
  let v591 : BitVec 32 := v590
  let v614 : Index := Scalar.indexCast v591
  let c0_301 : Index := 0#32
  ![v614.toNat, 0]

def k0_chk15 (v588 : BitVec 32) : Prop :=
  (8 ∣ (k0_mult15 v588).toNat) ∧
  (∀ a, (k0_off44 v588) a + S128x1024.size a ≤ S512x1024.size a) ∧
  (∀ a, (k0_off45 v588) a + S128x1.size a ≤ S512x1.size a)
theorem k0_mult15_dvd : ∀ (v588 : BitVec 32) (k0_hw15 : k0_chk15 v588), 8 ∣ (k0_mult15 v588).toNat := fun v588 k0_hw15 => k0_hw15.1
theorem k0_off44_inb : ∀ (v588 : BitVec 32) (k0_hw15 : k0_chk15 v588), ∀ a, (k0_off44 v588) a + S128x1024.size a ≤ S512x1024.size a := fun v588 k0_hw15 => k0_hw15.2.1
theorem k0_off45_inb : ∀ (v588 : BitVec 32) (k0_hw15 : k0_chk15 v588), ∀ a, (k0_off45 v588) a + S128x1.size a ≤ S512x1.size a := fun v588 k0_hw15 => k0_hw15.2.2

def k0_off46 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c30_i32 : BitVec 32 := 30#32
  let v627 : BitVec 32 := Scalar.addi v2 c30_i32
  let v628 : Index := Scalar.indexCast v627
  ![v628.toNat]
def k0_mult16 (v629 : BitVec 32) : BitVec 32 :=
  let c_m8_i32_305 : BitVec 32 := 4294967288#32
  let v630 : BitVec 32 := Scalar.andi v629 c_m8_i32_305
  let c384_i32_306 : BitVec 32 := 384#32
  let v631 : BitVec 32 := Scalar.minsi v630 c384_i32_306
  v631

def k0_off47 (v629 : BitVec 32) : Fin 2 → Nat :=
  let c_m8_i32_305 : BitVec 32 := 4294967288#32
  let v630 : BitVec 32 := Scalar.andi v629 c_m8_i32_305
  let c384_i32_306 : BitVec 32 := 384#32
  let v631 : BitVec 32 := Scalar.minsi v630 c384_i32_306
  let v632 : BitVec 32 := v631
  let v641 : Index := Scalar.indexCast v632
  let c0_314 : Index := 0#32
  ![v641.toNat, 0]
def k0_off48 (v629 : BitVec 32) : Fin 2 → Nat :=
  let c_m8_i32_305 : BitVec 32 := 4294967288#32
  let v630 : BitVec 32 := Scalar.andi v629 c_m8_i32_305
  let c384_i32_306 : BitVec 32 := 384#32
  let v631 : BitVec 32 := Scalar.minsi v630 c384_i32_306
  let v632 : BitVec 32 := v631
  let v655 : Index := Scalar.indexCast v632
  let c0_321 : Index := 0#32
  ![v655.toNat, 0]

def k0_chk16 (v629 : BitVec 32) : Prop :=
  (8 ∣ (k0_mult16 v629).toNat) ∧
  (∀ a, (k0_off47 v629) a + S128x1024.size a ≤ S512x1024.size a) ∧
  (∀ a, (k0_off48 v629) a + S128x1.size a ≤ S512x1.size a)
theorem k0_mult16_dvd : ∀ (v629 : BitVec 32) (k0_hw16 : k0_chk16 v629), 8 ∣ (k0_mult16 v629).toNat := fun v629 k0_hw16 => k0_hw16.1
theorem k0_off47_inb : ∀ (v629 : BitVec 32) (k0_hw16 : k0_chk16 v629), ∀ a, (k0_off47 v629) a + S128x1024.size a ≤ S512x1024.size a := fun v629 k0_hw16 => k0_hw16.2.1
theorem k0_off48_inb : ∀ (v629 : BitVec 32) (k0_hw16 : k0_chk16 v629), ∀ a, (k0_off48 v629) a + S128x1.size a ≤ S512x1.size a := fun v629 k0_hw16 => k0_hw16.2.2

@[reducible] def k0_t1_loop : Scf.Loop 32 :=
  let c0_i32_326 : BitVec 32 := 0#32
  let c16_i32_327 : BitVec 32 := 16#32
  let v668 : BitVec 32 := Scalar.addi c0_i32_326 c16_i32_327
  let c1_i32 : BitVec 32 := 1#32
  ⟨c0_i32_326, v668, c1_i32⟩
def k0_off49 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c0_i32_326 : BitVec 32 := 0#32
  let c1_i32 : BitVec 32 := 1#32
  let arg12 : BitVec 32 := Scf.iv c0_i32_326 c1_i32 k0_t1
  let c2_i32_355 : BitVec 32 := 2#32
  let v697 : BitVec 32 := Scalar.muli arg12 c2_i32_355
  let v698 : BitVec 32 := Scalar.addi v2 v697
  let v699 : Index := Scalar.indexCast v698
  ![v699.toNat]
def k0_off50 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c33_i32 : BitVec 32 := 33#32
  let v2 : BitVec 32 := Scalar.muli v1 c33_i32
  let c0_i32_326 : BitVec 32 := 0#32
  let c1_i32 : BitVec 32 := 1#32
  let arg12 : BitVec 32 := Scf.iv c0_i32_326 c1_i32 k0_t1
  let c1_i32_358 : BitVec 32 := 1#32
  let v704 : BitVec 32 := Scalar.addi arg12 c1_i32_358
  let c2_i32_359 : BitVec 32 := 2#32
  let v705 : BitVec 32 := Scalar.muli v704 c2_i32_359
  let v706 : BitVec 32 := Scalar.addi v2 v705
  let v707 : Index := Scalar.indexCast v706
  ![v707.toNat]
@[reducible] def k0_t2_loop (v700 : BitVec 32) (v708 : BitVec 32) : Scf.Loop 32 :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let v710 : BitVec 1 := Scalar.cmpi .sgt v708 v703
  let c127_i32 : BitVec 32 := 127#32
  let v711 : BitVec 32 := Scalar.addi v708 c127_i32
  let c7_i32_360 : BitVec 32 := 7#32
  let v712 : BitVec 32 := Scalar.shrui v711 c7_i32_360
  let v713 : BitVec 32 := Scalar.select v710 v712 v709
  let v714 : BitVec 32 := Scalar.subi v713 v709
  let c1_i32_361 : BitVec 32 := 1#32
  let v716 : BitVec 32 := Scalar.divsi v714 c1_i32_361
  let v717 : BitVec 32 := Scalar.muli v716 c1_i32_361
  let v718 : BitVec 32 := Scalar.addi v709 v717
  let c1_i32_362 : BitVec 32 := 1#32
  ⟨v709, v718, c1_i32_362⟩

def k0_mult17 (v700 : BitVec 32) (v708 : BitVec 32) (k0_t2 : Fin (k0_t2_loop v700 v708).trips) : BitVec 32 :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let c1_i32_362 : BitVec 32 := 1#32
  let arg13 : BitVec 32 := Scf.iv v709 c1_i32_362 k0_t2
  let c128_i32_364 : BitVec 32 := 128#32
  let v719 : BitVec 32 := Scalar.muli arg13 c128_i32_364
  v719
def k0_off51 (k0_t1 : Fin k0_t1_loop.trips) : Fin 4 → Nat :=
  let c0_365 : Index := 0#32
  let c0_366 : Index := 0#32
  let c0_i32_326 : BitVec 32 := 0#32
  let c1_i32 : BitVec 32 := 1#32
  let arg12 : BitVec 32 := Scf.iv c0_i32_326 c1_i32 k0_t1
  let v721 : Index := Scalar.indexCast arg12
  let c0_367 : Index := 0#32
  ![0, 0, v721.toNat, 0]
def k0_mult18 (k0_t1 : Fin k0_t1_loop.trips) : BitVec 32 :=
  let c0_i32_326 : BitVec 32 := 0#32
  let c1_i32 : BitVec 32 := 1#32
  let arg12 : BitVec 32 := Scf.iv c0_i32_326 c1_i32 k0_t1
  let c256_i32 : BitVec 32 := 256#32
  let v732 : BitVec 32 := Scalar.muli arg12 c256_i32
  v732
def k0_off52 (v700 : BitVec 32) (v708 : BitVec 32) (k0_t2 : Fin (k0_t2_loop v700 v708).trips) : Fin 2 → Nat :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let c1_i32_362 : BitVec 32 := 1#32
  let arg13 : BitVec 32 := Scf.iv v709 c1_i32_362 k0_t2
  let c128_i32_364 : BitVec 32 := 128#32
  let v719 : BitVec 32 := Scalar.muli arg13 c128_i32_364
  let v720 : BitVec 32 := v719
  let v737 : Index := Scalar.indexCast v720
  let c0_371 : Index := 0#32
  ![v737.toNat, 0]
def k0_off53 (k0_t1 : Fin k0_t1_loop.trips) : Fin 3 → Nat :=
  let c0_374 : Index := 0#32
  let c0_i32_326 : BitVec 32 := 0#32
  let c1_i32 : BitVec 32 := 1#32
  let arg12 : BitVec 32 := Scf.iv c0_i32_326 c1_i32 k0_t1
  let c256_i32 : BitVec 32 := 256#32
  let v732 : BitVec 32 := Scalar.muli arg12 c256_i32
  let v733 : BitVec 32 := v732
  let v743 : Index := Scalar.indexCast v733
  let c0_375 : Index := 0#32
  ![0, v743.toNat, 0]
def k0_off54 (v700 : BitVec 32) (v708 : BitVec 32) (k0_t2 : Fin (k0_t2_loop v700 v708).trips) : Fin 2 → Nat :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let c1_i32_362 : BitVec 32 := 1#32
  let arg13 : BitVec 32 := Scf.iv v709 c1_i32_362 k0_t2
  let c128_i32_364 : BitVec 32 := 128#32
  let v719 : BitVec 32 := Scalar.muli arg13 c128_i32_364
  let v720 : BitVec 32 := v719
  let v752 : Index := Scalar.indexCast v720
  let c0_378 : Index := 0#32
  ![v752.toNat, 0]
@[reducible] def k0_t3_loop (v700 : BitVec 32) (v708 : BitVec 32) : Scf.Loop 32 :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let v710 : BitVec 1 := Scalar.cmpi .sgt v708 v703
  let c127_i32 : BitVec 32 := 127#32
  let v711 : BitVec 32 := Scalar.addi v708 c127_i32
  let c7_i32_360 : BitVec 32 := 7#32
  let v712 : BitVec 32 := Scalar.shrui v711 c7_i32_360
  let v713 : BitVec 32 := Scalar.select v710 v712 v709
  let v714 : BitVec 32 := Scalar.subi v713 v709
  let c1_i32_361 : BitVec 32 := 1#32
  let v716 : BitVec 32 := Scalar.divsi v714 c1_i32_361
  let v717 : BitVec 32 := Scalar.muli v716 c1_i32_361
  let v718 : BitVec 32 := Scalar.addi v709 v717
  let v715 : BitVec 32 := Scalar.addi v709 v714
  let c1_i32_363 : BitVec 32 := 1#32
  ⟨v718, v715, c1_i32_363⟩
def k0_mult19 (v700 : BitVec 32) (v708 : BitVec 32) (k0_t3 : Fin (k0_t3_loop v700 v708).trips) : BitVec 32 :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let v710 : BitVec 1 := Scalar.cmpi .sgt v708 v703
  let c127_i32 : BitVec 32 := 127#32
  let v711 : BitVec 32 := Scalar.addi v708 c127_i32
  let c7_i32_360 : BitVec 32 := 7#32
  let v712 : BitVec 32 := Scalar.shrui v711 c7_i32_360
  let v713 : BitVec 32 := Scalar.select v710 v712 v709
  let v714 : BitVec 32 := Scalar.subi v713 v709
  let c1_i32_361 : BitVec 32 := 1#32
  let v716 : BitVec 32 := Scalar.divsi v714 c1_i32_361
  let v717 : BitVec 32 := Scalar.muli v716 c1_i32_361
  let v718 : BitVec 32 := Scalar.addi v709 v717
  let c1_i32_363 : BitVec 32 := 1#32
  let arg13 : BitVec 32 := Scf.iv v718 c1_i32_363 k0_t3
  let c128_i32_364 : BitVec 32 := 128#32
  let v719 : BitVec 32 := Scalar.muli arg13 c128_i32_364
  v719
def k0_off55 (k0_t1 : Fin k0_t1_loop.trips) : Fin 4 → Nat :=
  let c0_365 : Index := 0#32
  let c0_366 : Index := 0#32
  let c0_i32_326 : BitVec 32 := 0#32
  let c1_i32 : BitVec 32 := 1#32
  let arg12 : BitVec 32 := Scf.iv c0_i32_326 c1_i32 k0_t1
  let v721 : Index := Scalar.indexCast arg12
  let c0_367 : Index := 0#32
  ![0, 0, v721.toNat, 0]
def k0_mult20 (k0_t1 : Fin k0_t1_loop.trips) : BitVec 32 :=
  let c0_i32_326 : BitVec 32 := 0#32
  let c1_i32 : BitVec 32 := 1#32
  let arg12 : BitVec 32 := Scf.iv c0_i32_326 c1_i32 k0_t1
  let c256_i32 : BitVec 32 := 256#32
  let v732 : BitVec 32 := Scalar.muli arg12 c256_i32
  v732
def k0_off56 (v700 : BitVec 32) (v708 : BitVec 32) (k0_t3 : Fin (k0_t3_loop v700 v708).trips) : Fin 2 → Nat :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let v710 : BitVec 1 := Scalar.cmpi .sgt v708 v703
  let c127_i32 : BitVec 32 := 127#32
  let v711 : BitVec 32 := Scalar.addi v708 c127_i32
  let c7_i32_360 : BitVec 32 := 7#32
  let v712 : BitVec 32 := Scalar.shrui v711 c7_i32_360
  let v713 : BitVec 32 := Scalar.select v710 v712 v709
  let v714 : BitVec 32 := Scalar.subi v713 v709
  let c1_i32_361 : BitVec 32 := 1#32
  let v716 : BitVec 32 := Scalar.divsi v714 c1_i32_361
  let v717 : BitVec 32 := Scalar.muli v716 c1_i32_361
  let v718 : BitVec 32 := Scalar.addi v709 v717
  let c1_i32_363 : BitVec 32 := 1#32
  let arg13 : BitVec 32 := Scf.iv v718 c1_i32_363 k0_t3
  let c128_i32_364 : BitVec 32 := 128#32
  let v719 : BitVec 32 := Scalar.muli arg13 c128_i32_364
  let v720 : BitVec 32 := v719
  let v737 : Index := Scalar.indexCast v720
  let c0_371 : Index := 0#32
  ![v737.toNat, 0]
def k0_off57 (k0_t1 : Fin k0_t1_loop.trips) : Fin 3 → Nat :=
  let c0_374 : Index := 0#32
  let c0_i32_326 : BitVec 32 := 0#32
  let c1_i32 : BitVec 32 := 1#32
  let arg12 : BitVec 32 := Scf.iv c0_i32_326 c1_i32 k0_t1
  let c256_i32 : BitVec 32 := 256#32
  let v732 : BitVec 32 := Scalar.muli arg12 c256_i32
  let v733 : BitVec 32 := v732
  let v743 : Index := Scalar.indexCast v733
  let c0_375 : Index := 0#32
  ![0, v743.toNat, 0]
def k0_off58 (v700 : BitVec 32) (v708 : BitVec 32) (k0_t3 : Fin (k0_t3_loop v700 v708).trips) : Fin 2 → Nat :=
  let c_m8_i32_356 : BitVec 32 := 4294967288#32
  let v701 : BitVec 32 := Scalar.andi v700 c_m8_i32_356
  let c384_i32_357 : BitVec 32 := 384#32
  let v702 : BitVec 32 := Scalar.minsi v701 c384_i32_357
  let c128_i32 : BitVec 32 := 128#32
  let v703 : BitVec 32 := Scalar.addi v702 c128_i32
  let c7_i32 : BitVec 32 := 7#32
  let v709 : BitVec 32 := Scalar.shrui v703 c7_i32
  let v710 : BitVec 1 := Scalar.cmpi .sgt v708 v703
  let c127_i32 : BitVec 32 := 127#32
  let v711 : BitVec 32 := Scalar.addi v708 c127_i32
  let c7_i32_360 : BitVec 32 := 7#32
  let v712 : BitVec 32 := Scalar.shrui v711 c7_i32_360
  let v713 : BitVec 32 := Scalar.select v710 v712 v709
  let v714 : BitVec 32 := Scalar.subi v713 v709
  let c1_i32_361 : BitVec 32 := 1#32
  let v716 : BitVec 32 := Scalar.divsi v714 c1_i32_361
  let v717 : BitVec 32 := Scalar.muli v716 c1_i32_361
  let v718 : BitVec 32 := Scalar.addi v709 v717
  let c1_i32_363 : BitVec 32 := 1#32
  let arg13 : BitVec 32 := Scf.iv v718 c1_i32_363 k0_t3
  let c128_i32_364 : BitVec 32 := 128#32
  let v719 : BitVec 32 := Scalar.muli arg13 c128_i32_364
  let v720 : BitVec 32 := v719
  let v752 : Index := Scalar.indexCast v720
  let c0_378 : Index := 0#32
  ![v752.toNat, 0]

def k0_chk17 (v700 : BitVec 32) (v708 : BitVec 32) : Prop :=
  ((k0_t2_loop v700 v708).OK) ∧
  (∀ k0_t2 : Fin (k0_t2_loop v700 v708).trips, 128 ∣ (k0_mult17 v700 v708 k0_t2).toNat) ∧
  (∀ k0_t2 : Fin (k0_t2_loop v700 v708).trips, ∀ a, (k0_off52 v700 v708 k0_t2) a + S128x1024.size a ≤ S512x1024.size a) ∧
  (∀ k0_t2 : Fin (k0_t2_loop v700 v708).trips, ∀ a, (k0_off54 v700 v708 k0_t2) a + S128x1.size a ≤ S512x1.size a) ∧
  ((k0_t3_loop v700 v708).OK) ∧
  (∀ k0_t3 : Fin (k0_t3_loop v700 v708).trips, 128 ∣ (k0_mult19 v700 v708 k0_t3).toNat) ∧
  (∀ k0_t3 : Fin (k0_t3_loop v700 v708).trips, ∀ a, (k0_off56 v700 v708 k0_t3) a + S128x1024.size a ≤ S512x1024.size a) ∧
  (∀ k0_t3 : Fin (k0_t3_loop v700 v708).trips, ∀ a, (k0_off58 v700 v708 k0_t3) a + S128x1.size a ≤ S512x1.size a)
theorem k0_t2_ok : ∀ (v700 : BitVec 32) (v708 : BitVec 32) (k0_hw17 : k0_chk17 v700 v708), (k0_t2_loop v700 v708).OK := fun v700 v708 k0_hw17 => k0_hw17.1
theorem k0_mult17_dvd : ∀ (v700 : BitVec 32) (v708 : BitVec 32) (k0_hw17 : k0_chk17 v700 v708) (k0_t2 : Fin (k0_t2_loop v700 v708).trips), 128 ∣ (k0_mult17 v700 v708 k0_t2).toNat := fun v700 v708 k0_hw17 k0_t2 => k0_hw17.2.1 k0_t2
theorem k0_off52_inb : ∀ (v700 : BitVec 32) (v708 : BitVec 32) (k0_hw17 : k0_chk17 v700 v708) (k0_t2 : Fin (k0_t2_loop v700 v708).trips), ∀ a, (k0_off52 v700 v708 k0_t2) a + S128x1024.size a ≤ S512x1024.size a := fun v700 v708 k0_hw17 k0_t2 => k0_hw17.2.2.1 k0_t2
theorem k0_off54_inb : ∀ (v700 : BitVec 32) (v708 : BitVec 32) (k0_hw17 : k0_chk17 v700 v708) (k0_t2 : Fin (k0_t2_loop v700 v708).trips), ∀ a, (k0_off54 v700 v708 k0_t2) a + S128x1.size a ≤ S512x1.size a := fun v700 v708 k0_hw17 k0_t2 => k0_hw17.2.2.2.1 k0_t2
theorem k0_t3_ok : ∀ (v700 : BitVec 32) (v708 : BitVec 32) (k0_hw17 : k0_chk17 v700 v708), (k0_t3_loop v700 v708).OK := fun v700 v708 k0_hw17 => k0_hw17.2.2.2.2.1
theorem k0_mult19_dvd : ∀ (v700 : BitVec 32) (v708 : BitVec 32) (k0_hw17 : k0_chk17 v700 v708) (k0_t3 : Fin (k0_t3_loop v700 v708).trips), 128 ∣ (k0_mult19 v700 v708 k0_t3).toNat := fun v700 v708 k0_hw17 k0_t3 => k0_hw17.2.2.2.2.2.1 k0_t3
theorem k0_off56_inb : ∀ (v700 : BitVec 32) (v708 : BitVec 32) (k0_hw17 : k0_chk17 v700 v708) (k0_t3 : Fin (k0_t3_loop v700 v708).trips), ∀ a, (k0_off56 v700 v708 k0_t3) a + S128x1024.size a ≤ S512x1024.size a := fun v700 v708 k0_hw17 k0_t3 => k0_hw17.2.2.2.2.2.2.1 k0_t3
theorem k0_off58_inb : ∀ (v700 : BitVec 32) (v708 : BitVec 32) (k0_hw17 : k0_chk17 v700 v708) (k0_t3 : Fin (k0_t3_loop v700 v708).trips), ∀ a, (k0_off58 v700 v708 k0_t3) a + S128x1.size a ≤ S512x1.size a := fun v700 v708 k0_hw17 k0_t3 => k0_hw17.2.2.2.2.2.2.2 k0_t3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x16x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16x4096x1024 : Shape := ⟨3, ![16, 4096, 1024]⟩
abbrev S16x16x512 : Shape := ⟨3, ![16, 16, 512]⟩
abbrev S16x16x4096 : Shape := ⟨3, ![16, 16, 4096]⟩
abbrev S8448 : Shape := ⟨1, ![8448]⟩
abbrev S4x16x1024x1024 : Shape := ⟨4, ![4, 16, 1024, 1024]⟩
abbrev S_ : Shape := ⟨0, ![]⟩
abbrev S16x16x512x1 : Shape := ⟨4, ![16, 16, 512, 1]⟩
abbrev S16x16x512x1024 : Shape := ⟨4, ![16, 16, 512, 1024]⟩
abbrev S1 : Shape := ⟨1, ![1]⟩
abbrev S1x1x1x1 : Shape := ⟨4, ![1, 1, 1, 1]⟩
abbrev S1x16x1024x1024 : Shape := ⟨4, ![1, 16, 1024, 1024]⟩
abbrev S16x1024x1024 : Shape := ⟨3, ![16, 1024, 1024]⟩
abbrev S16x1024x16x512 : Shape := ⟨4, ![16, 1024, 16, 512]⟩

abbrev nBuf : Space → Nat
  | .hbm => 66
  | .vmem => 0
  | .smem => 0
  | _ => 0

abbrev bufTy : (tb : Table) → Fin (tcTables nBuf tb) → BufTy
  | .hbm, ⟨0, _⟩ => ⟨S16x4096x1024, .bf16⟩
  | .hbm, ⟨1, _⟩ => ⟨S16x16x512, .i32⟩
  | .hbm, ⟨2, _⟩ => ⟨S16x16x4096, .i32⟩
  | .hbm, ⟨3, _⟩ => ⟨S16x16x4096, .f32⟩
  | .hbm, ⟨4, _⟩ => ⟨S8448, .i32⟩
  | .hbm, ⟨5, _⟩ => ⟨S4x16x1024x1024, .f32⟩
  | .hbm, ⟨6, _⟩ => ⟨S4x16x1024x1024, .f32⟩
  | .hbm, ⟨7, _⟩ => ⟨S4x16x1024x1024, .f32⟩
  | .hbm, ⟨8, _⟩ => ⟨S16x4096x1024, .f32⟩
  | .hbm, ⟨9, _⟩ => ⟨S_, .i32⟩
  | .hbm, ⟨10, _⟩ => ⟨S16x16x512, .i32⟩
  | .hbm, ⟨11, _⟩ => ⟨S16x16x512, .i1⟩
  | .hbm, ⟨12, _⟩ => ⟨S_, .i32⟩
  | .hbm, ⟨13, _⟩ => ⟨S16x16x512, .i32⟩
  | .hbm, ⟨14, _⟩ => ⟨S16x16x512, .i32⟩
  | .hbm, ⟨15, _⟩ => ⟨S16x16x512, .i32⟩
  | .hbm, ⟨16, _⟩ => ⟨S16x16x512x1, .i32⟩
  | .hbm, ⟨17, _⟩ => ⟨S16x16x512x1024, .f32⟩
  | .hbm, ⟨18, _⟩ => ⟨S_, .i32⟩
  | .hbm, ⟨19, _⟩ => ⟨S16x16x512, .i32⟩
  | .hbm, ⟨20, _⟩ => ⟨S16x16x512, .i1⟩
  | .hbm, ⟨21, _⟩ => ⟨S_, .i32⟩
  | .hbm, ⟨22, _⟩ => ⟨S16x16x512, .i32⟩
  | .hbm, ⟨23, _⟩ => ⟨S16x16x512, .i32⟩
  | .hbm, ⟨24, _⟩ => ⟨S16x16x512, .i32⟩
  | .hbm, ⟨25, _⟩ => ⟨S16x16x512x1, .i32⟩
  | .hbm, ⟨26, _⟩ => ⟨S1, .i32⟩
  | .hbm, ⟨27, _⟩ => ⟨S_, .i32⟩
  | .hbm, ⟨28, _⟩ => ⟨S16x16x512x1, .i32⟩
  | .hbm, ⟨29, _⟩ => ⟨S16x16x512x1, .i1⟩
  | .hbm, ⟨30, _⟩ => ⟨S1x1x1x1, .i32⟩
  | .hbm, ⟨31, _⟩ => ⟨S16x16x512x1, .i32⟩
  | .hbm, ⟨32, _⟩ => ⟨S16x16x512x1, .i1⟩
  | .hbm, ⟨33, _⟩ => ⟨S16x16x512x1, .i1⟩
  | .hbm, ⟨34, _⟩ => ⟨S_, .i1⟩
  | .hbm, ⟨35, _⟩ => ⟨S16x16x512, .i1⟩
  | .hbm, ⟨36, _⟩ => ⟨S16x16x512, .f32⟩
  | .hbm, ⟨37, _⟩ => ⟨S_, .f32⟩
  | .hbm, ⟨38, _⟩ => ⟨S16x16x512, .f32⟩
  | .hbm, ⟨39, _⟩ => ⟨S16x16x512, .f32⟩
  | .hbm, ⟨40, _⟩ => ⟨S1x16x1024x1024, .f32⟩
  | .hbm, ⟨41, _⟩ => ⟨S16x1024x1024, .f32⟩
  | .hbm, ⟨42, _⟩ => ⟨S16x1024x16x512, .f32⟩
  | .hbm, ⟨43, _⟩ => ⟨S16x16x512x1024, .f32⟩
  | .hbm, ⟨44, _⟩ => ⟨S16x16x512x1024, .f32⟩
  | .hbm, ⟨45, _⟩ => ⟨S16x16x512x1024, .f32⟩
  | .hbm, ⟨46, _⟩ => ⟨S_, .f32⟩
  | .hbm, ⟨47, _⟩ => ⟨S16x16x512x1024, .f32⟩
  | .hbm, ⟨48, _⟩ => ⟨S16x16x512x1024, .f32⟩
  | .hbm, ⟨49, _⟩ => ⟨S_, .f32⟩
  | .hbm, ⟨50, _⟩ => ⟨S16x16x512x1024, .f32⟩
  | .hbm, ⟨51, _⟩ => ⟨S16x16x512x1024, .f32⟩
  | .hbm, ⟨52, _⟩ => ⟨S16x16x512x1024, .f32⟩
  | .hbm, ⟨53, _⟩ => ⟨S1x16x1024x1024, .f32⟩
  | .hbm, ⟨54, _⟩ => ⟨S16x1024x1024, .f32⟩
  | .hbm, ⟨55, _⟩ => ⟨S16x1024x16x512, .f32⟩
  | .hbm, ⟨56, _⟩ => ⟨S16x16x512x1024, .f32⟩
  | .hbm, ⟨57, _⟩ => ⟨S16x16x512x1024, .f32⟩
  | .hbm, ⟨58, _⟩ => ⟨S1x16x1024x1024, .f32⟩
  | .hbm, ⟨59, _⟩ => ⟨S16x1024x1024, .f32⟩
  | .hbm, ⟨60, _⟩ => ⟨S16x1024x16x512, .f32⟩
  | .hbm, ⟨61, _⟩ => ⟨S16x16x512x1024, .f32⟩
  | .hbm, ⟨62, _⟩ => ⟨S16x16x512x1, .f32⟩
  | .hbm, ⟨63, _⟩ => ⟨S16x16x512x1024, .f32⟩
  | .hbm, ⟨64, _⟩ => ⟨S16x16x512x1024, .f32⟩
  | .hbm, ⟨65, _⟩ => ⟨S16x16x512x1024, .bf16⟩
  | _, _ => ⟨S16x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩

abbrev nD : Nat := 1
abbrev τ : Topo := Topo.v7x

variable {F : FTy → Type} [FloatOps F]
-- ==== Kernel5.lean ====
abbrev S16x4096x1024 : Shape := ⟨3, ![16, 4096, 1024]⟩
abbrev S16x16x512x1024 : Shape := ⟨4, ![16, 16, 512, 1024]⟩
abbrev S16x16x512 : Shape := ⟨3, ![16, 16, 512]⟩
abbrev S16x4096x16 : Shape := ⟨3, ![16, 4096, 16]⟩
abbrev S8448 : Shape := ⟨1, ![8448]⟩
abbrev S16x1x1024 : Shape := ⟨3, ![16, 1, 1024]⟩
abbrev S1024 : Shape := ⟨1, ![1024]⟩
abbrev S_ : Shape := ⟨0, ![]⟩
abbrev S24x1x1024 : Shape := ⟨3, ![24, 1, 1024]⟩
abbrev S1x1024 : Shape := ⟨2, ![1, 1024]⟩
abbrev S1x512x1024 : Shape := ⟨3, ![1, 512, 1024]⟩
abbrev S1x16x512x1024 : Shape := ⟨4, ![1, 16, 512, 1024]⟩
abbrev S1x512x16 : Shape := ⟨3, ![1, 512, 16]⟩
abbrev S1x1x1024 : Shape := ⟨3, ![1, 1, 1024]⟩
abbrev S512x1024 : Shape := ⟨2, ![512, 1024]⟩
abbrev S8x256x1024 : Shape := ⟨3, ![8, 256, 1024]⟩
abbrev S512x128 : Shape := ⟨2, ![512, 128]⟩
abbrev S1 : Shape := ⟨1, ![1]⟩
abbrev S1x1x128x1024 : Shape := ⟨4, ![1, 1, 128, 1024]⟩
abbrev S128x1024 : Shape := ⟨2, ![128, 1024]⟩
abbrev S1x128x1024 : Shape := ⟨3, ![1, 128, 1024]⟩
abbrev S1x512x1 : Shape := ⟨3, ![1, 512, 1]⟩
abbrev S512x1 : Shape := ⟨2, ![512, 1]⟩
abbrev S512x256 : Shape := ⟨2, ![512, 256]⟩
abbrev S1x256x1024 : Shape := ⟨3, ![1, 256, 1024]⟩
abbrev S256x1024 : Shape := ⟨2, ![256, 1024]⟩
abbrev S1x1x256x1024 : Shape := ⟨4, ![1, 1, 256, 1024]⟩
abbrev S512 : Shape := ⟨1, ![512]⟩

abbrev nBuf : Space → Nat
  | .hbm => 11
  | .vmem => 13
  | .smem => 1
  | _ => 0

abbrev bufTy : (tb : Table) → Fin (tcTables nBuf tb) → BufTy
  | .hbm, ⟨0, _⟩ => ⟨S16x4096x1024, .f32⟩
  | .hbm, ⟨1, _⟩ => ⟨S16x16x512x1024, .bf16⟩
  | .hbm, ⟨2, _⟩ => ⟨S16x16x512, .i32⟩
  | .hbm, ⟨3, _⟩ => ⟨S16x4096x16, .i32⟩
  | .hbm, ⟨4, _⟩ => ⟨S16x1x1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S24x1x1024, .f32⟩
  | .hbm, ⟨9, _⟩ => ⟨S1x1024, .f32⟩
  | .hbm, ⟨10, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x512x1024, .bf16⟩
  | .local _ .vmem, ⟨3, _⟩ => ⟨S1x16x512x1024, .bf16⟩
  | .local _ .vmem, ⟨4, _⟩ => ⟨S1x512x16, .i32⟩
  | .local _ .vmem, ⟨5, _⟩ => ⟨S1x512x16, .i32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S512x1024, .f32⟩
  | .local _ .vmem, ⟨12, _⟩ => ⟨S8x256x1024, .bf16⟩
  | .local _ .smem, ⟨0, _⟩ => ⟨S8448, .i32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v2 : BitVec 32 := Scalar.muli arg0 c16_i32
  let c0_i32 : BitVec 32 := 0#32
  let v3 : BitVec 32 := Scalar.addi v2 c0_i32
  let c33_i32 : BitVec 32 := 33#32
  let v4 : BitVec 32 := Scalar.muli v3 c33_i32
  let arg1 : BitVec 32 := BitVec.ofNat 32 (i 1).val
  let c4_i32 : BitVec 32 := 4#32
  let v5 : BitVec 32 := Scalar.muli arg1 c4_i32
  let v6 : BitVec 32 := Scalar.addi v4 v5
  let v7 : Index := Scalar.indexCast v6
  ![v7.toNat]
def k0_mult1 (v8 : BitVec 32) : BitVec 32 :=
  let c_m16_i32 : BitVec 32 := 4294967280#32
  let v9 : BitVec 32 := Scalar.andi v8 c_m16_i32
  let c384_i32 : BitVec 32 := 384#32
  let v10 : BitVec 32 := Scalar.minsi v9 c384_i32
  v10

def k0_off2 (v8 : BitVec 32) : Fin 4 → Nat :=
  let c0 : Index := 0#32
  let c0_0 : Index := 0#32
  let c_m16_i32 : BitVec 32 := 4294967280#32
  let v9 : BitVec 32 := Scalar.andi v8 c_m16_i32
  let c384_i32 : BitVec 32 := 384#32
  let v10 : BitVec 32 := Scalar.minsi v9 c384_i32
  let v11 : BitVec 32 := v10
  let v12 : Index := Scalar.indexCast v11
  let c0_1 : Index := 0#32
  ![0, 0, v12.toNat, 0]

def k0_chk1 (v8 : BitVec 32) : Prop :=
  (16 ∣ (k0_mult1 v8).toNat) ∧
  (∀ a, (k0_off2 v8) a + S1x1x128x1024.size a ≤ S1x16x512x1024.size a)
theorem k0_mult1_dvd : ∀ (v8 : BitVec 32) (k0_hw1 : k0_chk1 v8), 16 ∣ (k0_mult1 v8).toNat := fun v8 k0_hw1 => k0_hw1.1
theorem k0_off2_inb : ∀ (v8 : BitVec 32) (k0_hw1 : k0_chk1 v8), ∀ a, (k0_off2 v8) a + S1x1x128x1024.size a ≤ S1x16x512x1024.size a := fun v8 k0_hw1 => k0_hw1.2

def k0_off3 (i : grid0.Coords) : Fin 1 → Nat :=
  let arg0 : BitVec 32 := BitVec.ofNat 32 (i 0).val
  let c16_i32_10 : BitVec 32 := 16#32
  let v28 : BitVec 32 := Scalar.muli arg0 c16_i32_10
  let c1_i32 : BitVec 32 := 1#32
  let v29 : BitVec 32 := Scalar.addi v28 c1_i32
  let c33_i32_11 : BitVec 32 := 33#32
  let v30 : BitVec 32 := Scalar.muli v29 c33_i32_11
  let arg1 : BitVec 32 := BitVec.ofNat 32 (i 1).val
  let c4_i32_12 : BitVec 32 := 4#32
  let v31 : BitVec 32 := Scalar.muli arg1 c4_i32_12
  let v32 : BitVec 32 := Scalar.addi v30 v31
  let v33 : Index := Scalar.indexCast v32
  ![v33.toNat]
def k0_mult2 (v34 : BitVec 32) : BitVec 32 :=
  let c_m16_i32_13 : BitVec 32 := 4294967280#32
  let v35 : BitVec 32 := Scalar.andi v34 c_m16_i32_13
  let c384_i32_14 : BitVec 32 := 384#32
  let v36 : BitVec 32 := Scalar.minsi v35 c384_i32_14
  v36

def k0_off4 (v34 : BitVec 32) : Fin 4 → Nat :=
  let c0_15 : Index := 0#32
  let c1 : Index := 1#32
  let c_m16_i32_13 : BitVec 32 := 4294967280#32
  let v35 : BitVec 32 := Scalar.andi v34 c_m16_i32_13
  let c384_i32_14 : BitVec 32 := 384#32
  let v36 : BitVec 32 := Scalar.minsi v35 c384_i32_14
  let v37 : BitVec 32 := v36
  let v38 : Index := Scalar.indexCast v37
  let c0_16 : Index := 0#32
  ![0, 1, v38.toNat, 0]

def k0_chk2 (v34 : BitVec 32) : Prop :=
  (16 ∣ (k0_mult2 v34).toNat) ∧
  (∀ a, (k0_off4 v34) a + S1x1x128x1024.size a ≤ S1x16x512x1024.size a)
theorem k0_mult2_dvd : ∀ (v34 : BitVec 32) (k0_hw2 : k0_chk2 v34), 16 ∣ (k0_mult2 v34).toNat := fun v34 k0_hw2 => k0_hw2.1
theorem k0_off4_inb : ∀ (v34 : BitVec 32) (k0_hw2 : k0_chk2 v34), ∀ a, (k0_off4 v34) a + S1x1x128x1024.size a ≤ S1x16x512x1024.size a := fun v34 k0_hw2 => k0_hw2.2

def k0_off5 (i : grid0.Coords) : Fin 1 → Nat :=
  let arg0 : BitVec 32 := BitVec.ofNat 32 (i 0).val
  let c16_i32_28 : BitVec 32 := 16#32
  let v59 : BitVec 32 := Scalar.muli arg0 c16_i32_28
  let c2_i32 : BitVec 32 := 2#32
  let v60 : BitVec 32 := Scalar.addi v59 c2_i32
  let c33_i32_29 : BitVec 32 := 33#32
  let v61 : BitVec 32 := Scalar.muli v60 c33_i32_29
  let arg1 : BitVec 32 := BitVec.ofNat 32 (i 1).val
  let c4_i32_30 : BitVec 32 := 4#32
  let v62 : BitVec 32 := Scalar.muli arg1 c4_i32_30
  let v63 : BitVec 32 := Scalar.addi v61 v62
  let v64 : Index := Scalar.indexCast v63
  ![v64.toNat]
def k0_mult3 (v65 : BitVec 32) : BitVec 32 :=
  let c_m16_i32_31 : BitVec 32 := 4294967280#32
  let v66 : BitVec 32 := Scalar.andi v65 c_m16_i32_31
  let c384_i32_32 : BitVec 32 := 384#32
  let v67 : BitVec 32 := Scalar.minsi v66 c384_i32_32
  v67

def k0_off6 (v65 : BitVec 32) : Fin 4 → Nat :=
  let c0_33 : Index := 0#32
  let c2 : Index := 2#32
  let c_m16_i32_31 : BitVec 32 := 4294967280#32
  let v66 : BitVec 32 := Scalar.andi v65 c_m16_i32_31
  let c384_i32_32 : BitVec 32 := 384#32
  let v67 : BitVec 32 := Scalar.minsi v66 c384_i32_32
  let v68 : BitVec 32 := v67
  let v69 : Index := Scalar.indexCast v68
  let c0_34 : Index := 0#32
  ![0, 2, v69.toNat, 0]

def k0_chk3 (v65 : BitVec 32) : Prop :=
  (16 ∣ (k0_mult3 v65).toNat) ∧
  (∀ a, (k0_off6 v65) a + S1x1x128x1024.size a ≤ S1x16x512x1024.size a)
theorem k0_mult3_dvd : ∀ (v65 : BitVec 32) (k0_hw3 : k0_chk3 v65), 16 ∣ (k0_mult3 v65).toNat := fun v65 k0_hw3 => k0_hw3.1
theorem k0_off6_inb : ∀ (v65 : BitVec 32) (k0_hw3 : k0_chk3 v65), ∀ a, (k0_off6 v65) a + S1x1x128x1024.size a ≤ S1x16x512x1024.size a := fun v65 k0_hw3 => k0_hw3.2

def k0_off7 (i : grid0.Coords) : Fin 1 → Nat :=
  let arg0 : BitVec 32 := BitVec.ofNat 32 (i 0).val
  let c16_i32_43 : BitVec 32 := 16#32
  let v85 : BitVec 32 := Scalar.muli arg0 c16_i32_43
  let c3_i32 : BitVec 32 := 3#32
  let v86 : BitVec 32 := Scalar.addi v85 c3_i32
  let c33_i32_44 : BitVec 32 := 33#32
  let v87 : BitVec 32 := Scalar.muli v86 c33_i32_44
  let arg1 : BitVec 32 := BitVec.ofNat 32 (i 1).val
  let c4_i32_45 : BitVec 32 := 4#32
  let v88 : BitVec 32 := Scalar.muli arg1 c4_i32_45
  let v89 : BitVec 32 := Scalar.addi v87 v88
  let v90 : Index := Scalar.indexCast v89
  ![v90.toNat]
def k0_mult4 (v91 : BitVec 32) : BitVec 32 :=
  let c_m16_i32_46 : BitVec 32 := 4294967280#32
  let v92 : BitVec 32 := Scalar.andi v91 c_m16_i32_46
  let c384_i32_47 : BitVec 32 := 384#32
  let v93 : BitVec 32 := Scalar.minsi v92 c384_i32_47
  v93

def k0_off8 (v91 : BitVec 32) : Fin 4 → Nat :=
  let c0_48 : Index := 0#32
  let c3 : Index := 3#32
  let c_m16_i32_46 : BitVec 32 := 4294967280#32
  let v92 : BitVec 32 := Scalar.andi v91 c_m16_i32_46
  let c384_i32_47 : BitVec 32 := 384#32
  let v93 : BitVec 32 := Scalar.minsi v92 c384_i32_47
  let v94 : BitVec 32 := v93
  let v95 : Index := Scalar.indexCast v94
  let c0_49 : Index := 0#32
  ![0, 3, v95.toNat, 0]

def k0_chk4 (v91 : BitVec 32) : Prop :=
  (16 ∣ (k0_mult4 v91).toNat) ∧
  (∀ a, (k0_off8 v91) a + S1x1x128x1024.size a ≤ S1x16x512x1024.size a)
theorem k0_mult4_dvd : ∀ (v91 : BitVec 32) (k0_hw4 : k0_chk4 v91), 16 ∣ (k0_mult4 v91).toNat := fun v91 k0_hw4 => k0_hw4.1
theorem k0_off8_inb : ∀ (v91 : BitVec 32) (k0_hw4 : k0_chk4 v91), ∀ a, (k0_off8 v91) a + S1x1x128x1024.size a ≤ S1x16x512x1024.size a := fun v91 k0_hw4 => k0_hw4.2

def k0_off9 (i : grid0.Coords) : Fin 1 → Nat :=
  let arg0 : BitVec 32 := BitVec.ofNat 32 (i 0).val
  let c16_i32_62 : BitVec 32 := 16#32
  let v116 : BitVec 32 := Scalar.muli arg0 c16_i32_62
  let c4_i32_63 : BitVec 32 := 4#32
  let v117 : BitVec 32 := Scalar.addi v116 c4_i32_63
  let c33_i32_64 : BitVec 32 := 33#32
  let v118 : BitVec 32 := Scalar.muli v117 c33_i32_64
  let arg1 : BitVec 32 := BitVec.ofNat 32 (i 1).val
  let c4_i32_65 : BitVec 32 := 4#32
  let v119 : BitVec 32 := Scalar.muli arg1 c4_i32_65
  let v120 : BitVec 32 := Scalar.addi v118 v119
  let v121 : Index := Scalar.indexCast v120
  ![v121.toNat]
def k0_mult5 (v122 : BitVec 32) : BitVec 32 :=
  let c_m16_i32_66 : BitVec 32 := 4294967280#32
  let v123 : BitVec 32 := Scalar.andi v122 c_m16_i32_66
  let c384_i32_67 : BitVec 32 := 384#32
  let v124 : BitVec 32 := Scalar.minsi v123 c384_i32_67
  v124

def k0_off10 (v122 : BitVec 32) : Fin 4 → Nat :=
  let c0_68 : Index := 0#32
  let c4 : Index := 4#32
  let c_m16_i32_66 : BitVec 32 := 4294967280#32
  let v123 : BitVec 32 := Scalar.andi v122 c_m16_i32_66
  let c384_i32_67 : BitVec 32 := 384#32
  let v124 : BitVec 32 := Scalar.minsi v123 c384_i32_67
  let v125 : BitVec 32 := v124
  let v126 : Index := Scalar.indexCast v125
  let c0_69 : Index := 0#32
  ![0, 4, v126.toNat, 0]

def k0_chk5 (v122 : BitVec 32) : Prop :=
  (16 ∣ (k0_mult5 v122).toNat) ∧
  (∀ a, (k0_off10 v122) a + S1x1x128x1024.size a ≤ S1x16x512x1024.size a)
theorem k0_mult5_dvd : ∀ (v122 : BitVec 32) (k0_hw5 : k0_chk5 v122), 16 ∣ (k0_mult5 v122).toNat := fun v122 k0_hw5 => k0_hw5.1
theorem k0_off10_inb : ∀ (v122 : BitVec 32) (k0_hw5 : k0_chk5 v122), ∀ a, (k0_off10 v122) a + S1x1x128x1024.size a ≤ S1x16x512x1024.size a := fun v122 k0_hw5 => k0_hw5.2

def k0_off11 (i : grid0.Coords) : Fin 1 → Nat :=
  let arg0 : BitVec 32 := BitVec.ofNat 32 (i 0).val
  let c16_i32_78 : BitVec 32 := 16#32
  let v142 : BitVec 32 := Scalar.muli arg0 c16_i32_78
  let c5_i32 : BitVec 32 := 5#32
  let v143 : BitVec 32 := Scalar.addi v142 c5_i32
  let c33_i32_79 : BitVec 32 := 33#32
  let v144 : BitVec 32 := Scalar.muli v143 c33_i32_79
  let arg1 : BitVec 32 := BitVec.ofNat 32 (i 1).val
  let c4_i32_80 : BitVec 32 := 4#32
  let v145 : BitVec 32 := Scalar.muli arg1 c4_i32_80
  let v146 : BitVec 32 := Scalar.addi v144 v145
  let v147 : Index := Scalar.indexCast v146
  ![v147.toNat]
def k0_mult6 (v148 : BitVec 32) : BitVec 32 :=
  let c_m16_i32_81 : BitVec 32 := 4294967280#32
  let v149 : BitVec 32 := Scalar.andi v148 c_m16_i32_81
  let c384_i32_82 : BitVec 32 := 384#32
  let v150 : BitVec 32 := Scalar.minsi v149 c384_i32_82
  v150

def k0_off12 (v148 : BitVec 32) : Fin 4 → Nat :=
  let c0_83 : Index := 0#32
  let c5 : Index := 5#32
  let c_m16_i32_81 : BitVec 32 := 4294967280#32
  let v149 : BitVec 32 := Scalar.andi v148 c_m16_i32_81
  let c384_i32_82 : BitVec 32 := 384#32
  let v150 : BitVec 32 := Scalar.minsi v149 c384_i32_82
  let v151 : BitVec 32 := v150
  let v152 : Index := Scalar.indexCast v151
  let c0_84 : Index := 0#32
  ![0, 5, v152.toNat, 0]

def k0_chk6 (v148 : BitVec 32) : Prop :=
  (16 ∣ (k0_mult6 v148).toNat) ∧
  (∀ a, (k0_off12 v148) a + S1x1x128x1024.size a ≤ S1x16x512x1024.size a)
theorem k0_mult6_dvd : ∀ (v148 : BitVec 32) (k0_hw6 : k0_chk6 v148), 16 ∣ (k0_mult6 v148).toNat := fun v148 k0_hw6 => k0_hw6.1
theorem k0_off12_inb : ∀ (v148 : BitVec 32) (k0_hw6 : k0_chk6 v148), ∀ a, (k0_off12 v148) a + S1x1x128x1024.size a ≤ S1x16x512x1024.size a := fun v148 k0_hw6 => k0_hw6.2

def k0_off13 (i : grid0.Coords) : Fin 1 → Nat :=
  let arg0 : BitVec 32 := BitVec.ofNat 32 (i 0).val
  let c16_i32_97 : BitVec 32 := 16#32
  let v173 : BitVec 32 := Scalar.muli arg0 c16_i32_97
  let c6_i32 : BitVec 32 := 6#32
  let v174 : BitVec 32 := Scalar.addi v173 c6_i32
  let c33_i32_98 : BitVec 32 := 33#32
  let v175 : BitVec 32 := Scalar.muli v174 c33_i32_98
  let arg1 : BitVec 32 := BitVec.ofNat 32 (i 1).val
  let c4_i32_99 : BitVec 32 := 4#32
  let v176 : BitVec 32 := Scalar.muli arg1 c4_i32_99
  let v177 : BitVec 32 := Scalar.addi v175 v176
  let v178 : Index := Scalar.indexCast v177
  ![v178.toNat]
def k0_mult7 (v179 : BitVec 32) : BitVec 32 :=
  let c_m16_i32_100 : BitVec 32 := 4294967280#32
  let v180 : BitVec 32 := Scalar.andi v179 c_m16_i32_100
  let c384_i32_101 : BitVec 32 := 384#32
  let v181 : BitVec 32 := Scalar.minsi v180 c384_i32_101
  v181

def k0_off14 (v179 : BitVec 32) : Fin 4 → Nat :=
  let c0_102 : Index := 0#32
  let c6 : Index := 6#32
  let c_m16_i32_100 : BitVec 32 := 4294967280#32
  let v180 : BitVec 32 := Scalar.andi v179 c_m16_i32_100
  let c384_i32_101 : BitVec 32 := 384#32
  let v181 : BitVec 32 := Scalar.minsi v180 c384_i32_101
  let v182 : BitVec 32 := v181
  let v183 : Index := Scalar.indexCast v182
  let c0_103 : Index := 0#32
  ![0, 6, v183.toNat, 0]

def k0_chk7 (v179 : BitVec 32) : Prop :=
  (16 ∣ (k0_mult7 v179).toNat) ∧
  (∀ a, (k0_off14 v179) a + S1x1x128x1024.size a ≤ S1x16x512x1024.size a)
theorem k0_mult7_dvd : ∀ (v179 : BitVec 32) (k0_hw7 : k0_chk7 v179), 16 ∣ (k0_mult7 v179).toNat := fun v179 k0_hw7 => k0_hw7.1
theorem k0_off14_inb : ∀ (v179 : BitVec 32) (k0_hw7 : k0_chk7 v179), ∀ a, (k0_off14 v179) a + S1x1x128x1024.size a ≤ S1x16x512x1024.size a := fun v179 k0_hw7 => k0_hw7.2

def k0_off15 (i : grid0.Coords) : Fin 1 → Nat :=
  let arg0 : BitVec 32 := BitVec.ofNat 32 (i 0).val
  let c16_i32_112 : BitVec 32 := 16#32
  let v199 : BitVec 32 := Scalar.muli arg0 c16_i32_112
  let c7_i32 : BitVec 32 := 7#32
  let v200 : BitVec 32 := Scalar.addi v199 c7_i32
  let c33_i32_113 : BitVec 32 := 33#32
  let v201 : BitVec 32 := Scalar.muli v200 c33_i32_113
  let arg1 : BitVec 32 := BitVec.ofNat 32 (i 1).val
  let c4_i32_114 : BitVec 32 := 4#32
  let v202 : BitVec 32 := Scalar.muli arg1 c4_i32_114
  let v203 : BitVec 32 := Scalar.addi v201 v202
  let v204 : Index := Scalar.indexCast v203
  ![v204.toNat]
def k0_mult8 (v205 : BitVec 32) : BitVec 32 :=
  let c_m16_i32_115 : BitVec 32 := 4294967280#32
  let v206 : BitVec 32 := Scalar.andi v205 c_m16_i32_115
  let c384_i32_116 : BitVec 32 := 384#32
  let v207 : BitVec 32 := Scalar.minsi v206 c384_i32_116
  v207

def k0_off16 (v205 : BitVec 32) : Fin 4 → Nat :=
  let c0_117 : Index := 0#32
  let c7 : Index := 7#32
  let c_m16_i32_115 : BitVec 32 := 4294967280#32
  let v206 : BitVec 32 := Scalar.andi v205 c_m16_i32_115
  let c384_i32_116 : BitVec 32 := 384#32
  let v207 : BitVec 32 := Scalar.minsi v206 c384_i32_116
  let v208 : BitVec 32 := v207
  let v209 : Index := Scalar.indexCast v208
  let c0_118 : Index := 0#32
  ![0, 7, v209.toNat, 0]

def k0_chk8 (v205 : BitVec 32) : Prop :=
  (16 ∣ (k0_mult8 v205).toNat) ∧
  (∀ a, (k0_off16 v205) a + S1x1x128x1024.size a ≤ S1x16x512x1024.size a)
theorem k0_mult8_dvd : ∀ (v205 : BitVec 32) (k0_hw8 : k0_chk8 v205), 16 ∣ (k0_mult8 v205).toNat := fun v205 k0_hw8 => k0_hw8.1
theorem k0_off16_inb : ∀ (v205 : BitVec 32) (k0_hw8 : k0_chk8 v205), ∀ a, (k0_off16 v205) a + S1x1x128x1024.size a ≤ S1x16x512x1024.size a := fun v205 k0_hw8 => k0_hw8.2

def k0_off17 (i : grid0.Coords) : Fin 1 → Nat :=
  let arg0 : BitVec 32 := BitVec.ofNat 32 (i 0).val
  let c16_i32_131 : BitVec 32 := 16#32
  let v230 : BitVec 32 := Scalar.muli arg0 c16_i32_131
  let c8_i32 : BitVec 32 := 8#32
  let v231 : BitVec 32 := Scalar.addi v230 c8_i32
  let c33_i32_132 : BitVec 32 := 33#32
  let v232 : BitVec 32 := Scalar.muli v231 c33_i32_132
  let arg1 : BitVec 32 := BitVec.ofNat 32 (i 1).val
  let c4_i32_133 : BitVec 32 := 4#32
  let v233 : BitVec 32 := Scalar.muli arg1 c4_i32_133
  let v234 : BitVec 32 := Scalar.addi v232 v233
  let v235 : Index := Scalar.indexCast v234
  ![v235.toNat]
def k0_mult9 (v236 : BitVec 32) : BitVec 32 :=
  let c_m16_i32_134 : BitVec 32 := 4294967280#32
  let v237 : BitVec 32 := Scalar.andi v236 c_m16_i32_134
  let c384_i32_135 : BitVec 32 := 384#32
  let v238 : BitVec 32 := Scalar.minsi v237 c384_i32_135
  v238

def k0_off18 (v236 : BitVec 32) : Fin 4 → Nat :=
  let c0_136 : Index := 0#32
  let c8 : Index := 8#32
  let c_m16_i32_134 : BitVec 32 := 4294967280#32
  let v237 : BitVec 32 := Scalar.andi v236 c_m16_i32_134
  let c384_i32_135 : BitVec 32 := 384#32
  let v238 : BitVec 32 := Scalar.minsi v237 c384_i32_135
  let v239 : BitVec 32 := v238
  let v240 : Index := Scalar.indexCast v239
  let c0_137 : Index := 0#32
  ![0, 8, v240.toNat, 0]

def k0_chk9 (v236 : BitVec 32) : Prop :=
  (16 ∣ (k0_mult9 v236).toNat) ∧
  (∀ a, (k0_off18 v236) a + S1x1x128x1024.size a ≤ S1x16x512x1024.size a)
theorem k0_mult9_dvd : ∀ (v236 : BitVec 32) (k0_hw9 : k0_chk9 v236), 16 ∣ (k0_mult9 v236).toNat := fun v236 k0_hw9 => k0_hw9.1
theorem k0_off18_inb : ∀ (v236 : BitVec 32) (k0_hw9 : k0_chk9 v236), ∀ a, (k0_off18 v236) a + S1x1x128x1024.size a ≤ S1x16x512x1024.size a := fun v236 k0_hw9 => k0_hw9.2

def k0_off19 (i : grid0.Coords) : Fin 1 → Nat :=
  let arg0 : BitVec 32 := BitVec.ofNat 32 (i 0).val
  let c16_i32_146 : BitVec 32 := 16#32
  let v256 : BitVec 32 := Scalar.muli arg0 c16_i32_146
  let c9_i32 : BitVec 32 := 9#32
  let v257 : BitVec 32 := Scalar.addi v256 c9_i32
  let c33_i32_147 : BitVec 32 := 33#32
  let v258 : BitVec 32 := Scalar.muli v257 c33_i32_147
  let arg1 : BitVec 32 := BitVec.ofNat 32 (i 1).val
  let c4_i32_148 : BitVec 32 := 4#32
  let v259 : BitVec 32 := Scalar.muli arg1 c4_i32_148
  let v260 : BitVec 32 := Scalar.addi v258 v259
  let v261 : Index := Scalar.indexCast v260
  ![v261.toNat]
def k0_mult10 (v262 : BitVec 32) : BitVec 32 :=
  let c_m16_i32_149 : BitVec 32 := 4294967280#32
  let v263 : BitVec 32 := Scalar.andi v262 c_m16_i32_149
  let c384_i32_150 : BitVec 32 := 384#32
  let v264 : BitVec 32 := Scalar.minsi v263 c384_i32_150
  v264

def k0_off20 (v262 : BitVec 32) : Fin 4 → Nat :=
  let c0_151 : Index := 0#32
  let c9 : Index := 9#32
  let c_m16_i32_149 : BitVec 32 := 4294967280#32
  let v263 : BitVec 32 := Scalar.andi v262 c_m16_i32_149
  let c384_i32_150 : BitVec 32 := 384#32
  let v264 : BitVec 32 := Scalar.minsi v263 c384_i32_150
  let v265 : BitVec 32 := v264
  let v266 : Index := Scalar.indexCast v265
  let c0_152 : Index := 0#32
  ![0, 9, v266.toNat, 0]

def k0_chk10 (v262 : BitVec 32) : Prop :=
  (16 ∣ (k0_mult10 v262).toNat) ∧
  (∀ a, (k0_off20 v262) a + S1x1x128x1024.size a ≤ S1x16x512x1024.size a)
theorem k0_mult10_dvd : ∀ (v262 : BitVec 32) (k0_hw10 : k0_chk10 v262), 16 ∣ (k0_mult10 v262).toNat := fun v262 k0_hw10 => k0_hw10.1
theorem k0_off20_inb : ∀ (v262 : BitVec 32) (k0_hw10 : k0_chk10 v262), ∀ a, (k0_off20 v262) a + S1x1x128x1024.size a ≤ S1x16x512x1024.size a := fun v262 k0_hw10 => k0_hw10.2

def k0_off21 (i : grid0.Coords) : Fin 1 → Nat :=
  let arg0 : BitVec 32 := BitVec.ofNat 32 (i 0).val
  let c16_i32_165 : BitVec 32 := 16#32
  let v287 : BitVec 32 := Scalar.muli arg0 c16_i32_165
  let c10_i32 : BitVec 32 := 10#32
  let v288 : BitVec 32 := Scalar.addi v287 c10_i32
  let c33_i32_166 : BitVec 32 := 33#32
  let v289 : BitVec 32 := Scalar.muli v288 c33_i32_166
  let arg1 : BitVec 32 := BitVec.ofNat 32 (i 1).val
  let c4_i32_167 : BitVec 32 := 4#32
  let v290 : BitVec 32 := Scalar.muli arg1 c4_i32_167
  let v291 : BitVec 32 := Scalar.addi v289 v290
  let v292 : Index := Scalar.indexCast v291
  ![v292.toNat]
def k0_mult11 (v293 : BitVec 32) : BitVec 32 :=
  let c_m16_i32_168 : BitVec 32 := 4294967280#32
  let v294 : BitVec 32 := Scalar.andi v293 c_m16_i32_168
  let c384_i32_169 : BitVec 32 := 384#32
  let v295 : BitVec 32 := Scalar.minsi v294 c384_i32_169
  v295

def k0_off22 (v293 : BitVec 32) : Fin 4 → Nat :=
  let c0_170 : Index := 0#32
  let c10 : Index := 10#32
  let c_m16_i32_168 : BitVec 32 := 4294967280#32
  let v294 : BitVec 32 := Scalar.andi v293 c_m16_i32_168
  let c384_i32_169 : BitVec 32 := 384#32
  let v295 : BitVec 32 := Scalar.minsi v294 c384_i32_169
  let v296 : BitVec 32 := v295
  let v297 : Index := Scalar.indexCast v296
  let c0_171 : Index := 0#32
  ![0, 10, v297.toNat, 0]

def k0_chk11 (v293 : BitVec 32) : Prop :=
  (16 ∣ (k0_mult11 v293).toNat) ∧
  (∀ a, (k0_off22 v293) a + S1x1x128x1024.size a ≤ S1x16x512x1024.size a)
theorem k0_mult11_dvd : ∀ (v293 : BitVec 32) (k0_hw11 : k0_chk11 v293), 16 ∣ (k0_mult11 v293).toNat := fun v293 k0_hw11 => k0_hw11.1
theorem k0_off22_inb : ∀ (v293 : BitVec 32) (k0_hw11 : k0_chk11 v293), ∀ a, (k0_off22 v293) a + S1x1x128x1024.size a ≤ S1x16x512x1024.size a := fun v293 k0_hw11 => k0_hw11.2

def k0_off23 (i : grid0.Coords) : Fin 1 → Nat :=
  let arg0 : BitVec 32 := BitVec.ofNat 32 (i 0).val
  let c16_i32_180 : BitVec 32 := 16#32
  let v313 : BitVec 32 := Scalar.muli arg0 c16_i32_180
  let c11_i32 : BitVec 32 := 11#32
  let v314 : BitVec 32 := Scalar.addi v313 c11_i32
  let c33_i32_181 : BitVec 32 := 33#32
  let v315 : BitVec 32 := Scalar.muli v314 c33_i32_181
  let arg1 : BitVec 32 := BitVec.ofNat 32 (i 1).val
  let c4_i32_182 : BitVec 32 := 4#32
  let v316 : BitVec 32 := Scalar.muli arg1 c4_i32_182
  let v317 : BitVec 32 := Scalar.addi v315 v316
  let v318 : Index := Scalar.indexCast v317
  ![v318.toNat]
def k0_mult12 (v319 : BitVec 32) : BitVec 32 :=
  let c_m16_i32_183 : BitVec 32 := 4294967280#32
  let v320 : BitVec 32 := Scalar.andi v319 c_m16_i32_183
  let c384_i32_184 : BitVec 32 := 384#32
  let v321 : BitVec 32 := Scalar.minsi v320 c384_i32_184
  v321

def k0_off24 (v319 : BitVec 32) : Fin 4 → Nat :=
  let c0_185 : Index := 0#32
  let c11 : Index := 11#32
  let c_m16_i32_183 : BitVec 32 := 4294967280#32
  let v320 : BitVec 32 := Scalar.andi v319 c_m16_i32_183
  let c384_i32_184 : BitVec 32 := 384#32
  let v321 : BitVec 32 := Scalar.minsi v320 c384_i32_184
  let v322 : BitVec 32 := v321
  let v323 : Index := Scalar.indexCast v322
  let c0_186 : Index := 0#32
  ![0, 11, v323.toNat, 0]

def k0_chk12 (v319 : BitVec 32) : Prop :=
  (16 ∣ (k0_mult12 v319).toNat) ∧
  (∀ a, (k0_off24 v319) a + S1x1x128x1024.size a ≤ S1x16x512x1024.size a)
theorem k0_mult12_dvd : ∀ (v319 : BitVec 32) (k0_hw12 : k0_chk12 v319), 16 ∣ (k0_mult12 v319).toNat := fun v319 k0_hw12 => k0_hw12.1
theorem k0_off24_inb : ∀ (v319 : BitVec 32) (k0_hw12 : k0_chk12 v319), ∀ a, (k0_off24 v319) a + S1x1x128x1024.size a ≤ S1x16x512x1024.size a := fun v319 k0_hw12 => k0_hw12.2

def k0_off25 (i : grid0.Coords) : Fin 1 → Nat :=
  let arg0 : BitVec 32 := BitVec.ofNat 32 (i 0).val
  let c16_i32_199 : BitVec 32 := 16#32
  let v344 : BitVec 32 := Scalar.muli arg0 c16_i32_199
  let c12_i32 : BitVec 32 := 12#32
  let v345 : BitVec 32 := Scalar.addi v344 c12_i32
  let c33_i32_200 : BitVec 32 := 33#32
  let v346 : BitVec 32 := Scalar.muli v345 c33_i32_200
  let arg1 : BitVec 32 := BitVec.ofNat 32 (i 1).val
  let c4_i32_201 : BitVec 32 := 4#32
  let v347 : BitVec 32 := Scalar.muli arg1 c4_i32_201
  let v348 : BitVec 32 := Scalar.addi v346 v347
  let v349 : Index := Scalar.indexCast v348
  ![v349.toNat]
def k0_mult13 (v350 : BitVec 32) : BitVec 32 :=
  let c_m16_i32_202 : BitVec 32 := 4294967280#32
  let v351 : BitVec 32 := Scalar.andi v350 c_m16_i32_202
  let c384_i32_203 : BitVec 32 := 384#32
  let v352 : BitVec 32 := Scalar.minsi v351 c384_i32_203
  v352

def k0_off26 (v350 : BitVec 32) : Fin 4 → Nat :=
  let c0_204 : Index := 0#32
  let c12 : Index := 12#32
  let c_m16_i32_202 : BitVec 32 := 4294967280#32
  let v351 : BitVec 32 := Scalar.andi v350 c_m16_i32_202
  let c384_i32_203 : BitVec 32 := 384#32
  let v352 : BitVec 32 := Scalar.minsi v351 c384_i32_203
  let v353 : BitVec 32 := v352
  let v354 : Index := Scalar.indexCast v353
  let c0_205 : Index := 0#32
  ![0, 12, v354.toNat, 0]

def k0_chk13 (v350 : BitVec 32) : Prop :=
  (16 ∣ (k0_mult13 v350).toNat) ∧
  (∀ a, (k0_off26 v350) a + S1x1x128x1024.size a ≤ S1x16x512x1024.size a)
theorem k0_mult13_dvd : ∀ (v350 : BitVec 32) (k0_hw13 : k0_chk13 v350), 16 ∣ (k0_mult13 v350).toNat := fun v350 k0_hw13 => k0_hw13.1
theorem k0_off26_inb : ∀ (v350 : BitVec 32) (k0_hw13 : k0_chk13 v350), ∀ a, (k0_off26 v350) a + S1x1x128x1024.size a ≤ S1x16x512x1024.size a := fun v350 k0_hw13 => k0_hw13.2

def k0_off27 (i : grid0.Coords) : Fin 1 → Nat :=
  let arg0 : BitVec 32 := BitVec.ofNat 32 (i 0).val
  let c16_i32_214 : BitVec 32 := 16#32
  let v370 : BitVec 32 := Scalar.muli arg0 c16_i32_214
  let c13_i32 : BitVec 32 := 13#32
  let v371 : BitVec 32 := Scalar.addi v370 c13_i32
  let c33_i32_215 : BitVec 32 := 33#32
  let v372 : BitVec 32 := Scalar.muli v371 c33_i32_215
  let arg1 : BitVec 32 := BitVec.ofNat 32 (i 1).val
  let c4_i32_216 : BitVec 32 := 4#32
  let v373 : BitVec 32 := Scalar.muli arg1 c4_i32_216
  let v374 : BitVec 32 := Scalar.addi v372 v373
  let v375 : Index := Scalar.indexCast v374
  ![v375.toNat]
def k0_mult14 (v376 : BitVec 32) : BitVec 32 :=
  let c_m16_i32_217 : BitVec 32 := 4294967280#32
  let v377 : BitVec 32 := Scalar.andi v376 c_m16_i32_217
  let c384_i32_218 : BitVec 32 := 384#32
  let v378 : BitVec 32 := Scalar.minsi v377 c384_i32_218
  v378

def k0_off28 (v376 : BitVec 32) : Fin 4 → Nat :=
  let c0_219 : Index := 0#32
  let c13 : Index := 13#32
  let c_m16_i32_217 : BitVec 32 := 4294967280#32
  let v377 : BitVec 32 := Scalar.andi v376 c_m16_i32_217
  let c384_i32_218 : BitVec 32 := 384#32
  let v378 : BitVec 32 := Scalar.minsi v377 c384_i32_218
  let v379 : BitVec 32 := v378
  let v380 : Index := Scalar.indexCast v379
  let c0_220 : Index := 0#32
  ![0, 13, v380.toNat, 0]

def k0_chk14 (v376 : BitVec 32) : Prop :=
  (16 ∣ (k0_mult14 v376).toNat) ∧
  (∀ a, (k0_off28 v376) a + S1x1x128x1024.size a ≤ S1x16x512x1024.size a)
theorem k0_mult14_dvd : ∀ (v376 : BitVec 32) (k0_hw14 : k0_chk14 v376), 16 ∣ (k0_mult14 v376).toNat := fun v376 k0_hw14 => k0_hw14.1
theorem k0_off28_inb : ∀ (v376 : BitVec 32) (k0_hw14 : k0_chk14 v376), ∀ a, (k0_off28 v376) a + S1x1x128x1024.size a ≤ S1x16x512x1024.size a := fun v376 k0_hw14 => k0_hw14.2

def k0_off29 (i : grid0.Coords) : Fin 1 → Nat :=
  let arg0 : BitVec 32 := BitVec.ofNat 32 (i 0).val
  let c16_i32_233 : BitVec 32 := 16#32
  let v401 : BitVec 32 := Scalar.muli arg0 c16_i32_233
  let c14_i32 : BitVec 32 := 14#32
  let v402 : BitVec 32 := Scalar.addi v401 c14_i32
  let c33_i32_234 : BitVec 32 := 33#32
  let v403 : BitVec 32 := Scalar.muli v402 c33_i32_234
  let arg1 : BitVec 32 := BitVec.ofNat 32 (i 1).val
  let c4_i32_235 : BitVec 32 := 4#32
  let v404 : BitVec 32 := Scalar.muli arg1 c4_i32_235
  let v405 : BitVec 32 := Scalar.addi v403 v404
  let v406 : Index := Scalar.indexCast v405
  ![v406.toNat]
def k0_mult15 (v407 : BitVec 32) : BitVec 32 :=
  let c_m16_i32_236 : BitVec 32 := 4294967280#32
  let v408 : BitVec 32 := Scalar.andi v407 c_m16_i32_236
  let c384_i32_237 : BitVec 32 := 384#32
  let v409 : BitVec 32 := Scalar.minsi v408 c384_i32_237
  v409

def k0_off30 (v407 : BitVec 32) : Fin 4 → Nat :=
  let c0_238 : Index := 0#32
  let c14 : Index := 14#32
  let c_m16_i32_236 : BitVec 32 := 4294967280#32
  let v408 : BitVec 32 := Scalar.andi v407 c_m16_i32_236
  let c384_i32_237 : BitVec 32 := 384#32
  let v409 : BitVec 32 := Scalar.minsi v408 c384_i32_237
  let v410 : BitVec 32 := v409
  let v411 : Index := Scalar.indexCast v410
  let c0_239 : Index := 0#32
  ![0, 14, v411.toNat, 0]

def k0_chk15 (v407 : BitVec 32) : Prop :=
  (16 ∣ (k0_mult15 v407).toNat) ∧
  (∀ a, (k0_off30 v407) a + S1x1x128x1024.size a ≤ S1x16x512x1024.size a)
theorem k0_mult15_dvd : ∀ (v407 : BitVec 32) (k0_hw15 : k0_chk15 v407), 16 ∣ (k0_mult15 v407).toNat := fun v407 k0_hw15 => k0_hw15.1
theorem k0_off30_inb : ∀ (v407 : BitVec 32) (k0_hw15 : k0_chk15 v407), ∀ a, (k0_off30 v407) a + S1x1x128x1024.size a ≤ S1x16x512x1024.size a := fun v407 k0_hw15 => k0_hw15.2

def k0_off31 (i : grid0.Coords) : Fin 1 → Nat :=
  let arg0 : BitVec 32 := BitVec.ofNat 32 (i 0).val
  let c16_i32_248 : BitVec 32 := 16#32
  let v427 : BitVec 32 := Scalar.muli arg0 c16_i32_248
  let c15_i32 : BitVec 32 := 15#32
  let v428 : BitVec 32 := Scalar.addi v427 c15_i32
  let c33_i32_249 : BitVec 32 := 33#32
  let v429 : BitVec 32 := Scalar.muli v428 c33_i32_249
  let arg1 : BitVec 32 := BitVec.ofNat 32 (i 1).val
  let c4_i32_250 : BitVec 32 := 4#32
  let v430 : BitVec 32 := Scalar.muli arg1 c4_i32_250
  let v431 : BitVec 32 := Scalar.addi v429 v430
  let v432 : Index := Scalar.indexCast v431
  ![v432.toNat]
def k0_mult16 (v433 : BitVec 32) : BitVec 32 :=
  let c_m16_i32_251 : BitVec 32 := 4294967280#32
  let v434 : BitVec 32 := Scalar.andi v433 c_m16_i32_251
  let c384_i32_252 : BitVec 32 := 384#32
  let v435 : BitVec 32 := Scalar.minsi v434 c384_i32_252
  v435

def k0_off32 (v433 : BitVec 32) : Fin 4 → Nat :=
  let c0_253 : Index := 0#32
  let c15 : Index := 15#32
  let c_m16_i32_251 : BitVec 32 := 4294967280#32
  let v434 : BitVec 32 := Scalar.andi v433 c_m16_i32_251
  let c384_i32_252 : BitVec 32 := 384#32
  let v435 : BitVec 32 := Scalar.minsi v434 c384_i32_252
  let v436 : BitVec 32 := v435
  let v437 : Index := Scalar.indexCast v436
  let c0_254 : Index := 0#32
  ![0, 15, v437.toNat, 0]

def k0_chk16 (v433 : BitVec 32) : Prop :=
  (16 ∣ (k0_mult16 v433).toNat) ∧
  (∀ a, (k0_off32 v433) a + S1x1x128x1024.size a ≤ S1x16x512x1024.size a)
theorem k0_mult16_dvd : ∀ (v433 : BitVec 32) (k0_hw16 : k0_chk16 v433), 16 ∣ (k0_mult16 v433).toNat := fun v433 k0_hw16 => k0_hw16.1
theorem k0_off32_inb : ∀ (v433 : BitVec 32) (k0_hw16 : k0_chk16 v433), ∀ a, (k0_off32 v433) a + S1x1x128x1024.size a ≤ S1x16x512x1024.size a := fun v433 k0_hw16 => k0_hw16.2

def k0_off33 (i : grid0.Coords) : Fin 1 → Nat :=
  let arg0 : BitVec 32 := BitVec.ofNat 32 (i 0).val
  let c16_i32_269 : BitVec 32 := 16#32
  let v462 : BitVec 32 := Scalar.muli arg0 c16_i32_269
  let c0_i32_270 : BitVec 32 := 0#32
  let v463 : BitVec 32 := Scalar.addi v462 c0_i32_270
  let c33_i32_271 : BitVec 32 := 33#32
  let v464 : BitVec 32 := Scalar.muli v463 c33_i32_271
  let arg1 : BitVec 32 := BitVec.ofNat 32 (i 1).val
  let c4_i32_272 : BitVec 32 := 4#32
  let v465 : BitVec 32 := Scalar.muli arg1 c4_i32_272
  let v466 : BitVec 32 := Scalar.addi v464 v465
  let v467 : Index := Scalar.indexCast v466
  ![v467.toNat]
def k0_off34 (i : grid0.Coords) : Fin 1 → Nat :=
  let arg0 : BitVec 32 := BitVec.ofNat 32 (i 0).val
  let c16_i32_269 : BitVec 32 := 16#32
  let v462 : BitVec 32 := Scalar.muli arg0 c16_i32_269
  let c0_i32_270 : BitVec 32 := 0#32
  let v463 : BitVec 32 := Scalar.addi v462 c0_i32_270
  let c33_i32_271 : BitVec 32 := 33#32
  let v464 : BitVec 32 := Scalar.muli v463 c33_i32_271
  let arg1 : BitVec 32 := BitVec.ofNat 32 (i 1).val
  let c1_i32_273 : BitVec 32 := 1#32
  let v469 : BitVec 32 := Scalar.addi arg1 c1_i32_273
  let c4_i32_274 : BitVec 32 := 4#32
  let v470 : BitVec 32 := Scalar.muli v469 c4_i32_274
  let v471 : BitVec 32 := Scalar.addi v464 v470
  let v472 : Index := Scalar.indexCast v471
  ![v472.toNat]
@[reducible] def k0_t1_loop (v468 : BitVec 32) (v473 : BitVec 32) : Scf.Loop 32 :=
  let c_m16_i32_275 : BitVec 32 := 4294967280#32
  let v474 : BitVec 32 := Scalar.andi v468 c_m16_i32_275
  let c384_i32_276 : BitVec 32 := 384#32
  let v475 : BitVec 32 := Scalar.minsi v474 c384_i32_276
  let c128_i32 : BitVec 32 := 128#32
  let v476 : BitVec 32 := Scalar.addi v475 c128_i32
  let c8_i32_277 : BitVec 32 := 8#32
  let v477 : BitVec 32 := Scalar.shrui v476 c8_i32_277
  let v478 : BitVec 1 := Scalar.cmpi .sgt v473 v476
  let c255_i32 : BitVec 32 := 255#32
  let v479 : BitVec 32 := Scalar.addi v473 c255_i32
  let c8_i32_278 : BitVec 32 := 8#32
  let v480 : BitVec 32 := Scalar.shrui v479 c8_i32_278
  let v481 : BitVec 32 := Scalar.select v478 v480 v477
  let v482 : BitVec 32 := Scalar.subi v481 v477
  let c1_i32_280 : BitVec 32 := 1#32
  let v484 : BitVec 32 := Scalar.divsi v482 c1_i32_280
  let v485 : BitVec 32 := Scalar.muli v484 c1_i32_280
  let v486 : BitVec 32 := Scalar.addi v477 v485
  let c1_i32_281 : BitVec 32 := 1#32
  ⟨v477, v486, c1_i32_281⟩

def k0_mult17 (v468 : BitVec 32) (v473 : BitVec 32) (k0_t1 : Fin (k0_t1_loop v468 v473).trips) : BitVec 32 :=
  let c_m16_i32_275 : BitVec 32 := 4294967280#32
  let v474 : BitVec 32 := Scalar.andi v468 c_m16_i32_275
  let c384_i32_276 : BitVec 32 := 384#32
  let v475 : BitVec 32 := Scalar.minsi v474 c384_i32_276
  let c128_i32 : BitVec 32 := 128#32
  let v476 : BitVec 32 := Scalar.addi v475 c128_i32
  let c8_i32_277 : BitVec 32 := 8#32
  let v477 : BitVec 32 := Scalar.shrui v476 c8_i32_277
  let c1_i32_281 : BitVec 32 := 1#32
  let arg11 : BitVec 32 := Scf.iv v477 c1_i32_281 k0_t1
  let c256_i32 : BitVec 32 := 256#32
  let v887 : BitVec 32 := Scalar.muli arg11 c256_i32
  v887
def k0_off35 (v468 : BitVec 32) (v473 : BitVec 32) (k0_t1 : Fin (k0_t1_loop v468 v473).trips) : Fin 4 → Nat :=
  let c0_546 : Index := 0#32
  let c0_547 : Index := 0#32
  let c_m16_i32_275 : BitVec 32 := 4294967280#32
  let v474 : BitVec 32 := Scalar.andi v468 c_m16_i32_275
  let c384_i32_276 : BitVec 32 := 384#32
  let v475 : BitVec 32 := Scalar.minsi v474 c384_i32_276
  let c128_i32 : BitVec 32 := 128#32
  let v476 : BitVec 32 := Scalar.addi v475 c128_i32
  let c8_i32_277 : BitVec 32 := 8#32
  let v477 : BitVec 32 := Scalar.shrui v476 c8_i32_277
  let c1_i32_281 : BitVec 32 := 1#32
  let arg11 : BitVec 32 := Scf.iv v477 c1_i32_281 k0_t1
  let c256_i32 : BitVec 32 := 256#32
  let v887 : BitVec 32 := Scalar.muli arg11 c256_i32
  let v888 : BitVec 32 := v887
  let v904 : Index := Scalar.indexCast v888
  let c0_548 : Index := 0#32
  ![0, 0, v904.toNat, 0]
@[reducible] def k0_t2_loop (v468 : BitVec 32) (v473 : BitVec 32) : Scf.Loop 32 :=
  let c_m16_i32_275 : BitVec 32 := 4294967280#32
  let v474 : BitVec 32 := Scalar.andi v468 c_m16_i32_275
  let c384_i32_276 : BitVec 32 := 384#32
  let v475 : BitVec 32 := Scalar.minsi v474 c384_i32_276
  let c128_i32 : BitVec 32 := 128#32
  let v476 : BitVec 32 := Scalar.addi v475 c128_i32
  let c8_i32_277 : BitVec 32 := 8#32
  let v477 : BitVec 32 := Scalar.shrui v476 c8_i32_277
  let v478 : BitVec 1 := Scalar.cmpi .sgt v473 v476
  let c255_i32 : BitVec 32 := 255#32
  let v479 : BitVec 32 := Scalar.addi v473 c255_i32
  let c8_i32_278 : BitVec 32 := 8#32
  let v480 : BitVec 32 := Scalar.shrui v479 c8_i32_278
  let v481 : BitVec 32 := Scalar.select v478 v480 v477
  let v482 : BitVec 32 := Scalar.subi v481 v477
  let c1_i32_280 : BitVec 32 := 1#32
  let v484 : BitVec 32 := Scalar.divsi v482 c1_i32_280
  let v485 : BitVec 32 := Scalar.muli v484 c1_i32_280
  let v486 : BitVec 32 := Scalar.addi v477 v485
  let v483 : BitVec 32 := Scalar.addi v477 v482
  let c1_i32_282 : BitVec 32 := 1#32
  ⟨v486, v483, c1_i32_282⟩
def k0_mult18 (v468 : BitVec 32) (v473 : BitVec 32) (k0_t2 : Fin (k0_t2_loop v468 v473).trips) : BitVec 32 :=
  let c_m16_i32_275 : BitVec 32 := 4294967280#32
  let v474 : BitVec 32 := Scalar.andi v468 c_m16_i32_275
  let c384_i32_276 : BitVec 32 := 384#32
  let v475 : BitVec 32 := Scalar.minsi v474 c384_i32_276
  let c128_i32 : BitVec 32 := 128#32
  let v476 : BitVec 32 := Scalar.addi v475 c128_i32
  let c8_i32_277 : BitVec 32 := 8#32
  let v477 : BitVec 32 := Scalar.shrui v476 c8_i32_277
  let v478 : BitVec 1 := Scalar.cmpi .sgt v473 v476
  let c255_i32 : BitVec 32 := 255#32
  let v479 : BitVec 32 := Scalar.addi v473 c255_i32
  let c8_i32_278 : BitVec 32 := 8#32
  let v480 : BitVec 32 := Scalar.shrui v479 c8_i32_278
  let v481 : BitVec 32 := Scalar.select v478 v480 v477
  let v482 : BitVec 32 := Scalar.subi v481 v477
  let c1_i32_280 : BitVec 32 := 1#32
  let v484 : BitVec 32 := Scalar.divsi v482 c1_i32_280
  let v485 : BitVec 32 := Scalar.muli v484 c1_i32_280
  let v486 : BitVec 32 := Scalar.addi v477 v485
  let c1_i32_282 : BitVec 32 := 1#32
  let arg11 : BitVec 32 := Scf.iv v486 c1_i32_282 k0_t2
  let c256_i32 : BitVec 32 := 256#32
  let v887 : BitVec 32 := Scalar.muli arg11 c256_i32
  v887
def k0_off36 (v468 : BitVec 32) (v473 : BitVec 32) (k0_t2 : Fin (k0_t2_loop v468 v473).trips) : Fin 4 → Nat :=
  let c0_546 : Index := 0#32
  let c0_547 : Index := 0#32
  let c_m16_i32_275 : BitVec 32 := 4294967280#32
  let v474 : BitVec 32 := Scalar.andi v468 c_m16_i32_275
  let c384_i32_276 : BitVec 32 := 384#32
  let v475 : BitVec 32 := Scalar.minsi v474 c384_i32_276
  let c128_i32 : BitVec 32 := 128#32
  let v476 : BitVec 32 := Scalar.addi v475 c128_i32
  let c8_i32_277 : BitVec 32 := 8#32
  let v477 : BitVec 32 := Scalar.shrui v476 c8_i32_277
  let v478 : BitVec 1 := Scalar.cmpi .sgt v473 v476
  let c255_i32 : BitVec 32 := 255#32
  let v479 : BitVec 32 := Scalar.addi v473 c255_i32
  let c8_i32_278 : BitVec 32 := 8#32
  let v480 : BitVec 32 := Scalar.shrui v479 c8_i32_278
  let v481 : BitVec 32 := Scalar.select v478 v480 v477
  let v482 : BitVec 32 := Scalar.subi v481 v477
  let c1_i32_280 : BitVec 32 := 1#32
  let v484 : BitVec 32 := Scalar.divsi v482 c1_i32_280
  let v485 : BitVec 32 := Scalar.muli v484 c1_i32_280
  let v486 : BitVec 32 := Scalar.addi v477 v485
  let c1_i32_282 : BitVec 32 := 1#32
  let arg11 : BitVec 32 := Scf.iv v486 c1_i32_282 k0_t2
  let c256_i32 : BitVec 32 := 256#32
  let v887 : BitVec 32 := Scalar.muli arg11 c256_i32
  let v888 : BitVec 32 := v887
  let v904 : Index := Scalar.indexCast v888
  let c0_548 : Index := 0#32
  ![0, 0, v904.toNat, 0]

def k0_chk17 (v468 : BitVec 32) (v473 : BitVec 32) : Prop :=
  ((k0_t1_loop v468 v473).OK) ∧
  (∀ k0_t1 : Fin (k0_t1_loop v468 v473).trips, 256 ∣ (k0_mult17 v468 v473 k0_t1).toNat) ∧
  (∀ k0_t1 : Fin (k0_t1_loop v468 v473).trips, ∀ a, (k0_off35 v468 v473 k0_t1) a + S1x1x256x1024.size a ≤ S1x16x512x1024.size a) ∧
  ((k0_t2_loop v468 v473).OK) ∧
  (∀ k0_t2 : Fin (k0_t2_loop v468 v473).trips, 256 ∣ (k0_mult18 v468 v473 k0_t2).toNat) ∧
  (∀ k0_t2 : Fin (k0_t2_loop v468 v473).trips, ∀ a, (k0_off36 v468 v473 k0_t2) a + S1x1x256x1024.size a ≤ S1x16x512x1024.size a)
theorem k0_t1_ok : ∀ (v468 : BitVec 32) (v473 : BitVec 32) (k0_hw17 : k0_chk17 v468 v473), (k0_t1_loop v468 v473).OK := fun v468 v473 k0_hw17 => k0_hw17.1
theorem k0_mult17_dvd : ∀ (v468 : BitVec 32) (v473 : BitVec 32) (k0_hw17 : k0_chk17 v468 v473) (k0_t1 : Fin (k0_t1_loop v468 v473).trips), 256 ∣ (k0_mult17 v468 v473 k0_t1).toNat := fun v468 v473 k0_hw17 k0_t1 => k0_hw17.2.1 k0_t1
theorem k0_off35_inb : ∀ (v468 : BitVec 32) (v473 : BitVec 32) (k0_hw17 : k0_chk17 v468 v473) (k0_t1 : Fin (k0_t1_loop v468 v473).trips), ∀ a, (k0_off35 v468 v473 k0_t1) a + S1x1x256x1024.size a ≤ S1x16x512x1024.size a := fun v468 v473 k0_hw17 k0_t1 => k0_hw17.2.2.1 k0_t1
theorem k0_t2_ok : ∀ (v468 : BitVec 32) (v473 : BitVec 32) (k0_hw17 : k0_chk17 v468 v473), (k0_t2_loop v468 v473).OK := fun v468 v473 k0_hw17 => k0_hw17.2.2.2.1
theorem k0_mult18_dvd : ∀ (v468 : BitVec 32) (v473 : BitVec 32) (k0_hw17 : k0_chk17 v468 v473) (k0_t2 : Fin (k0_t2_loop v468 v473).trips), 256 ∣ (k0_mult18 v468 v473 k0_t2).toNat := fun v468 v473 k0_hw17 k0_t2 => k0_hw17.2.2.2.2.1 k0_t2
theorem k0_off36_inb : ∀ (v468 : BitVec 32) (v473 : BitVec 32) (k0_hw17 : k0_chk17 v468 v473) (k0_t2 : Fin (k0_t2_loop v468 v473).trips), ∀ a, (k0_off36 v468 v473 k0_t2) a + S1x1x256x1024.size a ≤ S1x16x512x1024.size a := fun v468 v473 k0_hw17 k0_t2 => k0_hw17.2.2.2.2.2 k0_t2

def k0_off37 (i : grid0.Coords) : Fin 1 → Nat :=
  let arg0 : BitVec 32 := BitVec.ofNat 32 (i 0).val
  let c16_i32_283 : BitVec 32 := 16#32
  let v487 : BitVec 32 := Scalar.muli arg0 c16_i32_283
  let c1_i32_284 : BitVec 32 := 1#32
  let v488 : BitVec 32 := Scalar.addi v487 c1_i32_284
  let c33_i32_285 : BitVec 32 := 33#32
  let v489 : BitVec 32 := Scalar.muli v488 c33_i32_285
  let arg1 : BitVec 32 := BitVec.ofNat 32 (i 1).val
  let c4_i32_286 : BitVec 32 := 4#32
  let v490 : BitVec 32 := Scalar.muli arg1 c4_i32_286
  let v491 : BitVec 32 := Scalar.addi v489 v490
  let v492 : Index := Scalar.indexCast v491
  ![v492.toNat]
def k0_off38 (i : grid0.Coords) : Fin 1 → Nat :=
  let arg0 : BitVec 32 := BitVec.ofNat 32 (i 0).val
  let c16_i32_283 : BitVec 32 := 16#32
  let v487 : BitVec 32 := Scalar.muli arg0 c16_i32_283
  let c1_i32_284 : BitVec 32 := 1#32
  let v488 : BitVec 32 := Scalar.addi v487 c1_i32_284
  let c33_i32_285 : BitVec 32 := 33#32
  let v489 : BitVec 32 := Scalar.muli v488 c33_i32_285
  let arg1 : BitVec 32 := BitVec.ofNat 32 (i 1).val
  let c1_i32_287 : BitVec 32 := 1#32
  let v494 : BitVec 32 := Scalar.addi arg1 c1_i32_287
  let c4_i32_288 : BitVec 32 := 4#32
  let v495 : BitVec 32 := Scalar.muli v494 c4_i32_288
  let v496 : BitVec 32 := Scalar.addi v489 v495
  let v497 : Index := Scalar.indexCast v496
  ![v497.toNat]
@[reducible] def k0_t3_loop (v493 : BitVec 32) (v498 : BitVec 32) : Scf.Loop 32 :=
  let c_m16_i32_289 : BitVec 32 := 4294967280#32
  let v499 : BitVec 32 := Scalar.andi v493 c_m16_i32_289
  let c384_i32_290 : BitVec 32 := 384#32
  let v500 : BitVec 32 := Scalar.minsi v499 c384_i32_290
  let c128_i32_291 : BitVec 32 := 128#32
  let v501 : BitVec 32 := Scalar.addi v500 c128_i32_291
  let c8_i32_292 : BitVec 32 := 8#32
  let v502 : BitVec 32 := Scalar.shrui v501 c8_i32_292
  let v503 : BitVec 1 := Scalar.cmpi .sgt v498 v501
  let c255_i32_293 : BitVec 32 := 255#32
  let v504 : BitVec 32 := Scalar.addi v498 c255_i32_293
  let c8_i32_294 : BitVec 32 := 8#32
  let v505 : BitVec 32 := Scalar.shrui v504 c8_i32_294
  let v506 : BitVec 32 := Scalar.select v503 v505 v502
  let v507 : BitVec 32 := Scalar.subi v506 v502
  let c1_i32_296 : BitVec 32 := 1#32
  let v509 : BitVec 32 := Scalar.divsi v507 c1_i32_296
  let v510 : BitVec 32 := Scalar.muli v509 c1_i32_296
  let v511 : BitVec 32 := Scalar.addi v502 v510
  let c1_i32_297 : BitVec 32 := 1#32
  ⟨v502, v511, c1_i32_297⟩

def k0_mult19 (v493 : BitVec 32) (v498 : BitVec 32) (k0_t3 : Fin (k0_t3_loop v493 v498).trips) : BitVec 32 :=
  let c_m16_i32_289 : BitVec 32 := 4294967280#32
  let v499 : BitVec 32 := Scalar.andi v493 c_m16_i32_289
  let c384_i32_290 : BitVec 32 := 384#32
  let v500 : BitVec 32 := Scalar.minsi v499 c384_i32_290
  let c128_i32_291 : BitVec 32 := 128#32
  let v501 : BitVec 32 := Scalar.addi v500 c128_i32_291
  let c8_i32_292 : BitVec 32 := 8#32
  let v502 : BitVec 32 := Scalar.shrui v501 c8_i32_292
  let c1_i32_297 : BitVec 32 := 1#32
  let arg11 : BitVec 32 := Scf.iv v502 c1_i32_297 k0_t3
  let c256_i32 : BitVec 32 := 256#32
  let v887 : BitVec 32 := Scalar.muli arg11 c256_i32
  v887
def k0_off39 (v493 : BitVec 32) (v498 : BitVec 32) (k0_t3 : Fin (k0_t3_loop v493 v498).trips) : Fin 4 → Nat :=
  let c0_546 : Index := 0#32
  let c1_547 : Index := 1#32
  let c_m16_i32_289 : BitVec 32 := 4294967280#32
  let v499 : BitVec 32 := Scalar.andi v493 c_m16_i32_289
  let c384_i32_290 : BitVec 32 := 384#32
  let v500 : BitVec 32 := Scalar.minsi v499 c384_i32_290
  let c128_i32_291 : BitVec 32 := 128#32
  let v501 : BitVec 32 := Scalar.addi v500 c128_i32_291
  let c8_i32_292 : BitVec 32 := 8#32
  let v502 : BitVec 32 := Scalar.shrui v501 c8_i32_292
  let c1_i32_297 : BitVec 32 := 1#32
  let arg11 : BitVec 32 := Scf.iv v502 c1_i32_297 k0_t3
  let c256_i32 : BitVec 32 := 256#32
  let v887 : BitVec 32 := Scalar.muli arg11 c256_i32
  let v888 : BitVec 32 := v887
  let v904 : Index := Scalar.indexCast v888
  let c0_548 : Index := 0#32
  ![0, 1, v904.toNat, 0]
@[reducible] def k0_t4_loop (v493 : BitVec 32) (v498 : BitVec 32) : Scf.Loop 32 :=
  let c_m16_i32_289 : BitVec 32 := 4294967280#32
  let v499 : BitVec 32 := Scalar.andi v493 c_m16_i32_289
  let c384_i32_290 : BitVec 32 := 384#32
  let v500 : BitVec 32 := Scalar.minsi v499 c384_i32_290
  let c128_i32_291 : BitVec 32 := 128#32
  let v501 : BitVec 32 := Scalar.addi v500 c128_i32_291
  let c8_i32_292 : BitVec 32 := 8#32
  let v502 : BitVec 32 := Scalar.shrui v501 c8_i32_292
  let v503 : BitVec 1 := Scalar.cmpi .sgt v498 v501
  let c255_i32_293 : BitVec 32 := 255#32
  let v504 : BitVec 32 := Scalar.addi v498 c255_i32_293
  let c8_i32_294 : BitVec 32 := 8#32
  let v505 : BitVec 32 := Scalar.shrui v504 c8_i32_294
  let v506 : BitVec 32 := Scalar.select v503 v505 v502
  let v507 : BitVec 32 := Scalar.subi v506 v502
  let c1_i32_296 : BitVec 32 := 1#32
  let v509 : BitVec 32 := Scalar.divsi v507 c1_i32_296
  let v510 : BitVec 32 := Scalar.muli v509 c1_i32_296
  let v511 : BitVec 32 := Scalar.addi v502 v510
  let v508 : BitVec 32 := Scalar.addi v502 v507
  let c1_i32_298 : BitVec 32 := 1#32
  ⟨v511, v508, c1_i32_298⟩
def k0_mult20 (v493 : BitVec 32) (v498 : BitVec 32) (k0_t4 : Fin (k0_t4_loop v493 v498).trips) : BitVec 32 :=
  let c_m16_i32_289 : BitVec 32 := 4294967280#32
  let v499 : BitVec 32 := Scalar.andi v493 c_m16_i32_289
  let c384_i32_290 : BitVec 32 := 384#32
  let v500 : BitVec 32 := Scalar.minsi v499 c384_i32_290
  let c128_i32_291 : BitVec 32 := 128#32
  let v501 : BitVec 32 := Scalar.addi v500 c128_i32_291
  let c8_i32_292 : BitVec 32 := 8#32
  let v502 : BitVec 32 := Scalar.shrui v501 c8_i32_292
  let v503 : BitVec 1 := Scalar.cmpi .sgt v498 v501
  let c255_i32_293 : BitVec 32 := 255#32
  let v504 : BitVec 32 := Scalar.addi v498 c255_i32_293
  let c8_i32_294 : BitVec 32 := 8#32
  let v505 : BitVec 32 := Scalar.shrui v504 c8_i32_294
  let v506 : BitVec 32 := Scalar.select v503 v505 v502
  let v507 : BitVec 32 := Scalar.subi v506 v502
  let c1_i32_296 : BitVec 32 := 1#32
  let v509 : BitVec 32 := Scalar.divsi v507 c1_i32_296
  let v510 : BitVec 32 := Scalar.muli v509 c1_i32_296
  let v511 : BitVec 32 := Scalar.addi v502 v510
  let c1_i32_298 : BitVec 32 := 1#32
  let arg11 : BitVec 32 := Scf.iv v511 c1_i32_298 k0_t4
  let c256_i32 : BitVec 32 := 256#32
  let v887 : BitVec 32 := Scalar.muli arg11 c256_i32
  v887
def k0_off40 (v493 : BitVec 32) (v498 : BitVec 32) (k0_t4 : Fin (k0_t4_loop v493 v498).trips) : Fin 4 → Nat :=
  let c0_546 : Index := 0#32
  let c1_547 : Index := 1#32
  let c_m16_i32_289 : BitVec 32 := 4294967280#32
  let v499 : BitVec 32 := Scalar.andi v493 c_m16_i32_289
  let c384_i32_290 : BitVec 32 := 384#32
  let v500 : BitVec 32 := Scalar.minsi v499 c384_i32_290
  let c128_i32_291 : BitVec 32 := 128#32
  let v501 : BitVec 32 := Scalar.addi v500 c128_i32_291
  let c8_i32_292 : BitVec 32 := 8#32
  let v502 : BitVec 32 := Scalar.shrui v501 c8_i32_292
  let v503 : BitVec 1 := Scalar.cmpi .sgt v498 v501
  let c255_i32_293 : BitVec 32 := 255#32
  let v504 : BitVec 32 := Scalar.addi v498 c255_i32_293
  let c8_i32_294 : BitVec 32 := 8#32
  let v505 : BitVec 32 := Scalar.shrui v504 c8_i32_294
  let v506 : BitVec 32 := Scalar.select v503 v505 v502
  let v507 : BitVec 32 := Scalar.subi v506 v502
  let c1_i32_296 : BitVec 32 := 1#32
  let v509 : BitVec 32 := Scalar.divsi v507 c1_i32_296
  let v510 : BitVec 32 := Scalar.muli v509 c1_i32_296
  let v511 : BitVec 32 := Scalar.addi v502 v510
  let c1_i32_298 : BitVec 32 := 1#32
  let arg11 : BitVec 32 := Scf.iv v511 c1_i32_298 k0_t4
  let c256_i32 : BitVec 32 := 256#32
  let v887 : BitVec 32 := Scalar.muli arg11 c256_i32
  let v888 : BitVec 32 := v887
  let v904 : Index := Scalar.indexCast v888
  let c0_548 : Index := 0#32
  ![0, 1, v904.toNat, 0]

def k0_chk18 (v493 : BitVec 32) (v498 : BitVec 32) : Prop :=
  ((k0_t3_loop v493 v498).OK) ∧
  (∀ k0_t3 : Fin (k0_t3_loop v493 v498).trips, 256 ∣ (k0_mult19 v493 v498 k0_t3).toNat) ∧
  (∀ k0_t3 : Fin (k0_t3_loop v493 v498).trips, ∀ a, (k0_off39 v493 v498 k0_t3) a + S1x1x256x1024.size a ≤ S1x16x512x1024.size a) ∧
  ((k0_t4_loop v493 v498).OK) ∧
  (∀ k0_t4 : Fin (k0_t4_loop v493 v498).trips, 256 ∣ (k0_mult20 v493 v498 k0_t4).toNat) ∧
  (∀ k0_t4 : Fin (k0_t4_loop v493 v498).trips, ∀ a, (k0_off40 v493 v498 k0_t4) a + S1x1x256x1024.size a ≤ S1x16x512x1024.size a)
theorem k0_t3_ok : ∀ (v493 : BitVec 32) (v498 : BitVec 32) (k0_hw18 : k0_chk18 v493 v498), (k0_t3_loop v493 v498).OK := fun v493 v498 k0_hw18 => k0_hw18.1
theorem k0_mult19_dvd : ∀ (v493 : BitVec 32) (v498 : BitVec 32) (k0_hw18 : k0_chk18 v493 v498) (k0_t3 : Fin (k0_t3_loop v493 v498).trips), 256 ∣ (k0_mult19 v493 v498 k0_t3).toNat := fun v493 v498 k0_hw18 k0_t3 => k0_hw18.2.1 k0_t3
theorem k0_off39_inb : ∀ (v493 : BitVec 32) (v498 : BitVec 32) (k0_hw18 : k0_chk18 v493 v498) (k0_t3 : Fin (k0_t3_loop v493 v498).trips), ∀ a, (k0_off39 v493 v498 k0_t3) a + S1x1x256x1024.size a ≤ S1x16x512x1024.size a := fun v493 v498 k0_hw18 k0_t3 => k0_hw18.2.2.1 k0_t3
theorem k0_t4_ok : ∀ (v493 : BitVec 32) (v498 : BitVec 32) (k0_hw18 : k0_chk18 v493 v498), (k0_t4_loop v493 v498).OK := fun v493 v498 k0_hw18 => k0_hw18.2.2.2.1
theorem k0_mult20_dvd : ∀ (v493 : BitVec 32) (v498 : BitVec 32) (k0_hw18 : k0_chk18 v493 v498) (k0_t4 : Fin (k0_t4_loop v493 v498).trips), 256 ∣ (k0_mult20 v493 v498 k0_t4).toNat := fun v493 v498 k0_hw18 k0_t4 => k0_hw18.2.2.2.2.1 k0_t4
theorem k0_off40_inb : ∀ (v493 : BitVec 32) (v498 : BitVec 32) (k0_hw18 : k0_chk18 v493 v498) (k0_t4 : Fin (k0_t4_loop v493 v498).trips), ∀ a, (k0_off40 v493 v498 k0_t4) a + S1x1x256x1024.size a ≤ S1x16x512x1024.size a := fun v493 v498 k0_hw18 k0_t4 => k0_hw18.2.2.2.2.2 k0_t4

def k0_off41 (i : grid0.Coords) : Fin 1 → Nat :=
  let arg0 : BitVec 32 := BitVec.ofNat 32 (i 0).val
  let c16_i32_299 : BitVec 32 := 16#32
  let v512 : BitVec 32 := Scalar.muli arg0 c16_i32_299
  let c2_i32_300 : BitVec 32 := 2#32
  let v513 : BitVec 32 := Scalar.addi v512 c2_i32_300
  let c33_i32_301 : BitVec 32 := 33#32
  let v514 : BitVec 32 := Scalar.muli v513 c33_i32_301
  let arg1 : BitVec 32 := BitVec.ofNat 32 (i 1).val
  let c4_i32_302 : BitVec 32 := 4#32
  let v515 : BitVec 32 := Scalar.muli arg1 c4_i32_302
  let v516 : BitVec 32 := Scalar.addi v514 v515
  let v517 : Index := Scalar.indexCast v516
  ![v517.toNat]
def k0_off42 (i : grid0.Coords) : Fin 1 → Nat :=
  let arg0 : BitVec 32 := BitVec.ofNat 32 (i 0).val
  let c16_i32_299 : BitVec 32 := 16#32
  let v512 : BitVec 32 := Scalar.muli arg0 c16_i32_299
  let c2_i32_300 : BitVec 32 := 2#32
  let v513 : BitVec 32 := Scalar.addi v512 c2_i32_300
  let c33_i32_301 : BitVec 32 := 33#32
  let v514 : BitVec 32 := Scalar.muli v513 c33_i32_301
  let arg1 : BitVec 32 := BitVec.ofNat 32 (i 1).val
  let c1_i32_303 : BitVec 32 := 1#32
  let v519 : BitVec 32 := Scalar.addi arg1 c1_i32_303
  let c4_i32_304 : BitVec 32 := 4#32
  let v520 : BitVec 32 := Scalar.muli v519 c4_i32_304
  let v521 : BitVec 32 := Scalar.addi v514 v520
  let v522 : Index := Scalar.indexCast v521
  ![v522.toNat]
@[reducible] def k0_t5_loop (v518 : BitVec 32) (v523 : BitVec 32) : Scf.Loop 32 :=
  let c_m16_i32_305 : BitVec 32 := 4294967280#32
  let v524 : BitVec 32 := Scalar.andi v518 c_m16_i32_305
  let c384_i32_306 : BitVec 32 := 384#32
  let v525 : BitVec 32 := Scalar.minsi v524 c384_i32_306
  let c128_i32_307 : BitVec 32 := 128#32
  let v526 : BitVec 32 := Scalar.addi v525 c128_i32_307
  let c8_i32_308 : BitVec 32 := 8#32
  let v527 : BitVec 32 := Scalar.shrui v526 c8_i32_308
  let v528 : BitVec 1 := Scalar.cmpi .sgt v523 v526
  let c255_i32_309 : BitVec 32 := 255#32
  let v529 : BitVec 32 := Scalar.addi v523 c255_i32_309
  let c8_i32_310 : BitVec 32 := 8#32
  let v530 : BitVec 32 := Scalar.shrui v529 c8_i32_310
  let v531 : BitVec 32 := Scalar.select v528 v530 v527
  let v532 : BitVec 32 := Scalar.subi v531 v527
  let c1_i32_312 : BitVec 32 := 1#32
  let v534 : BitVec 32 := Scalar.divsi v532 c1_i32_312
  let v535 : BitVec 32 := Scalar.muli v534 c1_i32_312
  let v536 : BitVec 32 := Scalar.addi v527 v535
  let c1_i32_313 : BitVec 32 := 1#32
  ⟨v527, v536, c1_i32_313⟩

def k0_mult21 (v518 : BitVec 32) (v523 : BitVec 32) (k0_t5 : Fin (k0_t5_loop v518 v523).trips) : BitVec 32 :=
  let c_m16_i32_305 : BitVec 32 := 4294967280#32
  let v524 : BitVec 32 := Scalar.andi v518 c_m16_i32_305
  let c384_i32_306 : BitVec 32 := 384#32
  let v525 : BitVec 32 := Scalar.minsi v524 c384_i32_306
  let c128_i32_307 : BitVec 32 := 128#32
  let v526 : BitVec 32 := Scalar.addi v525 c128_i32_307
  let c8_i32_308 : BitVec 32 := 8#32
  let v527 : BitVec 32 := Scalar.shrui v526 c8_i32_308
  let c1_i32_313 : BitVec 32 := 1#32
  let arg11 : BitVec 32 := Scf.iv v527 c1_i32_313 k0_t5
  let c256_i32 : BitVec 32 := 256#32
  let v887 : BitVec 32 := Scalar.muli arg11 c256_i32
  v887
def k0_off43 (v518 : BitVec 32) (v523 : BitVec 32) (k0_t5 : Fin (k0_t5_loop v518 v523).trips) : Fin 4 → Nat :=
  let c0_546 : Index := 0#32
  let c2_547 : Index := 2#32
  let c_m16_i32_305 : BitVec 32 := 4294967280#32
  let v524 : BitVec 32 := Scalar.andi v518 c_m16_i32_305
  let c384_i32_306 : BitVec 32 := 384#32
  let v525 : BitVec 32 := Scalar.minsi v524 c384_i32_306
  let c128_i32_307 : BitVec 32 := 128#32
  let v526 : BitVec 32 := Scalar.addi v525 c128_i32_307
  let c8_i32_308 : BitVec 32 := 8#32
  let v527 : BitVec 32 := Scalar.shrui v526 c8_i32_308
  let c1_i32_313 : BitVec 32 := 1#32
  let arg11 : BitVec 32 := Scf.iv v527 c1_i32_313 k0_t5
  let c256_i32 : BitVec 32 := 256#32
  let v887 : BitVec 32 := Scalar.muli arg11 c256_i32
  let v888 : BitVec 32 := v887
  let v904 : Index := Scalar.indexCast v888
  let c0_548 : Index := 0#32
  ![0, 2, v904.toNat, 0]
@[reducible] def k0_t6_loop (v518 : BitVec 32) (v523 : BitVec 32) : Scf.Loop 32 :=
  let c_m16_i32_305 : BitVec 32 := 4294967280#32
  let v524 : BitVec 32 := Scalar.andi v518 c_m16_i32_305
  let c384_i32_306 : BitVec 32 := 384#32
  let v525 : BitVec 32 := Scalar.minsi v524 c384_i32_306
  let c128_i32_307 : BitVec 32 := 128#32
  let v526 : BitVec 32 := Scalar.addi v525 c128_i32_307
  let c8_i32_308 : BitVec 32 := 8#32
  let v527 : BitVec 32 := Scalar.shrui v526 c8_i32_308
  let v528 : BitVec 1 := Scalar.cmpi .sgt v523 v526
  let c255_i32_309 : BitVec 32 := 255#32
  let v529 : BitVec 32 := Scalar.addi v523 c255_i32_309
  let c8_i32_310 : BitVec 32 := 8#32
  let v530 : BitVec 32 := Scalar.shrui v529 c8_i32_310
  let v531 : BitVec 32 := Scalar.select v528 v530 v527
  let v532 : BitVec 32 := Scalar.subi v531 v527
  let c1_i32_312 : BitVec 32 := 1#32
  let v534 : BitVec 32 := Scalar.divsi v532 c1_i32_312
  let v535 : BitVec 32 := Scalar.muli v534 c1_i32_312
  let v536 : BitVec 32 := Scalar.addi v527 v535
  let v533 : BitVec 32 := Scalar.addi v527 v532
  let c1_i32_314 : BitVec 32 := 1#32
  ⟨v536, v533, c1_i32_314⟩
def k0_mult22 (v518 : BitVec 32) (v523 : BitVec 32) (k0_t6 : Fin (k0_t6_loop v518 v523).trips) : BitVec 32 :=
  let c_m16_i32_305 : BitVec 32 := 4294967280#32
  let v524 : BitVec 32 := Scalar.andi v518 c_m16_i32_305
  let c384_i32_306 : BitVec 32 := 384#32
  let v525 : BitVec 32 := Scalar.minsi v524 c384_i32_306
  let c128_i32_307 : BitVec 32 := 128#32
  let v526 : BitVec 32 := Scalar.addi v525 c128_i32_307
  let c8_i32_308 : BitVec 32 := 8#32
  let v527 : BitVec 32 := Scalar.shrui v526 c8_i32_308
  let v528 : BitVec 1 := Scalar.cmpi .sgt v523 v526
  let c255_i32_309 : BitVec 32 := 255#32
  let v529 : BitVec 32 := Scalar.addi v523 c255_i32_309
  let c8_i32_310 : BitVec 32 := 8#32
  let v530 : BitVec 32 := Scalar.shrui v529 c8_i32_310
  let v531 : BitVec 32 := Scalar.select v528 v530 v527
  let v532 : BitVec 32 := Scalar.subi v531 v527
  let c1_i32_312 : BitVec 32 := 1#32
  let v534 : BitVec 32 := Scalar.divsi v532 c1_i32_312
  let v535 : BitVec 32 := Scalar.muli v534 c1_i32_312
  let v536 : BitVec 32 := Scalar.addi v527 v535
  let c1_i32_314 : BitVec 32 := 1#32
  let arg11 : BitVec 32 := Scf.iv v536 c1_i32_314 k0_t6
  let c256_i32 : BitVec 32 := 256#32
  let v887 : BitVec 32 := Scalar.muli arg11 c256_i32
  v887
def k0_off44 (v518 : BitVec 32) (v523 : BitVec 32) (k0_t6 : Fin (k0_t6_loop v518 v523).trips) : Fin 4 → Nat :=
  let c0_546 : Index := 0#32
  let c2_547 : Index := 2#32
  let c_m16_i32_305 : BitVec 32 := 4294967280#32
  let v524 : BitVec 32 := Scalar.andi v518 c_m16_i32_305
  let c384_i32_306 : BitVec 32 := 384#32
  let v525 : BitVec 32 := Scalar.minsi v524 c384_i32_306
  let c128_i32_307 : BitVec 32 := 128#32
  let v526 : BitVec 32 := Scalar.addi v525 c128_i32_307
  let c8_i32_308 : BitVec 32 := 8#32
  let v527 : BitVec 32 := Scalar.shrui v526 c8_i32_308
  let v528 : BitVec 1 := Scalar.cmpi .sgt v523 v526
  let c255_i32_309 : BitVec 32 := 255#32
  let v529 : BitVec 32 := Scalar.addi v523 c255_i32_309
  let c8_i32_310 : BitVec 32 := 8#32
  let v530 : BitVec 32 := Scalar.shrui v529 c8_i32_310
  let v531 : BitVec 32 := Scalar.select v528 v530 v527
  let v532 : BitVec 32 := Scalar.subi v531 v527
  let c1_i32_312 : BitVec 32 := 1#32
  let v534 : BitVec 32 := Scalar.divsi v532 c1_i32_312
  let v535 : BitVec 32 := Scalar.muli v534 c1_i32_312
  let v536 : BitVec 32 := Scalar.addi v527 v535
  let c1_i32_314 : BitVec 32 := 1#32
  let arg11 : BitVec 32 := Scf.iv v536 c1_i32_314 k0_t6
  let c256_i32 : BitVec 32 := 256#32
  let v887 : BitVec 32 := Scalar.muli arg11 c256_i32
  let v888 : BitVec 32 := v887
  let v904 : Index := Scalar.indexCast v888
  let c0_548 : Index := 0#32
  ![0, 2, v904.toNat, 0]

def k0_chk19 (v518 : BitVec 32) (v523 : BitVec 32) : Prop :=
  ((k0_t5_loop v518 v523).OK) ∧
  (∀ k0_t5 : Fin (k0_t5_loop v518 v523).trips, 256 ∣ (k0_mult21 v518 v523 k0_t5).toNat) ∧
  (∀ k0_t5 : Fin (k0_t5_loop v518 v523).trips, ∀ a, (k0_off43 v518 v523 k0_t5) a + S1x1x256x1024.size a ≤ S1x16x512x1024.size a) ∧
  ((k0_t6_loop v518 v523).OK) ∧
  (∀ k0_t6 : Fin (k0_t6_loop v518 v523).trips, 256 ∣ (k0_mult22 v518 v523 k0_t6).toNat) ∧
  (∀ k0_t6 : Fin (k0_t6_loop v518 v523).trips, ∀ a, (k0_off44 v518 v523 k0_t6) a + S1x1x256x1024.size a ≤ S1x16x512x1024.size a)
theorem k0_t5_ok : ∀ (v518 : BitVec 32) (v523 : BitVec 32) (k0_hw19 : k0_chk19 v518 v523), (k0_t5_loop v518 v523).OK := fun v518 v523 k0_hw19 => k0_hw19.1
theorem k0_mult21_dvd : ∀ (v518 : BitVec 32) (v523 : BitVec 32) (k0_hw19 : k0_chk19 v518 v523) (k0_t5 : Fin (k0_t5_loop v518 v523).trips), 256 ∣ (k0_mult21 v518 v523 k0_t5).toNat := fun v518 v523 k0_hw19 k0_t5 => k0_hw19.2.1 k0_t5
theorem k0_off43_inb : ∀ (v518 : BitVec 32) (v523 : BitVec 32) (k0_hw19 : k0_chk19 v518 v523) (k0_t5 : Fin (k0_t5_loop v518 v523).trips), ∀ a, (k0_off43 v518 v523 k0_t5) a + S1x1x256x1024.size a ≤ S1x16x512x1024.size a := fun v518 v523 k0_hw19 k0_t5 => k0_hw19.2.2.1 k0_t5
theorem k0_t6_ok : ∀ (v518 : BitVec 32) (v523 : BitVec 32) (k0_hw19 : k0_chk19 v518 v523), (k0_t6_loop v518 v523).OK := fun v518 v523 k0_hw19 => k0_hw19.2.2.2.1
theorem k0_mult22_dvd : ∀ (v518 : BitVec 32) (v523 : BitVec 32) (k0_hw19 : k0_chk19 v518 v523) (k0_t6 : Fin (k0_t6_loop v518 v523).trips), 256 ∣ (k0_mult22 v518 v523 k0_t6).toNat := fun v518 v523 k0_hw19 k0_t6 => k0_hw19.2.2.2.2.1 k0_t6
theorem k0_off44_inb : ∀ (v518 : BitVec 32) (v523 : BitVec 32) (k0_hw19 : k0_chk19 v518 v523) (k0_t6 : Fin (k0_t6_loop v518 v523).trips), ∀ a, (k0_off44 v518 v523 k0_t6) a + S1x1x256x1024.size a ≤ S1x16x512x1024.size a := fun v518 v523 k0_hw19 k0_t6 => k0_hw19.2.2.2.2.2 k0_t6

def k0_off45 (i : grid0.Coords) : Fin 1 → Nat :=
  let arg0 : BitVec 32 := BitVec.ofNat 32 (i 0).val
  let c16_i32_315 : BitVec 32 := 16#32
  let v537 : BitVec 32 := Scalar.muli arg0 c16_i32_315
  let c3_i32_316 : BitVec 32 := 3#32
  let v538 : BitVec 32 := Scalar.addi v537 c3_i32_316
  let c33_i32_317 : BitVec 32 := 33#32
  let v539 : BitVec 32 := Scalar.muli v538 c33_i32_317
  let arg1 : BitVec 32 := BitVec.ofNat 32 (i 1).val
  let c4_i32_318 : BitVec 32 := 4#32
  let v540 : BitVec 32 := Scalar.muli arg1 c4_i32_318
  let v541 : BitVec 32 := Scalar.addi v539 v540
  let v542 : Index := Scalar.indexCast v541
  ![v542.toNat]
def k0_off46 (i : grid0.Coords) : Fin 1 → Nat :=
  let arg0 : BitVec 32 := BitVec.ofNat 32 (i 0).val
  let c16_i32_315 : BitVec 32 := 16#32
  let v537 : BitVec 32 := Scalar.muli arg0 c16_i32_315
  let c3_i32_316 : BitVec 32 := 3#32
  let v538 : BitVec 32 := Scalar.addi v537 c3_i32_316
  let c33_i32_317 : BitVec 32 := 33#32
  let v539 : BitVec 32 := Scalar.muli v538 c33_i32_317
  let arg1 : BitVec 32 := BitVec.ofNat 32 (i 1).val
  let c1_i32_319 : BitVec 32 := 1#32
  let v544 : BitVec 32 := Scalar.addi arg1 c1_i32_319
  let c4_i32_320 : BitVec 32 := 4#32
  let v545 : BitVec 32 := Scalar.muli v544 c4_i32_320
  let v546 : BitVec 32 := Scalar.addi v539 v545
  let v547 : Index := Scalar.indexCast v546
  ![v547.toNat]
@[reducible] def k0_t7_loop (v543 : BitVec 32) (v548 : BitVec 32) : Scf.Loop 32 :=
  let c_m16_i32_321 : BitVec 32 := 4294967280#32
  let v549 : BitVec 32 := Scalar.andi v543 c_m16_i32_321
  let c384_i32_322 : BitVec 32 := 384#32
  let v550 : BitVec 32 := Scalar.minsi v549 c384_i32_322
  let c128_i32_323 : BitVec 32 := 128#32
  let v551 : BitVec 32 := Scalar.addi v550 c128_i32_323
  let c8_i32_324 : BitVec 32 := 8#32
  let v552 : BitVec 32 := Scalar.shrui v551 c8_i32_324
  let v553 : BitVec 1 := Scalar.cmpi .sgt v548 v551
  let c255_i32_325 : BitVec 32 := 255#32
  let v554 : BitVec 32 := Scalar.addi v548 c255_i32_325
  let c8_i32_326 : BitVec 32 := 8#32
  let v555 : BitVec 32 := Scalar.shrui v554 c8_i32_326
  let v556 : BitVec 32 := Scalar.select v553 v555 v552
  let v557 : BitVec 32 := Scalar.subi v556 v552
  let c1_i32_328 : BitVec 32 := 1#32
  let v559 : BitVec 32 := Scalar.divsi v557 c1_i32_328
  let v560 : BitVec 32 := Scalar.muli v559 c1_i32_328
  let v561 : BitVec 32 := Scalar.addi v552 v560
  let c1_i32_329 : BitVec 32 := 1#32
  ⟨v552, v561, c1_i32_329⟩

def k0_mult23 (v543 : BitVec 32) (v548 : BitVec 32) (k0_t7 : Fin (k0_t7_loop v543 v548).trips) : BitVec 32 :=
  let c_m16_i32_321 : BitVec 32 := 4294967280#32
  let v549 : BitVec 32 := Scalar.andi v543 c_m16_i32_321
  let c384_i32_322 : BitVec 32 := 384#32
  let v550 : BitVec 32 := Scalar.minsi v549 c384_i32_322
  let c128_i32_323 : BitVec 32 := 128#32
  let v551 : BitVec 32 := Scalar.addi v550 c128_i32_323
  let c8_i32_324 : BitVec 32 := 8#32
  let v552 : BitVec 32 := Scalar.shrui v551 c8_i32_324
  let c1_i32_329 : BitVec 32 := 1#32
  let arg11 : BitVec 32 := Scf.iv v552 c1_i32_329 k0_t7
  let c256_i32 : BitVec 32 := 256#32
  let v887 : BitVec 32 := Scalar.muli arg11 c256_i32
  v887
def k0_off47 (v543 : BitVec 32) (v548 : BitVec 32) (k0_t7 : Fin (k0_t7_loop v543 v548).trips) : Fin 4 → Nat :=
  let c0_546 : Index := 0#32
  let c3_547 : Index := 3#32
  let c_m16_i32_321 : BitVec 32 := 4294967280#32
  let v549 : BitVec 32 := Scalar.andi v543 c_m16_i32_321
  let c384_i32_322 : BitVec 32 := 384#32
  let v550 : BitVec 32 := Scalar.minsi v549 c384_i32_322
  let c128_i32_323 : BitVec 32 := 128#32
  let v551 : BitVec 32 := Scalar.addi v550 c128_i32_323
  let c8_i32_324 : BitVec 32 := 8#32
  let v552 : BitVec 32 := Scalar.shrui v551 c8_i32_324
  let c1_i32_329 : BitVec 32 := 1#32
  let arg11 : BitVec 32 := Scf.iv v552 c1_i32_329 k0_t7
  let c256_i32 : BitVec 32 := 256#32
  let v887 : BitVec 32 := Scalar.muli arg11 c256_i32
  let v888 : BitVec 32 := v887
  let v904 : Index := Scalar.indexCast v888
  let c0_548 : Index := 0#32
  ![0, 3, v904.toNat, 0]
@[reducible] def k0_t8_loop (v543 : BitVec 32) (v548 : BitVec 32) : Scf.Loop 32 :=
  let c_m16_i32_321 : BitVec 32 := 4294967280#32
  let v549 : BitVec 32 := Scalar.andi v543 c_m16_i32_321
  let c384_i32_322 : BitVec 32 := 384#32
  let v550 : BitVec 32 := Scalar.minsi v549 c384_i32_322
  let c128_i32_323 : BitVec 32 := 128#32
  let v551 : BitVec 32 := Scalar.addi v550 c128_i32_323
  let c8_i32_324 : BitVec 32 := 8#32
  let v552 : BitVec 32 := Scalar.shrui v551 c8_i32_324
  let v553 : BitVec 1 := Scalar.cmpi .sgt v548 v551
  let c255_i32_325 : BitVec 32 := 255#32
  let v554 : BitVec 32 := Scalar.addi v548 c255_i32_325
  let c8_i32_326 : BitVec 32 := 8#32
  let v555 : BitVec 32 := Scalar.shrui v554 c8_i32_326
  let v556 : BitVec 32 := Scalar.select v553 v555 v552
  let v557 : BitVec 32 := Scalar.subi v556 v552
  let c1_i32_328 : BitVec 32 := 1#32
  let v559 : BitVec 32 := Scalar.divsi v557 c1_i32_328
  let v560 : BitVec 32 := Scalar.muli v559 c1_i32_328
  let v561 : BitVec 32 := Scalar.addi v552 v560
  let v558 : BitVec 32 := Scalar.addi v552 v557
  let c1_i32_330 : BitVec 32 := 1#32
  ⟨v561, v558, c1_i32_330⟩
def k0_mult24 (v543 : BitVec 32) (v548 : BitVec 32) (k0_t8 : Fin (k0_t8_loop v543 v548).trips) : BitVec 32 :=
  let c_m16_i32_321 : BitVec 32 := 4294967280#32
  let v549 : BitVec 32 := Scalar.andi v543 c_m16_i32_321
  let c384_i32_322 : BitVec 32 := 384#32
  let v550 : BitVec 32 := Scalar.minsi v549 c384_i32_322
  let c128_i32_323 : BitVec 32 := 128#32
  let v551 : BitVec 32 := Scalar.addi v550 c128_i32_323
  let c8_i32_324 : BitVec 32 := 8#32
  let v552 : BitVec 32 := Scalar.shrui v551 c8_i32_324
  let v553 : BitVec 1 := Scalar.cmpi .sgt v548 v551
  let c255_i32_325 : BitVec 32 := 255#32
  let v554 : BitVec 32 := Scalar.addi v548 c255_i32_325
  let c8_i32_326 : BitVec 32 := 8#32
  let v555 : BitVec 32 := Scalar.shrui v554 c8_i32_326
  let v556 : BitVec 32 := Scalar.select v553 v555 v552
  let v557 : BitVec 32 := Scalar.subi v556 v552
  let c1_i32_328 : BitVec 32 := 1#32
  let v559 : BitVec 32 := Scalar.divsi v557 c1_i32_328
  let v560 : BitVec 32 := Scalar.muli v559 c1_i32_328
  let v561 : BitVec 32 := Scalar.addi v552 v560
  let c1_i32_330 : BitVec 32 := 1#32
  let arg11 : BitVec 32 := Scf.iv v561 c1_i32_330 k0_t8
  let c256_i32 : BitVec 32 := 256#32
  let v887 : BitVec 32 := Scalar.muli arg11 c256_i32
  v887
def k0_off48 (v543 : BitVec 32) (v548 : BitVec 32) (k0_t8 : Fin (k0_t8_loop v543 v548).trips) : Fin 4 → Nat :=
  let c0_546 : Index := 0#32
  let c3_547 : Index := 3#32
  let c_m16_i32_321 : BitVec 32 := 4294967280#32
  let v549 : BitVec 32 := Scalar.andi v543 c_m16_i32_321
  let c384_i32_322 : BitVec 32 := 384#32
  let v550 : BitVec 32 := Scalar.minsi v549 c384_i32_322
  let c128_i32_323 : BitVec 32 := 128#32
  let v551 : BitVec 32 := Scalar.addi v550 c128_i32_323
  let c8_i32_324 : BitVec 32 := 8#32
  let v552 : BitVec 32 := Scalar.shrui v551 c8_i32_324
  let v553 : BitVec 1 := Scalar.cmpi .sgt v548 v551
  let c255_i32_325 : BitVec 32 := 255#32
  let v554 : BitVec 32 := Scalar.addi v548 c255_i32_325
  let c8_i32_326 : BitVec 32 := 8#32
  let v555 : BitVec 32 := Scalar.shrui v554 c8_i32_326
  let v556 : BitVec 32 := Scalar.select v553 v555 v552
  let v557 : BitVec 32 := Scalar.subi v556 v552
  let c1_i32_328 : BitVec 32 := 1#32
  let v559 : BitVec 32 := Scalar.divsi v557 c1_i32_328
  let v560 : BitVec 32 := Scalar.muli v559 c1_i32_328
  let v561 : BitVec 32 := Scalar.addi v552 v560
  let c1_i32_330 : BitVec 32 := 1#32
  let arg11 : BitVec 32 := Scf.iv v561 c1_i32_330 k0_t8
  let c256_i32 : BitVec 32 := 256#32
  let v887 : BitVec 32 := Scalar.muli arg11 c256_i32
  let v888 : BitVec 32 := v887
  let v904 : Index := Scalar.indexCast v888
  let c0_548 : Index := 0#32
  ![0, 3, v904.toNat, 0]

def k0_chk20 (v543 : BitVec 32) (v548 : BitVec 32) : Prop :=
  ((k0_t7_loop v543 v548).OK) ∧
  (∀ k0_t7 : Fin (k0_t7_loop v543 v548).trips, 256 ∣ (k0_mult23 v543 v548 k0_t7).toNat) ∧
  (∀ k0_t7 : Fin (k0_t7_loop v543 v548).trips, ∀ a, (k0_off47 v543 v548 k0_t7) a + S1x1x256x1024.size a ≤ S1x16x512x1024.size a) ∧
  ((k0_t8_loop v543 v548).OK) ∧
  (∀ k0_t8 : Fin (k0_t8_loop v543 v548).trips, 256 ∣ (k0_mult24 v543 v548 k0_t8).toNat) ∧
  (∀ k0_t8 : Fin (k0_t8_loop v543 v548).trips, ∀ a, (k0_off48 v543 v548 k0_t8) a + S1x1x256x1024.size a ≤ S1x16x512x1024.size a)
theorem k0_t7_ok : ∀ (v543 : BitVec 32) (v548 : BitVec 32) (k0_hw20 : k0_chk20 v543 v548), (k0_t7_loop v543 v548).OK := fun v543 v548 k0_hw20 => k0_hw20.1
theorem k0_mult23_dvd : ∀ (v543 : BitVec 32) (v548 : BitVec 32) (k0_hw20 : k0_chk20 v543 v548) (k0_t7 : Fin (k0_t7_loop v543 v548).trips), 256 ∣ (k0_mult23 v543 v548 k0_t7).toNat := fun v543 v548 k0_hw20 k0_t7 => k0_hw20.2.1 k0_t7
theorem k0_off47_inb : ∀ (v543 : BitVec 32) (v548 : BitVec 32) (k0_hw20 : k0_chk20 v543 v548) (k0_t7 : Fin (k0_t7_loop v543 v548).trips), ∀ a, (k0_off47 v543 v548 k0_t7) a + S1x1x256x1024.size a ≤ S1x16x512x1024.size a := fun v543 v548 k0_hw20 k0_t7 => k0_hw20.2.2.1 k0_t7
theorem k0_t8_ok : ∀ (v543 : BitVec 32) (v548 : BitVec 32) (k0_hw20 : k0_chk20 v543 v548), (k0_t8_loop v543 v548).OK := fun v543 v548 k0_hw20 => k0_hw20.2.2.2.1
theorem k0_mult24_dvd : ∀ (v543 : BitVec 32) (v548 : BitVec 32) (k0_hw20 : k0_chk20 v543 v548) (k0_t8 : Fin (k0_t8_loop v543 v548).trips), 256 ∣ (k0_mult24 v543 v548 k0_t8).toNat := fun v543 v548 k0_hw20 k0_t8 => k0_hw20.2.2.2.2.1 k0_t8
theorem k0_off48_inb : ∀ (v543 : BitVec 32) (v548 : BitVec 32) (k0_hw20 : k0_chk20 v543 v548) (k0_t8 : Fin (k0_t8_loop v543 v548).trips), ∀ a, (k0_off48 v543 v548 k0_t8) a + S1x1x256x1024.size a ≤ S1x16x512x1024.size a := fun v543 v548 k0_hw20 k0_t8 => k0_hw20.2.2.2.2.2 k0_t8

def k0_off49 (i : grid0.Coords) : Fin 1 → Nat :=
  let arg0 : BitVec 32 := BitVec.ofNat 32 (i 0).val
  let c16_i32_331 : BitVec 32 := 16#32
  let v562 : BitVec 32 := Scalar.muli arg0 c16_i32_331
  let c4_i32_332 : BitVec 32 := 4#32
  let v563 : BitVec 32 := Scalar.addi v562 c4_i32_332
  let c33_i32_333 : BitVec 32 := 33#32
  let v564 : BitVec 32 := Scalar.muli v563 c33_i32_333
  let arg1 : BitVec 32 := BitVec.ofNat 32 (i 1).val
  let c4_i32_334 : BitVec 32 := 4#32
  let v565 : BitVec 32 := Scalar.muli arg1 c4_i32_334
  let v566 : BitVec 32 := Scalar.addi v564 v565
  let v567 : Index := Scalar.indexCast v566
  ![v567.toNat]
def k0_off50 (i : grid0.Coords) : Fin 1 → Nat :=
  let arg0 : BitVec 32 := BitVec.ofNat 32 (i 0).val
  let c16_i32_331 : BitVec 32 := 16#32
  let v562 : BitVec 32 := Scalar.muli arg0 c16_i32_331
  let c4_i32_332 : BitVec 32 := 4#32
  let v563 : BitVec 32 := Scalar.addi v562 c4_i32_332
  let c33_i32_333 : BitVec 32 := 33#32
  let v564 : BitVec 32 := Scalar.muli v563 c33_i32_333
  let arg1 : BitVec 32 := BitVec.ofNat 32 (i 1).val
  let c1_i32_335 : BitVec 32 := 1#32
  let v569 : BitVec 32 := Scalar.addi arg1 c1_i32_335
  let c4_i32_336 : BitVec 32 := 4#32
  let v570 : BitVec 32 := Scalar.muli v569 c4_i32_336
  let v571 : BitVec 32 := Scalar.addi v564 v570
  let v572 : Index := Scalar.indexCast v571
  ![v572.toNat]
@[reducible] def k0_t9_loop (v568 : BitVec 32) (v573 : BitVec 32) : Scf.Loop 32 :=
  let c_m16_i32_337 : BitVec 32 := 4294967280#32
  let v574 : BitVec 32 := Scalar.andi v568 c_m16_i32_337
  let c384_i32_338 : BitVec 32 := 384#32
  let v575 : BitVec 32 := Scalar.minsi v574 c384_i32_338
  let c128_i32_339 : BitVec 32 := 128#32
  let v576 : BitVec 32 := Scalar.addi v575 c128_i32_339
  let c8_i32_340 : BitVec 32 := 8#32
  let v577 : BitVec 32 := Scalar.shrui v576 c8_i32_340
  let v578 : BitVec 1 := Scalar.cmpi .sgt v573 v576
  let c255_i32_341 : BitVec 32 := 255#32
  let v579 : BitVec 32 := Scalar.addi v573 c255_i32_341
  let c8_i32_342 : BitVec 32 := 8#32
  let v580 : BitVec 32 := Scalar.shrui v579 c8_i32_342
  let v581 : BitVec 32 := Scalar.select v578 v580 v577
  let v582 : BitVec 32 := Scalar.subi v581 v577
  let c1_i32_344 : BitVec 32 := 1#32
  let v584 : BitVec 32 := Scalar.divsi v582 c1_i32_344
  let v585 : BitVec 32 := Scalar.muli v584 c1_i32_344
  let v586 : BitVec 32 := Scalar.addi v577 v585
  let c1_i32_345 : BitVec 32 := 1#32
  ⟨v577, v586, c1_i32_345⟩

def k0_mult25 (v568 : BitVec 32) (v573 : BitVec 32) (k0_t9 : Fin (k0_t9_loop v568 v573).trips) : BitVec 32 :=
  let c_m16_i32_337 : BitVec 32 := 4294967280#32
  let v574 : BitVec 32 := Scalar.andi v568 c_m16_i32_337
  let c384_i32_338 : BitVec 32 := 384#32
  let v575 : BitVec 32 := Scalar.minsi v574 c384_i32_338
  let c128_i32_339 : BitVec 32 := 128#32
  let v576 : BitVec 32 := Scalar.addi v575 c128_i32_339
  let c8_i32_340 : BitVec 32 := 8#32
  let v577 : BitVec 32 := Scalar.shrui v576 c8_i32_340
  let c1_i32_345 : BitVec 32 := 1#32
  let arg11 : BitVec 32 := Scf.iv v577 c1_i32_345 k0_t9
  let c256_i32 : BitVec 32 := 256#32
  let v887 : BitVec 32 := Scalar.muli arg11 c256_i32
  v887
def k0_off51 (v568 : BitVec 32) (v573 : BitVec 32) (k0_t9 : Fin (k0_t9_loop v568 v573).trips) : Fin 4 → Nat :=
  let c0_546 : Index := 0#32
  let c4_547 : Index := 4#32
  let c_m16_i32_337 : BitVec 32 := 4294967280#32
  let v574 : BitVec 32 := Scalar.andi v568 c_m16_i32_337
  let c384_i32_338 : BitVec 32 := 384#32
  let v575 : BitVec 32 := Scalar.minsi v574 c384_i32_338
  let c128_i32_339 : BitVec 32 := 128#32
  let v576 : BitVec 32 := Scalar.addi v575 c128_i32_339
  let c8_i32_340 : BitVec 32 := 8#32
  let v577 : BitVec 32 := Scalar.shrui v576 c8_i32_340
  let c1_i32_345 : BitVec 32 := 1#32
  let arg11 : BitVec 32 := Scf.iv v577 c1_i32_345 k0_t9
  let c256_i32 : BitVec 32 := 256#32
  let v887 : BitVec 32 := Scalar.muli arg11 c256_i32
  let v888 : BitVec 32 := v887
  let v904 : Index := Scalar.indexCast v888
  let c0_548 : Index := 0#32
  ![0, 4, v904.toNat, 0]
@[reducible] def k0_t10_loop (v568 : BitVec 32) (v573 : BitVec 32) : Scf.Loop 32 :=
  let c_m16_i32_337 : BitVec 32 := 4294967280#32
  let v574 : BitVec 32 := Scalar.andi v568 c_m16_i32_337
  let c384_i32_338 : BitVec 32 := 384#32
  let v575 : BitVec 32 := Scalar.minsi v574 c384_i32_338
  let c128_i32_339 : BitVec 32 := 128#32
  let v576 : BitVec 32 := Scalar.addi v575 c128_i32_339
  let c8_i32_340 : BitVec 32 := 8#32
  let v577 : BitVec 32 := Scalar.shrui v576 c8_i32_340
  let v578 : BitVec 1 := Scalar.cmpi .sgt v573 v576
  let c255_i32_341 : BitVec 32 := 255#32
  let v579 : BitVec 32 := Scalar.addi v573 c255_i32_341
  let c8_i32_342 : BitVec 32 := 8#32
  let v580 : BitVec 32 := Scalar.shrui v579 c8_i32_342
  let v581 : BitVec 32 := Scalar.select v578 v580 v577
  let v582 : BitVec 32 := Scalar.subi v581 v577
  let c1_i32_344 : BitVec 32 := 1#32
  let v584 : BitVec 32 := Scalar.divsi v582 c1_i32_344
  let v585 : BitVec 32 := Scalar.muli v584 c1_i32_344
  let v586 : BitVec 32 := Scalar.addi v577 v585
  let v583 : BitVec 32 := Scalar.addi v577 v582
  let c1_i32_346 : BitVec 32 := 1#32
  ⟨v586, v583, c1_i32_346⟩
def k0_mult26 (v568 : BitVec 32) (v573 : BitVec 32) (k0_t10 : Fin (k0_t10_loop v568 v573).trips) : BitVec 32 :=
  let c_m16_i32_337 : BitVec 32 := 4294967280#32
  let v574 : BitVec 32 := Scalar.andi v568 c_m16_i32_337
  let c384_i32_338 : BitVec 32 := 384#32
  let v575 : BitVec 32 := Scalar.minsi v574 c384_i32_338
  let c128_i32_339 : BitVec 32 := 128#32
  let v576 : BitVec 32 := Scalar.addi v575 c128_i32_339
  let c8_i32_340 : BitVec 32 := 8#32
  let v577 : BitVec 32 := Scalar.shrui v576 c8_i32_340
  let v578 : BitVec 1 := Scalar.cmpi .sgt v573 v576
  let c255_i32_341 : BitVec 32 := 255#32
  let v579 : BitVec 32 := Scalar.addi v573 c255_i32_341
  let c8_i32_342 : BitVec 32 := 8#32
  let v580 : BitVec 32 := Scalar.shrui v579 c8_i32_342
  let v581 : BitVec 32 := Scalar.select v578 v580 v577
  let v582 : BitVec 32 := Scalar.subi v581 v577
  let c1_i32_344 : BitVec 32 := 1#32
  let v584 : BitVec 32 := Scalar.divsi v582 c1_i32_344
  let v585 : BitVec 32 := Scalar.muli v584 c1_i32_344
  let v586 : BitVec 32 := Scalar.addi v577 v585
  let c1_i32_346 : BitVec 32 := 1#32
  let arg11 : BitVec 32 := Scf.iv v586 c1_i32_346 k0_t10
  let c256_i32 : BitVec 32 := 256#32
  let v887 : BitVec 32 := Scalar.muli arg11 c256_i32
  v887
def k0_off52 (v568 : BitVec 32) (v573 : BitVec 32) (k0_t10 : Fin (k0_t10_loop v568 v573).trips) : Fin 4 → Nat :=
  let c0_546 : Index := 0#32
  let c4_547 : Index := 4#32
  let c_m16_i32_337 : BitVec 32 := 4294967280#32
  let v574 : BitVec 32 := Scalar.andi v568 c_m16_i32_337
  let c384_i32_338 : BitVec 32 := 384#32
  let v575 : BitVec 32 := Scalar.minsi v574 c384_i32_338
  let c128_i32_339 : BitVec 32 := 128#32
  let v576 : BitVec 32 := Scalar.addi v575 c128_i32_339
  let c8_i32_340 : BitVec 32 := 8#32
  let v577 : BitVec 32 := Scalar.shrui v576 c8_i32_340
  let v578 : BitVec 1 := Scalar.cmpi .sgt v573 v576
  let c255_i32_341 : BitVec 32 := 255#32
  let v579 : BitVec 32 := Scalar.addi v573 c255_i32_341
  let c8_i32_342 : BitVec 32 := 8#32
  let v580 : BitVec 32 := Scalar.shrui v579 c8_i32_342
  let v581 : BitVec 32 := Scalar.select v578 v580 v577
  let v582 : BitVec 32 := Scalar.subi v581 v577
  let c1_i32_344 : BitVec 32 := 1#32
  let v584 : BitVec 32 := Scalar.divsi v582 c1_i32_344
  let v585 : BitVec 32 := Scalar.muli v584 c1_i32_344
  let v586 : BitVec 32 := Scalar.addi v577 v585
  let c1_i32_346 : BitVec 32 := 1#32
  let arg11 : BitVec 32 := Scf.iv v586 c1_i32_346 k0_t10
  let c256_i32 : BitVec 32 := 256#32
  let v887 : BitVec 32 := Scalar.muli arg11 c256_i32
  let v888 : BitVec 32 := v887
  let v904 : Index := Scalar.indexCast v888
  let c0_548 : Index := 0#32
  ![0, 4, v904.toNat, 0]

def k0_chk21 (v568 : BitVec 32) (v573 : BitVec 32) : Prop :=
  ((k0_t9_loop v568 v573).OK) ∧
  (∀ k0_t9 : Fin (k0_t9_loop v568 v573).trips, 256 ∣ (k0_mult25 v568 v573 k0_t9).toNat) ∧
  (∀ k0_t9 : Fin (k0_t9_loop v568 v573).trips, ∀ a, (k0_off51 v568 v573 k0_t9) a + S1x1x256x1024.size a ≤ S1x16x512x1024.size a) ∧
  ((k0_t10_loop v568 v573).OK) ∧
  (∀ k0_t10 : Fin (k0_t10_loop v568 v573).trips, 256 ∣ (k0_mult26 v568 v573 k0_t10).toNat) ∧
  (∀ k0_t10 : Fin (k0_t10_loop v568 v573).trips, ∀ a, (k0_off52 v568 v573 k0_t10) a + S1x1x256x1024.size a ≤ S1x16x512x1024.size a)
theorem k0_t9_ok : ∀ (v568 : BitVec 32) (v573 : BitVec 32) (k0_hw21 : k0_chk21 v568 v573), (k0_t9_loop v568 v573).OK := fun v568 v573 k0_hw21 => k0_hw21.1
theorem k0_mult25_dvd : ∀ (v568 : BitVec 32) (v573 : BitVec 32) (k0_hw21 : k0_chk21 v568 v573) (k0_t9 : Fin (k0_t9_loop v568 v573).trips), 256 ∣ (k0_mult25 v568 v573 k0_t9).toNat := fun v568 v573 k0_hw21 k0_t9 => k0_hw21.2.1 k0_t9
theorem k0_off51_inb : ∀ (v568 : BitVec 32) (v573 : BitVec 32) (k0_hw21 : k0_chk21 v568 v573) (k0_t9 : Fin (k0_t9_loop v568 v573).trips), ∀ a, (k0_off51 v568 v573 k0_t9) a + S1x1x256x1024.size a ≤ S1x16x512x1024.size a := fun v568 v573 k0_hw21 k0_t9 => k0_hw21.2.2.1 k0_t9
theorem k0_t10_ok : ∀ (v568 : BitVec 32) (v573 : BitVec 32) (k0_hw21 : k0_chk21 v568 v573), (k0_t10_loop v568 v573).OK := fun v568 v573 k0_hw21 => k0_hw21.2.2.2.1
theorem k0_mult26_dvd : ∀ (v568 : BitVec 32) (v573 : BitVec 32) (k0_hw21 : k0_chk21 v568 v573) (k0_t10 : Fin (k0_t10_loop v568 v573).trips), 256 ∣ (k0_mult26 v568 v573 k0_t10).toNat := fun v568 v573 k0_hw21 k0_t10 => k0_hw21.2.2.2.2.1 k0_t10
theorem k0_off52_inb : ∀ (v568 : BitVec 32) (v573 : BitVec 32) (k0_hw21 : k0_chk21 v568 v573) (k0_t10 : Fin (k0_t10_loop v568 v573).trips), ∀ a, (k0_off52 v568 v573 k0_t10) a + S1x1x256x1024.size a ≤ S1x16x512x1024.size a := fun v568 v573 k0_hw21 k0_t10 => k0_hw21.2.2.2.2.2 k0_t10

def k0_off53 (i : grid0.Coords) : Fin 1 → Nat :=
  let arg0 : BitVec 32 := BitVec.ofNat 32 (i 0).val
  let c16_i32_347 : BitVec 32 := 16#32
  let v587 : BitVec 32 := Scalar.muli arg0 c16_i32_347
  let c5_i32_348 : BitVec 32 := 5#32
  let v588 : BitVec 32 := Scalar.addi v587 c5_i32_348
  let c33_i32_349 : BitVec 32 := 33#32
  let v589 : BitVec 32 := Scalar.muli v588 c33_i32_349
  let arg1 : BitVec 32 := BitVec.ofNat 32 (i 1).val
  let c4_i32_350 : BitVec 32 := 4#32
  let v590 : BitVec 32 := Scalar.muli arg1 c4_i32_350
  let v591 : BitVec 32 := Scalar.addi v589 v590
  let v592 : Index := Scalar.indexCast v591
  ![v592.toNat]
def k0_off54 (i : grid0.Coords) : Fin 1 → Nat :=
  let arg0 : BitVec 32 := BitVec.ofNat 32 (i 0).val
  let c16_i32_347 : BitVec 32 := 16#32
  let v587 : BitVec 32 := Scalar.muli arg0 c16_i32_347
  let c5_i32_348 : BitVec 32 := 5#32
  let v588 : BitVec 32 := Scalar.addi v587 c5_i32_348
  let c33_i32_349 : BitVec 32 := 33#32
  let v589 : BitVec 32 := Scalar.muli v588 c33_i32_349
  let arg1 : BitVec 32 := BitVec.ofNat 32 (i 1).val
  let c1_i32_351 : BitVec 32 := 1#32
  let v594 : BitVec 32 := Scalar.addi arg1 c1_i32_351
  let c4_i32_352 : BitVec 32 := 4#32
  let v595 : BitVec 32 := Scalar.muli v594 c4_i32_352
  let v596 : BitVec 32 := Scalar.addi v589 v595
  let v597 : Index := Scalar.indexCast v596
  ![v597.toNat]
@[reducible] def k0_t11_loop (v593 : BitVec 32) (v598 : BitVec 32) : Scf.Loop 32 :=
  let c_m16_i32_353 : BitVec 32 := 4294967280#32
  let v599 : BitVec 32 := Scalar.andi v593 c_m16_i32_353
  let c384_i32_354 : BitVec 32 := 384#32
  let v600 : BitVec 32 := Scalar.minsi v599 c384_i32_354
  let c128_i32_355 : BitVec 32 := 128#32
  let v601 : BitVec 32 := Scalar.addi v600 c128_i32_355
  let c8_i32_356 : BitVec 32 := 8#32
  let v602 : BitVec 32 := Scalar.shrui v601 c8_i32_356
  let v603 : BitVec 1 := Scalar.cmpi .sgt v598 v601
  let c255_i32_357 : BitVec 32 := 255#32
  let v604 : BitVec 32 := Scalar.addi v598 c255_i32_357
  let c8_i32_358 : BitVec 32 := 8#32
  let v605 : BitVec 32 := Scalar.shrui v604 c8_i32_358
  let v606 : BitVec 32 := Scalar.select v603 v605 v602
  let v607 : BitVec 32 := Scalar.subi v606 v602
  let c1_i32_360 : BitVec 32 := 1#32
  let v609 : BitVec 32 := Scalar.divsi v607 c1_i32_360
  let v610 : BitVec 32 := Scalar.muli v609 c1_i32_360
  let v611 : BitVec 32 := Scalar.addi v602 v610
  let c1_i32_361 : BitVec 32 := 1#32
  ⟨v602, v611, c1_i32_361⟩

def k0_mult27 (v593 : BitVec 32) (v598 : BitVec 32) (k0_t11 : Fin (k0_t11_loop v593 v598).trips) : BitVec 32 :=
  let c_m16_i32_353 : BitVec 32 := 4294967280#32
  let v599 : BitVec 32 := Scalar.andi v593 c_m16_i32_353
  let c384_i32_354 : BitVec 32 := 384#32
  let v600 : BitVec 32 := Scalar.minsi v599 c384_i32_354
  let c128_i32_355 : BitVec 32 := 128#32
  let v601 : BitVec 32 := Scalar.addi v600 c128_i32_355
  let c8_i32_356 : BitVec 32 := 8#32
  let v602 : BitVec 32 := Scalar.shrui v601 c8_i32_356
  let c1_i32_361 : BitVec 32 := 1#32
  let arg11 : BitVec 32 := Scf.iv v602 c1_i32_361 k0_t11
  let c256_i32 : BitVec 32 := 256#32
  let v887 : BitVec 32 := Scalar.muli arg11 c256_i32
  v887
def k0_off55 (v593 : BitVec 32) (v598 : BitVec 32) (k0_t11 : Fin (k0_t11_loop v593 v598).trips) : Fin 4 → Nat :=
  let c0_546 : Index := 0#32
  let c5_547 : Index := 5#32
  let c_m16_i32_353 : BitVec 32 := 4294967280#32
  let v599 : BitVec 32 := Scalar.andi v593 c_m16_i32_353
  let c384_i32_354 : BitVec 32 := 384#32
  let v600 : BitVec 32 := Scalar.minsi v599 c384_i32_354
  let c128_i32_355 : BitVec 32 := 128#32
  let v601 : BitVec 32 := Scalar.addi v600 c128_i32_355
  let c8_i32_356 : BitVec 32 := 8#32
  let v602 : BitVec 32 := Scalar.shrui v601 c8_i32_356
  let c1_i32_361 : BitVec 32 := 1#32
  let arg11 : BitVec 32 := Scf.iv v602 c1_i32_361 k0_t11
  let c256_i32 : BitVec 32 := 256#32
  let v887 : BitVec 32 := Scalar.muli arg11 c256_i32
  let v888 : BitVec 32 := v887
  let v904 : Index := Scalar.indexCast v888
  let c0_548 : Index := 0#32
  ![0, 5, v904.toNat, 0]
@[reducible] def k0_t12_loop (v593 : BitVec 32) (v598 : BitVec 32) : Scf.Loop 32 :=
  let c_m16_i32_353 : BitVec 32 := 4294967280#32
  let v599 : BitVec 32 := Scalar.andi v593 c_m16_i32_353
  let c384_i32_354 : BitVec 32 := 384#32
  let v600 : BitVec 32 := Scalar.minsi v599 c384_i32_354
  let c128_i32_355 : BitVec 32 := 128#32
  let v601 : BitVec 32 := Scalar.addi v600 c128_i32_355
  let c8_i32_356 : BitVec 32 := 8#32
  let v602 : BitVec 32 := Scalar.shrui v601 c8_i32_356
  let v603 : BitVec 1 := Scalar.cmpi .sgt v598 v601
  let c255_i32_357 : BitVec 32 := 255#32
  let v604 : BitVec 32 := Scalar.addi v598 c255_i32_357
  let c8_i32_358 : BitVec 32 := 8#32
  let v605 : BitVec 32 := Scalar.shrui v604 c8_i32_358
  let v606 : BitVec 32 := Scalar.select v603 v605 v602
  let v607 : BitVec 32 := Scalar.subi v606 v602
  let c1_i32_360 : BitVec 32 := 1#32
  let v609 : BitVec 32 := Scalar.divsi v607 c1_i32_360
  let v610 : BitVec 32 := Scalar.muli v609 c1_i32_360
  let v611 : BitVec 32 := Scalar.addi v602 v610
  let v608 : BitVec 32 := Scalar.addi v602 v607
  let c1_i32_362 : BitVec 32 := 1#32
  ⟨v611, v608, c1_i32_362⟩
def k0_mult28 (v593 : BitVec 32) (v598 : BitVec 32) (k0_t12 : Fin (k0_t12_loop v593 v598).trips) : BitVec 32 :=
  let c_m16_i32_353 : BitVec 32 := 4294967280#32
  let v599 : BitVec 32 := Scalar.andi v593 c_m16_i32_353
  let c384_i32_354 : BitVec 32 := 384#32
  let v600 : BitVec 32 := Scalar.minsi v599 c384_i32_354
  let c128_i32_355 : BitVec 32 := 128#32
  let v601 : BitVec 32 := Scalar.addi v600 c128_i32_355
  let c8_i32_356 : BitVec 32 := 8#32
  let v602 : BitVec 32 := Scalar.shrui v601 c8_i32_356
  let v603 : BitVec 1 := Scalar.cmpi .sgt v598 v601
  let c255_i32_357 : BitVec 32 := 255#32
  let v604 : BitVec 32 := Scalar.addi v598 c255_i32_357
  let c8_i32_358 : BitVec 32 := 8#32
  let v605 : BitVec 32 := Scalar.shrui v604 c8_i32_358
  let v606 : BitVec 32 := Scalar.select v603 v605 v602
  let v607 : BitVec 32 := Scalar.subi v606 v602
  let c1_i32_360 : BitVec 32 := 1#32
  let v609 : BitVec 32 := Scalar.divsi v607 c1_i32_360
  let v610 : BitVec 32 := Scalar.muli v609 c1_i32_360
  let v611 : BitVec 32 := Scalar.addi v602 v610
  let c1_i32_362 : BitVec 32 := 1#32
  let arg11 : BitVec 32 := Scf.iv v611 c1_i32_362 k0_t12
  let c256_i32 : BitVec 32 := 256#32
  let v887 : BitVec 32 := Scalar.muli arg11 c256_i32
  v887
def k0_off56 (v593 : BitVec 32) (v598 : BitVec 32) (k0_t12 : Fin (k0_t12_loop v593 v598).trips) : Fin 4 → Nat :=
  let c0_546 : Index := 0#32
  let c5_547 : Index := 5#32
  let c_m16_i32_353 : BitVec 32 := 4294967280#32
  let v599 : BitVec 32 := Scalar.andi v593 c_m16_i32_353
  let c384_i32_354 : BitVec 32 := 384#32
  let v600 : BitVec 32 := Scalar.minsi v599 c384_i32_354
  let c128_i32_355 : BitVec 32 := 128#32
  let v601 : BitVec 32 := Scalar.addi v600 c128_i32_355
  let c8_i32_356 : BitVec 32 := 8#32
  let v602 : BitVec 32 := Scalar.shrui v601 c8_i32_356
  let v603 : BitVec 1 := Scalar.cmpi .sgt v598 v601
  let c255_i32_357 : BitVec 32 := 255#32
  let v604 : BitVec 32 := Scalar.addi v598 c255_i32_357
  let c8_i32_358 : BitVec 32 := 8#32
  let v605 : BitVec 32 := Scalar.shrui v604 c8_i32_358
  let v606 : BitVec 32 := Scalar.select v603 v605 v602
  let v607 : BitVec 32 := Scalar.subi v606 v602
  let c1_i32_360 : BitVec 32 := 1#32
  let v609 : BitVec 32 := Scalar.divsi v607 c1_i32_360
  let v610 : BitVec 32 := Scalar.muli v609 c1_i32_360
  let v611 : BitVec 32 := Scalar.addi v602 v610
  let c1_i32_362 : BitVec 32 := 1#32
  let arg11 : BitVec 32 := Scf.iv v611 c1_i32_362 k0_t12
  let c256_i32 : BitVec 32 := 256#32
  let v887 : BitVec 32 := Scalar.muli arg11 c256_i32
  let v888 : BitVec 32 := v887
  let v904 : Index := Scalar.indexCast v888
  let c0_548 : Index := 0#32
  ![0, 5, v904.toNat, 0]

def k0_chk22 (v593 : BitVec 32) (v598 : BitVec 32) : Prop :=
  ((k0_t11_loop v593 v598).OK) ∧
  (∀ k0_t11 : Fin (k0_t11_loop v593 v598).trips, 256 ∣ (k0_mult27 v593 v598 k0_t11).toNat) ∧
  (∀ k0_t11 : Fin (k0_t11_loop v593 v598).trips, ∀ a, (k0_off55 v593 v598 k0_t11) a + S1x1x256x1024.size a ≤ S1x16x512x1024.size a) ∧
  ((k0_t12_loop v593 v598).OK) ∧
  (∀ k0_t12 : Fin (k0_t12_loop v593 v598).trips, 256 ∣ (k0_mult28 v593 v598 k0_t12).toNat) ∧
  (∀ k0_t12 : Fin (k0_t12_loop v593 v598).trips, ∀ a, (k0_off56 v593 v598 k0_t12) a + S1x1x256x1024.size a ≤ S1x16x512x1024.size a)
theorem k0_t11_ok : ∀ (v593 : BitVec 32) (v598 : BitVec 32) (k0_hw22 : k0_chk22 v593 v598), (k0_t11_loop v593 v598).OK := fun v593 v598 k0_hw22 => k0_hw22.1
theorem k0_mult27_dvd : ∀ (v593 : BitVec 32) (v598 : BitVec 32) (k0_hw22 : k0_chk22 v593 v598) (k0_t11 : Fin (k0_t11_loop v593 v598).trips), 256 ∣ (k0_mult27 v593 v598 k0_t11).toNat := fun v593 v598 k0_hw22 k0_t11 => k0_hw22.2.1 k0_t11
theorem k0_off55_inb : ∀ (v593 : BitVec 32) (v598 : BitVec 32) (k0_hw22 : k0_chk22 v593 v598) (k0_t11 : Fin (k0_t11_loop v593 v598).trips), ∀ a, (k0_off55 v593 v598 k0_t11) a + S1x1x256x1024.size a ≤ S1x16x512x1024.size a := fun v593 v598 k0_hw22 k0_t11 => k0_hw22.2.2.1 k0_t11
theorem k0_t12_ok : ∀ (v593 : BitVec 32) (v598 : BitVec 32) (k0_hw22 : k0_chk22 v593 v598), (k0_t12_loop v593 v598).OK := fun v593 v598 k0_hw22 => k0_hw22.2.2.2.1
theorem k0_mult28_dvd : ∀ (v593 : BitVec 32) (v598 : BitVec 32) (k0_hw22 : k0_chk22 v593 v598) (k0_t12 : Fin (k0_t12_loop v593 v598).trips), 256 ∣ (k0_mult28 v593 v598 k0_t12).toNat := fun v593 v598 k0_hw22 k0_t12 => k0_hw22.2.2.2.2.1 k0_t12
theorem k0_off56_inb : ∀ (v593 : BitVec 32) (v598 : BitVec 32) (k0_hw22 : k0_chk22 v593 v598) (k0_t12 : Fin (k0_t12_loop v593 v598).trips), ∀ a, (k0_off56 v593 v598 k0_t12) a + S1x1x256x1024.size a ≤ S1x16x512x1024.size a := fun v593 v598 k0_hw22 k0_t12 => k0_hw22.2.2.2.2.2 k0_t12

def k0_off57 (i : grid0.Coords) : Fin 1 → Nat :=
  let arg0 : BitVec 32 := BitVec.ofNat 32 (i 0).val
  let c16_i32_363 : BitVec 32 := 16#32
  let v612 : BitVec 32 := Scalar.muli arg0 c16_i32_363
  let c6_i32_364 : BitVec 32 := 6#32
  let v613 : BitVec 32 := Scalar.addi v612 c6_i32_364
  let c33_i32_365 : BitVec 32 := 33#32
  let v614 : BitVec 32 := Scalar.muli v613 c33_i32_365
  let arg1 : BitVec 32 := BitVec.ofNat 32 (i 1).val
  let c4_i32_366 : BitVec 32 := 4#32
  let v615 : BitVec 32 := Scalar.muli arg1 c4_i32_366
  let v616 : BitVec 32 := Scalar.addi v614 v615
  let v617 : Index := Scalar.indexCast v616
  ![v617.toNat]
def k0_off58 (i : grid0.Coords) : Fin 1 → Nat :=
  let arg0 : BitVec 32 := BitVec.ofNat 32 (i 0).val
  let c16_i32_363 : BitVec 32 := 16#32
  let v612 : BitVec 32 := Scalar.muli arg0 c16_i32_363
  let c6_i32_364 : BitVec 32 := 6#32
  let v613 : BitVec 32 := Scalar.addi v612 c6_i32_364
  let c33_i32_365 : BitVec 32 := 33#32
  let v614 : BitVec 32 := Scalar.muli v613 c33_i32_365
  let arg1 : BitVec 32 := BitVec.ofNat 32 (i 1).val
  let c1_i32_367 : BitVec 32 := 1#32
  let v619 : BitVec 32 := Scalar.addi arg1 c1_i32_367
  let c4_i32_368 : BitVec 32 := 4#32
  let v620 : BitVec 32 := Scalar.muli v619 c4_i32_368
  let v621 : BitVec 32 := Scalar.addi v614 v620
  let v622 : Index := Scalar.indexCast v621
  ![v622.toNat]
@[reducible] def k0_t13_loop (v618 : BitVec 32) (v623 : BitVec 32) : Scf.Loop 32 :=
  let c_m16_i32_369 : BitVec 32 := 4294967280#32
  let v624 : BitVec 32 := Scalar.andi v618 c_m16_i32_369
  let c384_i32_370 : BitVec 32 := 384#32
  let v625 : BitVec 32 := Scalar.minsi v624 c384_i32_370
  let c128_i32_371 : BitVec 32 := 128#32
  let v626 : BitVec 32 := Scalar.addi v625 c128_i32_371
  let c8_i32_372 : BitVec 32 := 8#32
  let v627 : BitVec 32 := Scalar.shrui v626 c8_i32_372
  let v628 : BitVec 1 := Scalar.cmpi .sgt v623 v626
  let c255_i32_373 : BitVec 32 := 255#32
  let v629 : BitVec 32 := Scalar.addi v623 c255_i32_373
  let c8_i32_374 : BitVec 32 := 8#32
  let v630 : BitVec 32 := Scalar.shrui v629 c8_i32_374
  let v631 : BitVec 32 := Scalar.select v628 v630 v627
  let v632 : BitVec 32 := Scalar.subi v631 v627
  let c1_i32_376 : BitVec 32 := 1#32
  let v634 : BitVec 32 := Scalar.divsi v632 c1_i32_376
  let v635 : BitVec 32 := Scalar.muli v634 c1_i32_376
  let v636 : BitVec 32 := Scalar.addi v627 v635
  let c1_i32_377 : BitVec 32 := 1#32
  ⟨v627, v636, c1_i32_377⟩

def k0_mult29 (v618 : BitVec 32) (v623 : BitVec 32) (k0_t13 : Fin (k0_t13_loop v618 v623).trips) : BitVec 32 :=
  let c_m16_i32_369 : BitVec 32 := 4294967280#32
  let v624 : BitVec 32 := Scalar.andi v618 c_m16_i32_369
  let c384_i32_370 : BitVec 32 := 384#32
  let v625 : BitVec 32 := Scalar.minsi v624 c384_i32_370
  let c128_i32_371 : BitVec 32 := 128#32
  let v626 : BitVec 32 := Scalar.addi v625 c128_i32_371
  let c8_i32_372 : BitVec 32 := 8#32
  let v627 : BitVec 32 := Scalar.shrui v626 c8_i32_372
  let c1_i32_377 : BitVec 32 := 1#32
  let arg11 : BitVec 32 := Scf.iv v627 c1_i32_377 k0_t13
  let c256_i32 : BitVec 32 := 256#32
  let v887 : BitVec 32 := Scalar.muli arg11 c256_i32
  v887
def k0_off59 (v618 : BitVec 32) (v623 : BitVec 32) (k0_t13 : Fin (k0_t13_loop v618 v623).trips) : Fin 4 → Nat :=
  let c0_546 : Index := 0#32
  let c6_547 : Index := 6#32
  let c_m16_i32_369 : BitVec 32 := 4294967280#32
  let v624 : BitVec 32 := Scalar.andi v618 c_m16_i32_369
  let c384_i32_370 : BitVec 32 := 384#32
  let v625 : BitVec 32 := Scalar.minsi v624 c384_i32_370
  let c128_i32_371 : BitVec 32 := 128#32
  let v626 : BitVec 32 := Scalar.addi v625 c128_i32_371
  let c8_i32_372 : BitVec 32 := 8#32
  let v627 : BitVec 32 := Scalar.shrui v626 c8_i32_372
  let c1_i32_377 : BitVec 32 := 1#32
  let arg11 : BitVec 32 := Scf.iv v627 c1_i32_377 k0_t13
  let c256_i32 : BitVec 32 := 256#32
  let v887 : BitVec 32 := Scalar.muli arg11 c256_i32
  let v888 : BitVec 32 := v887
  let v904 : Index := Scalar.indexCast v888
  let c0_548 : Index := 0#32
  ![0, 6, v904.toNat, 0]
@[reducible] def k0_t14_loop (v618 : BitVec 32) (v623 : BitVec 32) : Scf.Loop 32 :=
  let c_m16_i32_369 : BitVec 32 := 4294967280#32
  let v624 : BitVec 32 := Scalar.andi v618 c_m16_i32_369
  let c384_i32_370 : BitVec 32 := 384#32
  let v625 : BitVec 32 := Scalar.minsi v624 c384_i32_370
  let c128_i32_371 : BitVec 32 := 128#32
  let v626 : BitVec 32 := Scalar.addi v625 c128_i32_371
  let c8_i32_372 : BitVec 32 := 8#32
  let v627 : BitVec 32 := Scalar.shrui v626 c8_i32_372
  let v628 : BitVec 1 := Scalar.cmpi .sgt v623 v626
  let c255_i32_373 : BitVec 32 := 255#32
  let v629 : BitVec 32 := Scalar.addi v623 c255_i32_373
  let c8_i32_374 : BitVec 32 := 8#32
  let v630 : BitVec 32 := Scalar.shrui v629 c8_i32_374
  let v631 : BitVec 32 := Scalar.select v628 v630 v627
  let v632 : BitVec 32 := Scalar.subi v631 v627
  let c1_i32_376 : BitVec 32 := 1#32
  let v634 : BitVec 32 := Scalar.divsi v632 c1_i32_376
  let v635 : BitVec 32 := Scalar.muli v634 c1_i32_376
  let v636 : BitVec 32 := Scalar.addi v627 v635
  let v633 : BitVec 32 := Scalar.addi v627 v632
  let c1_i32_378 : BitVec 32 := 1#32
  ⟨v636, v633, c1_i32_378⟩
def k0_mult30 (v618 : BitVec 32) (v623 : BitVec 32) (k0_t14 : Fin (k0_t14_loop v618 v623).trips) : BitVec 32 :=
  let c_m16_i32_369 : BitVec 32 := 4294967280#32
  let v624 : BitVec 32 := Scalar.andi v618 c_m16_i32_369
  let c384_i32_370 : BitVec 32 := 384#32
  let v625 : BitVec 32 := Scalar.minsi v624 c384_i32_370
  let c128_i32_371 : BitVec 32 := 128#32
  let v626 : BitVec 32 := Scalar.addi v625 c128_i32_371
  let c8_i32_372 : BitVec 32 := 8#32
  let v627 : BitVec 32 := Scalar.shrui v626 c8_i32_372
  let v628 : BitVec 1 := Scalar.cmpi .sgt v623 v626
  let c255_i32_373 : BitVec 32 := 255#32
  let v629 : BitVec 32 := Scalar.addi v623 c255_i32_373
  let c8_i32_374 : BitVec 32 := 8#32
  let v630 : BitVec 32 := Scalar.shrui v629 c8_i32_374
  let v631 : BitVec 32 := Scalar.select v628 v630 v627
  let v632 : BitVec 32 := Scalar.subi v631 v627
  let c1_i32_376 : BitVec 32 := 1#32
  let v634 : BitVec 32 := Scalar.divsi v632 c1_i32_376
  let v635 : BitVec 32 := Scalar.muli v634 c1_i32_376
  let v636 : BitVec 32 := Scalar.addi v627 v635
  let c1_i32_378 : BitVec 32 := 1#32
  let arg11 : BitVec 32 := Scf.iv v636 c1_i32_378 k0_t14
  let c256_i32 : BitVec 32 := 256#32
  let v887 : BitVec 32 := Scalar.muli arg11 c256_i32
  v887
def k0_off60 (v618 : BitVec 32) (v623 : BitVec 32) (k0_t14 : Fin (k0_t14_loop v618 v623).trips) : Fin 4 → Nat :=
  let c0_546 : Index := 0#32
  let c6_547 : Index := 6#32
  let c_m16_i32_369 : BitVec 32 := 4294967280#32
  let v624 : BitVec 32 := Scalar.andi v618 c_m16_i32_369
  let c384_i32_370 : BitVec 32 := 384#32
  let v625 : BitVec 32 := Scalar.minsi v624 c384_i32_370
  let c128_i32_371 : BitVec 32 := 128#32
  let v626 : BitVec 32 := Scalar.addi v625 c128_i32_371
  let c8_i32_372 : BitVec 32 := 8#32
  let v627 : BitVec 32 := Scalar.shrui v626 c8_i32_372
  let v628 : BitVec 1 := Scalar.cmpi .sgt v623 v626
  let c255_i32_373 : BitVec 32 := 255#32
  let v629 : BitVec 32 := Scalar.addi v623 c255_i32_373
  let c8_i32_374 : BitVec 32 := 8#32
  let v630 : BitVec 32 := Scalar.shrui v629 c8_i32_374
  let v631 : BitVec 32 := Scalar.select v628 v630 v627
  let v632 : BitVec 32 := Scalar.subi v631 v627
  let c1_i32_376 : BitVec 32 := 1#32
  let v634 : BitVec 32 := Scalar.divsi v632 c1_i32_376
  let v635 : BitVec 32 := Scalar.muli v634 c1_i32_376
  let v636 : BitVec 32 := Scalar.addi v627 v635
  let c1_i32_378 : BitVec 32 := 1#32
  let arg11 : BitVec 32 := Scf.iv v636 c1_i32_378 k0_t14
  let c256_i32 : BitVec 32 := 256#32
  let v887 : BitVec 32 := Scalar.muli arg11 c256_i32
  let v888 : BitVec 32 := v887
  let v904 : Index := Scalar.indexCast v888
  let c0_548 : Index := 0#32
  ![0, 6, v904.toNat, 0]

def k0_chk23 (v618 : BitVec 32) (v623 : BitVec 32) : Prop :=
  ((k0_t13_loop v618 v623).OK) ∧
  (∀ k0_t13 : Fin (k0_t13_loop v618 v623).trips, 256 ∣ (k0_mult29 v618 v623 k0_t13).toNat) ∧
  (∀ k0_t13 : Fin (k0_t13_loop v618 v623).trips, ∀ a, (k0_off59 v618 v623 k0_t13) a + S1x1x256x1024.size a ≤ S1x16x512x1024.size a) ∧
  ((k0_t14_loop v618 v623).OK) ∧
  (∀ k0_t14 : Fin (k0_t14_loop v618 v623).trips, 256 ∣ (k0_mult30 v618 v623 k0_t14).toNat) ∧
  (∀ k0_t14 : Fin (k0_t14_loop v618 v623).trips, ∀ a, (k0_off60 v618 v623 k0_t14) a + S1x1x256x1024.size a ≤ S1x16x512x1024.size a)
theorem k0_t13_ok : ∀ (v618 : BitVec 32) (v623 : BitVec 32) (k0_hw23 : k0_chk23 v618 v623), (k0_t13_loop v618 v623).OK := fun v618 v623 k0_hw23 => k0_hw23.1
theorem k0_mult29_dvd : ∀ (v618 : BitVec 32) (v623 : BitVec 32) (k0_hw23 : k0_chk23 v618 v623) (k0_t13 : Fin (k0_t13_loop v618 v623).trips), 256 ∣ (k0_mult29 v618 v623 k0_t13).toNat := fun v618 v623 k0_hw23 k0_t13 => k0_hw23.2.1 k0_t13
theorem k0_off59_inb : ∀ (v618 : BitVec 32) (v623 : BitVec 32) (k0_hw23 : k0_chk23 v618 v623) (k0_t13 : Fin (k0_t13_loop v618 v623).trips), ∀ a, (k0_off59 v618 v623 k0_t13) a + S1x1x256x1024.size a ≤ S1x16x512x1024.size a := fun v618 v623 k0_hw23 k0_t13 => k0_hw23.2.2.1 k0_t13
theorem k0_t14_ok : ∀ (v618 : BitVec 32) (v623 : BitVec 32) (k0_hw23 : k0_chk23 v618 v623), (k0_t14_loop v618 v623).OK := fun v618 v623 k0_hw23 => k0_hw23.2.2.2.1
theorem k0_mult30_dvd : ∀ (v618 : BitVec 32) (v623 : BitVec 32) (k0_hw23 : k0_chk23 v618 v623) (k0_t14 : Fin (k0_t14_loop v618 v623).trips), 256 ∣ (k0_mult30 v618 v623 k0_t14).toNat := fun v618 v623 k0_hw23 k0_t14 => k0_hw23.2.2.2.2.1 k0_t14
theorem k0_off60_inb : ∀ (v618 : BitVec 32) (v623 : BitVec 32) (k0_hw23 : k0_chk23 v618 v623) (k0_t14 : Fin (k0_t14_loop v618 v623).trips), ∀ a, (k0_off60 v618 v623 k0_t14) a + S1x1x256x1024.size a ≤ S1x16x512x1024.size a := fun v618 v623 k0_hw23 k0_t14 => k0_hw23.2.2.2.2.2 k0_t14

def k0_off61 (i : grid0.Coords) : Fin 1 → Nat :=
  let arg0 : BitVec 32 := BitVec.ofNat 32 (i 0).val
  let c16_i32_379 : BitVec 32 := 16#32
  let v637 : BitVec 32 := Scalar.muli arg0 c16_i32_379
  let c7_i32_380 : BitVec 32 := 7#32
  let v638 : BitVec 32 := Scalar.addi v637 c7_i32_380
  let c33_i32_381 : BitVec 32 := 33#32
  let v639 : BitVec 32 := Scalar.muli v638 c33_i32_381
  let arg1 : BitVec 32 := BitVec.ofNat 32 (i 1).val
  let c4_i32_382 : BitVec 32 := 4#32
  let v640 : BitVec 32 := Scalar.muli arg1 c4_i32_382
  let v641 : BitVec 32 := Scalar.addi v639 v640
  let v642 : Index := Scalar.indexCast v641
  ![v642.toNat]
def k0_off62 (i : grid0.Coords) : Fin 1 → Nat :=
  let arg0 : BitVec 32 := BitVec.ofNat 32 (i 0).val
  let c16_i32_379 : BitVec 32 := 16#32
  let v637 : BitVec 32 := Scalar.muli arg0 c16_i32_379
  let c7_i32_380 : BitVec 32 := 7#32
  let v638 : BitVec 32 := Scalar.addi v637 c7_i32_380
  let c33_i32_381 : BitVec 32 := 33#32
  let v639 : BitVec 32 := Scalar.muli v638 c33_i32_381
  let arg1 : BitVec 32 := BitVec.ofNat 32 (i 1).val
  let c1_i32_383 : BitVec 32 := 1#32
  let v644 : BitVec 32 := Scalar.addi arg1 c1_i32_383
  let c4_i32_384 : BitVec 32 := 4#32
  let v645 : BitVec 32 := Scalar.muli v644 c4_i32_384
  let v646 : BitVec 32 := Scalar.addi v639 v645
  let v647 : Index := Scalar.indexCast v646
  ![v647.toNat]
@[reducible] def k0_t15_loop (v643 : BitVec 32) (v648 : BitVec 32) : Scf.Loop 32 :=
  let c_m16_i32_385 : BitVec 32 := 4294967280#32
  let v649 : BitVec 32 := Scalar.andi v643 c_m16_i32_385
  let c384_i32_386 : BitVec 32 := 384#32
  let v650 : BitVec 32 := Scalar.minsi v649 c384_i32_386
  let c128_i32_387 : BitVec 32 := 128#32
  let v651 : BitVec 32 := Scalar.addi v650 c128_i32_387
  let c8_i32_388 : BitVec 32 := 8#32
  let v652 : BitVec 32 := Scalar.shrui v651 c8_i32_388
  let v653 : BitVec 1 := Scalar.cmpi .sgt v648 v651
  let c255_i32_389 : BitVec 32 := 255#32
  let v654 : BitVec 32 := Scalar.addi v648 c255_i32_389
  let c8_i32_390 : BitVec 32 := 8#32
  let v655 : BitVec 32 := Scalar.shrui v654 c8_i32_390
  let v656 : BitVec 32 := Scalar.select v653 v655 v652
  let v657 : BitVec 32 := Scalar.subi v656 v652
  let c1_i32_392 : BitVec 32 := 1#32
  let v659 : BitVec 32 := Scalar.divsi v657 c1_i32_392
  let v660 : BitVec 32 := Scalar.muli v659 c1_i32_392
  let v661 : BitVec 32 := Scalar.addi v652 v660
  let c1_i32_393 : BitVec 32 := 1#32
  ⟨v652, v661, c1_i32_393⟩

def k0_mult31 (v643 : BitVec 32) (v648 : BitVec 32) (k0_t15 : Fin (k0_t15_loop v643 v648).trips) : BitVec 32 :=
  let c_m16_i32_385 : BitVec 32 := 4294967280#32
  let v649 : BitVec 32 := Scalar.andi v643 c_m16_i32_385
  let c384_i32_386 : BitVec 32 := 384#32
  let v650 : BitVec 32 := Scalar.minsi v649 c384_i32_386
  let c128_i32_387 : BitVec 32 := 128#32
  let v651 : BitVec 32 := Scalar.addi v650 c128_i32_387
  let c8_i32_388 : BitVec 32 := 8#32
  let v652 : BitVec 32 := Scalar.shrui v651 c8_i32_388
  let c1_i32_393 : BitVec 32 := 1#32
  let arg11 : BitVec 32 := Scf.iv v652 c1_i32_393 k0_t15
  let c256_i32 : BitVec 32 := 256#32
  let v887 : BitVec 32 := Scalar.muli arg11 c256_i32
  v887
def k0_off63 (v643 : BitVec 32) (v648 : BitVec 32) (k0_t15 : Fin (k0_t15_loop v643 v648).trips) : Fin 4 → Nat :=
  let c0_546 : Index := 0#32
  let c7_547 : Index := 7#32
  let c_m16_i32_385 : BitVec 32 := 4294967280#32
  let v649 : BitVec 32 := Scalar.andi v643 c_m16_i32_385
  let c384_i32_386 : BitVec 32 := 384#32
  let v650 : BitVec 32 := Scalar.minsi v649 c384_i32_386
  let c128_i32_387 : BitVec 32 := 128#32
  let v651 : BitVec 32 := Scalar.addi v650 c128_i32_387
  let c8_i32_388 : BitVec 32 := 8#32
  let v652 : BitVec 32 := Scalar.shrui v651 c8_i32_388
  let c1_i32_393 : BitVec 32 := 1#32
  let arg11 : BitVec 32 := Scf.iv v652 c1_i32_393 k0_t15
  let c256_i32 : BitVec 32 := 256#32
  let v887 : BitVec 32 := Scalar.muli arg11 c256_i32
  let v888 : BitVec 32 := v887
  let v904 : Index := Scalar.indexCast v888
  let c0_548 : Index := 0#32
  ![0, 7, v904.toNat, 0]
@[reducible] def k0_t16_loop (v643 : BitVec 32) (v648 : BitVec 32) : Scf.Loop 32 :=
  let c_m16_i32_385 : BitVec 32 := 4294967280#32
  let v649 : BitVec 32 := Scalar.andi v643 c_m16_i32_385
  let c384_i32_386 : BitVec 32 := 384#32
  let v650 : BitVec 32 := Scalar.minsi v649 c384_i32_386
  let c128_i32_387 : BitVec 32 := 128#32
  let v651 : BitVec 32 := Scalar.addi v650 c128_i32_387
  let c8_i32_388 : BitVec 32 := 8#32
  let v652 : BitVec 32 := Scalar.shrui v651 c8_i32_388
  let v653 : BitVec 1 := Scalar.cmpi .sgt v648 v651
  let c255_i32_389 : BitVec 32 := 255#32
  let v654 : BitVec 32 := Scalar.addi v648 c255_i32_389
  let c8_i32_390 : BitVec 32 := 8#32
  let v655 : BitVec 32 := Scalar.shrui v654 c8_i32_390
  let v656 : BitVec 32 := Scalar.select v653 v655 v652
  let v657 : BitVec 32 := Scalar.subi v656 v652
  let c1_i32_392 : BitVec 32 := 1#32
  let v659 : BitVec 32 := Scalar.divsi v657 c1_i32_392
  let v660 : BitVec 32 := Scalar.muli v659 c1_i32_392
  let v661 : BitVec 32 := Scalar.addi v652 v660
  let v658 : BitVec 32 := Scalar.addi v652 v657
  let c1_i32_394 : BitVec 32 := 1#32
  ⟨v661, v658, c1_i32_394⟩
def k0_mult32 (v643 : BitVec 32) (v648 : BitVec 32) (k0_t16 : Fin (k0_t16_loop v643 v648).trips) : BitVec 32 :=
  let c_m16_i32_385 : BitVec 32 := 4294967280#32
  let v649 : BitVec 32 := Scalar.andi v643 c_m16_i32_385
  let c384_i32_386 : BitVec 32 := 384#32
  let v650 : BitVec 32 := Scalar.minsi v649 c384_i32_386
  let c128_i32_387 : BitVec 32 := 128#32
  let v651 : BitVec 32 := Scalar.addi v650 c128_i32_387
  let c8_i32_388 : BitVec 32 := 8#32
  let v652 : BitVec 32 := Scalar.shrui v651 c8_i32_388
  let v653 : BitVec 1 := Scalar.cmpi .sgt v648 v651
  let c255_i32_389 : BitVec 32 := 255#32
  let v654 : BitVec 32 := Scalar.addi v648 c255_i32_389
  let c8_i32_390 : BitVec 32 := 8#32
  let v655 : BitVec 32 := Scalar.shrui v654 c8_i32_390
  let v656 : BitVec 32 := Scalar.select v653 v655 v652
  let v657 : BitVec 32 := Scalar.subi v656 v652
  let c1_i32_392 : BitVec 32 := 1#32
  let v659 : BitVec 32 := Scalar.divsi v657 c1_i32_392
  let v660 : BitVec 32 := Scalar.muli v659 c1_i32_392
  let v661 : BitVec 32 := Scalar.addi v652 v660
  let c1_i32_394 : BitVec 32 := 1#32
  let arg11 : BitVec 32 := Scf.iv v661 c1_i32_394 k0_t16
  let c256_i32 : BitVec 32 := 256#32
  let v887 : BitVec 32 := Scalar.muli arg11 c256_i32
  v887
def k0_off64 (v643 : BitVec 32) (v648 : BitVec 32) (k0_t16 : Fin (k0_t16_loop v643 v648).trips) : Fin 4 → Nat :=
  let c0_546 : Index := 0#32
  let c7_547 : Index := 7#32
  let c_m16_i32_385 : BitVec 32 := 4294967280#32
  let v649 : BitVec 32 := Scalar.andi v643 c_m16_i32_385
  let c384_i32_386 : BitVec 32 := 384#32
  let v650 : BitVec 32 := Scalar.minsi v649 c384_i32_386
  let c128_i32_387 : BitVec 32 := 128#32
  let v651 : BitVec 32 := Scalar.addi v650 c128_i32_387
  let c8_i32_388 : BitVec 32 := 8#32
  let v652 : BitVec 32 := Scalar.shrui v651 c8_i32_388
  let v653 : BitVec 1 := Scalar.cmpi .sgt v648 v651
  let c255_i32_389 : BitVec 32 := 255#32
  let v654 : BitVec 32 := Scalar.addi v648 c255_i32_389
  let c8_i32_390 : BitVec 32 := 8#32
  let v655 : BitVec 32 := Scalar.shrui v654 c8_i32_390
  let v656 : BitVec 32 := Scalar.select v653 v655 v652
  let v657 : BitVec 32 := Scalar.subi v656 v652
  let c1_i32_392 : BitVec 32 := 1#32
  let v659 : BitVec 32 := Scalar.divsi v657 c1_i32_392
  let v660 : BitVec 32 := Scalar.muli v659 c1_i32_392
  let v661 : BitVec 32 := Scalar.addi v652 v660
  let c1_i32_394 : BitVec 32 := 1#32
  let arg11 : BitVec 32 := Scf.iv v661 c1_i32_394 k0_t16
  let c256_i32 : BitVec 32 := 256#32
  let v887 : BitVec 32 := Scalar.muli arg11 c256_i32
  let v888 : BitVec 32 := v887
  let v904 : Index := Scalar.indexCast v888
  let c0_548 : Index := 0#32
  ![0, 7, v904.toNat, 0]

def k0_chk24 (v643 : BitVec 32) (v648 : BitVec 32) : Prop :=
  ((k0_t15_loop v643 v648).OK) ∧
  (∀ k0_t15 : Fin (k0_t15_loop v643 v648).trips, 256 ∣ (k0_mult31 v643 v648 k0_t15).toNat) ∧
  (∀ k0_t15 : Fin (k0_t15_loop v643 v648).trips, ∀ a, (k0_off63 v643 v648 k0_t15) a + S1x1x256x1024.size a ≤ S1x16x512x1024.size a) ∧
  ((k0_t16_loop v643 v648).OK) ∧
  (∀ k0_t16 : Fin (k0_t16_loop v643 v648).trips, 256 ∣ (k0_mult32 v643 v648 k0_t16).toNat) ∧
  (∀ k0_t16 : Fin (k0_t16_loop v643 v648).trips, ∀ a, (k0_off64 v643 v648 k0_t16) a + S1x1x256x1024.size a ≤ S1x16x512x1024.size a)
theorem k0_t15_ok : ∀ (v643 : BitVec 32) (v648 : BitVec 32) (k0_hw24 : k0_chk24 v643 v648), (k0_t15_loop v643 v648).OK := fun v643 v648 k0_hw24 => k0_hw24.1
theorem k0_mult31_dvd : ∀ (v643 : BitVec 32) (v648 : BitVec 32) (k0_hw24 : k0_chk24 v643 v648) (k0_t15 : Fin (k0_t15_loop v643 v648).trips), 256 ∣ (k0_mult31 v643 v648 k0_t15).toNat := fun v643 v648 k0_hw24 k0_t15 => k0_hw24.2.1 k0_t15
theorem k0_off63_inb : ∀ (v643 : BitVec 32) (v648 : BitVec 32) (k0_hw24 : k0_chk24 v643 v648) (k0_t15 : Fin (k0_t15_loop v643 v648).trips), ∀ a, (k0_off63 v643 v648 k0_t15) a + S1x1x256x1024.size a ≤ S1x16x512x1024.size a := fun v643 v648 k0_hw24 k0_t15 => k0_hw24.2.2.1 k0_t15
theorem k0_t16_ok : ∀ (v643 : BitVec 32) (v648 : BitVec 32) (k0_hw24 : k0_chk24 v643 v648), (k0_t16_loop v643 v648).OK := fun v643 v648 k0_hw24 => k0_hw24.2.2.2.1
theorem k0_mult32_dvd : ∀ (v643 : BitVec 32) (v648 : BitVec 32) (k0_hw24 : k0_chk24 v643 v648) (k0_t16 : Fin (k0_t16_loop v643 v648).trips), 256 ∣ (k0_mult32 v643 v648 k0_t16).toNat := fun v643 v648 k0_hw24 k0_t16 => k0_hw24.2.2.2.2.1 k0_t16
theorem k0_off64_inb : ∀ (v643 : BitVec 32) (v648 : BitVec 32) (k0_hw24 : k0_chk24 v643 v648) (k0_t16 : Fin (k0_t16_loop v643 v648).trips), ∀ a, (k0_off64 v643 v648 k0_t16) a + S1x1x256x1024.size a ≤ S1x16x512x1024.size a := fun v643 v648 k0_hw24 k0_t16 => k0_hw24.2.2.2.2.2 k0_t16

def k0_off65 (i : grid0.Coords) : Fin 1 → Nat :=
  let arg0 : BitVec 32 := BitVec.ofNat 32 (i 0).val
  let c16_i32_395 : BitVec 32 := 16#32
  let v662 : BitVec 32 := Scalar.muli arg0 c16_i32_395
  let c8_i32_396 : BitVec 32 := 8#32
  let v663 : BitVec 32 := Scalar.addi v662 c8_i32_396
  let c33_i32_397 : BitVec 32 := 33#32
  let v664 : BitVec 32 := Scalar.muli v663 c33_i32_397
  let arg1 : BitVec 32 := BitVec.ofNat 32 (i 1).val
  let c4_i32_398 : BitVec 32 := 4#32
  let v665 : BitVec 32 := Scalar.muli arg1 c4_i32_398
  let v666 : BitVec 32 := Scalar.addi v664 v665
  let v667 : Index := Scalar.indexCast v666
  ![v667.toNat]
def k0_off66 (i : grid0.Coords) : Fin 1 → Nat :=
  let arg0 : BitVec 32 := BitVec.ofNat 32 (i 0).val
  let c16_i32_395 : BitVec 32 := 16#32
  let v662 : BitVec 32 := Scalar.muli arg0 c16_i32_395
  let c8_i32_396 : BitVec 32 := 8#32
  let v663 : BitVec 32 := Scalar.addi v662 c8_i32_396
  let c33_i32_397 : BitVec 32 := 33#32
  let v664 : BitVec 32 := Scalar.muli v663 c33_i32_397
  let arg1 : BitVec 32 := BitVec.ofNat 32 (i 1).val
  let c1_i32_399 : BitVec 32 := 1#32
  let v669 : BitVec 32 := Scalar.addi arg1 c1_i32_399
  let c4_i32_400 : BitVec 32 := 4#32
  let v670 : BitVec 32 := Scalar.muli v669 c4_i32_400
  let v671 : BitVec 32 := Scalar.addi v664 v670
  let v672 : Index := Scalar.indexCast v671
  ![v672.toNat]
@[reducible] def k0_t17_loop (v668 : BitVec 32) (v673 : BitVec 32) : Scf.Loop 32 :=
  let c_m16_i32_401 : BitVec 32 := 4294967280#32
  let v674 : BitVec 32 := Scalar.andi v668 c_m16_i32_401
  let c384_i32_402 : BitVec 32 := 384#32
  let v675 : BitVec 32 := Scalar.minsi v674 c384_i32_402
  let c128_i32_403 : BitVec 32 := 128#32
  let v676 : BitVec 32 := Scalar.addi v675 c128_i32_403
  let c8_i32_404 : BitVec 32 := 8#32
  let v677 : BitVec 32 := Scalar.shrui v676 c8_i32_404
  let v678 : BitVec 1 := Scalar.cmpi .sgt v673 v676
  let c255_i32_405 : BitVec 32 := 255#32
  let v679 : BitVec 32 := Scalar.addi v673 c255_i32_405
  let c8_i32_406 : BitVec 32 := 8#32
  let v680 : BitVec 32 := Scalar.shrui v679 c8_i32_406
  let v681 : BitVec 32 := Scalar.select v678 v680 v677
  let v682 : BitVec 32 := Scalar.subi v681 v677
  let c1_i32_408 : BitVec 32 := 1#32
  let v684 : BitVec 32 := Scalar.divsi v682 c1_i32_408
  let v685 : BitVec 32 := Scalar.muli v684 c1_i32_408
  let v686 : BitVec 32 := Scalar.addi v677 v685
  let c1_i32_409 : BitVec 32 := 1#32
  ⟨v677, v686, c1_i32_409⟩

def k0_mult33 (v668 : BitVec 32) (v673 : BitVec 32) (k0_t17 : Fin (k0_t17_loop v668 v673).trips) : BitVec 32 :=
  let c_m16_i32_401 : BitVec 32 := 4294967280#32
  let v674 : BitVec 32 := Scalar.andi v668 c_m16_i32_401
  let c384_i32_402 : BitVec 32 := 384#32
  let v675 : BitVec 32 := Scalar.minsi v674 c384_i32_402
  let c128_i32_403 : BitVec 32 := 128#32
  let v676 : BitVec 32 := Scalar.addi v675 c128_i32_403
  let c8_i32_404 : BitVec 32 := 8#32
  let v677 : BitVec 32 := Scalar.shrui v676 c8_i32_404
  let c1_i32_409 : BitVec 32 := 1#32
  let arg11 : BitVec 32 := Scf.iv v677 c1_i32_409 k0_t17
  let c256_i32 : BitVec 32 := 256#32
  let v887 : BitVec 32 := Scalar.muli arg11 c256_i32
  v887
def k0_off67 (v668 : BitVec 32) (v673 : BitVec 32) (k0_t17 : Fin (k0_t17_loop v668 v673).trips) : Fin 4 → Nat :=
  let c0_546 : Index := 0#32
  let c8_547 : Index := 8#32
  let c_m16_i32_401 : BitVec 32 := 4294967280#32
  let v674 : BitVec 32 := Scalar.andi v668 c_m16_i32_401
  let c384_i32_402 : BitVec 32 := 384#32
  let v675 : BitVec 32 := Scalar.minsi v674 c384_i32_402
  let c128_i32_403 : BitVec 32 := 128#32
  let v676 : BitVec 32 := Scalar.addi v675 c128_i32_403
  let c8_i32_404 : BitVec 32 := 8#32
  let v677 : BitVec 32 := Scalar.shrui v676 c8_i32_404
  let c1_i32_409 : BitVec 32 := 1#32
  let arg11 : BitVec 32 := Scf.iv v677 c1_i32_409 k0_t17
  let c256_i32 : BitVec 32 := 256#32
  let v887 : BitVec 32 := Scalar.muli arg11 c256_i32
  let v888 : BitVec 32 := v887
  let v904 : Index := Scalar.indexCast v888
  let c0_548 : Index := 0#32
  ![0, 8, v904.toNat, 0]
@[reducible] def k0_t18_loop (v668 : BitVec 32) (v673 : BitVec 32) : Scf.Loop 32 :=
  let c_m16_i32_401 : BitVec 32 := 4294967280#32
  let v674 : BitVec 32 := Scalar.andi v668 c_m16_i32_401
  let c384_i32_402 : BitVec 32 := 384#32
  let v675 : BitVec 32 := Scalar.minsi v674 c384_i32_402
  let c128_i32_403 : BitVec 32 := 128#32
  let v676 : BitVec 32 := Scalar.addi v675 c128_i32_403
  let c8_i32_404 : BitVec 32 := 8#32
  let v677 : BitVec 32 := Scalar.shrui v676 c8_i32_404
  let v678 : BitVec 1 := Scalar.cmpi .sgt v673 v676
  let c255_i32_405 : BitVec 32 := 255#32
  let v679 : BitVec 32 := Scalar.addi v673 c255_i32_405
  let c8_i32_406 : BitVec 32 := 8#32
  let v680 : BitVec 32 := Scalar.shrui v679 c8_i32_406
  let v681 : BitVec 32 := Scalar.select v678 v680 v677
  let v682 : BitVec 32 := Scalar.subi v681 v677
  let c1_i32_408 : BitVec 32 := 1#32
  let v684 : BitVec 32 := Scalar.divsi v682 c1_i32_408
  let v685 : BitVec 32 := Scalar.muli v684 c1_i32_408
  let v686 : BitVec 32 := Scalar.addi v677 v685
  let v683 : BitVec 32 := Scalar.addi v677 v682
  let c1_i32_410 : BitVec 32 := 1#32
  ⟨v686, v683, c1_i32_410⟩
def k0_mult34 (v668 : BitVec 32) (v673 : BitVec 32) (k0_t18 : Fin (k0_t18_loop v668 v673).trips) : BitVec 32 :=
  let c_m16_i32_401 : BitVec 32 := 4294967280#32
  let v674 : BitVec 32 := Scalar.andi v668 c_m16_i32_401
  let c384_i32_402 : BitVec 32 := 384#32
  let v675 : BitVec 32 := Scalar.minsi v674 c384_i32_402
  let c128_i32_403 : BitVec 32 := 128#32
  let v676 : BitVec 32 := Scalar.addi v675 c128_i32_403
  let c8_i32_404 : BitVec 32 := 8#32
  let v677 : BitVec 32 := Scalar.shrui v676 c8_i32_404
  let v678 : BitVec 1 := Scalar.cmpi .sgt v673 v676
  let c255_i32_405 : BitVec 32 := 255#32
  let v679 : BitVec 32 := Scalar.addi v673 c255_i32_405
  let c8_i32_406 : BitVec 32 := 8#32
  let v680 : BitVec 32 := Scalar.shrui v679 c8_i32_406
  let v681 : BitVec 32 := Scalar.select v678 v680 v677
  let v682 : BitVec 32 := Scalar.subi v681 v677
  let c1_i32_408 : BitVec 32 := 1#32
  let v684 : BitVec 32 := Scalar.divsi v682 c1_i32_408
  let v685 : BitVec 32 := Scalar.muli v684 c1_i32_408
  let v686 : BitVec 32 := Scalar.addi v677 v685
  let c1_i32_410 : BitVec 32 := 1#32
  let arg11 : BitVec 32 := Scf.iv v686 c1_i32_410 k0_t18
  let c256_i32 : BitVec 32 := 256#32
  let v887 : BitVec 32 := Scalar.muli arg11 c256_i32
  v887
def k0_off68 (v668 : BitVec 32) (v673 : BitVec 32) (k0_t18 : Fin (k0_t18_loop v668 v673).trips) : Fin 4 → Nat :=
  let c0_546 : Index := 0#32
  let c8_547 : Index := 8#32
  let c_m16_i32_401 : BitVec 32 := 4294967280#32
  let v674 : BitVec 32 := Scalar.andi v668 c_m16_i32_401
  let c384_i32_402 : BitVec 32 := 384#32
  let v675 : BitVec 32 := Scalar.minsi v674 c384_i32_402
  let c128_i32_403 : BitVec 32 := 128#32
  let v676 : BitVec 32 := Scalar.addi v675 c128_i32_403
  let c8_i32_404 : BitVec 32 := 8#32
  let v677 : BitVec 32 := Scalar.shrui v676 c8_i32_404
  let v678 : BitVec 1 := Scalar.cmpi .sgt v673 v676
  let c255_i32_405 : BitVec 32 := 255#32
  let v679 : BitVec 32 := Scalar.addi v673 c255_i32_405
  let c8_i32_406 : BitVec 32 := 8#32
  let v680 : BitVec 32 := Scalar.shrui v679 c8_i32_406
  let v681 : BitVec 32 := Scalar.select v678 v680 v677
  let v682 : BitVec 32 := Scalar.subi v681 v677
  let c1_i32_408 : BitVec 32 := 1#32
  let v684 : BitVec 32 := Scalar.divsi v682 c1_i32_408
  let v685 : BitVec 32 := Scalar.muli v684 c1_i32_408
  let v686 : BitVec 32 := Scalar.addi v677 v685
  let c1_i32_410 : BitVec 32 := 1#32
  let arg11 : BitVec 32 := Scf.iv v686 c1_i32_410 k0_t18
  let c256_i32 : BitVec 32 := 256#32
  let v887 : BitVec 32 := Scalar.muli arg11 c256_i32
  let v888 : BitVec 32 := v887
  let v904 : Index := Scalar.indexCast v888
  let c0_548 : Index := 0#32
  ![0, 8, v904.toNat, 0]

def k0_chk25 (v668 : BitVec 32) (v673 : BitVec 32) : Prop :=
  ((k0_t17_loop v668 v673).OK) ∧
  (∀ k0_t17 : Fin (k0_t17_loop v668 v673).trips, 256 ∣ (k0_mult33 v668 v673 k0_t17).toNat) ∧
  (∀ k0_t17 : Fin (k0_t17_loop v668 v673).trips, ∀ a, (k0_off67 v668 v673 k0_t17) a + S1x1x256x1024.size a ≤ S1x16x512x1024.size a) ∧
  ((k0_t18_loop v668 v673).OK) ∧
  (∀ k0_t18 : Fin (k0_t18_loop v668 v673).trips, 256 ∣ (k0_mult34 v668 v673 k0_t18).toNat) ∧
  (∀ k0_t18 : Fin (k0_t18_loop v668 v673).trips, ∀ a, (k0_off68 v668 v673 k0_t18) a + S1x1x256x1024.size a ≤ S1x16x512x1024.size a)
theorem k0_t17_ok : ∀ (v668 : BitVec 32) (v673 : BitVec 32) (k0_hw25 : k0_chk25 v668 v673), (k0_t17_loop v668 v673).OK := fun v668 v673 k0_hw25 => k0_hw25.1
theorem k0_mult33_dvd : ∀ (v668 : BitVec 32) (v673 : BitVec 32) (k0_hw25 : k0_chk25 v668 v673) (k0_t17 : Fin (k0_t17_loop v668 v673).trips), 256 ∣ (k0_mult33 v668 v673 k0_t17).toNat := fun v668 v673 k0_hw25 k0_t17 => k0_hw25.2.1 k0_t17
theorem k0_off67_inb : ∀ (v668 : BitVec 32) (v673 : BitVec 32) (k0_hw25 : k0_chk25 v668 v673) (k0_t17 : Fin (k0_t17_loop v668 v673).trips), ∀ a, (k0_off67 v668 v673 k0_t17) a + S1x1x256x1024.size a ≤ S1x16x512x1024.size a := fun v668 v673 k0_hw25 k0_t17 => k0_hw25.2.2.1 k0_t17
theorem k0_t18_ok : ∀ (v668 : BitVec 32) (v673 : BitVec 32) (k0_hw25 : k0_chk25 v668 v673), (k0_t18_loop v668 v673).OK := fun v668 v673 k0_hw25 => k0_hw25.2.2.2.1
theorem k0_mult34_dvd : ∀ (v668 : BitVec 32) (v673 : BitVec 32) (k0_hw25 : k0_chk25 v668 v673) (k0_t18 : Fin (k0_t18_loop v668 v673).trips), 256 ∣ (k0_mult34 v668 v673 k0_t18).toNat := fun v668 v673 k0_hw25 k0_t18 => k0_hw25.2.2.2.2.1 k0_t18
theorem k0_off68_inb : ∀ (v668 : BitVec 32) (v673 : BitVec 32) (k0_hw25 : k0_chk25 v668 v673) (k0_t18 : Fin (k0_t18_loop v668 v673).trips), ∀ a, (k0_off68 v668 v673 k0_t18) a + S1x1x256x1024.size a ≤ S1x16x512x1024.size a := fun v668 v673 k0_hw25 k0_t18 => k0_hw25.2.2.2.2.2 k0_t18

def k0_off69 (i : grid0.Coords) : Fin 1 → Nat :=
  let arg0 : BitVec 32 := BitVec.ofNat 32 (i 0).val
  let c16_i32_411 : BitVec 32 := 16#32
  let v687 : BitVec 32 := Scalar.muli arg0 c16_i32_411
  let c9_i32_412 : BitVec 32 := 9#32
  let v688 : BitVec 32 := Scalar.addi v687 c9_i32_412
  let c33_i32_413 : BitVec 32 := 33#32
  let v689 : BitVec 32 := Scalar.muli v688 c33_i32_413
  let arg1 : BitVec 32 := BitVec.ofNat 32 (i 1).val
  let c4_i32_414 : BitVec 32 := 4#32
  let v690 : BitVec 32 := Scalar.muli arg1 c4_i32_414
  let v691 : BitVec 32 := Scalar.addi v689 v690
  let v692 : Index := Scalar.indexCast v691
  ![v692.toNat]
def k0_off70 (i : grid0.Coords) : Fin 1 → Nat :=
  let arg0 : BitVec 32 := BitVec.ofNat 32 (i 0).val
  let c16_i32_411 : BitVec 32 := 16#32
  let v687 : BitVec 32 := Scalar.muli arg0 c16_i32_411
  let c9_i32_412 : BitVec 32 := 9#32
  let v688 : BitVec 32 := Scalar.addi v687 c9_i32_412
  let c33_i32_413 : BitVec 32 := 33#32
  let v689 : BitVec 32 := Scalar.muli v688 c33_i32_413
  let arg1 : BitVec 32 := BitVec.ofNat 32 (i 1).val
  let c1_i32_415 : BitVec 32 := 1#32
  let v694 : BitVec 32 := Scalar.addi arg1 c1_i32_415
  let c4_i32_416 : BitVec 32 := 4#32
  let v695 : BitVec 32 := Scalar.muli v694 c4_i32_416
  let v696 : BitVec 32 := Scalar.addi v689 v695
  let v697 : Index := Scalar.indexCast v696
  ![v697.toNat]
@[reducible] def k0_t19_loop (v693 : BitVec 32) (v698 : BitVec 32) : Scf.Loop 32 :=
  let c_m16_i32_417 : BitVec 32 := 4294967280#32
  let v699 : BitVec 32 := Scalar.andi v693 c_m16_i32_417
  let c384_i32_418 : BitVec 32 := 384#32
  let v700 : BitVec 32 := Scalar.minsi v699 c384_i32_418
  let c128_i32_419 : BitVec 32 := 128#32
  let v701 : BitVec 32 := Scalar.addi v700 c128_i32_419
  let c8_i32_420 : BitVec 32 := 8#32
  let v702 : BitVec 32 := Scalar.shrui v701 c8_i32_420
  let v703 : BitVec 1 := Scalar.cmpi .sgt v698 v701
  let c255_i32_421 : BitVec 32 := 255#32
  let v704 : BitVec 32 := Scalar.addi v698 c255_i32_421
  let c8_i32_422 : BitVec 32 := 8#32
  let v705 : BitVec 32 := Scalar.shrui v704 c8_i32_422
  let v706 : BitVec 32 := Scalar.select v703 v705 v702
  let v707 : BitVec 32 := Scalar.subi v706 v702
  let c1_i32_424 : BitVec 32 := 1#32
  let v709 : BitVec 32 := Scalar.divsi v707 c1_i32_424
  let v710 : BitVec 32 := Scalar.muli v709 c1_i32_424
  let v711 : BitVec 32 := Scalar.addi v702 v710
  let c1_i32_425 : BitVec 32 := 1#32
  ⟨v702, v711, c1_i32_425⟩

def k0_mult35 (v693 : BitVec 32) (v698 : BitVec 32) (k0_t19 : Fin (k0_t19_loop v693 v698).trips) : BitVec 32 :=
  let c_m16_i32_417 : BitVec 32 := 4294967280#32
  let v699 : BitVec 32 := Scalar.andi v693 c_m16_i32_417
  let c384_i32_418 : BitVec 32 := 384#32
  let v700 : BitVec 32 := Scalar.minsi v699 c384_i32_418
  let c128_i32_419 : BitVec 32 := 128#32
  let v701 : BitVec 32 := Scalar.addi v700 c128_i32_419
  let c8_i32_420 : BitVec 32 := 8#32
  let v702 : BitVec 32 := Scalar.shrui v701 c8_i32_420
  let c1_i32_425 : BitVec 32 := 1#32
  let arg11 : BitVec 32 := Scf.iv v702 c1_i32_425 k0_t19
  let c256_i32 : BitVec 32 := 256#32
  let v887 : BitVec 32 := Scalar.muli arg11 c256_i32
  v887
def k0_off71 (v693 : BitVec 32) (v698 : BitVec 32) (k0_t19 : Fin (k0_t19_loop v693 v698).trips) : Fin 4 → Nat :=
  let c0_546 : Index := 0#32
  let c9_547 : Index := 9#32
  let c_m16_i32_417 : BitVec 32 := 4294967280#32
  let v699 : BitVec 32 := Scalar.andi v693 c_m16_i32_417
  let c384_i32_418 : BitVec 32 := 384#32
  let v700 : BitVec 32 := Scalar.minsi v699 c384_i32_418
  let c128_i32_419 : BitVec 32 := 128#32
  let v701 : BitVec 32 := Scalar.addi v700 c128_i32_419
  let c8_i32_420 : BitVec 32 := 8#32
  let v702 : BitVec 32 := Scalar.shrui v701 c8_i32_420
  let c1_i32_425 : BitVec 32 := 1#32
  let arg11 : BitVec 32 := Scf.iv v702 c1_i32_425 k0_t19
  let c256_i32 : BitVec 32 := 256#32
  let v887 : BitVec 32 := Scalar.muli arg11 c256_i32
  let v888 : BitVec 32 := v887
  let v904 : Index := Scalar.indexCast v888
  let c0_548 : Index := 0#32
  ![0, 9, v904.toNat, 0]
@[reducible] def k0_t20_loop (v693 : BitVec 32) (v698 : BitVec 32) : Scf.Loop 32 :=
  let c_m16_i32_417 : BitVec 32 := 4294967280#32
  let v699 : BitVec 32 := Scalar.andi v693 c_m16_i32_417
  let c384_i32_418 : BitVec 32 := 384#32
  let v700 : BitVec 32 := Scalar.minsi v699 c384_i32_418
  let c128_i32_419 : BitVec 32 := 128#32
  let v701 : BitVec 32 := Scalar.addi v700 c128_i32_419
  let c8_i32_420 : BitVec 32 := 8#32
  let v702 : BitVec 32 := Scalar.shrui v701 c8_i32_420
  let v703 : BitVec 1 := Scalar.cmpi .sgt v698 v701
  let c255_i32_421 : BitVec 32 := 255#32
  let v704 : BitVec 32 := Scalar.addi v698 c255_i32_421
  let c8_i32_422 : BitVec 32 := 8#32
  let v705 : BitVec 32 := Scalar.shrui v704 c8_i32_422
  let v706 : BitVec 32 := Scalar.select v703 v705 v702
  let v707 : BitVec 32 := Scalar.subi v706 v702
  let c1_i32_424 : BitVec 32 := 1#32
  let v709 : BitVec 32 := Scalar.divsi v707 c1_i32_424
  let v710 : BitVec 32 := Scalar.muli v709 c1_i32_424
  let v711 : BitVec 32 := Scalar.addi v702 v710
  let v708 : BitVec 32 := Scalar.addi v702 v707
  let c1_i32_426 : BitVec 32 := 1#32
  ⟨v711, v708, c1_i32_426⟩
def k0_mult36 (v693 : BitVec 32) (v698 : BitVec 32) (k0_t20 : Fin (k0_t20_loop v693 v698).trips) : BitVec 32 :=
  let c_m16_i32_417 : BitVec 32 := 4294967280#32
  let v699 : BitVec 32 := Scalar.andi v693 c_m16_i32_417
  let c384_i32_418 : BitVec 32 := 384#32
  let v700 : BitVec 32 := Scalar.minsi v699 c384_i32_418
  let c128_i32_419 : BitVec 32 := 128#32
  let v701 : BitVec 32 := Scalar.addi v700 c128_i32_419
  let c8_i32_420 : BitVec 32 := 8#32
  let v702 : BitVec 32 := Scalar.shrui v701 c8_i32_420
  let v703 : BitVec 1 := Scalar.cmpi .sgt v698 v701
  let c255_i32_421 : BitVec 32 := 255#32
  let v704 : BitVec 32 := Scalar.addi v698 c255_i32_421
  let c8_i32_422 : BitVec 32 := 8#32
  let v705 : BitVec 32 := Scalar.shrui v704 c8_i32_422
  let v706 : BitVec 32 := Scalar.select v703 v705 v702
  let v707 : BitVec 32 := Scalar.subi v706 v702
  let c1_i32_424 : BitVec 32 := 1#32
  let v709 : BitVec 32 := Scalar.divsi v707 c1_i32_424
  let v710 : BitVec 32 := Scalar.muli v709 c1_i32_424
  let v711 : BitVec 32 := Scalar.addi v702 v710
  let c1_i32_426 : BitVec 32 := 1#32
  let arg11 : BitVec 32 := Scf.iv v711 c1_i32_426 k0_t20
  let c256_i32 : BitVec 32 := 256#32
  let v887 : BitVec 32 := Scalar.muli arg11 c256_i32
  v887
def k0_off72 (v693 : BitVec 32) (v698 : BitVec 32) (k0_t20 : Fin (k0_t20_loop v693 v698).trips) : Fin 4 → Nat :=
  let c0_546 : Index := 0#32
  let c9_547 : Index := 9#32
  let c_m16_i32_417 : BitVec 32 := 4294967280#32
  let v699 : BitVec 32 := Scalar.andi v693 c_m16_i32_417
  let c384_i32_418 : BitVec 32 := 384#32
  let v700 : BitVec 32 := Scalar.minsi v699 c384_i32_418
  let c128_i32_419 : BitVec 32 := 128#32
  let v701 : BitVec 32 := Scalar.addi v700 c128_i32_419
  let c8_i32_420 : BitVec 32 := 8#32
  let v702 : BitVec 32 := Scalar.shrui v701 c8_i32_420
  let v703 : BitVec 1 := Scalar.cmpi .sgt v698 v701
  let c255_i32_421 : BitVec 32 := 255#32
  let v704 : BitVec 32 := Scalar.addi v698 c255_i32_421
  let c8_i32_422 : BitVec 32 := 8#32
  let v705 : BitVec 32 := Scalar.shrui v704 c8_i32_422
  let v706 : BitVec 32 := Scalar.select v703 v705 v702
  let v707 : BitVec 32 := Scalar.subi v706 v702
  let c1_i32_424 : BitVec 32 := 1#32
  let v709 : BitVec 32 := Scalar.divsi v707 c1_i32_424
  let v710 : BitVec 32 := Scalar.muli v709 c1_i32_424
  let v711 : BitVec 32 := Scalar.addi v702 v710
  let c1_i32_426 : BitVec 32 := 1#32
  let arg11 : BitVec 32 := Scf.iv v711 c1_i32_426 k0_t20
  let c256_i32 : BitVec 32 := 256#32
  let v887 : BitVec 32 := Scalar.muli arg11 c256_i32
  let v888 : BitVec 32 := v887
  let v904 : Index := Scalar.indexCast v888
  let c0_548 : Index := 0#32
  ![0, 9, v904.toNat, 0]

def k0_chk26 (v693 : BitVec 32) (v698 : BitVec 32) : Prop :=
  ((k0_t19_loop v693 v698).OK) ∧
  (∀ k0_t19 : Fin (k0_t19_loop v693 v698).trips, 256 ∣ (k0_mult35 v693 v698 k0_t19).toNat) ∧
  (∀ k0_t19 : Fin (k0_t19_loop v693 v698).trips, ∀ a, (k0_off71 v693 v698 k0_t19) a + S1x1x256x1024.size a ≤ S1x16x512x1024.size a) ∧
  ((k0_t20_loop v693 v698).OK) ∧
  (∀ k0_t20 : Fin (k0_t20_loop v693 v698).trips, 256 ∣ (k0_mult36 v693 v698 k0_t20).toNat) ∧
  (∀ k0_t20 : Fin (k0_t20_loop v693 v698).trips, ∀ a, (k0_off72 v693 v698 k0_t20) a + S1x1x256x1024.size a ≤ S1x16x512x1024.size a)
theorem k0_t19_ok : ∀ (v693 : BitVec 32) (v698 : BitVec 32) (k0_hw26 : k0_chk26 v693 v698), (k0_t19_loop v693 v698).OK := fun v693 v698 k0_hw26 => k0_hw26.1
theorem k0_mult35_dvd : ∀ (v693 : BitVec 32) (v698 : BitVec 32) (k0_hw26 : k0_chk26 v693 v698) (k0_t19 : Fin (k0_t19_loop v693 v698).trips), 256 ∣ (k0_mult35 v693 v698 k0_t19).toNat := fun v693 v698 k0_hw26 k0_t19 => k0_hw26.2.1 k0_t19
theorem k0_off71_inb : ∀ (v693 : BitVec 32) (v698 : BitVec 32) (k0_hw26 : k0_chk26 v693 v698) (k0_t19 : Fin (k0_t19_loop v693 v698).trips), ∀ a, (k0_off71 v693 v698 k0_t19) a + S1x1x256x1024.size a ≤ S1x16x512x1024.size a := fun v693 v698 k0_hw26 k0_t19 => k0_hw26.2.2.1 k0_t19
theorem k0_t20_ok : ∀ (v693 : BitVec 32) (v698 : BitVec 32) (k0_hw26 : k0_chk26 v693 v698), (k0_t20_loop v693 v698).OK := fun v693 v698 k0_hw26 => k0_hw26.2.2.2.1
theorem k0_mult36_dvd : ∀ (v693 : BitVec 32) (v698 : BitVec 32) (k0_hw26 : k0_chk26 v693 v698) (k0_t20 : Fin (k0_t20_loop v693 v698).trips), 256 ∣ (k0_mult36 v693 v698 k0_t20).toNat := fun v693 v698 k0_hw26 k0_t20 => k0_hw26.2.2.2.2.1 k0_t20
theorem k0_off72_inb : ∀ (v693 : BitVec 32) (v698 : BitVec 32) (k0_hw26 : k0_chk26 v693 v698) (k0_t20 : Fin (k0_t20_loop v693 v698).trips), ∀ a, (k0_off72 v693 v698 k0_t20) a + S1x1x256x1024.size a ≤ S1x16x512x1024.size a := fun v693 v698 k0_hw26 k0_t20 => k0_hw26.2.2.2.2.2 k0_t20

def k0_off73 (i : grid0.Coords) : Fin 1 → Nat :=
  let arg0 : BitVec 32 := BitVec.ofNat 32 (i 0).val
  let c16_i32_427 : BitVec 32 := 16#32
  let v712 : BitVec 32 := Scalar.muli arg0 c16_i32_427
  let c10_i32_428 : BitVec 32 := 10#32
  let v713 : BitVec 32 := Scalar.addi v712 c10_i32_428
  let c33_i32_429 : BitVec 32 := 33#32
  let v714 : BitVec 32 := Scalar.muli v713 c33_i32_429
  let arg1 : BitVec 32 := BitVec.ofNat 32 (i 1).val
  let c4_i32_430 : BitVec 32 := 4#32
  let v715 : BitVec 32 := Scalar.muli arg1 c4_i32_430
  let v716 : BitVec 32 := Scalar.addi v714 v715
  let v717 : Index := Scalar.indexCast v716
  ![v717.toNat]
def k0_off74 (i : grid0.Coords) : Fin 1 → Nat :=
  let arg0 : BitVec 32 := BitVec.ofNat 32 (i 0).val
  let c16_i32_427 : BitVec 32 := 16#32
  let v712 : BitVec 32 := Scalar.muli arg0 c16_i32_427
  let c10_i32_428 : BitVec 32 := 10#32
  let v713 : BitVec 32 := Scalar.addi v712 c10_i32_428
  let c33_i32_429 : BitVec 32 := 33#32
  let v714 : BitVec 32 := Scalar.muli v713 c33_i32_429
  let arg1 : BitVec 32 := BitVec.ofNat 32 (i 1).val
  let c1_i32_431 : BitVec 32 := 1#32
  let v719 : BitVec 32 := Scalar.addi arg1 c1_i32_431
  let c4_i32_432 : BitVec 32 := 4#32
  let v720 : BitVec 32 := Scalar.muli v719 c4_i32_432
  let v721 : BitVec 32 := Scalar.addi v714 v720
  let v722 : Index := Scalar.indexCast v721
  ![v722.toNat]
@[reducible] def k0_t21_loop (v718 : BitVec 32) (v723 : BitVec 32) : Scf.Loop 32 :=
  let c_m16_i32_433 : BitVec 32 := 4294967280#32
  let v724 : BitVec 32 := Scalar.andi v718 c_m16_i32_433
  let c384_i32_434 : BitVec 32 := 384#32
  let v725 : BitVec 32 := Scalar.minsi v724 c384_i32_434
  let c128_i32_435 : BitVec 32 := 128#32
  let v726 : BitVec 32 := Scalar.addi v725 c128_i32_435
  let c8_i32_436 : BitVec 32 := 8#32
  let v727 : BitVec 32 := Scalar.shrui v726 c8_i32_436
  let v728 : BitVec 1 := Scalar.cmpi .sgt v723 v726
  let c255_i32_437 : BitVec 32 := 255#32
  let v729 : BitVec 32 := Scalar.addi v723 c255_i32_437
  let c8_i32_438 : BitVec 32 := 8#32
  let v730 : BitVec 32 := Scalar.shrui v729 c8_i32_438
  let v731 : BitVec 32 := Scalar.select v728 v730 v727
  let v732 : BitVec 32 := Scalar.subi v731 v727
  let c1_i32_440 : BitVec 32 := 1#32
  let v734 : BitVec 32 := Scalar.divsi v732 c1_i32_440
  let v735 : BitVec 32 := Scalar.muli v734 c1_i32_440
  let v736 : BitVec 32 := Scalar.addi v727 v735
  let c1_i32_441 : BitVec 32 := 1#32
  ⟨v727, v736, c1_i32_441⟩

def k0_mult37 (v718 : BitVec 32) (v723 : BitVec 32) (k0_t21 : Fin (k0_t21_loop v718 v723).trips) : BitVec 32 :=
  let c_m16_i32_433 : BitVec 32 := 4294967280#32
  let v724 : BitVec 32 := Scalar.andi v718 c_m16_i32_433
  let c384_i32_434 : BitVec 32 := 384#32
  let v725 : BitVec 32 := Scalar.minsi v724 c384_i32_434
  let c128_i32_435 : BitVec 32 := 128#32
  let v726 : BitVec 32 := Scalar.addi v725 c128_i32_435
  let c8_i32_436 : BitVec 32 := 8#32
  let v727 : BitVec 32 := Scalar.shrui v726 c8_i32_436
  let c1_i32_441 : BitVec 32 := 1#32
  let arg11 : BitVec 32 := Scf.iv v727 c1_i32_441 k0_t21
  let c256_i32 : BitVec 32 := 256#32
  let v887 : BitVec 32 := Scalar.muli arg11 c256_i32
  v887
def k0_off75 (v718 : BitVec 32) (v723 : BitVec 32) (k0_t21 : Fin (k0_t21_loop v718 v723).trips) : Fin 4 → Nat :=
  let c0_546 : Index := 0#32
  let c10_547 : Index := 10#32
  let c_m16_i32_433 : BitVec 32 := 4294967280#32
  let v724 : BitVec 32 := Scalar.andi v718 c_m16_i32_433
  let c384_i32_434 : BitVec 32 := 384#32
  let v725 : BitVec 32 := Scalar.minsi v724 c384_i32_434
  let c128_i32_435 : BitVec 32 := 128#32
  let v726 : BitVec 32 := Scalar.addi v725 c128_i32_435
  let c8_i32_436 : BitVec 32 := 8#32
  let v727 : BitVec 32 := Scalar.shrui v726 c8_i32_436
  let c1_i32_441 : BitVec 32 := 1#32
  let arg11 : BitVec 32 := Scf.iv v727 c1_i32_441 k0_t21
  let c256_i32 : BitVec 32 := 256#32
  let v887 : BitVec 32 := Scalar.muli arg11 c256_i32
  let v888 : BitVec 32 := v887
  let v904 : Index := Scalar.indexCast v888
  let c0_548 : Index := 0#32
  ![0, 10, v904.toNat, 0]
@[reducible] def k0_t22_loop (v718 : BitVec 32) (v723 : BitVec 32) : Scf.Loop 32 :=
  let c_m16_i32_433 : BitVec 32 := 4294967280#32
  let v724 : BitVec 32 := Scalar.andi v718 c_m16_i32_433
  let c384_i32_434 : BitVec 32 := 384#32
  let v725 : BitVec 32 := Scalar.minsi v724 c384_i32_434
  let c128_i32_435 : BitVec 32 := 128#32
  let v726 : BitVec 32 := Scalar.addi v725 c128_i32_435
  let c8_i32_436 : BitVec 32 := 8#32
  let v727 : BitVec 32 := Scalar.shrui v726 c8_i32_436
  let v728 : BitVec 1 := Scalar.cmpi .sgt v723 v726
  let c255_i32_437 : BitVec 32 := 255#32
  let v729 : BitVec 32 := Scalar.addi v723 c255_i32_437
  let c8_i32_438 : BitVec 32 := 8#32
  let v730 : BitVec 32 := Scalar.shrui v729 c8_i32_438
  let v731 : BitVec 32 := Scalar.select v728 v730 v727
  let v732 : BitVec 32 := Scalar.subi v731 v727
  let c1_i32_440 : BitVec 32 := 1#32
  let v734 : BitVec 32 := Scalar.divsi v732 c1_i32_440
  let v735 : BitVec 32 := Scalar.muli v734 c1_i32_440
  let v736 : BitVec 32 := Scalar.addi v727 v735
  let v733 : BitVec 32 := Scalar.addi v727 v732
  let c1_i32_442 : BitVec 32 := 1#32
  ⟨v736, v733, c1_i32_442⟩
def k0_mult38 (v718 : BitVec 32) (v723 : BitVec 32) (k0_t22 : Fin (k0_t22_loop v718 v723).trips) : BitVec 32 :=
  let c_m16_i32_433 : BitVec 32 := 4294967280#32
  let v724 : BitVec 32 := Scalar.andi v718 c_m16_i32_433
  let c384_i32_434 : BitVec 32 := 384#32
  let v725 : BitVec 32 := Scalar.minsi v724 c384_i32_434
  let c128_i32_435 : BitVec 32 := 128#32
  let v726 : BitVec 32 := Scalar.addi v725 c128_i32_435
  let c8_i32_436 : BitVec 32 := 8#32
  let v727 : BitVec 32 := Scalar.shrui v726 c8_i32_436
  let v728 : BitVec 1 := Scalar.cmpi .sgt v723 v726
  let c255_i32_437 : BitVec 32 := 255#32
  let v729 : BitVec 32 := Scalar.addi v723 c255_i32_437
  let c8_i32_438 : BitVec 32 := 8#32
  let v730 : BitVec 32 := Scalar.shrui v729 c8_i32_438
  let v731 : BitVec 32 := Scalar.select v728 v730 v727
  let v732 : BitVec 32 := Scalar.subi v731 v727
  let c1_i32_440 : BitVec 32 := 1#32
  let v734 : BitVec 32 := Scalar.divsi v732 c1_i32_440
  let v735 : BitVec 32 := Scalar.muli v734 c1_i32_440
  let v736 : BitVec 32 := Scalar.addi v727 v735
  let c1_i32_442 : BitVec 32 := 1#32
  let arg11 : BitVec 32 := Scf.iv v736 c1_i32_442 k0_t22
  let c256_i32 : BitVec 32 := 256#32
  let v887 : BitVec 32 := Scalar.muli arg11 c256_i32
  v887
def k0_off76 (v718 : BitVec 32) (v723 : BitVec 32) (k0_t22 : Fin (k0_t22_loop v718 v723).trips) : Fin 4 → Nat :=
  let c0_546 : Index := 0#32
  let c10_547 : Index := 10#32
  let c_m16_i32_433 : BitVec 32 := 4294967280#32
  let v724 : BitVec 32 := Scalar.andi v718 c_m16_i32_433
  let c384_i32_434 : BitVec 32 := 384#32
  let v725 : BitVec 32 := Scalar.minsi v724 c384_i32_434
  let c128_i32_435 : BitVec 32 := 128#32
  let v726 : BitVec 32 := Scalar.addi v725 c128_i32_435
  let c8_i32_436 : BitVec 32 := 8#32
  let v727 : BitVec 32 := Scalar.shrui v726 c8_i32_436
  let v728 : BitVec 1 := Scalar.cmpi .sgt v723 v726
  let c255_i32_437 : BitVec 32 := 255#32
  let v729 : BitVec 32 := Scalar.addi v723 c255_i32_437
  let c8_i32_438 : BitVec 32 := 8#32
  let v730 : BitVec 32 := Scalar.shrui v729 c8_i32_438
  let v731 : BitVec 32 := Scalar.select v728 v730 v727
  let v732 : BitVec 32 := Scalar.subi v731 v727
  let c1_i32_440 : BitVec 32 := 1#32
  let v734 : BitVec 32 := Scalar.divsi v732 c1_i32_440
  let v735 : BitVec 32 := Scalar.muli v734 c1_i32_440
  let v736 : BitVec 32 := Scalar.addi v727 v735
  let c1_i32_442 : BitVec 32 := 1#32
  let arg11 : BitVec 32 := Scf.iv v736 c1_i32_442 k0_t22
  let c256_i32 : BitVec 32 := 256#32
  let v887 : BitVec 32 := Scalar.muli arg11 c256_i32
  let v888 : BitVec 32 := v887
  let v904 : Index := Scalar.indexCast v888
  let c0_548 : Index := 0#32
  ![0, 10, v904.toNat, 0]

def k0_chk27 (v718 : BitVec 32) (v723 : BitVec 32) : Prop :=
  ((k0_t21_loop v718 v723).OK) ∧
  (∀ k0_t21 : Fin (k0_t21_loop v718 v723).trips, 256 ∣ (k0_mult37 v718 v723 k0_t21).toNat) ∧
  (∀ k0_t21 : Fin (k0_t21_loop v718 v723).trips, ∀ a, (k0_off75 v718 v723 k0_t21) a + S1x1x256x1024.size a ≤ S1x16x512x1024.size a) ∧
  ((k0_t22_loop v718 v723).OK) ∧
  (∀ k0_t22 : Fin (k0_t22_loop v718 v723).trips, 256 ∣ (k0_mult38 v718 v723 k0_t22).toNat) ∧
  (∀ k0_t22 : Fin (k0_t22_loop v718 v723).trips, ∀ a, (k0_off76 v718 v723 k0_t22) a + S1x1x256x1024.size a ≤ S1x16x512x1024.size a)
theorem k0_t21_ok : ∀ (v718 : BitVec 32) (v723 : BitVec 32) (k0_hw27 : k0_chk27 v718 v723), (k0_t21_loop v718 v723).OK := fun v718 v723 k0_hw27 => k0_hw27.1
theorem k0_mult37_dvd : ∀ (v718 : BitVec 32) (v723 : BitVec 32) (k0_hw27 : k0_chk27 v718 v723) (k0_t21 : Fin (k0_t21_loop v718 v723).trips), 256 ∣ (k0_mult37 v718 v723 k0_t21).toNat := fun v718 v723 k0_hw27 k0_t21 => k0_hw27.2.1 k0_t21
theorem k0_off75_inb : ∀ (v718 : BitVec 32) (v723 : BitVec 32) (k0_hw27 : k0_chk27 v718 v723) (k0_t21 : Fin (k0_t21_loop v718 v723).trips), ∀ a, (k0_off75 v718 v723 k0_t21) a + S1x1x256x1024.size a ≤ S1x16x512x1024.size a := fun v718 v723 k0_hw27 k0_t21 => k0_hw27.2.2.1 k0_t21
theorem k0_t22_ok : ∀ (v718 : BitVec 32) (v723 : BitVec 32) (k0_hw27 : k0_chk27 v718 v723), (k0_t22_loop v718 v723).OK := fun v718 v723 k0_hw27 => k0_hw27.2.2.2.1
theorem k0_mult38_dvd : ∀ (v718 : BitVec 32) (v723 : BitVec 32) (k0_hw27 : k0_chk27 v718 v723) (k0_t22 : Fin (k0_t22_loop v718 v723).trips), 256 ∣ (k0_mult38 v718 v723 k0_t22).toNat := fun v718 v723 k0_hw27 k0_t22 => k0_hw27.2.2.2.2.1 k0_t22
theorem k0_off76_inb : ∀ (v718 : BitVec 32) (v723 : BitVec 32) (k0_hw27 : k0_chk27 v718 v723) (k0_t22 : Fin (k0_t22_loop v718 v723).trips), ∀ a, (k0_off76 v718 v723 k0_t22) a + S1x1x256x1024.size a ≤ S1x16x512x1024.size a := fun v718 v723 k0_hw27 k0_t22 => k0_hw27.2.2.2.2.2 k0_t22

def k0_off77 (i : grid0.Coords) : Fin 1 → Nat :=
  let arg0 : BitVec 32 := BitVec.ofNat 32 (i 0).val
  let c16_i32_443 : BitVec 32 := 16#32
  let v737 : BitVec 32 := Scalar.muli arg0 c16_i32_443
  let c11_i32_444 : BitVec 32 := 11#32
  let v738 : BitVec 32 := Scalar.addi v737 c11_i32_444
  let c33_i32_445 : BitVec 32 := 33#32
  let v739 : BitVec 32 := Scalar.muli v738 c33_i32_445
  let arg1 : BitVec 32 := BitVec.ofNat 32 (i 1).val
  let c4_i32_446 : BitVec 32 := 4#32
  let v740 : BitVec 32 := Scalar.muli arg1 c4_i32_446
  let v741 : BitVec 32 := Scalar.addi v739 v740
  let v742 : Index := Scalar.indexCast v741
  ![v742.toNat]
def k0_off78 (i : grid0.Coords) : Fin 1 → Nat :=
  let arg0 : BitVec 32 := BitVec.ofNat 32 (i 0).val
  let c16_i32_443 : BitVec 32 := 16#32
  let v737 : BitVec 32 := Scalar.muli arg0 c16_i32_443
  let c11_i32_444 : BitVec 32 := 11#32
  let v738 : BitVec 32 := Scalar.addi v737 c11_i32_444
  let c33_i32_445 : BitVec 32 := 33#32
  let v739 : BitVec 32 := Scalar.muli v738 c33_i32_445
  let arg1 : BitVec 32 := BitVec.ofNat 32 (i 1).val
  let c1_i32_447 : BitVec 32 := 1#32
  let v744 : BitVec 32 := Scalar.addi arg1 c1_i32_447
  let c4_i32_448 : BitVec 32 := 4#32
  let v745 : BitVec 32 := Scalar.muli v744 c4_i32_448
  let v746 : BitVec 32 := Scalar.addi v739 v745
  let v747 : Index := Scalar.indexCast v746
  ![v747.toNat]
@[reducible] def k0_t23_loop (v743 : BitVec 32) (v748 : BitVec 32) : Scf.Loop 32 :=
  let c_m16_i32_449 : BitVec 32 := 4294967280#32
  let v749 : BitVec 32 := Scalar.andi v743 c_m16_i32_449
  let c384_i32_450 : BitVec 32 := 384#32
  let v750 : BitVec 32 := Scalar.minsi v749 c384_i32_450
  let c128_i32_451 : BitVec 32 := 128#32
  let v751 : BitVec 32 := Scalar.addi v750 c128_i32_451
  let c8_i32_452 : BitVec 32 := 8#32
  let v752 : BitVec 32 := Scalar.shrui v751 c8_i32_452
  let v753 : BitVec 1 := Scalar.cmpi .sgt v748 v751
  let c255_i32_453 : BitVec 32 := 255#32
  let v754 : BitVec 32 := Scalar.addi v748 c255_i32_453
  let c8_i32_454 : BitVec 32 := 8#32
  let v755 : BitVec 32 := Scalar.shrui v754 c8_i32_454
  let v756 : BitVec 32 := Scalar.select v753 v755 v752
  let v757 : BitVec 32 := Scalar.subi v756 v752
  let c1_i32_456 : BitVec 32 := 1#32
  let v759 : BitVec 32 := Scalar.divsi v757 c1_i32_456
  let v760 : BitVec 32 := Scalar.muli v759 c1_i32_456
  let v761 : BitVec 32 := Scalar.addi v752 v760
  let c1_i32_457 : BitVec 32 := 1#32
  ⟨v752, v761, c1_i32_457⟩

def k0_mult39 (v743 : BitVec 32) (v748 : BitVec 32) (k0_t23 : Fin (k0_t23_loop v743 v748).trips) : BitVec 32 :=
  let c_m16_i32_449 : BitVec 32 := 4294967280#32
  let v749 : BitVec 32 := Scalar.andi v743 c_m16_i32_449
  let c384_i32_450 : BitVec 32 := 384#32
  let v750 : BitVec 32 := Scalar.minsi v749 c384_i32_450
  let c128_i32_451 : BitVec 32 := 128#32
  let v751 : BitVec 32 := Scalar.addi v750 c128_i32_451
  let c8_i32_452 : BitVec 32 := 8#32
  let v752 : BitVec 32 := Scalar.shrui v751 c8_i32_452
  let c1_i32_457 : BitVec 32 := 1#32
  let arg11 : BitVec 32 := Scf.iv v752 c1_i32_457 k0_t23
  let c256_i32 : BitVec 32 := 256#32
  let v887 : BitVec 32 := Scalar.muli arg11 c256_i32
  v887
def k0_off79 (v743 : BitVec 32) (v748 : BitVec 32) (k0_t23 : Fin (k0_t23_loop v743 v748).trips) : Fin 4 → Nat :=
  let c0_546 : Index := 0#32
  let c11_547 : Index := 11#32
  let c_m16_i32_449 : BitVec 32 := 4294967280#32
  let v749 : BitVec 32 := Scalar.andi v743 c_m16_i32_449
  let c384_i32_450 : BitVec 32 := 384#32
  let v750 : BitVec 32 := Scalar.minsi v749 c384_i32_450
  let c128_i32_451 : BitVec 32 := 128#32
  let v751 : BitVec 32 := Scalar.addi v750 c128_i32_451
  let c8_i32_452 : BitVec 32 := 8#32
  let v752 : BitVec 32 := Scalar.shrui v751 c8_i32_452
  let c1_i32_457 : BitVec 32 := 1#32
  let arg11 : BitVec 32 := Scf.iv v752 c1_i32_457 k0_t23
  let c256_i32 : BitVec 32 := 256#32
  let v887 : BitVec 32 := Scalar.muli arg11 c256_i32
  let v888 : BitVec 32 := v887
  let v904 : Index := Scalar.indexCast v888
  let c0_548 : Index := 0#32
  ![0, 11, v904.toNat, 0]
@[reducible] def k0_t24_loop (v743 : BitVec 32) (v748 : BitVec 32) : Scf.Loop 32 :=
  let c_m16_i32_449 : BitVec 32 := 4294967280#32
  let v749 : BitVec 32 := Scalar.andi v743 c_m16_i32_449
  let c384_i32_450 : BitVec 32 := 384#32
  let v750 : BitVec 32 := Scalar.minsi v749 c384_i32_450
  let c128_i32_451 : BitVec 32 := 128#32
  let v751 : BitVec 32 := Scalar.addi v750 c128_i32_451
  let c8_i32_452 : BitVec 32 := 8#32
  let v752 : BitVec 32 := Scalar.shrui v751 c8_i32_452
  let v753 : BitVec 1 := Scalar.cmpi .sgt v748 v751
  let c255_i32_453 : BitVec 32 := 255#32
  let v754 : BitVec 32 := Scalar.addi v748 c255_i32_453
  let c8_i32_454 : BitVec 32 := 8#32
  let v755 : BitVec 32 := Scalar.shrui v754 c8_i32_454
  let v756 : BitVec 32 := Scalar.select v753 v755 v752
  let v757 : BitVec 32 := Scalar.subi v756 v752
  let c1_i32_456 : BitVec 32 := 1#32
  let v759 : BitVec 32 := Scalar.divsi v757 c1_i32_456
  let v760 : BitVec 32 := Scalar.muli v759 c1_i32_456
  let v761 : BitVec 32 := Scalar.addi v752 v760
  let v758 : BitVec 32 := Scalar.addi v752 v757
  let c1_i32_458 : BitVec 32 := 1#32
  ⟨v761, v758, c1_i32_458⟩
def k0_mult40 (v743 : BitVec 32) (v748 : BitVec 32) (k0_t24 : Fin (k0_t24_loop v743 v748).trips) : BitVec 32 :=
  let c_m16_i32_449 : BitVec 32 := 4294967280#32
  let v749 : BitVec 32 := Scalar.andi v743 c_m16_i32_449
  let c384_i32_450 : BitVec 32 := 384#32
  let v750 : BitVec 32 := Scalar.minsi v749 c384_i32_450
  let c128_i32_451 : BitVec 32 := 128#32
  let v751 : BitVec 32 := Scalar.addi v750 c128_i32_451
  let c8_i32_452 : BitVec 32 := 8#32
  let v752 : BitVec 32 := Scalar.shrui v751 c8_i32_452
  let v753 : BitVec 1 := Scalar.cmpi .sgt v748 v751
  let c255_i32_453 : BitVec 32 := 255#32
  let v754 : BitVec 32 := Scalar.addi v748 c255_i32_453
  let c8_i32_454 : BitVec 32 := 8#32
  let v755 : BitVec 32 := Scalar.shrui v754 c8_i32_454
  let v756 : BitVec 32 := Scalar.select v753 v755 v752
  let v757 : BitVec 32 := Scalar.subi v756 v752
  let c1_i32_456 : BitVec 32 := 1#32
  let v759 : BitVec 32 := Scalar.divsi v757 c1_i32_456
  let v760 : BitVec 32 := Scalar.muli v759 c1_i32_456
  let v761 : BitVec 32 := Scalar.addi v752 v760
  let c1_i32_458 : BitVec 32 := 1#32
  let arg11 : BitVec 32 := Scf.iv v761 c1_i32_458 k0_t24
  let c256_i32 : BitVec 32 := 256#32
  let v887 : BitVec 32 := Scalar.muli arg11 c256_i32
  v887
def k0_off80 (v743 : BitVec 32) (v748 : BitVec 32) (k0_t24 : Fin (k0_t24_loop v743 v748).trips) : Fin 4 → Nat :=
  let c0_546 : Index := 0#32
  let c11_547 : Index := 11#32
  let c_m16_i32_449 : BitVec 32 := 4294967280#32
  let v749 : BitVec 32 := Scalar.andi v743 c_m16_i32_449
  let c384_i32_450 : BitVec 32 := 384#32
  let v750 : BitVec 32 := Scalar.minsi v749 c384_i32_450
  let c128_i32_451 : BitVec 32 := 128#32
  let v751 : BitVec 32 := Scalar.addi v750 c128_i32_451
  let c8_i32_452 : BitVec 32 := 8#32
  let v752 : BitVec 32 := Scalar.shrui v751 c8_i32_452
  let v753 : BitVec 1 := Scalar.cmpi .sgt v748 v751
  let c255_i32_453 : BitVec 32 := 255#32
  let v754 : BitVec 32 := Scalar.addi v748 c255_i32_453
  let c8_i32_454 : BitVec 32 := 8#32
  let v755 : BitVec 32 := Scalar.shrui v754 c8_i32_454
  let v756 : BitVec 32 := Scalar.select v753 v755 v752
  let v757 : BitVec 32 := Scalar.subi v756 v752
  let c1_i32_456 : BitVec 32 := 1#32
  let v759 : BitVec 32 := Scalar.divsi v757 c1_i32_456
  let v760 : BitVec 32 := Scalar.muli v759 c1_i32_456
  let v761 : BitVec 32 := Scalar.addi v752 v760
  let c1_i32_458 : BitVec 32 := 1#32
  let arg11 : BitVec 32 := Scf.iv v761 c1_i32_458 k0_t24
  let c256_i32 : BitVec 32 := 256#32
  let v887 : BitVec 32 := Scalar.muli arg11 c256_i32
  let v888 : BitVec 32 := v887
  let v904 : Index := Scalar.indexCast v888
  let c0_548 : Index := 0#32
  ![0, 11, v904.toNat, 0]

def k0_chk28 (v743 : BitVec 32) (v748 : BitVec 32) : Prop :=
  ((k0_t23_loop v743 v748).OK) ∧
  (∀ k0_t23 : Fin (k0_t23_loop v743 v748).trips, 256 ∣ (k0_mult39 v743 v748 k0_t23).toNat) ∧
  (∀ k0_t23 : Fin (k0_t23_loop v743 v748).trips, ∀ a, (k0_off79 v743 v748 k0_t23) a + S1x1x256x1024.size a ≤ S1x16x512x1024.size a) ∧
  ((k0_t24_loop v743 v748).OK) ∧
  (∀ k0_t24 : Fin (k0_t24_loop v743 v748).trips, 256 ∣ (k0_mult40 v743 v748 k0_t24).toNat) ∧
  (∀ k0_t24 : Fin (k0_t24_loop v743 v748).trips, ∀ a, (k0_off80 v743 v748 k0_t24) a + S1x1x256x1024.size a ≤ S1x16x512x1024.size a)
theorem k0_t23_ok : ∀ (v743 : BitVec 32) (v748 : BitVec 32) (k0_hw28 : k0_chk28 v743 v748), (k0_t23_loop v743 v748).OK := fun v743 v748 k0_hw28 => k0_hw28.1
theorem k0_mult39_dvd : ∀ (v743 : BitVec 32) (v748 : BitVec 32) (k0_hw28 : k0_chk28 v743 v748) (k0_t23 : Fin (k0_t23_loop v743 v748).trips), 256 ∣ (k0_mult39 v743 v748 k0_t23).toNat := fun v743 v748 k0_hw28 k0_t23 => k0_hw28.2.1 k0_t23
theorem k0_off79_inb : ∀ (v743 : BitVec 32) (v748 : BitVec 32) (k0_hw28 : k0_chk28 v743 v748) (k0_t23 : Fin (k0_t23_loop v743 v748).trips), ∀ a, (k0_off79 v743 v748 k0_t23) a + S1x1x256x1024.size a ≤ S1x16x512x1024.size a := fun v743 v748 k0_hw28 k0_t23 => k0_hw28.2.2.1 k0_t23
theorem k0_t24_ok : ∀ (v743 : BitVec 32) (v748 : BitVec 32) (k0_hw28 : k0_chk28 v743 v748), (k0_t24_loop v743 v748).OK := fun v743 v748 k0_hw28 => k0_hw28.2.2.2.1
theorem k0_mult40_dvd : ∀ (v743 : BitVec 32) (v748 : BitVec 32) (k0_hw28 : k0_chk28 v743 v748) (k0_t24 : Fin (k0_t24_loop v743 v748).trips), 256 ∣ (k0_mult40 v743 v748 k0_t24).toNat := fun v743 v748 k0_hw28 k0_t24 => k0_hw28.2.2.2.2.1 k0_t24
theorem k0_off80_inb : ∀ (v743 : BitVec 32) (v748 : BitVec 32) (k0_hw28 : k0_chk28 v743 v748) (k0_t24 : Fin (k0_t24_loop v743 v748).trips), ∀ a, (k0_off80 v743 v748 k0_t24) a + S1x1x256x1024.size a ≤ S1x16x512x1024.size a := fun v743 v748 k0_hw28 k0_t24 => k0_hw28.2.2.2.2.2 k0_t24

def k0_off81 (i : grid0.Coords) : Fin 1 → Nat :=
  let arg0 : BitVec 32 := BitVec.ofNat 32 (i 0).val
  let c16_i32_459 : BitVec 32 := 16#32
  let v762 : BitVec 32 := Scalar.muli arg0 c16_i32_459
  let c12_i32_460 : BitVec 32 := 12#32
  let v763 : BitVec 32 := Scalar.addi v762 c12_i32_460
  let c33_i32_461 : BitVec 32 := 33#32
  let v764 : BitVec 32 := Scalar.muli v763 c33_i32_461
  let arg1 : BitVec 32 := BitVec.ofNat 32 (i 1).val
  let c4_i32_462 : BitVec 32 := 4#32
  let v765 : BitVec 32 := Scalar.muli arg1 c4_i32_462
  let v766 : BitVec 32 := Scalar.addi v764 v765
  let v767 : Index := Scalar.indexCast v766
  ![v767.toNat]
def k0_off82 (i : grid0.Coords) : Fin 1 → Nat :=
  let arg0 : BitVec 32 := BitVec.ofNat 32 (i 0).val
  let c16_i32_459 : BitVec 32 := 16#32
  let v762 : BitVec 32 := Scalar.muli arg0 c16_i32_459
  let c12_i32_460 : BitVec 32 := 12#32
  let v763 : BitVec 32 := Scalar.addi v762 c12_i32_460
  let c33_i32_461 : BitVec 32 := 33#32
  let v764 : BitVec 32 := Scalar.muli v763 c33_i32_461
  let arg1 : BitVec 32 := BitVec.ofNat 32 (i 1).val
  let c1_i32_463 : BitVec 32 := 1#32
  let v769 : BitVec 32 := Scalar.addi arg1 c1_i32_463
  let c4_i32_464 : BitVec 32 := 4#32
  let v770 : BitVec 32 := Scalar.muli v769 c4_i32_464
  let v771 : BitVec 32 := Scalar.addi v764 v770
  let v772 : Index := Scalar.indexCast v771
  ![v772.toNat]
@[reducible] def k0_t25_loop (v768 : BitVec 32) (v773 : BitVec 32) : Scf.Loop 32 :=
  let c_m16_i32_465 : BitVec 32 := 4294967280#32
  let v774 : BitVec 32 := Scalar.andi v768 c_m16_i32_465
  let c384_i32_466 : BitVec 32 := 384#32
  let v775 : BitVec 32 := Scalar.minsi v774 c384_i32_466
  let c128_i32_467 : BitVec 32 := 128#32
  let v776 : BitVec 32 := Scalar.addi v775 c128_i32_467
  let c8_i32_468 : BitVec 32 := 8#32
  let v777 : BitVec 32 := Scalar.shrui v776 c8_i32_468
  let v778 : BitVec 1 := Scalar.cmpi .sgt v773 v776
  let c255_i32_469 : BitVec 32 := 255#32
  let v779 : BitVec 32 := Scalar.addi v773 c255_i32_469
  let c8_i32_470 : BitVec 32 := 8#32
  let v780 : BitVec 32 := Scalar.shrui v779 c8_i32_470
  let v781 : BitVec 32 := Scalar.select v778 v780 v777
  let v782 : BitVec 32 := Scalar.subi v781 v777
  let c1_i32_472 : BitVec 32 := 1#32
  let v784 : BitVec 32 := Scalar.divsi v782 c1_i32_472
  let v785 : BitVec 32 := Scalar.muli v784 c1_i32_472
  let v786 : BitVec 32 := Scalar.addi v777 v785
  let c1_i32_473 : BitVec 32 := 1#32
  ⟨v777, v786, c1_i32_473⟩

def k0_mult41 (v768 : BitVec 32) (v773 : BitVec 32) (k0_t25 : Fin (k0_t25_loop v768 v773).trips) : BitVec 32 :=
  let c_m16_i32_465 : BitVec 32 := 4294967280#32
  let v774 : BitVec 32 := Scalar.andi v768 c_m16_i32_465
  let c384_i32_466 : BitVec 32 := 384#32
  let v775 : BitVec 32 := Scalar.minsi v774 c384_i32_466
  let c128_i32_467 : BitVec 32 := 128#32
  let v776 : BitVec 32 := Scalar.addi v775 c128_i32_467
  let c8_i32_468 : BitVec 32 := 8#32
  let v777 : BitVec 32 := Scalar.shrui v776 c8_i32_468
  let c1_i32_473 : BitVec 32 := 1#32
  let arg11 : BitVec 32 := Scf.iv v777 c1_i32_473 k0_t25
  let c256_i32 : BitVec 32 := 256#32
  let v887 : BitVec 32 := Scalar.muli arg11 c256_i32
  v887
def k0_off83 (v768 : BitVec 32) (v773 : BitVec 32) (k0_t25 : Fin (k0_t25_loop v768 v773).trips) : Fin 4 → Nat :=
  let c0_546 : Index := 0#32
  let c12_547 : Index := 12#32
  let c_m16_i32_465 : BitVec 32 := 4294967280#32
  let v774 : BitVec 32 := Scalar.andi v768 c_m16_i32_465
  let c384_i32_466 : BitVec 32 := 384#32
  let v775 : BitVec 32 := Scalar.minsi v774 c384_i32_466
  let c128_i32_467 : BitVec 32 := 128#32
  let v776 : BitVec 32 := Scalar.addi v775 c128_i32_467
  let c8_i32_468 : BitVec 32 := 8#32
  let v777 : BitVec 32 := Scalar.shrui v776 c8_i32_468
  let c1_i32_473 : BitVec 32 := 1#32
  let arg11 : BitVec 32 := Scf.iv v777 c1_i32_473 k0_t25
  let c256_i32 : BitVec 32 := 256#32
  let v887 : BitVec 32 := Scalar.muli arg11 c256_i32
  let v888 : BitVec 32 := v887
  let v904 : Index := Scalar.indexCast v888
  let c0_548 : Index := 0#32
  ![0, 12, v904.toNat, 0]
@[reducible] def k0_t26_loop (v768 : BitVec 32) (v773 : BitVec 32) : Scf.Loop 32 :=
  let c_m16_i32_465 : BitVec 32 := 4294967280#32
  let v774 : BitVec 32 := Scalar.andi v768 c_m16_i32_465
  let c384_i32_466 : BitVec 32 := 384#32
  let v775 : BitVec 32 := Scalar.minsi v774 c384_i32_466
  let c128_i32_467 : BitVec 32 := 128#32
  let v776 : BitVec 32 := Scalar.addi v775 c128_i32_467
  let c8_i32_468 : BitVec 32 := 8#32
  let v777 : BitVec 32 := Scalar.shrui v776 c8_i32_468
  let v778 : BitVec 1 := Scalar.cmpi .sgt v773 v776
  let c255_i32_469 : BitVec 32 := 255#32
  let v779 : BitVec 32 := Scalar.addi v773 c255_i32_469
  let c8_i32_470 : BitVec 32 := 8#32
  let v780 : BitVec 32 := Scalar.shrui v779 c8_i32_470
  let v781 : BitVec 32 := Scalar.select v778 v780 v777
  let v782 : BitVec 32 := Scalar.subi v781 v777
  let c1_i32_472 : BitVec 32 := 1#32
  let v784 : BitVec 32 := Scalar.divsi v782 c1_i32_472
  let v785 : BitVec 32 := Scalar.muli v784 c1_i32_472
  let v786 : BitVec 32 := Scalar.addi v777 v785
  let v783 : BitVec 32 := Scalar.addi v777 v782
  let c1_i32_474 : BitVec 32 := 1#32
  ⟨v786, v783, c1_i32_474⟩
def k0_mult42 (v768 : BitVec 32) (v773 : BitVec 32) (k0_t26 : Fin (k0_t26_loop v768 v773).trips) : BitVec 32 :=
  let c_m16_i32_465 : BitVec 32 := 4294967280#32
  let v774 : BitVec 32 := Scalar.andi v768 c_m16_i32_465
  let c384_i32_466 : BitVec 32 := 384#32
  let v775 : BitVec 32 := Scalar.minsi v774 c384_i32_466
  let c128_i32_467 : BitVec 32 := 128#32
  let v776 : BitVec 32 := Scalar.addi v775 c128_i32_467
  let c8_i32_468 : BitVec 32 := 8#32
  let v777 : BitVec 32 := Scalar.shrui v776 c8_i32_468
  let v778 : BitVec 1 := Scalar.cmpi .sgt v773 v776
  let c255_i32_469 : BitVec 32 := 255#32
  let v779 : BitVec 32 := Scalar.addi v773 c255_i32_469
  let c8_i32_470 : BitVec 32 := 8#32
  let v780 : BitVec 32 := Scalar.shrui v779 c8_i32_470
  let v781 : BitVec 32 := Scalar.select v778 v780 v777
  let v782 : BitVec 32 := Scalar.subi v781 v777
  let c1_i32_472 : BitVec 32 := 1#32
  let v784 : BitVec 32 := Scalar.divsi v782 c1_i32_472
  let v785 : BitVec 32 := Scalar.muli v784 c1_i32_472
  let v786 : BitVec 32 := Scalar.addi v777 v785
  let c1_i32_474 : BitVec 32 := 1#32
  let arg11 : BitVec 32 := Scf.iv v786 c1_i32_474 k0_t26
  let c256_i32 : BitVec 32 := 256#32
  let v887 : BitVec 32 := Scalar.muli arg11 c256_i32
  v887
def k0_off84 (v768 : BitVec 32) (v773 : BitVec 32) (k0_t26 : Fin (k0_t26_loop v768 v773).trips) : Fin 4 → Nat :=
  let c0_546 : Index := 0#32
  let c12_547 : Index := 12#32
  let c_m16_i32_465 : BitVec 32 := 4294967280#32
  let v774 : BitVec 32 := Scalar.andi v768 c_m16_i32_465
  let c384_i32_466 : BitVec 32 := 384#32
  let v775 : BitVec 32 := Scalar.minsi v774 c384_i32_466
  let c128_i32_467 : BitVec 32 := 128#32
  let v776 : BitVec 32 := Scalar.addi v775 c128_i32_467
  let c8_i32_468 : BitVec 32 := 8#32
  let v777 : BitVec 32 := Scalar.shrui v776 c8_i32_468
  let v778 : BitVec 1 := Scalar.cmpi .sgt v773 v776
  let c255_i32_469 : BitVec 32 := 255#32
  let v779 : BitVec 32 := Scalar.addi v773 c255_i32_469
  let c8_i32_470 : BitVec 32 := 8#32
  let v780 : BitVec 32 := Scalar.shrui v779 c8_i32_470
  let v781 : BitVec 32 := Scalar.select v778 v780 v777
  let v782 : BitVec 32 := Scalar.subi v781 v777
  let c1_i32_472 : BitVec 32 := 1#32
  let v784 : BitVec 32 := Scalar.divsi v782 c1_i32_472
  let v785 : BitVec 32 := Scalar.muli v784 c1_i32_472
  let v786 : BitVec 32 := Scalar.addi v777 v785
  let c1_i32_474 : BitVec 32 := 1#32
  let arg11 : BitVec 32 := Scf.iv v786 c1_i32_474 k0_t26
  let c256_i32 : BitVec 32 := 256#32
  let v887 : BitVec 32 := Scalar.muli arg11 c256_i32
  let v888 : BitVec 32 := v887
  let v904 : Index := Scalar.indexCast v888
  let c0_548 : Index := 0#32
  ![0, 12, v904.toNat, 0]

def k0_chk29 (v768 : BitVec 32) (v773 : BitVec 32) : Prop :=
  ((k0_t25_loop v768 v773).OK) ∧
  (∀ k0_t25 : Fin (k0_t25_loop v768 v773).trips, 256 ∣ (k0_mult41 v768 v773 k0_t25).toNat) ∧
  (∀ k0_t25 : Fin (k0_t25_loop v768 v773).trips, ∀ a, (k0_off83 v768 v773 k0_t25) a + S1x1x256x1024.size a ≤ S1x16x512x1024.size a) ∧
  ((k0_t26_loop v768 v773).OK) ∧
  (∀ k0_t26 : Fin (k0_t26_loop v768 v773).trips, 256 ∣ (k0_mult42 v768 v773 k0_t26).toNat) ∧
  (∀ k0_t26 : Fin (k0_t26_loop v768 v773).trips, ∀ a, (k0_off84 v768 v773 k0_t26) a + S1x1x256x1024.size a ≤ S1x16x512x1024.size a)
theorem k0_t25_ok : ∀ (v768 : BitVec 32) (v773 : BitVec 32) (k0_hw29 : k0_chk29 v768 v773), (k0_t25_loop v768 v773).OK := fun v768 v773 k0_hw29 => k0_hw29.1
theorem k0_mult41_dvd : ∀ (v768 : BitVec 32) (v773 : BitVec 32) (k0_hw29 : k0_chk29 v768 v773) (k0_t25 : Fin (k0_t25_loop v768 v773).trips), 256 ∣ (k0_mult41 v768 v773 k0_t25).toNat := fun v768 v773 k0_hw29 k0_t25 => k0_hw29.2.1 k0_t25
theorem k0_off83_inb : ∀ (v768 : BitVec 32) (v773 : BitVec 32) (k0_hw29 : k0_chk29 v768 v773) (k0_t25 : Fin (k0_t25_loop v768 v773).trips), ∀ a, (k0_off83 v768 v773 k0_t25) a + S1x1x256x1024.size a ≤ S1x16x512x1024.size a := fun v768 v773 k0_hw29 k0_t25 => k0_hw29.2.2.1 k0_t25
theorem k0_t26_ok : ∀ (v768 : BitVec 32) (v773 : BitVec 32) (k0_hw29 : k0_chk29 v768 v773), (k0_t26_loop v768 v773).OK := fun v768 v773 k0_hw29 => k0_hw29.2.2.2.1
theorem k0_mult42_dvd : ∀ (v768 : BitVec 32) (v773 : BitVec 32) (k0_hw29 : k0_chk29 v768 v773) (k0_t26 : Fin (k0_t26_loop v768 v773).trips), 256 ∣ (k0_mult42 v768 v773 k0_t26).toNat := fun v768 v773 k0_hw29 k0_t26 => k0_hw29.2.2.2.2.1 k0_t26
theorem k0_off84_inb : ∀ (v768 : BitVec 32) (v773 : BitVec 32) (k0_hw29 : k0_chk29 v768 v773) (k0_t26 : Fin (k0_t26_loop v768 v773).trips), ∀ a, (k0_off84 v768 v773 k0_t26) a + S1x1x256x1024.size a ≤ S1x16x512x1024.size a := fun v768 v773 k0_hw29 k0_t26 => k0_hw29.2.2.2.2.2 k0_t26

def k0_off85 (i : grid0.Coords) : Fin 1 → Nat :=
  let arg0 : BitVec 32 := BitVec.ofNat 32 (i 0).val
  let c16_i32_475 : BitVec 32 := 16#32
  let v787 : BitVec 32 := Scalar.muli arg0 c16_i32_475
  let c13_i32_476 : BitVec 32 := 13#32
  let v788 : BitVec 32 := Scalar.addi v787 c13_i32_476
  let c33_i32_477 : BitVec 32 := 33#32
  let v789 : BitVec 32 := Scalar.muli v788 c33_i32_477
  let arg1 : BitVec 32 := BitVec.ofNat 32 (i 1).val
  let c4_i32_478 : BitVec 32 := 4#32
  let v790 : BitVec 32 := Scalar.muli arg1 c4_i32_478
  let v791 : BitVec 32 := Scalar.addi v789 v790
  let v792 : Index := Scalar.indexCast v791
  ![v792.toNat]
def k0_off86 (i : grid0.Coords) : Fin 1 → Nat :=
  let arg0 : BitVec 32 := BitVec.ofNat 32 (i 0).val
  let c16_i32_475 : BitVec 32 := 16#32
  let v787 : BitVec 32 := Scalar.muli arg0 c16_i32_475
  let c13_i32_476 : BitVec 32 := 13#32
  let v788 : BitVec 32 := Scalar.addi v787 c13_i32_476
  let c33_i32_477 : BitVec 32 := 33#32
  let v789 : BitVec 32 := Scalar.muli v788 c33_i32_477
  let arg1 : BitVec 32 := BitVec.ofNat 32 (i 1).val
  let c1_i32_479 : BitVec 32 := 1#32
  let v794 : BitVec 32 := Scalar.addi arg1 c1_i32_479
  let c4_i32_480 : BitVec 32 := 4#32
  let v795 : BitVec 32 := Scalar.muli v794 c4_i32_480
  let v796 : BitVec 32 := Scalar.addi v789 v795
  let v797 : Index := Scalar.indexCast v796
  ![v797.toNat]
@[reducible] def k0_t27_loop (v793 : BitVec 32) (v798 : BitVec 32) : Scf.Loop 32 :=
  let c_m16_i32_481 : BitVec 32 := 4294967280#32
  let v799 : BitVec 32 := Scalar.andi v793 c_m16_i32_481
  let c384_i32_482 : BitVec 32 := 384#32
  let v800 : BitVec 32 := Scalar.minsi v799 c384_i32_482
  let c128_i32_483 : BitVec 32 := 128#32
  let v801 : BitVec 32 := Scalar.addi v800 c128_i32_483
  let c8_i32_484 : BitVec 32 := 8#32
  let v802 : BitVec 32 := Scalar.shrui v801 c8_i32_484
  let v803 : BitVec 1 := Scalar.cmpi .sgt v798 v801
  let c255_i32_485 : BitVec 32 := 255#32
  let v804 : BitVec 32 := Scalar.addi v798 c255_i32_485
  let c8_i32_486 : BitVec 32 := 8#32
  let v805 : BitVec 32 := Scalar.shrui v804 c8_i32_486
  let v806 : BitVec 32 := Scalar.select v803 v805 v802
  let v807 : BitVec 32 := Scalar.subi v806 v802
  let c1_i32_488 : BitVec 32 := 1#32
  let v809 : BitVec 32 := Scalar.divsi v807 c1_i32_488
  let v810 : BitVec 32 := Scalar.muli v809 c1_i32_488
  let v811 : BitVec 32 := Scalar.addi v802 v810
  let c1_i32_489 : BitVec 32 := 1#32
  ⟨v802, v811, c1_i32_489⟩

def k0_mult43 (v793 : BitVec 32) (v798 : BitVec 32) (k0_t27 : Fin (k0_t27_loop v793 v798).trips) : BitVec 32 :=
  let c_m16_i32_481 : BitVec 32 := 4294967280#32
  let v799 : BitVec 32 := Scalar.andi v793 c_m16_i32_481
  let c384_i32_482 : BitVec 32 := 384#32
  let v800 : BitVec 32 := Scalar.minsi v799 c384_i32_482
  let c128_i32_483 : BitVec 32 := 128#32
  let v801 : BitVec 32 := Scalar.addi v800 c128_i32_483
  let c8_i32_484 : BitVec 32 := 8#32
  let v802 : BitVec 32 := Scalar.shrui v801 c8_i32_484
  let c1_i32_489 : BitVec 32 := 1#32
  let arg11 : BitVec 32 := Scf.iv v802 c1_i32_489 k0_t27
  let c256_i32 : BitVec 32 := 256#32
  let v887 : BitVec 32 := Scalar.muli arg11 c256_i32
  v887
def k0_off87 (v793 : BitVec 32) (v798 : BitVec 32) (k0_t27 : Fin (k0_t27_loop v793 v798).trips) : Fin 4 → Nat :=
  let c0_546 : Index := 0#32
  let c13_547 : Index := 13#32
  let c_m16_i32_481 : BitVec 32 := 4294967280#32
  let v799 : BitVec 32 := Scalar.andi v793 c_m16_i32_481
  let c384_i32_482 : BitVec 32 := 384#32
  let v800 : BitVec 32 := Scalar.minsi v799 c384_i32_482
  let c128_i32_483 : BitVec 32 := 128#32
  let v801 : BitVec 32 := Scalar.addi v800 c128_i32_483
  let c8_i32_484 : BitVec 32 := 8#32
  let v802 : BitVec 32 := Scalar.shrui v801 c8_i32_484
  let c1_i32_489 : BitVec 32 := 1#32
  let arg11 : BitVec 32 := Scf.iv v802 c1_i32_489 k0_t27
  let c256_i32 : BitVec 32 := 256#32
  let v887 : BitVec 32 := Scalar.muli arg11 c256_i32
  let v888 : BitVec 32 := v887
  let v904 : Index := Scalar.indexCast v888
  let c0_548 : Index := 0#32
  ![0, 13, v904.toNat, 0]
@[reducible] def k0_t28_loop (v793 : BitVec 32) (v798 : BitVec 32) : Scf.Loop 32 :=
  let c_m16_i32_481 : BitVec 32 := 4294967280#32
  let v799 : BitVec 32 := Scalar.andi v793 c_m16_i32_481
  let c384_i32_482 : BitVec 32 := 384#32
  let v800 : BitVec 32 := Scalar.minsi v799 c384_i32_482
  let c128_i32_483 : BitVec 32 := 128#32
  let v801 : BitVec 32 := Scalar.addi v800 c128_i32_483
  let c8_i32_484 : BitVec 32 := 8#32
  let v802 : BitVec 32 := Scalar.shrui v801 c8_i32_484
  let v803 : BitVec 1 := Scalar.cmpi .sgt v798 v801
  let c255_i32_485 : BitVec 32 := 255#32
  let v804 : BitVec 32 := Scalar.addi v798 c255_i32_485
  let c8_i32_486 : BitVec 32 := 8#32
  let v805 : BitVec 32 := Scalar.shrui v804 c8_i32_486
  let v806 : BitVec 32 := Scalar.select v803 v805 v802
  let v807 : BitVec 32 := Scalar.subi v806 v802
  let c1_i32_488 : BitVec 32 := 1#32
  let v809 : BitVec 32 := Scalar.divsi v807 c1_i32_488
  let v810 : BitVec 32 := Scalar.muli v809 c1_i32_488
  let v811 : BitVec 32 := Scalar.addi v802 v810
  let v808 : BitVec 32 := Scalar.addi v802 v807
  let c1_i32_490 : BitVec 32 := 1#32
  ⟨v811, v808, c1_i32_490⟩
def k0_mult44 (v793 : BitVec 32) (v798 : BitVec 32) (k0_t28 : Fin (k0_t28_loop v793 v798).trips) : BitVec 32 :=
  let c_m16_i32_481 : BitVec 32 := 4294967280#32
  let v799 : BitVec 32 := Scalar.andi v793 c_m16_i32_481
  let c384_i32_482 : BitVec 32 := 384#32
  let v800 : BitVec 32 := Scalar.minsi v799 c384_i32_482
  let c128_i32_483 : BitVec 32 := 128#32
  let v801 : BitVec 32 := Scalar.addi v800 c128_i32_483
  let c8_i32_484 : BitVec 32 := 8#32
  let v802 : BitVec 32 := Scalar.shrui v801 c8_i32_484
  let v803 : BitVec 1 := Scalar.cmpi .sgt v798 v801
  let c255_i32_485 : BitVec 32 := 255#32
  let v804 : BitVec 32 := Scalar.addi v798 c255_i32_485
  let c8_i32_486 : BitVec 32 := 8#32
  let v805 : BitVec 32 := Scalar.shrui v804 c8_i32_486
  let v806 : BitVec 32 := Scalar.select v803 v805 v802
  let v807 : BitVec 32 := Scalar.subi v806 v802
  let c1_i32_488 : BitVec 32 := 1#32
  let v809 : BitVec 32 := Scalar.divsi v807 c1_i32_488
  let v810 : BitVec 32 := Scalar.muli v809 c1_i32_488
  let v811 : BitVec 32 := Scalar.addi v802 v810
  let c1_i32_490 : BitVec 32 := 1#32
  let arg11 : BitVec 32 := Scf.iv v811 c1_i32_490 k0_t28
  let c256_i32 : BitVec 32 := 256#32
  let v887 : BitVec 32 := Scalar.muli arg11 c256_i32
  v887
def k0_off88 (v793 : BitVec 32) (v798 : BitVec 32) (k0_t28 : Fin (k0_t28_loop v793 v798).trips) : Fin 4 → Nat :=
  let c0_546 : Index := 0#32
  let c13_547 : Index := 13#32
  let c_m16_i32_481 : BitVec 32 := 4294967280#32
  let v799 : BitVec 32 := Scalar.andi v793 c_m16_i32_481
  let c384_i32_482 : BitVec 32 := 384#32
  let v800 : BitVec 32 := Scalar.minsi v799 c384_i32_482
  let c128_i32_483 : BitVec 32 := 128#32
  let v801 : BitVec 32 := Scalar.addi v800 c128_i32_483
  let c8_i32_484 : BitVec 32 := 8#32
  let v802 : BitVec 32 := Scalar.shrui v801 c8_i32_484
  let v803 : BitVec 1 := Scalar.cmpi .sgt v798 v801
  let c255_i32_485 : BitVec 32 := 255#32
  let v804 : BitVec 32 := Scalar.addi v798 c255_i32_485
  let c8_i32_486 : BitVec 32 := 8#32
  let v805 : BitVec 32 := Scalar.shrui v804 c8_i32_486
  let v806 : BitVec 32 := Scalar.select v803 v805 v802
  let v807 : BitVec 32 := Scalar.subi v806 v802
  let c1_i32_488 : BitVec 32 := 1#32
  let v809 : BitVec 32 := Scalar.divsi v807 c1_i32_488
  let v810 : BitVec 32 := Scalar.muli v809 c1_i32_488
  let v811 : BitVec 32 := Scalar.addi v802 v810
  let c1_i32_490 : BitVec 32 := 1#32
  let arg11 : BitVec 32 := Scf.iv v811 c1_i32_490 k0_t28
  let c256_i32 : BitVec 32 := 256#32
  let v887 : BitVec 32 := Scalar.muli arg11 c256_i32
  let v888 : BitVec 32 := v887
  let v904 : Index := Scalar.indexCast v888
  let c0_548 : Index := 0#32
  ![0, 13, v904.toNat, 0]

def k0_chk30 (v793 : BitVec 32) (v798 : BitVec 32) : Prop :=
  ((k0_t27_loop v793 v798).OK) ∧
  (∀ k0_t27 : Fin (k0_t27_loop v793 v798).trips, 256 ∣ (k0_mult43 v793 v798 k0_t27).toNat) ∧
  (∀ k0_t27 : Fin (k0_t27_loop v793 v798).trips, ∀ a, (k0_off87 v793 v798 k0_t27) a + S1x1x256x1024.size a ≤ S1x16x512x1024.size a) ∧
  ((k0_t28_loop v793 v798).OK) ∧
  (∀ k0_t28 : Fin (k0_t28_loop v793 v798).trips, 256 ∣ (k0_mult44 v793 v798 k0_t28).toNat) ∧
  (∀ k0_t28 : Fin (k0_t28_loop v793 v798).trips, ∀ a, (k0_off88 v793 v798 k0_t28) a + S1x1x256x1024.size a ≤ S1x16x512x1024.size a)
theorem k0_t27_ok : ∀ (v793 : BitVec 32) (v798 : BitVec 32) (k0_hw30 : k0_chk30 v793 v798), (k0_t27_loop v793 v798).OK := fun v793 v798 k0_hw30 => k0_hw30.1
theorem k0_mult43_dvd : ∀ (v793 : BitVec 32) (v798 : BitVec 32) (k0_hw30 : k0_chk30 v793 v798) (k0_t27 : Fin (k0_t27_loop v793 v798).trips), 256 ∣ (k0_mult43 v793 v798 k0_t27).toNat := fun v793 v798 k0_hw30 k0_t27 => k0_hw30.2.1 k0_t27
theorem k0_off87_inb : ∀ (v793 : BitVec 32) (v798 : BitVec 32) (k0_hw30 : k0_chk30 v793 v798) (k0_t27 : Fin (k0_t27_loop v793 v798).trips), ∀ a, (k0_off87 v793 v798 k0_t27) a + S1x1x256x1024.size a ≤ S1x16x512x1024.size a := fun v793 v798 k0_hw30 k0_t27 => k0_hw30.2.2.1 k0_t27
theorem k0_t28_ok : ∀ (v793 : BitVec 32) (v798 : BitVec 32) (k0_hw30 : k0_chk30 v793 v798), (k0_t28_loop v793 v798).OK := fun v793 v798 k0_hw30 => k0_hw30.2.2.2.1
theorem k0_mult44_dvd : ∀ (v793 : BitVec 32) (v798 : BitVec 32) (k0_hw30 : k0_chk30 v793 v798) (k0_t28 : Fin (k0_t28_loop v793 v798).trips), 256 ∣ (k0_mult44 v793 v798 k0_t28).toNat := fun v793 v798 k0_hw30 k0_t28 => k0_hw30.2.2.2.2.1 k0_t28
theorem k0_off88_inb : ∀ (v793 : BitVec 32) (v798 : BitVec 32) (k0_hw30 : k0_chk30 v793 v798) (k0_t28 : Fin (k0_t28_loop v793 v798).trips), ∀ a, (k0_off88 v793 v798 k0_t28) a + S1x1x256x1024.size a ≤ S1x16x512x1024.size a := fun v793 v798 k0_hw30 k0_t28 => k0_hw30.2.2.2.2.2 k0_t28

def k0_off89 (i : grid0.Coords) : Fin 1 → Nat :=
  let arg0 : BitVec 32 := BitVec.ofNat 32 (i 0).val
  let c16_i32_491 : BitVec 32 := 16#32
  let v812 : BitVec 32 := Scalar.muli arg0 c16_i32_491
  let c14_i32_492 : BitVec 32 := 14#32
  let v813 : BitVec 32 := Scalar.addi v812 c14_i32_492
  let c33_i32_493 : BitVec 32 := 33#32
  let v814 : BitVec 32 := Scalar.muli v813 c33_i32_493
  let arg1 : BitVec 32 := BitVec.ofNat 32 (i 1).val
  let c4_i32_494 : BitVec 32 := 4#32
  let v815 : BitVec 32 := Scalar.muli arg1 c4_i32_494
  let v816 : BitVec 32 := Scalar.addi v814 v815
  let v817 : Index := Scalar.indexCast v816
  ![v817.toNat]
def k0_off90 (i : grid0.Coords) : Fin 1 → Nat :=
  let arg0 : BitVec 32 := BitVec.ofNat 32 (i 0).val
  let c16_i32_491 : BitVec 32 := 16#32
  let v812 : BitVec 32 := Scalar.muli arg0 c16_i32_491
  let c14_i32_492 : BitVec 32 := 14#32
  let v813 : BitVec 32 := Scalar.addi v812 c14_i32_492
  let c33_i32_493 : BitVec 32 := 33#32
  let v814 : BitVec 32 := Scalar.muli v813 c33_i32_493
  let arg1 : BitVec 32 := BitVec.ofNat 32 (i 1).val
  let c1_i32_495 : BitVec 32 := 1#32
  let v819 : BitVec 32 := Scalar.addi arg1 c1_i32_495
  let c4_i32_496 : BitVec 32 := 4#32
  let v820 : BitVec 32 := Scalar.muli v819 c4_i32_496
  let v821 : BitVec 32 := Scalar.addi v814 v820
  let v822 : Index := Scalar.indexCast v821
  ![v822.toNat]
@[reducible] def k0_t29_loop (v818 : BitVec 32) (v823 : BitVec 32) : Scf.Loop 32 :=
  let c_m16_i32_497 : BitVec 32 := 4294967280#32
  let v824 : BitVec 32 := Scalar.andi v818 c_m16_i32_497
  let c384_i32_498 : BitVec 32 := 384#32
  let v825 : BitVec 32 := Scalar.minsi v824 c384_i32_498
  let c128_i32_499 : BitVec 32 := 128#32
  let v826 : BitVec 32 := Scalar.addi v825 c128_i32_499
  let c8_i32_500 : BitVec 32 := 8#32
  let v827 : BitVec 32 := Scalar.shrui v826 c8_i32_500
  let v828 : BitVec 1 := Scalar.cmpi .sgt v823 v826
  let c255_i32_501 : BitVec 32 := 255#32
  let v829 : BitVec 32 := Scalar.addi v823 c255_i32_501
  let c8_i32_502 : BitVec 32 := 8#32
  let v830 : BitVec 32 := Scalar.shrui v829 c8_i32_502
  let v831 : BitVec 32 := Scalar.select v828 v830 v827
  let v832 : BitVec 32 := Scalar.subi v831 v827
  let c1_i32_504 : BitVec 32 := 1#32
  let v834 : BitVec 32 := Scalar.divsi v832 c1_i32_504
  let v835 : BitVec 32 := Scalar.muli v834 c1_i32_504
  let v836 : BitVec 32 := Scalar.addi v827 v835
  let c1_i32_505 : BitVec 32 := 1#32
  ⟨v827, v836, c1_i32_505⟩

def k0_mult45 (v818 : BitVec 32) (v823 : BitVec 32) (k0_t29 : Fin (k0_t29_loop v818 v823).trips) : BitVec 32 :=
  let c_m16_i32_497 : BitVec 32 := 4294967280#32
  let v824 : BitVec 32 := Scalar.andi v818 c_m16_i32_497
  let c384_i32_498 : BitVec 32 := 384#32
  let v825 : BitVec 32 := Scalar.minsi v824 c384_i32_498
  let c128_i32_499 : BitVec 32 := 128#32
  let v826 : BitVec 32 := Scalar.addi v825 c128_i32_499
  let c8_i32_500 : BitVec 32 := 8#32
  let v827 : BitVec 32 := Scalar.shrui v826 c8_i32_500
  let c1_i32_505 : BitVec 32 := 1#32
  let arg11 : BitVec 32 := Scf.iv v827 c1_i32_505 k0_t29
  let c256_i32 : BitVec 32 := 256#32
  let v887 : BitVec 32 := Scalar.muli arg11 c256_i32
  v887
def k0_off91 (v818 : BitVec 32) (v823 : BitVec 32) (k0_t29 : Fin (k0_t29_loop v818 v823).trips) : Fin 4 → Nat :=
  let c0_546 : Index := 0#32
  let c14_547 : Index := 14#32
  let c_m16_i32_497 : BitVec 32 := 4294967280#32
  let v824 : BitVec 32 := Scalar.andi v818 c_m16_i32_497
  let c384_i32_498 : BitVec 32 := 384#32
  let v825 : BitVec 32 := Scalar.minsi v824 c384_i32_498
  let c128_i32_499 : BitVec 32 := 128#32
  let v826 : BitVec 32 := Scalar.addi v825 c128_i32_499
  let c8_i32_500 : BitVec 32 := 8#32
  let v827 : BitVec 32 := Scalar.shrui v826 c8_i32_500
  let c1_i32_505 : BitVec 32 := 1#32
  let arg11 : BitVec 32 := Scf.iv v827 c1_i32_505 k0_t29
  let c256_i32 : BitVec 32 := 256#32
  let v887 : BitVec 32 := Scalar.muli arg11 c256_i32
  let v888 : BitVec 32 := v887
  let v904 : Index := Scalar.indexCast v888
  let c0_548 : Index := 0#32
  ![0, 14, v904.toNat, 0]
@[reducible] def k0_t30_loop (v818 : BitVec 32) (v823 : BitVec 32) : Scf.Loop 32 :=
  let c_m16_i32_497 : BitVec 32 := 4294967280#32
  let v824 : BitVec 32 := Scalar.andi v818 c_m16_i32_497
  let c384_i32_498 : BitVec 32 := 384#32
  let v825 : BitVec 32 := Scalar.minsi v824 c384_i32_498
  let c128_i32_499 : BitVec 32 := 128#32
  let v826 : BitVec 32 := Scalar.addi v825 c128_i32_499
  let c8_i32_500 : BitVec 32 := 8#32
  let v827 : BitVec 32 := Scalar.shrui v826 c8_i32_500
  let v828 : BitVec 1 := Scalar.cmpi .sgt v823 v826
  let c255_i32_501 : BitVec 32 := 255#32
  let v829 : BitVec 32 := Scalar.addi v823 c255_i32_501
  let c8_i32_502 : BitVec 32 := 8#32
  let v830 : BitVec 32 := Scalar.shrui v829 c8_i32_502
  let v831 : BitVec 32 := Scalar.select v828 v830 v827
  let v832 : BitVec 32 := Scalar.subi v831 v827
  let c1_i32_504 : BitVec 32 := 1#32
  let v834 : BitVec 32 := Scalar.divsi v832 c1_i32_504
  let v835 : BitVec 32 := Scalar.muli v834 c1_i32_504
  let v836 : BitVec 32 := Scalar.addi v827 v835
  let v833 : BitVec 32 := Scalar.addi v827 v832
  let c1_i32_506 : BitVec 32 := 1#32
  ⟨v836, v833, c1_i32_506⟩
def k0_mult46 (v818 : BitVec 32) (v823 : BitVec 32) (k0_t30 : Fin (k0_t30_loop v818 v823).trips) : BitVec 32 :=
  let c_m16_i32_497 : BitVec 32 := 4294967280#32
  let v824 : BitVec 32 := Scalar.andi v818 c_m16_i32_497
  let c384_i32_498 : BitVec 32 := 384#32
  let v825 : BitVec 32 := Scalar.minsi v824 c384_i32_498
  let c128_i32_499 : BitVec 32 := 128#32
  let v826 : BitVec 32 := Scalar.addi v825 c128_i32_499
  let c8_i32_500 : BitVec 32 := 8#32
  let v827 : BitVec 32 := Scalar.shrui v826 c8_i32_500
  let v828 : BitVec 1 := Scalar.cmpi .sgt v823 v826
  let c255_i32_501 : BitVec 32 := 255#32
  let v829 : BitVec 32 := Scalar.addi v823 c255_i32_501
  let c8_i32_502 : BitVec 32 := 8#32
  let v830 : BitVec 32 := Scalar.shrui v829 c8_i32_502
  let v831 : BitVec 32 := Scalar.select v828 v830 v827
  let v832 : BitVec 32 := Scalar.subi v831 v827
  let c1_i32_504 : BitVec 32 := 1#32
  let v834 : BitVec 32 := Scalar.divsi v832 c1_i32_504
  let v835 : BitVec 32 := Scalar.muli v834 c1_i32_504
  let v836 : BitVec 32 := Scalar.addi v827 v835
  let c1_i32_506 : BitVec 32 := 1#32
  let arg11 : BitVec 32 := Scf.iv v836 c1_i32_506 k0_t30
  let c256_i32 : BitVec 32 := 256#32
  let v887 : BitVec 32 := Scalar.muli arg11 c256_i32
  v887
def k0_off92 (v818 : BitVec 32) (v823 : BitVec 32) (k0_t30 : Fin (k0_t30_loop v818 v823).trips) : Fin 4 → Nat :=
  let c0_546 : Index := 0#32
  let c14_547 : Index := 14#32
  let c_m16_i32_497 : BitVec 32 := 4294967280#32
  let v824 : BitVec 32 := Scalar.andi v818 c_m16_i32_497
  let c384_i32_498 : BitVec 32 := 384#32
  let v825 : BitVec 32 := Scalar.minsi v824 c384_i32_498
  let c128_i32_499 : BitVec 32 := 128#32
  let v826 : BitVec 32 := Scalar.addi v825 c128_i32_499
  let c8_i32_500 : BitVec 32 := 8#32
  let v827 : BitVec 32 := Scalar.shrui v826 c8_i32_500
  let v828 : BitVec 1 := Scalar.cmpi .sgt v823 v826
  let c255_i32_501 : BitVec 32 := 255#32
  let v829 : BitVec 32 := Scalar.addi v823 c255_i32_501
  let c8_i32_502 : BitVec 32 := 8#32
  let v830 : BitVec 32 := Scalar.shrui v829 c8_i32_502
  let v831 : BitVec 32 := Scalar.select v828 v830 v827
  let v832 : BitVec 32 := Scalar.subi v831 v827
  let c1_i32_504 : BitVec 32 := 1#32
  let v834 : BitVec 32 := Scalar.divsi v832 c1_i32_504
  let v835 : BitVec 32 := Scalar.muli v834 c1_i32_504
  let v836 : BitVec 32 := Scalar.addi v827 v835
  let c1_i32_506 : BitVec 32 := 1#32
  let arg11 : BitVec 32 := Scf.iv v836 c1_i32_506 k0_t30
  let c256_i32 : BitVec 32 := 256#32
  let v887 : BitVec 32 := Scalar.muli arg11 c256_i32
  let v888 : BitVec 32 := v887
  let v904 : Index := Scalar.indexCast v888
  let c0_548 : Index := 0#32
  ![0, 14, v904.toNat, 0]

def k0_chk31 (v818 : BitVec 32) (v823 : BitVec 32) : Prop :=
  ((k0_t29_loop v818 v823).OK) ∧
  (∀ k0_t29 : Fin (k0_t29_loop v818 v823).trips, 256 ∣ (k0_mult45 v818 v823 k0_t29).toNat) ∧
  (∀ k0_t29 : Fin (k0_t29_loop v818 v823).trips, ∀ a, (k0_off91 v818 v823 k0_t29) a + S1x1x256x1024.size a ≤ S1x16x512x1024.size a) ∧
  ((k0_t30_loop v818 v823).OK) ∧
  (∀ k0_t30 : Fin (k0_t30_loop v818 v823).trips, 256 ∣ (k0_mult46 v818 v823 k0_t30).toNat) ∧
  (∀ k0_t30 : Fin (k0_t30_loop v818 v823).trips, ∀ a, (k0_off92 v818 v823 k0_t30) a + S1x1x256x1024.size a ≤ S1x16x512x1024.size a)
theorem k0_t29_ok : ∀ (v818 : BitVec 32) (v823 : BitVec 32) (k0_hw31 : k0_chk31 v818 v823), (k0_t29_loop v818 v823).OK := fun v818 v823 k0_hw31 => k0_hw31.1
theorem k0_mult45_dvd : ∀ (v818 : BitVec 32) (v823 : BitVec 32) (k0_hw31 : k0_chk31 v818 v823) (k0_t29 : Fin (k0_t29_loop v818 v823).trips), 256 ∣ (k0_mult45 v818 v823 k0_t29).toNat := fun v818 v823 k0_hw31 k0_t29 => k0_hw31.2.1 k0_t29
theorem k0_off91_inb : ∀ (v818 : BitVec 32) (v823 : BitVec 32) (k0_hw31 : k0_chk31 v818 v823) (k0_t29 : Fin (k0_t29_loop v818 v823).trips), ∀ a, (k0_off91 v818 v823 k0_t29) a + S1x1x256x1024.size a ≤ S1x16x512x1024.size a := fun v818 v823 k0_hw31 k0_t29 => k0_hw31.2.2.1 k0_t29
theorem k0_t30_ok : ∀ (v818 : BitVec 32) (v823 : BitVec 32) (k0_hw31 : k0_chk31 v818 v823), (k0_t30_loop v818 v823).OK := fun v818 v823 k0_hw31 => k0_hw31.2.2.2.1
theorem k0_mult46_dvd : ∀ (v818 : BitVec 32) (v823 : BitVec 32) (k0_hw31 : k0_chk31 v818 v823) (k0_t30 : Fin (k0_t30_loop v818 v823).trips), 256 ∣ (k0_mult46 v818 v823 k0_t30).toNat := fun v818 v823 k0_hw31 k0_t30 => k0_hw31.2.2.2.2.1 k0_t30
theorem k0_off92_inb : ∀ (v818 : BitVec 32) (v823 : BitVec 32) (k0_hw31 : k0_chk31 v818 v823) (k0_t30 : Fin (k0_t30_loop v818 v823).trips), ∀ a, (k0_off92 v818 v823 k0_t30) a + S1x1x256x1024.size a ≤ S1x16x512x1024.size a := fun v818 v823 k0_hw31 k0_t30 => k0_hw31.2.2.2.2.2 k0_t30

def k0_off93 (i : grid0.Coords) : Fin 1 → Nat :=
  let arg0 : BitVec 32 := BitVec.ofNat 32 (i 0).val
  let c16_i32_507 : BitVec 32 := 16#32
  let v837 : BitVec 32 := Scalar.muli arg0 c16_i32_507
  let c15_i32_508 : BitVec 32 := 15#32
  let v838 : BitVec 32 := Scalar.addi v837 c15_i32_508
  let c33_i32_509 : BitVec 32 := 33#32
  let v839 : BitVec 32 := Scalar.muli v838 c33_i32_509
  let arg1 : BitVec 32 := BitVec.ofNat 32 (i 1).val
  let c4_i32_510 : BitVec 32 := 4#32
  let v840 : BitVec 32 := Scalar.muli arg1 c4_i32_510
  let v841 : BitVec 32 := Scalar.addi v839 v840
  let v842 : Index := Scalar.indexCast v841
  ![v842.toNat]
def k0_off94 (i : grid0.Coords) : Fin 1 → Nat :=
  let arg0 : BitVec 32 := BitVec.ofNat 32 (i 0).val
  let c16_i32_507 : BitVec 32 := 16#32
  let v837 : BitVec 32 := Scalar.muli arg0 c16_i32_507
  let c15_i32_508 : BitVec 32 := 15#32
  let v838 : BitVec 32 := Scalar.addi v837 c15_i32_508
  let c33_i32_509 : BitVec 32 := 33#32
  let v839 : BitVec 32 := Scalar.muli v838 c33_i32_509
  let arg1 : BitVec 32 := BitVec.ofNat 32 (i 1).val
  let c1_i32_511 : BitVec 32 := 1#32
  let v844 : BitVec 32 := Scalar.addi arg1 c1_i32_511
  let c4_i32_512 : BitVec 32 := 4#32
  let v845 : BitVec 32 := Scalar.muli v844 c4_i32_512
  let v846 : BitVec 32 := Scalar.addi v839 v845
  let v847 : Index := Scalar.indexCast v846
  ![v847.toNat]
@[reducible] def k0_t31_loop (v843 : BitVec 32) (v848 : BitVec 32) : Scf.Loop 32 :=
  let c_m16_i32_513 : BitVec 32 := 4294967280#32
  let v849 : BitVec 32 := Scalar.andi v843 c_m16_i32_513
  let c384_i32_514 : BitVec 32 := 384#32
  let v850 : BitVec 32 := Scalar.minsi v849 c384_i32_514
  let c128_i32_515 : BitVec 32 := 128#32
  let v851 : BitVec 32 := Scalar.addi v850 c128_i32_515
  let c8_i32_516 : BitVec 32 := 8#32
  let v852 : BitVec 32 := Scalar.shrui v851 c8_i32_516
  let v853 : BitVec 1 := Scalar.cmpi .sgt v848 v851
  let c255_i32_517 : BitVec 32 := 255#32
  let v854 : BitVec 32 := Scalar.addi v848 c255_i32_517
  let c8_i32_518 : BitVec 32 := 8#32
  let v855 : BitVec 32 := Scalar.shrui v854 c8_i32_518
  let v856 : BitVec 32 := Scalar.select v853 v855 v852
  let v857 : BitVec 32 := Scalar.subi v856 v852
  let c1_i32_520 : BitVec 32 := 1#32
  let v859 : BitVec 32 := Scalar.divsi v857 c1_i32_520
  let v860 : BitVec 32 := Scalar.muli v859 c1_i32_520
  let v861 : BitVec 32 := Scalar.addi v852 v860
  let c1_i32_521 : BitVec 32 := 1#32
  ⟨v852, v861, c1_i32_521⟩

def k0_mult47 (v843 : BitVec 32) (v848 : BitVec 32) (k0_t31 : Fin (k0_t31_loop v843 v848).trips) : BitVec 32 :=
  let c_m16_i32_513 : BitVec 32 := 4294967280#32
  let v849 : BitVec 32 := Scalar.andi v843 c_m16_i32_513
  let c384_i32_514 : BitVec 32 := 384#32
  let v850 : BitVec 32 := Scalar.minsi v849 c384_i32_514
  let c128_i32_515 : BitVec 32 := 128#32
  let v851 : BitVec 32 := Scalar.addi v850 c128_i32_515
  let c8_i32_516 : BitVec 32 := 8#32
  let v852 : BitVec 32 := Scalar.shrui v851 c8_i32_516
  let c1_i32_521 : BitVec 32 := 1#32
  let arg11 : BitVec 32 := Scf.iv v852 c1_i32_521 k0_t31
  let c256_i32 : BitVec 32 := 256#32
  let v887 : BitVec 32 := Scalar.muli arg11 c256_i32
  v887
def k0_off95 (v843 : BitVec 32) (v848 : BitVec 32) (k0_t31 : Fin (k0_t31_loop v843 v848).trips) : Fin 4 → Nat :=
  let c0_546 : Index := 0#32
  let c15_547 : Index := 15#32
  let c_m16_i32_513 : BitVec 32 := 4294967280#32
  let v849 : BitVec 32 := Scalar.andi v843 c_m16_i32_513
  let c384_i32_514 : BitVec 32 := 384#32
  let v850 : BitVec 32 := Scalar.minsi v849 c384_i32_514
  let c128_i32_515 : BitVec 32 := 128#32
  let v851 : BitVec 32 := Scalar.addi v850 c128_i32_515
  let c8_i32_516 : BitVec 32 := 8#32
  let v852 : BitVec 32 := Scalar.shrui v851 c8_i32_516
  let c1_i32_521 : BitVec 32 := 1#32
  let arg11 : BitVec 32 := Scf.iv v852 c1_i32_521 k0_t31
  let c256_i32 : BitVec 32 := 256#32
  let v887 : BitVec 32 := Scalar.muli arg11 c256_i32
  let v888 : BitVec 32 := v887
  let v904 : Index := Scalar.indexCast v888
  let c0_548 : Index := 0#32
  ![0, 15, v904.toNat, 0]
@[reducible] def k0_t32_loop (v843 : BitVec 32) (v848 : BitVec 32) : Scf.Loop 32 :=
  let c_m16_i32_513 : BitVec 32 := 4294967280#32
  let v849 : BitVec 32 := Scalar.andi v843 c_m16_i32_513
  let c384_i32_514 : BitVec 32 := 384#32
  let v850 : BitVec 32 := Scalar.minsi v849 c384_i32_514
  let c128_i32_515 : BitVec 32 := 128#32
  let v851 : BitVec 32 := Scalar.addi v850 c128_i32_515
  let c8_i32_516 : BitVec 32 := 8#32
  let v852 : BitVec 32 := Scalar.shrui v851 c8_i32_516
  let v853 : BitVec 1 := Scalar.cmpi .sgt v848 v851
  let c255_i32_517 : BitVec 32 := 255#32
  let v854 : BitVec 32 := Scalar.addi v848 c255_i32_517
  let c8_i32_518 : BitVec 32 := 8#32
  let v855 : BitVec 32 := Scalar.shrui v854 c8_i32_518
  let v856 : BitVec 32 := Scalar.select v853 v855 v852
  let v857 : BitVec 32 := Scalar.subi v856 v852
  let c1_i32_520 : BitVec 32 := 1#32
  let v859 : BitVec 32 := Scalar.divsi v857 c1_i32_520
  let v860 : BitVec 32 := Scalar.muli v859 c1_i32_520
  let v861 : BitVec 32 := Scalar.addi v852 v860
  let v858 : BitVec 32 := Scalar.addi v852 v857
  let c1_i32_522 : BitVec 32 := 1#32
  ⟨v861, v858, c1_i32_522⟩
def k0_mult48 (v843 : BitVec 32) (v848 : BitVec 32) (k0_t32 : Fin (k0_t32_loop v843 v848).trips) : BitVec 32 :=
  let c_m16_i32_513 : BitVec 32 := 4294967280#32
  let v849 : BitVec 32 := Scalar.andi v843 c_m16_i32_513
  let c384_i32_514 : BitVec 32 := 384#32
  let v850 : BitVec 32 := Scalar.minsi v849 c384_i32_514
  let c128_i32_515 : BitVec 32 := 128#32
  let v851 : BitVec 32 := Scalar.addi v850 c128_i32_515
  let c8_i32_516 : BitVec 32 := 8#32
  let v852 : BitVec 32 := Scalar.shrui v851 c8_i32_516
  let v853 : BitVec 1 := Scalar.cmpi .sgt v848 v851
  let c255_i32_517 : BitVec 32 := 255#32
  let v854 : BitVec 32 := Scalar.addi v848 c255_i32_517
  let c8_i32_518 : BitVec 32 := 8#32
  let v855 : BitVec 32 := Scalar.shrui v854 c8_i32_518
  let v856 : BitVec 32 := Scalar.select v853 v855 v852
  let v857 : BitVec 32 := Scalar.subi v856 v852
  let c1_i32_520 : BitVec 32 := 1#32
  let v859 : BitVec 32 := Scalar.divsi v857 c1_i32_520
  let v860 : BitVec 32 := Scalar.muli v859 c1_i32_520
  let v861 : BitVec 32 := Scalar.addi v852 v860
  let c1_i32_522 : BitVec 32 := 1#32
  let arg11 : BitVec 32 := Scf.iv v861 c1_i32_522 k0_t32
  let c256_i32 : BitVec 32 := 256#32
  let v887 : BitVec 32 := Scalar.muli arg11 c256_i32
  v887
def k0_off96 (v843 : BitVec 32) (v848 : BitVec 32) (k0_t32 : Fin (k0_t32_loop v843 v848).trips) : Fin 4 → Nat :=
  let c0_546 : Index := 0#32
  let c15_547 : Index := 15#32
  let c_m16_i32_513 : BitVec 32 := 4294967280#32
  let v849 : BitVec 32 := Scalar.andi v843 c_m16_i32_513
  let c384_i32_514 : BitVec 32 := 384#32
  let v850 : BitVec 32 := Scalar.minsi v849 c384_i32_514
  let c128_i32_515 : BitVec 32 := 128#32
  let v851 : BitVec 32 := Scalar.addi v850 c128_i32_515
  let c8_i32_516 : BitVec 32 := 8#32
  let v852 : BitVec 32 := Scalar.shrui v851 c8_i32_516
  let v853 : BitVec 1 := Scalar.cmpi .sgt v848 v851
  let c255_i32_517 : BitVec 32 := 255#32
  let v854 : BitVec 32 := Scalar.addi v848 c255_i32_517
  let c8_i32_518 : BitVec 32 := 8#32
  let v855 : BitVec 32 := Scalar.shrui v854 c8_i32_518
  let v856 : BitVec 32 := Scalar.select v853 v855 v852
  let v857 : BitVec 32 := Scalar.subi v856 v852
  let c1_i32_520 : BitVec 32 := 1#32
  let v859 : BitVec 32 := Scalar.divsi v857 c1_i32_520
  let v860 : BitVec 32 := Scalar.muli v859 c1_i32_520
  let v861 : BitVec 32 := Scalar.addi v852 v860
  let c1_i32_522 : BitVec 32 := 1#32
  let arg11 : BitVec 32 := Scf.iv v861 c1_i32_522 k0_t32
  let c256_i32 : BitVec 32 := 256#32
  let v887 : BitVec 32 := Scalar.muli arg11 c256_i32
  let v888 : BitVec 32 := v887
  let v904 : Index := Scalar.indexCast v888
  let c0_548 : Index := 0#32
  ![0, 15, v904.toNat, 0]

def k0_chk32 (v843 : BitVec 32) (v848 : BitVec 32) : Prop :=
  ((k0_t31_loop v843 v848).OK) ∧
  (∀ k0_t31 : Fin (k0_t31_loop v843 v848).trips, 256 ∣ (k0_mult47 v843 v848 k0_t31).toNat) ∧
  (∀ k0_t31 : Fin (k0_t31_loop v843 v848).trips, ∀ a, (k0_off95 v843 v848 k0_t31) a + S1x1x256x1024.size a ≤ S1x16x512x1024.size a) ∧
  ((k0_t32_loop v843 v848).OK) ∧
  (∀ k0_t32 : Fin (k0_t32_loop v843 v848).trips, 256 ∣ (k0_mult48 v843 v848 k0_t32).toNat) ∧
  (∀ k0_t32 : Fin (k0_t32_loop v843 v848).trips, ∀ a, (k0_off96 v843 v848 k0_t32) a + S1x1x256x1024.size a ≤ S1x16x512x1024.size a)
theorem k0_t31_ok : ∀ (v843 : BitVec 32) (v848 : BitVec 32) (k0_hw32 : k0_chk32 v843 v848), (k0_t31_loop v843 v848).OK := fun v843 v848 k0_hw32 => k0_hw32.1
theorem k0_mult47_dvd : ∀ (v843 : BitVec 32) (v848 : BitVec 32) (k0_hw32 : k0_chk32 v843 v848) (k0_t31 : Fin (k0_t31_loop v843 v848).trips), 256 ∣ (k0_mult47 v843 v848 k0_t31).toNat := fun v843 v848 k0_hw32 k0_t31 => k0_hw32.2.1 k0_t31
theorem k0_off95_inb : ∀ (v843 : BitVec 32) (v848 : BitVec 32) (k0_hw32 : k0_chk32 v843 v848) (k0_t31 : Fin (k0_t31_loop v843 v848).trips), ∀ a, (k0_off95 v843 v848 k0_t31) a + S1x1x256x1024.size a ≤ S1x16x512x1024.size a := fun v843 v848 k0_hw32 k0_t31 => k0_hw32.2.2.1 k0_t31
theorem k0_t32_ok : ∀ (v843 : BitVec 32) (v848 : BitVec 32) (k0_hw32 : k0_chk32 v843 v848), (k0_t32_loop v843 v848).OK := fun v843 v848 k0_hw32 => k0_hw32.2.2.2.1
theorem k0_mult48_dvd : ∀ (v843 : BitVec 32) (v848 : BitVec 32) (k0_hw32 : k0_chk32 v843 v848) (k0_t32 : Fin (k0_t32_loop v843 v848).trips), 256 ∣ (k0_mult48 v843 v848 k0_t32).toNat := fun v843 v848 k0_hw32 k0_t32 => k0_hw32.2.2.2.2.1 k0_t32
theorem k0_off96_inb : ∀ (v843 : BitVec 32) (v848 : BitVec 32) (k0_hw32 : k0_chk32 v843 v848) (k0_t32 : Fin (k0_t32_loop v843 v848).trips), ∀ a, (k0_off96 v843 v848 k0_t32) a + S1x1x256x1024.size a ≤ S1x16x512x1024.size a := fun v843 v848 k0_hw32 k0_t32 => k0_hw32.2.2.2.2.2 k0_t32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16x4096x1024 : Shape := ⟨3, ![16, 4096, 1024]⟩
abbrev S16x16x512x1024 : Shape := ⟨4, ![16, 16, 512, 1024]⟩
abbrev S16x16x512 : Shape := ⟨3, ![16, 16, 512]⟩
abbrev S16x4096x16 : Shape := ⟨3, ![16, 4096, 16]⟩
abbrev S8448 : Shape := ⟨1, ![8448]⟩
abbrev S16x1x1024 : Shape := ⟨3, ![16, 1, 1024]⟩
abbrev S1024 : Shape := ⟨1, ![1024]⟩
abbrev S16 : Shape := ⟨1, ![16]⟩
abbrev S16x1x1 : Shape := ⟨3, ![16, 1, 1]⟩
abbrev S_ : Shape := ⟨0, ![]⟩
abbrev S16x16x512x1 : Shape := ⟨4, ![16, 16, 512, 1]⟩
abbrev S16x16x512x2 : Shape := ⟨4, ![16, 16, 512, 2]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x16x512x1024, .bf16⟩
  | .hbm, ⟨2, _⟩ => ⟨S16x16x512, .i32⟩
  | .hbm, ⟨3, _⟩ => ⟨S16x4096x16, .i32⟩
  | .hbm, ⟨4, _⟩ => ⟨S8448, .i32⟩
  | .hbm, ⟨5, _⟩ => ⟨S16x1x1024, .f32⟩
  | .hbm, ⟨6, _⟩ => ⟨S1024, .f32⟩
  | .hbm, ⟨7, _⟩ => ⟨S16, .i32⟩
  | .hbm, ⟨8, _⟩ => ⟨S16x1x1, .i32⟩
  | .hbm, ⟨9, _⟩ => ⟨S_, .f32⟩
  | .hbm, ⟨10, _⟩ => ⟨S16x4096x1024, .f32⟩
  | .hbm, ⟨11, _⟩ => ⟨S16x16x512x1024, .f32⟩
  | .hbm, ⟨12, _⟩ => ⟨S_, .i32⟩
  | .hbm, ⟨13, _⟩ => ⟨S16x1x1, .i32⟩
  | .hbm, ⟨14, _⟩ => ⟨S16x1x1, .i1⟩
  | .hbm, ⟨15, _⟩ => ⟨S_, .i32⟩
  | .hbm, ⟨16, _⟩ => ⟨S16x1x1, .i32⟩
  | .hbm, ⟨17, _⟩ => ⟨S16x1x1, .i32⟩
  | .hbm, ⟨18, _⟩ => ⟨S16x1x1, .i32⟩
  | .hbm, ⟨19, _⟩ => ⟨S_, .i32⟩
  | .hbm, ⟨20, _⟩ => ⟨S16x16x512, .i32⟩
  | .hbm, ⟨21, _⟩ => ⟨S16x16x512, .i1⟩
  | .hbm, ⟨22, _⟩ => ⟨S_, .i32⟩
  | .hbm, ⟨23, _⟩ => ⟨S16x16x512, .i32⟩
  | .hbm, ⟨24, _⟩ => ⟨S16x16x512, .i32⟩
  | .hbm, ⟨25, _⟩ => ⟨S16x16x512, .i32⟩
  | .hbm, ⟨26, _⟩ => ⟨S16x16x512, .i32⟩
  | .hbm, ⟨27, _⟩ => ⟨S16x16x512x1, .i32⟩
  | .hbm, ⟨28, _⟩ => ⟨S16x16x512x1, .i32⟩
  | .hbm, ⟨29, _⟩ => ⟨S16x16x512x2, .i32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S16x4096x1, .f32⟩
  | .hbm, ⟨45, _⟩ => ⟨S16x4096x1024, .f32⟩
  | .hbm, ⟨46, _⟩ => ⟨S16x4096x1024, .f32⟩
  | .hbm, ⟨47, _⟩ => ⟨S1x1x1024, .f32⟩
  | .hbm, ⟨48, _⟩ => ⟨S16x4096x1024, .f32⟩
  | .hbm, ⟨49, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pipeline.ValueKit

/-!
One grid point's arithmetic, named.  A point holds 4096 query rows as four streams of 1024 and
reads the keys and values in eight blocks of 512 rows and a last block of 256.  Each stream keeps
a running maximum and a running accumulator; `top` and `acc` are the two after `n` blocks, `last`
the stream's quotient after the last block, and `attend` the four streams together.
-/

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-- The scores of a stream's rows against a block of 512 keys. -/
def scores (q : FVec F S1024x128 .bf16) (k : FVec F S512x128 .bf16) : FVec F S1024x512 .f32 :=
  matmul dot_S1024x128_S512x128_S1024x512_1_1_0_0_n_n none q k (constant S1024x512 .f32 0x00000000#32)

/-- The running maximum after a block of 512 keys. -/
def newTop (q : FVec F S1024x128 .bf16) (m : FVec F S1024x1 .f32) (k : FVec F S512x128 .bf16) :
    FVec F S1024x1 .f32 :=
  maximumf m (shapeCast S1024x1 (multiReduction .maximumf [1] S1024 (scores q k) 0xFF800000#32
    reduces_S1024x512_S1024 (.inl rfl) rfl) shapeCasts_S1024_S1024x1)

/-- The running accumulator after a block of 512 keys and values. -/
def newAcc (q : FVec F S1024x128 .bf16) (m : FVec F S1024x1 .f32) (a : FVec F S1024x256 .f32)
    (k : FVec F S512x128 .bf16) (v : FVec F S512x256 .bf16) : FVec F S1024x256 .f32 :=
  addf (mulf (broadcastTo S1024x256 (exp2 (subf m (newTop q m k))) broadcasts_S1024x1_S1024x256) a)
    (matmul dot_S1024x512_S512x256_S1024x256_1_0_0_1_n_n none
      (truncf .bf16 (exp2 (subf (scores q k)
        (broadcastTo S1024x512 (newTop q m k) broadcasts_S1024x1_S1024x512))) bitsLt_bf16_f32)
      v (constant S1024x256 .f32 0x00000000#32))

/-- The running maximum after the first `n` blocks. -/
def top (q : FVec F S1024x128 .bf16) (k : ℕ → FVec F S512x128 .bf16) : ℕ → FVec F S1024x1 .f32
  | 0 => broadcast S1024x1 (Scalar.ofBits .f32 0xF149F2CA#32)
  | n + 1 => newTop q (top q k n) (k n)

/-- The running accumulator after the first `n` blocks. -/
def acc (q : FVec F S1024x128 .bf16) (k : ℕ → FVec F S512x128 .bf16) (v : ℕ → FVec F S512x256 .bf16) :
    ℕ → FVec F S1024x256 .f32
  | 0 => broadcast S1024x256 (Scalar.ofBits .f32 0x00000000#32)
  | n + 1 => newAcc q (top q k n) (acc q k v n) (k n) (v n)

/-- The scores of a stream's rows against the last block, of 256 keys. -/
def scoresL (q : FVec F S1024x128 .bf16) (k : FVec F S256x128 .bf16) : FVec F S1024x256 .f32 :=
  matmul dot_S1024x128_S256x128_S1024x256_1_1_0_0_n_n none q k (constant S1024x256 .f32 0x00000000#32)

/-- The maximum after the last block. -/
def topL (q : FVec F S1024x128 .bf16) (m : FVec F S1024x1 .f32) (k : FVec F S256x128 .bf16) :
    FVec F S1024x1 .f32 :=
  maximumf m (shapeCast S1024x1 (multiReduction .maximumf [1] S1024 (scoresL q k) 0xFF800000#32
    reduces_S1024x256_S1024 (.inl rfl) rfl) shapeCasts_S1024_S1024x1)

/-- The accumulator after the last block. -/
def accL (q : FVec F S1024x128 .bf16) (m : FVec F S1024x1 .f32) (a : FVec F S1024x256 .f32)
    (k : FVec F S256x128 .bf16) (v : FVec F S256x256 .bf16) : FVec F S1024x256 .f32 :=
  addf (mulf (broadcastTo S1024x256 (exp2 (subf m (topL q m k))) broadcasts_S1024x1_S1024x256) a)
    (matmul dot_S1024x256_S256x256_S1024x256_1_0_0_1_n_n none
      (truncf .bf16 (exp2 (subf (scoresL q k)
        (broadcastTo S1024x256 (topL q m k) broadcasts_S1024x1_S1024x256))) bitsLt_bf16_f32)
      v (constant S1024x256 .f32 0x00000000#32))

/-- The quotient of the accumulator's two halves. -/
def quot (a : FVec F S1024x256 .f32) : FVec F S1024x128 .f32 :=
  divf (extractStridedSlice S1024x128 ![0, 0] a slices_S1024x256_o0_0_S1024x128)
    (extractStridedSlice S1024x128 ![0, 128] a slices_S1024x256_o0_128_S1024x128)

/-- A stream's result. -/
def stream (q : FVec F S1024x128 .bf16) (k : ℕ → FVec F S512x128 .bf16) (v : ℕ → FVec F S512x256 .bf16)
    (kl : FVec F S256x128 .bf16) (vl : FVec F S256x256 .bf16) : FVec F S1024x128 .f32 :=
  quot (accL q (top q k 8) (acc q k v 8) kl vl)

/-- The eight blocks of a pass, by number. -/
def pick {α : Type} (b0 b1 b2 b3 b4 b5 b6 b7 : α) : ℕ → α
  | 0 => b0 | 1 => b1 | 2 => b2 | 3 => b3 | 4 => b4 | 5 => b5 | 6 => b6 | _ => b7

/-- The four streams' results under one another. -/
def attend (x : FVec F S1x4x1024x128 .f32) (k : ℕ → FVec F S512x128 .bf16) (v : ℕ → FVec F S512x256 .bf16)
    (kl : FVec F S256x128 .bf16) (vl : FVec F S256x256 .bf16) : FVec F S4096x128 .bf16 :=
  truncf .bf16 (concatenate S4096x128 0
    [⟨S1024x128, stream (k0_pay11 x) k v kl vl⟩, ⟨S1024x128, stream (k0_pay12 x) k v kl vl⟩,
     ⟨S1024x128, stream (k0_pay13 x) k v kl vl⟩, ⟨S1024x128, stream (k0_pay14 x) k v kl vl⟩]
    concatenates_S1024x128_S1024x128_S1024x128_S1024x128_S4096x128_d0) bitsLt_bf16_f32

/-- A point's results from its queries and the keys and values held in scratch. -/
def body (x : Vec F S1x4x1024x128 .f32) (K : Vec F S4352x128 .bf16) (V : Vec F S4352x256 .bf16) :
    Vec F S4096x128 .bf16 :=
  attend x
    (pick (View.ld (Val := Elt F) (e' := .bf16) K (Rect.unit (s := S4352x128) ![0, 0] S512x128.size inb_S4352x128_S512x128_0_0))
    (View.ld (Val := Elt F) (e' := .bf16) K (Rect.unit (s := S4352x128) ![512, 0] S512x128.size inb_S4352x128_S512x128_512_0))
    (View.ld (Val := Elt F) (e' := .bf16) K (Rect.unit (s := S4352x128) ![1024, 0] S512x128.size inb_S4352x128_S512x128_1024_0))
    (View.ld (Val := Elt F) (e' := .bf16) K (Rect.unit (s := S4352x128) ![1536, 0] S512x128.size inb_S4352x128_S512x128_1536_0))
    (View.ld (Val := Elt F) (e' := .bf16) K (Rect.unit (s := S4352x128) ![2048, 0] S512x128.size inb_S4352x128_S512x128_2048_0))
    (View.ld (Val := Elt F) (e' := .bf16) K (Rect.unit (s := S4352x128) ![2560, 0] S512x128.size inb_S4352x128_S512x128_2560_0))
    (View.ld (Val := Elt F) (e' := .bf16) K (Rect.unit (s := S4352x128) ![3072, 0] S512x128.size inb_S4352x128_S512x128_3072_0))
    (View.ld (Val := Elt F) (e' := .bf16) K (Rect.unit (s := S4352x128) ![3584, 0] S512x128.size inb_S4352x128_S512x128_3584_0)))
    (pick (View.ld (Val := Elt F) (e' := .bf16) V (Rect.unit (s := S4352x256) ![0, 0] S512x256.size inb_S4352x256_S512x256_0_0))
    (View.ld (Val := Elt F) (e' := .bf16) V (Rect.unit (s := S4352x256) ![512, 0] S512x256.size inb_S4352x256_S512x256_512_0))
    (View.ld (Val := Elt F) (e' := .bf16) V (Rect.unit (s := S4352x256) ![1024, 0] S512x256.size inb_S4352x256_S512x256_1024_0))
    (View.ld (Val := Elt F) (e' := .bf16) V (Rect.unit (s := S4352x256) ![1536, 0] S512x256.size inb_S4352x256_S512x256_1536_0))
    (View.ld (Val := Elt F) (e' := .bf16) V (Rect.unit (s := S4352x256) ![2048, 0] S512x256.size inb_S4352x256_S512x256_2048_0))
    (View.ld (Val := Elt F) (e' := .bf16) V (Rect.unit (s := S4352x256) ![2560, 0] S512x256.size inb_S4352x256_S512x256_2560_0))
    (View.ld (Val := Elt F) (e' := .bf16) V (Rect.unit (s := S4352x256) ![3072, 0] S512x256.size inb_S4352x256_S512x256_3072_0))
    (View.ld (Val := Elt F) (e' := .bf16) V (Rect.unit (s := S4352x256) ![3584, 0] S512x256.size inb_S4352x256_S512x256_3584_0)))
    (View.ld (Val := Elt F) (e' := .bf16) K (Rect.unit (s := S4352x128) ![4096, 0] S256x128.size inb_S4352x128_S256x128_4096_0))
    (View.ld (Val := Elt F) (e' := .bf16) V (Rect.unit (s := S4352x256) ![4096, 0] S256x256.size inb_S4352x256_S256x256_4096_0))

/-- The output block's four stores, the last first. -/
def pieces (r : Vec F S4096x128 .bf16) : List (View.Piece (Elt F) S1x1024x512 .bf16) :=
  [⟨Rect.unit (s := S1x1024x512) ![0, 0, 384] S1x1024x128.size inb_S1x1024x512_S1x1024x128_0_0_384, k0_pay4 r⟩,
    ⟨Rect.unit (s := S1x1024x512) ![0, 0, 256] S1x1024x128.size inb_S1x1024x512_S1x1024x128_0_0_256, k0_pay3 r⟩,
    ⟨Rect.unit (s := S1x1024x512) ![0, 0, 128] S1x1024x128.size inb_S1x1024x512_S1x1024x128_0_0_128, k0_pay2 r⟩,
    ⟨Rect.unit (s := S1x1024x512) ![0, 0, 0] S1x1024x128.size inb_S1x1024x512_S1x1024x128_0_0_0, k0_pay1 r⟩]

/-- The output block: the four streams side by side. -/
def outBlk (r : Vec F S4096x128 .bf16) : Vec F S1x1024x512 .bf16 := View.canon (pieces r)

/-- The keys a first point of a batch and head leaves in scratch: its window, then its context. -/
def keys (x1 : Vec F S1x4096x128 .bf16) (x3 : Vec F S1x256x128 .bf16) : Vec F S4352x128 .bf16 :=
  View.canon (Val := Elt F) (e := .bf16) [⟨Rect.unit (s := S4352x128) ![4096, 0] S256x128.size inb_S4352x128_S256x128_4096_0, k0_pay7 x3⟩,
    ⟨Rect.unit (s := S4352x128) ![0, 0] S4096x128.size inb_S4352x128_S4096x128_0_0, k0_pay5 x1⟩]

/-- The values likewise, with a right half of ones. -/
def vals (x2 : Vec F S1x4096x128 .bf16) (x4 : Vec F S1x256x128 .bf16) : Vec F S4352x256 .bf16 :=
  View.canon (Val := Elt F) (e := .bf16) [⟨Rect.unit (s := S4352x256) ![0, 128] S4352x128.size inb_S4352x256_S4352x128_0_128, k0_pay9⟩,
    ⟨Rect.unit (s := S4352x256) ![4096, 0] S256x128.size inb_S4352x256_S256x128_4096_0, k0_pay8 x4⟩,
    ⟨Rect.unit (s := S4352x256) ![0, 0] S4096x128.size inb_S4352x256_S4096x128_0_0, k0_pay6 x2⟩]

section

variable (c : Dev nD) (i : grid0.Coords)
  (arg3 : Memref sig .tc .vmem S1x4x1024x128 .f32) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x256x128 .bf16) (harg6 : arg6.IsWhole)
  (arg7 : Memref sig .tc .vmem S1x256x128 .bf16) (harg7 : arg7.IsWhole)
  (arg8 : Memref sig .tc .vmem S1x1024x512 .bf16) (harg8 : arg8.IsWhole)
  (arg9 : Memref sig .tc .vmem S4352x128 .bf16) (harg9 : arg9.IsWhole)
  (arg10 : Memref sig .tc .vmem S4352x256 .bf16) (harg10 : arg10.IsWhole)
  (x0 : Vec F S1x4x1024x128 .f32) (x1 : Vec F S1x4096x128 .bf16) (x2 : Vec F S1x4096x128 .bf16)
  (x3 : Vec F S1x256x128 .bf16) (x4 : Vec F S1x256x128 .bf16)
  (xs0 : Vec F S4352x128 .bf16) (xs1 : Vec F S4352x256 .bf16)

/-- What the run of a first point holds before its stores. -/
theorem run_A :
    kernelRun0_A.sl.r_85 c arg3 harg3 arg4 harg4 arg5 harg5 arg6 harg6 arg7 harg7 arg9 arg10 x0 x1 x2 x3 x4 =
      body (View.ld (arg3.view.read (Elt F) (harg3.unread x0)) (Rect.unit ![0, 0, 0, 0] S1x4x1024x128.size inb_S1x4x1024x128_S1x4x1024x128_0_0_0_0))
        (View.canon (kernelRun0_A.sl.HS0_2 c arg4 harg4 arg6 harg6 x1 x3)) (View.canon (kernelRun0_A.sl.HS1_3 c arg5 harg5 arg7 harg7 x2 x4)) := by
  have h : kernelRun0_A.sl.r_85 c arg3 harg3 arg4 harg4 arg5 harg5 arg6 harg6 arg7 harg7 arg9 arg10 x0 x1 x2 x3 x4 =
    attend
      (View.ld (arg3.view.read (Elt F) (harg3.unread x0)) (Rect.unit ![0, 0, 0, 0] S1x4x1024x128.size inb_S1x4x1024x128_S1x4x1024x128_0_0_0_0))
      (pick (View.readCov (Val := Elt F) arg9.view (kernelRun0_A.sl.HS0_2 c arg4 harg4 arg6 harg6 x1 x3) (Rect.unit (s := S4352x128) ![0, 0] S512x128.size inb_S4352x128_S512x128_0_0).toLoadRect)
        (View.readCov (Val := Elt F) arg9.view (kernelRun0_A.sl.HS0_2 c arg4 harg4 arg6 harg6 x1 x3) (Rect.unit (s := S4352x128) ![512, 0] S512x128.size inb_S4352x128_S512x128_512_0).toLoadRect)
        (View.readCov (Val := Elt F) arg9.view (kernelRun0_A.sl.HS0_2 c arg4 harg4 arg6 harg6 x1 x3) (Rect.unit (s := S4352x128) ![1024, 0] S512x128.size inb_S4352x128_S512x128_1024_0).toLoadRect)
        (View.readCov (Val := Elt F) arg9.view (kernelRun0_A.sl.HS0_2 c arg4 harg4 arg6 harg6 x1 x3) (Rect.unit (s := S4352x128) ![1536, 0] S512x128.size inb_S4352x128_S512x128_1536_0).toLoadRect)
        (View.readCov (Val := Elt F) arg9.view (kernelRun0_A.sl.HS0_2 c arg4 harg4 arg6 harg6 x1 x3) (Rect.unit (s := S4352x128) ![2048, 0] S512x128.size inb_S4352x128_S512x128_2048_0).toLoadRect)
        (View.readCov (Val := Elt F) arg9.view (kernelRun0_A.sl.HS0_2 c arg4 harg4 arg6 harg6 x1 x3) (Rect.unit (s := S4352x128) ![2560, 0] S512x128.size inb_S4352x128_S512x128_2560_0).toLoadRect)
        (View.readCov (Val := Elt F) arg9.view (kernelRun0_A.sl.HS0_2 c arg4 harg4 arg6 harg6 x1 x3) (Rect.unit (s := S4352x128) ![3072, 0] S512x128.size inb_S4352x128_S512x128_3072_0).toLoadRect)
        (View.readCov (Val := Elt F) arg9.view (kernelRun0_A.sl.HS0_2 c arg4 harg4 arg6 harg6 x1 x3) (Rect.unit (s := S4352x128) ![3584, 0] S512x128.size inb_S4352x128_S512x128_3584_0).toLoadRect))
      (pick (View.readCov (Val := Elt F) arg10.view (kernelRun0_A.sl.HS1_3 c arg5 harg5 arg7 harg7 x2 x4) (Rect.unit (s := S4352x256) ![0, 0] S512x256.size inb_S4352x256_S512x256_0_0).toLoadRect)
        (View.readCov (Val := Elt F) arg10.view (kernelRun0_A.sl.HS1_3 c arg5 harg5 arg7 harg7 x2 x4) (Rect.unit (s := S4352x256) ![512, 0] S512x256.size inb_S4352x256_S512x256_512_0).toLoadRect)
        (View.readCov (Val := Elt F) arg10.view (kernelRun0_A.sl.HS1_3 c arg5 harg5 arg7 harg7 x2 x4) (Rect.unit (s := S4352x256) ![1024, 0] S512x256.size inb_S4352x256_S512x256_1024_0).toLoadRect)
        (View.readCov (Val := Elt F) arg10.view (kernelRun0_A.sl.HS1_3 c arg5 harg5 arg7 harg7 x2 x4) (Rect.unit (s := S4352x256) ![1536, 0] S512x256.size inb_S4352x256_S512x256_1536_0).toLoadRect)
        (View.readCov (Val := Elt F) arg10.view (kernelRun0_A.sl.HS1_3 c arg5 harg5 arg7 harg7 x2 x4) (Rect.unit (s := S4352x256) ![2048, 0] S512x256.size inb_S4352x256_S512x256_2048_0).toLoadRect)
        (View.readCov (Val := Elt F) arg10.view (kernelRun0_A.sl.HS1_3 c arg5 harg5 arg7 harg7 x2 x4) (Rect.unit (s := S4352x256) ![2560, 0] S512x256.size inb_S4352x256_S512x256_2560_0).toLoadRect)
        (View.readCov (Val := Elt F) arg10.view (kernelRun0_A.sl.HS1_3 c arg5 harg5 arg7 harg7 x2 x4) (Rect.unit (s := S4352x256) ![3072, 0] S512x256.size inb_S4352x256_S512x256_3072_0).toLoadRect)
        (View.readCov (Val := Elt F) arg10.view (kernelRun0_A.sl.HS1_3 c arg5 harg5 arg7 harg7 x2 x4) (Rect.unit (s := S4352x256) ![3584, 0] S512x256.size inb_S4352x256_S512x256_3584_0).toLoadRect))
      (View.readCov (Val := Elt F) arg9.view (kernelRun0_A.sl.HS0_2 c arg4 harg4 arg6 harg6 x1 x3) (Rect.unit (s := S4352x128) ![4096, 0] S256x128.size inb_S4352x128_S256x128_4096_0).toLoadRect)
      (View.readCov (Val := Elt F) arg10.view (kernelRun0_A.sl.HS1_3 c arg5 harg5 arg7 harg7 x2 x4) (Rect.unit (s := S4352x256) ![4096, 0] S256x256.size inb_S4352x256_S256x256_4096_0).toLoadRect) := by sl_kernel_rfl
  rw [h]
  simp only [View.readCov_eq_canon']
  rfl

/-- What the run of a later point holds before its stores. -/
theorem run_B :
    kernelRun0_B.sl.r_103 c arg3 harg3 arg9 harg9 arg10 harg10 x0 xs0 xs1 =
      body (View.ld (arg3.view.read (Elt F) (harg3.unread x0)) (Rect.unit ![0, 0, 0, 0] S1x4x1024x128.size inb_S1x4x1024x128_S1x4x1024x128_0_0_0_0))
        (arg9.view.read (Elt F) (harg9.unread xs0)) (arg10.view.read (Elt F) (harg10.unread xs1)) := by
  sl_kernel_rfl

/-- Reading the whole query window is reading it. -/
theorem ld_q (x : Vec F S1x4x1024x128 .f32) : View.ld (Val := Elt F) (e' := .f32) x
    (Rect.unit (s := S1x4x1024x128) ![0, 0, 0, 0] S1x4x1024x128.size inb_S1x4x1024x128_S1x4x1024x128_0_0_0_0) = x :=
  View.ld_unit_lit _ _ (by decide)

theorem ld_kv (x : Vec F S1x4096x128 .bf16) : View.ld (Val := Elt F) (e' := .bf16) x
    (Rect.unit (s := S1x4096x128) ![0, 0, 0] S1x4096x128.size inb_S1x4096x128_S1x4096x128_0_0_0) = x :=
  View.ld_unit_lit _ _ (by decide)

theorem ld_ctx (x : Vec F S1x256x128 .bf16) : View.ld (Val := Elt F) (e' := .bf16) x
    (Rect.unit (s := S1x256x128) ![0, 0, 0] S1x256x128.size inb_S1x256x128_S1x256x128_0_0_0) = x :=
  View.ld_unit_lit _ _ (by decide)

theorem canon_keys : View.canon (kernelRun0_A.sl.HS0_2 (F := F) c arg4 harg4 arg6 harg6 x1 x3) = keys x1 x3 := by
  have h : View.canon (kernelRun0_A.sl.HS0_2 (F := F) c arg4 harg4 arg6 harg6 x1 x3) =
      keys (View.ld (arg4.view.read (Elt F) (harg4.unread x1)) (Rect.unit (s := S1x4096x128) ![0, 0, 0] S1x4096x128.size inb_S1x4096x128_S1x4096x128_0_0_0))
        (View.ld (arg6.view.read (Elt F) (harg6.unread x3)) (Rect.unit (s := S1x256x128) ![0, 0, 0] S1x256x128.size inb_S1x256x128_S1x256x128_0_0_0)) := rfl
  rw [h, Memref.IsWhole.read_unread, Memref.IsWhole.read_unread, ld_kv, ld_ctx]

theorem canon_vals : View.canon (kernelRun0_A.sl.HS1_3 (F := F) c arg5 harg5 arg7 harg7 x2 x4) = vals x2 x4 := by
  have h : View.canon (kernelRun0_A.sl.HS1_3 (F := F) c arg5 harg5 arg7 harg7 x2 x4) =
      vals (View.ld (arg5.view.read (Elt F) (harg5.unread x2)) (Rect.unit (s := S1x4096x128) ![0, 0, 0] S1x4096x128.size inb_S1x4096x128_S1x4096x128_0_0_0))
        (View.ld (arg7.view.read (Elt F) (harg7.unread x4)) (Rect.unit (s := S1x256x128) ![0, 0, 0] S1x256x128.size inb_S1x256x128_S1x256x128_0_0_0)) := rfl
  rw [h, Memref.IsWhole.read_unread, Memref.IsWhole.read_unread, ld_kv, ld_ctx]

variable (h0 : cond0_0 i) (h1 : ¬ cond0_0 i)

/-- What a first point leaves in the output's block. -/
theorem out_A : out0_A_5 c i arg3 harg3 arg4 harg4 arg5 harg5 arg6 harg6 arg7 harg7 arg8 harg8 arg9 harg9 arg10 harg10 h0 x0 x1 x2 x3 x4 = outBlk (body x0 (keys x1 x3) (vals x2 x4)) := by
  have h : (kernelRun0_A c i arg3 harg3 arg4 harg4 arg5 harg5 arg6 harg6 arg7 harg7 arg8 harg8 arg9 harg9 arg10 harg10 h0 x0 x1 x2 x3 x4).1 =
      pieces (kernelRun0_A.sl.r_85 c arg3 harg3 arg4 harg4 arg5 harg5 arg6 harg6 arg7 harg7 arg9 arg10 x0 x1 x2 x3 x4) := by
    sl_kernel_rfl
  unfold out0_A_5
  rw [View.read_writes_junk_eq_canon, h, run_A, canon_keys, canon_vals, Memref.IsWhole.read_unread, ld_q]
  rfl

/-- What a later point leaves in the output's block. -/
theorem out_B : out0_B_5 c i arg3 harg3 arg4 harg4 arg5 harg5 arg6 harg6 arg7 harg7 arg8 harg8 arg9 harg9 arg10 harg10 h1 x0 x1 x2 x3 x4 xs0 xs1 = outBlk (body x0 xs0 xs1) := by
  have h : (kernelRun0_B c i arg3 harg3 arg4 harg4 arg5 harg5 arg6 harg6 arg7 harg7 arg8 harg8 arg9 harg9 arg10 harg10 h1 x0 x1 x2 x3 x4 xs0 xs1).1 =
      pieces (kernelRun0_B.sl.r_103 c arg3 harg3 arg9 harg9 arg10 harg10 x0 xs0 xs1) := by
    sl_kernel_rfl
  unfold out0_B_5
  rw [View.read_writes_junk_eq_canon, h, run_B, Memref.IsWhole.read_unread, Memref.IsWhole.read_unread,
    Memref.IsWhole.read_unread, ld_q]
  rfl

/-- What a first point leaves in the keys' scratch. -/
theorem sout_A_0 : sout0_A_0 c i arg3 harg3 arg4 harg4 arg5 harg5 arg6 harg6 arg7 harg7 arg8 harg8 arg9 harg9 arg10 harg10 h0 x0 x1 x2 x3 x4 = keys x1 x3 := by
  have h : (kernelRun0_A c i arg3 harg3 arg4 harg4 arg5 harg5 arg6 harg6 arg7 harg7 arg8 harg8 arg9 harg9 arg10 harg10 h0 x0 x1 x2 x3 x4).2.1 = kernelRun0_A.sl.HS0_2 c arg4 harg4 arg6 harg6 x1 x3 := by
    sl_kernel_rfl
  unfold sout0_A_0
  rw [View.read_writes_junk_eq_canon, h, canon_keys]

/-- What a first point leaves in the values' scratch. -/
theorem sout_A_1 : sout0_A_1 c i arg3 harg3 arg4 harg4 arg5 harg5 arg6 harg6 arg7 harg7 arg8 harg8 arg9 harg9 arg10 harg10 h0 x0 x1 x2 x3 x4 = vals x2 x4 := by
  have h : (kernelRun0_A c i arg3 harg3 arg4 harg4 arg5 harg5 arg6 harg6 arg7 harg7 arg8 harg8 arg9 harg9 arg10 harg10 h0 x0 x1 x2 x3 x4).2.2.1 = kernelRun0_A.sl.HS1_3 c arg5 harg5 arg7 harg7 x2 x4 := by
    sl_kernel_rfl
  unfold sout0_A_1
  rw [View.read_writes_junk_eq_canon, h, canon_vals]

end

end Cert.KernelIdeal.Body
-- ==== Proof.Blocks.lean ====
module

public import proofs.«01_k».proof.Proof.Body
public import Idealize.ShloMosaic.Lib.Pointwise

/-!
What a grid point's windows hold of the arguments, and what its scratch holds.  Point `t` of the
128 is batch `t / 8`, key head `t / 4 % 2` and query block `t % 4`.
-/

@[expose] public section

set_option maxRecDepth 16384

noncomputable section

namespace Cert.KernelIdeal.Blocks

open Cert.KernelIdeal Cert.KernelIdeal.Gen Cert.KernelIdeal.Body
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val / 8, t.val / 4 % 2, t.val % 4, 0] :=
  (by decide +kernel : ∀ t : Fin grid0.N, win0_0.index t = ![t.val / 8, t.val / 4 % 2, t.val % 4, 0])
theorem idx1 : ∀ t : Fin cfg0.N, win0_1.index t = ![t.val / 8, 0, t.val / 4 % 2] :=
  (by decide +kernel : ∀ t : Fin grid0.N, win0_1.index t = ![t.val / 8, 0, t.val / 4 % 2])
theorem idx2 : ∀ t : Fin cfg0.N, win0_2.index t = ![t.val / 8, 0, t.val / 4 % 2] :=
  (by decide +kernel : ∀ t : Fin grid0.N, win0_2.index t = ![t.val / 8, 0, t.val / 4 % 2])
theorem idx3 : ∀ t : Fin cfg0.N, win0_3.index t = ![t.val / 8, 0, t.val / 4 % 2] :=
  (by decide +kernel : ∀ t : Fin grid0.N, win0_3.index t = ![t.val / 8, 0, t.val / 4 % 2])
theorem idx4 : ∀ t : Fin cfg0.N, win0_4.index t = ![t.val / 8, 0, t.val / 4 % 2] :=
  (by decide +kernel : ∀ t : Fin grid0.N, win0_4.index t = ![t.val / 8, 0, t.val / 4 % 2])
theorem idx5 : ∀ t : Fin cfg0.N, win0_5.index t = ![t.val / 8, t.val % 4, t.val / 4 % 2] :=
  (by decide +kernel : ∀ t : Fin grid0.N, win0_5.index t = ![t.val / 8, t.val % 4, t.val / 4 % 2])

/-- The first argument of the program, the queries, at its four coordinates. -/
abbrev Q (b : Fin 16) (r : Fin 4096) (h : Fin 8) (d : Fin 128) : EReal :=
  (m ((c : Thread nD τ).loc main_arg0) : S16x4096x8x128.Idx → EReal) (ix4 b r h d)

/-- The second and third, the keys and values. -/
abbrev K (b : Fin 16) (s : Fin 4096) (h : Fin 2) (d : Fin 128) : EReal :=
  (m ((c : Thread nD τ).loc main_arg1) : S16x4096x2x128.Idx → EReal) (ix4 b s h d)
abbrev Vv (b : Fin 16) (s : Fin 4096) (h : Fin 2) (d : Fin 128) : EReal :=
  (m ((c : Thread nD τ).loc main_arg2) : S16x4096x2x128.Idx → EReal) (ix4 b s h d)
/-- The fourth and fifth, the context's keys and values. -/
abbrev Kc (b : Fin 16) (s : Fin 256) (h : Fin 2) (d : Fin 128) : EReal :=
  (m ((c : Thread nD τ).loc main_arg3) : S16x256x2x128.Idx → EReal) (ix4 b s h d)
abbrev Vc (b : Fin 16) (s : Fin 256) (h : Fin 2) (d : Fin 128) : EReal :=
  (m ((c : Thread nD τ).loc main_arg4) : S16x256x2x128.Idx → EReal) (ix4 b s h d)

theorem lt_t (t : Fin cfg0.N) : t.val < 128 := t.isLt

/-- Point `t`'s batch, key head and query block. -/
def bat (t : Fin cfg0.N) : Fin 16 := ⟨t.val / 8, by have := lt_t t; omega⟩
def hd (t : Fin cfg0.N) : Fin 2 := ⟨t.val / 4 % 2, by omega⟩
/-- The query head of group `g` under point `t`'s key head; the row `r` of its query block. -/
def qh (t : Fin cfg0.N) (g : Fin 4) : Fin 8 := ⟨t.val / 4 % 2 * 4 + g.val, by omega⟩
def row (t : Fin cfg0.N) (r : Fin 1024) : Fin 4096 := ⟨t.val % 4 * 1024 + r.val, by omega⟩

/-- A key head's lane of the 256. -/
def lane (t : Fin cfg0.N) (d : Fin 128) : Fin 256 := ⟨t.val / 4 % 2 * 128 + d.val, by omega⟩

theorem V_q : V m c main_v0 = transpose S16x8x4096x128 [0, 2, 1, 3]
    (m ((c : Thread nD τ).loc main_arg0)) transposes_S16x4096x8x128_S16x8x4096x128_0_2_1_3 := by
  rfl

theorem V_k : (V m c main_v2 : FVec Ideal S16x4096x256 .bf16) = truncf .bf16 (shapeCast S16x4096x256
    (m ((c : Thread nD τ).loc main_arg1) : FVec Ideal S16x4096x2x128 .f32) shapeCasts_S16x4096x2x128_S16x4096x256 :
      FVec Ideal S16x4096x256 .f32) bitsLt_bf16_f32 := by
  rfl

theorem V_v : (V m c main_v4 : FVec Ideal S16x4096x256 .bf16) = truncf .bf16 (shapeCast S16x4096x256
    (m ((c : Thread nD τ).loc main_arg2) : FVec Ideal S16x4096x2x128 .f32) shapeCasts_S16x4096x2x128_S16x4096x256 :
      FVec Ideal S16x4096x256 .f32) bitsLt_bf16_f32 := by
  rfl

theorem V_kc : (V m c main_v6 : FVec Ideal S16x256x256 .bf16) = truncf .bf16 (shapeCast S16x256x256
    (m ((c : Thread nD τ).loc main_arg3) : FVec Ideal S16x256x2x128 .f32) shapeCasts_S16x256x2x128_S16x256x256 :
      FVec Ideal S16x256x256 .f32) bitsLt_bf16_f32 := by
  rfl

theorem V_vc : (V m c main_v8 : FVec Ideal S16x256x256 .bf16) = truncf .bf16 (shapeCast S16x256x256
    (m ((c : Thread nD τ).loc main_arg4) : FVec Ideal S16x256x2x128 .f32) shapeCasts_S16x256x2x128_S16x256x256 :
      FVec Ideal S16x256x256 .f32) bitsLt_bf16_f32 := by
  rfl

theorem q_at (t : Fin cfg0.N) (a : Fin 1) (g : Fin 4) (r : Fin 1024) (d : Fin 128) :
    (iblk m c 0 t : S1x4x1024x128.Idx → EReal) (ix4 a g r d) = Q m c (bat t) (row t r) (qh t g) d := by
  have h : (iblk m c 0 t : S1x4x1024x128.Idx → EReal) (ix4 a g r d) =
      V m c main_v0 (ix4 (bat t) (qh t g) (row t r) d) := by
    blk_ext [iblk, idx0 t, bat, row, qh]
  rw [h, V_q]
  pointwise

theorem k_at (t : Fin cfg0.N) (a : Fin 1) (s : Fin 4096) (d : Fin 128) :
    (iblk m c 1 t : S1x4096x128.Idx → EReal) (ix3 a s d) = K m c (bat t) s (hd t) d := by
  have h : (iblk m c 1 t : S1x4096x128.Idx → EReal) (ix3 a s d) =
      V m c main_v2 (ix3 (bat t) s (lane t d)) := by
    blk_ext [iblk, idx1 t, bat, lane]
  rw [h, V_k]
  pointwise
  blk_ext [K, lane, hd]

theorem v_at (t : Fin cfg0.N) (a : Fin 1) (s : Fin 4096) (d : Fin 128) :
    (iblk m c 2 t : S1x4096x128.Idx → EReal) (ix3 a s d) = Vv m c (bat t) s (hd t) d := by
  have h : (iblk m c 2 t : S1x4096x128.Idx → EReal) (ix3 a s d) =
      V m c main_v4 (ix3 (bat t) s (lane t d)) := by
    blk_ext [iblk, idx2 t, bat, lane]
  rw [h, V_v]
  pointwise
  blk_ext [Vv, lane, hd]

theorem kc_at (t : Fin cfg0.N) (a : Fin 1) (s : Fin 256) (d : Fin 128) :
    (iblk m c 3 t : S1x256x128.Idx → EReal) (ix3 a s d) = Kc m c (bat t) s (hd t) d := by
  have h : (iblk m c 3 t : S1x256x128.Idx → EReal) (ix3 a s d) =
      V m c main_v6 (ix3 (bat t) s (lane t d)) := by
    blk_ext [iblk, idx3 t, bat, lane]
  rw [h, V_kc]
  pointwise
  blk_ext [Kc, lane, hd]

theorem vc_at (t : Fin cfg0.N) (a : Fin 1) (s : Fin 256) (d : Fin 128) :
    (iblk m c 4 t : S1x256x128.Idx → EReal) (ix3 a s d) = Vc m c (bat t) s (hd t) d := by
  have h : (iblk m c 4 t : S1x256x128.Idx → EReal) (ix3 a s d) =
      V m c main_v8 (ix3 (bat t) s (lane t d)) := by
    blk_ext [iblk, idx4 t, bat, lane]
  rw [h, V_vc]
  pointwise
  blk_ext [Vc, lane, hd]

/-- All 4352 keys of a batch and key head, the context's after the batch's own; the values likewise. -/
def KK (b : Fin 16) (h : Fin 2) (s : Fin 4352) (d : Fin 128) : EReal :=
  if hs : s.val < 4096 then K m c b ⟨s.val, hs⟩ h d else Kc m c b ⟨s.val - 4096, by omega⟩ h d
def VV (b : Fin 16) (h : Fin 2) (s : Fin 4352) (d : Fin 128) : EReal :=
  if hs : s.val < 4096 then Vv m c b ⟨s.val, hs⟩ h d else Vc m c b ⟨s.val - 4096, by omega⟩ h d

theorem keys_at (t : Fin cfg0.N) (s : Fin 4352) (d : Fin 128) :
    (keys (F := Ideal) (iblk m c 1 t) (iblk m c 3 t) : S4352x128.Idx → EReal) (ix2 s d) =
      KK m c (bat t) (hd t) s d := by
  unfold keys
  canon_tiles x h using View.cover_of_tiledBy _ ![256, 128] (by sl_kernel_rfl) _
  · idx_vars x
    unfold k0_pay7
    pointwise
    have hx : x1 = d := Fin.ext h1.symm
    have hy : x0 = ⟨s.val - 4096, by omega⟩ := Fin.ext (by show x0.val = s.val - 4096; omega)
    rw [hx, hy, kc_at, KK, dif_neg (by omega)]
  · idx_vars x
    unfold k0_pay5
    pointwise
    have hx : x1 = d := Fin.ext h1.symm
    have hy : x0 = ⟨s.val, by omega⟩ := Fin.ext (by show x0.val = s.val; omega)
    rw [hx, hy, k_at, KK, dif_pos (by omega)]

theorem vals_at (t : Fin cfg0.N) (s : Fin 4352) (e : Fin 256) :
    (vals (F := Ideal) (iblk m c 2 t) (iblk m c 4 t) : S4352x256.Idx → EReal) (ix2 s e) =
      if he : e.val < 128 then VV m c (bat t) (hd t) s ⟨e.val, he⟩ else 1 := by
  unfold vals
  canon_tiles x h using View.cover_of_tiledBy _ ![256, 128] (by sl_kernel_rfl) _
  · idx_vars x
    unfold k0_pay9
    pointwise
    rw [dif_neg (by omega)]
  · idx_vars x
    unfold k0_pay8
    pointwise
    have hx : x1 = ⟨e.val, by omega⟩ := Fin.ext h1.symm
    have hy : x0 = ⟨s.val - 4096, by omega⟩ := Fin.ext (by show x0.val = s.val - 4096; omega)
    rw [hx, hy, vc_at, dif_pos (by omega), VV, dif_neg (by omega)]
  · idx_vars x
    unfold k0_pay6
    pointwise
    have hx : x1 = ⟨e.val, by omega⟩ := Fin.ext h1.symm
    have hy : x0 = ⟨s.val, by omega⟩ := Fin.ext (by show x0.val = s.val; omega)
    rw [hx, hy, v_at, dif_pos (by omega), VV, dif_pos (by omega)]

/-- A point that is not the first of its batch and key head has the point before's. -/
theorem bat_pred (t : Fin cfg0.N) (h : ¬ t.val % 4 = 0) (h' : t.val - 1 < cfg0.N) :
    bat ⟨t.val - 1, h'⟩ = bat t ∧ hd ⟨t.val - 1, h'⟩ = hd t :=
  ⟨Fin.ext (by simp only [bat]; omega), Fin.ext (by simp only [hd]; omega)⟩

/-- What the scratch holds after a point: all the keys, and all the values beside ones. -/
theorem scratch (n : ℕ) (hn : n < cfg0.N) :
    (∀ s d, ((outsAt0 m c n hn).2.1 : S4352x128.Idx → EReal) (ix2 s d) = KK m c (bat ⟨n, hn⟩) (hd ⟨n, hn⟩) s d) ∧
    (∀ s (e : Fin 256), ((outsAt0 m c n hn).2.2 : S4352x256.Idx → EReal) (ix2 s e) =
      if he : e.val < 128 then VV m c (bat ⟨n, hn⟩) (hd ⟨n, hn⟩) s ⟨e.val, he⟩ else 1) := by
  induction n using Nat.strong_induction_on with
  | _ n ih =>
    by_cases h : n % 4 = 0
    · rw [outsAt0_A m c ⟨n, hn⟩ h, sout_A_0, sout_A_1]
      exact ⟨keys_at m c ⟨n, hn⟩, vals_at m c ⟨n, hn⟩⟩
    · have hp : n - 1 < n := by omega
      have hb := bat_pred ⟨n, hn⟩ h (by omega)
      rw [outsAt0_B m c ⟨n, hn⟩ h]
      have := ih (n - 1) hp (by omega)
      rw [hb.1, hb.2] at this
      exact this

end Cert.KernelIdeal.Blocks
-- ==== Proof.Softmax.lean ====
module

public import Idealize.ShloMosaic.PureOps.Ideal
public import Mathlib.Analysis.SpecialFunctions.Pow.Real

/-!
A softmax over finite scores, in the extended reals.  Weighted by powers of two about any finite
point `M`, a running sum over the first `n` scores moves to another point by one factor; the
quotient of the sum of weighted values by the sum of weights is the same about every point, and is
the sum of the values under the exponential softmax weights.  The values may be infinite.
-/

@[expose] public section

noncomputable section

namespace Softmax

open Idealize.ShloMosaic

/-- A finite nonnegative factor goes into a sum. -/
theorem mul_sum {ι : Type*} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top _), ih]

theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A maximum of finite numbers with a finite number among them is finite. -/
theorem max_fold {ι : Type*} (s : Finset ι) (M : ℝ) (f : ι → ℝ) :
    ∃ M' : ℝ, max (M : EReal) (s.fold max ⊥ fun i => (f i : EReal)) = M' := by
  classical
  induction s using Finset.induction_on with
  | empty => exact ⟨M, by simp⟩
  | insert i s hi ih =>
    obtain ⟨M', h⟩ := ih
    exact ⟨max (f i) M', by rw [Finset.fold_insert hi, max_left_comm, h, EReal.coe_strictMono.monotone.map_max]⟩

/-- So is a maximum of finite numbers, of which there is one. -/
theorem fold_real {ι : Type*} (s : Finset ι) (i : ι) (hi : i ∈ s) (f : ι → ℝ) :
    ∃ M : ℝ, (s.fold max ⊥ fun i => (f i : EReal)) = M := by
  obtain ⟨M, h⟩ := max_fold s (f i) f
  refine ⟨M, ?_⟩
  rw [← h, max_eq_right]
  exact (Finset.le_fold_max _).2 (Or.inr ⟨i, hi, le_rfl⟩)

/-- The sum of the first `n` values, weighted by powers of two of the scores about `M`. -/
def part (σ : ℕ → ℝ) (w : ℕ → EReal) (M : ℝ) (n : ℕ) : EReal :=
  ∑ j ∈ Finset.range n, ((Real.rpow 2 (σ j - M) : ℝ) : EReal) * w j

theorem two_pos (x : ℝ) : 0 < Real.rpow 2 x := Real.rpow_pos_of_pos (by norm_num) x

theorem part_zero (σ : ℕ → ℝ) (w : ℕ → EReal) (M : ℝ) : part σ w M 0 = 0 := by simp [part]

/-- One block of `b` more: the running sum moved to the new point, and the block's own. -/
theorem part_step (σ : ℕ → ℝ) (w : ℕ → EReal) (M M' : ℝ) (n b : ℕ) :
    ((Real.rpow 2 (M - M') : ℝ) : EReal) * part σ w M n +
      ∑ k : Fin b, ((Real.rpow 2 (σ (n + k) - M') : ℝ) : EReal) * w (n + k) = part σ w M' (n + b) := by
  unfold part
  rw [Finset.sum_range_add, mul_sum _ _ (two_pos _).le,
    ← Fin.sum_univ_eq_sum_range (fun k => ((Real.rpow 2 (σ (n + k) - M') : ℝ) : EReal) * w (n + k))]
  congr 1
  refine Finset.sum_congr rfl fun j _ => ?_
  rw [← mul_assoc, ← EReal.coe_mul]
  congr 2
  show (2 : ℝ) ^ (M - M') * (2 : ℝ) ^ (σ j - M) = (2 : ℝ) ^ (σ j - M')
  rw [← Real.rpow_add (by norm_num)]
  congr 1
  ring

/-- The softmax weight of score `j` of the first `n`, about a point `M`. -/
def weight (τ : ℕ → ℝ) (M : ℝ) (n j : ℕ) : ℝ :=
  Real.exp (τ j - M) / ∑ l ∈ Finset.range n, Real.exp (τ l - M)

/-- It is the same about every point. -/
theorem weight_eq (τ : ℕ → ℝ) (M M' : ℝ) (n j : ℕ) : weight τ M n j = weight τ M' n j := by
  have h : ∀ l, Real.exp (τ l - M) = Real.exp (M' - M) * Real.exp (τ l - M') := fun l => by
    rw [← Real.exp_add]; congr 1; ring
  unfold weight
  simp only [h, ← Finset.mul_sum]
  exact mul_div_mul_left _ _ (Real.exp_ne_zero _)

theorem two_eq (x M : ℝ) : Real.rpow 2 (x - M) = Real.exp (x * Real.log 2 - M * Real.log 2) := by
  show (2 : ℝ) ^ (x - M) = _
  rw [Real.rpow_def_of_pos (by norm_num)]
  congr 1
  ring

/-- The quotient of the weighted values by the weights is the values under the softmax weights. -/
theorem quotient (σ τ : ℕ → ℝ) (hτ : ∀ j, σ j * Real.log 2 = τ j) (w : ℕ → EReal) (M M' : ℝ) (n : ℕ) (hn : 0 < n) :
    Ideal.div (part σ w M n) (part σ (fun _ => 1) M n) =
      ∑ j ∈ Finset.range n, ((weight τ M' n j : ℝ) : EReal) * w j := by
  have hden : part σ (fun _ => 1) M n = ((∑ j ∈ Finset.range n, Real.rpow 2 (σ j - M) : ℝ) : EReal) := by
    simp only [part, mul_one, coe_sum]
  have hpos : 0 < ∑ j ∈ Finset.range n, Real.rpow 2 (σ j - M) :=
    Finset.sum_pos (fun j _ => two_pos _) (Finset.nonempty_range_iff.2 hn.ne')
  rw [hden, Ideal.div_coe hpos.ne', mul_comm]
  unfold part
  rw [mul_sum _ _ (by positivity)]
  refine Finset.sum_congr rfl fun j _ => ?_
  rw [← mul_assoc, ← EReal.coe_mul, weight_eq τ M' (M * Real.log 2)]
  congr 2
  simp only [weight, two_eq, hτ]
  ring

end Softmax
-- ==== Proof.Stream.lean ====
module

public import proofs.«01_k».proof.Proof.Body
public import proofs.«01_k».proof.Proof.Softmax
public import Idealize.ShloMosaic.Lib.Pointwise

/-!
A stream's result at a row and column, over the extended reals.  Where the row's scores are finite
the running maximum is finite, and the running accumulator is the sum of the values so far weighted
by powers of two of the scores about it; the quotient of the last is the softmax of the scores.
-/

@[expose] public section

set_option maxRecDepth 16384

noncomputable section

namespace Cert.KernelIdeal.Body

open Cert.KernelIdeal Cert.KernelIdeal.Gen Idealize.ShloMosaic Idealize.ShloMosaic.TcCoe Idealize.SL.Sem

theorem negInf : Ideal.ofBits FTy.f32 4286578688#32 = ⊥ := by
  simp [Ideal.ofBits, Ideal.ieee]

variable (q : FVec Ideal S1024x128 .bf16) (k : ℕ → FVec Ideal S512x128 .bf16)
  (v : ℕ → FVec Ideal S512x256 .bf16) (kl : FVec Ideal S256x128 .bf16) (vl : FVec Ideal S256x256 .bf16)
  (r : Fin 1024) (σ : ℕ → ℝ) (w : Fin 256 → ℕ → EReal)

theorem newTop_at (m : FVec Ideal S1024x1 .f32) (kb : FVec Ideal S512x128 .bf16) (n : ℕ) (M : ℝ)
    (hm : (m : S1024x1.Idx → EReal) (ix2 r 0) = M)
    (hs : ∀ j : Fin 512, ∑ d : Fin 128, (q : S1024x128.Idx → EReal) (ix2 r d) * (kb : S512x128.Idx → EReal) (ix2 j d) = σ (n + j)) :
    ∃ M' : ℝ, (newTop q m kb : S1024x1.Idx → EReal) (ix2 r 0) = M' := by
  unfold newTop scores
  pointwise
  rw [hm, negInf]
  simp only [hs]
  exact Softmax.max_fold Finset.univ M _

theorem topL_at (m : FVec Ideal S1024x1 .f32) (n : ℕ) (M : ℝ)
    (hm : (m : S1024x1.Idx → EReal) (ix2 r 0) = M)
    (hs : ∀ j : Fin 256, ∑ d : Fin 128, (q : S1024x128.Idx → EReal) (ix2 r d) * (kl : S256x128.Idx → EReal) (ix2 j d) = σ (n + j)) :
    ∃ M' : ℝ, (topL q m kl : S1024x1.Idx → EReal) (ix2 r 0) = M' := by
  unfold topL scoresL
  pointwise
  rw [hm, negInf]
  simp only [hs]
  exact Softmax.max_fold Finset.univ M _

theorem exp2_at (x : ℝ) : FloatOps.exp2 (F := Ideal) (φ := .f32) (x : EReal) = ((Real.rpow 2 x : ℝ) : EReal) := rfl

theorem newAcc_at (m : FVec Ideal S1024x1 .f32) (a : FVec Ideal S1024x256 .f32) (kb : FVec Ideal S512x128 .bf16)
    (vb : FVec Ideal S512x256 .bf16) (n : ℕ) (M M' : ℝ) (e : Fin 256)
    (hm : (m : S1024x1.Idx → EReal) (ix2 r 0) = M)
    (hm' : (newTop q m kb : S1024x1.Idx → EReal) (ix2 r 0) = M')
    (ha : (a : S1024x256.Idx → EReal) (ix2 r e) = Softmax.part σ (w e) M n)
    (hs : ∀ j : Fin 512, ∑ d : Fin 128, (q : S1024x128.Idx → EReal) (ix2 r d) * (kb : S512x128.Idx → EReal) (ix2 j d) = σ (n + j))
    (hv : ∀ j : Fin 512, (vb : S512x256.Idx → EReal) (ix2 j e) = w e (n + j)) :
    (newAcc q m a kb vb : S1024x256.Idx → EReal) (ix2 r e) = Softmax.part σ (w e) M' (n + 512) := by
  unfold newAcc scores
  pointwise
  simp only [hm, hm', ha, hs, hv, ← EReal.coe_sub, exp2_at]
  exact Softmax.part_step σ (w e) M M' n 512

theorem accL_at (m : FVec Ideal S1024x1 .f32) (a : FVec Ideal S1024x256 .f32) (n : ℕ) (M M' : ℝ) (e : Fin 256)
    (hm : (m : S1024x1.Idx → EReal) (ix2 r 0) = M)
    (hm' : (topL q m kl : S1024x1.Idx → EReal) (ix2 r 0) = M')
    (ha : (a : S1024x256.Idx → EReal) (ix2 r e) = Softmax.part σ (w e) M n)
    (hs : ∀ j : Fin 256, ∑ d : Fin 128, (q : S1024x128.Idx → EReal) (ix2 r d) * (kl : S256x128.Idx → EReal) (ix2 j d) = σ (n + j))
    (hv : ∀ j : Fin 256, (vl : S256x256.Idx → EReal) (ix2 j e) = w e (n + j)) :
    (accL q m a kl vl : S1024x256.Idx → EReal) (ix2 r e) = Softmax.part σ (w e) M' (n + 256) := by
  unfold accL scoresL
  pointwise
  simp only [hm, hm', ha, hs, hv, ← EReal.coe_sub, exp2_at]
  exact Softmax.part_step σ (w e) M M' n 256

theorem top_zero : ∃ M : ℝ, (top q k 0 : S1024x1.Idx → EReal) (ix2 r 0) = M := by
  unfold top
  pointwise
  refine ⟨(Ideal.ofBits FTy.f32 4048155338#32).toReal, (EReal.coe_toReal ?_ ?_).symm⟩ <;>
    simp [Ideal.ofBits, Ideal.ieee, -EReal.coe_mul, -EReal.coe_neg]

theorem acc_zero (e : Fin 256) : (acc q k v 0 : S1024x256.Idx → EReal) (ix2 r e) = 0 := by
  unfold acc
  pointwise

variable (hs : ∀ n, n < 8 → ∀ j : Fin 512, ∑ d : Fin 128, (q : S1024x128.Idx → EReal) (ix2 r d) * (k n : S512x128.Idx → EReal) (ix2 j d) = σ (512 * n + j))
  (hv : ∀ n, n < 8 → ∀ (j : Fin 512) (e : Fin 256), (v n : S512x256.Idx → EReal) (ix2 j e) = w e (512 * n + j))
  (hsl : ∀ j : Fin 256, ∑ d : Fin 128, (q : S1024x128.Idx → EReal) (ix2 r d) * (kl : S256x128.Idx → EReal) (ix2 j d) = σ (4096 + j))
  (hvl : ∀ (j : Fin 256) (e : Fin 256), (vl : S256x256.Idx → EReal) (ix2 j e) = w e (4096 + j))
include hs hv hsl hvl

/-- After `n` blocks: a finite maximum, and the weighted sums about it. -/
theorem pass (n : ℕ) (hn : n ≤ 8) : ∃ M : ℝ, (top q k n : S1024x1.Idx → EReal) (ix2 r 0) = M ∧
    ∀ e, (acc q k v n : S1024x256.Idx → EReal) (ix2 r e) = Softmax.part σ (w e) M (512 * n) := by
  induction n with
  | zero =>
    obtain ⟨M, h⟩ := top_zero q k r
    exact ⟨M, h, fun e => by rw [acc_zero]; exact (Softmax.part_zero σ (w e) M).symm⟩
  | succ n ih =>
    obtain ⟨M, hM, ha⟩ := ih (by omega)
    obtain ⟨M', hM'⟩ := newTop_at q r σ (top q k n) (k n) (512 * n) M hM (hs n (by omega))
    exact ⟨M', hM', fun e => newAcc_at q r σ w (top q k n) (acc q k v n) (k n) (v n) (512 * n) M M' e hM hM' (ha e)
      (hs n (by omega)) fun j => hv n (by omega) j e⟩

/-- The stream's result: the values under the softmax weights of the scores. -/
theorem stream_at (τ : ℕ → ℝ) (hτ : ∀ j, σ j * Real.log 2 = τ j) (M' : ℝ) (d : Fin 128)
    (hone : ∀ j, w ⟨128 + d.val, by omega⟩ j = 1) :
    (stream q k v kl vl : S1024x128.Idx → EReal) (ix2 r d) =
      ∑ j ∈ Finset.range 4352, ((Softmax.weight τ M' 4352 j : ℝ) : EReal) * w ⟨d.val, by omega⟩ j := by
  obtain ⟨M, hM, ha⟩ := pass q k v kl vl r σ w hs hv hsl hvl 8 le_rfl
  obtain ⟨ML, hML⟩ := topL_at q kl r σ (top q k 8) 4096 M hM hsl
  have h := fun e => accL_at q kl vl r σ w (top q k 8) (acc q k v 8) 4096 M ML e hM hML (ha e) hsl fun j => hvl j e
  unfold stream quot
  pointwise
  rw [h, h, funext hone]
  exact Softmax.quotient σ τ hτ _ ML M' 4352 (by norm_num)

end Cert.KernelIdeal.Body
-- ==== Proof.Rows.lean ====
module

public import proofs.«01_k».proof.Proof.Stream
public import Idealize.ShloMosaic.Lib.Pointwise

/-!
A grid point's results, a value at a time: row `g * 1024 + r` of a point's 4096 is group `g`'s row
`r`, and its result is the softmax of its scores over all 4352 keys, applied to the values.
-/

@[expose] public section

set_option maxRecDepth 16384

noncomputable section

namespace Cert.KernelIdeal.Body

open Cert.KernelIdeal Cert.KernelIdeal.Gen
open Idealize.ShloMosaic Idealize.ShloMosaic.TcCoe Idealize.SL.Sem

variable (x : FVec Ideal S1x4x1024x128 .f32)

theorem q0_at (r : Fin 1024) (z : Fin 128) : (k0_pay11 (F := Ideal) x : S1024x128.Idx → EReal) (ix2 r z) =
    (x (ix4 0 0 r z) : EReal) * (((√128 * Real.log 2)⁻¹ : ℝ) : EReal) := by
  have e : (Named.named κ "prescale" 1040356334#32 : Ideal .f32) = (((√128 * Real.log 2)⁻¹ : ℝ) : EReal) := rfl
  rw [← e]
  unfold k0_pay11 k0_pay10
  pointwise
  have h1 : (⟨r.val / 1024, by omega⟩ : Fin 4) = 0 := Fin.ext (by show r.val / 1024 = 0; omega)
  have h2 : (⟨r.val % 1024, by omega⟩ : Fin 1024) = r := Fin.ext (by show r.val % 1024 = r.val; omega)
  rw [h1, h2]

theorem q1_at (r : Fin 1024) (z : Fin 128) : (k0_pay12 (F := Ideal) x : S1024x128.Idx → EReal) (ix2 r z) =
    (x (ix4 0 1 r z) : EReal) * (((√128 * Real.log 2)⁻¹ : ℝ) : EReal) := by
  have e : (Named.named κ "prescale" 1040356334#32 : Ideal .f32) = (((√128 * Real.log 2)⁻¹ : ℝ) : EReal) := rfl
  rw [← e]
  unfold k0_pay12 k0_pay10
  pointwise
  have h1 : (⟨(1024 + r.val) / 1024, by omega⟩ : Fin 4) = 1 := Fin.ext (by show (1024 + r.val) / 1024 = 1; omega)
  rw [h1]

theorem q2_at (r : Fin 1024) (z : Fin 128) : (k0_pay13 (F := Ideal) x : S1024x128.Idx → EReal) (ix2 r z) =
    (x (ix4 0 2 r z) : EReal) * (((√128 * Real.log 2)⁻¹ : ℝ) : EReal) := by
  have e : (Named.named κ "prescale" 1040356334#32 : Ideal .f32) = (((√128 * Real.log 2)⁻¹ : ℝ) : EReal) := rfl
  rw [← e]
  unfold k0_pay13 k0_pay10
  pointwise
  have h1 : (⟨(2048 + r.val) / 1024, by omega⟩ : Fin 4) = 2 := Fin.ext (by show (2048 + r.val) / 1024 = 2; omega)
  rw [h1]

theorem q3_at (r : Fin 1024) (z : Fin 128) : (k0_pay14 (F := Ideal) x : S1024x128.Idx → EReal) (ix2 r z) =
    (x (ix4 0 3 r z) : EReal) * (((√128 * Real.log 2)⁻¹ : ℝ) : EReal) := by
  have e : (Named.named κ "prescale" 1040356334#32 : Ideal .f32) = (((√128 * Real.log 2)⁻¹ : ℝ) : EReal) := rfl
  rw [← e]
  unfold k0_pay14 k0_pay10
  pointwise
  have h1 : (⟨(3072 + r.val) / 1024, by omega⟩ : Fin 4) = 3 := Fin.ext (by show (3072 + r.val) / 1024 = 3; omega)
  rw [h1]

section

variable (K : Vec Ideal S4352x128 .bf16) (V : Vec Ideal S4352x256 .bf16) (o : ℕ)

theorem ld_k (inb) (j : Fin 512) (z : Fin 128) (ho : o + 512 ≤ 4352) :
    (View.ld (Val := Elt Ideal) (e' := .bf16) K (Rect.unit (s := S4352x128) ![o, 0] S512x128.size inb) :
      S512x128.Idx → EReal) (ix2 j z) = (K : S4352x128.Idx → EReal) (ix2 ⟨o + j.val, by omega⟩ z) :=
  View.ld_unit_apply_of K _ _ inb _ _ (by intro a; fin_cases a <;> simp)

theorem ld_v (inb) (j : Fin 512) (z : Fin 256) (ho : o + 512 ≤ 4352) :
    (View.ld (Val := Elt Ideal) (e' := .bf16) V (Rect.unit (s := S4352x256) ![o, 0] S512x256.size inb) :
      S512x256.Idx → EReal) (ix2 j z) = (V : S4352x256.Idx → EReal) (ix2 ⟨o + j.val, by omega⟩ z) :=
  View.ld_unit_apply_of V _ _ inb _ _ (by intro a; fin_cases a <;> simp)

theorem ld_kl (inb) (j : Fin 256) (z : Fin 128) :
    (View.ld (Val := Elt Ideal) (e' := .bf16) K (Rect.unit (s := S4352x128) ![4096, 0] S256x128.size inb) :
      S256x128.Idx → EReal) (ix2 j z) = (K : S4352x128.Idx → EReal) (ix2 ⟨4096 + j.val, by omega⟩ z) :=
  View.ld_unit_apply_of K _ _ inb _ _ (by intro a; fin_cases a <;> simp)

theorem ld_vl (inb) (j : Fin 256) (z : Fin 256) :
    (View.ld (Val := Elt Ideal) (e' := .bf16) V (Rect.unit (s := S4352x256) ![4096, 0] S256x256.size inb) :
      S256x256.Idx → EReal) (ix2 j z) = (V : S4352x256.Idx → EReal) (ix2 ⟨4096 + j.val, by omega⟩ z) :=
  View.ld_unit_apply_of V _ _ inb _ _ (by intro a; fin_cases a <;> simp)

end

theorem attend0_at (k : ℕ → FVec Ideal S512x128 .bf16) (v : ℕ → FVec Ideal S512x256 .bf16)
    (kl : FVec Ideal S256x128 .bf16) (vl : FVec Ideal S256x256 .bf16) (r : Fin 1024) (d : Fin 128) :
    (attend x k v kl vl : S4096x128.Idx → EReal) (ix2 ⟨0 * 1024 + r.val, by omega⟩ d) =
      (stream (k0_pay11 x) k v kl vl : S1024x128.Idx → EReal) (ix2 r d) := by
  unfold attend
  pointwise

theorem attend1_at (k : ℕ → FVec Ideal S512x128 .bf16) (v : ℕ → FVec Ideal S512x256 .bf16)
    (kl : FVec Ideal S256x128 .bf16) (vl : FVec Ideal S256x256 .bf16) (r : Fin 1024) (d : Fin 128) :
    (attend x k v kl vl : S4096x128.Idx → EReal) (ix2 ⟨1 * 1024 + r.val, by omega⟩ d) =
      (stream (k0_pay12 x) k v kl vl : S1024x128.Idx → EReal) (ix2 r d) := by
  unfold attend
  pointwise

theorem attend2_at (k : ℕ → FVec Ideal S512x128 .bf16) (v : ℕ → FVec Ideal S512x256 .bf16)
    (kl : FVec Ideal S256x128 .bf16) (vl : FVec Ideal S256x256 .bf16) (r : Fin 1024) (d : Fin 128) :
    (attend x k v kl vl : S4096x128.Idx → EReal) (ix2 ⟨2 * 1024 + r.val, by omega⟩ d) =
      (stream (k0_pay13 x) k v kl vl : S1024x128.Idx → EReal) (ix2 r d) := by
  unfold attend
  pointwise
  rw [dif_neg (by omega), dif_neg (by omega), dif_pos (by omega)]
  have h1 : (⟨2048 + r.val - 1024 - 1024, by omega⟩ : Fin 1024) = r := Fin.ext (by show 2048 + r.val - 1024 - 1024 = r.val; omega)
  rw [h1]

theorem attend3_at (k : ℕ → FVec Ideal S512x128 .bf16) (v : ℕ → FVec Ideal S512x256 .bf16)
    (kl : FVec Ideal S256x128 .bf16) (vl : FVec Ideal S256x256 .bf16) (r : Fin 1024) (d : Fin 128) :
    (attend x k v kl vl : S4096x128.Idx → EReal) (ix2 ⟨3 * 1024 + r.val, by omega⟩ d) =
      (stream (k0_pay14 x) k v kl vl : S1024x128.Idx → EReal) (ix2 r d) := by
  unfold attend
  pointwise
  rw [dif_neg (by omega), dif_neg (by omega), dif_neg (by omega)]
  have h1 : (⟨3072 + r.val - 1024 - 1024 - 1024, by omega⟩ : Fin 1024) = r := Fin.ext (by show 3072 + r.val - 1024 - 1024 - 1024 = r.val; omega)
  rw [h1]

/-- A product of finite rows is finite. -/
theorem dot_real (a b : Fin 128 → ℝ) (s : ℝ) :
    ∑ z : Fin 128, ((a z : EReal) * (s : EReal)) * (b z : EReal) = (((∑ z : Fin 128, b z * a z) * s : ℝ) : EReal) := by
  rw [Finset.sum_mul, Softmax.coe_sum]
  refine Finset.sum_congr rfl fun z _ => ?_
  rw [← EReal.coe_mul, ← EReal.coe_mul]
  congr 1
  ring

/-- The softmax of a row's scores, applied to the values of column `e`. -/
def soft (qr : Fin 128 → ℝ) (kr : ℕ → Fin 128 → ℝ) (w : ℕ → EReal) (M : ℝ) : EReal :=
  ∑ j ∈ Finset.range 4352,
    ((Softmax.weight (fun j => (∑ z : Fin 128, kr j z * qr z) * (√128)⁻¹) M 4352 j : ℝ) : EReal) * w j

section

variable (qr : Fin 128 → ℝ) (kr : ℕ → Fin 128 → ℝ) (w : Fin 256 → ℕ → EReal)
  (K : Vec Ideal S4352x128 .bf16) (V : Vec Ideal S4352x256 .bf16) (q : FVec Ideal S1024x128 .bf16)
  (k : ℕ → FVec Ideal S512x128 .bf16) (v : ℕ → FVec Ideal S512x256 .bf16)
  (kl : FVec Ideal S256x128 .bf16) (vl : FVec Ideal S256x256 .bf16)

/-- A stream whose blocks are those of `K` and `V`. -/
theorem stream_soft (r : Fin 1024) (d : Fin 128) (M : ℝ)
    (hq : ∀ z, (q : S1024x128.Idx → EReal) (ix2 r z) = (qr z : EReal) * (((√128 * Real.log 2)⁻¹ : ℝ) : EReal))
    (hk : ∀ n (hn : n < 8) (j : Fin 512) z, (k n : S512x128.Idx → EReal) (ix2 j z) =
      (K : S4352x128.Idx → EReal) (ix2 ⟨512 * n + j.val, by omega⟩ z))
    (hv : ∀ n (hn : n < 8) (j : Fin 512) z, (v n : S512x256.Idx → EReal) (ix2 j z) =
      (V : S4352x256.Idx → EReal) (ix2 ⟨512 * n + j.val, by omega⟩ z))
    (hkl : ∀ (j : Fin 256) z, (kl : S256x128.Idx → EReal) (ix2 j z) =
      (K : S4352x128.Idx → EReal) (ix2 ⟨4096 + j.val, by omega⟩ z))
    (hvl : ∀ (j : Fin 256) z, (vl : S256x256.Idx → EReal) (ix2 j z) =
      (V : S4352x256.Idx → EReal) (ix2 ⟨4096 + j.val, by omega⟩ z))
    (hK : ∀ (s : Fin 4352) z, (K : S4352x128.Idx → EReal) (ix2 s z) = kr s.val z)
    (hV : ∀ (s : Fin 4352) e, (V : S4352x256.Idx → EReal) (ix2 s e) = w e s.val)
    (hone : ∀ j, w ⟨128 + d.val, by omega⟩ j = 1) :
    (stream q k v kl vl : S1024x128.Idx → EReal) (ix2 r d) = soft qr kr (w ⟨d.val, by omega⟩) M := by
  have hlog : Real.log 2 ≠ 0 := (Real.log_pos (by norm_num)).ne'
  refine stream_at q k v kl vl r (fun j => (∑ z : Fin 128, kr j z * qr z) * (√128 * Real.log 2)⁻¹) w ?_ ?_ ?_ ?_
    (fun j => (∑ z : Fin 128, kr j z * qr z) * (√128)⁻¹) ?_ M d hone
  · intro n hn j
    rw [← dot_real]
    exact Finset.sum_congr rfl fun z _ => by rw [hq, hk n hn, hK]
  · intro n hn j e
    rw [hv n hn, hV]
  · intro j
    rw [← dot_real]
    exact Finset.sum_congr rfl fun z _ => by rw [hq, hkl, hK]
  · intro j e
    rw [hvl, hV]
  · intro j
    rw [mul_inv, mul_assoc, mul_assoc, inv_mul_cancel₀ hlog, mul_one]

/-- A point's result at group `g`, row `r` and column `d`. -/
theorem body_at (g : Fin 4) (r : Fin 1024) (d : Fin 128) (M : ℝ)
    (hx : ∀ z, (x : S1x4x1024x128.Idx → EReal) (ix4 0 g r z) = qr z)
    (hK : ∀ (s : Fin 4352) z, (K : S4352x128.Idx → EReal) (ix2 s z) = kr s.val z)
    (hV : ∀ (s : Fin 4352) e, (V : S4352x256.Idx → EReal) (ix2 s e) = w e s.val)
    (hone : ∀ j, w ⟨128 + d.val, by omega⟩ j = 1) :
    (body x K V : S4096x128.Idx → EReal) (ix2 ⟨g.val * 1024 + r.val, by omega⟩ d) =
      soft qr kr (w ⟨d.val, by omega⟩) M := by
  have hb (q : FVec Ideal S1024x128 .bf16)
      (hq : ∀ z, (q : S1024x128.Idx → EReal) (ix2 r z) = (qr z : EReal) * (((√128 * Real.log 2)⁻¹ : ℝ) : EReal)) :=
    fun k v kl vl hk hv hkl hvl => stream_soft qr kr w K V q k v kl vl r d M hq hk hv hkl hvl hK hV hone
  have hk : ∀ n (hn : n < 8) (j : Fin 512) z, (pick
    (View.ld (Val := Elt Ideal) (e' := .bf16) K (Rect.unit (s := S4352x128) ![0, 0] S512x128.size inb_S4352x128_S512x128_0_0))
    (View.ld (Val := Elt Ideal) (e' := .bf16) K (Rect.unit (s := S4352x128) ![512, 0] S512x128.size inb_S4352x128_S512x128_512_0))
    (View.ld (Val := Elt Ideal) (e' := .bf16) K (Rect.unit (s := S4352x128) ![1024, 0] S512x128.size inb_S4352x128_S512x128_1024_0))
    (View.ld (Val := Elt Ideal) (e' := .bf16) K (Rect.unit (s := S4352x128) ![1536, 0] S512x128.size inb_S4352x128_S512x128_1536_0))
    (View.ld (Val := Elt Ideal) (e' := .bf16) K (Rect.unit (s := S4352x128) ![2048, 0] S512x128.size inb_S4352x128_S512x128_2048_0))
    (View.ld (Val := Elt Ideal) (e' := .bf16) K (Rect.unit (s := S4352x128) ![2560, 0] S512x128.size inb_S4352x128_S512x128_2560_0))
    (View.ld (Val := Elt Ideal) (e' := .bf16) K (Rect.unit (s := S4352x128) ![3072, 0] S512x128.size inb_S4352x128_S512x128_3072_0))
    (View.ld (Val := Elt Ideal) (e' := .bf16) K (Rect.unit (s := S4352x128) ![3584, 0] S512x128.size inb_S4352x128_S512x128_3584_0))
      n : S512x128.Idx → EReal) (ix2 j z) = (K : S4352x128.Idx → EReal) (ix2 ⟨512 * n + j.val, by omega⟩ z) := by
    intro n hn j z
    interval_cases n
    · exact ld_k K 0 _ j z (by omega)
    · exact ld_k K 512 _ j z (by omega)
    · exact ld_k K 1024 _ j z (by omega)
    · exact ld_k K 1536 _ j z (by omega)
    · exact ld_k K 2048 _ j z (by omega)
    · exact ld_k K 2560 _ j z (by omega)
    · exact ld_k K 3072 _ j z (by omega)
    · exact ld_k K 3584 _ j z (by omega)
  have hv : ∀ n (hn : n < 8) (j : Fin 512) z, (pick
    (View.ld (Val := Elt Ideal) (e' := .bf16) V (Rect.unit (s := S4352x256) ![0, 0] S512x256.size inb_S4352x256_S512x256_0_0))
    (View.ld (Val := Elt Ideal) (e' := .bf16) V (Rect.unit (s := S4352x256) ![512, 0] S512x256.size inb_S4352x256_S512x256_512_0))
    (View.ld (Val := Elt Ideal) (e' := .bf16) V (Rect.unit (s := S4352x256) ![1024, 0] S512x256.size inb_S4352x256_S512x256_1024_0))
    (View.ld (Val := Elt Ideal) (e' := .bf16) V (Rect.unit (s := S4352x256) ![1536, 0] S512x256.size inb_S4352x256_S512x256_1536_0))
    (View.ld (Val := Elt Ideal) (e' := .bf16) V (Rect.unit (s := S4352x256) ![2048, 0] S512x256.size inb_S4352x256_S512x256_2048_0))
    (View.ld (Val := Elt Ideal) (e' := .bf16) V (Rect.unit (s := S4352x256) ![2560, 0] S512x256.size inb_S4352x256_S512x256_2560_0))
    (View.ld (Val := Elt Ideal) (e' := .bf16) V (Rect.unit (s := S4352x256) ![3072, 0] S512x256.size inb_S4352x256_S512x256_3072_0))
    (View.ld (Val := Elt Ideal) (e' := .bf16) V (Rect.unit (s := S4352x256) ![3584, 0] S512x256.size inb_S4352x256_S512x256_3584_0))
      n : S512x256.Idx → EReal) (ix2 j z) = (V : S4352x256.Idx → EReal) (ix2 ⟨512 * n + j.val, by omega⟩ z) := by
    intro n hn j z
    interval_cases n
    · exact ld_v V 0 _ j z (by omega)
    · exact ld_v V 512 _ j z (by omega)
    · exact ld_v V 1024 _ j z (by omega)
    · exact ld_v V 1536 _ j z (by omega)
    · exact ld_v V 2048 _ j z (by omega)
    · exact ld_v V 2560 _ j z (by omega)
    · exact ld_v V 3072 _ j z (by omega)
    · exact ld_v V 3584 _ j z (by omega)
  unfold body
  fin_cases g
  · exact (attend0_at x _ _ _ _ r d).trans (hb _ (fun z => by rw [q0_at]; exact congrArg (· * _) (hx z)) _ _ _ _ hk hv (ld_kl K _) (ld_vl V _))
  · exact (attend1_at x _ _ _ _ r d).trans (hb _ (fun z => by rw [q1_at]; exact congrArg (· * _) (hx z)) _ _ _ _ hk hv (ld_kl K _) (ld_vl V _))
  · exact (attend2_at x _ _ _ _ r d).trans (hb _ (fun z => by rw [q2_at]; exact congrArg (· * _) (hx z)) _ _ _ _ hk hv (ld_kl K _) (ld_vl V _))
  · exact (attend3_at x _ _ _ _ r d).trans (hb _ (fun z => by rw [q3_at]; exact congrArg (· * _) (hx z)) _ _ _ _ hk hv (ld_kl K _) (ld_vl V _))

end

end Cert.KernelIdeal.Body
-- ==== Proof.Output.lean ====
module

public import proofs.«01_k».proof.Proof.Blocks
public import proofs.«01_k».proof.Proof.Rows

/-!
The kernel's result array: at batch `b`, row `r` and lane `e` it is the softmax of query head
`e / 128`'s scores at row `r`, applied to lane `e % 128` of key head `e / 512`'s values.
-/

@[expose] public section

set_option maxRecDepth 16384

noncomputable section

namespace Cert.KernelIdeal.Output

open Cert.KernelIdeal Cert.KernelIdeal.Gen Cert.KernelIdeal.Body Cert.KernelIdeal.Blocks
open Idealize.ShloMosaic Idealize.ShloMosaic.TcCoe Idealize.SL.Sem

variable (m : (ℓ : Loc nD τ sig) → Buf (Elt Ideal) ℓ) (c : Dev nD)

/-- What a point leaves in the output's block, of scratch that holds all the keys and values. -/
theorem point (t : Fin cfg0.N) : ∃ (Kb : Vec Ideal S4352x128 .bf16) (Vb : Vec Ideal S4352x256 .bf16),
    (∀ s d, (Kb : S4352x128.Idx → EReal) (ix2 s d) = KK m c (bat t) (hd t) s d) ∧
    (∀ s (e : Fin 256), (Vb : S4352x256.Idx → EReal) (ix2 s e) =
      if he : e.val < 128 then VV m c (bat t) (hd t) s ⟨e.val, he⟩ else 1) ∧
    (outsAt0 m c t.val t.isLt).1 = outBlk (body (F := Ideal) (iblk m c 0 t) Kb Vb) := by
  by_cases h : t.val % 4 = 0
  · have e : (outsAt0 m c t.val t.isLt).1 = outBlk (body (F := Ideal) (iblk m c 0 t)
        (keys (F := Ideal) (iblk m c 1 t) (iblk m c 3 t)) (vals (F := Ideal) (iblk m c 2 t) (iblk m c 4 t))) := by
      rw [outsAt0_A m c t h, out_A]
    exact ⟨_, _, keys_at m c t, vals_at m c t, e⟩
  · have hp : t.val - 1 < cfg0.N := by have := t.isLt; omega
    have hb := bat_pred t h hp
    have hs := scratch m c (t.val - 1) hp
    rw [hb.1, hb.2] at hs
    have e : (outsAt0 m c t.val t.isLt).1 = outBlk (body (F := Ideal) (iblk m c 0 t)
        (outsAt0 m c (t.val - 1) hp).2.1 (outsAt0 m c (t.val - 1) hp).2.2) := by
      rw [outsAt0_B m c t h, out_B]
    exact ⟨_, _, hs.1, hs.2, e⟩

/-- The output's block at a row and a lane. -/
theorem outBlk_at (r : Vec Ideal S4096x128 .bf16) (a : Fin 1) (y : Fin 1024) (e : Fin 512) :
    (outBlk r : S1x1024x512.Idx → EReal) (ix3 a y e) =
      (r : S4096x128.Idx → EReal) (ix2 ⟨e.val / 128 * 1024 + y.val, by omega⟩ ⟨e.val % 128, by omega⟩) := by
  unfold outBlk pieces
  canon_tiles x h
  all_goals idx_vars x
  · unfold k0_pay4
    pointwise
    have hx : (⟨e.val / 128 * 1024 + y.val, by omega⟩ : Fin 4096) = ⟨3072 + x1.val, by omega⟩ := Fin.ext (by
      show e.val / 128 * 1024 + y.val = 3072 + x1.val; omega)
    have hy : (⟨e.val % 128, by omega⟩ : Fin 128) = x2 := Fin.ext (by show e.val % 128 = x2.val; omega)
    rw [hx, hy]
  · unfold k0_pay3
    pointwise
    have hx : (⟨e.val / 128 * 1024 + y.val, by omega⟩ : Fin 4096) = ⟨2048 + x1.val, by omega⟩ := Fin.ext (by
      show e.val / 128 * 1024 + y.val = 2048 + x1.val; omega)
    have hy : (⟨e.val % 128, by omega⟩ : Fin 128) = x2 := Fin.ext (by show e.val % 128 = x2.val; omega)
    rw [hx, hy]
  · unfold k0_pay2
    pointwise
    have hx : (⟨e.val / 128 * 1024 + y.val, by omega⟩ : Fin 4096) = ⟨1024 + x1.val, by omega⟩ := Fin.ext (by
      show e.val / 128 * 1024 + y.val = 1024 + x1.val; omega)
    have hy : (⟨e.val % 128, by omega⟩ : Fin 128) = x2 := Fin.ext (by show e.val % 128 = x2.val; omega)
    rw [hx, hy]
  · unfold k0_pay1
    pointwise
    have hx : (⟨e.val / 128 * 1024 + y.val, by omega⟩ : Fin 4096) = ⟨x1.val, by omega⟩ := Fin.ext (by
      show e.val / 128 * 1024 + y.val = x1.val; omega)
    have hy : (⟨e.val % 128, by omega⟩ : Fin 128) = x2 := Fin.ext (by show e.val % 128 = x2.val; omega)
    rw [hx, hy]

/-- Reals for the queries, and for all the keys of a batch and key head. -/
structure Finite (qf : Fin 16 → Fin 4096 → Fin 8 → Fin 128 → ℝ) (kf : Fin 16 → Fin 2 → ℕ → Fin 128 → ℝ) : Prop where
  q : ∀ b r h d, Q m c b r h d = qf b r h d
  k : ∀ b h (s : Fin 4352) d, KK m c b h s d = kf b h s.val d

/-- The values of a batch, key head and lane, by key number. -/
def wv (b : Fin 16) (h : Fin 2) (d : Fin 128) (j : ℕ) : EReal := if hj : j < 4352 then VV m c b h ⟨j, hj⟩ d else 0

variable {m c} {qf : Fin 16 → Fin 4096 → Fin 8 → Fin 128 → ℝ} {kf : Fin 16 → Fin 2 → ℕ → Fin 128 → ℝ}

/-- The result array is any array that is that softmax everywhere. -/
theorem arr_eq (hf : Finite m c qf kf) (G : S16x4096x1024.Idx → EReal)
    (hG : ∀ b r (e : Fin 1024), ∃ M : ℝ, G (ix3 b r e) = soft (qf b r ⟨e.val / 128, by omega⟩) (kf b ⟨e.val / 512, by omega⟩)
      (wv m c b ⟨e.val / 512, by omega⟩ ⟨e.val % 128, by omega⟩) M) :
    (dats m 0 c).arrAt 5 cfg0.N = G := by
  refine (dats m 0 c).arrAt_eq_of_covers 5 _ (by decide +kernel) fun t hfl y => ?_
  blk_simp
  rw [after0_5]
  obtain ⟨Kb, Vb, hK, hV, h⟩ := point m c t
  rw [h]
  idx_vars y
  have he : (win0_5.blk t).view.emb (ix3 y0 y1 y2) =
      ix3 (bat t) (row t y1) (⟨t.val / 4 % 2 * 512 + y2.val, by omega⟩ : Fin 1024) := by
    blk_ext [idx5 t, bat, row]
  rw [he, outBlk_at]
  obtain ⟨M, hM⟩ := hG (bat t) (row t y1) ⟨t.val / 4 % 2 * 512 + y2.val, by omega⟩
  have h1 : (⟨(t.val / 4 % 2 * 512 + y2.val) / 128, by omega⟩ : Fin 8) = qh t ⟨y2.val / 128, by omega⟩ :=
    Fin.ext (by show (t.val / 4 % 2 * 512 + y2.val) / 128 = t.val / 4 % 2 * 4 + y2.val / 128; omega)
  have h2 : (⟨(t.val / 4 % 2 * 512 + y2.val) / 512, by omega⟩ : Fin 2) = hd t :=
    Fin.ext (by show (t.val / 4 % 2 * 512 + y2.val) / 512 = t.val / 4 % 2; omega)
  have h3 : (⟨(t.val / 4 % 2 * 512 + y2.val) % 128, by omega⟩ : Fin 128) = ⟨y2.val % 128, by omega⟩ :=
    Fin.ext (by show (t.val / 4 % 2 * 512 + y2.val) % 128 = y2.val % 128; omega)
  rw [h1, h2, h3] at hM
  rw [hM]
  have hw := body_at (iblk m c 0 t) (qf (bat t) (row t y1) (qh t ⟨y2.val / 128, by omega⟩)) (kf (bat t) (hd t))
    (fun e j => if he : e.val < 128 then wv m c (bat t) (hd t) ⟨e.val, he⟩ j else 1) Kb Vb
    ⟨y2.val / 128, by omega⟩ y1 ⟨y2.val % 128, by omega⟩ M
    (fun z => (q_at m c t 0 _ y1 z).trans (hf.q _ _ _ _))
    (fun s z => (hK s z).trans (hf.k _ _ _ _))
    (fun s e => by
      rw [hV]
      by_cases he : e.val < 128
      · rw [dif_pos he, dif_pos he, wv, dif_pos s.isLt]
      · rw [dif_neg he, dif_neg he])
    (fun j => dif_neg (by show ¬ (128 + y2.val % 128 < 128); omega))
  rw [hw]
  exact congrArg (fun w => soft _ _ w M) (funext fun j => dif_pos _)

end Cert.KernelIdeal.Output
-- ==== Proof.Reference.lean ====
module

public import proofs.«01_k».proof.Proof.Gen.ReferenceIdeal.Run
public import proofs.«01_k».proof.Proof.Softmax
public import Idealize.ShloMosaic.Lib.Pointwise
public import Idealize.ShloMosaic.Lib.Tactic

/-!
The reference's result, a value at a time: the scores of all 4352 keys, their maximum, the
exponentials, the weights, and the weighted values laid out.
-/

@[expose] public section

set_option maxRecDepth 16384

noncomputable section

namespace Cert.ReferenceIdeal.Refer

open Cert.ReferenceIdeal Cert.ReferenceIdeal.Gen
open Idealize.ShloMosaic Idealize.ShloMosaic.TcCoe Idealize.SL.Sem

variable (q : FVec Ideal S16x4096x8x128 .f32) (k v : FVec Ideal S16x4096x2x128 .f32)
  (kc vc : FVec Ideal S16x256x2x128 .f32)

/-- The batch's own rows and then the context's. -/
def both (x : FVec Ideal S16x4096x2x128 .f32) (xc : FVec Ideal S16x256x2x128 .f32) : FVec Ideal S16x4352x2x128 .f32 :=
  concatenate S16x4352x2x128 1 [⟨S16x4096x2x128, x⟩, ⟨S16x256x2x128, xc⟩]
    concatenates_S16x4096x2x128_S16x256x2x128_S16x4352x2x128_d1

/-- The scaled scores. -/
def scores (ka : FVec Ideal S16x4352x2x128 .f32) : FVec Ideal S16x2x4x4096x4352 .f32 :=
  mulf (transpose S16x2x4x4096x4352 [0, 1, 4, 3, 2]
      (Host.dotGeneral dot_S16x4352x2x128_S16x4096x2x4x128_S16x2x4352x4096x4_3_4_1_13_02_02 none ka
        (shapeCast S16x4096x2x4x128 q shapeCasts_S16x4096x8x128_S16x4096x2x4x128))
      transposes_S16x2x4352x4096x4_S16x2x4x4096x4352_0_1_4_3_2)
    (broadcastInDim S16x2x4x4096x4352 ![] bcast_S_S16x2x4x4096x4352
      (Host.rsqrt (constant S_ FTy.f32 1124073472#32)))

/-- The largest score of a row. -/
def tops (s : FVec Ideal S16x2x4x4096x4352 .f32) : FVec Ideal S16x2x4x4096 .f32 :=
  maximumf (broadcastInDim S16x2x4x4096 ![] bcast_S_S16x2x4x4096 (constant S_ FTy.f32 4286578688#32))
    (Host.reduce FloatOps.maximumf s (constant S_ FTy.f32 4286578688#32)
      reducesTo_S16x2x4x4096x4352_S16x2x4x4096_d4 h_S_)

/-- A value per row, repeated along it. -/
def along (x : FVec Ideal S16x2x4x4096 .f32) : FVec Ideal S16x2x4x4096x4352 .f32 :=
  broadcastInDim S16x2x4x4096x4352 ![0, 1, 2, 3, 4] bcast_S16x2x4x4096x1_S16x2x4x4096x4352_0_1_2_3_4
    (broadcastInDim S16x2x4x4096x1 ![0, 1, 2, 3] bcast_S16x2x4x4096_S16x2x4x4096x1_0_1_2_3 x)

/-- The exponentials of the scores less the row's largest. -/
def exps (s : FVec Ideal S16x2x4x4096x4352 .f32) : FVec Ideal S16x2x4x4096x4352 .f32 :=
  Host.exp (subf s (along (tops s)))

/-- A row's sum. -/
def sums (x : FVec Ideal S16x2x4x4096x4352 .f32) : FVec Ideal S16x2x4x4096 .f32 :=
  Host.reduceAdd x (constant S_ FTy.f32 0#32) reducesTo_S16x2x4x4096x4352_S16x2x4x4096_d4 h_S_

/-- The weights. -/
def weights (x : FVec Ideal S16x2x4x4096x4352 .f32) : FVec Ideal S16x2x4x4096x4352 .f32 :=
  Host.divf x (along (sums x))

/-- The values under the weights, the heads side by side. -/
def mixed (va : FVec Ideal S16x4352x2x128 .f32) (p : FVec Ideal S16x2x4x4096x4352 .f32) : FVec Ideal S16x4096x1024 .bf16 :=
  truncf FTy.bf16 (shapeCast S16x4096x1024 (transpose S16x4096x2x4x128 [0, 4, 1, 3, 2]
    (Host.dotGeneral dot_S16x4352x2x128_S16x2x4x4096x4352_S16x2x128x4x4096_1_4_3_23_02_01 none va p)
    transposes_S16x2x128x4x4096_S16x4096x2x4x128_0_4_1_3_2) shapeCasts_S16x4096x2x4x128_S16x4096x1024) bitsLt_bf16_f32

theorem res_eq (m : (ℓ : Loc nD τ sig) → Buf (Elt Ideal) ℓ) (c : Dev nD) :
    Value.res_main_v22 m c = mixed (both (m (c.tc.loc main_arg2)) (m (c.tc.loc main_arg4)))
      (weights (exps (scores (m (c.tc.loc main_arg0)) (both (m (c.tc.loc main_arg1)) (m (c.tc.loc main_arg3)))))) := by
  sl_kernel_rfl

theorem negInf : Ideal.ofBits .f32 4286578688#32 = ⊥ := by simp [Ideal.ofBits, Ideal.ieee]

/-- The largest of finite numbers along a last axis that has an element is finite. -/
theorem max_real {n0 n1 n2 n3 n4 : ℕ} {t u : Shape} (h : (⟨5, ![n0, n1, n2, n3, n4]⟩ : Shape).ReducesTo [4] t)
    (x : FVec Ideal (⟨5, ![n0, n1, n2, n3, n4]⟩ : Shape) .f32) (hx : ∀ i, ∃ a : ℝ, (x i : EReal) = a)
    (hu : 0 < u.numel) (dims : Fin u.rank → Fin t.rank) (hb : u.BroadcastsInDim t dims) (s : Fin n4) (j : t.Idx) :
    ∃ M : ℝ, (maximumf (broadcastInDim t dims hb (constant u FTy.f32 4286578688#32))
      (Host.reduce FloatOps.maximumf x (constant u FTy.f32 4286578688#32) h hu) : t.Idx → EReal) j = M := by
  choose f hf using hx
  obtain ⟨M, hM⟩ := Softmax.fold_real Finset.univ s (Finset.mem_univ _) (fun k => f (ix5
    ⟨(j ⟨0, h.lt_r5_a4_0⟩).val, Shape.coordLt (j ⟨0, h.lt_r5_a4_0⟩) h.size_r5_a4_0⟩
    ⟨(j ⟨1, h.lt_r5_a4_1⟩).val, Shape.coordLt (j ⟨1, h.lt_r5_a4_1⟩) h.size_r5_a4_1⟩
    ⟨(j ⟨2, h.lt_r5_a4_2⟩).val, Shape.coordLt (j ⟨2, h.lt_r5_a4_2⟩) h.size_r5_a4_2⟩
    ⟨(j ⟨3, h.lt_r5_a4_3⟩).val, Shape.coordLt (j ⟨3, h.lt_r5_a4_3⟩) h.size_r5_a4_3⟩ k))
  refine ⟨M, ?_⟩
  have e : Host.reduce FloatOps.maximumf x (constant u FTy.f32 4286578688#32) h hu j = (M : EReal) := by
    rw [Host.reduce_eq_fold, Shape.ReducesTo.fold_fiber_r5_a4, ← hM, ← negInf]
    simp only [hf]
    rfl
  show max (Ideal.ofBits .f32 4286578688#32) (Host.reduce FloatOps.maximumf x (constant u FTy.f32 4286578688#32) h hu j) = M
  rw [e, negInf, max_eq_right bot_le]

/-- A row's largest score is finite when every score is. -/
theorem tops_real (x : FVec Ideal S16x2x4x4096x4352 .f32) (hx : ∀ i, ∃ a : ℝ, (x i : EReal) = a) (j) :
    ∃ M : ℝ, (tops x : S16x2x4x4096.Idx → EReal) j = M :=
  max_real reducesTo_S16x2x4x4096x4352_S16x2x4x4096_d4 x hx h_S_ ![] bcast_S_S16x2x4x4096 ⟨0, by omega⟩ j

theorem both_at (x : FVec Ideal S16x4096x2x128 .f32) (xc : FVec Ideal S16x256x2x128 .f32)
    (b : Fin 16) (s : Fin 4352) (h : Fin 2) (d : Fin 128) :
    (both x xc : S16x4352x2x128.Idx → EReal) (ix4 b s h d) =
      if hs : s.val < 4096 then x (ix4 b ⟨s.val, hs⟩ h d) else xc (ix4 b ⟨s.val - 4096, by omega⟩ h d) := by
  unfold both
  pointwise

theorem scores_at (ka) (b : Fin 16) (h : Fin 2) (g : Fin 4) (r : Fin 4096) (s : Fin 4352) :
    (scores q ka : S16x2x4x4096x4352.Idx → EReal) (ix5 b h g r s) =
      (∑ d : Fin 128, (ka (ix4 b s h d) * q (ix4 b r ⟨h.val * 4 + g.val, by omega⟩ d) : EReal)) *
        Ideal.rsqrt (Ideal.ofBits .f32 1124073472#32) := by
  unfold scores
  pointwise

theorem exps_at (x) (b : Fin 16) (h : Fin 2) (g : Fin 4) (r : Fin 4096) (s : Fin 4352) :
    (exps x : S16x2x4x4096x4352.Idx → EReal) (ix5 b h g r s) =
      Ideal.exp (x (ix5 b h g r s) - tops x (ix4 b h g r)) := by
  unfold exps along
  pointwise

theorem sums_at (x) (b : Fin 16) (h : Fin 2) (g : Fin 4) (r : Fin 4096) :
    (sums x : S16x2x4x4096.Idx → EReal) (ix4 b h g r) = ∑ s : Fin 4352, (x (ix5 b h g r s) : EReal) := by
  unfold sums
  pointwise

theorem weights_at (x) (b : Fin 16) (h : Fin 2) (g : Fin 4) (r : Fin 4096) (s : Fin 4352) :
    (weights x : S16x2x4x4096x4352.Idx → EReal) (ix5 b h g r s) =
      Ideal.div (x (ix5 b h g r s)) (sums x (ix4 b h g r)) := by
  unfold weights along
  pointwise

theorem mixed_at (va p) (b : Fin 16) (r : Fin 4096) (e : Fin 1024) :
    (mixed va p : S16x4096x1024.Idx → EReal) (ix3 b r e) =
      ∑ s : Fin 4352, (va (ix4 b s ⟨e.val / 512, by omega⟩ ⟨e.val % 128, by omega⟩) *
        p (ix5 b ⟨e.val / 512, by omega⟩ ⟨e.val / 128 % 4, by omega⟩ r s) : EReal) := by
  unfold mixed
  pointwise

/-- A result: the values under the softmax weights of the row's scores. -/
theorem result_at (va p) (hx : ∀ i, ∃ a : ℝ, ((p : S16x2x4x4096x4352.Idx → EReal) i) = a)
    (b : Fin 16) (r : Fin 4096) (e : Fin 1024) (τ : ℕ → ℝ) (w : ℕ → EReal)
    (hτ : ∀ s : Fin 4352, (p : S16x2x4x4096x4352.Idx → EReal)
      (ix5 b ⟨e.val / 512, by omega⟩ ⟨e.val / 128 % 4, by omega⟩ r s) = τ s.val)
    (hw : ∀ s : Fin 4352, (va : S16x4352x2x128.Idx → EReal)
      (ix4 b s ⟨e.val / 512, by omega⟩ ⟨e.val % 128, by omega⟩) = w s.val) :
    ∃ M : ℝ, (mixed va (weights (exps p)) : S16x4096x1024.Idx → EReal) (ix3 b r e) =
      ∑ j ∈ Finset.range 4352, ((Softmax.weight τ M 4352 j : ℝ) : EReal) * w j := by
  obtain ⟨M, hM⟩ := tops_real p hx (ix4 b ⟨e.val / 512, by omega⟩ ⟨e.val / 128 % 4, by omega⟩ r)
  refine ⟨M, ?_⟩
  have he (s : Fin 4352) : (exps p : S16x2x4x4096x4352.Idx → EReal)
      (ix5 b ⟨e.val / 512, by omega⟩ ⟨e.val / 128 % 4, by omega⟩ r s) = ((Real.exp (τ s.val - M) : ℝ) : EReal) := by
    rw [exps_at, hτ, hM, ← EReal.coe_sub]
    rfl
  have hS : (sums (exps p) : S16x2x4x4096.Idx → EReal)
      (ix4 b ⟨e.val / 512, by omega⟩ ⟨e.val / 128 % 4, by omega⟩ r) =
        ((∑ l ∈ Finset.range 4352, Real.exp (τ l - M) : ℝ) : EReal) := by
    rw [sums_at, ← Fin.sum_univ_eq_sum_range (fun l => Real.exp (τ l - M)), Softmax.coe_sum]
    exact Finset.sum_congr rfl fun s _ => he s
  have h0 : (∑ l ∈ Finset.range 4352, Real.exp (τ l - M)) ≠ 0 :=
    (Finset.sum_pos (fun l _ => Real.exp_pos _) ⟨0, by simp⟩).ne'
  rw [mixed_at, ← Fin.sum_univ_eq_sum_range
    (fun j => ((Softmax.weight τ M 4352 j : ℝ) : EReal) * w j)]
  refine Finset.sum_congr rfl fun s _ => ?_
  rw [weights_at, he, hS, hw, mul_comm, Ideal.div_coe h0, ← EReal.coe_mul]
  unfold Softmax.weight
  rw [mul_one_div]

end Cert.ReferenceIdeal.Refer
-- ==== Proof.Tie.lean ====
module

public import proofs.«01_k».proof.Defs
public import proofs.«01_k».proof.Proof.Output
public import proofs.«01_k».proof.Proof.Reference

/-!
The kernel's array is the reference's, when every query and key is finite.
-/

@[expose] public section

set_option maxRecDepth 16384

noncomputable section

namespace Cert.Tie

open Cert.KernelIdeal.Blocks Cert.KernelIdeal.Body Cert.KernelIdeal.Output
open Idealize.ShloMosaic Idealize.ShloMosaic.TcCoe Idealize.SL.Sem

/-- The side conditions of the precondition. -/
instance preFacts : Cert.Pre_finite_scores.Facts where
  bcast_S_S16x4096x8x128 := by decide
  bcast_S_S16x4096x2x128 := by decide
  bcast_S_S16x256x2x128 := by decide

/-- A number whose absolute value is below infinity is real. -/
theorem real_of_lt {x : EReal} (h : Ideal.cmp .olt (max x (-x)) (Ideal.ofBits .f32 0x7F800000#32) = 1#1) :
    ∃ a : ℝ, x = a := by
  have ht : Ideal.ofBits .f32 0x7F800000#32 = ⊤ := by simp [Ideal.ofBits, Ideal.ieee]
  rw [ht] at h
  have hlt : max x (-x) < ⊤ := by
    by_contra hn
    simp [Ideal.cmp, hn] at h
  induction x using EReal.rec with
  | bot => simp at hlt
  | top => simp at hlt
  | coe a => exact ⟨a, rfl⟩

section

variable (m : (ℓ : Loc Cert.KernelIdeal.nD Cert.KernelIdeal.τ Cert.KernelIdeal.sig) → Buf (Elt Ideal) ℓ)
  (c : Dev Cert.KernelIdeal.nD)

/-- Under the precondition every query and key is real. -/
theorem finite (h : Cert.Pre_KernelIdeal_finite_scores m) : ∃ qf kf, Finite m c qf kf := by
  obtain ⟨h0, h1, h2⟩ := h c
  have hq (b : Fin 16) (r : Fin 4096) (g : Fin 8) (d : Fin 128) : ∃ a : ℝ, Q m c b r g d = a :=
    real_of_lt (congrFun h0 (ix4 b r g d))
  have hk (b : Fin 16) (s : Fin 4096) (g : Fin 2) (d : Fin 128) : ∃ a : ℝ, K m c b s g d = a :=
    real_of_lt (congrFun h1 (ix4 b s g d))
  have hkc (b : Fin 16) (s : Fin 256) (g : Fin 2) (d : Fin 128) : ∃ a : ℝ, Kc m c b s g d = a :=
    real_of_lt (congrFun h2 (ix4 b s g d))
  have hkk (b : Fin 16) (g : Fin 2) (s : Fin 4352) (d : Fin 128) : ∃ a : ℝ, KK m c b g s d = a := by
    unfold KK
    split
    · exact hk ..
    · exact hkc ..
  choose qf hqf using hq
  choose kf hkf using hkk
  exact ⟨qf, fun b g j d => if hj : j < 4352 then kf b g ⟨j, hj⟩ d else 0, hqf,
    fun b g s d => by rw [dif_pos s.isLt]; exact hkf b g s d⟩

open Cert.ReferenceIdeal.Refer

/-- The scores' scale. -/
theorem scale : Ideal.rsqrt (Ideal.ofBits .f32 1124073472#32) = (((√128)⁻¹ : ℝ) : EReal) := by
  have e : Ideal.ofBits .f32 1124073472#32 = ((128 : ℝ) : EReal) := by
    simp [Ideal.ofBits, Ideal.ieee, -EReal.coe_mul]
    norm_num
  rw [e, Ideal.rsqrt_coe, if_neg (by norm_num), if_neg (by norm_num)]

variable {qf : Fin 16 → Fin 4096 → Fin 8 → Fin 128 → ℝ} {kf : Fin 16 → Fin 2 → ℕ → Fin 128 → ℝ}

/-- The kernel's array is the reference's. -/
theorem tie (hf : Finite m c qf kf) : (Cert.KernelIdeal.Gen.dats m 0 c).arrAt 5 Cert.KernelIdeal.cfg0.N =
    (mixed (both (m ((c : Thread Cert.KernelIdeal.nD Cert.KernelIdeal.τ).loc Cert.KernelIdeal.main_arg2)) (m ((c : Thread Cert.KernelIdeal.nD Cert.KernelIdeal.τ).loc Cert.KernelIdeal.main_arg4)))
      (weights (exps (scores (m ((c : Thread Cert.KernelIdeal.nD Cert.KernelIdeal.τ).loc Cert.KernelIdeal.main_arg0)) (both (m ((c : Thread Cert.KernelIdeal.nD Cert.KernelIdeal.τ).loc Cert.KernelIdeal.main_arg1)) (m ((c : Thread Cert.KernelIdeal.nD Cert.KernelIdeal.τ).loc Cert.KernelIdeal.main_arg3)))))) :
        Cert.ReferenceIdeal.S16x4096x1024.Idx → EReal) := by
  have hs (b : Fin 16) (h : Fin 2) (g : Fin 4) (r : Fin 4096) (s : Fin 4352) :
      (scores (m ((c : Thread Cert.KernelIdeal.nD Cert.KernelIdeal.τ).loc Cert.KernelIdeal.main_arg0)) (both (m ((c : Thread Cert.KernelIdeal.nD Cert.KernelIdeal.τ).loc Cert.KernelIdeal.main_arg1)) (m ((c : Thread Cert.KernelIdeal.nD Cert.KernelIdeal.τ).loc Cert.KernelIdeal.main_arg3))) :
        Cert.ReferenceIdeal.S16x2x4x4096x4352.Idx → EReal) (ix5 b h g r s) =
        (((∑ z : Fin 128, kf b h s.val z * qf b r ⟨h.val * 4 + g.val, by omega⟩ z) * (√128)⁻¹ : ℝ) : EReal) := by
    rw [scores_at, scale, EReal.coe_mul, Softmax.coe_sum]
    refine congrArg (· * _) (Finset.sum_congr rfl fun z _ => ?_)
    rw [both_at, EReal.coe_mul, ← hf.q, ← hf.k]
    rfl
  refine arr_eq hf _ fun b r e => ?_
  have h1 : (⟨e.val / 512 * 4 + e.val / 128 % 4, by omega⟩ : Fin 8) = ⟨e.val / 128, by omega⟩ :=
    Fin.ext (by show e.val / 512 * 4 + e.val / 128 % 4 = e.val / 128; omega)
  refine result_at _ _ (fun i => ?_) b r e
    (fun j => (∑ z : Fin 128, kf b ⟨e.val / 512, by omega⟩ j z * qf b r ⟨e.val / 128, by omega⟩ z) * (√128)⁻¹)
    (wv m c b ⟨e.val / 512, by omega⟩ ⟨e.val % 128, by omega⟩) (fun s => ?_) (fun s => ?_)
  · idx_vars i
    exact ⟨_, hs ..⟩
  · rw [hs, h1]
  · rw [both_at, wv, dif_pos s.isLt]
    rfl

end

end Cert.Tie
-- ==== Proof.Plain.lean ====
module

public import Idealize.ShloMosaic.PureOps.Ideal

/-!
What the projection and the merge compute of one token's row, over the extended reals: the scaled and
modulated row, the logistic function by the hyperbolic tangent, and the mixed branches.
-/

@[expose] public section

noncomputable section

namespace Cert.Plain

open Idealize.ShloMosaic

theorem half : Ideal.ofBits .f32 1056964608#32 = ((1 / 2 : ℝ) : EReal) := by
  simp [Ideal.ofBits, Ideal.ieee, -EReal.coe_mul]
  norm_num

/-- The logistic function is half of one more than the hyperbolic tangent of half its argument. -/
theorem logistic_tanh (x : EReal) :
    Ideal.ofBits .f32 1056964608#32 * Ideal.tanh (Ideal.ofBits .f32 1056964608#32 * x) +
      Ideal.ofBits .f32 1056964608#32 = Ideal.logistic x := by
  rw [half]
  induction x using EReal.rec with
  | bot =>
    rw [EReal.coe_mul_bot_of_pos (by norm_num), Ideal.tanh_bot, Ideal.logistic_bot]
    have h : ((1 / 2 : ℝ) : EReal) * -1 + ((1 / 2 : ℝ) : EReal) = (((1 / 2 : ℝ) * -1 + 1 / 2 : ℝ) : EReal) := by
      push_cast
      rfl
    rw [h]
    norm_num
  | top =>
    rw [EReal.coe_mul_top_of_pos (by norm_num), Ideal.tanh_top, Ideal.logistic_top, mul_one, ← EReal.coe_add]
    norm_num
  | coe a =>
    rw [← EReal.coe_mul, Ideal.tanh_coe, Ideal.logistic_coe, ← EReal.coe_mul, ← EReal.coe_add, EReal.coe_eq_coe_iff,
      Real.tanh_eq_sinh_div_cosh, Real.sinh_eq, Real.cosh_eq]
    have e : Real.exp (-a) = Real.exp (-(1 / 2 * a)) * Real.exp (-(1 / 2 * a)) := by
      rw [← Real.exp_add]
      congr 1
      ring
    have h1 : Real.exp (1 / 2 * a) * Real.exp (-(1 / 2 * a)) = 1 := by rw [← Real.exp_add]; simp
    have hp := Real.exp_pos (1 / 2 * a)
    have hn := Real.exp_pos (-(1 / 2 * a))
    rw [e]
    generalize Real.exp (1 / 2 * a) = p at *
    generalize Real.exp (-(1 / 2 * a)) = n at *
    have : p = n⁻¹ := eq_inv_of_mul_eq_one_left h1
    subst this
    field_simp
    ring

/-- A row over its root mean square (of 1024 numbers and the printed small constant), under a gain, a
    scale and a shift. -/
def modulated (x n sc sh : Fin 1024 → EReal) (e : Fin 1024) : EReal :=
  x e * Ideal.rsqrt (Ideal.div (∑ d, x d * x d) (Ideal.ofBits .f32 1149239296#32) + Ideal.ofBits .f32 897988541#32) *
    n e * (1 + sc e) + sh e

/-- A head of 128 lanes over its root mean square, under a gain. -/
def scaled (x g : Fin 128 → EReal) (e : Fin 128) : EReal :=
  x e * Ideal.rsqrt (Ideal.div (∑ d, x d * x d) (Ideal.ofBits .f32 1124073472#32) + Ideal.ofBits .f32 897988541#32) * g e

/-- Such a head turned by the tables: each lane times the first table's number, and the lane half a head away
    times the second's. -/
def headed (x g cs sn : Fin 128 → EReal) (e : Fin 128) : EReal :=
  scaled x g e * cs e + scaled x g ⟨(e.val + 128 - 64) % 128, by omega⟩ * sn e

theorem headed_lo (x g cs sn : Fin 128 → EReal) (e : Fin 64) : headed x g cs sn ⟨e.val, by omega⟩ =
    scaled x g ⟨e.val, by omega⟩ * cs ⟨e.val, by omega⟩ + scaled x g ⟨64 + e.val, by omega⟩ * sn ⟨e.val, by omega⟩ := by
  have h : (⟨(e.val + 128 - 64) % 128, by omega⟩ : Fin 128) = ⟨64 + e.val, by omega⟩ := Fin.ext (by
    show (e.val + 128 - 64) % 128 = 64 + e.val; omega)
  show _ + scaled x g ⟨(e.val + 128 - 64) % 128, _⟩ * _ = _
  rw [h]

theorem headed_hi (x g cs sn : Fin 128 → EReal) (e : Fin 64) : headed x g cs sn ⟨64 + e.val, by omega⟩ =
    scaled x g ⟨64 + e.val, by omega⟩ * cs ⟨64 + e.val, by omega⟩ + scaled x g ⟨e.val, by omega⟩ * sn ⟨64 + e.val, by omega⟩ := by
  have h : (⟨(64 + e.val + 128 - 64) % 128, by omega⟩ : Fin 128) = ⟨e.val, by omega⟩ := Fin.ext (by
    show (64 + e.val + 128 - 64) % 128 = e.val; omega)
  show _ + scaled x g ⟨(64 + e.val + 128 - 64) % 128, _⟩ * _ = _
  rw [h]

/-- The error unit by the hyperbolic tangent. -/
def gelu (x : EReal) : EReal :=
  Ideal.ofBits .f32 1056964608#32 * x * (1 + Ideal.tanh (Ideal.ofBits .f32 1061962282#32 *
    (x + Ideal.ofBits .f32 1027024659#32 * (x * x * x))))

/-- The branches under their gates, one number of the sum. -/
def mixed (g : Fin 3072 → EReal) (a : Fin 1024 → EReal) (hy lr : Fin 512 → EReal) (wa : Fin 1024 → Fin 1024 → EReal)
    (wh wl : Fin 512 → Fin 1024 → EReal) (e : Fin 1024) : EReal :=
  Ideal.logistic (g ⟨e.val, by omega⟩) * (∑ d, a d * wa d e) +
    Ideal.logistic (g ⟨1024 + e.val, by omega⟩) * (∑ d, hy d * wh d e) +
    Ideal.logistic (g ⟨2048 + e.val, by omega⟩) * (∑ d, lr d * wl d e)

/-- The residual row with the mixed branches projected onto it. -/
def residual (h g1 y : Fin 1024 → EReal) (wo : Fin 1024 → Fin 1024 → EReal) (e : Fin 1024) : EReal :=
  h e + g1 e * ∑ d, y d * wo d e

end Cert.Plain
-- ==== Proof.ProjBody.lean ====
module

public import proofs.«01_k».proof.Proof.Gen.Kernel2Ideal.Value
public import proofs.«01_k».proof.Proof.Plain
public import Idealize.ShloMosaic.Lib.Pointwise
public import Idealize.ShloMosaic.Lib.Tactic
public import Idealize.ShloMosaic.Lib.Pipeline.ValueKit

/-!
What one grid point of the projection leaves in its seven output blocks, of the blocks of its arguments.
-/

@[expose] public section

set_option maxRecDepth 16384

noncomputable section

namespace Cert.Kernel2Ideal.Body

open Cert.Kernel2Ideal Cert.Kernel2Ideal.Gen
open Idealize.ShloMosaic Idealize.ShloMosaic.TcCoe Idealize.SL.Sem

variable (x0 : Vec Ideal S1x512x1024 .f32) (x1 x2 : Vec Ideal S1x1x1024 .f32) (x3 : Vec Ideal S1x1024 .f32)
  (x4 : Vec Ideal S1x1024x7168 .bf16) (x5 x6 : Vec Ideal S512x128 .f32) (x7 x8 : Vec Ideal S1x128 .f32)

/-- The modulated row `r` of the block, and its projection. -/
def uRow (r : Fin 512) : Fin 1024 → EReal :=
  Plain.modulated (fun e => (x0 : S1x512x1024.Idx → EReal) (ix3 0 r e)) (fun e => (x3 : S1x1024.Idx → EReal) (ix2 0 e))
    (fun e => (x2 : S1x1x1024.Idx → EReal) (ix3 0 0 e)) (fun e => (x1 : S1x1x1024.Idx → EReal) (ix3 0 0 e))
def zRow (r : Fin 512) (e : Fin 7168) : EReal :=
  ∑ d, uRow x0 x1 x2 x3 r d * (x4 : S1x1024x7168.Idx → EReal) (ix3 0 d e)

theorem u_at (r : Fin 512) (e : Fin 1024) :
    (k0_pay41 (F := Ideal) x0 x1 x2 x3 x4 x5 x6 x7 x8 : S512x1024.Idx → EReal) (ix2 r e) = uRow x0 x1 x2 x3 r e := by
  have e0 := View.ld_unit_lit (Val := Elt Ideal) inb_S1x512x1024_S1x512x1024_0_0_0 x0 (by decide)
  have e1 := View.ld_unit_lit (Val := Elt Ideal) inb_S1x1x1024_S1x1x1024_0_0_0 x1 (by decide)
  have e2 := View.ld_unit_lit (Val := Elt Ideal) inb_S1x1x1024_S1x1x1024_0_0_0 x2 (by decide)
  have e3 := View.ld_unit_lit (Val := Elt Ideal) inb_S1x1024_S1x1024_0_0 x3 (by decide)
  unfold k0_pay41
  rw [e0, e1, e2, e3]
  unfold k0_pay2
  pointwise
  rfl

theorem cs_eq : k0_pay42 (F := Ideal) x0 x1 x2 x3 x4 x5 x6 x7 x8 = x5 := by
  have e5 := View.ld_unit_lit (Val := Elt Ideal) inb_S512x128_S512x128_0_0 x5 (by decide)
  unfold k0_pay42
  rw [e5]
  funext i
  idx_vars i
  unfold k0_pay3
  pointwise

theorem sn_eq : k0_pay43 (F := Ideal) x0 x1 x2 x3 x4 x5 x6 x7 x8 = x6 := by
  have e6 := View.ld_unit_lit (Val := Elt Ideal) inb_S512x128_S512x128_0_0 x6 (by decide)
  unfold k0_pay43
  rw [e6]
  funext i
  idx_vars i
  unfold k0_pay4
  pointwise

theorem zq_at (r : Fin 512) (e : Fin 1024) :
    (k0_pay44 (F := Ideal) x0 x1 x2 x3 x4 x5 x6 x7 x8 : S512x1024.Idx → EReal) (ix2 r e) =
      zRow x0 x1 x2 x3 x4 r ⟨e.val, by omega⟩ := by
  unfold zRow
  simp only [← u_at x0 x1 x2 x3 x4 x5 x6 x7 x8]
  unfold k0_pay44 k0_pay5 k0_pay41
  pointwise

theorem zkv_at (r : Fin 512) (e : Fin 512) :
    (k0_pay45 (F := Ideal) x0 x1 x2 x3 x4 x5 x6 x7 x8 : S512x512.Idx → EReal) (ix2 r e) =
      zRow x0 x1 x2 x3 x4 r ⟨1024 + e.val, by omega⟩ := by
  unfold zRow
  simp only [← u_at x0 x1 x2 x3 x4 x5 x6 x7 x8]
  unfold k0_pay45 k0_pay24
  pointwise

theorem zq0_eq : k0_pay6 (F := Ideal) (View.ld x0 r0_0) (View.ld x3 r0_1) (View.ld x2 r0_2) (View.ld x1 r0_2)
    (View.ld x4 r0_4) = extractStridedSlice S512x128 ![0, 0] (k0_pay44 (F := Ideal) x0 x1 x2 x3 x4 x5 x6 x7 x8)
      slices_S512x1024_o0_0_S512x128 := rfl

/-- The queries' block. -/
theorem q_blk (a : Fin 1) (j : Fin 8) (r : Fin 512) (e : Fin 128) :
    (out0_9 (F := Ideal) x0 x1 x2 x3 x4 x5 x6 x7 x8 : S1x8x512x128.Idx → EReal) (ix4 a j r e) =
      Plain.headed (fun e => zRow x0 x1 x2 x3 x4 r ⟨j.val * 128 + e.val, by omega⟩)
        (fun e => (x7 : S1x128.Idx → EReal) (ix2 0 e)) (fun e => (x5 : S512x128.Idx → EReal) (ix2 r e))
        (fun e => (x6 : S512x128.Idx → EReal) (ix2 r e)) e := by
  have e7 := View.ld_unit_lit (Val := Elt Ideal) inb_S1x128_S1x128_0_0 x7 (by decide)
  unfold out0_9
  rw [cs_eq, sn_eq, e7, zq0_eq x0 x1 x2 x3 x4 x5 x6 x7 x8]
  canon_tiles y h
  all_goals (idx_vars y; obtain rfl : r = y2 := Fin.ext h2; obtain rfl : e = y3 := Fin.ext h3)
  · obtain rfl : j = 7 := Fin.ext (by show j.val = 7; omega)
    unfold k0_pay23 k0_pay22 k0_pay21 k0_pay20
    pointwise
    simp only [zq_at]
    rfl
  · obtain rfl : j = 6 := Fin.ext (by show j.val = 6; omega)
    unfold k0_pay19
    pointwise
    simp only [zq_at]
    rfl
  · obtain rfl : j = 5 := Fin.ext (by show j.val = 5; omega)
    unfold k0_pay18 k0_pay17 k0_pay16 k0_pay15
    pointwise
    simp only [zq_at]
    rfl
  · obtain rfl : j = 4 := Fin.ext (by show j.val = 4; omega)
    unfold k0_pay14
    pointwise
    simp only [zq_at]
    rfl
  · obtain rfl : j = 3 := Fin.ext (by show j.val = 3; omega)
    unfold k0_pay13 k0_pay12 k0_pay11
    pointwise
    simp only [zq_at]
    rfl
  · obtain rfl : j = 2 := Fin.ext (by show j.val = 2; omega)
    unfold k0_pay10
    pointwise
    simp only [zq_at]
    rfl
  · obtain rfl : j = 1 := Fin.ext (by show j.val = 1; omega)
    unfold k0_pay9 k0_pay8
    pointwise
    simp only [zq_at]
    rfl
  · obtain rfl : j = 0 := Fin.ext (by show j.val = 0; omega)
    unfold k0_pay7
    pointwise
    simp only [zq_at]
    rfl

/-- The keys' block. -/
theorem k_blk (a : Fin 1) (j : Fin 2) (r : Fin 512) (e : Fin 128) :
    (out0_10 (F := Ideal) x0 x1 x2 x3 x4 x5 x6 x7 x8 : S1x512x256.Idx → EReal) (ix3 a r ⟨j.val * 128 + e.val, by omega⟩) =
      Plain.headed (fun e => zRow x0 x1 x2 x3 x4 r ⟨1024 + (j.val * 128 + e.val), by omega⟩)
        (fun e => (x8 : S1x128.Idx → EReal) (ix2 0 e)) (fun e => (x5 : S512x128.Idx → EReal) (ix2 r e))
        (fun e => (x6 : S512x128.Idx → EReal) (ix2 r e)) e := by
  have e8 := View.ld_unit_lit (Val := Elt Ideal) inb_S1x128_S1x128_0_0 x8 (by decide)
  have z0 : k0_pay24 (F := Ideal) (k0_pay41 x0 x1 x2 x3 x4 x5 x6 x7 x8) (View.ld x4 r0_14) =
    k0_pay45 x0 x1 x2 x3 x4 x5 x6 x7 x8 := rfl
  unfold out0_10 k0_pay25
  rw [cs_eq, sn_eq, e8, z0]
  canon_tiles y h
  all_goals (idx_vars y; obtain rfl : r = y1 := Fin.ext h1)
  · obtain rfl : j = 1 := Fin.ext (by show j.val = 1; omega)
    obtain rfl : e = y2 := Fin.ext (by omega)
    unfold k0_pay27
    pointwise
    simp only [zkv_at]
    rfl
  · obtain rfl : j = 0 := Fin.ext (by show j.val = 0; omega)
    obtain rfl : e = y2 := Fin.ext (by omega)
    unfold k0_pay26
    pointwise
    simp only [zkv_at]
    rfl

/-- The values' block. -/
theorem v_blk (a : Fin 1) (r : Fin 512) (e : Fin 256) :
    (out0_11 (F := Ideal) x0 x1 x2 x3 x4 x5 x6 x7 x8 : S1x512x256.Idx → EReal) (ix3 a r e) =
      zRow x0 x1 x2 x3 x4 r ⟨1280 + e.val, by omega⟩ := by
  unfold out0_11
  rw [View.canon_cons_unit_lit (Val := Elt Ideal) _ _ _ (by decide)]
  unfold k0_pay28
  pointwise
  rw [zkv_at]
  exact congrArg _ (Fin.ext (by show 1024 + (256 + e.val) = 1280 + e.val; omega))

/-- The long convolution's block. -/
theorem hy_blk (a : Fin 1) (r : Fin 512) (e : Fin 1536) :
    (out0_12 (F := Ideal) x0 x1 x2 x3 x4 x5 x6 x7 x8 : S1x512x1536.Idx → EReal) (ix3 a r e) =
      zRow x0 x1 x2 x3 x4 r ⟨1536 + e.val, by omega⟩ := by
  unfold zRow
  simp only [← u_at x0 x1 x2 x3 x4 x5 x6 x7 x8]
  unfold out0_12
  canon_tiles y h
  all_goals (idx_vars y; obtain rfl : r = y1 := Fin.ext h1)
  · have hb : 1024 + y2.val < 1536 := by clear h2; omega
    obtain rfl : e = ⟨1024 + y2.val, hb⟩ := Fin.ext h2
    have he : (⟨1536 + (1024 + y2.val), by omega⟩ : Fin 7168) = ⟨2560 + y2.val, by omega⟩ :=
      Fin.ext (by show 1536 + (1024 + y2.val) = 2560 + y2.val; omega)
    rw [he]
    unfold k0_pay31
    pointwise
  · have hb : 512 + y2.val < 1536 := by clear h2; omega
    obtain rfl : e = ⟨512 + y2.val, hb⟩ := Fin.ext h2
    have he : (⟨1536 + (512 + y2.val), by omega⟩ : Fin 7168) = ⟨2048 + y2.val, by omega⟩ :=
      Fin.ext (by show 1536 + (512 + y2.val) = 2048 + y2.val; omega)
    rw [he]
    unfold k0_pay30
    pointwise
  · have hb : y2.val < 1536 := by clear h2; omega
    obtain rfl : e = ⟨y2.val, hb⟩ := Fin.ext h2
    unfold k0_pay29
    pointwise

/-- The recurrence's block, and its gate's. -/
theorem rx_blk (a : Fin 1) (r : Fin 512) (e : Fin 512) :
    (out0_13 (F := Ideal) x0 x1 x2 x3 x4 x5 x6 x7 x8 : S1x512x512.Idx → EReal) (ix3 a r e) =
      zRow x0 x1 x2 x3 x4 r ⟨3072 + e.val, by omega⟩ := by
  unfold zRow
  simp only [← u_at x0 x1 x2 x3 x4 x5 x6 x7 x8]
  unfold out0_13
  rw [View.canon_cons_unit_lit (Val := Elt Ideal) _ _ _ (by decide)]
  unfold k0_pay33 k0_pay32
  pointwise

theorem rg_at (r : Fin 512) (e : Fin 512) :
    (k0_pay34 (F := Ideal) (k0_pay41 x0 x1 x2 x3 x4 x5 x6 x7 x8) (View.ld x4 r0_24) : S512x512.Idx → EReal) (ix2 r e) =
      zRow x0 x1 x2 x3 x4 r ⟨3584 + e.val, by omega⟩ := by
  have he : (⟨3584 + e.val, by omega⟩ : Fin 7168) = ⟨3072 + (512 + e.val), by omega⟩ :=
    Fin.ext (by show 3584 + e.val = 3072 + (512 + e.val); omega)
  unfold zRow
  simp only [← u_at x0 x1 x2 x3 x4 x5 x6 x7 x8]
  rw [he]
  unfold k0_pay34 k0_pay32
  pointwise

theorem rg_blk (a : Fin 1) (r : Fin 512) (e : Fin 512) :
    (out0_14 (F := Ideal) x0 x1 x2 x3 x4 x5 x6 x7 x8 : S1x512x512.Idx → EReal) (ix3 a r e) =
      Plain.gelu (zRow x0 x1 x2 x3 x4 r ⟨3584 + e.val, by omega⟩) := by
  unfold out0_14
  rw [View.canon_cons_unit_lit (Val := Elt Ideal) _ _ _ (by decide)]
  unfold k0_pay37 k0_pay36 k0_pay35
  pointwise
  rw [rg_at]
  rfl

/-- The gates' block. -/
theorem gate_blk (a : Fin 1) (r : Fin 512) (e : Fin 3072) :
    (out0_15 (F := Ideal) x0 x1 x2 x3 x4 x5 x6 x7 x8 : S1x512x3072.Idx → EReal) (ix3 a r e) =
      zRow x0 x1 x2 x3 x4 r ⟨4096 + e.val, by omega⟩ := by
  unfold zRow
  simp only [← u_at x0 x1 x2 x3 x4 x5 x6 x7 x8]
  unfold out0_15
  canon_tiles y h
  all_goals (idx_vars y; obtain rfl : r = y1 := Fin.ext h1)
  · have hb : 2048 + y2.val < 3072 := by clear h2; omega
    obtain rfl : e = ⟨2048 + y2.val, hb⟩ := Fin.ext h2
    have he : (⟨4096 + (2048 + y2.val), by omega⟩ : Fin 7168) = ⟨6144 + y2.val, by omega⟩ :=
      Fin.ext (by show 4096 + (2048 + y2.val) = 6144 + y2.val; omega)
    rw [he]
    unfold k0_pay1 k0_pay40
    pointwise
  · have hb : 1024 + y2.val < 3072 := by clear h2; omega
    obtain rfl : e = ⟨1024 + y2.val, hb⟩ := Fin.ext h2
    have he : (⟨4096 + (1024 + y2.val), by omega⟩ : Fin 7168) = ⟨5120 + y2.val, by omega⟩ :=
      Fin.ext (by show 4096 + (1024 + y2.val) = 5120 + y2.val; omega)
    rw [he]
    unfold k0_pay39
    pointwise
  · have hb : y2.val < 3072 := by clear h2; omega
    obtain rfl : e = ⟨y2.val, hb⟩ := Fin.ext h2
    unfold k0_pay38
    pointwise

end Cert.Kernel2Ideal.Body
-- ==== Proof.ProjArr.lean ====
module

public import proofs.«01_k».proof.Proof.ProjBody

/-!
The projection's seven result arrays.  Point `t` of the 128 is batch `t / 8` and token block `t % 8`; an
array is any function that has, at every batch and token, that token's row.
-/

@[expose] public section

set_option maxRecDepth 16384

noncomputable section

namespace Cert.Kernel2Ideal.Arr

open Cert.Kernel2Ideal Cert.Kernel2Ideal.Gen Cert.Kernel2Ideal.Body
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, 0, 0] :=
  (by decide +kernel : ∀ t : Fin grid0.N, win0_1.index t = ![t.val / 8, 0, 0])
theorem idx2 : ∀ t : Fin cfg0.N, win0_2.index t = ![t.val / 8, 0, 0] :=
  (by decide +kernel : ∀ t : Fin grid0.N, win0_2.index t = ![t.val / 8, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![1, 0, 0] :=
  (by decide +kernel : ∀ t : Fin grid0.N, win0_4.index t = ![1, 0, 0])
theorem idx5 : ∀ t : Fin cfg0.N, win0_5.index t = ![t.val % 8, 0] :=
  (by decide +kernel : ∀ t : Fin grid0.N, win0_5.index t = ![t.val % 8, 0])
theorem idx6 : ∀ t : Fin cfg0.N, win0_6.index t = ![t.val % 8, 0] :=
  (by decide +kernel : ∀ t : Fin grid0.N, win0_6.index t = ![t.val % 8, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val / 8, 0, t.val % 8, 0] :=
  (by decide +kernel : ∀ t : Fin grid0.N, win0_9.index t = ![t.val / 8, 0, t.val % 8, 0])
theorem idx10 : ∀ t : Fin cfg0.N, win0_10.index t = ![t.val / 8, t.val % 8, 0] :=
  (by decide +kernel : ∀ t : Fin grid0.N, win0_10.index t = ![t.val / 8, t.val % 8, 0])
theorem idx11 : ∀ t : Fin cfg0.N, win0_11.index t = ![t.val / 8, t.val % 8, 0] :=
  (by decide +kernel : ∀ t : Fin grid0.N, win0_11.index t = ![t.val / 8, t.val % 8, 0])
theorem idx12 : ∀ t : Fin cfg0.N, win0_12.index t = ![t.val / 8, t.val % 8, 0] :=
  (by decide +kernel : ∀ t : Fin grid0.N, win0_12.index t = ![t.val / 8, t.val % 8, 0])
theorem idx13 : ∀ t : Fin cfg0.N, win0_13.index t = ![t.val / 8, t.val % 8, 0] :=
  (by decide +kernel : ∀ t : Fin grid0.N, win0_13.index t = ![t.val / 8, t.val % 8, 0])
theorem idx14 : ∀ t : Fin cfg0.N, win0_14.index t = ![t.val / 8, t.val % 8, 0] :=
  (by decide +kernel : ∀ t : Fin grid0.N, win0_14.index t = ![t.val / 8, t.val % 8, 0])
theorem idx15 : ∀ t : Fin cfg0.N, win0_15.index t = ![t.val / 8, t.val % 8, 0] :=
  (by decide +kernel : ∀ t : Fin grid0.N, win0_15.index t = ![t.val / 8, t.val % 8, 0])

/-- The arguments' rows: the residual stream of a token; the modulation of a batch; the gains; the layer's
    weights; the tables of the turning. -/
abbrev res (b : Fin 16) (r : Fin 4096) (e : Fin 1024) : EReal :=
  (m ((c : Thread nD τ).loc main_arg0) : S16x4096x1024.Idx → EReal) (ix3 b r e)
abbrev sh1 (b : Fin 16) (e : Fin 1024) : EReal :=
  (m ((c : Thread nD τ).loc main_arg1) : S16x1x1024.Idx → EReal) (ix3 b 0 e)
abbrev sc1 (b : Fin 16) (e : Fin 1024) : EReal :=
  (m ((c : Thread nD τ).loc main_arg2) : S16x1x1024.Idx → EReal) (ix3 b 0 e)
abbrev n1 (e : Fin 1024) : EReal := (m ((c : Thread nD τ).loc main_arg3) : S1024.Idx → EReal) (ix1 e)
abbrev wi (d : Fin 1024) (e : Fin 7168) : EReal :=
  (m ((c : Thread nD τ).loc main_arg4) : S4x1024x7168.Idx → EReal) (ix3 1 d e)
abbrev qg (e : Fin 128) : EReal := (m ((c : Thread nD τ).loc main_arg5) : S128.Idx → EReal) (ix1 e)
abbrev kg (e : Fin 128) : EReal := (m ((c : Thread nD τ).loc main_arg6) : S128.Idx → EReal) (ix1 e)
abbrev csT (r : Fin 4096) (e : Fin 128) : EReal := (V m c main_v26 : S4096x128.Idx → EReal) (ix2 r e)
abbrev snT (r : Fin 4096) (e : Fin 128) : EReal := (V m c main_v28 : S4096x128.Idx → EReal) (ix2 r e)

theorem lt_t (t : Fin cfg0.N) : t.val < 128 := t.isLt

/-- Point `t`'s batch, and the token `r` of its block. -/
def bat (t : Fin cfg0.N) : Fin 16 := ⟨t.val / 8, by have := lt_t t; omega⟩
def row (t : Fin cfg0.N) (r : Fin 512) : Fin 4096 := ⟨t.val % 8 * 512 + r.val, by omega⟩

theorem res_at (t : Fin cfg0.N) (a : Fin 1) (r : Fin 512) (e : Fin 1024) :
    (iblk m c 0 t : S1x512x1024.Idx → EReal) (ix3 a r e) = res m c (bat t) (row t r) e := by
  have h : (iblk m c 0 t : S1x512x1024.Idx → EReal) (ix3 a r e) = V m c main_arg0 (ix3 (bat t) (row t r) e) := by
    blk_ext [iblk, idx0 t, bat, row]
  rw [h]
  rw [V_main_arg0]

/-- A batch's row of the modulation, padded to 24 rows. -/
theorem padded_at (x : FVec Ideal S16x1x1024 .f32) (z : FVec Ideal S_ .f32) (b : Fin 16) (e : Fin 1024) :
    (pad S24x1x1024 ![0, 0, 0] ![8, 0, 0] ![0, 0, 0] x z pads_S16x1x1024_S24x1x1024_080_000_000 h_S_ :
      S24x1x1024.Idx → EReal) (ix3 ⟨b.val, by omega⟩ 0 e) = x (ix3 b 0 e) := by
  pointwise

theorem V_sh1 (b : Fin 16) (e : Fin 1024) :
    (V m c main_v29 : S24x1x1024.Idx → EReal) (ix3 ⟨b.val, by omega⟩ 0 e) = sh1 m c b e := by
  have h : V m c main_v29 = (pad S24x1x1024 ![0, 0, 0] ![8, 0, 0] ![0, 0, 0]
    (m ((c : Thread nD τ).loc main_arg1) : FVec Ideal S16x1x1024 .f32) (sitofp .f32 (constantI S_ 32 0#32) : FVec Ideal S_ .f32)
      pads_S16x1x1024_S24x1x1024_080_000_000 h_S_ : FVec Ideal S24x1x1024 .f32) := by rfl
  rw [h]
  exact padded_at _ _ b e

theorem sh1_at (t : Fin cfg0.N) (a b : Fin 1) (e : Fin 1024) :
    (iblk m c 1 t : S1x1x1024.Idx → EReal) (ix3 a b e) = sh1 m c (bat t) e := by
  rw [← V_sh1]
  blk_ext [iblk, idx1 t, bat]

theorem V_sc1 (b : Fin 16) (e : Fin 1024) :
    (V m c main_v30 : S24x1x1024.Idx → EReal) (ix3 ⟨b.val, by omega⟩ 0 e) = sc1 m c b e := by
  have h : V m c main_v30 = (pad S24x1x1024 ![0, 0, 0] ![8, 0, 0] ![0, 0, 0]
    (m ((c : Thread nD τ).loc main_arg2) : FVec Ideal S16x1x1024 .f32) (sitofp .f32 (constantI S_ 32 0#32) : FVec Ideal S_ .f32)
      pads_S16x1x1024_S24x1x1024_080_000_000 h_S_ : FVec Ideal S24x1x1024 .f32) := by rfl
  rw [h]
  exact padded_at _ _ b e

theorem sc1_at (t : Fin cfg0.N) (a b : Fin 1) (e : Fin 1024) :
    (iblk m c 2 t : S1x1x1024.Idx → EReal) (ix3 a b e) = sc1 m c (bat t) e := by
  rw [← V_sc1]
  blk_ext [iblk, idx2 t, bat]

theorem wi_at (t : Fin cfg0.N) (a : Fin 1) (d : Fin 1024) (e : Fin 7168) :
    (iblk m c 4 t : S1x1024x7168.Idx → EReal) (ix3 a d e) = wi m c d e := by
  have h : (iblk m c 4 t : S1x1024x7168.Idx → EReal) (ix3 a d e) = V m c main_v32 (ix3 1 d e) := by
    blk_ext [iblk, idx4 t]
  rw [h]
  rfl

theorem cs_at (t : Fin cfg0.N) (r : Fin 512) (e : Fin 128) :
    (iblk m c 5 t : S512x128.Idx → EReal) (ix2 r e) = csT m c (row t r) e := by
  blk_ext [iblk, idx5 t, row]

theorem sn_at (t : Fin cfg0.N) (r : Fin 512) (e : Fin 128) :
    (iblk m c 6 t : S512x128.Idx → EReal) (ix2 r e) = snT m c (row t r) e := by
  blk_ext [iblk, idx6 t, row]

theorem n1_at (t : Fin cfg0.N) (a : Fin 1) (e : Fin 1024) : (iblk m c 3 t : S1x1024.Idx → EReal) (ix2 a e) = n1 m c e := by
  have h : (iblk m c 3 t : S1x1024.Idx → EReal) (ix2 a e) = V m c main_v31 (ix2 a e) := by
    blk_ext [iblk, idx3 t]
  have h' : (V m c main_v31 : FVec Ideal S1x1024 .f32) = broadcastInDim S1x1024 ![1] bcast_S1024_S1x1024_1
    (m ((c : Thread nD τ).loc main_arg3) : FVec Ideal S1024 .f32) := by rfl
  rw [h, h']
  pointwise

theorem qg_at (t : Fin cfg0.N) (a : Fin 1) (e : Fin 128) : (iblk m c 7 t : S1x128.Idx → EReal) (ix2 a e) = qg m c e := by
  have h : (iblk m c 7 t : S1x128.Idx → EReal) (ix2 a e) = V m c main_v33 (ix2 a e) := by
    blk_ext [iblk, idx7 t]
  have h' : (V m c main_v33 : FVec Ideal S1x128 .f32) = broadcastInDim S1x128 ![1] bcast_S128_S1x128_1
    (m ((c : Thread nD τ).loc main_arg5) : FVec Ideal S128 .f32) := by rfl
  rw [h, h']
  pointwise

theorem kg_at (t : Fin cfg0.N) (a : Fin 1) (e : Fin 128) : (iblk m c 8 t : S1x128.Idx → EReal) (ix2 a e) = kg m c e := by
  have h : (iblk m c 8 t : S1x128.Idx → EReal) (ix2 a e) = V m c main_v34 (ix2 a e) := by
    blk_ext [iblk, idx8 t]
  have h' : (V m c main_v34 : FVec Ideal S1x128 .f32) = broadcastInDim S1x128 ![1] bcast_S128_S1x128_1
    (m ((c : Thread nD τ).loc main_arg6) : FVec Ideal S128 .f32) := by rfl
  rw [h, h']
  pointwise

/-- A token's modulated row, and its projection. -/
def uTok (b : Fin 16) (r : Fin 4096) : Fin 1024 → EReal :=
  Plain.modulated (res m c b r) (n1 m c) (sc1 m c b) (sh1 m c b)
def zTok (b : Fin 16) (r : Fin 4096) (e : Fin 7168) : EReal := ∑ d, uTok m c b r d * wi m c d e

/-- A token's query head, and its key head. -/
def qTok (b : Fin 16) (r : Fin 4096) (j : Fin 8) : Fin 128 → EReal :=
  Plain.headed (fun e => zTok m c b r ⟨j.val * 128 + e.val, by omega⟩) (qg m c) (csT m c r) (snT m c r)
def kTok (b : Fin 16) (r : Fin 4096) (j : Fin 2) : Fin 128 → EReal :=
  Plain.headed (fun e => zTok m c b r ⟨1024 + (j.val * 128 + e.val), by omega⟩) (kg m c) (csT m c r) (snT m c r)

theorem zRow_at (t : Fin cfg0.N) (r : Fin 512) :
    zRow (iblk m c 0 t) (iblk m c 1 t) (iblk m c 2 t) (iblk m c 3 t) (iblk m c 4 t) r = zTok m c (bat t) (row t r) := by
  funext e
  unfold zRow zTok uRow uTok
  simp only [res_at, sh1_at, sc1_at, n1_at, wi_at]

/-- The queries. -/
theorem q_arr (G : S16x8x4096x128.Idx → EReal) (hG : ∀ b j r e, G (ix4 b j r e) = qTok m c b r j e) :
    (dats m 0 c).arrAt 9 cfg0.N = G := by
  refine (dats m 0 c).arrAt_eq_of_covers 9 _ (by decide +kernel) fun t hfl y => ?_
  blk_simp
  rw [after0_9]
  idx_vars y
  have he : (win0_9.blk t).view.emb (ix4 y0 y1 y2 y3) = ix4 (bat t) y1 (row t y2) y3 := by
    blk_ext [idx9 t, bat, row]
  rw [he, q_blk, hG]
  simp only [zRow_at, qg_at, cs_at, sn_at]
  rfl

/-- The keys. -/
theorem k_arr (G : S16x4096x256.Idx → EReal)
    (hG : ∀ b r (j : Fin 2) (e : Fin 128), G (ix3 b r ⟨j.val * 128 + e.val, by omega⟩) = kTok m c b r j e) :
    (dats m 0 c).arrAt 10 cfg0.N = G := by
  refine (dats m 0 c).arrAt_eq_of_covers 10 _ (by decide +kernel) fun t hfl y => ?_
  blk_simp
  rw [after0_10]
  idx_vars y
  have hy : y2 = ⟨(⟨y2.val / 128, by omega⟩ : Fin 2).val * 128 + (⟨y2.val % 128, by omega⟩ : Fin 128).val, by
      show y2.val / 128 * 128 + y2.val % 128 < 256; omega⟩ := Fin.ext (by
    show y2.val = y2.val / 128 * 128 + y2.val % 128; omega)
  have he : (win0_10.blk t).view.emb (ix3 y0 y1 y2) = ix3 (bat t) (row t y1) y2 := by
    blk_ext [idx10 t, bat, row]
  rw [he, hy, k_blk, hG]
  simp only [zRow_at, kg_at, cs_at, sn_at]
  rfl

/-- The values. -/
theorem v_arr (G : S16x4096x256.Idx → EReal) (hG : ∀ b r (e : Fin 256), G (ix3 b r e) = zTok m c b r ⟨1280 + e.val, by omega⟩) :
    (dats m 0 c).arrAt 11 cfg0.N = G := by
  refine (dats m 0 c).arrAt_eq_of_covers 11 _ (by decide +kernel) fun t hfl y => ?_
  blk_simp
  rw [after0_11]
  idx_vars y
  have he : (win0_11.blk t).view.emb (ix3 y0 y1 y2) = ix3 (bat t) (row t y1) y2 := by
    blk_ext [idx11 t, bat, row]
  rw [he, v_blk, zRow_at, hG]

/-- What the long convolution reads. -/
theorem hy_arr (G : S16x4096x1536.Idx → EReal) (hG : ∀ b r (e : Fin 1536), G (ix3 b r e) = zTok m c b r ⟨1536 + e.val, by omega⟩) :
    (dats m 0 c).arrAt 12 cfg0.N = G := by
  refine (dats m 0 c).arrAt_eq_of_covers 12 _ (by decide +kernel) fun t hfl y => ?_
  blk_simp
  rw [after0_12]
  idx_vars y
  have he : (win0_12.blk t).view.emb (ix3 y0 y1 y2) = ix3 (bat t) (row t y1) y2 := by
    blk_ext [idx12 t, bat, row]
  rw [he, hy_blk, zRow_at, hG]

/-- What the recurrence reads, and its gate. -/
theorem rx_arr (G : S16x4096x512.Idx → EReal) (hG : ∀ b r (e : Fin 512), G (ix3 b r e) = zTok m c b r ⟨3072 + e.val, by omega⟩) :
    (dats m 0 c).arrAt 13 cfg0.N = G := by
  refine (dats m 0 c).arrAt_eq_of_covers 13 _ (by decide +kernel) fun t hfl y => ?_
  blk_simp
  rw [after0_13]
  idx_vars y
  have he : (win0_13.blk t).view.emb (ix3 y0 y1 y2) = ix3 (bat t) (row t y1) y2 := by
    blk_ext [idx13 t, bat, row]
  rw [he, rx_blk, zRow_at, hG]

theorem rg_arr (G : S16x4096x512.Idx → EReal) (hG : ∀ b r (e : Fin 512), G (ix3 b r e) = Plain.gelu (zTok m c b r ⟨3584 + e.val, by omega⟩)) :
    (dats m 0 c).arrAt 14 cfg0.N = G := by
  refine (dats m 0 c).arrAt_eq_of_covers 14 _ (by decide +kernel) fun t hfl y => ?_
  blk_simp
  rw [after0_14]
  idx_vars y
  have he : (win0_14.blk t).view.emb (ix3 y0 y1 y2) = ix3 (bat t) (row t y1) y2 := by
    blk_ext [idx14 t, bat, row]
  rw [he, rg_blk, zRow_at, hG]

/-- The branches' gates. -/
theorem gate_arr (G : S16x4096x3072.Idx → EReal) (hG : ∀ b r (e : Fin 3072), G (ix3 b r e) = zTok m c b r ⟨4096 + e.val, by omega⟩) :
    (dats m 0 c).arrAt 15 cfg0.N = G := by
  refine (dats m 0 c).arrAt_eq_of_covers 15 _ (by decide +kernel) fun t hfl y => ?_
  blk_simp
  rw [after0_15]
  idx_vars y
  have he : (win0_15.blk t).view.emb (ix3 y0 y1 y2) = ix3 (bat t) (row t y1) y2 := by
    blk_ext [idx15 t, bat, row]
  rw [he, gate_blk, zRow_at, hG]

end Cert.Kernel2Ideal.Arr
-- ==== Proof.ProjRef.lean ====
module

public import proofs.«01_k».proof.Proof.Gen.Reference2Ideal.Run
public import proofs.«01_k».proof.Proof.Plain
public import Idealize.ShloMosaic.Lib.Pointwise
public import Idealize.ShloMosaic.Lib.Tactic

/-!
The projection's reference, an array at a time: the modulated stream, its projection, the turned heads and
the gated part.
-/

@[expose] public section

set_option maxRecDepth 16384

noncomputable section

namespace Cert.Reference2Ideal.Refer

open Cert.Reference2Ideal Cert.Reference2Ideal.Gen
open Idealize.ShloMosaic Idealize.ShloMosaic.TcCoe Idealize.SL.Sem

variable (x : FVec Ideal S16x4096x1024 .f32) (sh sc : FVec Ideal S16x1x1024 .f32) (n : FVec Ideal S1024 .f32)
  (w : FVec Ideal S4x1024x7168 .f32) (g : FVec Ideal S128 .f32) (z : FVec Ideal S16x4096x7168 .f32)

/-- A token's mean square and the small constant, under the inverse square root. -/
def inv : FVec Ideal S16x4096x1 .f32 :=
  Host.rsqrt (addf (Host.divf (broadcastInDim S16x4096x1 ![0, 1] bcast_S16x4096_S16x4096x1_0_1
      (Host.reduceAdd (mulf x x) (constant S_ .f32 0x00000000#32) reducesTo_S16x4096x1024_S16x4096_d2 h_S_))
      (broadcastInDim S16x4096x1 ![] bcast_S_S16x4096x1 (constant S_ .f32 0x44800000#32)))
    (broadcastInDim S16x4096x1 ![] bcast_S_S16x4096x1 (constant S_ .f32 0x358637BD#32)))

/-- The modulated stream. -/
def modul : FVec Ideal S16x4096x1024 .f32 :=
  addf (mulf (mulf (mulf x (broadcastInDim S16x4096x1024 ![0, 1, 2] bcast_S16x4096x1_S16x4096x1024_0_1_2 (inv x)))
      (broadcastInDim S16x4096x1024 ![0, 1, 2] bcast_S1x1x1024_S16x4096x1024_0_1_2
        (broadcastInDim S1x1x1024 ![2] bcast_S1024_S1x1x1024_2 n)))
      (broadcastInDim S16x4096x1024 ![0, 1, 2] bcast_S16x1x1024_S16x4096x1024_0_1_2
        (addf (broadcastInDim S16x1x1024 ![] bcast_S_S16x1x1024 (constant S_ .f32 0x3F800000#32)) sc)))
    (broadcastInDim S16x4096x1024 ![0, 1, 2] bcast_S16x1x1024_S16x4096x1024_0_1_2 sh)

/-- Its projection by the layer's weights. -/
def proj (u : FVec Ideal S16x4096x1024 .f32) : FVec Ideal S16x4096x7168 .f32 :=
  Host.dotGeneral dot_S16x4096x1024_S1024x7168_S16x4096x7168_2_0_01_1_n_n none u
    (shapeCast _ (extractStridedSlice S1x1024x7168 ![1, 0, 0] w slices_S4x1024x7168_S1x1024x7168_1_0_0)
      shapeCasts_S1x1024x7168_S1024x7168)

theorem modul_at (b : Fin 16) (r : Fin 4096) (e : Fin 1024) :
    (modul x sh sc n : S16x4096x1024.Idx → EReal) (ix3 b r e) =
      Plain.modulated (fun e => x (ix3 b r e)) (fun e => n (ix1 e)) (fun e => sc (ix3 b 0 e)) (fun e => sh (ix3 b 0 e)) e := by
  unfold modul inv
  pointwise
  rfl

theorem proj_at (u : FVec Ideal S16x4096x1024 .f32) (b : Fin 16) (r : Fin 4096) (e : Fin 7168) :
    (proj w u : S16x4096x7168.Idx → EReal) (ix3 b r e) = ∑ d : Fin 1024, (u (ix3 b r d) * w (ix3 1 d e) : EReal) := by
  unfold proj
  pointwise

/-- The angles of the positions: of a token's row on the grid the first 32, of its column the others. -/
def ang : FVec Ideal S4096x64 .f32 :=
  concatenate S4096x64 1 [⟨S4096x32, mulf
      (broadcastInDim S4096x32 ![0, 1] bcast_S4096x1_S4096x32_0_1 (broadcastInDim S4096x1 ![0] bcast_S4096_S4096x1_0
        (shapeCast _ (broadcastInDim S64x64 ![0] bcast_S64_S64x64_0 (sitofp .f32 (iotaInDim S64 32 0))) shapeCasts_S64x64_S4096)))
      (broadcastInDim S4096x32 ![0, 1] bcast_S1x32_S4096x32_0_1 (broadcastInDim S1x32 ![1] bcast_S32_S1x32_1
        (Host.powf (broadcastInDim S32 ![] bcast_S_S32 (constant S_ .f32 0x461C4000#32))
          (Host.divf (Host.negf (sitofp .f32 (iotaInDim S32 32 0)))
            (broadcastInDim S32 ![] bcast_S_S32 (constant S_ .f32 0x42000000#32))))))⟩,
    ⟨S4096x32, mulf
      (broadcastInDim S4096x32 ![0, 1] bcast_S4096x1_S4096x32_0_1 (broadcastInDim S4096x1 ![0] bcast_S4096_S4096x1_0
        (shapeCast _ (broadcastInDim S64x64 ![0, 1] bcast_S1x64_S64x64_0_1
          (shapeCast _ (sitofp .f32 (iotaInDim S64 32 0)) shapeCasts_S64_S1x64)) shapeCasts_S64x64_S4096)))
      (broadcastInDim S4096x32 ![0, 1] bcast_S1x32_S4096x32_0_1 (broadcastInDim S1x32 ![1] bcast_S32_S1x32_1
        (Host.powf (broadcastInDim S32 ![] bcast_S_S32 (constant S_ .f32 0x461C4000#32))
          (Host.divf (Host.negf (sitofp .f32 (iotaInDim S32 32 0)))
            (broadcastInDim S32 ![] bcast_S_S32 (constant S_ .f32 0x42000000#32))))))⟩]
    concatenates_S4096x32_S4096x32_S4096x64_d1

variable (a : FVec Ideal S4096x64 .f32)

/-- The query heads, scaled and under their gain, and turned. -/
def qHead : FVec Ideal S16x4096x8x128 .f32 :=
  shapeCast _ (extractStridedSlice S16x4096x1024 ![0, 0, 0] z slices_S16x4096x7168_S16x4096x1024_0_0_0)
    shapeCasts_S16x4096x1024_S16x4096x8x128
def qNorm (y : FVec Ideal S16x4096x8x128 .f32) : FVec Ideal S16x4096x8x128 .f32 :=
  mulf (mulf y (broadcastInDim S16x4096x8x128 ![0, 1, 2, 3] bcast_S16x4096x8x1_S16x4096x8x128_0_1_2_3
      (Host.rsqrt (addf (Host.divf (broadcastInDim S16x4096x8x1 ![0, 1, 2] bcast_S16x4096x8_S16x4096x8x1_0_1_2
          (Host.reduceAdd (mulf y y) (constant S_ .f32 0x00000000#32) reducesTo_S16x4096x8x128_S16x4096x8_d3 h_S_))
          (broadcastInDim S16x4096x8x1 ![] bcast_S_S16x4096x8x1 (constant S_ .f32 0x43000000#32)))
        (broadcastInDim S16x4096x8x1 ![] bcast_S_S16x4096x8x1 (constant S_ .f32 0x358637BD#32))))))
    (broadcastInDim S16x4096x8x128 ![0, 1, 2, 3] bcast_S1x1x1x128_S16x4096x8x128_0_1_2_3
      (broadcastInDim S1x1x1x128 ![3] bcast_S128_S1x1x1x128_3 g))
def qTable (t : FVec Ideal S4096x64 .f32) : FVec Ideal S16x4096x8x64 .f32 :=
  broadcastInDim S16x4096x8x64 ![0, 1, 2, 3] bcast_S1x4096x1x64_S16x4096x8x64_0_1_2_3
    (broadcastInDim S1x4096x1x64 ![1, 3] bcast_S4096x64_S1x4096x1x64_1_3 t)
def qTurn (y : FVec Ideal S16x4096x8x128 .f32) : FVec Ideal S16x4096x8x128 .f32 :=
  concatenate S16x4096x8x128 3 [⟨S16x4096x8x64,
      subf (mulf (extractStridedSlice S16x4096x8x64 ![0, 0, 0, 0] y slices_S16x4096x8x128_S16x4096x8x64_0_0_0_0) (qTable (Host.cos a)))
        (mulf (extractStridedSlice S16x4096x8x64 ![0, 0, 0, 64] y slices_S16x4096x8x128_S16x4096x8x64_0_0_0_64) (qTable (Host.sin a)))⟩,
    ⟨S16x4096x8x64,
      addf (mulf (extractStridedSlice S16x4096x8x64 ![0, 0, 0, 64] y slices_S16x4096x8x128_S16x4096x8x64_0_0_0_64) (qTable (Host.cos a)))
        (mulf (extractStridedSlice S16x4096x8x64 ![0, 0, 0, 0] y slices_S16x4096x8x128_S16x4096x8x64_0_0_0_0) (qTable (Host.sin a)))⟩]
    concatenates_S16x4096x8x64_S16x4096x8x64_S16x4096x8x128_d3

theorem qNorm_at (b : Fin 16) (r : Fin 4096) (j : Fin 8) (e : Fin 128) :
    (qNorm g (qHead z) : S16x4096x8x128.Idx → EReal) (ix4 b r j e) =
      Plain.scaled (fun e => z (ix3 b r ⟨j.val * 128 + e.val, by omega⟩)) (fun e => g (ix1 e)) e := by
  unfold qNorm qHead
  pointwise
  rfl

theorem qTurn_lo (y : FVec Ideal S16x4096x8x128 .f32) (b : Fin 16) (r : Fin 4096) (j : Fin 8) (e : Fin 64) :
    (qTurn a y : S16x4096x8x128.Idx → EReal) (ix4 b r j ⟨e.val, by omega⟩) =
      y (ix4 b r j ⟨e.val, by omega⟩) * Ideal.cos (a (ix2 r e)) - y (ix4 b r j ⟨64 + e.val, by omega⟩) * Ideal.sin (a (ix2 r e)) := by
  unfold qTurn qTable
  pointwise

theorem qTurn_hi (y : FVec Ideal S16x4096x8x128 .f32) (b : Fin 16) (r : Fin 4096) (j : Fin 8) (e : Fin 64) :
    (qTurn a y : S16x4096x8x128.Idx → EReal) (ix4 b r j ⟨64 + e.val, by omega⟩) =
      y (ix4 b r j ⟨64 + e.val, by omega⟩) * Ideal.cos (a (ix2 r e)) + y (ix4 b r j ⟨e.val, by omega⟩) * Ideal.sin (a (ix2 r e)) := by
  unfold qTurn qTable
  pointwise

/-- The key heads, scaled and under their gain, and turned. -/
def kHead : FVec Ideal S16x4096x2x128 .f32 :=
  shapeCast _ (extractStridedSlice S16x4096x256 ![0, 0, 1024] z slices_S16x4096x7168_S16x4096x256_0_0_1024)
    shapeCasts_S16x4096x256_S16x4096x2x128
def kNorm (y : FVec Ideal S16x4096x2x128 .f32) : FVec Ideal S16x4096x2x128 .f32 :=
  mulf (mulf y (broadcastInDim S16x4096x2x128 ![0, 1, 2, 3] bcast_S16x4096x2x1_S16x4096x2x128_0_1_2_3
      (Host.rsqrt (addf (Host.divf (broadcastInDim S16x4096x2x1 ![0, 1, 2] bcast_S16x4096x2_S16x4096x2x1_0_1_2
          (Host.reduceAdd (mulf y y) (constant S_ .f32 0x00000000#32) reducesTo_S16x4096x2x128_S16x4096x2_d3 h_S_))
          (broadcastInDim S16x4096x2x1 ![] bcast_S_S16x4096x2x1 (constant S_ .f32 0x43000000#32)))
        (broadcastInDim S16x4096x2x1 ![] bcast_S_S16x4096x2x1 (constant S_ .f32 0x358637BD#32))))))
    (broadcastInDim S16x4096x2x128 ![0, 1, 2, 3] bcast_S1x1x1x128_S16x4096x2x128_0_1_2_3
      (broadcastInDim S1x1x1x128 ![3] bcast_S128_S1x1x1x128_3 g))
def kTable (t : FVec Ideal S4096x64 .f32) : FVec Ideal S16x4096x2x64 .f32 :=
  broadcastInDim S16x4096x2x64 ![0, 1, 2, 3] bcast_S1x4096x1x64_S16x4096x2x64_0_1_2_3
    (broadcastInDim S1x4096x1x64 ![1, 3] bcast_S4096x64_S1x4096x1x64_1_3 t)
def kTurn (y : FVec Ideal S16x4096x2x128 .f32) : FVec Ideal S16x4096x2x128 .f32 :=
  concatenate S16x4096x2x128 3 [⟨S16x4096x2x64,
      subf (mulf (extractStridedSlice S16x4096x2x64 ![0, 0, 0, 0] y slices_S16x4096x2x128_S16x4096x2x64_0_0_0_0) (kTable (Host.cos a)))
        (mulf (extractStridedSlice S16x4096x2x64 ![0, 0, 0, 64] y slices_S16x4096x2x128_S16x4096x2x64_0_0_0_64) (kTable (Host.sin a)))⟩,
    ⟨S16x4096x2x64,
      addf (mulf (extractStridedSlice S16x4096x2x64 ![0, 0, 0, 64] y slices_S16x4096x2x128_S16x4096x2x64_0_0_0_64) (kTable (Host.cos a)))
        (mulf (extractStridedSlice S16x4096x2x64 ![0, 0, 0, 0] y slices_S16x4096x2x128_S16x4096x2x64_0_0_0_0) (kTable (Host.sin a)))⟩]
    concatenates_S16x4096x2x64_S16x4096x2x64_S16x4096x2x128_d3

theorem kNorm_at (b : Fin 16) (r : Fin 4096) (j : Fin 2) (e : Fin 128) :
    (kNorm g (kHead z) : S16x4096x2x128.Idx → EReal) (ix4 b r j e) =
      Plain.scaled (fun e => z (ix3 b r ⟨1024 + (j.val * 128 + e.val), by omega⟩)) (fun e => g (ix1 e)) e := by
  unfold kNorm kHead
  pointwise
  rfl

theorem kTurn_lo (y : FVec Ideal S16x4096x2x128 .f32) (b : Fin 16) (r : Fin 4096) (j : Fin 2) (e : Fin 64) :
    (kTurn a y : S16x4096x2x128.Idx → EReal) (ix4 b r j ⟨e.val, by omega⟩) =
      y (ix4 b r j ⟨e.val, by omega⟩) * Ideal.cos (a (ix2 r e)) - y (ix4 b r j ⟨64 + e.val, by omega⟩) * Ideal.sin (a (ix2 r e)) := by
  unfold kTurn kTable
  pointwise

theorem kTurn_hi (y : FVec Ideal S16x4096x2x128 .f32) (b : Fin 16) (r : Fin 4096) (j : Fin 2) (e : Fin 64) :
    (kTurn a y : S16x4096x2x128.Idx → EReal) (ix4 b r j ⟨64 + e.val, by omega⟩) =
      y (ix4 b r j ⟨64 + e.val, by omega⟩) * Ideal.cos (a (ix2 r e)) + y (ix4 b r j ⟨e.val, by omega⟩) * Ideal.sin (a (ix2 r e)) := by
  unfold kTurn kTable
  pointwise

/-- The gate of the recurrence. -/
def gelu (y : FVec Ideal S16x4096x512 .f32) : FVec Ideal S16x4096x512 .f32 :=
  mulf y (mulf (broadcastInDim S16x4096x512 ![] bcast_S_S16x4096x512 (constant S_ .f32 0x3F000000#32))
    (addf (broadcastInDim S16x4096x512 ![] bcast_S_S16x4096x512 (constant S_ .f32 0x3F800000#32))
      (Host.tanh (mulf (broadcastInDim S16x4096x512 ![] bcast_S_S16x4096x512 (constant S_ .f32 0x3F4C422A#32))
        (addf y (mulf (broadcastInDim S16x4096x512 ![] bcast_S_S16x4096x512 (constant S_ .f32 0x3D372713#32))
          (mulf (mulf y y) y)))))))

theorem gelu_at (y : FVec Ideal S16x4096x512 .f32) (b : Fin 16) (r : Fin 4096) (e : Fin 512) :
    (gelu y : S16x4096x512.Idx → EReal) (ix3 b r e) = Plain.gelu (y (ix3 b r e)) := by
  unfold gelu
  pointwise
  unfold Plain.gelu
  rw [← mul_assoc, mul_comm (y (ix3 b r e)) (Ideal.ofBits .f32 1056964608#32)]

section

variable (m : (ℓ : Loc nD τ sig) → Buf (Elt Ideal) ℓ) (c : Dev nD)

/-- The projection of the program's arguments. -/
def zz : FVec Ideal S16x4096x7168 .f32 :=
  proj (m (c.tc.loc main_arg4)) (modul (m (c.tc.loc main_arg0)) (m (c.tc.loc main_arg1)) (m (c.tc.loc main_arg2))
    (m (c.tc.loc main_arg3)))

theorem q_eq : Value.res_main_v113 m c = transpose S16x8x4096x128 [0, 2, 1, 3]
    (qTurn ang (qNorm (m (c.tc.loc main_arg5)) (qHead (zz m c)))) transposes_S16x4096x8x128_S16x8x4096x128_0_2_1_3 := by
  sl_kernel_rfl

theorem k_eq : Value.res_main_v115 m c = truncf FTy.bf16 (shapeCast S16x4096x256
    (kTurn ang (kNorm (m (c.tc.loc main_arg6)) (kHead (zz m c)))) shapeCasts_S16x4096x2x128_S16x4096x256) bitsLt_bf16_f32 := by
  sl_kernel_rfl

theorem rg_eq : Value.res_main_v131 m c = truncf FTy.bf16 (gelu (extractStridedSlice S16x4096x512 ![0, 0, 3584] (zz m c)
    slices_S16x4096x7168_S16x4096x512_0_0_3584)) bitsLt_bf16_f32 := by
  sl_kernel_rfl

end

end Cert.Reference2Ideal.Refer
-- ==== Proof.ProjTie.lean ====
module

public import proofs.«01_k».proof.Defs
public import proofs.«01_k».proof.Proof.ProjArr
public import proofs.«01_k».proof.Proof.ProjRef

/-!
The projection's seven arrays are the reference's.
-/

@[expose] public section

set_option maxRecDepth 16384

noncomputable section

namespace Cert.ProjTie

open Cert.Kernel2Ideal.Arr
open Cert.Reference2Ideal.Refer (zz ang)
open Idealize.ShloMosaic Idealize.ShloMosaic.TcCoe Idealize.SL.Sem

section Tables

open Cert.Kernel2Ideal Cert.Kernel2Ideal.Gen

variable (m : (ℓ : Loc nD τ sig) → Buf (Elt Ideal) ℓ) (c : Dev nD)

/-- Two tables of 64 columns side by side. -/
theorem side_lo (x y : FVec Ideal S4096x64 .f32) (r : Fin 4096) (e : Fin 64) :
    (concatenate S4096x128 1 [⟨S4096x64, x⟩, ⟨S4096x64, y⟩] concatenates_S4096x64_S4096x64_S4096x128_d1 :
      S4096x128.Idx → EReal) (ix2 r ⟨e.val, by omega⟩) = x (ix2 r e) := by
  pointwise
theorem side_hi (x y : FVec Ideal S4096x64 .f32) (r : Fin 4096) (e : Fin 64) :
    (concatenate S4096x128 1 [⟨S4096x64, x⟩, ⟨S4096x64, y⟩] concatenates_S4096x64_S4096x64_S4096x128_d1 :
      S4096x128.Idx → EReal) (ix2 r ⟨64 + e.val, by omega⟩) = y (ix2 r e) := by
  pointwise

theorem cs_eq : V m c main_v26 = (concatenate S4096x128 1 [⟨S4096x64, Host.cos ang⟩, ⟨S4096x64, Host.cos ang⟩]
    concatenates_S4096x64_S4096x64_S4096x128_d1 : FVec Ideal S4096x128 .f32) := by rfl
theorem sn_eq : V m c main_v28 = (concatenate S4096x128 1 [⟨S4096x64, Host.negf (Host.sin ang)⟩, ⟨S4096x64, Host.sin ang⟩]
    concatenates_S4096x64_S4096x64_S4096x128_d1 : FVec Ideal S4096x128 .f32) := by rfl

theorem cs_lo (r : Fin 4096) (e : Fin 64) : csT m c r ⟨e.val, by omega⟩ = Ideal.cos ((ang : S4096x64.Idx → EReal) (ix2 r e)) := by
  unfold csT
  rw [cs_eq, side_lo]
  rfl
theorem cs_hi (r : Fin 4096) (e : Fin 64) : csT m c r ⟨64 + e.val, by omega⟩ = Ideal.cos ((ang : S4096x64.Idx → EReal) (ix2 r e)) := by
  unfold csT
  rw [cs_eq, side_hi]
  rfl
theorem sn_lo (r : Fin 4096) (e : Fin 64) : snT m c r ⟨e.val, by omega⟩ = -Ideal.sin ((ang : S4096x64.Idx → EReal) (ix2 r e)) := by
  unfold snT
  rw [sn_eq, side_lo]
  rfl
theorem sn_hi (r : Fin 4096) (e : Fin 64) : snT m c r ⟨64 + e.val, by omega⟩ = Ideal.sin ((ang : S4096x64.Idx → EReal) (ix2 r e)) := by
  unfold snT
  rw [sn_eq, side_hi]
  rfl

end Tables

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)
  (c : Dev Cert.Kernel2Ideal.nD)

/-- The two programs' arguments are the same. -/
structure Agree : Prop where
  a0 : m' ((c.tc : Thread Cert.Reference2Ideal.nD Cert.Reference2Ideal.τ).loc Cert.Reference2Ideal.main_arg0) =
    m ((c.tc : Thread Cert.Kernel2Ideal.nD Cert.Kernel2Ideal.τ).loc Cert.Kernel2Ideal.main_arg0)
  a1 : m' ((c.tc : Thread Cert.Reference2Ideal.nD Cert.Reference2Ideal.τ).loc Cert.Reference2Ideal.main_arg1) =
    m ((c.tc : Thread Cert.Kernel2Ideal.nD Cert.Kernel2Ideal.τ).loc Cert.Kernel2Ideal.main_arg1)
  a2 : m' ((c.tc : Thread Cert.Reference2Ideal.nD Cert.Reference2Ideal.τ).loc Cert.Reference2Ideal.main_arg2) =
    m ((c.tc : Thread Cert.Kernel2Ideal.nD Cert.Kernel2Ideal.τ).loc Cert.Kernel2Ideal.main_arg2)
  a3 : m' ((c.tc : Thread Cert.Reference2Ideal.nD Cert.Reference2Ideal.τ).loc Cert.Reference2Ideal.main_arg3) =
    m ((c.tc : Thread Cert.Kernel2Ideal.nD Cert.Kernel2Ideal.τ).loc Cert.Kernel2Ideal.main_arg3)
  a4 : m' ((c.tc : Thread Cert.Reference2Ideal.nD Cert.Reference2Ideal.τ).loc Cert.Reference2Ideal.main_arg4) =
    m ((c.tc : Thread Cert.Kernel2Ideal.nD Cert.Kernel2Ideal.τ).loc Cert.Kernel2Ideal.main_arg4)
  a5 : m' ((c.tc : Thread Cert.Reference2Ideal.nD Cert.Reference2Ideal.τ).loc Cert.Reference2Ideal.main_arg5) =
    m ((c.tc : Thread Cert.Kernel2Ideal.nD Cert.Kernel2Ideal.τ).loc Cert.Kernel2Ideal.main_arg5)
  a6 : m' ((c.tc : Thread Cert.Reference2Ideal.nD Cert.Reference2Ideal.τ).loc Cert.Reference2Ideal.main_arg6) =
    m ((c.tc : Thread Cert.Kernel2Ideal.nD Cert.Kernel2Ideal.τ).loc Cert.Kernel2Ideal.main_arg6)

variable {m m' c}

/-- The reference's projected row is the token's. -/
theorem z_tok (h : Agree m m' c) (b : Fin 16) (r : Fin 4096) (e : Fin 7168) :
    (zz m' c : Cert.Reference2Ideal.S16x4096x7168.Idx → EReal) (ix3 b r e) = zTok m c b r e := by
  unfold zz
  rw [Cert.Reference2Ideal.Refer.proj_at]
  simp only [Cert.Reference2Ideal.Refer.modul_at]
  rw [h.a0, h.a1, h.a2, h.a3, h.a4]
  rfl

/-- A lane below 64, or 64 more than one. -/
theorem lanes {P : Fin 128 → Prop} (hl : ∀ e : Fin 64, P ⟨e.val, by omega⟩) (hh : ∀ e : Fin 64, P ⟨64 + e.val, by omega⟩)
    (e : Fin 128) : P e := by
  by_cases he : e.val < 64
  · exact hl ⟨e.val, he⟩
  · have h : e = ⟨64 + (⟨e.val - 64, by omega⟩ : Fin 64).val, by show 64 + (e.val - 64) < 128; omega⟩ :=
      Fin.ext (by show e.val = 64 + (e.val - 64); omega)
    rw [h]
    exact hh ⟨e.val - 64, by omega⟩

/-- The reference's turned heads are the token's. -/
theorem q_tok (h : Agree m m' c) (b : Fin 16) (r : Fin 4096) (j : Fin 8) (e : Fin 128) :
    (Cert.Reference2Ideal.Refer.qTurn ang (Cert.Reference2Ideal.Refer.qNorm
      (m' (c.tc.loc Cert.Reference2Ideal.main_arg5)) (Cert.Reference2Ideal.Refer.qHead (zz m' c))) :
        Cert.Reference2Ideal.S16x4096x8x128.Idx → EReal) (ix4 b r j e) = qTok m c b r j e := by
  unfold qTok
  rw [h.a5]
  revert e
  refine lanes (fun e => ?_) (fun e => ?_)
  · rw [Cert.Reference2Ideal.Refer.qTurn_lo, Plain.headed_lo, cs_lo, sn_lo, mul_neg, ← sub_eq_add_neg]
    simp only [Cert.Reference2Ideal.Refer.qNorm_at, z_tok h]
  · rw [Cert.Reference2Ideal.Refer.qTurn_hi, Plain.headed_hi, cs_hi, sn_hi]
    simp only [Cert.Reference2Ideal.Refer.qNorm_at, z_tok h]

/-- The reference's turned heads are the token's. -/
theorem k_tok (h : Agree m m' c) (b : Fin 16) (r : Fin 4096) (j : Fin 2) (e : Fin 128) :
    (Cert.Reference2Ideal.Refer.kTurn ang (Cert.Reference2Ideal.Refer.kNorm
      (m' (c.tc.loc Cert.Reference2Ideal.main_arg6)) (Cert.Reference2Ideal.Refer.kHead (zz m' c))) :
        Cert.Reference2Ideal.S16x4096x2x128.Idx → EReal) (ix4 b r j e) = kTok m c b r j e := by
  unfold kTok
  rw [h.a6]
  revert e
  refine lanes (fun e => ?_) (fun e => ?_)
  · rw [Cert.Reference2Ideal.Refer.kTurn_lo, Plain.headed_lo, cs_lo, sn_lo, mul_neg, ← sub_eq_add_neg]
    simp only [Cert.Reference2Ideal.Refer.kNorm_at, z_tok h]
  · rw [Cert.Reference2Ideal.Refer.kTurn_hi, Plain.headed_hi, cs_hi, sn_hi]
    simp only [Cert.Reference2Ideal.Refer.kNorm_at, z_tok h]

theorem q_tie (h : Agree m m' c) : (Cert.Kernel2Ideal.Gen.dats m 0 c).arrAt 9 Cert.Kernel2Ideal.cfg0.N =
    (Cert.Reference2Ideal.Value.res_main_v113 m' c : Cert.Reference2Ideal.S16x8x4096x128.Idx → EReal) := by
  rw [Cert.Reference2Ideal.Refer.q_eq]
  refine q_arr m c _ fun b j r e => ?_
  rw [← q_tok h]
  pointwise

theorem k_tie (h : Agree m m' c) : (Cert.Kernel2Ideal.Gen.dats m 0 c).arrAt 10 Cert.Kernel2Ideal.cfg0.N =
    (Cert.Reference2Ideal.Value.res_main_v115 m' c : Cert.Reference2Ideal.S16x4096x256.Idx → EReal) := by
  rw [Cert.Reference2Ideal.Refer.k_eq]
  refine k_arr m c _ fun b r j e => ?_
  rw [← k_tok h]
  pointwise

theorem v_tie (h : Agree m m' c) : (Cert.Kernel2Ideal.Gen.dats m 0 c).arrAt 11 Cert.Kernel2Ideal.cfg0.N =
    ((truncf FTy.bf16 (extractStridedSlice Cert.Reference2Ideal.S16x4096x256 ![0, 0, 1280] (zz m' c) Cert.Reference2Ideal.Gen.slices_S16x4096x7168_S16x4096x256_0_0_1280) Cert.Reference2Ideal.Gen.bitsLt_bf16_f32) :
      Cert.Reference2Ideal.S16x4096x256.Idx → EReal) := by
  refine v_arr m c _ fun b r e => ?_
  rw [← z_tok h]
  pointwise

theorem hy_tie (h : Agree m m' c) : (Cert.Kernel2Ideal.Gen.dats m 0 c).arrAt 12 Cert.Kernel2Ideal.cfg0.N =
    ((truncf FTy.bf16 (extractStridedSlice Cert.Reference2Ideal.S16x4096x1536 ![0, 0, 1536] (zz m' c) Cert.Reference2Ideal.Gen.slices_S16x4096x7168_S16x4096x1536_0_0_1536) Cert.Reference2Ideal.Gen.bitsLt_bf16_f32) :
      Cert.Reference2Ideal.S16x4096x1536.Idx → EReal) := by
  refine hy_arr m c _ fun b r e => ?_
  rw [← z_tok h]
  pointwise

theorem rx_tie (h : Agree m m' c) : (Cert.Kernel2Ideal.Gen.dats m 0 c).arrAt 13 Cert.Kernel2Ideal.cfg0.N =
    ((extractStridedSlice Cert.Reference2Ideal.S16x4096x512 ![0, 0, 3072] (zz m' c) Cert.Reference2Ideal.Gen.slices_S16x4096x7168_S16x4096x512_0_0_3072) :
      Cert.Reference2Ideal.S16x4096x512.Idx → EReal) := by
  refine rx_arr m c _ fun b r e => ?_
  rw [← z_tok h]
  pointwise

theorem gate_tie (h : Agree m m' c) : (Cert.Kernel2Ideal.Gen.dats m 0 c).arrAt 15 Cert.Kernel2Ideal.cfg0.N =
    ((truncf FTy.bf16 (extractStridedSlice Cert.Reference2Ideal.S16x4096x3072 ![0, 0, 4096] (zz m' c) Cert.Reference2Ideal.Gen.slices_S16x4096x7168_S16x4096x3072_0_0_4096) Cert.Reference2Ideal.Gen.bitsLt_bf16_f32) :
      Cert.Reference2Ideal.S16x4096x3072.Idx → EReal) := by
  refine gate_arr m c _ fun b r e => ?_
  rw [← z_tok h]
  pointwise

theorem rg_tie (h : Agree m m' c) : (Cert.Kernel2Ideal.Gen.dats m 0 c).arrAt 14 Cert.Kernel2Ideal.cfg0.N =
    (Cert.Reference2Ideal.Value.res_main_v131 m' c : Cert.Reference2Ideal.S16x4096x512.Idx → EReal) := by
  rw [Cert.Reference2Ideal.Refer.rg_eq]
  refine rg_arr m c _ fun b r e => ?_
  rw [← z_tok h]
  refine (Cert.Reference2Ideal.Refer.gelu_at _ b r e).trans (congrArg Plain.gelu ?_)
  pointwise

end Cert.ProjTie
-- ==== Proof.MergeBody.lean ====
module

public import proofs.«01_k».proof.Proof.Gen.Kernel3Ideal.Value
public import proofs.«01_k».proof.Proof.Plain
public import Idealize.ShloMosaic.Lib.Pointwise
public import Idealize.ShloMosaic.Lib.Tactic
public import Idealize.ShloMosaic.Lib.Pipeline.ValueKit

/-!
What one grid point of the merge leaves in its three output blocks, of the blocks of its arguments.
-/

@[expose] public section

set_option maxRecDepth 16384

noncomputable section

namespace Cert.Kernel3Ideal.Body

open Cert.Kernel3Ideal Cert.Kernel3Ideal.Gen
open Idealize.ShloMosaic Idealize.ShloMosaic.TcCoe Idealize.SL.Sem

variable (x0 : Vec Ideal S1x512x1024 .bf16) (x1 : Vec Ideal S1x512x512 .bf16) (x2 : Vec Ideal S1x512x512 .bf16)
  (x3 : Vec Ideal S1x512x3072 .bf16) (x4 : Vec Ideal S1x512x1024 .f32) (x5 : Vec Ideal S1x1x1024 .f32)
  (x6 : Vec Ideal S1024x1024 .bf16) (x7 : Vec Ideal S512x1024 .bf16) (x8 : Vec Ideal S512x1024 .bf16)
  (x9 : Vec Ideal S1024x1024 .bf16) (x10 : Vec Ideal S1x1024 .f32) (x11 : Vec Ideal S1x1x1024 .f32)
  (x12 : Vec Ideal S1x1x1024 .f32) (x13 : Vec Ideal S16x1024 .bf16)

/-- The new residual row `r` of the block. -/
def hnRow (r : Fin 512) : Fin 1024 → EReal :=
  Plain.residual (fun e => (x4 : S1x512x1024.Idx → EReal) (ix3 0 r e)) (fun e => (x5 : S1x1x1024.Idx → EReal) (ix3 0 0 e))
    (Plain.mixed (fun e => (x3 : S1x512x3072.Idx → EReal) (ix3 0 r e)) (fun e => (x0 : S1x512x1024.Idx → EReal) (ix3 0 r e))
      (fun e => (x1 : S1x512x512.Idx → EReal) (ix3 0 r e)) (fun e => (x2 : S1x512x512.Idx → EReal) (ix3 0 r e))
      (fun d e => (x6 : S1024x1024.Idx → EReal) (ix2 d e)) (fun d e => (x7 : S512x1024.Idx → EReal) (ix2 d e))
      (fun d e => (x8 : S512x1024.Idx → EReal) (ix2 d e))) (fun d e => (x9 : S1024x1024.Idx → EReal) (ix2 d e))

theorem pay5_at (r : Fin 512) (e : Fin 1024) :
    (k0_pay5 (F := Ideal) (k0_pay8 x0 x1 x2 x3 x4 x5 x6 x7 x8 x9 x10 x11 x12 x13) (View.ld x3 r0_6) (View.ld x2 r0_4)
      (View.ld x8 r0_5) (View.ld x4 r0_1) (View.ld x5 r0_7) (View.ld x9 r0_2) : S512x1024.Idx → EReal) (ix2 r e) =
    hnRow x0 x1 x2 x3 x4 x5 x6 x7 x8 x9 r e := by
  have e0 := View.ld_unit_lit (Val := Elt Ideal) inb_S1x512x1024_S1x512x1024_0_0_0 x0 (by decide)
  have e4 := View.ld_unit_lit (Val := Elt Ideal) inb_S1x512x1024_S1x512x1024_0_0_0 x4 (by decide)
  have e6 := View.ld_unit_lit (Val := Elt Ideal) inb_S1024x1024_S1024x1024_0_0 x6 (by decide)
  have e9 := View.ld_unit_lit (Val := Elt Ideal) inb_S1024x1024_S1024x1024_0_0 x9 (by decide)
  have e1 := View.ld_unit_lit (Val := Elt Ideal) inb_S1x512x512_S1x512x512_0_0_0 x1 (by decide)
  have e2 := View.ld_unit_lit (Val := Elt Ideal) inb_S1x512x512_S1x512x512_0_0_0 x2 (by decide)
  have e7 := View.ld_unit_lit (Val := Elt Ideal) inb_S512x1024_S512x1024_0_0 x7 (by decide)
  have e8 := View.ld_unit_lit (Val := Elt Ideal) inb_S512x1024_S512x1024_0_0 x8 (by decide)
  have e5 := View.ld_unit_lit (Val := Elt Ideal) inb_S1x1x1024_S1x1x1024_0_0_0 x5 (by decide)
  unfold k0_pay8
  rw [e0, e1, e2, e4, e5, e6, e7, e8, e9]
  unfold k0_pay5 k0_pay4
  pointwise
  simp only [Plain.logistic_tanh]
  unfold hnRow Plain.residual Plain.mixed
  rfl

theorem hn_blk (a : Fin 1) (r : Fin 512) (e : Fin 1024) :
    (out0_14 (F := Ideal) x0 x1 x2 x3 x4 x5 x6 x7 x8 x9 x10 x11 x12 x13 : S1x512x1024.Idx → EReal) (ix3 a r e) =
      hnRow x0 x1 x2 x3 x4 x5 x6 x7 x8 x9 r e := by
  rw [← pay5_at x0 x1 x2 x3 x4 x5 x6 x7 x8 x9 x10 x11 x12 x13]
  unfold out0_14
  rw [View.canon_cons_unit_lit (Val := Elt Ideal) _ _ _ (by decide)]
  unfold k0_pay6
  pointwise

/-- The modulated row `r` of the block. -/
def u2Row (r : Fin 512) : Fin 1024 → EReal :=
  Plain.modulated (hnRow x0 x1 x2 x3 x4 x5 x6 x7 x8 x9 r) (fun e => (x10 : S1x1024.Idx → EReal) (ix2 0 e))
    (fun e => (x12 : S1x1x1024.Idx → EReal) (ix3 0 0 e)) (fun e => (x11 : S1x1x1024.Idx → EReal) (ix3 0 0 e))

theorem pay1_at (r : Fin 512) (e : Fin 1024) :
    (k0_pay1 (F := Ideal) (k0_pay9 x0 x1 x2 x3 x4 x5 x6 x7 x8 x9 x10 x11 x12 x13)
      (k0_pay10 x0 x1 x2 x3 x4 x5 x6 x7 x8 x9 x10 x11 x12 x13) (Scalar.ofBits .f32 0x44800000#32)
      (View.ld x10 r0_8) (View.ld x12 r0_7) (View.ld x11 r0_7) : S512x1024.Idx → EReal) (ix2 r e) =
    u2Row x0 x1 x2 x3 x4 x5 x6 x7 x8 x9 x10 x11 x12 r e := by
  have e10 := View.ld_unit_lit (Val := Elt Ideal) inb_S1x1024_S1x1024_0_0 x10 (by decide)
  have e11 := View.ld_unit_lit (Val := Elt Ideal) inb_S1x1x1024_S1x1x1024_0_0_0 x11 (by decide)
  have e12 := View.ld_unit_lit (Val := Elt Ideal) inb_S1x1x1024_S1x1x1024_0_0_0 x12 (by decide)
  rw [e10, e11, e12]
  unfold k0_pay1 k0_pay9 k0_pay10 k0_pay7
  pointwise
  simp only [pay5_at]
  rfl

theorem u2_blk (a : Fin 1) (r : Fin 512) (e : Fin 1024) :
    (out0_15 (F := Ideal) x0 x1 x2 x3 x4 x5 x6 x7 x8 x9 x10 x11 x12 x13 : S1x512x1024.Idx → EReal) (ix3 a r e) =
      u2Row x0 x1 x2 x3 x4 x5 x6 x7 x8 x9 x10 x11 x12 r e := by
  rw [← pay1_at x0 x1 x2 x3 x4 x5 x6 x7 x8 x9 x10 x11 x12 x13]
  unfold out0_15
  rw [View.canon_cons_unit_lit (Val := Elt Ideal) _ _ _ (by decide)]
  unfold k0_pay2
  pointwise

theorem lt_blk (a : Fin 1) (j : Fin 16) (r : Fin 512) :
    (out0_16 (F := Ideal) x0 x1 x2 x3 x4 x5 x6 x7 x8 x9 x10 x11 x12 x13 : S1x16x512.Idx → EReal) (ix3 a j r) =
      ∑ d, (x13 : S16x1024.Idx → EReal) (ix2 j d) * u2Row x0 x1 x2 x3 x4 x5 x6 x7 x8 x9 x10 x11 x12 r d := by
  simp only [← pay1_at x0 x1 x2 x3 x4 x5 x6 x7 x8 x9 x10 x11 x12 x13]
  have e13 := View.ld_unit_lit (Val := Elt Ideal) inb_S16x1024_S16x1024_0_0 x13 (by decide)
  unfold out0_16
  rw [View.canon_cons_unit_lit (Val := Elt Ideal) _ _ _ (by decide), e13]
  unfold k0_pay3
  pointwise

end Cert.Kernel3Ideal.Body
-- ==== Proof.MergeArr.lean ====
module

public import proofs.«01_k».proof.Proof.MergeBody

/-!
The merge's three result arrays.  Point `t` of the 128 is batch `t / 8` and token block `t % 8`; an
array is any function that has, at every batch and token, that token's row.
-/

@[expose] public section

set_option maxRecDepth 16384

noncomputable section

namespace Cert.Kernel3Ideal.Arr

open Cert.Kernel3Ideal Cert.Kernel3Ideal.Gen Cert.Kernel3Ideal.Body
open Idealize.ShloMosaic Idealize.ShloMosaic.TcCoe Idealize.SL.Sem

variable (m : (ℓ : Loc nD τ sig) → Buf (Elt Ideal) ℓ) (c : Dev nD)

theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, t.val % 8, 0] :=
  (by decide +kernel : ∀ t : Fin grid0.N, win0_1.index t = ![t.val / 8, t.val % 8, 0])
theorem idx2 : ∀ t : Fin cfg0.N, win0_2.index t = ![t.val / 8, t.val % 8, 0] :=
  (by decide +kernel : ∀ t : Fin grid0.N, win0_2.index t = ![t.val / 8, t.val % 8, 0])
theorem idx3 : ∀ t : Fin cfg0.N, win0_3.index t = ![t.val / 8, t.val % 8, 0] :=
  (by decide +kernel : ∀ t : Fin grid0.N, win0_3.index t = ![t.val / 8, t.val % 8, 0])
theorem idx4 : ∀ t : Fin cfg0.N, win0_4.index t = ![t.val / 8, t.val % 8, 0] :=
  (by decide +kernel : ∀ t : Fin grid0.N, win0_4.index t = ![t.val / 8, t.val % 8, 0])
theorem idx5 : ∀ t : Fin cfg0.N, win0_5.index t = ![t.val / 8, 0, 0] :=
  (by decide +kernel : ∀ t : Fin grid0.N, win0_5.index t = ![t.val / 8, 0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![t.val / 8, 0, 0] :=
  (by decide +kernel : ∀ t : Fin grid0.N, win0_11.index t = ![t.val / 8, 0, 0])
theorem idx12 : ∀ t : Fin cfg0.N, win0_12.index t = ![t.val / 8, 0, 0] :=
  (by decide +kernel : ∀ t : Fin grid0.N, win0_12.index t = ![t.val / 8, 0, 0])
theorem idx13 : ∀ t : Fin cfg0.N, win0_13.index t = ![0, 0] :=
  (by decide +kernel : ∀ t : Fin grid0.N, win0_13.index t = ![0, 0])
theorem idx14 : ∀ t : Fin cfg0.N, win0_14.index t = ![t.val / 8, t.val % 8, 0] :=
  (by decide +kernel : ∀ t : Fin grid0.N, win0_14.index t = ![t.val / 8, t.val % 8, 0])
theorem idx15 : ∀ t : Fin cfg0.N, win0_15.index t = ![t.val / 8, t.val % 8, 0] :=
  (by decide +kernel : ∀ t : Fin grid0.N, win0_15.index t = ![t.val / 8, t.val % 8, 0])
theorem idx16 : ∀ t : Fin cfg0.N, win0_16.index t = ![t.val / 8, 0, t.val % 8] :=
  (by decide +kernel : ∀ t : Fin grid0.N, win0_16.index t = ![t.val / 8, 0, t.val % 8])

/-- The arguments' rows: the gates, the three branches and the residual stream of a token; the
    modulation of a batch; the weights. -/
abbrev gate (b : Fin 16) (r : Fin 4096) (e : Fin 3072) : EReal :=
  (m ((c : Thread nD τ).loc main_arg0) : S16x4096x3072.Idx → EReal) (ix3 b r e)
abbrev attn (b : Fin 16) (r : Fin 4096) (e : Fin 1024) : EReal :=
  (m ((c : Thread nD τ).loc main_arg1) : S16x4096x1024.Idx → EReal) (ix3 b r e)
abbrev hy (b : Fin 16) (r : Fin 4096) (e : Fin 512) : EReal :=
  (m ((c : Thread nD τ).loc main_arg2) : S16x4096x512.Idx → EReal) (ix3 b r e)
abbrev lru (b : Fin 16) (r : Fin 4096) (e : Fin 512) : EReal :=
  (m ((c : Thread nD τ).loc main_arg3) : S16x4096x512.Idx → EReal) (ix3 b r e)
abbrev res (b : Fin 16) (r : Fin 4096) (e : Fin 1024) : EReal :=
  (m ((c : Thread nD τ).loc main_arg4) : S16x4096x1024.Idx → EReal) (ix3 b r e)
abbrev g1 (b : Fin 16) (e : Fin 1024) : EReal :=
  (m ((c : Thread nD τ).loc main_arg5) : S16x1x1024.Idx → EReal) (ix3 b 0 e)
abbrev wa (d e : Fin 1024) : EReal := (m ((c : Thread nD τ).loc main_arg6) : S1024x1024.Idx → EReal) (ix2 d e)
abbrev wh (d : Fin 512) (e : Fin 1024) : EReal := (m ((c : Thread nD τ).loc main_arg7) : S512x1024.Idx → EReal) (ix2 d e)
abbrev wl (d : Fin 512) (e : Fin 1024) : EReal := (m ((c : Thread nD τ).loc main_arg8) : S512x1024.Idx → EReal) (ix2 d e)
abbrev wo (d e : Fin 1024) : EReal := (m ((c : Thread nD τ).loc main_arg9) : S1024x1024.Idx → EReal) (ix2 d e)
abbrev n2 (e : Fin 1024) : EReal := (m ((c : Thread nD τ).loc main_arg10) : S1024.Idx → EReal) (ix1 e)
abbrev sh2 (b : Fin 16) (e : Fin 1024) : EReal :=
  (m ((c : Thread nD τ).loc main_arg11) : S16x1x1024.Idx → EReal) (ix3 b 0 e)
abbrev sc2 (b : Fin 16) (e : Fin 1024) : EReal :=
  (m ((c : Thread nD τ).loc main_arg12) : S16x1x1024.Idx → EReal) (ix3 b 0 e)
abbrev rw_ (d : Fin 1024) (j : Fin 16) : EReal :=
  (m ((c : Thread nD τ).loc main_arg13) : S1024x16.Idx → EReal) (ix2 d j)

theorem lt_t (t : Fin cfg0.N) : t.val < 128 := t.isLt

/-- Point `t`'s batch, and the token `r` of its block. -/
def bat (t : Fin cfg0.N) : Fin 16 := ⟨t.val / 8, by have := lt_t t; omega⟩
def row (t : Fin cfg0.N) (r : Fin 512) : Fin 4096 := ⟨t.val % 8 * 512 + r.val, by omega⟩

theorem attn_at (t : Fin cfg0.N) (a : Fin 1) (r : Fin 512) (e : Fin 1024) :
    (iblk m c 0 t : S1x512x1024.Idx → EReal) (ix3 a r e) = attn m c (bat t) (row t r) e := by
  have h : (iblk m c 0 t : S1x512x1024.Idx → EReal) (ix3 a r e) = V m c main_v0 (ix3 (bat t) (row t r) e) := by
    blk_ext [iblk, idx0 t, bat, row]
  rw [h]
  rfl

theorem hy_at (t : Fin cfg0.N) (a : Fin 1) (r : Fin 512) (e : Fin 512) :
    (iblk m c 1 t : S1x512x512.Idx → EReal) (ix3 a r e) = hy m c (bat t) (row t r) e := by
  have h : (iblk m c 1 t : S1x512x512.Idx → EReal) (ix3 a r e) = V m c main_v1 (ix3 (bat t) (row t r) e) := by
    blk_ext [iblk, idx1 t, bat, row]
  rw [h]
  rfl

theorem lru_at (t : Fin cfg0.N) (a : Fin 1) (r : Fin 512) (e : Fin 512) :
    (iblk m c 2 t : S1x512x512.Idx → EReal) (ix3 a r e) = lru m c (bat t) (row t r) e := by
  have h : (iblk m c 2 t : S1x512x512.Idx → EReal) (ix3 a r e) = V m c main_v2 (ix3 (bat t) (row t r) e) := by
    blk_ext [iblk, idx2 t, bat, row]
  rw [h]
  rfl

theorem gate_at (t : Fin cfg0.N) (a : Fin 1) (r : Fin 512) (e : Fin 3072) :
    (iblk m c 3 t : S1x512x3072.Idx → EReal) (ix3 a r e) = gate m c (bat t) (row t r) e := by
  have h : (iblk m c 3 t : S1x512x3072.Idx → EReal) (ix3 a r e) = V m c main_v3 (ix3 (bat t) (row t r) e) := by
    blk_ext [iblk, idx3 t, bat, row]
  rw [h]
  rfl

theorem res_at (t : Fin cfg0.N) (a : Fin 1) (r : Fin 512) (e : Fin 1024) :
    (iblk m c 4 t : S1x512x1024.Idx → EReal) (ix3 a r e) = res m c (bat t) (row t r) e := by
  have h : (iblk m c 4 t : S1x512x1024.Idx → EReal) (ix3 a r e) = V m c main_arg4 (ix3 (bat t) (row t r) e) := by
    blk_ext [iblk, idx4 t, bat, row]
  rw [h]
  rw [V_main_arg4]

/-- A batch's row of the modulation, padded to 24 rows. -/
theorem padded_at (x : FVec Ideal S16x1x1024 .f32) (z : FVec Ideal S_ .f32) (b : Fin 16) (e : Fin 1024) :
    (pad S24x1x1024 ![0, 0, 0] ![8, 0, 0] ![0, 0, 0] x z pads_S16x1x1024_S24x1x1024_080_000_000 h_S_ :
      S24x1x1024.Idx → EReal) (ix3 ⟨b.val, by omega⟩ 0 e) = x (ix3 b 0 e) := by
  pointwise

theorem V_g1 (b : Fin 16) (e : Fin 1024) :
    (V m c main_v4 : S24x1x1024.Idx → EReal) (ix3 ⟨b.val, by omega⟩ 0 e) = g1 m c b e := by
  have h : V m c main_v4 = (pad S24x1x1024 ![0, 0, 0] ![8, 0, 0] ![0, 0, 0]
    (m ((c : Thread nD τ).loc main_arg5) : FVec Ideal S16x1x1024 .f32) (sitofp .f32 (constantI S_ 32 0#32) : FVec Ideal S_ .f32)
      pads_S16x1x1024_S24x1x1024_080_000_000 h_S_ : FVec Ideal S24x1x1024 .f32) := by rfl
  rw [h]
  exact padded_at _ _ b e

theorem g1_at (t : Fin cfg0.N) (a b : Fin 1) (e : Fin 1024) :
    (iblk m c 5 t : S1x1x1024.Idx → EReal) (ix3 a b e) = g1 m c (bat t) e := by
  rw [← V_g1]
  blk_ext [iblk, idx5 t, bat]

theorem V_sh2 (b : Fin 16) (e : Fin 1024) :
    (V m c main_v10 : S24x1x1024.Idx → EReal) (ix3 ⟨b.val, by omega⟩ 0 e) = sh2 m c b e := by
  have h : V m c main_v10 = (pad S24x1x1024 ![0, 0, 0] ![8, 0, 0] ![0, 0, 0]
    (m ((c : Thread nD τ).loc main_arg11) : FVec Ideal S16x1x1024 .f32) (sitofp .f32 (constantI S_ 32 0#32) : FVec Ideal S_ .f32)
      pads_S16x1x1024_S24x1x1024_080_000_000 h_S_ : FVec Ideal S24x1x1024 .f32) := by rfl
  rw [h]
  exact padded_at _ _ b e

theorem sh2_at (t : Fin cfg0.N) (a b : Fin 1) (e : Fin 1024) :
    (iblk m c 11 t : S1x1x1024.Idx → EReal) (ix3 a b e) = sh2 m c (bat t) e := by
  rw [← V_sh2]
  blk_ext [iblk, idx11 t, bat]

theorem V_sc2 (b : Fin 16) (e : Fin 1024) :
    (V m c main_v11 : S24x1x1024.Idx → EReal) (ix3 ⟨b.val, by omega⟩ 0 e) = sc2 m c b e := by
  have h : V m c main_v11 = (pad S24x1x1024 ![0, 0, 0] ![8, 0, 0] ![0, 0, 0]
    (m ((c : Thread nD τ).loc main_arg12) : FVec Ideal S16x1x1024 .f32) (sitofp .f32 (constantI S_ 32 0#32) : FVec Ideal S_ .f32)
      pads_S16x1x1024_S24x1x1024_080_000_000 h_S_ : FVec Ideal S24x1x1024 .f32) := by rfl
  rw [h]
  exact padded_at _ _ b e

theorem sc2_at (t : Fin cfg0.N) (a b : Fin 1) (e : Fin 1024) :
    (iblk m c 12 t : S1x1x1024.Idx → EReal) (ix3 a b e) = sc2 m c (bat t) e := by
  rw [← V_sc2]
  blk_ext [iblk, idx12 t, bat]

theorem wa_at (t : Fin cfg0.N) (d : Fin 1024) (e : Fin 1024) :
    (iblk m c 6 t : S1024x1024.Idx → EReal) (ix2 d e) = wa m c d e := by
  have h : (iblk m c 6 t : S1024x1024.Idx → EReal) (ix2 d e) = V m c main_v5 (ix2 d e) := by
    blk_ext [iblk, idx6 t]
  rw [h]
  rfl

theorem wh_at (t : Fin cfg0.N) (d : Fin 512) (e : Fin 1024) :
    (iblk m c 7 t : S512x1024.Idx → EReal) (ix2 d e) = wh m c d e := by
  have h : (iblk m c 7 t : S512x1024.Idx → EReal) (ix2 d e) = V m c main_v6 (ix2 d e) := by
    blk_ext [iblk, idx7 t]
  rw [h]
  rfl

theorem wl_at (t : Fin cfg0.N) (d : Fin 512) (e : Fin 1024) :
    (iblk m c 8 t : S512x1024.Idx → EReal) (ix2 d e) = wl m c d e := by
  have h : (iblk m c 8 t : S512x1024.Idx → EReal) (ix2 d e) = V m c main_v7 (ix2 d e) := by
    blk_ext [iblk, idx8 t]
  rw [h]
  rfl

theorem wo_at (t : Fin cfg0.N) (d : Fin 1024) (e : Fin 1024) :
    (iblk m c 9 t : S1024x1024.Idx → EReal) (ix2 d e) = wo m c d e := by
  have h : (iblk m c 9 t : S1024x1024.Idx → EReal) (ix2 d e) = V m c main_v8 (ix2 d e) := by
    blk_ext [iblk, idx9 t]
  rw [h]
  rfl

theorem n2_at (t : Fin cfg0.N) (a : Fin 1) (e : Fin 1024) : (iblk m c 10 t : S1x1024.Idx → EReal) (ix2 a e) = n2 m c e := by
  have h : (iblk m c 10 t : S1x1024.Idx → EReal) (ix2 a e) = V m c main_v9 (ix2 a e) := by
    blk_ext [iblk, idx10 t]
  have h' : (V m c main_v9 : FVec Ideal S1x1024 .f32) = broadcastInDim S1x1024 ![1] bcast_S1024_S1x1024_1
    (m ((c : Thread nD τ).loc main_arg10) : FVec Ideal S1024 .f32) := by rfl
  rw [h, h']
  pointwise

theorem rw_at (t : Fin cfg0.N) (j : Fin 16) (d : Fin 1024) : (iblk m c 13 t : S16x1024.Idx → EReal) (ix2 j d) = rw_ m c d j := by
  have h : (iblk m c 13 t : S16x1024.Idx → EReal) (ix2 j d) = V m c main_v13 (ix2 j d) := by
    blk_ext [iblk, idx13 t]
  have h' : V m c main_v13 = (truncf .bf16 (transpose S16x1024 [1, 0]
    (m ((c : Thread nD τ).loc main_arg13) : FVec Ideal S1024x16 .f32) transposes_S1024x16_S16x1024_1_0 :
      FVec Ideal S16x1024 .f32) bitsLt_bf16_f32 : FVec Ideal S16x1024 .bf16) := by rfl
  rw [h, h']
  pointwise

/-- A token's new residual row and its modulated row. -/
def hnTok (b : Fin 16) (r : Fin 4096) : Fin 1024 → EReal :=
  Plain.residual (res m c b r) (g1 m c b) (Plain.mixed (gate m c b r) (attn m c b r) (hy m c b r) (lru m c b r)
    (wa m c) (wh m c) (wl m c)) (wo m c)
def u2Tok (b : Fin 16) (r : Fin 4096) : Fin 1024 → EReal :=
  Plain.modulated (hnTok m c b r) (n2 m c) (sc2 m c b) (sh2 m c b)

theorem hnRow_at (t : Fin cfg0.N) (r : Fin 512) :
    hnRow (iblk m c 0 t) (iblk m c 1 t) (iblk m c 2 t) (iblk m c 3 t) (iblk m c 4 t) (iblk m c 5 t) (iblk m c 6 t)
      (iblk m c 7 t) (iblk m c 8 t) (iblk m c 9 t) r = hnTok m c (bat t) (row t r) := by
  unfold hnRow hnTok
  simp only [attn_at, hy_at, lru_at, gate_at, res_at, g1_at, wa_at, wh_at, wl_at, wo_at]

theorem u2Row_at (t : Fin cfg0.N) (r : Fin 512) :
    u2Row (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) r =
      u2Tok m c (bat t) (row t r) := by
  unfold u2Row u2Tok
  simp only [hnRow_at, n2_at, sh2_at, sc2_at]

/-- The new residual stream. -/
theorem hn_arr (G : S16x4096x1024.Idx → EReal) (hG : ∀ b r e, G (ix3 b r e) = hnTok m c b r e) :
    (dats m 0 c).arrAt 14 cfg0.N = G := by
  refine (dats m 0 c).arrAt_eq_of_covers 14 _ (by decide +kernel) fun t hfl y => ?_
  blk_simp
  rw [after0_14]
  idx_vars y
  have he : (win0_14.blk t).view.emb (ix3 y0 y1 y2) = ix3 (bat t) (row t y1) y2 := by
    blk_ext [idx14 t, bat, row]
  rw [he, hn_blk, hnRow_at, hG]

/-- The modulated stream. -/
theorem u2_arr (G : S16x4096x1024.Idx → EReal) (hG : ∀ b r e, G (ix3 b r e) = u2Tok m c b r e) :
    (dats m 0 c).arrAt 15 cfg0.N = G := by
  refine (dats m 0 c).arrAt_eq_of_covers 15 _ (by decide +kernel) fun t hfl y => ?_
  blk_simp
  rw [after0_15]
  idx_vars y
  have he : (win0_15.blk t).view.emb (ix3 y0 y1 y2) = ix3 (bat t) (row t y1) y2 := by
    blk_ext [idx15 t, bat, row]
  rw [he, u2_blk, u2Row_at, hG]

/-- The router's logits, the experts' axis before the tokens'. -/
theorem lt_arr (G : S16x16x4096.Idx → EReal) (hG : ∀ b j r, G (ix3 b j r) = ∑ d, rw_ m c d j * u2Tok m c b r d) :
    (dats m 0 c).arrAt 16 cfg0.N = G := by
  refine (dats m 0 c).arrAt_eq_of_covers 16 _ (by decide +kernel) fun t hfl y => ?_
  blk_simp
  rw [after0_16]
  idx_vars y
  have he : (win0_16.blk t).view.emb (ix3 y0 y1 y2) = ix3 (bat t) y1 (row t y2) := by
    blk_ext [idx16 t, bat, row]
  rw [he, lt_blk, u2Row_at, hG]
  simp only [rw_at]

end Cert.Kernel3Ideal.Arr
-- ==== Proof.MergeRef.lean ====
module

public import proofs.«01_k».proof.Proof.Gen.Reference3Ideal.Run
public import proofs.«01_k».proof.Proof.Plain
public import Idealize.ShloMosaic.Lib.Pointwise
public import Idealize.ShloMosaic.Lib.Tactic

/-!
The merge's reference, an array at a time: the gated branches, the new residual stream, the modulated
stream and the router's logits.
-/

@[expose] public section

set_option maxRecDepth 16384

noncomputable section

namespace Cert.Reference3Ideal.Refer

open Cert.Reference3Ideal Cert.Reference3Ideal.Gen
open Idealize.ShloMosaic Idealize.ShloMosaic.TcCoe Idealize.SL.Sem

variable (g : FVec Ideal S16x4096x3072 .f32) (a : FVec Ideal S16x4096x1024 .f32) (hy lr : FVec Ideal S16x4096x512 .f32)
  (h : FVec Ideal S16x4096x1024 .f32) (g1 : FVec Ideal S16x1x1024 .f32) (wa : FVec Ideal S1024x1024 .f32)
  (wh wl : FVec Ideal S512x1024 .f32) (wo : FVec Ideal S1024x1024 .f32) (n : FVec Ideal S1024 .f32)
  (sh sc : FVec Ideal S16x1x1024 .f32) (rw_ : FVec Ideal S1024x16 .f32)

/-- The gates. -/
def gates : FVec Ideal S16x4096x3072 .f32 :=
  Host.divf (broadcastInDim S16x4096x3072 ![] bcast_S_S16x4096x3072 (constant S_ .f32 0x3F800000#32))
    (addf (broadcastInDim S16x4096x3072 ![] bcast_S_S16x4096x3072 (constant S_ .f32 0x3F800000#32))
      (Host.exp (Host.negf g)))

/-- The branches under them. -/
def mixed (s : FVec Ideal S16x4096x3072 .f32) : FVec Ideal S16x4096x1024 .f32 :=
  addf (addf (mulf (extractStridedSlice S16x4096x1024 ![0, 0, 0] s slices_S16x4096x3072_S16x4096x1024_0_0_0)
      (Host.dotGeneral dot_S16x4096x1024_S1024x1024_S16x4096x1024_2_0_01_1_n_n none a wa))
    (mulf (extractStridedSlice S16x4096x1024 ![0, 0, 1024] s slices_S16x4096x3072_S16x4096x1024_0_0_1024)
      (Host.dotGeneral dot_S16x4096x512_S512x1024_S16x4096x1024_2_0_01_1_n_n none hy wh)))
    (mulf (extractStridedSlice S16x4096x1024 ![0, 0, 2048] s slices_S16x4096x3072_S16x4096x1024_0_0_2048)
      (Host.dotGeneral dot_S16x4096x512_S512x1024_S16x4096x1024_2_0_01_1_n_n none lr wl))

/-- The new residual stream. -/
def resid (y : FVec Ideal S16x4096x1024 .f32) : FVec Ideal S16x4096x1024 .f32 :=
  addf h (mulf (broadcastInDim S16x4096x1024 ![0, 1, 2] bcast_S16x1x1024_S16x4096x1024_0_1_2 g1)
    (Host.dotGeneral dot_S16x4096x1024_S1024x1024_S16x4096x1024_2_0_01_1_n_n none y wo))

/-- A token's mean square and the small constant, under the inverse square root. -/
def inv (x : FVec Ideal S16x4096x1024 .f32) : FVec Ideal S16x4096x1 .f32 :=
  Host.rsqrt (addf (Host.divf (broadcastInDim S16x4096x1 ![0, 1] bcast_S16x4096_S16x4096x1_0_1
      (Host.reduceAdd (mulf x x) (constant S_ .f32 0x00000000#32) reducesTo_S16x4096x1024_S16x4096_d2 h_S_))
      (broadcastInDim S16x4096x1 ![] bcast_S_S16x4096x1 (constant S_ .f32 0x44800000#32)))
    (broadcastInDim S16x4096x1 ![] bcast_S_S16x4096x1 (constant S_ .f32 0x358637BD#32)))

/-- The modulated stream. -/
def modul (x : FVec Ideal S16x4096x1024 .f32) : FVec Ideal S16x4096x1024 .f32 :=
  addf (mulf (mulf (mulf x (broadcastInDim S16x4096x1024 ![0, 1, 2] bcast_S16x4096x1_S16x4096x1024_0_1_2 (inv x)))
      (broadcastInDim S16x4096x1024 ![0, 1, 2] bcast_S1x1x1024_S16x4096x1024_0_1_2
        (broadcastInDim S1x1x1024 ![2] bcast_S1024_S1x1x1024_2 n)))
      (broadcastInDim S16x4096x1024 ![0, 1, 2] bcast_S16x1x1024_S16x4096x1024_0_1_2
        (addf (broadcastInDim S16x1x1024 ![] bcast_S_S16x1x1024 (constant S_ .f32 0x3F800000#32)) sc)))
    (broadcastInDim S16x4096x1024 ![0, 1, 2] bcast_S16x1x1024_S16x4096x1024_0_1_2 sh)

theorem gates_at (b : Fin 16) (r : Fin 4096) (e : Fin 3072) :
    (gates g : S16x4096x3072.Idx → EReal) (ix3 b r e) = Ideal.logistic (g (ix3 b r e)) := by
  unfold gates
  pointwise
  rfl

theorem mixed_at (b : Fin 16) (r : Fin 4096) (e : Fin 1024) :
    (mixed a hy lr wa wh wl (gates g) : S16x4096x1024.Idx → EReal) (ix3 b r e) =
      Plain.mixed (fun e => g (ix3 b r e)) (fun e => a (ix3 b r e)) (fun e => hy (ix3 b r e)) (fun e => lr (ix3 b r e))
        (fun d e => wa (ix2 d e)) (fun d e => wh (ix2 d e)) (fun d e => wl (ix2 d e)) e := by
  unfold mixed
  pointwise
  simp only [gates_at]
  rfl

theorem resid_at (y : FVec Ideal S16x4096x1024 .f32) (b : Fin 16) (r : Fin 4096) (e : Fin 1024) :
    (resid h g1 wo y : S16x4096x1024.Idx → EReal) (ix3 b r e) =
      Plain.residual (fun e => h (ix3 b r e)) (fun e => g1 (ix3 b 0 e)) (fun e => y (ix3 b r e))
        (fun d e => wo (ix2 d e)) e := by
  unfold resid
  pointwise
  rfl

theorem modul_at (x : FVec Ideal S16x4096x1024 .f32) (b : Fin 16) (r : Fin 4096) (e : Fin 1024) :
    (modul n sh sc x : S16x4096x1024.Idx → EReal) (ix3 b r e) =
      Plain.modulated (fun e => x (ix3 b r e)) (fun e => n (ix1 e)) (fun e => sc (ix3 b 0 e)) (fun e => sh (ix3 b 0 e)) e := by
  unfold modul inv
  pointwise
  rfl

/-- The router's logits, the experts' axis before the tokens'. -/
def logits (u : FVec Ideal S16x4096x1024 .f32) : FVec Ideal S16x16x4096 .f32 :=
  transpose S16x16x4096 [0, 2, 1] (Host.dotGeneral dot_S16x4096x1024_S1024x16_S16x4096x16_2_0_01_1_n_n none u rw_)
    transposes_S16x4096x16_S16x16x4096_0_2_1

theorem logits_at (u : FVec Ideal S16x4096x1024 .f32) (b j : Fin 16) (r : Fin 4096) :
    (logits rw_ u : S16x16x4096.Idx → EReal) (ix3 b j r) = ∑ d : Fin 1024, (rw_ (ix2 d j) * u (ix3 b r d) : EReal) := by
  unfold logits
  pointwise
  exact Finset.sum_congr rfl fun d _ => mul_comm _ _

section

variable (m : (ℓ : Loc nD τ sig) → Buf (Elt Ideal) ℓ) (c : Dev nD)

/-- The new residual stream of the program's arguments. -/
def hn : FVec Ideal S16x4096x1024 .f32 :=
  resid (m (c.tc.loc main_arg4)) (m (c.tc.loc main_arg5)) (m (c.tc.loc main_arg9)) (mixed (m (c.tc.loc main_arg1)) (m (c.tc.loc main_arg2)) (m (c.tc.loc main_arg3)) (m (c.tc.loc main_arg6)) (m (c.tc.loc main_arg7)) (m (c.tc.loc main_arg8)) (gates (m (c.tc.loc main_arg0))))

theorem u2_eq : Value.res_main_v40 m c = truncf FTy.bf16 (modul (m (c.tc.loc main_arg10)) (m (c.tc.loc main_arg11))
    (m (c.tc.loc main_arg12)) (hn m c)) bitsLt_bf16_f32 := by
  sl_kernel_rfl

theorem lt_eq : Value.res_main_v42 m c = logits (m (c.tc.loc main_arg13)) (modul (m (c.tc.loc main_arg10))
    (m (c.tc.loc main_arg11)) (m (c.tc.loc main_arg12)) (hn m c)) := by
  sl_kernel_rfl

end

end Cert.Reference3Ideal.Refer
-- ==== Proof.MergeTie.lean ====
module

public import proofs.«01_k».proof.Defs
public import proofs.«01_k».proof.Proof.MergeArr
public import proofs.«01_k».proof.Proof.MergeRef

/-!
The merge's three arrays are the reference's.
-/

@[expose] public section

set_option maxRecDepth 16384

noncomputable section

namespace Cert.MergeTie

open Cert.Kernel3Ideal.Arr
open Cert.Reference3Ideal.Refer (hn modul logits)
open Idealize.ShloMosaic Idealize.ShloMosaic.TcCoe Idealize.SL.Sem

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

/-- The two programs' arguments are the same. -/
structure Agree : Prop where
  a0 : m' ((c.tc : Thread Cert.Reference3Ideal.nD Cert.Reference3Ideal.τ).loc Cert.Reference3Ideal.main_arg0) =
    m ((c.tc : Thread Cert.Kernel3Ideal.nD Cert.Kernel3Ideal.τ).loc Cert.Kernel3Ideal.main_arg0)
  a1 : m' ((c.tc : Thread Cert.Reference3Ideal.nD Cert.Reference3Ideal.τ).loc Cert.Reference3Ideal.main_arg1) =
    m ((c.tc : Thread Cert.Kernel3Ideal.nD Cert.Kernel3Ideal.τ).loc Cert.Kernel3Ideal.main_arg1)
  a2 : m' ((c.tc : Thread Cert.Reference3Ideal.nD Cert.Reference3Ideal.τ).loc Cert.Reference3Ideal.main_arg2) =
    m ((c.tc : Thread Cert.Kernel3Ideal.nD Cert.Kernel3Ideal.τ).loc Cert.Kernel3Ideal.main_arg2)
  a3 : m' ((c.tc : Thread Cert.Reference3Ideal.nD Cert.Reference3Ideal.τ).loc Cert.Reference3Ideal.main_arg3) =
    m ((c.tc : Thread Cert.Kernel3Ideal.nD Cert.Kernel3Ideal.τ).loc Cert.Kernel3Ideal.main_arg3)
  a4 : m' ((c.tc : Thread Cert.Reference3Ideal.nD Cert.Reference3Ideal.τ).loc Cert.Reference3Ideal.main_arg4) =
    m ((c.tc : Thread Cert.Kernel3Ideal.nD Cert.Kernel3Ideal.τ).loc Cert.Kernel3Ideal.main_arg4)
  a5 : m' ((c.tc : Thread Cert.Reference3Ideal.nD Cert.Reference3Ideal.τ).loc Cert.Reference3Ideal.main_arg5) =
    m ((c.tc : Thread Cert.Kernel3Ideal.nD Cert.Kernel3Ideal.τ).loc Cert.Kernel3Ideal.main_arg5)
  a6 : m' ((c.tc : Thread Cert.Reference3Ideal.nD Cert.Reference3Ideal.τ).loc Cert.Reference3Ideal.main_arg6) =
    m ((c.tc : Thread Cert.Kernel3Ideal.nD Cert.Kernel3Ideal.τ).loc Cert.Kernel3Ideal.main_arg6)
  a7 : m' ((c.tc : Thread Cert.Reference3Ideal.nD Cert.Reference3Ideal.τ).loc Cert.Reference3Ideal.main_arg7) =
    m ((c.tc : Thread Cert.Kernel3Ideal.nD Cert.Kernel3Ideal.τ).loc Cert.Kernel3Ideal.main_arg7)
  a8 : m' ((c.tc : Thread Cert.Reference3Ideal.nD Cert.Reference3Ideal.τ).loc Cert.Reference3Ideal.main_arg8) =
    m ((c.tc : Thread Cert.Kernel3Ideal.nD Cert.Kernel3Ideal.τ).loc Cert.Kernel3Ideal.main_arg8)
  a9 : m' ((c.tc : Thread Cert.Reference3Ideal.nD Cert.Reference3Ideal.τ).loc Cert.Reference3Ideal.main_arg9) =
    m ((c.tc : Thread Cert.Kernel3Ideal.nD Cert.Kernel3Ideal.τ).loc Cert.Kernel3Ideal.main_arg9)
  a10 : m' ((c.tc : Thread Cert.Reference3Ideal.nD Cert.Reference3Ideal.τ).loc Cert.Reference3Ideal.main_arg10) =
    m ((c.tc : Thread Cert.Kernel3Ideal.nD Cert.Kernel3Ideal.τ).loc Cert.Kernel3Ideal.main_arg10)
  a11 : m' ((c.tc : Thread Cert.Reference3Ideal.nD Cert.Reference3Ideal.τ).loc Cert.Reference3Ideal.main_arg11) =
    m ((c.tc : Thread Cert.Kernel3Ideal.nD Cert.Kernel3Ideal.τ).loc Cert.Kernel3Ideal.main_arg11)
  a12 : m' ((c.tc : Thread Cert.Reference3Ideal.nD Cert.Reference3Ideal.τ).loc Cert.Reference3Ideal.main_arg12) =
    m ((c.tc : Thread Cert.Kernel3Ideal.nD Cert.Kernel3Ideal.τ).loc Cert.Kernel3Ideal.main_arg12)
  a13 : m' ((c.tc : Thread Cert.Reference3Ideal.nD Cert.Reference3Ideal.τ).loc Cert.Reference3Ideal.main_arg13) =
    m ((c.tc : Thread Cert.Kernel3Ideal.nD Cert.Kernel3Ideal.τ).loc Cert.Kernel3Ideal.main_arg13)

variable {m m' c}

/-- The reference's residual row is the token's. -/
theorem hn_tok (h : Agree m m' c) (b : Fin 16) (r : Fin 4096) (e : Fin 1024) :
    (hn m' c : Cert.Reference3Ideal.S16x4096x1024.Idx → EReal) (ix3 b r e) = hnTok m c b r e := by
  unfold hn
  rw [Cert.Reference3Ideal.Refer.resid_at]
  simp only [Cert.Reference3Ideal.Refer.mixed_at]
  rw [h.a0, h.a1, h.a2, h.a3, h.a4, h.a5, h.a6, h.a7, h.a8, h.a9]
  rfl

theorem u2_tok (h : Agree m m' c) (b : Fin 16) (r : Fin 4096) (e : Fin 1024) :
    (modul (m' (c.tc.loc Cert.Reference3Ideal.main_arg10)) (m' (c.tc.loc Cert.Reference3Ideal.main_arg11))
      (m' (c.tc.loc Cert.Reference3Ideal.main_arg12)) (hn m' c) : Cert.Reference3Ideal.S16x4096x1024.Idx → EReal) (ix3 b r e) =
      u2Tok m c b r e := by
  rw [Cert.Reference3Ideal.Refer.modul_at]
  simp only [hn_tok h]
  rw [h.a10, h.a11, h.a12]
  rfl

theorem hn_tie (h : Agree m m' c) : (Cert.Kernel3Ideal.Gen.dats m 0 c).arrAt 14 Cert.Kernel3Ideal.cfg0.N =
    (hn m' c : Cert.Reference3Ideal.S16x4096x1024.Idx → EReal) :=
  hn_arr m c _ (hn_tok h)

theorem u2_tie (h : Agree m m' c) : (Cert.Kernel3Ideal.Gen.dats m 0 c).arrAt 15 Cert.Kernel3Ideal.cfg0.N =
    (Cert.Reference3Ideal.Value.res_main_v40 m' c : Cert.Reference3Ideal.S16x4096x1024.Idx → EReal) := by
  rw [Cert.Reference3Ideal.Refer.u2_eq]
  exact u2_arr m c _ (u2_tok h)

theorem lt_tie (h : Agree m m' c) : (Cert.Kernel3Ideal.Gen.dats m 0 c).arrAt 16 Cert.Kernel3Ideal.cfg0.N =
    (Cert.Reference3Ideal.Value.res_main_v42 m' c : Cert.Reference3Ideal.S16x16x4096.Idx → EReal) := by
  rw [Cert.Reference3Ideal.Refer.lt_eq]
  refine lt_arr m c _ fun b j r => ?_
  rw [Cert.Reference3Ideal.Refer.logits_at]
  simp only [u2_tok h]
  rw [h.a13]

end Cert.MergeTie
-- ==== Proof.ExpertProg.lean ====
/-
The experts' kernel, one gather at a time. The printed body repeats one group of operations for each of its sixteen
chunks of tokens, and again in the loop over the later row blocks: read the chunk's slots and gates, add the chosen
tokens' rows to 128 rows of the first scratch buffer and their gates to the same rows of the second. Here that group is
one program, and the printed body is equal to the sixteen groups followed by the loop and the two products.
-/
module

public import proofs.«01_k».proof.Proof.Gen.Kernel4Ideal.Skeleton
public import Idealize.ShloMosaic.Lib.Exec
public import Idealize.ShloMosaic.Lib.Tactic
public import Idealize.ShloMosaic.Lib.VecWindow
public import Idealize.ShloMosaic.Lib.Pipeline.Kit

@[expose] public section

noncomputable section

namespace Cert.Kernel4Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

abbrev Tc (F : FTy → Type) (α : Type) := Prog (TpuEff nD τ sig (Elt F) Λ₀ .tc) α

/-- A row mask as the 16-bit ones and zeros the product takes. -/
def ones (k : IVec S128x256 1) : FVec F S128x256 .bf16 :=
  truncf .bf16 (select k (broadcast S128x256 (Scalar.ofBits .f32 0x3F800000#32 : F .f32)) (broadcast S128x256 (Scalar.ofBits .f32 0x00000000#32 : F .f32))) bitsLt_bf16_f32

/-- One gather: the rows of chunk `j` that `mask` selects, added at rows `o` of the two scratch buffers. -/
def gather (arg3 : Memref sig .tc .vmem S1x4096x1024 .bf16) (arg4 : Memref sig .tc .vmem S1x1x16x256 .i32) (arg5 : Memref sig .tc .vmem S1x1x16x256 .f32)
    (arg10 : Memref sig .tc .vmem S512x1024 .f32) (arg11 : Memref sig .tc .vmem S512x1 .f32) (mask : Vec F S1x1x1x256 .i32 → IVec S128x256 1)
    (j : Fin k0_t1_loop.trips) (o10 o11 : Fin 2 → Nat) (h10 : ∀ a, o10 a + S128x1024.size a ≤ S512x1024.size a) (h11 : ∀ a, o11 a + S128x1.size a ≤ S512x1.size a) :
    Tc F PUnit := do
  let s : Vec F S1x1x1x256 .i32 ← Prog.lift (.load arg4 (Rect.unit (s := S1x1x16x256) (k0_off51 j) S1x1x1x256.size (k0_off51_inb j)).toLoadRect (View.loadsAt_vmem h_S1x1x1x256))
  let g : Vec F S1x1x1x256 .f32 ← Prog.lift (.load arg5 (Rect.unit (s := S1x1x16x256) (k0_off51 j) S1x1x1x256.size (k0_off51_inb j)).toLoadRect (View.loadsAt_vmem h_S1x1x1x256))
  let x : Vec F S128x1024 .f32 ← Prog.lift (.load arg10 (Rect.unit (s := S512x1024) o10 S128x1024.size h10).toLoadRect (View.loadsAt_vmem h_S128x1024))
  let u : Vec F S1x256x1024 .bf16 ← Prog.lift (.load arg3 (Rect.unit (s := S1x4096x1024) (k0_off53 j) S1x256x1024.size (k0_off53_inb j)).toLoadRect (View.loadsAt_vmem h_S1x256x1024))
  let _ : Vec F S128x1024 .f32 ← Prog.lift (.load arg10 (Rect.unit (s := S512x1024) o10 S128x1024.size h10).toLoadRect (View.loadsAt_vmem h_S128x1024))
  Prog.lift (.store arg10 (Rect.unit (s := S512x1024) o10 S128x1024.size h10) (k0_pay13 x (ones (mask s)) u) Finset.univ (View.stores_vmem_bits_univ h_S128x1024 rfl) (.inl rfl))
  let y : Vec F S128x1 .f32 ← Prog.lift (.load arg11 (Rect.unit (s := S512x1) o11 S128x1.size h11).toLoadRect (View.loadsAt_vmem h_S128x1))
  let _ : Vec F S128x1 .f32 ← Prog.lift (.load arg11 (Rect.unit (s := S512x1) o11 S128x1.size h11).toLoadRect (View.loadsAt_vmem h_S128x1))
  Prog.lift (.store arg11 (Rect.unit (s := S512x1) o11 S128x1.size h11) (k0_pay14 (mask s) (k0_pay11 g) y) Finset.univ (View.stores_vmem_bits_univ h_S128x1 rfl) (.inl rfl))

/-- The mask of a later row block: the slots of the block `b0` that lie past the rows the window covered. -/
def blockMask (lo hi : BitVec 32) (k : Fin (k0_t2_loop lo hi).trips) (s : Vec F S1x1x1x256 .i32) : IVec S128x256 1 :=
  k0_pay2 (iota .tc S128x256 32 [0] iota_S128x256_d0_w32) lo (Scalar.addi (Scalar.minsi (Scalar.andi lo 4294967288#32) 384#32) 128#32) hi
    (Scalar.shrui (Scalar.addi (Scalar.minsi (Scalar.andi lo 4294967288#32) 384#32) 128#32) 7#32) 1#32 k s

section Body
variable (i : grid0.Coords) (arg2 : Memref sig .tc .smem S8448 .i32) (arg3 : Memref sig .tc .vmem S1x4096x1024 .bf16) (arg4 : Memref sig .tc .vmem S1x1x16x256 .i32)
  (arg5 : Memref sig .tc .vmem S1x1x16x256 .f32) (arg6 arg7 arg8 : Memref sig .tc .vmem S1x1x1024x1024 .bf16) (arg9 : Memref sig .tc .vmem S1x1x512x1024 .bf16) (harg9 : arg9.IsWhole)
  (arg10 : Memref sig .tc .vmem S512x1024 .f32) (arg11 : Memref sig .tc .vmem S512x1 .f32)

/-- Both scratch buffers to zero. -/
def zeros : Tc F PUnit := do
  let _ : Vec F S512x1024 .f32 ← Prog.lift (.load arg10 (Rect.unit (s := S512x1024) ![0, 0] S512x1024.size inb_S512x1024_S512x1024_0_0).toLoadRect (View.loadsAt_vmem h_S512x1024))
  Prog.lift (.store arg10 (Rect.unit (s := S512x1024) ![0, 0] S512x1024.size inb_S512x1024_S512x1024_0_0) (k0_pay8 (F := F)) Finset.univ (View.stores_vmem_bits_univ h_S512x1024 rfl) (.inl rfl))
  let _ : Vec F S512x1 .f32 ← Prog.lift (.load arg11 (Rect.unit (s := S512x1) ![0, 0] S512x1.size inb_S512x1_S512x1_0_0).toLoadRect (View.loadsAt_vmem h_S512x1))
  Prog.lift (.store arg11 (Rect.unit (s := S512x1) ![0, 0] S512x1.size inb_S512x1_S512x1_0_0) (k0_pay9 (F := F)) Finset.univ (View.stores_vmem_bits_univ h_S512x1 rfl) (.inl rfl))

/-- Chunk `j`'s first window. -/
def chunk (j : Fin k0_t1_loop.trips) : Tc F PUnit := do
  let w : Elt F .i32 ← smemLoad arg2 (Rect.unit (s := S8448) (k0_off49 i j) S1.size (k0_off49_inb i j)) numel1_S1 rfl
  have hw : k0_chk1 w := (← Prog.lift (TpuEff.assume (k0_chk1 w) (k0_chk1.dec w))).down
  gather arg3 arg4 arg5 arg10 arg11 (k0_pay10 w) j (k0_off2 w) (k0_off3 w) (k0_off2_inb w hw) (k0_off3_inb w hw)

/-- The chunks from `j` on, then `rest`. -/
def chunks (rest : Tc F PUnit) : (n j : Nat) → j + n = 16 → Tc F PUnit
  | 0, _, _ => rest
  | n + 1, j, h => chunk i arg2 arg3 arg4 arg5 arg10 arg11 (F := F) ⟨j, show j < 16 by omega⟩ >>= fun _ => chunks rest n (j + 1) (by omega)

/-- One later row block of chunk `j`. -/
def block (j : Fin k0_t1_loop.trips) (lo hi : Elt F .i32) (hw : k0_chk17 lo hi) : Fin (k0_t2_loop lo hi).trips → Unit → Tc F Unit :=
  fun k _ => gather arg3 arg4 arg5 arg10 arg11 (blockMask lo hi k) j (k0_off52 lo hi k) (k0_off54 lo hi k) (k0_off52_inb lo hi hw k) (k0_off54_inb lo hi hw k)

/-- Chunk `j`'s later row blocks. -/
def later (j : Fin k0_t1_loop.trips) : Unit → Tc F Unit := fun _ => do
  let lo : Elt F .i32 ← smemLoad arg2 (Rect.unit (s := S8448) (k0_off49 i j) S1.size (k0_off49_inb i j)) numel1_S1 rfl
  let hi : Elt F .i32 ← smemLoad arg2 (Rect.unit (s := S8448) (k0_off50 i j) S1.size (k0_off50_inb i j)) numel1_S1 rfl
  have hw : k0_chk17 lo hi := (← Prog.lift (TpuEff.assume (k0_chk17 lo hi) (k0_chk17.dec lo hi))).down
  Scf.Loop.for (k0_t2_loop lo hi) (k0_t2_ok lo hi hw) ⟨⟩ (block arg3 arg4 arg5 arg10 arg11 (F := F) j lo hi hw)
  Scf.Loop.for (k0_t3_loop lo hi) (k0_t3_ok lo hi hw) ⟨⟩ fun (k : Fin (k0_t3_loop lo hi).trips) (_ : Unit) =>
    gather arg3 arg4 arg5 arg10 arg11 (F := F) (k0_pay5 (iota .tc S128x256 32 [0] iota_S128x256_d0_w32) lo (Scalar.addi (Scalar.minsi (Scalar.andi lo 4294967288#32) 384#32) 128#32) hi (k0_t3_loop lo hi).lb 1#32 k) j
      (k0_off56 lo hi k) (k0_off58 lo hi k) (k0_off56_inb lo hi hw k) (k0_off58_inb lo hi hw k)
  pure ⟨⟩

/-- The later blocks, then the first two products over the gathered rows. -/
def hidden : Tc F (FVec F S512x1024 .bf16) :=
  Scf.Loop.for k0_t1_loop k0_t1_ok ⟨⟩ (later i arg2 arg3 arg4 arg5 arg10 arg11 (F := F)) >>= fun _ => do
  let x : Vec F S512x1024 .f32 ← Prog.lift (.load arg10 (Rect.unit (s := S512x1024) ![0, 0] S512x1024.size inb_S512x1024_S512x1024_0_0).toLoadRect (View.loadsAt_vmem h_S512x1024))
  let w1 : Vec F S1x1x1024x1024 .bf16 ← Prog.lift (.load arg6 (Rect.unit (s := S1x1x1024x1024) ![0, 0, 0, 0] S1x1x1024x1024.size inb_S1x1x1024x1024_S1x1x1024x1024_0_0_0_0).toLoadRect (View.loadsAt_vmem h_S1x1x1024x1024))
  let w3 : Vec F S1x1x1024x1024 .bf16 ← Prog.lift (.load arg7 (Rect.unit (s := S1x1x1024x1024) ![0, 0, 0, 0] S1x1x1024x1024.size inb_S1x1x1024x1024_S1x1x1024x1024_0_0_0_0).toLoadRect (View.loadsAt_vmem h_S1x1x1024x1024))
  pure (k0_pay78 x w1 w3)

/-- The third product and the gates, stored. -/
def output (hid : FVec F S512x1024 .bf16) : Tc F PUnit := do
  let w2 : Vec F S1x1x1024x1024 .bf16 ← Prog.lift (.load arg8 (Rect.unit (s := S1x1x1024x1024) ![0, 0, 0, 0] S1x1x1024x1024.size inb_S1x1x1024x1024_S1x1x1024x1024_0_0_0_0).toLoadRect (View.loadsAt_vmem h_S1x1x1024x1024))
  let g : Vec F S512x1 .f32 ← Prog.lift (.load arg11 (Rect.unit (s := S512x1) ![0, 0] S512x1.size inb_S512x1_S512x1_0_0).toLoadRect (View.loadsAt_vmem h_S512x1))
  let _ : Vec F S1x1x512x1024 .bf16 ← Prog.lift (.load arg9 (Rect.unit (s := S1x1x512x1024) ![0, 0, 0, 0] S1x1x512x1024.size inb_S1x1x512x1024_S1x1x512x1024_0_0_0_0).toLoadRect (View.loadsAt_vmem h_S1x1x512x1024))
  Prog.lift (.store arg9 (Rect.unit (s := S1x1x512x1024) ![0, 0, 0, 0] S1x1x512x1024.size inb_S1x1x512x1024_S1x1x512x1024_0_0_0_0) (k0_pay1 hid w2 g) Finset.univ (View.stores_vmem h_S1x1x512x1024 (harg9.storeExact_slice rfl _ packedbf16_S1x1x512x1024_S1x1x512x1024_0_0_0_0) (fun _ => rfl)) (.inl rfl))

/-- The whole body: zeros, sixteen windows, the later blocks, the products. -/
def body : Tc F PUnit :=
  zeros arg10 arg11 >>= fun _ => chunks i arg2 arg3 arg4 arg5 arg10 arg11
    (hidden i arg2 arg3 arg4 arg5 arg6 arg7 arg10 arg11 >>= fun hid => output arg8 arg9 harg9 arg11 hid) 16 0 rfl

end Body

/-- The printed body is that. -/
theorem expert_eq (i : grid0.Coords) (arg2 : Memref sig .tc .smem S8448 .i32) (harg2 : arg2.IsWhole) (arg3 : Memref sig .tc .vmem S1x4096x1024 .bf16) (harg3 : arg3.IsWhole)
    (arg4 : Memref sig .tc .vmem S1x1x16x256 .i32) (harg4 : arg4.IsWhole) (arg5 : Memref sig .tc .vmem S1x1x16x256 .f32) (harg5 : arg5.IsWhole)
    (arg6 : Memref sig .tc .vmem S1x1x1024x1024 .bf16) (harg6 : arg6.IsWhole) (arg7 : Memref sig .tc .vmem S1x1x1024x1024 .bf16) (harg7 : arg7.IsWhole)
    (arg8 : Memref sig .tc .vmem S1x1x1024x1024 .bf16) (harg8 : arg8.IsWhole) (arg9 : Memref sig .tc .vmem S1x1x512x1024 .bf16) (harg9 : arg9.IsWhole)
    (arg10 : Memref sig .tc .vmem S512x1024 .f32) (harg10 : arg10.IsWhole) (arg11 : Memref sig .tc .vmem S512x1 .f32) (harg11 : arg11.IsWhole) :
    cc0_expert (F := F) i arg2 harg2 arg3 harg3 arg4 harg4 arg5 harg5 arg6 harg6 arg7 harg7 arg8 harg8 arg9 harg9 arg10 harg10 arg11 harg11
      = body i arg2 arg3 arg4 arg5 arg6 arg7 arg8 arg9 harg9 arg10 arg11 := by
  sl_kernel_rfl

end Cert.Kernel4Ideal.Expert

end
-- ==== Proof.ExpertRun.lean ====
/-
What the experts' body leaves: each gather as a step on the two scratch buffers' values, the sixteen windows and the
later blocks as folds of such steps, and the block of results written from what the folds leave.
-/
module

public import proofs.«01_k».proof.Proof.ExpertProg
public import Idealize.ShloMosaic.Lib.WordArith

@[expose] public section

set_option maxRecDepth 16384

noncomputable section

namespace Cert.Kernel4Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen
open Idealize.ShloMosaic.VecWindow (window put)

variable {F : FTy → Type} [FloatOps F]

local notation "𝕄" => MT nD τ sig Unit (Elt F) ℕ (UR sig nD τ) ℕ

/-- The two scratch buffers' values. -/
abbrev Acc (F : FTy → Type) : Type := Vec F S512x1024 .f32 × Vec F S512x1 .f32

/-- One gather's step on them. -/
def step (x0 : Vec F S1x4096x1024 .bf16) (x1 : Vec F S1x1x16x256 .i32) (x2 : Vec F S1x1x16x256 .f32)
    (mask : Vec F S1x1x1x256 .i32 → IVec S128x256 1)
    (j : Fin k0_t1_loop.trips) (o10 o11 : Fin 2 → Nat) (h10 : ∀ a, o10 a + S128x1024.size a ≤ S512x1024.size a) (h11 : ∀ a, o11 a + S128x1.size a ≤ S512x1.size a)
    (A : Acc F) : Acc F :=
  (put A.1 o10 S128x1024.size (k0_pay13 (window A.1 o10 S128x1024.size h10)
      (ones (mask (window x1 (k0_off51 j) S1x1x1x256.size (k0_off51_inb j)))) (window x0 (k0_off53 j) S1x256x1024.size (k0_off53_inb j))),
   put A.2 o11 S128x1.size (k0_pay14 (mask (window x1 (k0_off51 j) S1x1x1x256.size (k0_off51_inb j)))
      (k0_pay11 (window x2 (k0_off51 j) S1x1x1x256.size (k0_off51_inb j))) (window A.2 o11 S128x1.size h11)))

section Run
variable (𝒱 : Variants) (c : Dev nD) (bd : Option 𝒱.V) (E : Set ℕ)
variable (i : grid0.Coords) (arg2 : Memref sig .tc .smem S8448 .i32) (arg3 : Memref sig .tc .vmem S1x4096x1024 .bf16) (arg4 : Memref sig .tc .vmem S1x1x16x256 .i32)
  (arg5 : Memref sig .tc .vmem S1x1x16x256 .f32) (arg6 arg7 arg8 : Memref sig .tc .vmem S1x1x1024x1024 .bf16) (arg9 : Memref sig .tc .vmem S1x1x512x1024 .bf16) (harg9 : arg9.IsWhole)
  (arg10 : Memref sig .tc .vmem S512x1024 .f32) (arg11 : Memref sig .tc .vmem S512x1 .f32)
  (x0 : Vec F S1x4096x1024 .bf16) (x1 : Vec F S1x1x16x256 .i32) (x2 : Vec F S1x1x16x256 .f32)

/-- The buffers a gather reads, and the two it changes. -/
def Held (A : Acc F) : sProp 𝕄 :=
  iprop(owns (c : Thread nD τ) arg3 fullShare x0 ∗ owns (c : Thread nD τ) arg4 fullShare x1 ∗ owns (c : Thread nD τ) arg5 fullShare x2
    ∗ owns (c : Thread nD τ) arg10 fullShare A.1 ∗ owns (c : Thread nD τ) arg11 fullShare A.2)

set_option maxHeartbeats 1600000 in
theorem gather_run (mask : Vec F S1x1x1x256 .i32 → IVec S128x256 1)
    (j : Fin k0_t1_loop.trips) (o10 o11 : Fin 2 → Nat) (h10 : ∀ a, o10 a + S128x1024.size a ≤ S512x1024.size a) (h11 : ∀ a, o11 a + S128x1.size a ≤ S512x1.size a)
    (A : Acc F) :
    Held c arg3 arg4 arg5 arg10 arg11 x0 x1 x2 A
      ⊢ wp frame (wpE (defs₀ (F := F)) 𝒱 (c : Thread nD τ) bd) E (gather arg3 arg4 arg5 arg10 arg11 mask j o10 o11 h10 h11)
          (fun _ => Held c arg3 arg4 arg5 arg10 arg11 x0 x1 x2 (step x0 x1 x2 mask j o10 o11 h10 h11 A)) := by
  obtain ⟨X, Y⟩ := A
  unfold Held gather owns
  iintro ⟨⟨%f3, %hf3, H3⟩, ⟨%f4, %hf4, H4⟩, ⟨%f5, %hf5, H5⟩, ⟨%f10, %hf10, H10⟩, ⟨%f11, %hf11, H11⟩⟩
  sl_exec
  sl_step
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H10]
  · iexists _
    isplitr [H10]
    rotate_left
    · iexact H10
    ipureintro
    subst hf3 hf4 hf10
    exact View.read_writes_cons_put _ _ _ _ [] rfl
  · iexists _
    isplitr [H11]
    rotate_left
    · iexact H11
    ipureintro
    subst hf4 hf5 hf11
    exact View.read_writes_cons_put _ _ _ _ [] rfl

end Run

/-! ## The table and the folds -/

/-- The table the body reads its row ranges from, held at half the full share. -/
abbrev tabM : Memref sig .tc .smem S8448 .i32 := Memref.whole main_arg4
abbrev Tab (c : Dev nD) (T : Buf (Elt F) (tabM.view.loc (c : Thread nD τ))) : sProp 𝕄 :=
  tabM.view.loc (c : Thread nD τ) ↦{fullShare.right} T

/-- Where chunk `j`'s range begins, and where it ends. -/
def lo (T : Vec F S8448 .i32) (i : grid0.Coords) (j : Fin k0_t1_loop.trips) : Elt F .i32 :=
  window T (k0_off49 i j) S1.size (k0_off49_inb i j) (Shape.Idx.first (numel1_S1.symm ▸ Nat.one_pos))
def hi (T : Vec F S8448 .i32) (i : grid0.Coords) (j : Fin k0_t1_loop.trips) : Elt F .i32 :=
  window T (k0_off50 i j) S1.size (k0_off50_inb i j) (Shape.Idx.first (numel1_S1.symm ▸ Nat.one_pos))

/-- The side conditions of the run: each range fits the scratch buffers. -/
def Fits (T : Vec F S8448 .i32) (i : grid0.Coords) : Prop :=
  (∀ j, k0_chk1 (lo T i j)) ∧ ∀ j, k0_chk17 (lo T i j) (hi T i j)

section Folds
variable (T : Vec F S8448 .i32) (i : grid0.Coords) (H : Fits T i)
  (x0 : Vec F S1x4096x1024 .bf16) (x1 : Vec F S1x1x16x256 .i32) (x2 : Vec F S1x1x16x256 .f32)

/-- The scratch buffers after the first `n` windows. -/
def windows : ℕ → Acc F
  | 0 => (k0_pay8, k0_pay9)
  | n + 1 => if h : n < 16 then
      step x0 x1 x2 (k0_pay10 (lo T i ⟨n, h⟩)) ⟨n, h⟩ (k0_off2 (lo T i ⟨n, h⟩)) (k0_off3 (lo T i ⟨n, h⟩)) (k0_off2_inb _ (H.1 ⟨n, h⟩)) (k0_off3_inb _ (H.1 ⟨n, h⟩)) (windows n)
    else windows n

/-- After the first `n` later row blocks of chunk `j`, from `A`. -/
def blocks (j : Fin k0_t1_loop.trips) (A : Acc F) : ℕ → Acc F
  | 0 => A
  | n + 1 => if h : n < (k0_t2_loop (lo T i j) (hi T i j)).trips then
      step x0 x1 x2 (blockMask (lo T i j) (hi T i j) ⟨n, h⟩) j (k0_off52 _ _ ⟨n, h⟩) (k0_off54 _ _ ⟨n, h⟩) (k0_off52_inb _ _ (H.2 j) ⟨n, h⟩) (k0_off54_inb _ _ (H.2 j) ⟨n, h⟩) (blocks j A n)
    else blocks j A n

/-- After all windows and the later blocks of the first `n` chunks. -/
def laters : ℕ → Acc F
  | 0 => windows T i H x0 x1 x2 16
  | n + 1 => if h : n < 16 then blocks T i H x0 x1 x2 ⟨n, h⟩ (laters n) (k0_t2_loop (lo T i ⟨n, h⟩) (hi T i ⟨n, h⟩)).trips else laters n

/-- The block of results. -/
def result (w1 w3 w2 : Vec F S1x1x1024x1024 .bf16) : Vec F S1x1x512x1024 .bf16 :=
  k0_pay1 (k0_pay78 (laters T i H x0 x1 x2 16).1 w1 w3) w2 (laters T i H x0 x1 x2 16).2

end Folds

/-- The loop over what is left past the last whole step has no trip: the step is one. -/
theorem rest_trips (lo hi : BitVec 32) : (k0_t3_loop lo hi).trips = 0 := by
  have h : (k0_t3_loop lo hi).lb = (k0_t3_loop lo hi).ub := by
    unfold k0_t3_loop
    simp only [Scalar.divsi, Scalar.muli, Scalar.addi, IntOp.muli, WordArith.divsi_one, BitVec.mul_one]
  show ((((k0_t3_loop lo hi).ub).toInt - ((k0_t3_loop lo hi).lb).toInt + (1#32 : BitVec 32).toInt - 1) / (1#32 : BitVec 32).toInt).toNat = 0
  rw [h]
  simp

section Run
variable (𝒱 : Variants) (c : Dev nD) (bd : Option 𝒱.V) (E : Set ℕ)
variable (i : grid0.Coords) (arg3 : Memref sig .tc .vmem S1x4096x1024 .bf16) (arg4 : Memref sig .tc .vmem S1x1x16x256 .i32)
  (arg5 : Memref sig .tc .vmem S1x1x16x256 .f32) (arg6 arg7 arg8 : Memref sig .tc .vmem S1x1x1024x1024 .bf16) (arg9 : Memref sig .tc .vmem S1x1x512x1024 .bf16) (harg9 : arg9.IsWhole)
  (arg10 : Memref sig .tc .vmem S512x1024 .f32) (arg11 : Memref sig .tc .vmem S512x1 .f32)
  (x0 : Vec F S1x4096x1024 .bf16) (x1 : Vec F S1x1x16x256 .i32) (x2 : Vec F S1x1x16x256 .f32)
  (T : Vec F S8448 .i32) (H : Fits T i)

theorem chunk_run (n : ℕ) (h : n < 16) :
    iprop(Tab c T ∗ Held c arg3 arg4 arg5 arg10 arg11 x0 x1 x2 (windows T i H x0 x1 x2 n))
      ⊢ wp frame (wpE (defs₀ (F := F)) 𝒱 (c : Thread nD τ) bd) E (chunk i tabM arg3 arg4 arg5 arg10 arg11 ⟨n, h⟩)
          (fun _ => iprop(Tab c T ∗ Held c arg3 arg4 arg5 arg10 arg11 x0 x1 x2 (windows T i H x0 x1 x2 (n + 1)))) := by
  rw [show windows T i H x0 x1 x2 (n + 1) = _ from dif_pos h]
  unfold chunk
  iintro ⟨HT, HH⟩
  sl_exec (disch := sl_exact H.1 ⟨n, h⟩)
  iapply (wp_wand_r Idealize.ShloMosaic.frame (wpE (defs₀ (F := F)) 𝒱 (c : Thread nD τ) bd) E)
  isplitl [HH]
  · iapply (gather_run 𝒱 c bd E arg3 arg4 arg5 arg10 arg11 x0 x1 x2)
    iexact HH
  iintro %_ HH
  isplitl [HT]; · iexact HT
  iexact HH

theorem chunks_run (rest : Tc F PUnit) (Q : PUnit → sProp 𝕄) : ∀ (n j : ℕ) (h : j + n = 16),
    iprop(Tab c T ∗ Held c arg3 arg4 arg5 arg10 arg11 x0 x1 x2 (windows T i H x0 x1 x2 j)
        ∗ (iprop(Tab c T ∗ Held c arg3 arg4 arg5 arg10 arg11 x0 x1 x2 (windows T i H x0 x1 x2 16)) -∗ wp frame (wpE (defs₀ (F := F)) 𝒱 (c : Thread nD τ) bd) E rest Q))
      ⊢ wp frame (wpE (defs₀ (F := F)) 𝒱 (c : Thread nD τ) bd) E (chunks i tabM arg3 arg4 arg5 arg10 arg11 rest n j h) Q
  | 0, j, h => by
    obtain rfl : j = 16 := by omega
    show _ ⊢ wp _ _ _ rest Q
    iintro ⟨HT, HH, HK⟩
    iapply HK
    isplitl [HT]; · iexact HT
    iexact HH
  | n + 1, j, h => by
    show _ ⊢ wp _ _ _ (chunk i tabM arg3 arg4 arg5 arg10 arg11 _ >>= fun _ => chunks i tabM arg3 arg4 arg5 arg10 arg11 rest n (j + 1) (by omega)) Q
    rw [wp_bind]
    iintro ⟨HT, HH, HK⟩
    iapply (wp_wand_r Idealize.ShloMosaic.frame (wpE (defs₀ (F := F)) 𝒱 (c : Thread nD τ) bd) E)
    isplitl [HT HH]
    · iapply (chunk_run 𝒱 c bd E i arg3 arg4 arg5 arg10 arg11 x0 x1 x2 T H j _)
      isplitl [HT]; · iexact HT
      iexact HH
    iintro %_ ⟨HT, HH⟩
    iapply (chunks_run rest Q n (j + 1) _)
    isplitl [HT]; · iexact HT
    isplitl [HH]; · iexact HH
    iexact HK

theorem block_run (j : Fin k0_t1_loop.trips) (A : Acc F) (k : Fin (k0_t2_loop (lo T i j) (hi T i j)).trips) :
    Held c arg3 arg4 arg5 arg10 arg11 x0 x1 x2 (blocks T i H x0 x1 x2 j A k.val)
      ⊢ wp frame (wpE (defs₀ (F := F)) 𝒱 (c : Thread nD τ) bd) E (block arg3 arg4 arg5 arg10 arg11 j (lo T i j) (hi T i j) (H.2 j) k ())
          (fun _ => Held c arg3 arg4 arg5 arg10 arg11 x0 x1 x2 (blocks T i H x0 x1 x2 j A (k.val + 1))) := by
  rw [show blocks T i H x0 x1 x2 j A (k.val + 1) = _ from dif_pos k.isLt]
  exact gather_run 𝒱 c bd E arg3 arg4 arg5 arg10 arg11 x0 x1 x2 _ j _ _ _ _ _

theorem later_run (n : ℕ) (h : n < 16) :
    iprop(Tab c T ∗ Held c arg3 arg4 arg5 arg10 arg11 x0 x1 x2 (laters T i H x0 x1 x2 n))
      ⊢ wp frame (wpE (defs₀ (F := F)) 𝒱 (c : Thread nD τ) bd) E (later i tabM arg3 arg4 arg5 arg10 arg11 ⟨n, h⟩ ())
          (fun _ => iprop(Tab c T ∗ Held c arg3 arg4 arg5 arg10 arg11 x0 x1 x2 (laters T i H x0 x1 x2 (n + 1)))) := by
  rw [show laters T i H x0 x1 x2 (n + 1) = _ from dif_pos h]
  unfold later
  iintro ⟨HT, HH⟩
  sl_exec (disch := sl_exact H.2 ⟨n, h⟩)
  rw [wp_bind]
  iapply (wp_wand_r Idealize.ShloMosaic.frame (wpE (defs₀ (F := F)) 𝒱 (c : Thread nD τ) bd) E)
  isplitl [HH]
  · iapply (Scf.wp_for Idealize.ShloMosaic.frame (wpE (defs₀ (F := F)) 𝒱 (c : Thread nD τ) bd) E _ _ _ _ ()
      (block arg3 arg4 arg5 arg10 arg11 ⟨n, h⟩ (lo T i ⟨n, h⟩) (hi T i ⟨n, h⟩) (H.2 ⟨n, h⟩))
      (fun k _ => Held c arg3 arg4 arg5 arg10 arg11 x0 x1 x2 (blocks T i H x0 x1 x2 ⟨n, h⟩ (laters T i H x0 x1 x2 n) k))
      (fun k _ => block_run 𝒱 c bd E i arg3 arg4 arg5 arg10 arg11 x0 x1 x2 T H ⟨n, h⟩ _ k))
    isplitl [HH]; · iexact HH
    iintro %_ HH
    iexact HH
  iintro %_ HH
  rw [wp_bind]
  iapply (wp_wand_r Idealize.ShloMosaic.frame (wpE (defs₀ (F := F)) 𝒱 (c : Thread nD τ) bd) E)
  isplitl [HH]
  · iapply (Scf.wp_for Idealize.ShloMosaic.frame (wpE (defs₀ (F := F)) 𝒱 (c : Thread nD τ) bd) E _ _ _ _ () _
      (fun _ _ => Held c arg3 arg4 arg5 arg10 arg11 x0 x1 x2 (blocks T i H x0 x1 x2 ⟨n, h⟩ (laters T i H x0 x1 x2 n) (k0_t2_loop (lo T i ⟨n, h⟩) (hi T i ⟨n, h⟩)).trips))
      (fun k _ => absurd (lt_of_lt_of_eq k.isLt (rest_trips _ _)) (Nat.not_lt_zero _)))
    isplitl [HH]; · iexact HH
    iintro %_ HH
    iexact HH
  iintro %_ HH
  sl_exec
  sl_step
  isplitl [HT]; · iexact HT
  iexact HH

theorem zeros_run :
    iprop(owns (c : Thread nD τ) arg3 fullShare x0 ∗ owns (c : Thread nD τ) arg4 fullShare x1 ∗ owns (c : Thread nD τ) arg5 fullShare x2
        ∗ (∃ d, owns (c : Thread nD τ) arg10 fullShare d) ∗ (∃ d, owns (c : Thread nD τ) arg11 fullShare d))
      ⊢ wp frame (wpE (defs₀ (F := F)) 𝒱 (c : Thread nD τ) bd) E (zeros arg10 arg11)
          (fun _ => Held c arg3 arg4 arg5 arg10 arg11 x0 x1 x2 (windows T i H x0 x1 x2 0)) := by
  unfold zeros
  iintro ⟨H3, H4, H5, ⟨%d10, H10⟩, ⟨%d11, H11⟩⟩
  unfold Held owns
  icases H10 with ⟨%f10, %hf10, H10⟩
  icases H11 with ⟨%f11, %hf11, H11⟩
  sl_exec
  sl_step
  isplitl [H3]; · iexact H3
  isplitl [H4]; · iexact H4
  isplitl [H5]; · iexact H5
  isplitl [H10]
  · iexists _
    isplitr [H10]
    rotate_left
    · iexact H10
    ipureintro
    exact View.read_writes_full _ _ _ _ []
  · iexists _
    isplitr [H11]
    rotate_left
    · iexact H11
    ipureintro
    exact View.read_writes_full _ _ _ _ []

theorem hidden_run (w1 w3 : Vec F S1x1x1024x1024 .bf16) :
    iprop(Tab c T ∗ Held c arg3 arg4 arg5 arg10 arg11 x0 x1 x2 (windows T i H x0 x1 x2 16) ∗ owns (c : Thread nD τ) arg6 fullShare w1 ∗ owns (c : Thread nD τ) arg7 fullShare w3)
      ⊢ wp frame (wpE (defs₀ (F := F)) 𝒱 (c : Thread nD τ) bd) E (hidden i tabM arg3 arg4 arg5 arg6 arg7 arg10 arg11)
          (fun v => iprop(Tab c T ∗ Held c arg3 arg4 arg5 arg10 arg11 x0 x1 x2 (laters T i H x0 x1 x2 16) ∗ owns (c : Thread nD τ) arg6 fullShare w1 ∗ owns (c : Thread nD τ) arg7 fullShare w3
            ∗ ⌜v = k0_pay78 (laters T i H x0 x1 x2 16).1 w1 w3⌝)) := by
  unfold hidden
  rw [wp_bind]
  iintro ⟨HT, HH, H6, H7⟩
  iapply (wp_wand_r Idealize.ShloMosaic.frame (wpE (defs₀ (F := F)) 𝒱 (c : Thread nD τ) bd) E)
  isplitl [HT HH]
  · iapply (Scf.wp_for Idealize.ShloMosaic.frame (wpE (defs₀ (F := F)) 𝒱 (c : Thread nD τ) bd) E k0_t1_loop.lb k0_t1_loop.ub k0_t1_loop.st _ () _
      (fun k _ => iprop(Tab c T ∗ Held c arg3 arg4 arg5 arg10 arg11 x0 x1 x2 (laters T i H x0 x1 x2 k)))
      (fun k _ => later_run 𝒱 c bd E i arg3 arg4 arg5 arg10 arg11 x0 x1 x2 T H k.val k.isLt))
    isplitl [HT HH]
    · isplitl [HT]; · iexact HT
      iexact HH
    iintro %_ HH
    iexact HH
  iintro %_ ⟨HT, HH⟩
  unfold Held owns
  icases HH with ⟨H3, H4, H5, ⟨%f10, %hf10, H10⟩, H11⟩
  icases H6 with ⟨%f6, %hf6, H6⟩
  icases H7 with ⟨%f7, %hf7, H7⟩
  sl_exec
  sl_step
  isplitl [HT]; · iexact HT
  isplitl [H3 H4 H5 H10 H11]
  · isplitl [H3]; · iexact H3
    isplitl [H4]; · iexact H4
    isplitl [H5]; · iexact H5
    isplitl [H10]
    · iexists _; isplitr; · ipureintro; exact hf10
      iexact H10
    iexact H11
  isplitl [H6]
  · iexists _; isplitr; · ipureintro; exact hf6
    iexact H6
  isplitl [H7]
  · iexists _; isplitr; · ipureintro; exact hf7
    iexact H7
  ipureintro
  rw [← hf6, ← hf7]
  refine congr (congr (congrArg k0_pay78 ((View.readAt_full _ _ _).trans hf10)) (View.readAt_full _ _ _)) (View.readAt_full _ _ _)

theorem output_run (hid : FVec F S512x1024 .bf16) (w2 : Vec F S1x1x1024x1024 .bf16) (g : Vec F S512x1 .f32) :
    (iprop(owns (c : Thread nD τ) arg8 fullShare w2 ∗ owns (c : Thread nD τ) arg11 fullShare g ∗ (∃ d, owns (c : Thread nD τ) arg9 fullShare d)) : sProp 𝕄)
      ⊢ wp frame (wpE (defs₀ (F := F)) 𝒱 (c : Thread nD τ) bd) E (output arg8 arg9 harg9 arg11 hid)
          (fun _ => iprop(owns (c : Thread nD τ) arg8 fullShare w2 ∗ owns (c : Thread nD τ) arg11 fullShare g ∗ owns (c : Thread nD τ) arg9 fullShare (k0_pay1 hid w2 g))) := by
  unfold output owns
  iintro ⟨⟨%f8, %hf8, H8⟩, ⟨%f11, %hf11, H11⟩, ⟨%d9, %f9, %hf9, H9⟩⟩
  sl_exec
  sl_step
  isplitl [H8]
  · iexists _; isplitr; · ipureintro; exact hf8
    iexact H8
  isplitl [H11]
  · iexists _; isplitr; · ipureintro; exact hf11
    iexact H11
  iexists _
  isplitr [H9]
  rotate_left
  · iexact H9
  ipureintro
  subst hf8 hf11
  refine (View.read_writes_full _ _ _ _ []).trans ?_
  exact congr (congrArg (k0_pay1 hid) (View.readAt_full _ _ _)) (View.readAt_full _ _ _)

/-- The body's triple: the inputs as they were, the block of results in the output's staging buffer. -/
theorem body_run (w1 w3 w2 : Vec F S1x1x1024x1024 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare w1 ∗ owns (c : Thread nD τ) arg7 fullShare w3 ∗ owns (c : Thread nD τ) arg8 fullShare w2
        ∗ (∃ d, owns (c : Thread nD τ) arg9 fullShare d) ∗ (∃ d, owns (c : Thread nD τ) arg10 fullShare d) ∗ (∃ d, owns (c : Thread nD τ) arg11 fullShare d) ∗ Tab c T
        ∗ (iprop(owns (c : Thread nD τ) arg3 fullShare x0 ∗ owns (c : Thread nD τ) arg4 fullShare x1 ∗ owns (c : Thread nD τ) arg5 fullShare x2
        ∗ owns (c : Thread nD τ) arg6 fullShare w1 ∗ owns (c : Thread nD τ) arg7 fullShare w3 ∗ owns (c : Thread nD τ) arg8 fullShare w2
        ∗ owns (c : Thread nD τ) arg9 fullShare (result T i H x0 x1 x2 w1 w3 w2) ∗ (∃ d, owns (c : Thread nD τ) arg10 fullShare d) ∗ (∃ d, owns (c : Thread nD τ) arg11 fullShare d) ∗ Tab c T) -∗ K ⟨⟩))
      ⊢ wp frame (wpE (defs₀ (F := F)) 𝒱 (c : Thread nD τ) bd) E (body i tabM arg3 arg4 arg5 arg6 arg7 arg8 arg9 harg9 arg10 arg11) K := by
  unfold body
  rw [wp_bind]
  iintro ⟨H3, H4, H5, H6, H7, H8, H9, H10, H11, HT, HK⟩
  iapply (wp_wand_r Idealize.ShloMosaic.frame (wpE (defs₀ (F := F)) 𝒱 (c : Thread nD τ) bd) E)
  isplitl [H3 H4 H5 H10 H11]
  · iapply (zeros_run 𝒱 c bd E i arg3 arg4 arg5 arg10 arg11 x0 x1 x2 T H)
    isplitl [H3]; · iexact H3
    isplitl [H4]; · iexact H4
    isplitl [H5]; · iexact H5
    isplitl [H10]; · iexact H10
    iexact H11
  iintro %_ HH
  iapply (chunks_run 𝒱 c bd E i arg3 arg4 arg5 arg10 arg11 x0 x1 x2 T H _ _ 16 0 rfl)
  isplitl [HT]; · iexact HT
  isplitl [HH]; · iexact HH
  iintro ⟨HT, HH⟩
  rw [wp_bind]
  iapply (wp_wand_r Idealize.ShloMosaic.frame (wpE (defs₀ (F := F)) 𝒱 (c : Thread nD τ) bd) E)
  isplitl [HT HH H6 H7]
  · iapply (hidden_run 𝒱 c bd E i arg3 arg4 arg5 arg6 arg7 arg10 arg11 x0 x1 x2 T H w1 w3)
    isplitl [HT]; · iexact HT
    isplitl [HH]; · iexact HH
    isplitl [H6]; · iexact H6
    iexact H7
  iintro %v ⟨HT, HH, H6, H7, %hv⟩
  unfold Held
  icases HH with ⟨H3, H4, H5, H10, H11⟩
  iapply (wp_wand_r Idealize.ShloMosaic.frame (wpE (defs₀ (F := F)) 𝒱 (c : Thread nD τ) bd) E)
  isplitl [H8 H9 H11]
  · iapply (output_run 𝒱 c bd E arg8 arg9 harg9 arg11 v w2 _)
    isplitl [H8]; · iexact H8
    isplitl [H11]; · iexact H11
    iexact H9
  iintro %_ ⟨H8, H11, H9⟩
  rw [hv]
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexact HT

end Run

end Cert.Kernel4Ideal.Expert

end
-- ==== Proof.ExpertFrame.lean ====
/-
The launch of the experts' kernel: what each grid point's windows hold, the body's triple at each point, and the run of
the whole program, under the side conditions of the table.
-/
module

public import proofs.«01_k».proof.Proof.Gen.Kernel4Ideal.Launch
public import proofs.«01_k».proof.Proof.ExpertRun
public import Idealize.ShloMosaic.Lib.Pipeline.FrameBody
public import Idealize.ShloMosaic.Lib.Claim

@[expose] public section

set_option maxRecDepth 16384

noncomputable section

namespace Cert.Kernel4Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold when the call begins: after the weights' casts and the tables' reshapes. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0] (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.unary_writes, StableHlo.reshape_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S8448 .i32 := Memref.whole main_arg4
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

abbrev ms0_0 (hO : Ok m) (t : Fin (cfgM m hO).N) : Memref sig .tc .vmem S1x4096x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x16x256 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x16x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x512x1024 .bf16 := spec0_6.stage ((cfgM m hO).slots t 6)
abbrev hs0_6 (hO : Ok m) (t : Fin (cfgM m hO).N) : (ms0_6 m hO t).IsWhole := hstage0_6 (((cfgM m hO).slots t 6).cast nbuf0_6)

abbrev scM0_0 : Memref sig .tc .vmem S512x1024 .f32 := Memref.whole cc0_scratch0
abbrev scM0_1 : Memref sig .tc .vmem S512x1 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

abbrev bodyAt0 (a : (pcfg0 (F := F)).Adm) (t : Fin (cfg0 a).N) : Prog (TpuEff nD τ sig (Elt F) Λ₀ .tc) PUnit :=
  cc0_expert (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _)

/-- The printed body's triple. -/
theorem expert_run (𝒱 : Variants) (c : Dev nD) (bd : Option 𝒱.V) (E : Set ℕ) (i : grid0.Coords)
    (arg3 : Memref sig .tc .vmem S1x4096x1024 .bf16) (harg3 : arg3.IsWhole)
    (arg4 : Memref sig .tc .vmem S1x1x16x256 .i32) (harg4 : arg4.IsWhole) (arg5 : Memref sig .tc .vmem S1x1x16x256 .f32) (harg5 : arg5.IsWhole)
    (arg6 : Memref sig .tc .vmem S1x1x1024x1024 .bf16) (harg6 : arg6.IsWhole) (arg7 : Memref sig .tc .vmem S1x1x1024x1024 .bf16) (harg7 : arg7.IsWhole)
    (arg8 : Memref sig .tc .vmem S1x1x1024x1024 .bf16) (harg8 : arg8.IsWhole) (arg9 : Memref sig .tc .vmem S1x1x512x1024 .bf16) (harg9 : arg9.IsWhole)
    (arg10 : Memref sig .tc .vmem S512x1024 .f32) (harg10 : arg10.IsWhole) (arg11 : Memref sig .tc .vmem S512x1 .f32) (harg11 : arg11.IsWhole)
    (x0 : Vec F S1x4096x1024 .bf16) (x1 : Vec F S1x1x16x256 .i32) (x2 : Vec F S1x1x16x256 .f32) (T : Vec F S8448 .i32) (H : Fits T i)
    (w1 w3 w2 : Vec F S1x1x1024x1024 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare w1 ∗ owns (c : Thread nD τ) arg7 fullShare w3 ∗ owns (c : Thread nD τ) arg8 fullShare w2
        ∗ (∃ d, owns (c : Thread nD τ) arg9 fullShare d) ∗ (∃ d, owns (c : Thread nD τ) arg10 fullShare d) ∗ (∃ d, owns (c : Thread nD τ) arg11 fullShare d) ∗ Tab c T
        ∗ (iprop(owns (c : Thread nD τ) arg3 fullShare x0 ∗ owns (c : Thread nD τ) arg4 fullShare x1 ∗ owns (c : Thread nD τ) arg5 fullShare x2
        ∗ owns (c : Thread nD τ) arg6 fullShare w1 ∗ owns (c : Thread nD τ) arg7 fullShare w3 ∗ owns (c : Thread nD τ) arg8 fullShare w2
        ∗ owns (c : Thread nD τ) arg9 fullShare (result T i H x0 x1 x2 w1 w3 w2) ∗ (∃ d, owns (c : Thread nD τ) arg10 fullShare d) ∗ (∃ d, owns (c : Thread nD τ) arg11 fullShare d) ∗ Tab c T) -∗ K ⟨⟩))
      ⊢ wp frame (wpE (defs₀ (F := F)) 𝒱 (c : Thread nD τ) bd) E
          (cc0_expert i tabM (Memref.isWhole_whole _) arg3 harg3 arg4 harg4 arg5 harg5 arg6 harg6 arg7 harg7 arg8 harg8 arg9 harg9 arg10 harg10 arg11 harg11) K := by
  rw [expert_eq]
  exact body_run 𝒱 c bd E i arg3 arg4 arg5 arg6 arg7 arg8 arg9 harg9 arg10 arg11 x0 x1 x2 T H w1 w3 w2 K

/-- The side conditions at every grid point: each chunk's range fits the scratch buffers. -/
def Hyps : Prop := ∀ i : grid0.Coords, Fits (tbl m 0) i

/-- What a grid point leaves in the results' staging buffer. -/
def outsAt0 (hO : Ok m) (hH : Hyps m) (c : Dev nD) (t : Fin (cfgM m hO).N) : Vec F S1x1x512x1024 .bf16 :=
  result (tbl m 0) (grid0.coords t) (hH (grid0.coords t)) (iblk m hO c 0 t) (iblk m hO c 1 t) (iblk m hO c 2 t) (iblk m hO c 3 t) (iblk m hO c 4 t) (iblk m hO c 5 t)

def dats (hO : Ok m) (hH : Hyps m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsAt0 m hO hH c t)
  Φ _ := iprop(Pipeline.ΦA spec0 c ∗ Pipeline.ΦT pre0 (tbl m) c)
  q _ := fullShare
  owed _ := 0

theorem A_eq (hO : Ok m) (hH : Hyps m) (c : Dev nD) (w : Fin (cfgM m hO).W) : (dats m hO hH 0 c).A w = V m c (Pipeline.arrRef spec0 w) := by
  dsimp only [dats]

theorem after0_0 (hO : Ok m) (hH : Hyps m) (c : Dev nD) (t : Fin (cfgM m hO).N) : (dats m hO hH 0 c).after 0 t = iblk m hO c 0 t := by dsimp only [dats]; try rfl
theorem after0_1 (hO : Ok m) (hH : Hyps m) (c : Dev nD) (t : Fin (cfgM m hO).N) : (dats m hO hH 0 c).after 1 t = iblk m hO c 1 t := by dsimp only [dats]; try rfl
theorem after0_2 (hO : Ok m) (hH : Hyps m) (c : Dev nD) (t : Fin (cfgM m hO).N) : (dats m hO hH 0 c).after 2 t = iblk m hO c 2 t := by dsimp only [dats]; try rfl
theorem after0_3 (hO : Ok m) (hH : Hyps m) (c : Dev nD) (t : Fin (cfgM m hO).N) : (dats m hO hH 0 c).after 3 t = iblk m hO c 3 t := by dsimp only [dats]; try rfl
theorem after0_4 (hO : Ok m) (hH : Hyps m) (c : Dev nD) (t : Fin (cfgM m hO).N) : (dats m hO hH 0 c).after 4 t = iblk m hO c 4 t := by dsimp only [dats]; try rfl
theorem after0_5 (hO : Ok m) (hH : Hyps m) (c : Dev nD) (t : Fin (cfgM m hO).N) : (dats m hO hH 0 c).after 5 t = iblk m hO c 5 t := by dsimp only [dats]; try rfl
theorem after0_6 (hO : Ok m) (hH : Hyps m) (c : Dev nD) (t : Fin (cfgM m hO).N) : (dats m hO hH 0 c).after 6 t = (outsAt0 m hO hH c t) := by dsimp only [dats]; try rfl

theorem before0_0 (hO : Ok m) (hH : Hyps m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m) (c : Dev nD) (t : Fin (cfgM m hO).N) (d) : (dats m hO hH 0 c).before 5 t d = iblk m hO c 5 t :=
  before0_5_of m hO (dats m hO hH 0 c) (A_eq m hO hH c 5) (after0_5 m hO hH c) t d

def bodyPre (hO : Ok m) (hH : Hyps m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d)))

def bodyPost (hO : Ok m) (hH : Hyps m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t))

/-- The body at a grid point. -/
theorem sound_body (hO : Ok m) (hH : Hyps m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6]
  rw [show (dats m hO hH 0 c).Φ t.castSucc = iprop(Pipeline.ΦA spec0 c ∗ Pipeline.ΦT pre0 (tbl m) c) from rfl, PhiT0_eq, PhiA0_eq]
  unfold outsAt0
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply (expert_run Variants.none c none Set.univ (grid0.coords t) _ _ _ _ _ _ _ _ _ _ _ _ _ _ _ _ _ _ (iblk m hO c 0 t) (iblk m hO c 1 t) (iblk m hO c 2 t) (tbl m 0) (hH (grid0.coords t)) (iblk m hO c 3 t) (iblk m hO c 4 t) (iblk m hO c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HT0]; · iexact HT0
  iintro ⟨H0, H1, H2, H3, H4, H5, H6, HS0, HS1, HT0⟩
  isplitl [HS0 HS1 Hg HT0]
  · isplitl [HS0 HS1 Hg]
    · isplitl [HS0 HS1]
      · isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

set_option backward.isDefEq.respectTransparency.types false in
theorem run_main_quiescent (hO : Ok m) (hH : Hyps m) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

theorem run_main (hO : Ok m) (hH : Hyps m) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO hH) (A_eq m hO hH) (run_main m ρ hO hH)

theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.Kernel4Ideal.Expert

end
-- ==== Proof.ExpertWords.lean ====
/-
The words the experts' body computes its offsets and its loop bounds from, as natural numbers: for a chunk whose slots
begin at `a` and end before `b`, the window's first row, the blocks the loop runs over, and the rows each covers.
-/
module

public import proofs.«01_k».proof.Proof.ExpertRun

@[expose] public section

set_option maxRecDepth 16384

noncomputable section

namespace Cert.Kernel4Ideal.Expert

open Idealize.ShloMosaic Cert.Kernel4Ideal.Gen
open Idealize.ShloMosaic.VecWindow (window put)

/-- The first row of the window of a chunk whose slots begin at `a`. -/
@[irreducible] def base (a : ℕ) : ℕ := min (a / 8 * 8) 384
/-- The first row block past that window, and the end of the blocks up to slot `b`. -/
def first (a : ℕ) : ℕ := (base a + 128) / 128
def stop (a b : ℕ) : ℕ := if base a + 128 < b then (b + 127) / 128 else first a

theorem base_le (a : ℕ) : base a ≤ a ∧ base a ≤ 384 ∧ 8 ∣ base a := by
  unfold base
  refine ⟨by omega, by omega, ?_⟩
  rcases Nat.le_total (a / 8 * 8) 384 with h | h
  · rw [min_eq_left h]; exact ⟨_, mul_comm _ _⟩
  · rw [min_eq_right h]; exact ⟨48, rfl⟩

theorem stop_le {a b : ℕ} (hb : b ≤ 512) : first a ≤ stop a b ∧ stop a b ≤ 4 := by
  have := base_le a
  unfold stop first
  split <;> omega

theorem base_word {a : ℕ} (h : a ≤ 512) :
    Scalar.minsi (Scalar.andi (BitVec.ofNat 32 a) 4294967288#32) 384#32 = BitVec.ofNat 32 (base a) := by
  have key : ∀ a : Fin 513, Scalar.minsi (Scalar.andi (BitVec.ofNat 32 a.val) 4294967288#32) 384#32 = BitVec.ofNat 32 (min (a.val / 8 * 8) 384) := by decide
  unfold base
  exact key ⟨a, by omega⟩

theorem block_word {n : ℕ} (h : n ≤ 1024) : Scalar.shrui (BitVec.ofNat 32 n) 7#32 = BitVec.ofNat 32 (n / 128) := by
  have key : ∀ n : Fin 1025, Scalar.shrui (BitVec.ofNat 32 n.val) 7#32 = BitVec.ofNat 32 (n.val / 128) := by decide
  exact key ⟨n, by omega⟩

theorem add_word (n k : ℕ) : Scalar.addi (BitVec.ofNat 32 n) (BitVec.ofNat 32 k) = BitVec.ofNat 32 (n + k) :=
  (BitVec.ofNat_add n k).symm

theorem toInt_word {n : ℕ} (h : n ≤ 4096) : (BitVec.ofNat 32 n).toInt = n :=
  WordArith.toInt_ofNat_small n (by omega)

/-- The loop over the later blocks. -/
theorem loop_word {a b : ℕ} (ha : a ≤ 512) (hb : b ≤ 512) :
    k0_t2_loop (BitVec.ofNat 32 a) (BitVec.ofNat 32 b) = ⟨BitVec.ofNat 32 (first a), BitVec.ofNat 32 (stop a b), 1#32⟩ := by
  have h1 := base_le a
  have hc : Scalar.addi (Scalar.minsi (Scalar.andi (BitVec.ofNat 32 a) 4294967288#32) 384#32) 128#32 = BitVec.ofNat 32 (base a + 128) := by
    rw [base_word ha]; exact add_word _ 128
  have hf : Scalar.shrui (BitVec.ofNat 32 (base a + 128)) 7#32 = BitVec.ofNat 32 (first a) := block_word (by omega)
  have hs : Scalar.shrui (Scalar.addi (BitVec.ofNat 32 b) 127#32) 7#32 = BitVec.ofNat 32 ((b + 127) / 128) := by
    rw [show Scalar.addi (BitVec.ofNat 32 b) 127#32 = BitVec.ofNat 32 (b + 127) from add_word b 127]
    exact block_word (by omega)
  have hg : Scalar.select (Scalar.cmpi .sgt (BitVec.ofNat 32 b) (BitVec.ofNat 32 (base a + 128))) (BitVec.ofNat 32 ((b + 127) / 128)) (BitVec.ofNat 32 (first a))
      = BitVec.ofNat 32 (stop a b) := by
    show (if BitVec.ofBool ((BitVec.ofNat 32 (base a + 128)).slt (BitVec.ofNat 32 b)) = 1 then _ else _) = _
    rw [BitVec.slt, toInt_word (by omega), toInt_word (by omega)]
    unfold stop
    by_cases h : base a + 128 < b
    · have h' : ((base a + 128 : ℕ) : ℤ) < (b : ℤ) := by omega
      simp only [h', h, decide_true, if_true]; rfl
    · have : ¬ ((base a + 128 : ℕ) : ℤ) < (b : ℤ) := by omega
      simp only [this, h, decide_false, if_false]; rfl
  unfold k0_t2_loop
  simp only [hc, hf, hs, hg]
  refine congrArg (fun u => (⟨BitVec.ofNat 32 (first a), u, 1#32⟩ : Scf.Loop 32)) ?_
  simp only [Scalar.divsi, Scalar.muli, Scalar.addi, Scalar.subi, IntOp.muli, IntOp.addi, IntOp.subi, WordArith.divsi_one, BitVec.mul_one]
  bv_omega

theorem loop_trips {a b : ℕ} (ha : a ≤ 512) (hb : b ≤ 512) :
    (k0_t2_loop (BitVec.ofNat 32 a) (BitVec.ofNat 32 b)).trips = stop a b - first a := by
  rw [loop_word ha hb]
  have h := stop_le (a := a) hb
  show (((BitVec.ofNat 32 (stop a b)).toInt - (BitVec.ofNat 32 (first a)).toInt + (1#32 : BitVec 32).toInt - 1) / (1#32 : BitVec 32).toInt).toNat = _
  rw [toInt_word (by omega), toInt_word (by omega), show (1#32 : BitVec 32).toInt = 1 from rfl]
  omega

/-- Block `k` of the loop begins at row `128 · (first a + k)`. -/
theorem block_rows {a : ℕ} (ha : a ≤ 512) (k : ℕ) (hk : first a + k ≤ 4) :
    Scalar.muli (Scf.iv (Scalar.shrui (Scalar.addi (Scalar.minsi (Scalar.andi (BitVec.ofNat 32 a) 4294967288#32) 384#32) 128#32) 7#32) 1#32 k) 128#32
      = BitVec.ofNat 32 ((first a + k) * 128) := by
  have h1 := base_le a
  rw [base_word ha, show Scalar.addi (BitVec.ofNat 32 (base a)) 128#32 = BitVec.ofNat 32 (base a + 128) from add_word _ 128, block_word (by omega)]
  show (BitVec.ofNat 32 (first a) + BitVec.ofNat 32 k * 1#32) * 128#32 = _
  rw [BitVec.mul_one, ← BitVec.ofNat_add]
  exact (BitVec.ofNat_mul _ 128).symm

theorem off2_eq {a : ℕ} (ha : a ≤ 512) : k0_off2 (BitVec.ofNat 32 a) = ![base a, 0] := by
  have h1 := base_le a
  show ![(Scalar.indexCast (Scalar.minsi (Scalar.andi (BitVec.ofNat 32 a) 4294967288#32) 384#32)).toNat, 0] = _
  rw [base_word ha]
  show ![(BitVec.ofNat 32 (base a)).toNat, 0] = _
  rw [WordArith.toNat_ofNat_of_lt _ (by omega)]

theorem off3_eq {a : ℕ} (ha : a ≤ 512) : k0_off3 (BitVec.ofNat 32 a) = ![base a, 0] := off2_eq ha

theorem off52_eq {a b : ℕ} (ha : a ≤ 512) (hb : b ≤ 512) (k : Fin (k0_t2_loop (BitVec.ofNat 32 a) (BitVec.ofNat 32 b)).trips) :
    k0_off52 (BitVec.ofNat 32 a) (BitVec.ofNat 32 b) k = ![(first a + k.val) * 128, 0] := by
  have hk := lt_of_lt_of_eq k.isLt (loop_trips ha hb)
  have h := stop_le (a := a) hb
  unfold k0_off52
  show ![(Scalar.indexCast _).toNat, 0] = _
  rw [block_rows ha k.val (by omega)]
  show ![(BitVec.ofNat 32 ((first a + k.val) * 128)).toNat, 0] = _
  rw [WordArith.toNat_ofNat_of_lt _ (by omega)]

theorem off54_eq {a b : ℕ} (ha : a ≤ 512) (hb : b ≤ 512) (k : Fin (k0_t2_loop (BitVec.ofNat 32 a) (BitVec.ofNat 32 b)).trips) :
    k0_off54 (BitVec.ofNat 32 a) (BitVec.ofNat 32 b) k = ![(first a + k.val) * 128, 0] := off52_eq ha hb k

theorem off51_eq : ∀ j : Fin k0_t1_loop.trips, k0_off51 j = ![0, 0, j.val, 0] := by decide
theorem off53_eq : ∀ j : Fin k0_t1_loop.trips, k0_off53 j = ![0, j.val * 256, 0] := by decide

theorem off49_eq (i : grid0.Coords) (j : Fin k0_t1_loop.trips) : k0_off49 i j = ![((i 0).val * 16 + (i 1).val) * 33 + 2 * j.val] := by
  have h0 : (i 0).val < 16 := (i 0).isLt
  have h1 : (i 1).val < 16 := (i 1).isLt
  have hj : j.val < 16 := j.isLt
  unfold k0_off49
  funext a; fin_cases a
  simp [Scalar.indexCast, Scalar.addi, Scalar.muli, IntOp.addi, IntOp.muli, Scf.iv, BitVec.toNat_add, BitVec.toNat_mul, BitVec.toNat_ofNat]
  omega

theorem off50_eq (i : grid0.Coords) (j : Fin k0_t1_loop.trips) : k0_off50 i j = ![((i 0).val * 16 + (i 1).val) * 33 + 2 * j.val + 2] := by
  have h0 : (i 0).val < 16 := (i 0).isLt
  have h1 : (i 1).val < 16 := (i 1).isLt
  have hj : j.val < 16 := j.isLt
  unfold k0_off50
  funext a; fin_cases a
  simp [Scalar.indexCast, Scalar.addi, Scalar.muli, IntOp.addi, IntOp.muli, Scf.iv, BitVec.toNat_add, BitVec.toNat_mul, BitVec.toNat_ofNat]
  omega

theorem chk1_of {a : ℕ} (ha : a ≤ 512) : k0_chk1 (BitVec.ofNat 32 a) := by
  have h1 := base_le a
  refine ⟨?_, ?_, ?_⟩
  · show 8 ∣ (Scalar.minsi (Scalar.andi (BitVec.ofNat 32 a) 4294967288#32) 384#32).toNat
    rw [base_word ha, WordArith.toNat_ofNat_of_lt _ (by omega)]
    exact h1.2.2
  · rw [off2_eq ha]
    intro x; fin_cases x
    · show base a + 128 ≤ 512; omega
    · show 0 + 1024 ≤ 1024; omega
  · rw [off3_eq ha]
    intro x; fin_cases x
    · show base a + 128 ≤ 512; omega
    · show 0 + 1 ≤ 1; omega

theorem chk17_of {a b : ℕ} (ha : a ≤ 512) (hb : b ≤ 512) : k0_chk17 (BitVec.ofNat 32 a) (BitVec.ofNat 32 b) := by
  have hs := stop_le (a := a) hb
  have ht := loop_trips ha hb
  have none : ∀ k : Fin (k0_t3_loop (BitVec.ofNat 32 a) (BitVec.ofNat 32 b)).trips, False :=
    fun k => absurd (lt_of_lt_of_eq k.isLt (rest_trips _ _)) (Nat.not_lt_zero _)
  refine ⟨?_, fun k => ?_, fun k => ?_, fun k => ?_, ?_, fun k => (none k).elim, fun k => (none k).elim, fun k => (none k).elim⟩
  · refine ⟨by show 0 < (1#32 : BitVec 32).toInt; decide, ?_⟩
    show (k0_t2_loop (BitVec.ofNat 32 a) (BitVec.ofNat 32 b)).lb.toInt + ((k0_t2_loop (BitVec.ofNat 32 a) (BitVec.ofNat 32 b)).trips : ℤ) * (1#32 : BitVec 32).toInt < 2 ^ 31
    rw [ht, loop_word ha hb]
    show (BitVec.ofNat 32 (first a)).toInt + ((stop a b - first a : ℕ) : ℤ) * (1#32 : BitVec 32).toInt < 2 ^ 31
    rw [toInt_word (by omega), show (1#32 : BitVec 32).toInt = 1 from rfl]
    omega
  · have hk := lt_of_lt_of_eq k.isLt ht
    show 128 ∣ (Scalar.muli _ 128#32).toNat
    rw [block_rows ha k.val (by omega), WordArith.toNat_ofNat_of_lt _ (by omega)]
    exact ⟨_, mul_comm _ _⟩
  · have hk := lt_of_lt_of_eq k.isLt ht
    rw [off52_eq ha hb]
    intro x; fin_cases x
    · show (first a + k.val) * 128 + 128 ≤ 512; omega
    · show 0 + 1024 ≤ 1024; omega
  · have hk := lt_of_lt_of_eq k.isLt ht
    rw [off54_eq ha hb]
    intro x; fin_cases x
    · show (first a + k.val) * 128 + 128 ≤ 512; omega
    · show 0 + 1 ≤ 1; omega
  · refine ⟨by show 0 < (1#32 : BitVec 32).toInt; decide, ?_⟩
    show (k0_t3_loop (BitVec.ofNat 32 a) (BitVec.ofNat 32 b)).lb.toInt + ((k0_t3_loop (BitVec.ofNat 32 a) (BitVec.ofNat 32 b)).trips : ℤ) * (1#32 : BitVec 32).toInt < 2 ^ 31
    rw [rest_trips, show (k0_t3_loop (BitVec.ofNat 32 a) (BitVec.ofNat 32 b)).lb = (k0_t2_loop (BitVec.ofNat 32 a) (BitVec.ofNat 32 b)).ub from rfl, loop_word ha hb]
    show (BitVec.ofNat 32 (stop a b)).toInt + ((0 : ℕ) : ℤ) * (1#32 : BitVec 32).toInt < 2 ^ 31
    rw [toInt_word (by omega)]
    omega

end Cert.Kernel4Ideal.Expert

end
-- ==== Proof.ExpertPre.lean ====
/-
What the precondition of the experts' call says of its integer arrays, and that the ranges it allows fit the scratch
buffers.
-/
module

public import proofs.«01_k».proof.Proof.ExpertFrame
public import proofs.«01_k».proof.Proof.ExpertWords
public import proofs.«01_k».proof.Proof.Gen.Pre_tables_of_choice
public import Idealize.ShloMosaic.Lib.PointwiseCore

@[expose] public section

set_option maxRecDepth 16384

noncomputable section

namespace Cert.Kernel4Ideal.Expert

open Idealize.ShloMosaic Idealize.ShloMosaic.TcCoe Cert.Kernel4Ideal.Gen Idealize.SL.Sem
open Idealize.ShloMosaic.VecWindow (window put)
open Cert.Pre_tables_of_choice (S16x16x512 S16x16x16x256)

/-- The chosen tokens, the tokens' slots and the chunks' slot ranges agree. -/
structure Tables (idx : IVec S16x16x512 32) (sl : IVec S16x16x16x256 32) (co : IVec S8448 32) : Prop where
  idx_lt : ∀ b e s, (idx (ix3 b e s)).toNat < 4096
  co_le : ∀ n, (co (ix1 n)).toNat ≤ 512
  hit : ∀ (b e c : Fin 16) (t : Fin 256) (s : Fin 512), sl (ix4 b e c t) = BitVec.ofNat 32 s.val ↔ idx (ix3 b e s) = BitVec.ofNat 32 (c.val * 256 + t.val)
  range : ∀ (b e c : Fin 16) (t : Fin 256), (sl (ix4 b e c t)).toInt < 0 ∨
    (co (ix1 ⟨(b.val * 16 + e.val) * 33 + 2 * c.val, by omega⟩)).toInt ≤ (sl (ix4 b e c t)).toInt
      ∧ (sl (ix4 b e c t)).toInt < (co (ix1 ⟨(b.val * 16 + e.val) * 33 + 2 * c.val + 2, by omega⟩)).toInt

theorem ofBool_one (p : Bool) : BitVec.ofBool p = 1#1 ↔ p = true := by cases p <;> decide
theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem eq_one (a b : BitVec 1) : IntOp.cmpi .eq a b = 1#1 ↔ (a = 1#1 ↔ b = 1#1) := by revert a b; decide

theorem cmp_eq (a b : BitVec 32) : IntOp.cmpi .eq a b = 1#1 ↔ a = b := by
  show BitVec.ofBool (a == b) = 1#1 ↔ _
  rw [ofBool_one]; exact beq_iff_eq
theorem cmp_slt (a b : BitVec 32) : IntOp.cmpi .slt a b = 1#1 ↔ a.toInt < b.toInt := by
  show BitVec.ofBool (decide _) = 1#1 ↔ _
  rw [ofBool_one]; exact decide_eq_true_iff
theorem cmp_sle (a b : BitVec 32) : IntOp.cmpi .sle a b = 1#1 ↔ a.toInt ≤ b.toInt := by
  show BitVec.ofBool (decide _) = 1#1 ↔ _
  rw [ofBool_one]; exact decide_eq_true_iff
theorem cmp_sge (a b : BitVec 32) : IntOp.cmpi .sge a b = 1#1 ↔ b.toInt ≤ a.toInt := by
  show BitVec.ofBool (decide _) = 1#1 ↔ _
  rw [ofBool_one]; exact decide_eq_true_iff

theorem toNat_le {w : BitVec 32} {n : ℕ} (h0 : 0 ≤ w.toInt) (h : w.toInt ≤ n) : w.toNat ≤ n := by
  have := w.isLt
  rw [BitVec.toInt_eq_toNat_cond] at h0 h
  split at h <;> omega

section
variable {F : FTy → Type} [FloatOps F]
variable {a0 : FVec F Cert.Pre_tables_of_choice.S16x4096x1024 .bf16} {a1 : IVec S16x16x512 32} {a2 : IVec Cert.Pre_tables_of_choice.S16x16x4096 32} {a3 : FVec F Cert.Pre_tables_of_choice.S16x16x4096 .f32} {a4 : IVec S8448 32}
  {a5 a6 a7 : FVec F Cert.Pre_tables_of_choice.S4x16x1024x1024 .f32}

theorem tables_of (h : (Cert.Pre_tables_of_choice.fn (F := F) a0 a1 a2 a3 a4 a5 a6 a7).1 = (fun _ => 1#1)
    ∧ (Cert.Pre_tables_of_choice.fn (F := F) a0 a1 a2 a3 a4 a5 a6 a7).2.1 = (fun _ => 1#1)
    ∧ (Cert.Pre_tables_of_choice.fn (F := F) a0 a1 a2 a3 a4 a5 a6 a7).2.2.1 = (fun _ => 1#1)
    ∧ (Cert.Pre_tables_of_choice.fn (F := F) a0 a1 a2 a3 a4 a5 a6 a7).2.2.2.1 = (fun _ => 1#1)
    ∧ (Cert.Pre_tables_of_choice.fn (F := F) a0 a1 a2 a3 a4 a5 a6 a7).2.2.2.2.1 = (fun _ => 1#1)
    ∧ (Cert.Pre_tables_of_choice.fn (F := F) a0 a1 a2 a3 a4 a5 a6 a7).2.2.2.2.2 = (fun _ => 1#1)) :
    Tables a1 (shapeCast S16x16x16x256 a2 Cert.Pre_tables_of_choice.Facts.shapeCasts_S16x16x4096_S16x16x16x256) a4 := by
  obtain ⟨h1, h2, h3, h4, h5, h6⟩ := h
  refine ⟨fun b e s => ?_, fun n => ?_, fun b e c t s => ?_, fun b e c t => ?_⟩
  · have p : IntOp.cmpi .sge (a1 (ix3 b e s)) 0#32 = 1#1 := congrFun h1 (ix3 b e s)
    have q : IntOp.cmpi .slt (a1 (ix3 b e s)) 4096#32 = 1#1 := congrFun h2 (ix3 b e s)
    rw [cmp_sge] at p; rw [cmp_slt] at q
    have := toNat_le (n := 4095) p (by have : (4096#32 : BitVec 32).toInt = 4096 := rfl; omega)
    omega
  · have p : IntOp.cmpi .sge (a4 (ix1 n)) 0#32 = 1#1 := congrFun h3 (ix1 n)
    have q : IntOp.cmpi .sle (a4 (ix1 n)) 512#32 = 1#1 := congrFun h4 (ix1 n)
    rw [cmp_sge] at p; rw [cmp_sle] at q
    exact toNat_le (n := 512) p q
  · have p : IntOp.cmpi .eq (IntOp.cmpi .eq (a2 (ix3 b e ⟨c.val * 256 + t.val, by omega⟩)) (BitVec.ofNat 32 s.val))
        (IntOp.cmpi .eq (a1 (ix3 b e s)) (BitVec.ofNat 32 (c.val * 256 + t.val))) = 1#1 := by
      have := congrFun h5 (ix4 b e s ⟨c.val * 256 + t.val, by omega⟩)
      refine Eq.trans ?_ this
      unfold Cert.Pre_tables_of_choice.fn Cert.Pre_tables_of_choice.fn_part1
      pointwise
    have r : shapeCast S16x16x16x256 a2 Cert.Pre_tables_of_choice.Facts.shapeCasts_S16x16x4096_S16x16x16x256 (ix4 b e c t) = a2 (ix3 b e ⟨c.val * 256 + t.val, by omega⟩) := by
      pointwise
    rw [← r, eq_one, cmp_eq, cmp_eq] at p
    exact p
  · set sl : IVec S16x16x16x256 32 := shapeCast S16x16x16x256 a2 Cert.Pre_tables_of_choice.Facts.shapeCasts_S16x16x4096_S16x16x16x256 with hsl
    have p : IntOp.ori (IntOp.cmpi .slt (sl (ix4 b e c t)) 0#32)
        (IntOp.andi (IntOp.cmpi .sge (sl (ix4 b e c t)) (a4 (ix1 ⟨(b.val * 16 + e.val) * 33 + 2 * c.val, by omega⟩)))
          (IntOp.cmpi .slt (sl (ix4 b e c t)) (a4 (ix1 ⟨(b.val * 16 + e.val) * 33 + 2 * c.val + 2, by omega⟩)))) = 1#1 := by
      have := congrFun h6 (ix4 b e c t)
      refine Eq.trans ?_ this
      unfold Cert.Pre_tables_of_choice.fn Cert.Pre_tables_of_choice.fn_part1
      rw [hsl]
      pointwise
      simp only [show b.val * 528 + e.val * 33 + (2 + 2 * c.val) = b.val * 528 + e.val * 33 + 2 * c.val + 2 from by omega,
        show (b.val * 16 + e.val) * 33 + 2 * c.val = b.val * 528 + e.val * 33 + 2 * c.val from by omega]
    rw [ori_one, andi_one, cmp_slt, cmp_sge, cmp_slt] at p
    exact p

/-! ## The ranges as natural numbers -/

/-- Where chunk `j`'s slots begin and end, of the table. -/
def loN (co : IVec S8448 32) (i : grid0.Coords) (j : Fin 16) : ℕ :=
  (co (ix1 ⟨((i 0).val * 16 + (i 1).val) * 33 + 2 * j.val, by have h0 : (i 0).val < 16 := (i 0).isLt; have h1 : (i 1).val < 16 := (i 1).isLt; omega⟩)).toNat
def hiN (co : IVec S8448 32) (i : grid0.Coords) (j : Fin 16) : ℕ :=
  (co (ix1 ⟨((i 0).val * 16 + (i 1).val) * 33 + 2 * j.val + 2, by have h0 : (i 0).val < 16 := (i 0).isLt; have h1 : (i 1).val < 16 := (i 1).isLt; omega⟩)).toNat

theorem lo_eq (T : Vec F S8448 .i32) (i : grid0.Coords) (j : Fin k0_t1_loop.trips) : lo T i j = BitVec.ofNat 32 (loN T i j) := by
  unfold loN
  rw [BitVec.ofNat_toNat, BitVec.setWidth_eq]
  refine congrArg T (funext fun a => Fin.ext ?_)
  obtain rfl : a = 0 := Subsingleton.elim _ _
  show k0_off49 i j 0 + 1 * 0 = _
  rw [off49_eq]
  rfl
theorem hi_eq (T : Vec F S8448 .i32) (i : grid0.Coords) (j : Fin k0_t1_loop.trips) : hi T i j = BitVec.ofNat 32 (hiN T i j) := by
  unfold hiN
  rw [BitVec.ofNat_toNat, BitVec.setWidth_eq]
  refine congrArg T (funext fun a => Fin.ext ?_)
  obtain rfl : a = 0 := Subsingleton.elim _ _
  show k0_off50 i j 0 + 1 * 0 = _
  rw [off50_eq]
  rfl

variable {idx : IVec S16x16x512 32} {sl : IVec S16x16x16x256 32} {co : IVec S8448 32}

theorem loN_le (h : Tables idx sl co) (i : grid0.Coords) (j : Fin 16) : loN co i j ≤ 512 := h.co_le _
theorem hiN_le (h : Tables idx sl co) (i : grid0.Coords) (j : Fin 16) : hiN co i j ≤ 512 := h.co_le _

/-- The ranges fit. -/
theorem fits (h : Tables idx sl co) (i : grid0.Coords) : Fits (F := F) co i :=
  ⟨fun j => by rw [lo_eq (F := F)]; exact chk1_of (loN_le h i j),
   fun j => by rw [lo_eq (F := F), hi_eq (F := F)]; exact chk17_of (loN_le h i j) (hiN_le h i j)⟩

end

end Cert.Kernel4Ideal.Expert

end
-- ==== Proof.ExpertRows.lean ====
/-
What the experts' body gathers, over the extended reals: each gather adds, at a row of its window, the sum of the
chunk's tokens whose slot is that row; the sixteen windows and the later blocks together add every chosen token once.
-/
module

public import proofs.«01_k».proof.Proof.ExpertPre
public import proofs.«01_k».proof.Proof.Plain
public import Idealize.ShloMosaic.Lib.Pointwise
public import Idealize.ShloMosaic.Lib.Tactic

@[expose] public section

set_option maxRecDepth 16384

noncomputable section

namespace Cert.Kernel4Ideal.Expert

open Idealize.ShloMosaic Idealize.ShloMosaic.TcCoe Cert.Kernel4Ideal.Gen Idealize.SL.Sem
open Idealize.ShloMosaic.VecWindow (window put)

variable (x0 : Vec Ideal S1x4096x1024 .bf16) (x1 : Vec Ideal S1x1x16x256 .i32) (x2 : Vec Ideal S1x1x16x256 .f32)

/-- Chunk `j`'s slots, gates and rows. -/
def slot (j : Fin 16) (t : Fin 256) : BitVec 32 := x1 (ix4 0 0 j t)
def gateOf (j : Fin 16) (t : Fin 256) : EReal := (x2 : S1x1x16x256.Idx → EReal) (ix4 0 0 j t)
def rowOf (j : Fin 16) (t : Fin 256) (d : Fin 1024) : EReal := (x0 : S1x4096x1024.Idx → EReal) (ix3 0 ⟨j.val * 256 + t.val, by omega⟩ d)

/-- What chunk `j` holds for row `q`: the sums over the tokens whose slot is `q`. -/
def rowSum (j : Fin 16) (q : Fin 512) (d : Fin 1024) : EReal := ∑ t, if slot x1 j t = BitVec.ofNat 32 q.val then rowOf x0 j t d else 0
def gateSum (j : Fin 16) (q : Fin 512) : EReal := ∑ t, if slot x1 j t = BitVec.ofNat 32 q.val then gateOf x2 j t else 0

theorem pay13_at (x : Vec Ideal S128x1024 .f32) (k : IVec S128x256 1) (u : Vec Ideal S1x256x1024 .bf16) (r : Fin 128) (d : Fin 1024) :
    (k0_pay13 (F := Ideal) x (ones k) u : S128x1024.Idx → EReal) (ix2 r d) =
      (x : S128x1024.Idx → EReal) (ix2 r d) + ∑ t, if k (ix2 r t) = 1#1 then (u : S1x256x1024.Idx → EReal) (ix3 0 t d) else 0 := by
  unfold k0_pay13 ones
  pointwise
  rfl

theorem pay14_at (k : IVec S128x256 1) (g : Vec Ideal S1x1x1x256 .f32) (y : Vec Ideal S128x1 .f32) (r : Fin 128) :
    (k0_pay14 (F := Ideal) k (k0_pay11 g) y : S128x1.Idx → EReal) (ix2 r 0) =
      (y : S128x1.Idx → EReal) (ix2 r 0) + ∑ t, if k (ix2 r t) = 1#1 then (g : S1x1x1x256.Idx → EReal) (ix4 0 0 0 t) else 0 := by
  unfold k0_pay14 k0_pay11
  pointwise
  rfl

theorem sub_word {s : BitVec 32} {o r : ℕ} : s - BitVec.ofNat 32 o = BitVec.ofNat 32 r ↔ s = BitVec.ofNat 32 (o + r) := by
  rw [BitVec.ofNat_add]
  constructor
  · intro h; rw [← h, BitVec.add_comm]; exact (BitVec.sub_add_cancel ..).symm
  · rintro rfl; rw [BitVec.add_comm]; exact BitVec.add_sub_cancel ..

theorem winMask_at {a : ℕ} (ha : a ≤ 512) (s : Vec Ideal S1x1x1x256 .i32) (r : Fin 128) (t : Fin 256) :
    k0_pay10 (F := Ideal) (BitVec.ofNat 32 a) s (ix2 r t) = 1#1 ↔ s (ix4 0 0 0 t) = BitVec.ofNat 32 (base a + r.val) := by
  unfold k0_pay10
  rw [base_word ha]
  pointwise
  rw [cmp_eq]
  exact sub_word

theorem blockMask_at {a b : ℕ} (ha : a ≤ 512) (hb : b ≤ 512) (k : Fin (k0_t2_loop (BitVec.ofNat 32 a) (BitVec.ofNat 32 b)).trips) (s : Vec Ideal S1x1x1x256 .i32)
    (r : Fin 128) (t : Fin 256) :
    blockMask (F := Ideal) (BitVec.ofNat 32 a) (BitVec.ofNat 32 b) k s (ix2 r t) = 1#1 ↔
      s (ix4 0 0 0 t) = BitVec.ofNat 32 ((first a + k.val) * 128 + r.val) ∧ base a + 128 ≤ (first a + k.val) * 128 + r.val := by
  have hk := lt_of_lt_of_eq k.isLt (loop_trips ha hb)
  have hs := stop_le (a := a) hb
  have hbase := base_le a
  unfold blockMask k0_pay2
  rw [block_rows ha k.val (by omega), base_word ha, show Scalar.addi (BitVec.ofNat 32 (base a)) 128#32 = BitVec.ofNat 32 (base a + 128) from add_word _ 128]
  pointwise
  rw [andi_one, cmp_eq, cmp_sge]
  refine (and_congr_left fun _ => sub_word).trans (and_congr_right fun h => ?_)
  rw [h, toInt_word (by omega), toInt_word (by omega)]
  omega

/-- A window read at an index. -/
theorem window_at {α : Type} {s : Shape} (x : s.Idx → α) {off off' size : Fin s.rank → ℕ} (inb : ∀ a, off a + size a ≤ s.size a) (e : off = off') (y : (Rect.unit off size inb).shape.Idx) (z : s.Idx)
    (h : ∀ a, off' a + (y a).val = (z a).val) : window x off size inb y = x z := by
  subst e
  refine congrArg x (funext fun a => Fin.ext ?_)
  rw [← h a]
  show off a + 1 * (y a).val = _
  rw [Nat.one_mul]

/-- A put read at an index inside it. -/
theorem put_at {α : Type} {s : Shape} (x : s.Idx → α) (off size : Fin s.rank → ℕ) (w : ((a : Fin s.rank) → Fin (size a)) → α) (y : s.Idx) (z : (a : Fin s.rank) → Fin (size a))
    (h : ∀ a, off a + (z a).val = (y a).val) : put x off size w y = w z := by
  refine (dif_pos fun a => ⟨by have := h a; omega, by have := h a; have := (z a).isLt; omega⟩).trans (congrArg w (funext fun a => Fin.ext ?_))
  show (y a).val - off a = _
  have := h a
  omega

/-- A gather at row `q`, of the 128 rows from `o` whose mask is `P`. -/
theorem step_at (mask : Vec Ideal S1x1x1x256 .i32 → IVec S128x256 1) (j : Fin k0_t1_loop.trips) (o10 o11 : Fin 2 → ℕ) (h10 : ∀ a, o10 a + S128x1024.size a ≤ S512x1024.size a)
    (h11 : ∀ a, o11 a + S128x1.size a ≤ S512x1.size a) (A : Acc Ideal) (o : ℕ) (e10 : o10 = ![o, 0]) (e11 : o11 = ![o, 0]) (P : ℕ → Prop) [DecidablePred P]
    (hm : ∀ (s : Vec Ideal S1x1x1x256 .i32) (r : Fin 128) (t : Fin 256), mask s (ix2 r t) = 1#1 ↔ s (ix4 0 0 0 t) = BitVec.ofNat 32 (o + r.val) ∧ P (o + r.val)) (q : Fin 512) :
    (∀ d, ((step x0 x1 x2 mask j o10 o11 h10 h11 A).1 : S512x1024.Idx → EReal) (ix2 q d) =
      (A.1 : S512x1024.Idx → EReal) (ix2 q d) + if o ≤ q.val ∧ q.val < o + 128 ∧ P q.val then rowSum x0 x1 j q d else 0)
    ∧ ((step x0 x1 x2 mask j o10 o11 h10 h11 A).2 : S512x1.Idx → EReal) (ix2 q 0) =
      (A.2 : S512x1.Idx → EReal) (ix2 q 0) + if o ≤ q.val ∧ q.val < o + 128 ∧ P q.val then gateSum x1 x2 j q else 0 := by
  subst e10 e11
  have hs (t : Fin 256) : window x1 (k0_off51 j) S1x1x1x256.size (k0_off51_inb j) (ix4 0 0 0 t) = slot x1 j t :=
    window_at (s := S1x1x16x256) x1 _ (off51_eq j) _ _ fun a => by fin_cases a <;> first | rfl | exact Nat.zero_add _
  have hg (t : Fin 256) : window x2 (k0_off51 j) S1x1x1x256.size (k0_off51_inb j) (ix4 0 0 0 t) = gateOf x2 j t :=
    window_at (s := S1x1x16x256) x2 _ (off51_eq j) _ _ fun a => by fin_cases a <;> first | rfl | exact Nat.zero_add _
  have hu (t : Fin 256) (d : Fin 1024) : window x0 (k0_off53 j) S1x256x1024.size (k0_off53_inb j) (ix3 0 t d) = rowOf x0 j t d :=
    window_at (s := S1x4096x1024) x0 _ (off53_eq j) _ _ fun a => by fin_cases a <;> first | rfl | exact Nat.zero_add _
  by_cases hq : o ≤ q.val ∧ q.val < o + 128
  · obtain ⟨r, hr⟩ : ∃ r : Fin 128, o + r.val = q.val := ⟨⟨q.val - o, by omega⟩, by show o + (q.val - o) = _; omega⟩
    have hmq (t : Fin 256) : mask (window x1 (k0_off51 j) S1x1x1x256.size (k0_off51_inb j)) (ix2 r t) = 1#1 ↔ slot x1 j t = BitVec.ofNat 32 q.val ∧ P q.val := by
      have h := hm (window x1 (k0_off51 j) S1x1x1x256.size (k0_off51_inb j)) r t
      rw [hs, hr] at h
      exact h
    refine ⟨fun d => ?_, ?_⟩
    · refine (put_at (s := S512x1024) A.1 ![o, 0] S128x1024.size _ (ix2 q d) (ix2 r d : S128x1024.Idx) fun a => by fin_cases a <;> first | exact hr | exact Nat.zero_add _).trans ?_
      refine (pay13_at _ _ _ _ _).trans (congrArg₂ (· + ·) ?_ ?_)
      · exact window_at (s := S512x1024) A.1 _ rfl _ _ fun a => by fin_cases a <;> first | exact hr | exact Nat.zero_add _
      · simp only [hmq, hu]
        unfold rowSum
        by_cases hP : P q.val
        · rw [if_pos ⟨hq.1, hq.2, hP⟩]; simp only [hP, and_true]
        · rw [if_neg (by tauto)]; simp only [hP, and_false, if_false, Finset.sum_const_zero]
    · refine (put_at (s := S512x1) A.2 ![o, 0] S128x1.size _ (ix2 q 0) (ix2 r 0 : S128x1.Idx) fun a => by fin_cases a <;> first | exact hr | exact Nat.zero_add _).trans ?_
      refine (pay14_at _ _ _ _).trans (congrArg₂ (· + ·) ?_ ?_)
      · exact window_at (s := S512x1) A.2 _ rfl _ _ fun a => by fin_cases a <;> first | exact hr | exact Nat.zero_add _
      · simp only [hmq, hg]
        unfold gateSum
        by_cases hP : P q.val
        · rw [if_pos ⟨hq.1, hq.2, hP⟩]; simp only [hP, and_true]
        · rw [if_neg (by tauto)]; simp only [hP, and_false, if_false, Finset.sum_const_zero]
  · refine ⟨fun d => ?_, ?_⟩
    · rw [if_neg (by tauto), add_zero]
      exact dif_neg fun h => hq (h 0)
    · rw [if_neg (by tauto), add_zero]
      exact dif_neg fun h => hq (h 0)

/-! ## The folds -/

/-- The sum over the first `n` chunks. -/
def upTo (f : Fin 16 → EReal) (n : ℕ) : EReal := ∑ j ∈ Finset.range n, if h : j < 16 then f ⟨j, h⟩ else 0

theorem upTo_succ (f : Fin 16 → EReal) {n : ℕ} (h : n < 16) : upTo f (n + 1) = upTo f n + f ⟨n, h⟩ := by
  unfold upTo
  rw [Finset.sum_range_succ, dif_pos h]

theorem upTo_all (f : Fin 16 → EReal) : upTo f 16 = ∑ j, f j := by
  unfold upTo
  rw [Finset.sum_range]
  exact Finset.sum_congr rfl fun j _ => dif_pos j.isLt

section
variable {T : Vec Ideal S8448 .i32} {i : grid0.Coords} (H : Fits T i) (hlo : ∀ j, loN T i j ≤ 512) (hhi : ∀ j, hiN T i j ≤ 512)

/-- What a chunk's window adds at row `q` of its whole sum there, and what its later blocks add. -/
def winPart (T : Vec Ideal S8448 .i32) (i : grid0.Coords) (q : ℕ) (S : Fin 16 → EReal) (j : Fin 16) : EReal :=
  if base (loN T i j) ≤ q ∧ q < base (loN T i j) + 128 then S j else 0
def blockPart (T : Vec Ideal S8448 .i32) (i : grid0.Coords) (q : ℕ) (S : Fin 16 → EReal) (j : Fin 16) : EReal :=
  if base (loN T i j) + 128 ≤ q ∧ q < stop (loN T i j) (hiN T i j) * 128 then S j else 0

include hlo in
theorem win_step (q : Fin 512) (j : Fin k0_t1_loop.trips) (A : Acc Ideal) (h10 : ∀ a, k0_off2 (lo T i j) a + S128x1024.size a ≤ S512x1024.size a)
    (h11 : ∀ a, k0_off3 (lo T i j) a + S128x1.size a ≤ S512x1.size a) :
    (∀ d, ((step x0 x1 x2 (k0_pay10 (lo T i j)) j (k0_off2 (lo T i j)) (k0_off3 (lo T i j)) h10 h11 A).1 : S512x1024.Idx → EReal) (ix2 q d) =
      (A.1 : S512x1024.Idx → EReal) (ix2 q d) + winPart T i q.val (fun j => rowSum x0 x1 j q d) j)
    ∧ ((step x0 x1 x2 (k0_pay10 (lo T i j)) j (k0_off2 (lo T i j)) (k0_off3 (lo T i j)) h10 h11 A).2 : S512x1.Idx → EReal) (ix2 q 0) =
      (A.2 : S512x1.Idx → EReal) (ix2 q 0) + winPart T i q.val (fun j => gateSum x1 x2 j q) j := by
  have hs := step_at x0 x1 x2 (k0_pay10 (lo T i j)) j (k0_off2 (lo T i j)) (k0_off3 (lo T i j)) h10 h11 A (base (loN T i j))
    ((congrArg k0_off2 (lo_eq T i j)).trans (off2_eq (hlo j))) ((congrArg k0_off3 (lo_eq T i j)).trans (off3_eq (hlo j))) (fun _ => True)
    (fun s r t => by rw [lo_eq]; exact (winMask_at (hlo j) s r t).trans (iff_of_eq (and_true _)).symm) q
  simp only [and_true] at hs
  exact hs

include hlo in
theorem windows_at (q : Fin 512) : ∀ n ≤ 16,
    (∀ d, ((windows T i H x0 x1 x2 n).1 : S512x1024.Idx → EReal) (ix2 q d) = upTo (winPart T i q.val fun j => rowSum x0 x1 j q d) n)
    ∧ ((windows T i H x0 x1 x2 n).2 : S512x1.Idx → EReal) (ix2 q 0) = upTo (winPart T i q.val fun j => gateSum x1 x2 j q) n
  | 0, _ => by
    refine ⟨fun d => ?_, ?_⟩
    · show (k0_pay8 (F := Ideal) : S512x1024.Idx → EReal) (ix2 q d) = 0
      unfold k0_pay8
      pointwise
    · show (k0_pay9 (F := Ideal) : S512x1.Idx → EReal) (ix2 q 0) = 0
      unfold k0_pay9
      pointwise
  | n + 1, hn => by
    have h : n < 16 := by omega
    have ih := windows_at q n (by omega)
    have hs := win_step x0 x1 x2 hlo q ⟨n, h⟩ (windows T i H x0 x1 x2 n) (k0_off2_inb _ (H.1 ⟨n, h⟩)) (k0_off3_inb _ (H.1 ⟨n, h⟩))
    rw [show windows T i H x0 x1 x2 (n + 1) = _ from dif_pos h, upTo_succ _ h]
    refine ⟨fun d => ?_, (hs.2).trans (congrArg (· + _) ih.2)⟩
    rw [upTo_succ _ h]
    exact (hs.1 d).trans (congrArg (· + _) (ih.1 d))

theorem off52_at {w v : BitVec 32} {a b : ℕ} (hw : w = BitVec.ofNat 32 a) (hv : v = BitVec.ofNat 32 b) (ha : a ≤ 512) (hb : b ≤ 512) (k : Fin (k0_t2_loop w v).trips) :
    k0_off52 w v k = ![(first a + k.val) * 128, 0] ∧ k0_off54 w v k = ![(first a + k.val) * 128, 0]
      ∧ ∀ (s : Vec Ideal S1x1x1x256 .i32) (r : Fin 128) (t : Fin 256), blockMask (F := Ideal) w v k s (ix2 r t) = 1#1 ↔
        s (ix4 0 0 0 t) = BitVec.ofNat 32 ((first a + k.val) * 128 + r.val) ∧ base a + 128 ≤ (first a + k.val) * 128 + r.val := by
  subst hw hv
  exact ⟨off52_eq ha hb k, off54_eq ha hb k, blockMask_at ha hb k⟩

include hlo hhi in
theorem blocks_at (q : Fin 512) (j : Fin k0_t1_loop.trips) (A : Acc Ideal) : ∀ n ≤ (k0_t2_loop (lo T i j) (hi T i j)).trips,
    (∀ d, ((blocks T i H x0 x1 x2 j A n).1 : S512x1024.Idx → EReal) (ix2 q d) = (A.1 : S512x1024.Idx → EReal) (ix2 q d) +
      if base (loN T i j) + 128 ≤ q.val ∧ q.val < (first (loN T i j) + n) * 128 then rowSum x0 x1 j q d else 0)
    ∧ ((blocks T i H x0 x1 x2 j A n).2 : S512x1.Idx → EReal) (ix2 q 0) = (A.2 : S512x1.Idx → EReal) (ix2 q 0) +
      if base (loN T i j) + 128 ≤ q.val ∧ q.val < (first (loN T i j) + n) * 128 then gateSum x1 x2 j q else 0
  | 0, _ => by
    have : ¬ (base (loN T i j) + 128 ≤ q.val ∧ q.val < (first (loN T i j) + 0) * 128) := by unfold first; omega
    rw [if_neg this]
    refine ⟨fun d => ?_, ?_⟩
    · rw [if_neg this, add_zero]; rfl
    · rw [add_zero]; rfl
  | n + 1, hn => by
    have h : n < (k0_t2_loop (lo T i j) (hi T i j)).trips := by omega
    have ih := blocks_at q j A n (by omega)
    obtain ⟨e1, e2, e3⟩ := off52_at (lo_eq T i j) (hi_eq T i j) (hlo j) (hhi j) ⟨n, h⟩
    have hs := step_at x0 x1 x2 (blockMask (lo T i j) (hi T i j) ⟨n, h⟩) j (k0_off52 _ _ ⟨n, h⟩) (k0_off54 _ _ ⟨n, h⟩) (k0_off52_inb _ _ (H.2 j) ⟨n, h⟩) (k0_off54_inb _ _ (H.2 j) ⟨n, h⟩)
      (blocks T i H x0 x1 x2 j A n) ((first (loN T i j) + n) * 128) e1 e2 (fun x => base (loN T i j) + 128 ≤ x) e3 q
    have add (S x : EReal) : (x + if base (loN T i j) + 128 ≤ q.val ∧ q.val < (first (loN T i j) + n) * 128 then S else 0)
        + (if (first (loN T i j) + n) * 128 ≤ q.val ∧ q.val < (first (loN T i j) + n) * 128 + 128 ∧ base (loN T i j) + 128 ≤ q.val then S else 0)
        = x + if base (loN T i j) + 128 ≤ q.val ∧ q.val < (first (loN T i j) + (n + 1)) * 128 then S else 0 := by
      rw [add_assoc]
      congr 1
      by_cases h1 : base (loN T i j) + 128 ≤ q.val
      · by_cases h2 : q.val < (first (loN T i j) + n) * 128
        · rw [if_pos ⟨h1, h2⟩, if_neg (by omega), if_pos (by omega), add_zero]
        · rw [if_neg (by omega), zero_add]
          exact if_congr (by omega) rfl rfl
      · rw [if_neg (by omega), if_neg (by omega), if_neg (by omega), add_zero]
    rw [show blocks T i H x0 x1 x2 j A (n + 1) = _ from dif_pos h]
    refine ⟨fun d => ?_, ?_⟩
    · rw [hs.1 d, ih.1 d]; exact add _ _
    · rw [hs.2, ih.2]; exact add _ _

include hlo hhi in
theorem blocks_all (q : Fin 512) (j : Fin k0_t1_loop.trips) (A : Acc Ideal) :
    (∀ d, ((blocks T i H x0 x1 x2 j A (k0_t2_loop (lo T i j) (hi T i j)).trips).1 : S512x1024.Idx → EReal) (ix2 q d) =
      (A.1 : S512x1024.Idx → EReal) (ix2 q d) + blockPart T i q.val (fun j => rowSum x0 x1 j q d) j)
    ∧ ((blocks T i H x0 x1 x2 j A (k0_t2_loop (lo T i j) (hi T i j)).trips).2 : S512x1.Idx → EReal) (ix2 q 0) =
      (A.2 : S512x1.Idx → EReal) (ix2 q 0) + blockPart T i q.val (fun j => gateSum x1 x2 j q) j := by
  have hb := blocks_at x0 x1 x2 H hlo hhi q j A _ le_rfl
  have ht : first (loN T i j) + (k0_t2_loop (lo T i j) (hi T i j)).trips = stop (loN T i j) (hiN T i j) := by
    have h := stop_le (a := loN T i j) (hhi j)
    have e : (k0_t2_loop (lo T i j) (hi T i j)).trips = _ :=
      (congrArg₂ (fun w v => (k0_t2_loop w v).trips) (lo_eq T i j) (hi_eq T i j)).trans (loop_trips (hlo j) (hhi j))
    rw [e]
    exact Nat.add_sub_cancel' h.1
  rw [ht] at hb
  exact hb

include hlo hhi in
theorem laters_at (q : Fin 512) : ∀ n ≤ 16,
    (∀ d, ((laters T i H x0 x1 x2 n).1 : S512x1024.Idx → EReal) (ix2 q d) =
      upTo (winPart T i q.val fun j => rowSum x0 x1 j q d) 16 + upTo (blockPart T i q.val fun j => rowSum x0 x1 j q d) n)
    ∧ ((laters T i H x0 x1 x2 n).2 : S512x1.Idx → EReal) (ix2 q 0) =
      upTo (winPart T i q.val fun j => gateSum x1 x2 j q) 16 + upTo (blockPart T i q.val fun j => gateSum x1 x2 j q) n
  | 0, _ => by
    have h := windows_at x0 x1 x2 H hlo q 16 le_rfl
    refine ⟨fun d => (h.1 d).trans (add_zero _).symm, h.2.trans (add_zero _).symm⟩
  | n + 1, hn => by
    have h : n < 16 := by omega
    have ih := laters_at q n (by omega)
    have hb := blocks_all x0 x1 x2 H hlo hhi q ⟨n, h⟩ (laters T i H x0 x1 x2 n)
    rw [show laters T i H x0 x1 x2 (n + 1) = _ from dif_pos h, upTo_succ _ h, ← add_assoc]
    refine ⟨fun d => ?_, (hb.2).trans (congrArg (· + _) ih.2)⟩
    rw [upTo_succ _ h, ← add_assoc]
    exact (hb.1 d).trans (congrArg (· + _) (ih.1 d))

/-- A chunk with no token for row `q` outside its range adds its whole sum, once. -/
theorem parts (q : Fin 512) (S : Fin 16 → EReal) (hS : ∀ j, S j ≠ 0 → loN T i j ≤ q.val ∧ q.val < hiN T i j) :
    upTo (winPart T i q.val S) 16 + upTo (blockPart T i q.val S) 16 = ∑ j, S j := by
  rw [upTo_all, upTo_all, ← Finset.sum_add_distrib]
  refine Finset.sum_congr rfl fun j _ => ?_
  unfold winPart blockPart
  by_cases h0 : S j = 0
  · rw [h0, ite_self, ite_self, add_zero]
  obtain ⟨h1, h2⟩ := hS j h0
  have hb := base_le (loN T i j)
  by_cases h3 : q.val < base (loN T i j) + 128
  · rw [if_pos ⟨by omega, h3⟩, if_neg (by omega), add_zero]
  · rw [if_neg (by omega), if_pos ⟨by omega, by unfold stop; rw [if_pos (by omega)]; omega⟩, zero_add]

end

end Cert.Kernel4Ideal.Expert

end
-- ==== Proof.ExpertBody.lean ====
/-
One grid point's block of results: with the tables of a choice, row `q` is the gated feed-forward of the chosen token.
-/
module

public import proofs.«01_k».proof.Proof.ExpertRows

@[expose] public section

set_option maxRecDepth 16384

noncomputable section

namespace Cert.Kernel4Ideal.Expert

open Idealize.ShloMosaic Idealize.ShloMosaic.TcCoe Cert.Kernel4Ideal.Gen Idealize.SL.Sem
open Cert.Pre_tables_of_choice (S16x16x512 S16x16x16x256)

/-- The feed-forward of a row, times a gate. -/
def ffn (u : Fin 1024 → EReal) (w1 w3 w2 : Fin 1024 → Fin 1024 → EReal) (g : EReal) (d : Fin 1024) : EReal :=
  (∑ f, (∑ e, u e * w1 e f) * Ideal.logistic (∑ e, u e * w1 e f) * (∑ e, u e * w3 e f) * w2 f d) * g

theorem pay1_at (x : Vec Ideal S512x1024 .f32) (w1 w3 w2 : Vec Ideal S1x1x1024x1024 .bf16) (g : Vec Ideal S512x1 .f32) (a b : Fin 1) (q : Fin 512) (d : Fin 1024) :
    (k0_pay1 (F := Ideal) (k0_pay78 x w1 w3) w2 g : S1x1x512x1024.Idx → EReal) (ix4 a b q d) =
      ffn (fun e => (x : S512x1024.Idx → EReal) (ix2 q e)) (fun e f => (w1 : S1x1x1024x1024.Idx → EReal) (ix4 0 0 e f))
        (fun e f => (w3 : S1x1x1024x1024.Idx → EReal) (ix4 0 0 e f)) (fun e f => (w2 : S1x1x1024x1024.Idx → EReal) (ix4 0 0 e f)) ((g : S512x1.Idx → EReal) (ix2 q 0)) d := by
  unfold k0_pay1 k0_pay78
  pointwise
  simp only [Plain.logistic_tanh]
  unfold ffn
  rfl

section
variable {idx : IVec S16x16x512 32} {sl : IVec S16x16x16x256 32} {T : Vec Ideal S8448 .i32} (hT : Tables idx sl T) {i : grid0.Coords} (H : Fits T i)
variable (x0 : Vec Ideal S1x4096x1024 .bf16) (x1 : Vec Ideal S1x1x16x256 .i32) (x2 : Vec Ideal S1x1x16x256 .f32)
variable {b e : Fin 16} (hb : (i 0).val = b.val) (he : (i 1).val = e.val) (hx1 : ∀ j t, slot x1 j t = sl (ix4 b e j t))
include hT hb he hx1

theorem in_range {q : Fin 512} {j : Fin 16} {t : Fin 256} (h : slot x1 j t = BitVec.ofNat 32 q.val) : loN T i j ≤ q.val ∧ q.val < hiN T i j := by
  have hq : (sl (ix4 b e j t)).toInt = q.val := by rw [← hx1, h]; exact toInt_word (by omega)
  have hl : (T (ix1 ⟨(b.val * 16 + e.val) * 33 + 2 * j.val, by omega⟩)).toInt = loN T i j := by
    have := loN_le hT i j
    rw [show (T (ix1 ⟨(b.val * 16 + e.val) * 33 + 2 * j.val, by omega⟩)) = BitVec.ofNat 32 (loN T i j) by
      unfold loN; simp only [hb, he]; rw [BitVec.ofNat_toNat, BitVec.setWidth_eq]]
    exact toInt_word (by omega)
  have hh : (T (ix1 ⟨(b.val * 16 + e.val) * 33 + 2 * j.val + 2, by omega⟩)).toInt = hiN T i j := by
    have := hiN_le hT i j
    rw [show (T (ix1 ⟨(b.val * 16 + e.val) * 33 + 2 * j.val + 2, by omega⟩)) = BitVec.ofNat 32 (hiN T i j) by
      unfold hiN; simp only [hb, he]; rw [BitVec.ofNat_toNat, BitVec.setWidth_eq]]
    exact toInt_word (by omega)
  have h := hT.range b e j t
  rw [hq, hl, hh] at h
  omega

/-- The sum over the chunks of a value at the tokens whose slot is `q` is the value at the chosen token. -/
theorem chosen (q : Fin 512) (f : Fin 16 → Fin 256 → EReal) :
    (∑ j, ∑ t, if slot x1 j t = BitVec.ofNat 32 q.val then f j t else 0) =
      f ⟨(idx (ix3 b e q)).toNat / 256, by have := hT.idx_lt b e q; omega⟩ ⟨(idx (ix3 b e q)).toNat % 256, Nat.mod_lt _ (by decide)⟩ := by
  have hi := hT.idx_lt b e q
  have key (j : Fin 16) (t : Fin 256) : slot x1 j t = BitVec.ofNat 32 q.val ↔
      j = ⟨(idx (ix3 b e q)).toNat / 256, by omega⟩ ∧ t = ⟨(idx (ix3 b e q)).toNat % 256, Nat.mod_lt _ (by decide)⟩ := by
    rw [hx1, hT.hit]
    constructor
    · intro h
      have : (idx (ix3 b e q)).toNat = j.val * 256 + t.val := by rw [h]; exact WordArith.toNat_ofNat_of_lt _ (by omega)
      exact ⟨Fin.ext (by show j.val = _ / 256; omega), Fin.ext (by show t.val = _ % 256; omega)⟩
    · rintro ⟨rfl, rfl⟩
      apply BitVec.eq_of_toNat_eq
      rw [WordArith.toNat_ofNat_of_lt _ (by show _ / 256 * 256 + _ % 256 < _; omega)]
      show _ = _ / 256 * 256 + _ % 256
      omega
  rw [Finset.sum_eq_single_of_mem _ (Finset.mem_univ ⟨(idx (ix3 b e q)).toNat / 256, by omega⟩)
      fun j _ hj => Finset.sum_eq_zero fun t _ => if_neg fun h => hj ((key j t).mp h).1,
    Finset.sum_eq_single_of_mem _ (Finset.mem_univ ⟨(idx (ix3 b e q)).toNat % 256, Nat.mod_lt _ (by decide)⟩)
      fun t _ ht => if_neg fun h => ht ((key _ t).mp h).2]
  exact if_pos ((key _ _).mpr ⟨rfl, rfl⟩)

theorem gathered (q : Fin 512) :
    (∀ d, ((laters T i H x0 x1 x2 16).1 : S512x1024.Idx → EReal) (ix2 q d) = (x0 : S1x4096x1024.Idx → EReal) (ix3 0 ⟨(idx (ix3 b e q)).toNat, hT.idx_lt b e q⟩ d))
    ∧ ((laters T i H x0 x1 x2 16).2 : S512x1.Idx → EReal) (ix2 q 0) =
      gateOf x2 ⟨(idx (ix3 b e q)).toNat / 256, by have := hT.idx_lt b e q; omega⟩ ⟨(idx (ix3 b e q)).toNat % 256, Nat.mod_lt _ (by decide)⟩ := by
  have h := laters_at x0 x1 x2 H (loN_le hT i) (hiN_le hT i) q 16 le_rfl
  have ne (f : Fin 16 → Fin 256 → EReal) (j : Fin 16) (hj : (∑ t, if slot x1 j t = BitVec.ofNat 32 q.val then f j t else 0) ≠ 0) : loN T i j ≤ q.val ∧ q.val < hiN T i j := by
    obtain ⟨t, _, ht⟩ := Finset.exists_ne_zero_of_sum_ne_zero hj
    exact in_range hT x1 hb he hx1 (Classical.not_imp.mp fun hn => ht (if_neg fun hh => hn hh)).1
  refine ⟨fun d => ?_, ?_⟩
  · rw [h.1 d, parts q (fun j => rowSum x0 x1 j q d) fun j hj => ne (fun j t => rowOf x0 j t d) j hj]
    refine (chosen hT x1 hb he hx1 q fun j t => rowOf x0 j t d).trans ?_
    unfold rowOf
    congr 2
    exact Fin.ext (Nat.div_add_mod' _ _)
  · rw [h.2, parts q (fun j => gateSum x1 x2 j q) fun j hj => ne (fun j t => gateOf x2 j t) j hj]
    exact chosen hT x1 hb he hx1 q fun j t => gateOf x2 j t

theorem result_at (w1 w3 w2 : Vec Ideal S1x1x1024x1024 .bf16) (a a' : Fin 1) (q : Fin 512) (d : Fin 1024) :
    (result T i H x0 x1 x2 w1 w3 w2 : S1x1x512x1024.Idx → EReal) (ix4 a a' q d) =
      ffn (fun k => (x0 : S1x4096x1024.Idx → EReal) (ix3 0 ⟨(idx (ix3 b e q)).toNat, hT.idx_lt b e q⟩ k))
        (fun k f => (w1 : S1x1x1024x1024.Idx → EReal) (ix4 0 0 k f)) (fun k f => (w3 : S1x1x1024x1024.Idx → EReal) (ix4 0 0 k f)) (fun k f => (w2 : S1x1x1024x1024.Idx → EReal) (ix4 0 0 k f))
        (gateOf x2 ⟨(idx (ix3 b e q)).toNat / 256, by have := hT.idx_lt b e q; omega⟩ ⟨(idx (ix3 b e q)).toNat % 256, Nat.mod_lt _ (by decide)⟩) d := by
  have g := gathered hT H x0 x1 x2 hb he hx1 q
  unfold result
  rw [pay1_at, g.2, funext g.1]

end

end Cert.Kernel4Ideal.Expert

end
-- ==== Proof.ExpertArr.lean ====
module

public import proofs.«01_k».proof.Proof.ExpertBody
public import Idealize.ShloMosaic.Lib.Pipeline.Value
public import Idealize.ShloMosaic.Lib.Pipeline.ValueKit
public import Idealize.ShloMosaic.Lib.Pipeline.Covers
public import Idealize.ShloMosaic.Lib.Pointwise
public import Idealize.ShloMosaic.Lib.Tactic

/-!
The experts' result array.  Point `t` of the 256 is batch `t / 16` and expert `t % 16`; with the tables of a choice the
array is any function that has, at every batch, expert and slot, the chosen token's gated feed-forward.
-/

@[expose] public section

set_option maxRecDepth 16384

noncomputable section

namespace Cert.Kernel4Ideal.Expert

open Idealize.ShloMosaic Idealize.ShloMosaic.TcCoe Cert.Kernel4Ideal.Gen Idealize.SL.Sem
open Cert.Pre_tables_of_choice (S16x16x512)

variable (m : (ℓ : Loc nD τ sig) → Buf (Elt Ideal) ℓ) (hO : Ok m)

theorem coord0 : ∀ t : Fin grid0.N, (grid0.coords t 0).val = t.val / 16 := by decide +kernel
theorem coord1 : ∀ t : Fin grid0.N, (grid0.coords t 1).val = t.val % 16 := by decide +kernel

theorem idx0 (t : Fin (cfgM m hO).N) : ((cfgM m hO).win 0).index t = ![t.val / 16, 0, 0] :=
  (by decide +kernel : ∀ t : Fin grid0.N, cc0_transform_0 (grid0.coords t) = ![t.val / 16, 0, 0]) t
theorem idx1 (t : Fin (cfgM m hO).N) : ((cfgM m hO).win 1).index t = ![t.val / 16, t.val % 16, 0, 0] :=
  (by decide +kernel : ∀ t : Fin grid0.N, cc0_transform_1 (grid0.coords t) = ![t.val / 16, t.val % 16, 0, 0]) t
theorem idx2 (t : Fin (cfgM m hO).N) : ((cfgM m hO).win 2).index t = ![t.val / 16, t.val % 16, 0, 0] :=
  (by decide +kernel : ∀ t : Fin grid0.N, cc0_transform_2 (grid0.coords t) = ![t.val / 16, t.val % 16, 0, 0]) t
theorem idx3 (t : Fin (cfgM m hO).N) : ((cfgM m hO).win 3).index t = ![1, t.val % 16, 0, 0] :=
  (by decide +kernel : ∀ t : Fin grid0.N, cc0_transform_3 (grid0.coords t) = ![1, t.val % 16, 0, 0]) t
theorem idx4 (t : Fin (cfgM m hO).N) : ((cfgM m hO).win 4).index t = ![1, t.val % 16, 0, 0] :=
  (by decide +kernel : ∀ t : Fin grid0.N, cc0_transform_4 (grid0.coords t) = ![1, t.val % 16, 0, 0]) t
theorem idx5 (t : Fin (cfgM m hO).N) : ((cfgM m hO).win 5).index t = ![1, t.val % 16, 0, 0] :=
  (by decide +kernel : ∀ t : Fin grid0.N, cc0_transform_5 (grid0.coords t) = ![1, t.val % 16, 0, 0]) t
theorem idx6 (t : Fin (cfgM m hO).N) : ((cfgM m hO).win 6).index t = ![t.val / 16, t.val % 16, 0, 0] :=
  (by decide +kernel : ∀ t : Fin grid0.N, cc0_transform_6 (grid0.coords t) = ![t.val / 16, t.val % 16, 0, 0]) t

variable (c : Dev nD)

def bat (t : Fin grid0.N) : Fin 16 := ⟨t.val / 16, by have : t.val < 256 := t.isLt; omega⟩
def expt (t : Fin grid0.N) : Fin 16 := ⟨t.val % 16, by omega⟩

theorem tok_at (t : Fin (cfgM m hO).N) (a : Fin 1) (r : Fin 4096) (d : Fin 1024) :
    (iblk m hO c 0 t : S1x4096x1024.Idx → EReal) (ix3 a r d) = (V m c main_arg0 : S16x4096x1024.Idx → EReal) (ix3 (bat t) r d) := by
  blk_ext [iblk, idx0 m hO t, bat]
theorem slot_at (t : Fin (cfgM m hO).N) (j : Fin 16) (r : Fin 256) :
    slot (iblk m hO c 1 t) j r = (V m c main_v3 : IVec S16x16x16x256 32) (ix4 (bat t) (expt t) j r) := by
  unfold slot
  blk_ext [iblk, idx1 m hO t, bat, expt]
theorem gate_at (t : Fin (cfgM m hO).N) (j : Fin 16) (r : Fin 256) :
    gateOf (iblk m hO c 2 t) j r = (V m c main_v4 : S16x16x16x256.Idx → EReal) (ix4 (bat t) (expt t) j r) := by
  unfold gateOf
  blk_ext [iblk, idx2 m hO t, bat, expt]
theorem w1_at (t : Fin (cfgM m hO).N) (e f : Fin 1024) :
    (iblk m hO c 3 t : S1x1x1024x1024.Idx → EReal) (ix4 0 0 e f) = (V m c main_v0 : S4x16x1024x1024.Idx → EReal) (ix4 1 (expt t) e f) := by
  blk_ext [iblk, idx3 m hO t, expt]
theorem w3_at (t : Fin (cfgM m hO).N) (e f : Fin 1024) :
    (iblk m hO c 4 t : S1x1x1024x1024.Idx → EReal) (ix4 0 0 e f) = (V m c main_v1 : S4x16x1024x1024.Idx → EReal) (ix4 1 (expt t) e f) := by
  blk_ext [iblk, idx4 m hO t, expt]
theorem w2_at (t : Fin (cfgM m hO).N) (e f : Fin 1024) :
    (iblk m hO c 5 t : S1x1x1024x1024.Idx → EReal) (ix4 0 0 e f) = (V m c main_v2 : S4x16x1024x1024.Idx → EReal) (ix4 1 (expt t) e f) := by
  blk_ext [iblk, idx5 m hO t, expt]

section
variable {idx : IVec S16x16x512 32} (hT : Tables idx (V m c main_v3) (tbl m 0)) (hH : Hyps m)

/-- What an expert gives its slot `q` of a batch. -/
def given (b e : Fin 16) (q : Fin 512) (d : Fin 1024) : EReal :=
  ffn (fun k => (V m c main_arg0 : S16x4096x1024.Idx → EReal) (ix3 b ⟨_, hT.idx_lt b e q⟩ k))
    (fun i f => (V m c main_v0 : S4x16x1024x1024.Idx → EReal) (ix4 1 e i f))
    (fun i f => (V m c main_v1 : S4x16x1024x1024.Idx → EReal) (ix4 1 e i f))
    (fun i f => (V m c main_v2 : S4x16x1024x1024.Idx → EReal) (ix4 1 e i f))
    ((V m c main_v4 : S16x16x16x256.Idx → EReal) (ix4 b e ⟨(idx (ix3 b e q)).toNat / 256, by have := hT.idx_lt b e q; omega⟩ ⟨(idx (ix3 b e q)).toNat % 256, Nat.mod_lt _ (by decide)⟩)) d

theorem out_at (t : Fin (cfgM m hO).N) (a a' : Fin 1) (q : Fin 512) (d : Fin 1024) :
    (outsAt0 m hO hH c t : S1x1x512x1024.Idx → EReal) (ix4 a a' q d) = given m c hT (bat t) (expt t) q d := by
  refine (result_at hT (hH (grid0.coords t)) (iblk m hO c 0 t) (iblk m hO c 1 t) (iblk m hO c 2 t)
    (b := bat t) (e := expt t) (coord0 t) (coord1 t) (fun j r => slot_at m hO c t j r) (iblk m hO c 3 t) (iblk m hO c 4 t) (iblk m hO c 5 t) a a' q d).trans ?_
  rw [gate_at]
  simp only [tok_at, w1_at, w3_at, w2_at]
  rfl

theorem covers6 : ((cfgM m hO).win 6).Covers :=
  Pipeline.Window.covers_of_index_surj _ rfl (by decide : ∀ a, 0 < S1x1x512x1024.size a) fun (β : (a : Fin 4) → Fin ((S16x16x512x1024.size a + S1x1x512x1024.size a - 1) / S1x1x512x1024.size a)) => by
    have h0 : (β 0).val < 16 := (β 0).isLt
    have h1 : (β 1).val < 16 := (β 1).isLt
    have h2 : (β 2).val < 1 := (β 2).isLt
    have h3 : (β 3).val < 1 := (β 3).isLt
    refine ⟨(⟨(β 0).val * 16 + (β 1).val, by show _ < 256; omega⟩ : Fin grid0.N), fun a => ?_⟩
    rw [idx6 m hO]
    match a with
    | ⟨0, _⟩ => show ((β 0).val * 16 + (β 1).val) / 16 = (β 0).val; omega
    | ⟨1, _⟩ => show ((β 0).val * 16 + (β 1).val) % 16 = (β 1).val; omega
    | ⟨2, _⟩ => show 0 = (β 2).val; omega
    | ⟨3, _⟩ => show 0 = (β 3).val; omega

theorem result_arr (G : S16x16x512x1024.Idx → EReal) (hG : ∀ b e q d, G (ix4 b e q d) = given m c hT b e q d) :
    (dats m hO hH 0 c).arrAt 6 (cfgM m hO).N = G := by
  refine (dats m hO hH 0 c).arrAt_eq_of_covers 6 _ (covers6 m hO) fun t hfl (y : S1x1x512x1024.Idx) => ?_
  blk_simp
  rw [after0_6]
  idx_vars y
  have he : (((cfgM m hO).win 6).blk t).view.emb (ix4 y0 y1 y2 y3) = ix4 (bat t) (expt t) y2 y3 := by blk_ext [idx6 m hO t, bat, expt]
  rw [he, out_at m hO c hT hH, hG]

end

end Cert.Kernel4Ideal.Expert

end
-- ==== Proof.ExpertRef.lean ====
module

public import proofs.«01_k».proof.Proof.Gen.Reference4Ideal.Run
public import proofs.«01_k».proof.Proof.ExpertBody
public import Idealize.ShloMosaic.Lib.Pointwise
public import Idealize.ShloMosaic.Lib.Tactic

/-!
The experts' reference, an array at a time: the chosen tokens' rows and gates, and their gated feed-forward.
-/

@[expose] public section

set_option maxRecDepth 16384

noncomputable section

namespace Cert.Reference4Ideal.Refer

open Cert.Reference4Ideal Cert.Reference4Ideal.Gen
open Idealize.ShloMosaic Idealize.ShloMosaic.TcCoe Idealize.SL.Sem
open Cert.Kernel4Ideal.Expert (ffn cmp_slt cmp_sle cmp_sge andi_one)

/-- The chosen tokens, a negative one counted from the end. -/
def wrapped (idx : IVec S16x16x512 32) : IVec S16x16x512 32 :=
  select (cmpi .slt idx (broadcastInDim S16x16x512 ![] bcast_S_S16x16x512 (constantI S_ 32 0#32)))
    (addi idx (broadcastInDim S16x16x512 ![] bcast_S_S16x16x512 (constantI S_ 32 4096#32))) idx

/-- The layer's weights of one kind. -/
def weight (w : FVec Ideal S4x16x1024x1024 .f32) : FVec Ideal S16x1024x1024 .f32 :=
  shapeCast _ (extractStridedSlice S1x16x1024x1024 ![1, 0, 0, 0] w slices_S4x16x1024x1024_S1x16x1024x1024_1_0_0_0) shapeCasts_S1x16x1024x1024_S16x1024x1024

/-- The rows at the chosen tokens. -/
def rows (u : FVec Ideal S16x4096x1024 .bf16) (n : IVec S16x16x512 32) : FVec Ideal S16x16x512x1024 .f32 :=
  Host.gather gather_S16x4096x1024_S16x16x512x1_S16x16x512x1024_3_1_0_0_1_3_111024 (extf .f32 u bitsLt_bf16_f32)
    (broadcastInDim S16x16x512x1 ![0, 1, 2] bcast_S16x16x512_S16x16x512x1_0_1_2 n)

/-- A batch of rows times each expert's weights. -/
def times (w : FVec Ideal S16x1024x1024 .f32) (x : FVec Ideal S16x16x512x1024 .f32) : FVec Ideal S16x16x512x1024 .f32 :=
  transpose S16x16x512x1024 [2, 0, 3, 1] (Host.dotGeneral dot_S16x1024x1024_S16x16x512x1024_S16x1024x16x512_1_3_2_02_0_1 none w x)
    transposes_S16x1024x16x512_S16x16x512x1024_2_0_3_1

/-- The gated hidden rows. -/
def hidden (h1 h3 : FVec Ideal S16x16x512x1024 .f32) : FVec Ideal S16x16x512x1024 .f32 :=
  mulf (mulf h1 (Host.divf (broadcastInDim S16x16x512x1024 ![] bcast_S_S16x16x512x1024 (constant S_ .f32 0x3F800000#32))
    (addf (broadcastInDim S16x16x512x1024 ![] bcast_S_S16x16x512x1024 (constant S_ .f32 0x3F800000#32)) (Host.exp (Host.negf h1))))) h3

/-- Whether a chosen token is one of the batch's. -/
def inside (n : IVec S16x16x512x1 32) : IVec S16x16x512 1 :=
  Host.reduce IntOp.andi (andi (cmpi .sge n (broadcastInDim S16x16x512x1 ![] bcast_S_S16x16x512x1 (constantI S_ 32 0#32)))
    (cmpi .sle n (broadcastInDim S16x16x512x1 ![0, 1, 2, 3] bcast_S1x1x1x1_S16x16x512x1_0_1_2_3 (broadcastInDim S1x1x1x1 ![3] bcast_S1_S1x1x1x1_3 (constantI S1 32 4095#32)))))
    (constantI S_ 1 1#1) reducesTo_S16x16x512x1_S16x16x512_d3 h_S_

/-- The gates at the chosen tokens. -/
def gates (g : FVec Ideal S16x16x4096 .f32) (n : IVec S16x16x512 32) : FVec Ideal S16x16x512 .f32 :=
  select (inside (shapeCast _ n shapeCasts_S16x16x512_S16x16x512x1))
    (Host.gather gather_S16x16x4096_S16x16x512x1_S16x16x512_n_2_01_01_2_3_111 g
      (shapeCast _ n shapeCasts_S16x16x512_S16x16x512x1))
    (broadcastInDim S16x16x512 ![] bcast_S_S16x16x512 (constant S_ .f32 0x7FC00000#32))

/-- The experts' rows under their gates. -/
def gated (x : FVec Ideal S16x16x512x1024 .f32) (g : FVec Ideal S16x16x512 .f32) : FVec Ideal S16x16x512x1024 .bf16 :=
  truncf .bf16 (mulf x (broadcastInDim S16x16x512x1024 ![0, 1, 2, 3] bcast_S16x16x512x1_S16x16x512x1024_0_1_2_3
    (broadcastInDim S16x16x512x1 ![0, 1, 2] bcast_S16x16x512_S16x16x512x1_0_1_2 g))) bitsLt_bf16_f32

theorem toInt_small {w : BitVec 32} (h : w.toNat < 4096) : w.toInt = w.toNat := by
  rw [BitVec.toInt_eq_toNat_cond, if_pos (by omega)]

theorem wrapped_eq (idx : IVec S16x16x512 32) (h : ∀ b e q, (idx (ix3 b e q)).toNat < 4096) : wrapped idx = idx := by
  funext y
  idx_vars y
  unfold wrapped
  pointwise
  have := toInt_small (h y0 y1 y2)
  exact if_neg fun hh => by
    have := (cmp_slt _ _).mp hh
    have e0 : (0#32).toInt = 0 := by decide
    omega

theorem clamped {w : BitVec 32} (h : w.toNat < 4096) : min w.toInt.toNat 4095 = w.toNat := by
  rw [toInt_small h]
  omega

theorem siIdx_rows (b e : Fin 16) (q : Fin 512) (d : Fin 1024) :
    gather_S16x4096x1024_S16x16x512x1_S16x16x512x1024_3_1_0_0_1_3_111024.siIdx (ix4 b e q d) ⟨0, by decide⟩ = ix4 b e q 0 := by
  funext a
  match a with
  | ⟨0, _⟩ => rfl
  | ⟨1, _⟩ => rfl
  | ⟨2, _⟩ => rfl
  | ⟨3, _⟩ => rfl

theorem siIdx_gates (b e : Fin 16) (q : Fin 512) :
    gather_S16x16x4096_S16x16x512x1_S16x16x512_n_2_01_01_2_3_111.siIdx (ix3 b e q) ⟨0, by decide⟩ = ix4 b e q 0 := by
  funext a
  match a with
  | ⟨0, _⟩ => rfl
  | ⟨1, _⟩ => rfl
  | ⟨2, _⟩ => rfl
  | ⟨3, _⟩ => rfl

theorem rows_at (u : FVec Ideal S16x4096x1024 .bf16) (n : IVec S16x16x512 32) (b e : Fin 16) (q : Fin 512) (d : Fin 1024) (h : (n (ix3 b e q)).toNat < 4096) :
    (rows u n : S16x16x512x1024.Idx → EReal) (ix4 b e q d) = (u : S16x4096x1024.Idx → EReal) (ix3 b ⟨(n (ix3 b e q)).toNat, h⟩ d) := by
  unfold rows Host.gather
  show (u : S16x4096x1024.Idx → EReal) _ = _
  refine congrArg (u : S16x4096x1024.Idx → EReal) (funext fun a => Fin.ext ?_)
  match a with
  | ⟨0, _⟩ => show 0 + b.val + 0 = b.val; omega
  | ⟨1, _⟩ =>
    have e1 : (broadcastInDim S16x16x512x1 ![0, 1, 2] bcast_S16x16x512_S16x16x512x1_0_1_2 n : IVec S16x16x512x1 32) (ix4 b e q 0) = n (ix3 b e q) := by
      pointwise
    refine (congrArg (a₂ := n (ix3 b e q)) (fun w : BitVec 32 => min w.toInt.toNat 4095) ?_).trans ((clamped h))
    exact (congrArg _ (siIdx_rows b e q d)).trans e1
  | ⟨2, _⟩ => show 0 + 0 + d.val = d.val; omega

theorem inside_at (n : IVec S16x16x512x1 32) (h : ∀ y, (n y).toNat < 4096) (y) : inside n y = 1#1 := by
  have key (l : List (Fin S16x16x512x1.numel)) : ∀ a : BitVec 1, a = 1#1 →
      l.foldl (fun r k => IntOp.andi r ((andi (cmpi .sge n (broadcastInDim S16x16x512x1 ![] bcast_S_S16x16x512x1 (constantI S_ 32 0#32)))
    (cmpi .sle n (broadcastInDim S16x16x512x1 ![0, 1, 2, 3] bcast_S1x1x1x1_S16x16x512x1_0_1_2_3 (broadcastInDim S1x1x1x1 ![3] bcast_S1_S1x1x1x1_3 (constantI S1 32 4095#32))))) (S16x16x512x1.rowMajor.symm k))) a = 1#1 := by
    induction l with
    | nil => exact fun a ha => ha
    | cons k l ih =>
      intro a ha
      refine ih _ ((andi_one _ _).mpr ⟨ha, (andi_one _ _).mpr ⟨(cmp_sge _ _).mpr ?_, (cmp_sle _ _).mpr ?_⟩⟩)
      · show (0#32).toInt ≤ _
        rw [toInt_small (h _)]; exact Int.natCast_nonneg _
      · show _ ≤ (4095#32).toInt
        rw [toInt_small (h _), show (4095#32).toInt = 4095 from by decide]
        have := h (S16x16x512x1.rowMajor.symm k)
        omega
  exact key _ _ rfl

theorem chosen_left {α : Type} {s : Shape} (k : IVec s 1) (x y : s.Idx → α) (i : s.Idx) (h : k i = 1#1) : select k x y i = x i :=
  if_pos h

theorem gates_at (g : FVec Ideal S16x16x4096 .f32) (n : IVec S16x16x512 32) (h : ∀ b e q, (n (ix3 b e q)).toNat < 4096) (b e : Fin 16) (q : Fin 512) :
    (gates g n : S16x16x512.Idx → EReal) (ix3 b e q) =
      (g : S16x16x4096.Idx → EReal) (ix3 b e ⟨(n (ix3 b e q)).toNat, h b e q⟩) := by
  have hn (y) : ((shapeCast _ n shapeCasts_S16x16x512_S16x16x512x1 : IVec S16x16x512x1 32) y).toNat < 4096 := by
    idx_vars y
    pointwise
    exact h _ _ _
  have hg : (Host.gather gather_S16x16x4096_S16x16x512x1_S16x16x512_n_2_01_01_2_3_111 g
      (shapeCast S16x16x512x1 n shapeCasts_S16x16x512_S16x16x512x1) : S16x16x512.Idx → EReal) (ix3 b e q) =
      (g : S16x16x4096.Idx → EReal) (ix3 b e ⟨(n (ix3 b e q)).toNat, h b e q⟩) := by
    unfold Host.gather
    refine congrArg _ (funext fun a => Fin.ext ?_)
    match a with
    | ⟨0, _⟩ => show 0 + b.val + 0 = b.val; omega
    | ⟨1, _⟩ => show 0 + e.val + 0 = e.val; omega
    | ⟨2, _⟩ =>
      have e1 : (shapeCast S16x16x512x1 n shapeCasts_S16x16x512_S16x16x512x1 : IVec S16x16x512x1 32) (ix4 b e q 0) = n (ix3 b e q) := by
        pointwise
      refine (congrArg (a₂ := n (ix3 b e q)) (fun w : BitVec 32 => min w.toInt.toNat 4095) ?_).trans (clamped (h b e q))
      exact (congrArg _ (siIdx_gates b e q)).trans e1
  unfold gates
  exact (chosen_left _ _ _ _ (inside_at _ hn (ix3 b e q))).trans hg

theorem weight_at (w : FVec Ideal S4x16x1024x1024 .f32) (e : Fin 16) (i j : Fin 1024) :
    (weight w : S16x1024x1024.Idx → EReal) (ix3 e i j) = (w : S4x16x1024x1024.Idx → EReal) (ix4 1 e i j) := by
  unfold weight
  pointwise

theorem times_at (w : FVec Ideal S16x1024x1024 .f32) (x : FVec Ideal S16x16x512x1024 .f32) (b e : Fin 16) (q : Fin 512) (d : Fin 1024) :
    (times w x : S16x16x512x1024.Idx → EReal) (ix4 b e q d) = ∑ i, (x : S16x16x512x1024.Idx → EReal) (ix4 b e q i) * (w : S16x1024x1024.Idx → EReal) (ix3 e i d) := by
  unfold times
  pointwise
  exact Finset.sum_congr rfl fun i _ => mul_comm _ _

theorem hidden_at (h1 h3 : FVec Ideal S16x16x512x1024 .f32) (b e : Fin 16) (q : Fin 512) (d : Fin 1024) :
    (hidden h1 h3 : S16x16x512x1024.Idx → EReal) (ix4 b e q d) =
      (h1 : S16x16x512x1024.Idx → EReal) (ix4 b e q d) * Ideal.logistic ((h1 : S16x16x512x1024.Idx → EReal) (ix4 b e q d)) * (h3 : S16x16x512x1024.Idx → EReal) (ix4 b e q d) := by
  unfold hidden
  pointwise
  rfl

theorem gated_at (x : FVec Ideal S16x16x512x1024 .f32) (g : FVec Ideal S16x16x512 .f32) (b e : Fin 16) (q : Fin 512) (d : Fin 1024) :
    (gated x g : S16x16x512x1024.Idx → EReal) (ix4 b e q d) = (x : S16x16x512x1024.Idx → EReal) (ix4 b e q d) * (g : S16x16x512.Idx → EReal) (ix3 b e q) := by
  unfold gated
  pointwise

section
variable (m : (ℓ : Loc nD τ sig) → Buf (Elt Ideal) ℓ) (c : Dev nD)

theorem res_eq : Value.res_main_v26 m c = gated (times (weight (m (c.tc.loc main_arg7)))
      (hidden (times (weight (m (c.tc.loc main_arg5))) (rows (m (c.tc.loc main_arg0)) (wrapped (m (c.tc.loc main_arg1)))))
        (times (weight (m (c.tc.loc main_arg6))) (rows (m (c.tc.loc main_arg0)) (wrapped (m (c.tc.loc main_arg1)))))))
    (gates (m (c.tc.loc main_arg3)) (wrapped (m (c.tc.loc main_arg1)))) := by
  sl_kernel_rfl

theorem res_at (h : ∀ b e q, ((m (c.tc.loc main_arg1) : IVec S16x16x512 32) (ix3 b e q)).toNat < 4096) (b e : Fin 16) (q : Fin 512) (d : Fin 1024) :
    (Value.res_main_v26 m c : S16x16x512x1024.Idx → EReal) (ix4 b e q d) =
      ffn (fun k => (m (c.tc.loc main_arg0) : S16x4096x1024.Idx → EReal) (ix3 b ⟨_, h b e q⟩ k))
        (fun i f => (m (c.tc.loc main_arg5) : S4x16x1024x1024.Idx → EReal) (ix4 1 e i f))
        (fun i f => (m (c.tc.loc main_arg6) : S4x16x1024x1024.Idx → EReal) (ix4 1 e i f))
        (fun i f => (m (c.tc.loc main_arg7) : S4x16x1024x1024.Idx → EReal) (ix4 1 e i f))
        ((m (c.tc.loc main_arg3) : S16x16x4096.Idx → EReal) (ix3 b e ⟨_, h b e q⟩)) d := by
  rw [res_eq, wrapped_eq _ h, gated_at, gates_at _ _ h, times_at]
  simp only [hidden_at, times_at, weight_at, rows_at _ _ _ _ _ _ (h b e q)]
  rfl

end

end Cert.Reference4Ideal.Refer

end
-- ==== Proof.ExpertTie.lean ====
module

public import proofs.«01_k».proof.Defs
public import proofs.«01_k».proof.Proof.ExpertArr
public import proofs.«01_k».proof.Proof.ExpertRef

/-!
The experts' call under tables of a choice: it runs without a fault, and its result is the reference's.
-/

@[expose] public section

set_option maxRecDepth 16384

noncomputable section

namespace Cert.ExpertTie

open Cert.Kernel4Ideal.Expert
open Idealize.ShloMosaic Idealize.ShloMosaic.TcCoe Idealize.SL.Sem

section
variable {F : FTy → Type} [FloatOps F]
variable (m : (ℓ : Loc Cert.Kernel4Ideal.nD Cert.Kernel4Ideal.τ Cert.Kernel4Ideal.sig) → Buf (Elt F) ℓ)

theorem ok : Ok m := trivial

/-- The table of offsets is not changed before the call. -/
theorem table_eq : (tbl m 0 : IVec Cert.Kernel4Ideal.S8448 32) = m ((0 : Dev Cert.Kernel4Ideal.nD).tc.loc Cert.Kernel4Ideal.main_arg4) := V_main_arg4 m 0

/-- With the tables of a choice every chunk's range fits the scratch buffers. -/
theorem hyps {idx sl} (h : Tables idx sl (m ((0 : Dev Cert.Kernel4Ideal.nD).tc.loc Cert.Kernel4Ideal.main_arg4))) : Hyps m :=
  fun i => (congrArg (fun w : IVec Cert.Kernel4Ideal.S8448 32 => Fits (F := F) w i) (table_eq m)).mpr (fits h i)

end

variable (m : (ℓ : Loc Cert.Kernel4Ideal.nD Cert.Kernel4Ideal.τ Cert.Kernel4Ideal.sig) → Buf (Elt Ideal) ℓ)
  (ρ : Dev Cert.Kernel4Ideal.nD → PrngReg)
  (m' : (ℓ : Loc Cert.Reference4Ideal.nD Cert.Reference4Ideal.τ Cert.Reference4Ideal.sig) → Buf (Elt Ideal) ℓ)
  (c : Dev Cert.Kernel4Ideal.nD)

/-- The kernel's run, its result array named. -/
theorem run_blocks (hH : Hyps m) : θ_run Cert.Kernel4Ideal.defs (onTc (τ := Cert.Kernel4Ideal.τ) (Cert.Kernel4Ideal.main (F := Ideal))) ⟨m, fun _ => 0, ρ⟩ (fun r => ∀ c : Dev Cert.Kernel4Ideal.nD,
      r.2.mem ((c.tc : Thread Cert.Kernel4Ideal.nD Cert.Kernel4Ideal.τ).loc Cert.Kernel4Ideal.main_v5) = (dats m (ok m) hH 0 c).arrAt 6 (cfgM m (ok m)).N
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)) :=
  (θ_run Cert.Kernel4Ideal.defs _ _).mono (fun _ h c => ⟨(h.1 c).1 6, h.2 c⟩)
    (θ_run_and (run_main m ρ (ok m) hH) (unchanged m ρ (ok m) hH))

variable {m m' c}

/-- The reference's result, where its arguments are the kernel's. -/
theorem tie (hT : Tables (m ((c.tc : Thread Cert.Kernel4Ideal.nD Cert.Kernel4Ideal.τ).loc Cert.Kernel4Ideal.main_arg1))
      (shapeCast Cert.Kernel4Ideal.S16x16x16x256 (m ((c.tc : Thread Cert.Kernel4Ideal.nD Cert.Kernel4Ideal.τ).loc Cert.Kernel4Ideal.main_arg2)) Cert.Kernel4Ideal.Gen.shapeCasts_S16x16x4096_S16x16x16x256)
      (m ((c.tc : Thread Cert.Kernel4Ideal.nD Cert.Kernel4Ideal.τ).loc Cert.Kernel4Ideal.main_arg4))) (hH : Hyps m)
    (a0 : m' ((c.tc : Thread Cert.Reference4Ideal.nD Cert.Reference4Ideal.τ).loc Cert.Reference4Ideal.main_arg0) =
      m ((c.tc : Thread Cert.Kernel4Ideal.nD Cert.Kernel4Ideal.τ).loc Cert.Kernel4Ideal.main_arg0))
    (a1 : m' ((c.tc : Thread Cert.Reference4Ideal.nD Cert.Reference4Ideal.τ).loc Cert.Reference4Ideal.main_arg1) =
      m ((c.tc : Thread Cert.Kernel4Ideal.nD Cert.Kernel4Ideal.τ).loc Cert.Kernel4Ideal.main_arg1))
    (a3 : m' ((c.tc : Thread Cert.Reference4Ideal.nD Cert.Reference4Ideal.τ).loc Cert.Reference4Ideal.main_arg3) =
      m ((c.tc : Thread Cert.Kernel4Ideal.nD Cert.Kernel4Ideal.τ).loc Cert.Kernel4Ideal.main_arg3))
    (a5 : m' ((c.tc : Thread Cert.Reference4Ideal.nD Cert.Reference4Ideal.τ).loc Cert.Reference4Ideal.main_arg5) =
      m ((c.tc : Thread Cert.Kernel4Ideal.nD Cert.Kernel4Ideal.τ).loc Cert.Kernel4Ideal.main_arg5))
    (a6 : m' ((c.tc : Thread Cert.Reference4Ideal.nD Cert.Reference4Ideal.τ).loc Cert.Reference4Ideal.main_arg6) =
      m ((c.tc : Thread Cert.Kernel4Ideal.nD Cert.Kernel4Ideal.τ).loc Cert.Kernel4Ideal.main_arg6))
    (a7 : m' ((c.tc : Thread Cert.Reference4Ideal.nD Cert.Reference4Ideal.τ).loc Cert.Reference4Ideal.main_arg7) =
      m ((c.tc : Thread Cert.Kernel4Ideal.nD Cert.Kernel4Ideal.τ).loc Cert.Kernel4Ideal.main_arg7)) :
    (dats m (ok m) hH 0 c).arrAt 6 (cfgM m (ok m)).N =
      (Cert.Reference4Ideal.Value.res_main_v26 m' c : Cert.Reference4Ideal.S16x16x512x1024.Idx → EReal) := by
  obtain rfl : c = 0 := Subsingleton.elim _ _
  have hT' : Tables (m ((0 : Dev Cert.Kernel4Ideal.nD).tc.loc Cert.Kernel4Ideal.main_arg1)) (V m 0 Cert.Kernel4Ideal.main_v3) (tbl m 0) :=
    (congrArg (fun w : IVec Cert.Kernel4Ideal.S8448 32 => Tables _ (V m 0 Cert.Kernel4Ideal.main_v3) w) (table_eq m)).mpr hT
  refine result_arr m (ok m) 0 hT' hH _ fun b e q d => ?_
  have h : ∀ b e q, ((m' ((0 : Dev Cert.Reference4Ideal.nD).tc.loc Cert.Reference4Ideal.main_arg1) : IVec Cert.Reference4Ideal.S16x16x512 32) (ix3 b e q)).toNat < 4096 := by
    rw [a1]; exact hT.idx_lt
  refine (Cert.Reference4Ideal.Refer.res_at m' 0 h b e q d).trans ?_
  have e4 : (V m 0 Cert.Kernel4Ideal.main_v4 : FVec Ideal Cert.Kernel4Ideal.S16x16x16x256 .f32) =
      shapeCast Cert.Kernel4Ideal.S16x16x16x256 (m ((0 : Dev Cert.Kernel4Ideal.nD).tc.loc Cert.Kernel4Ideal.main_arg3) : FVec Ideal Cert.Kernel4Ideal.S16x16x4096 .f32)
        Cert.Kernel4Ideal.Gen.shapeCasts_S16x16x4096_S16x16x16x256 := rfl
  have eg (n : ℕ) (hn : n < 4096) : (V m 0 Cert.Kernel4Ideal.main_v4 : Cert.Kernel4Ideal.S16x16x16x256.Idx → EReal) (ix4 b e ⟨n / 256, by omega⟩ ⟨n % 256, Nat.mod_lt _ (by decide)⟩) =
      (m ((0 : Dev Cert.Kernel4Ideal.nD).tc.loc Cert.Kernel4Ideal.main_arg3) : Cert.Kernel4Ideal.S16x16x4096.Idx → EReal) (ix3 b e ⟨n, hn⟩) := by
    rw [e4]
    pointwise
    simp only [Nat.div_add_mod']
  unfold given
  rw [eg _ (hT'.idx_lt b e q), V_main_arg0]
  simp only [a0, a1, a3, a5, a6, a7]
  rfl

end Cert.ExpertTie

end
-- ==== Proof.ScatterProg.lean ====
/-
The scatter kernel, one expert at a time. The printed body repeats two groups of operations for each of the sixteen
experts: fetch a window of 128 rows of the expert's results into the stack and build the window's one-hot matrix; and,
later, run over the blocks of 256 rows past that window. Here each group is one program, and the printed body is equal
to the sixteen windows in pairs, followed by the sixteen runs over blocks and the final norm.
-/
module

public import proofs.«01_k».proof.Proof.Gen.Kernel5Ideal.Skeleton
public import Idealize.ShloMosaic.Lib.Exec
public import Idealize.ShloMosaic.Lib.Tactic
public import Idealize.ShloMosaic.Lib.VecWindow
public import Idealize.ShloMosaic.Lib.Pipeline.Kit
public import Idealize.ShloMosaic.Lib.WordArith

@[expose] public section

noncomputable section

namespace Cert.Kernel5Ideal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

variable {F : FTy → Type} [FloatOps F]

abbrev Tc (F : FTy → Type) (α : Type) := Prog (TpuEff nD τ sig (Elt F) Λ₀ .tc) α

/-! ## Offsets and side conditions of expert `e` -/

/-- Where the table holds the first slot of expert `e` in the block of tokens, and the end of its slots there. -/
def offLo (e : ℕ) (i : grid0.Coords) : Fin 1 → Nat :=
  ![(Scalar.indexCast (Scalar.addi (Scalar.muli (Scalar.addi (Scalar.muli (BitVec.ofNat 32 (i 0).val) 16#32) (BitVec.ofNat 32 e)) 33#32) (Scalar.muli (BitVec.ofNat 32 (i 1).val) 4#32))).toNat]
def offHi (e : ℕ) (i : grid0.Coords) : Fin 1 → Nat :=
  ![(Scalar.indexCast (Scalar.addi (Scalar.muli (Scalar.addi (Scalar.muli (BitVec.ofNat 32 (i 0).val) 16#32) (BitVec.ofNat 32 e)) 33#32) (Scalar.muli (Scalar.addi (BitVec.ofNat 32 (i 1).val) 1#32) 4#32))).toNat]

theorem offLo_eq (e : ℕ) (he : e < 16) (i : grid0.Coords) : offLo e i = ![((i 0).val * 16 + e) * 33 + 4 * (i 1).val] := by
  have h0 : (i 0).val < 16 := (i 0).isLt
  have h1 : (i 1).val < 8 := (i 1).isLt
  unfold offLo
  funext a; fin_cases a
  simp [Scalar.indexCast, Scalar.addi, Scalar.muli, IntOp.addi, IntOp.muli, BitVec.toNat_add, BitVec.toNat_mul, BitVec.toNat_ofNat]
  omega
theorem offHi_eq (e : ℕ) (he : e < 16) (i : grid0.Coords) : offHi e i = ![((i 0).val * 16 + e) * 33 + 4 * (i 1).val + 4] := by
  have h0 : (i 0).val < 16 := (i 0).isLt
  have h1 : (i 1).val < 8 := (i 1).isLt
  unfold offHi
  funext a; fin_cases a
  simp [Scalar.indexCast, Scalar.addi, Scalar.muli, IntOp.addi, IntOp.muli, BitVec.toNat_add, BitVec.toNat_mul, BitVec.toNat_ofNat]
  omega
theorem offLo_inb (e : Fin 16) (i : grid0.Coords) : ∀ a, offLo e.val i a + S1.size a ≤ S8448.size a := by
  have h0 : (i 0).val < 16 := (i 0).isLt
  have h1 : (i 1).val < 8 := (i 1).isLt
  rw [offLo_eq _ e.isLt]
  intro a; fin_cases a
  show ((i 0).val * 16 + e.val) * 33 + 4 * (i 1).val + 1 ≤ 8448
  omega
theorem offHi_inb (e : Fin 16) (i : grid0.Coords) : ∀ a, offHi e.val i a + S1.size a ≤ S8448.size a := by
  have h0 : (i 0).val < 16 := (i 0).isLt
  have h1 : (i 1).val < 8 := (i 1).isLt
  rw [offHi_eq _ e.isLt]
  intro a; fin_cases a
  show ((i 0).val * 16 + e.val) * 33 + 4 * (i 1).val + 4 + 1 ≤ 8448
  omega

/-- The window's rows among the expert's results, and what the body assumes of them. -/
def offW (e : ℕ) (w : BitVec 32) : Fin 4 → Nat :=
  ![0, e, (Scalar.indexCast (Scalar.minsi (Scalar.andi w 4294967280#32) 384#32)).toNat, 0]
def chkW (e : ℕ) (w : BitVec 32) : Prop :=
  (16 ∣ (k0_mult1 w).toNat) ∧ (∀ a, (offW e w) a + S1x1x128x1024.size a ≤ S1x16x512x1024.size a)
instance chkW.dec (e : ℕ) : ∀ (w : BitVec 32), Decidable (chkW e w) := fun w => decidable_of_iff' _ (Iff.of_eq (chkW.eq_1 e w))

/-- A block's rows, and what the body assumes of the run over blocks. -/
def offB (e : ℕ) (lo hi : BitVec 32) (k : Fin (k0_t1_loop lo hi).trips) : Fin 4 → Nat :=
  ![0, e, (Scalar.indexCast (k0_mult17 lo hi k)).toNat, 0]
def offR (e : ℕ) (lo hi : BitVec 32) (k : Fin (k0_t2_loop lo hi).trips) : Fin 4 → Nat :=
  ![0, e, (Scalar.indexCast (k0_mult18 lo hi k)).toNat, 0]
def chkB (e : ℕ) (lo hi : BitVec 32) : Prop :=
  ((k0_t1_loop lo hi).OK) ∧
  (∀ k : Fin (k0_t1_loop lo hi).trips, 256 ∣ (k0_mult17 lo hi k).toNat) ∧
  (∀ k : Fin (k0_t1_loop lo hi).trips, ∀ a, (offB e lo hi k) a + S1x1x256x1024.size a ≤ S1x16x512x1024.size a) ∧
  ((k0_t2_loop lo hi).OK) ∧
  (∀ k : Fin (k0_t2_loop lo hi).trips, 256 ∣ (k0_mult18 lo hi k).toNat) ∧
  (∀ k : Fin (k0_t2_loop lo hi).trips, ∀ a, (offR e lo hi k) a + S1x1x256x1024.size a ≤ S1x16x512x1024.size a)
set_option synthInstance.maxSize 1000000 in
set_option synthInstance.maxHeartbeats 0 in
instance chkB.dec (e : ℕ) : ∀ (lo hi : BitVec 32), Decidable (chkB e lo hi) := fun lo hi => decidable_of_iff' _ (Iff.of_eq (chkB.eq_1 e lo hi))

theorem col_inb (e : Fin 16) : ∀ a, (![0, 0, e.val] : Fin 3 → Nat) a + S1x512x1.size a ≤ S1x512x16.size a := by
  intro a; fin_cases a
  · show 0 + 1 ≤ 1; omega
  · show 0 + 512 ≤ 512; omega
  · show e.val + 1 ≤ 16; omega

/-- Where the stack holds the two windows of pair `p`. -/
theorem top_inb (p : Fin 8) : ∀ a, (![p.val, 0, 0] : Fin 3 → Nat) a + S1x128x1024.size a ≤ S8x256x1024.size a := by
  intro a; fin_cases a
  · show p.val + 1 ≤ 8; omega
  · show 0 + 128 ≤ 256; omega
  · show 0 + 1024 ≤ 1024; omega
theorem bot_inb (p : Fin 8) : ∀ a, (![p.val, 128, 0] : Fin 3 → Nat) a + S1x128x1024.size a ≤ S8x256x1024.size a := by
  intro a; fin_cases a
  · show p.val + 1 ≤ 8; omega
  · show 128 + 128 ≤ 256; omega
  · show 0 + 1024 ≤ 1024; omega
theorem both_inb (p : Fin 8) : ∀ a, (![p.val, 0, 0] : Fin 3 → Nat) a + S1x256x1024.size a ≤ S8x256x1024.size a := by
  intro a; fin_cases a
  · show p.val + 1 ≤ 8; omega
  · show 0 + 256 ≤ 256; omega
  · show 0 + 1024 ≤ 1024; omega
theorem top_packed : ∀ p : Fin 8, (Rect.unit (s := S8x256x1024) ![p.val, 0, 0] S1x128x1024.size (top_inb p)).PackedRows (EltTy.packing .bf16)
  | 0 => packedbf16_S8x256x1024_S1x128x1024_0_0_0 | 1 => packedbf16_S8x256x1024_S1x128x1024_1_0_0
  | 2 => packedbf16_S8x256x1024_S1x128x1024_2_0_0 | 3 => packedbf16_S8x256x1024_S1x128x1024_3_0_0
  | 4 => packedbf16_S8x256x1024_S1x128x1024_4_0_0 | 5 => packedbf16_S8x256x1024_S1x128x1024_5_0_0
  | 6 => packedbf16_S8x256x1024_S1x128x1024_6_0_0 | 7 => packedbf16_S8x256x1024_S1x128x1024_7_0_0
theorem bot_packed : ∀ p : Fin 8, (Rect.unit (s := S8x256x1024) ![p.val, 128, 0] S1x128x1024.size (bot_inb p)).PackedRows (EltTy.packing .bf16)
  | 0 => packedbf16_S8x256x1024_S1x128x1024_0_128_0 | 1 => packedbf16_S8x256x1024_S1x128x1024_1_128_0
  | 2 => packedbf16_S8x256x1024_S1x128x1024_2_128_0 | 3 => packedbf16_S8x256x1024_S1x128x1024_3_128_0
  | 4 => packedbf16_S8x256x1024_S1x128x1024_4_128_0 | 5 => packedbf16_S8x256x1024_S1x128x1024_5_128_0
  | 6 => packedbf16_S8x256x1024_S1x128x1024_6_128_0 | 7 => packedbf16_S8x256x1024_S1x128x1024_7_128_0

/-! ## The values -/

/-- The sum so far plus a pair's product: the two one-hot matrices beside each other times the two windows stacked. -/
def pairSum (acc : FVec F S512x1024 .f32) (a b : FVec F S512x128 .bf16) (u : Vec F S1x256x1024 .bf16) : FVec F S512x1024 .f32 :=
  addf acc (matmul dot_S512x256_S256x1024_S512x1024_1_0_0_1_n_n none
    (concatenate S512x256 1 [⟨S512x128, a⟩, ⟨S512x128, b⟩] concatenates_S512x128_S512x128_S512x256_d1)
    (shapeCast S256x1024 u shapeCasts_S1x256x1024_S256x1024) (constant S512x1024 .f32 0x00000000#32))

/-- The first row past the window. -/
def cover (lo : BitVec 32) : BitVec 32 := Scalar.addi (Scalar.minsi (Scalar.andi lo 4294967280#32) 384#32) 128#32

/-- A block's step on the sum. -/
def blockSum (lo hi : BitVec 32) (k : Fin (k0_t1_loop lo hi).trips) (s : Vec F S1x512x1 .i32) (x : Vec F S512x1024 .f32) (y : Vec F S1x1x256x1024 .bf16) : FVec F S512x1024 .f32 :=
  k0_pay38 (iota .tc S512x256 32 [1] iota_S512x256_d1_w32) lo hi (cover lo) (Scalar.shrui (cover lo) 8#32) k s x y

def restSum (lo hi : BitVec 32) (k : Fin (k0_t2_loop lo hi).trips) (s : Vec F S1x512x1 .i32) (x : Vec F S512x1024 .f32) (y : Vec F S1x1x256x1024 .bf16) : FVec F S512x1024 .f32 :=
  k0_pay39 (iota .tc S512x256 32 [1] iota_S512x256_d1_w32) lo hi (cover lo) (Scalar.shrui (cover lo) 8#32)
    (Scalar.subi (Scalar.select (Scalar.cmpi .sgt hi (cover lo)) (Scalar.shrui (Scalar.addi hi 255#32) 8#32) (Scalar.shrui (cover lo) 8#32)) (Scalar.shrui (cover lo) 8#32)) k s x y

/-! ## The programs -/

section Body
variable (i : grid0.Coords) (arg2 : Memref sig .tc .smem S8448 .i32) (arg3 : Memref sig .tc .vmem S1x512x1024 .f32) (arg4 : Memref sig .tc .vmem S1x16x512x1024 .bf16)
  (arg5 : Memref sig .tc .vmem S1x512x16 .i32) (arg6 : Memref sig .tc .vmem S1x1x1024 .f32) (arg7 : Memref sig .tc .vmem S1x1024 .f32) (arg8 : Memref sig .tc .vmem S1x512x1024 .f32)
  (arg9 : Memref sig .tc .vmem S512x1024 .f32) (arg10 : Memref sig .tc .vmem S8x256x1024 .bf16) (harg10 : arg10.IsWhole)

/-- Expert `e`'s window into the stack at `o`, and its one-hot matrix. -/
def fetch (e : Fin 16) (o : Fin 3 → Nat) (ho : ∀ a, o a + S1x128x1024.size a ≤ S8x256x1024.size a) (hp : (Rect.unit (s := S8x256x1024) o S1x128x1024.size ho).PackedRows (EltTy.packing .bf16)) :
    Tc F (FVec F S512x128 .bf16) := do
  let w : Elt F .i32 ← smemLoad arg2 (Rect.unit (s := S8448) (offLo e.val i) S1.size (offLo_inb e i)) numel1_S1 rfl
  have hw : chkW e.val w := (← Prog.lift (TpuEff.assume (chkW e.val w) (chkW.dec e.val w))).down
  let y : Vec F S1x1x128x1024 .bf16 ← Prog.lift (.load arg4 (Rect.unit (s := S1x16x512x1024) (offW e.val w) S1x1x128x1024.size hw.2).toLoadRect (View.loadsAt_vmem h_S1x1x128x1024))
  let _ : Vec F S1x128x1024 .bf16 ← Prog.lift (.load arg10 (Rect.unit (s := S8x256x1024) o S1x128x1024.size ho).toLoadRect (View.loadsAt_vmem h_S1x128x1024))
  Prog.lift (.store arg10 (Rect.unit (s := S8x256x1024) o S1x128x1024.size ho) (k0_pay3 y) Finset.univ (View.stores_vmem h_S1x128x1024 (harg10.storeExact_slice rfl _ hp) (fun _ => rfl)) (.inl rfl))
  let s : Vec F S1x512x1 .i32 ← Prog.lift (.load arg5 (Rect.unit (s := S1x512x16) ![0, 0, e.val] S1x512x1.size (col_inb e)).toLoadRect (View.loadsAt_vmem h_S1x512x1))
  pure (k0_pay4 w s)

def left (p : Fin 8) : Fin 16 := ⟨2 * p.val, by omega⟩
def right (p : Fin 8) : Fin 16 := ⟨2 * p.val + 1, by omega⟩

/-- A pair's windows and their product. -/
def pair (p : Fin 8) (acc : FVec F S512x1024 .f32) : Tc F (FVec F S512x1024 .f32) := do
  let a ← fetch i arg2 arg4 arg5 arg10 harg10 (F := F) (left p) ![p.val, 0, 0] (top_inb p) (top_packed p)
  let b ← fetch i arg2 arg4 arg5 arg10 harg10 (F := F) (right p) ![p.val, 128, 0] (bot_inb p) (bot_packed p)
  let u : Vec F S1x256x1024 .bf16 ← Prog.lift (.load arg10 (Rect.unit (s := S8x256x1024) ![p.val, 0, 0] S1x256x1024.size (both_inb p)).toLoadRect (View.loadsAt_vmem h_S1x256x1024))
  pure (pairSum acc a b u)

/-- The pairs from `p` on, then `rest`. -/
def pairs (rest : FVec F S512x1024 .f32 → Tc F PUnit) : (n p : Nat) → p + n = 8 → FVec F S512x1024 .f32 → Tc F PUnit
  | 0, _, _, acc => rest acc
  | n + 1, p, h, acc => pair i arg2 arg4 arg5 arg10 harg10 (F := F) ⟨p, by omega⟩ acc >>= fun acc' => pairs rest n (p + 1) (by omega) acc'

/-- The windows' sum into the scratch. -/
def keep (acc : FVec F S512x1024 .f32) : Tc F PUnit := do
  let _ : Vec F S512x1024 .f32 ← Prog.lift (.load arg9 (Rect.unit (s := S512x1024) ![0, 0] S512x1024.size inb_S512x1024_S512x1024_0_0).toLoadRect (View.loadsAt_vmem h_S512x1024))
  Prog.lift (.store arg9 (Rect.unit (s := S512x1024) ![0, 0] S512x1024.size inb_S512x1024_S512x1024_0_0) (shapeCast S512x1024 acc shapeCasts_S512x1024_S512x1024) Finset.univ (View.stores_vmem_bits_univ h_S512x1024 rfl) (.inl rfl))

/-- One block. -/
def add (e : Fin 16) (o : Fin 4 → Nat) (ho : ∀ a, o a + S1x1x256x1024.size a ≤ S1x16x512x1024.size a)
    (f : Vec F S1x512x1 .i32 → Vec F S512x1024 .f32 → Vec F S1x1x256x1024 .bf16 → FVec F S512x1024 .f32) : Tc F Unit := do
  let s : Vec F S1x512x1 .i32 ← Prog.lift (.load arg5 (Rect.unit (s := S1x512x16) ![0, 0, e.val] S1x512x1.size (col_inb e)).toLoadRect (View.loadsAt_vmem h_S1x512x1))
  let x : Vec F S512x1024 .f32 ← Prog.lift (.load arg9 (Rect.unit (s := S512x1024) ![0, 0] S512x1024.size inb_S512x1024_S512x1024_0_0).toLoadRect (View.loadsAt_vmem h_S512x1024))
  let y : Vec F S1x1x256x1024 .bf16 ← Prog.lift (.load arg4 (Rect.unit (s := S1x16x512x1024) o S1x1x256x1024.size ho).toLoadRect (View.loadsAt_vmem h_S1x1x256x1024))
  let _ : Vec F S512x1024 .f32 ← Prog.lift (.load arg9 (Rect.unit (s := S512x1024) ![0, 0] S512x1024.size inb_S512x1024_S512x1024_0_0).toLoadRect (View.loadsAt_vmem h_S512x1024))
  Prog.lift (.store arg9 (Rect.unit (s := S512x1024) ![0, 0] S512x1024.size inb_S512x1024_S512x1024_0_0) (f s x y) Finset.univ (View.stores_vmem_bits_univ h_S512x1024 rfl) (.inl rfl))

def block (e : Fin 16) (lo hi : Elt F .i32) (hw : chkB e.val lo hi) : Fin (k0_t1_loop lo hi).trips → Unit → Tc F Unit :=
  fun k _ => add arg4 arg5 arg9 e (offB e.val lo hi k) (hw.2.2.1 k) (blockSum lo hi k)

/-- The two loops over expert `e`'s blocks past its window, then `rest`. -/
def runs (e : Fin 16) (lo hi : Elt F .i32) (hw : chkB e.val lo hi) (rest : Tc F PUnit) : Tc F PUnit :=
  Scf.Loop.for (k0_t1_loop lo hi) hw.1 ⟨⟩ (block arg4 arg5 arg9 (F := F) e lo hi hw) >>= fun _ =>
  Scf.Loop.for (k0_t2_loop lo hi) hw.2.2.2.1 ⟨⟩ (fun (k : Fin (k0_t2_loop lo hi).trips) (_ : Unit) =>
    add arg4 arg5 arg9 (F := F) e (offR e.val lo hi k) (hw.2.2.2.2.2 k) (restSum lo hi k)) >>= fun _ => rest

/-- Expert `e`'s blocks past its window, then `rest`. -/
def later (e : Fin 16) (rest : Tc F PUnit) : Tc F PUnit := do
  let lo : Elt F .i32 ← smemLoad arg2 (Rect.unit (s := S8448) (offLo e.val i) S1.size (offLo_inb e i)) numel1_S1 rfl
  let hi : Elt F .i32 ← smemLoad arg2 (Rect.unit (s := S8448) (offHi e.val i) S1.size (offHi_inb e i)) numel1_S1 rfl
  have hw : chkB e.val lo hi := (← Prog.lift (TpuEff.assume (chkB e.val lo hi) (chkB.dec e.val lo hi))).down
  runs arg4 arg5 arg9 (F := F) e lo hi hw rest

def laters (rest : Tc F PUnit) : (n e : Nat) → e + n = 16 → Tc F PUnit
  | 0, _, _ => rest
  | n + 1, e, h => later i arg2 arg4 arg5 arg9 (F := F) ⟨e, by omega⟩ (laters rest n (e + 1) (by omega))

/-- The residual and the final norm, stored. -/
def output : Tc F PUnit := do
  let h : Vec F S1x512x1024 .f32 ← Prog.lift (.load arg3 (Rect.unit (s := S1x512x1024) ![0, 0, 0] S1x512x1024.size inb_S1x512x1024_S1x512x1024_0_0_0).toLoadRect (View.loadsAt_vmem h_S1x512x1024))
  let g : Vec F S1x1x1024 .f32 ← Prog.lift (.load arg6 (Rect.unit (s := S1x1x1024) ![0, 0, 0] S1x1x1024.size inb_S1x1x1024_S1x1x1024_0_0_0).toLoadRect (View.loadsAt_vmem h_S1x1x1024))
  let x : Vec F S512x1024 .f32 ← Prog.lift (.load arg9 (Rect.unit (s := S512x1024) ![0, 0] S512x1024.size inb_S512x1024_S512x1024_0_0).toLoadRect (View.loadsAt_vmem h_S512x1024))
  let n : Vec F S1x1024 .f32 ← Prog.lift (.load arg7 (Rect.unit (s := S1x1024) ![0, 0] S1x1024.size inb_S1x1024_S1x1024_0_0).toLoadRect (View.loadsAt_vmem h_S1x1024))
  let _ : Vec F S1x512x1024 .f32 ← Prog.lift (.load arg8 (Rect.unit (s := S1x512x1024) ![0, 0, 0] S1x512x1024.size inb_S1x512x1024_S1x512x1024_0_0_0).toLoadRect (View.loadsAt_vmem h_S1x512x1024))
  Prog.lift (.store arg8 (Rect.unit (s := S1x512x1024) ![0, 0, 0] S1x512x1024.size inb_S1x512x1024_S1x512x1024_0_0_0) (k0_pay1 (k0_pay70 h g x) (k0_pay71 h g x) n) Finset.univ (View.stores_vmem_bits_univ h_S1x512x1024 rfl) (.inl rfl))

/-- The whole body. -/
def body : Tc F PUnit :=
  pairs i arg2 arg4 arg5 arg10 harg10 (fun acc => keep arg9 acc >>= fun _ =>
    laters i arg2 arg4 arg5 arg9 (output arg3 arg6 arg7 arg8 arg9) 16 0 rfl) 8 0 rfl (k0_pay2 (F := F))

end Body

end Cert.Kernel5Ideal.Scatter

end
-- ==== Proof.ScatterEq.lean ====
/-
The printed body of the scatter kernel is the program of its windows and runs: its parts are nested, and flat once the
binds are reassociated.
-/
module

public import proofs.«01_k».proof.Proof.ScatterProg

@[expose] public section

set_option maxRecDepth 65536
set_option maxHeartbeats 40000000

noncomputable section

namespace Cert.Kernel5Ideal.Scatter

open Idealize.ShloMosaic Idealize.ShloMosaic.TcCoe Idealize.ShloMosaic.Tactic
open Idealize.SL Idealize.SL.Sem
open Cert.Kernel5Ideal.Gen

variable {F : FTy → Type} [FloatOps F]

/-- The printed body is that. -/
theorem scatter_eq (i : grid0.Coords) (arg2 : Memref sig .tc .smem S8448 .i32) (harg2 : arg2.IsWhole) (arg3 : Memref sig .tc .vmem S1x512x1024 .f32) (harg3 : arg3.IsWhole)
    (arg4 : Memref sig .tc .vmem S1x16x512x1024 .bf16) (harg4 : arg4.IsWhole) (arg5 : Memref sig .tc .vmem S1x512x16 .i32) (harg5 : arg5.IsWhole)
    (arg6 : Memref sig .tc .vmem S1x1x1024 .f32) (harg6 : arg6.IsWhole) (arg7 : Memref sig .tc .vmem S1x1024 .f32) (harg7 : arg7.IsWhole)
    (arg8 : Memref sig .tc .vmem S1x512x1024 .f32) (harg8 : arg8.IsWhole)
    (arg9 : Memref sig .tc .vmem S512x1024 .f32) (harg9 : arg9.IsWhole) (arg10 : Memref sig .tc .vmem S8x256x1024 .bf16) (harg10 : arg10.IsWhole) :
    cc0_moe_scatter (F := F) i arg2 harg2 arg3 harg3 arg4 harg4 arg5 harg5 arg6 harg6 arg7 harg7 arg8 harg8 arg9 harg9 arg10 harg10
      = body i arg2 arg3 arg4 arg5 arg6 arg7 arg8 arg9 arg10 harg10 := by
  rw [cc0_moe_scatter_eq_skeleton]
  unfold cc0_moe_scatter_skel
  rw [k0_part26_eq_skeleton]
  unfold k0_part26_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  conv_lhs => simp (config := { maxSteps := 10000000 }) only [smemLoad, smemLoadElt, Prog.pure_eq_ret, Prog.bind_lift, Prog.bind_op, Prog.bind_ret, Prog.bind_assoc]
  sl_kernel_rfl

end Cert.Kernel5Ideal.Scatter

end
-- ==== Proof.ScatterRun.lean ====
/-
What the scatter's body leaves: the windows' products as a running sum over pairs, the later blocks as folds of steps on
that sum, and the block of results written from what the folds leave.
-/
module

public import proofs.«01_k».proof.Proof.ScatterProg

@[expose] public section

set_option maxRecDepth 16384

noncomputable section

namespace Cert.Kernel5Ideal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen
open Idealize.ShloMosaic.VecWindow (window put)

variable {F : FTy → Type} [FloatOps F]

local notation "𝕄" => MT nD τ sig Unit (Elt F) ℕ (UR sig nD τ) ℕ

/-! ## The table and the folds -/

/-- The table the body reads its slot ranges from, held at half the full share. -/
abbrev tabM : Memref sig .tc .smem S8448 .i32 := Memref.whole main_arg4
abbrev Tab (c : Dev nD) (T : Buf (Elt F) (tabM.view.loc (c : Thread nD τ))) : sProp 𝕄 :=
  tabM.view.loc (c : Thread nD τ) ↦{fullShare.right} T

/-- Where expert `e`'s range begins, and where it ends. -/
def lo (T : Vec F S8448 .i32) (i : grid0.Coords) (e : Fin 16) : Elt F .i32 :=
  window T (offLo e.val i) S1.size (offLo_inb e i) (Shape.Idx.first (numel1_S1.symm ▸ Nat.one_pos))
def hi (T : Vec F S8448 .i32) (i : grid0.Coords) (e : Fin 16) : Elt F .i32 :=
  window T (offHi e.val i) S1.size (offHi_inb e i) (Shape.Idx.first (numel1_S1.symm ▸ Nat.one_pos))

/-- The side conditions of the run: each range fits the expert's results. -/
def Fits (T : Vec F S8448 .i32) (i : grid0.Coords) : Prop :=
  (∀ e : Fin 16, chkW e.val (lo T i e)) ∧ ∀ e : Fin 16, chkB e.val (lo T i e) (hi T i e)

/-- Two windows stacked. -/
def stacked (a b : Vec F S1x128x1024 .bf16) : Vec F S1x256x1024 .bf16 := fun y =>
  if h : (y 1).val < 128 then a (fun k => match k with | 0 => (⟨0, by decide⟩ : Fin 1) | 1 => (⟨(y 1).val, h⟩ : Fin 128) | 2 => (y 2 : Fin 1024))
  else b (fun k => match k with | 0 => (⟨0, by decide⟩ : Fin 1) | 1 => (⟨(y 1).val - 128, by have : (y 1).val < 256 := (y 1).isLt; omega⟩ : Fin 128) | 2 => (y 2 : Fin 1024))

/-- The stack read back after both windows of pair `p` are put there. -/
theorem window_stacked (Y : Vec F S8x256x1024 .bf16) (p : Fin 8) (a b : Vec F S1x128x1024 .bf16) :
    window (put (put Y ![p.val, 0, 0] S1x128x1024.size a) ![p.val, 128, 0] S1x128x1024.size b) ![p.val, 0, 0] S1x256x1024.size (both_inb p) = stacked a b := by
  funext y
  have e0 : (((Rect.unit (s := S8x256x1024) ![p.val, 0, 0] S1x256x1024.size (both_inb p)).emb y) 0).val = p.val + 1 * (y 0).val := rfl
  have e1 : (((Rect.unit (s := S8x256x1024) ![p.val, 0, 0] S1x256x1024.size (both_inb p)).emb y) 1).val = 0 + 1 * (y 1).val := rfl
  have e2 : (((Rect.unit (s := S8x256x1024) ![p.val, 0, 0] S1x256x1024.size (both_inb p)).emb y) 2).val = 0 + 1 * (y 2).val := rfl
  have b0 : (y 0).val < 1 := (y 0).isLt
  have b1 : (y 1).val < 256 := (y 1).isLt
  have b2 : (y 2).val < 1024 := (y 2).isLt
  unfold window stacked
  by_cases h : (y 1).val < 128
  · rw [dif_pos h]
    unfold put
    rw [dif_neg (fun hh => by have := (hh 1).1; rw [e1] at this; exact absurd (show 128 ≤ 0 + 1 * (y 1).val from this) (by omega)),
      dif_pos (fun k => by
        fin_cases k
        · exact ⟨by show p.val ≤ p.val + 1 * (y 0).val; omega, by show p.val + 1 * (y 0).val < p.val + 1; omega⟩
        · exact ⟨by show 0 ≤ 0 + 1 * (y 1).val; omega, by show 0 + 1 * (y 1).val < 0 + 128; omega⟩
        · exact ⟨by show 0 ≤ 0 + 1 * (y 2).val; omega, by show 0 + 1 * (y 2).val < 0 + 1024; omega⟩)]
    refine congrArg a (funext fun k => Fin.ext ?_)
    fin_cases k
    · show p.val + 1 * (y 0).val - p.val = 0; omega
    · show 0 + 1 * (y 1).val - 0 = (y 1).val; omega
    · show 0 + 1 * (y 2).val - 0 = (y 2).val; omega
  · rw [dif_neg h]
    unfold put
    rw [dif_pos (fun k => by
        fin_cases k
        · exact ⟨by show p.val ≤ p.val + 1 * (y 0).val; omega, by show p.val + 1 * (y 0).val < p.val + 1; omega⟩
        · exact ⟨by show 128 ≤ 0 + 1 * (y 1).val; omega, by show 0 + 1 * (y 1).val < 128 + 128; omega⟩
        · exact ⟨by show 0 ≤ 0 + 1 * (y 2).val; omega, by show 0 + 1 * (y 2).val < 0 + 1024; omega⟩)]
    refine congrArg b (funext fun k => Fin.ext ?_)
    fin_cases k
    · show p.val + 1 * (y 0).val - p.val = 0; omega
    · show 0 + 1 * (y 1).val - 128 = (y 1).val - 128; omega
    · show 0 + 1 * (y 2).val - 0 = (y 2).val; omega

section Folds
variable (T : Vec F S8448 .i32) (i : grid0.Coords) (H : Fits T i) (x0 : Vec F S1x16x512x1024 .bf16) (x1 : Vec F S1x512x16 .i32)

/-- Expert `e`'s slots, its window's one-hot matrix and its window. -/
def slots (e : Fin 16) : Vec F S1x512x1 .i32 := window x1 ![0, 0, e.val] S1x512x1.size (col_inb e)
def hot (e : Fin 16) : FVec F S512x128 .bf16 := k0_pay4 (lo T i e) (slots x1 e)
def win (e : Fin 16) : Vec F S1x128x1024 .bf16 := k0_pay3 (window x0 (offW e.val (lo T i e)) S1x1x128x1024.size (H.1 e).2)

/-- The sum after the first `n` pairs of windows. -/
def sums : ℕ → FVec F S512x1024 .f32
  | 0 => k0_pay2
  | n + 1 => if h : n < 8 then
      pairSum (sums n) (hot T i x1 (left ⟨n, h⟩)) (hot T i x1 (right ⟨n, h⟩)) (stacked (win T i H x0 (left ⟨n, h⟩)) (win T i H x0 (right ⟨n, h⟩)))
    else sums n

/-- After the first `n` later blocks of expert `e`, from `A`. -/
def blocks (e : Fin 16) (A : Vec F S512x1024 .f32) : ℕ → Vec F S512x1024 .f32
  | 0 => A
  | n + 1 => if h : n < (k0_t1_loop (lo T i e) (hi T i e)).trips then
      blockSum (lo T i e) (hi T i e) ⟨n, h⟩ (slots x1 e) (blocks e A n) (window x0 (offB e.val _ _ ⟨n, h⟩) S1x1x256x1024.size ((H.2 e).2.2.1 ⟨n, h⟩))
    else blocks e A n

/-- After all windows and the later blocks of the first `n` experts. -/
def total : ℕ → Vec F S512x1024 .f32
  | 0 => shapeCast S512x1024 (sums T i H x0 x1 8) shapeCasts_S512x1024_S512x1024
  | n + 1 => if h : n < 16 then blocks T i H x0 x1 ⟨n, h⟩ (total n) (k0_t1_loop (lo T i ⟨n, h⟩) (hi T i ⟨n, h⟩)).trips else total n

/-- The block of results. -/
def result (h : Vec F S1x512x1024 .f32) (g : Vec F S1x1x1024 .f32) (n : Vec F S1x1024 .f32) : Vec F S1x512x1024 .f32 :=
  k0_pay1 (k0_pay70 h g (total T i H x0 x1 16)) (k0_pay71 h g (total T i H x0 x1 16)) n

end Folds

/-- The loop over what is left past the last whole step has no trip: the step is one. -/
theorem rest_trips (lo hi : BitVec 32) : (k0_t2_loop lo hi).trips = 0 := by
  have h : (k0_t2_loop lo hi).lb = (k0_t2_loop lo hi).ub := by
    unfold k0_t2_loop
    simp only [Scalar.divsi, Scalar.muli, Scalar.addi, IntOp.muli, WordArith.divsi_one, BitVec.mul_one]
  show ((((k0_t2_loop lo hi).ub).toInt - ((k0_t2_loop lo hi).lb).toInt + (1#32 : BitVec 32).toInt - 1) / (1#32 : BitVec 32).toInt).toNat = 0
  rw [h]
  simp

section Run
variable (𝒱 : Variants) (c : Dev nD) (bd : Option 𝒱.V) (E : Set ℕ)
variable (i : grid0.Coords) (arg3 : Memref sig .tc .vmem S1x512x1024 .f32) (arg4 : Memref sig .tc .vmem S1x16x512x1024 .bf16)
  (arg5 : Memref sig .tc .vmem S1x512x16 .i32) (arg6 : Memref sig .tc .vmem S1x1x1024 .f32) (arg7 : Memref sig .tc .vmem S1x1024 .f32) (arg8 : Memref sig .tc .vmem S1x512x1024 .f32)
  (arg9 : Memref sig .tc .vmem S512x1024 .f32) (arg10 : Memref sig .tc .vmem S8x256x1024 .bf16) (harg10 : arg10.IsWhole)
  (x0 : Vec F S1x16x512x1024 .bf16) (x1 : Vec F S1x512x16 .i32)
  (T : Vec F S8448 .i32) (H : Fits T i)

/-- The buffers the windows and the blocks read. -/
def Read : sProp 𝕄 :=
  iprop(Tab c T ∗ owns (c : Thread nD τ) arg4 fullShare x0 ∗ owns (c : Thread nD τ) arg5 fullShare x1)

set_option maxHeartbeats 1600000 in
theorem fetch_run (e : Fin 16) (o : Fin 3 → Nat) (ho : ∀ a, o a + S1x128x1024.size a ≤ S8x256x1024.size a) (hp : (Rect.unit (s := S8x256x1024) o S1x128x1024.size ho).PackedRows (EltTy.packing .bf16))
    (Y : Vec F S8x256x1024 .bf16) :
    iprop(Read c arg4 arg5 x0 x1 T ∗ owns (c : Thread nD τ) arg10 fullShare Y)
      ⊢ wp frame (wpE (defs₀ (F := F)) 𝒱 (c : Thread nD τ) bd) E (fetch i tabM arg4 arg5 arg10 harg10 e o ho hp)
          (fun v => iprop(Read c arg4 arg5 x0 x1 T ∗ owns (c : Thread nD τ) arg10 fullShare (put Y o S1x128x1024.size (win T i H x0 e)) ∗ ⌜v = hot T i x1 e⌝)) := by
  unfold Read fetch owns
  iintro ⟨⟨HT, ⟨%f4, %hf4, H4⟩, ⟨%f5, %hf5, H5⟩⟩, ⟨%f10, %hf10, H10⟩⟩
  sl_exec (disch := sl_exact H.1 e)
  sl_step
  isplitl [HT H4 H5]
  · isplitl [HT]; · iexact HT
    isplitl [H4]
    · iexists _; isplitr; · ipureintro; exact hf4
      iexact H4
    · iexists _; isplitr; · ipureintro; exact hf5
      iexact H5
  isplitl [H10]
  · iexists _
    isplitr [H10]
    rotate_left
    · iexact H10
    ipureintro
    subst hf4 hf10
    exact View.read_writes_cons_put _ _ _ _ [] rfl
  ipureintro
  subst hf5
  rfl

theorem pair_run (n : ℕ) (h : n < 8) :
    iprop(Read c arg4 arg5 x0 x1 T ∗ (∃ Y, owns (c : Thread nD τ) arg10 fullShare Y))
      ⊢ wp frame (wpE (defs₀ (F := F)) 𝒱 (c : Thread nD τ) bd) E (pair i tabM arg4 arg5 arg10 harg10 ⟨n, h⟩ (sums T i H x0 x1 n))
          (fun v => iprop(Read c arg4 arg5 x0 x1 T ∗ (∃ Y, owns (c : Thread nD τ) arg10 fullShare Y) ∗ ⌜v = sums T i H x0 x1 (n + 1)⌝)) := by
  rw [show sums T i H x0 x1 (n + 1) = _ from dif_pos h]
  unfold pair
  iintro ⟨HR, ⟨%Y, HY⟩⟩
  rw [wp_bind]
  iapply (wp_wand_r Idealize.ShloMosaic.frame (wpE (defs₀ (F := F)) 𝒱 (c : Thread nD τ) bd) E)
  isplitl [HR HY]
  · iapply (fetch_run 𝒱 c bd E i arg4 arg5 arg10 harg10 x0 x1 T H)
    isplitl [HR]; · iexact HR
    iexact HY
  iintro %a ⟨HR, HY, %ha⟩
  rw [wp_bind]
  iapply (wp_wand_r Idealize.ShloMosaic.frame (wpE (defs₀ (F := F)) 𝒱 (c : Thread nD τ) bd) E)
  isplitl [HR HY]
  · iapply (fetch_run 𝒱 c bd E i arg4 arg5 arg10 harg10 x0 x1 T H)
    isplitl [HR]; · iexact HR
    iexact HY
  iintro %b ⟨HR, HY, %hb⟩
  unfold owns
  icases HY with ⟨%f10, %hf10, H10⟩
  sl_exec
  sl_step
  isplitl [HR]; · iexact HR
  isplitl [H10]
  · iexists _; iexists _; isplitr; · ipureintro; exact hf10
    iexact H10
  ipureintro
  subst ha hb
  refine congrArg _ ?_
  refine Eq.trans ?_ (window_stacked Y ⟨n, h⟩ _ _)
  rw [← hf10]
  rfl

theorem pairs_run (rest : FVec F S512x1024 .f32 → Tc F PUnit) (Q : PUnit → sProp 𝕄) : ∀ (n p : ℕ) (h : p + n = 8),
    iprop(Read c arg4 arg5 x0 x1 T ∗ (∃ Y, owns (c : Thread nD τ) arg10 fullShare Y)
        ∗ (iprop(Read c arg4 arg5 x0 x1 T ∗ (∃ Y, owns (c : Thread nD τ) arg10 fullShare Y)) -∗ wp frame (wpE (defs₀ (F := F)) 𝒱 (c : Thread nD τ) bd) E (rest (sums T i H x0 x1 8)) Q))
      ⊢ wp frame (wpE (defs₀ (F := F)) 𝒱 (c : Thread nD τ) bd) E (pairs i tabM arg4 arg5 arg10 harg10 rest n p h (sums T i H x0 x1 p)) Q
  | 0, p, h => by
    obtain rfl : p = 8 := by omega
    show _ ⊢ wp _ _ _ (rest _) Q
    iintro ⟨HR, HY, HK⟩
    iapply HK
    isplitl [HR]; · iexact HR
    iexact HY
  | n + 1, p, h => by
    show _ ⊢ wp _ _ _ (pair i tabM arg4 arg5 arg10 harg10 _ _ >>= fun acc' => pairs i tabM arg4 arg5 arg10 harg10 rest n (p + 1) (by omega) acc') Q
    rw [wp_bind]
    iintro ⟨HR, HY, HK⟩
    iapply (wp_wand_r Idealize.ShloMosaic.frame (wpE (defs₀ (F := F)) 𝒱 (c : Thread nD τ) bd) E)
    isplitl [HR HY]
    · iapply (pair_run 𝒱 c bd E i arg4 arg5 arg10 harg10 x0 x1 T H p _)
      isplitl [HR]; · iexact HR
      iexact HY
    iintro %v ⟨HR, HY, %hv⟩
    subst hv
    iapply (pairs_run rest Q n (p + 1) _)
    isplitl [HR]; · iexact HR
    isplitl [HY]; · iexact HY
    iexact HK

theorem keep_run (acc : FVec F S512x1024 .f32) :
    (iprop(∃ d, owns (c : Thread nD τ) arg9 fullShare d) : sProp 𝕄)
      ⊢ wp frame (wpE (defs₀ (F := F)) 𝒱 (c : Thread nD τ) bd) E (keep arg9 acc)
          (fun _ => owns (c : Thread nD τ) arg9 fullShare (shapeCast S512x1024 acc shapeCasts_S512x1024_S512x1024)) := by
  unfold keep owns
  iintro ⟨%d9, %f9, %hf9, H9⟩
  sl_exec
  sl_step
  iexists _
  isplitr [H9]
  rotate_left
  · iexact H9
  ipureintro
  exact View.read_writes_full _ _ _ _ []

theorem add_run (e : Fin 16) (o : Fin 4 → Nat) (ho : ∀ a, o a + S1x1x256x1024.size a ≤ S1x16x512x1024.size a)
    (f : Vec F S1x512x1 .i32 → Vec F S512x1024 .f32 → Vec F S1x1x256x1024 .bf16 → FVec F S512x1024 .f32) (A : Vec F S512x1024 .f32) :
    iprop(Read c arg4 arg5 x0 x1 T ∗ owns (c : Thread nD τ) arg9 fullShare A)
      ⊢ wp frame (wpE (defs₀ (F := F)) 𝒱 (c : Thread nD τ) bd) E (add arg4 arg5 arg9 e o ho f)
          (fun _ => iprop(Read c arg4 arg5 x0 x1 T ∗ owns (c : Thread nD τ) arg9 fullShare (f (slots x1 e) A (window x0 o S1x1x256x1024.size ho)))) := by
  unfold Read add owns
  iintro ⟨⟨HT, ⟨%f4, %hf4, H4⟩, ⟨%f5, %hf5, H5⟩⟩, ⟨%f9, %hf9, H9⟩⟩
  sl_exec
  sl_step
  isplitl [HT H4 H5]
  · isplitl [HT]; · iexact HT
    isplitl [H4]
    · iexists _; isplitr; · ipureintro; exact hf4
      iexact H4
    · iexists _; isplitr; · ipureintro; exact hf5
      iexact H5
  iexists _
  isplitr [H9]
  rotate_left
  · iexact H9
  ipureintro
  subst hf4 hf5 hf9
  refine (View.read_writes_full _ _ _ _ []).trans ?_
  exact congrFun (congrArg (f _) (View.readAt_full _ _ _)) _

theorem later_run (n : ℕ) (h : n < 16) (rest : Tc F PUnit) (Q : PUnit → sProp 𝕄) :
    iprop(Read c arg4 arg5 x0 x1 T ∗ owns (c : Thread nD τ) arg9 fullShare (total T i H x0 x1 n)
        ∗ (iprop(Read c arg4 arg5 x0 x1 T ∗ owns (c : Thread nD τ) arg9 fullShare (total T i H x0 x1 (n + 1))) -∗ wp frame (wpE (defs₀ (F := F)) 𝒱 (c : Thread nD τ) bd) E rest Q))
      ⊢ wp frame (wpE (defs₀ (F := F)) 𝒱 (c : Thread nD τ) bd) E (later i tabM arg4 arg5 arg9 ⟨n, h⟩ rest) Q := by
  rw [show total T i H x0 x1 (n + 1) = _ from dif_pos h]
  unfold later
  iintro ⟨HR, H9, HK⟩
  unfold Read
  icases HR with ⟨HT, H4, H5⟩
  sl_exec (disch := sl_exact H.2 ⟨n, h⟩)
  rw [wp_bind]
  iapply (wp_wand_r Idealize.ShloMosaic.frame (wpE (defs₀ (F := F)) 𝒱 (c : Thread nD τ) bd) E)
  isplitl [HT H4 H5 H9]
  · iapply (Scf.wp_for Idealize.ShloMosaic.frame (wpE (defs₀ (F := F)) 𝒱 (c : Thread nD τ) bd) E _ _ _ _ ()
      (block arg4 arg5 arg9 ⟨n, h⟩ (lo T i ⟨n, h⟩) (hi T i ⟨n, h⟩) (H.2 ⟨n, h⟩))
      (fun k _ => iprop(Read c arg4 arg5 x0 x1 T ∗ owns (c : Thread nD τ) arg9 fullShare (blocks T i H x0 x1 ⟨n, h⟩ (total T i H x0 x1 n) k)))
      (fun k _ => by
        rw [show blocks T i H x0 x1 ⟨n, h⟩ (total T i H x0 x1 n) (k.val + 1) = _ from dif_pos k.isLt]
        exact add_run 𝒱 c bd E arg4 arg5 arg9 x0 x1 T ⟨n, h⟩ _ _ _ _))
    isplitl [HT H4 H5 H9]
    · isplitl [HT H4 H5]
      · unfold Read
        isplitl [HT]; · iexact HT
        isplitl [H4]; · iexact H4
        iexact H5
      iexact H9
    iintro %_ HH
    iexact HH
  iintro %_ HH
  rw [wp_bind]
  iapply (wp_wand_r Idealize.ShloMosaic.frame (wpE (defs₀ (F := F)) 𝒱 (c : Thread nD τ) bd) E)
  isplitl [HH]
  · iapply (Scf.wp_for Idealize.ShloMosaic.frame (wpE (defs₀ (F := F)) 𝒱 (c : Thread nD τ) bd) E _ _ _ _ () _
      (fun _ _ => iprop(Read c arg4 arg5 x0 x1 T ∗ owns (c : Thread nD τ) arg9 fullShare (blocks T i H x0 x1 ⟨n, h⟩ (total T i H x0 x1 n) (k0_t1_loop (lo T i ⟨n, h⟩) (hi T i ⟨n, h⟩)).trips)))
      (fun k _ => absurd (lt_of_lt_of_eq k.isLt (rest_trips _ _)) (Nat.not_lt_zero _)))
    isplitl [HH]; · iexact HH
    iintro %_ HH
    iexact HH
  iintro %_ HH
  iapply HK
  iexact HH

theorem laters_run (rest : Tc F PUnit) (Q : PUnit → sProp 𝕄) : ∀ (n e : ℕ) (h : e + n = 16),
    iprop(Read c arg4 arg5 x0 x1 T ∗ owns (c : Thread nD τ) arg9 fullShare (total T i H x0 x1 e)
        ∗ (iprop(Read c arg4 arg5 x0 x1 T ∗ owns (c : Thread nD τ) arg9 fullShare (total T i H x0 x1 16)) -∗ wp frame (wpE (defs₀ (F := F)) 𝒱 (c : Thread nD τ) bd) E rest Q))
      ⊢ wp frame (wpE (defs₀ (F := F)) 𝒱 (c : Thread nD τ) bd) E (laters i tabM arg4 arg5 arg9 rest n e h) Q
  | 0, e, h => by
    obtain rfl : e = 16 := by omega
    show _ ⊢ wp _ _ _ rest Q
    iintro ⟨HR, H9, HK⟩
    iapply HK
    isplitl [HR]; · iexact HR
    iexact H9
  | n + 1, e, h => by
    show _ ⊢ wp _ _ _ (later i tabM arg4 arg5 arg9 _ (laters i tabM arg4 arg5 arg9 rest n (e + 1) (by omega))) Q
    iintro ⟨HR, H9, HK⟩
    iapply (later_run 𝒱 c bd E i arg4 arg5 arg9 x0 x1 T H e _ _ Q)
    isplitl [HR]; · iexact HR
    isplitl [H9]; · iexact H9
    iintro ⟨HR, H9⟩
    iapply (laters_run rest Q n (e + 1) _)
    isplitl [HR]; · iexact HR
    isplitl [H9]; · iexact H9
    iexact HK

theorem output_run (h : Vec F S1x512x1024 .f32) (g : Vec F S1x1x1024 .f32) (n : Vec F S1x1024 .f32) (A : Vec F S512x1024 .f32) :
    (iprop(owns (c : Thread nD τ) arg3 fullShare h ∗ owns (c : Thread nD τ) arg6 fullShare g ∗ owns (c : Thread nD τ) arg7 fullShare n ∗ owns (c : Thread nD τ) arg9 fullShare A ∗ (∃ d, owns (c : Thread nD τ) arg8 fullShare d)) : sProp 𝕄)
      ⊢ wp frame (wpE (defs₀ (F := F)) 𝒱 (c : Thread nD τ) bd) E (output arg3 arg6 arg7 arg8 arg9)
          (fun _ => iprop(owns (c : Thread nD τ) arg3 fullShare h ∗ owns (c : Thread nD τ) arg6 fullShare g ∗ owns (c : Thread nD τ) arg7 fullShare n ∗ owns (c : Thread nD τ) arg9 fullShare A
            ∗ owns (c : Thread nD τ) arg8 fullShare (k0_pay1 (k0_pay70 h g A) (k0_pay71 h g A) n))) := by
  unfold output owns
  iintro ⟨⟨%f3, %hf3, H3⟩, ⟨%f6, %hf6, H6⟩, ⟨%f7, %hf7, H7⟩, ⟨%f9, %hf9, H9⟩, ⟨%d8, %f8, %hf8, H8⟩⟩
  sl_exec
  sl_step
  isplitl [H3]
  · iexists _; isplitr; · ipureintro; exact hf3
    iexact H3
  isplitl [H6]
  · iexists _; isplitr; · ipureintro; exact hf6
    iexact H6
  isplitl [H7]
  · iexists _; isplitr; · ipureintro; exact hf7
    iexact H7
  isplitl [H9]
  · iexists _; isplitr; · ipureintro; exact hf9
    iexact H9
  iexists _
  isplitr [H8]
  rotate_left
  · iexact H8
  ipureintro
  have e3 := (View.readAt_full (Val := Elt F) arg3.view f3 (off := ![0, 0, 0]) inb_S1x512x1024_S1x512x1024_0_0_0).trans hf3
  have e6 := (View.readAt_full (Val := Elt F) arg6.view f6 (off := ![0, 0, 0]) inb_S1x1x1024_S1x1x1024_0_0_0).trans hf6
  have e7 := (View.readAt_full (Val := Elt F) arg7.view f7 (off := ![0, 0]) inb_S1x1024_S1x1024_0_0).trans hf7
  have e9 := (View.readAt_full (Val := Elt F) arg9.view f9 (off := ![0, 0]) inb_S512x1024_S512x1024_0_0).trans hf9
  refine (View.read_writes_full _ _ _ _ []).trans ?_
  rw [← e3, ← e6, ← e7, ← e9]

/-- The body's triple: the inputs as they were, the block of results in the output's staging buffer. -/
theorem body_run (h : Vec F S1x512x1024 .f32) (g : Vec F S1x1x1024 .f32) (n : Vec F S1x1024 .f32) (K : PUnit → sProp 𝕄) :
    iprop(owns (c : Thread nD τ) arg3 fullShare h ∗ owns (c : Thread nD τ) arg4 fullShare x0 ∗ owns (c : Thread nD τ) arg5 fullShare x1
        ∗ owns (c : Thread nD τ) arg6 fullShare g ∗ owns (c : Thread nD τ) arg7 fullShare n
        ∗ (∃ d, owns (c : Thread nD τ) arg8 fullShare d) ∗ (∃ d, owns (c : Thread nD τ) arg9 fullShare d) ∗ (∃ d, owns (c : Thread nD τ) arg10 fullShare d) ∗ Tab c T
        ∗ (iprop(owns (c : Thread nD τ) arg3 fullShare h ∗ owns (c : Thread nD τ) arg4 fullShare x0 ∗ owns (c : Thread nD τ) arg5 fullShare x1
        ∗ owns (c : Thread nD τ) arg6 fullShare g ∗ owns (c : Thread nD τ) arg7 fullShare n
        ∗ owns (c : Thread nD τ) arg8 fullShare (result T i H x0 x1 h g n) ∗ (∃ d, owns (c : Thread nD τ) arg9 fullShare d) ∗ (∃ d, owns (c : Thread nD τ) arg10 fullShare d) ∗ Tab c T) -∗ K ⟨⟩))
      ⊢ wp frame (wpE (defs₀ (F := F)) 𝒱 (c : Thread nD τ) bd) E (body i tabM arg3 arg4 arg5 arg6 arg7 arg8 arg9 arg10 harg10) K := by
  unfold body
  iintro ⟨H3, H4, H5, H6, H7, H8, H9, H10, HT, HK⟩
  iapply (pairs_run 𝒱 c bd E i arg4 arg5 arg10 harg10 x0 x1 T H _ _ 8 0 rfl)
  isplitl [HT H4 H5]
  · unfold Read
    isplitl [HT]; · iexact HT
    isplitl [H4]; · iexact H4
    iexact H5
  isplitl [H10]; · iexact H10
  iintro ⟨HR, H10⟩
  rw [wp_bind]
  iapply (wp_wand_r Idealize.ShloMosaic.frame (wpE (defs₀ (F := F)) 𝒱 (c : Thread nD τ) bd) E)
  isplitl [H9]
  · iapply (keep_run 𝒱 c bd E arg9 _)
    iexact H9
  iintro %_ H9
  iapply (laters_run 𝒱 c bd E i arg4 arg5 arg9 x0 x1 T H _ _ 16 0 rfl)
  isplitl [HR]; · iexact HR
  isplitl [H9]; · iexact H9
  iintro ⟨HR, H9⟩
  iapply (wp_wand_r Idealize.ShloMosaic.frame (wpE (defs₀ (F := F)) 𝒱 (c : Thread nD τ) bd) E)
  isplitl [H3 H6 H7 H8 H9]
  · iapply (output_run 𝒱 c bd E arg3 arg6 arg7 arg8 arg9 h g n _)
    isplitl [H3]; · iexact H3
    isplitl [H6]; · iexact H6
    isplitl [H7]; · iexact H7
    isplitl [H9]; · iexact H9
    iexact H8
  iintro %_ ⟨H3, H6, H7, H9, H8⟩
  unfold Read
  icases HR with ⟨HT, H4, H5⟩
  iapply HK
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  iexact HT

end Run

end Cert.Kernel5Ideal.Scatter

end
-- ==== Proof.ScatterFrame.lean ====
module

public import proofs.«01_k».proof.Proof.Gen.Kernel5Ideal.Frame.Runs
public import proofs.«01_k».proof.Proof.ScatterEq
public import proofs.«01_k».proof.Proof.ScatterRun
public import Idealize.ShloMosaic.Lib.Claim

@[expose] public section

set_option maxRecDepth 16384

noncomputable section

namespace Cert.Kernel5Ideal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen (V hmain V_pre Ok adm cfgM tbl iblk frame_of PhiT0_eq PhiA0_eq bodyAt0 bigSep_W0 scM0_0 scM0_1 launch0 ms0_0 ms0_1 ms0_2 ms0_3 ms0_4 ms0_5 before0_0_of before0_1_of before0_2_of before0_3_of before0_4_of)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed body's triple. -/
theorem scatter_run (𝒱 : Variants) (c : Dev nD) (bd : Option 𝒱.V) (E : Set ℕ) (i : grid0.Coords)
    (arg3 : Memref sig .tc .vmem S1x512x1024 .f32) (harg3 : arg3.IsWhole) (arg4 : Memref sig .tc .vmem S1x16x512x1024 .bf16) (harg4 : arg4.IsWhole)
    (arg5 : Memref sig .tc .vmem S1x512x16 .i32) (harg5 : arg5.IsWhole) (arg6 : Memref sig .tc .vmem S1x1x1024 .f32) (harg6 : arg6.IsWhole)
    (arg7 : Memref sig .tc .vmem S1x1024 .f32) (harg7 : arg7.IsWhole) (arg8 : Memref sig .tc .vmem S1x512x1024 .f32) (harg8 : arg8.IsWhole)
    (arg9 : Memref sig .tc .vmem S512x1024 .f32) (harg9 : arg9.IsWhole) (arg10 : Memref sig .tc .vmem S8x256x1024 .bf16) (harg10 : arg10.IsWhole)
    (x0 : Vec F S1x16x512x1024 .bf16) (x1 : Vec F S1x512x16 .i32) (T : Vec F S8448 .i32) (H : Fits T i)
    (h : Vec F S1x512x1024 .f32) (g : Vec F S1x1x1024 .f32) (n : Vec F S1x1024 .f32) (K : PUnit → sProp 𝕄) :
    iprop(owns (c : Thread nD τ) arg3 fullShare h ∗ owns (c : Thread nD τ) arg4 fullShare x0 ∗ owns (c : Thread nD τ) arg5 fullShare x1
        ∗ owns (c : Thread nD τ) arg6 fullShare g ∗ owns (c : Thread nD τ) arg7 fullShare n
        ∗ (∃ d, owns (c : Thread nD τ) arg8 fullShare d) ∗ (∃ d, owns (c : Thread nD τ) arg9 fullShare d) ∗ (∃ d, owns (c : Thread nD τ) arg10 fullShare d) ∗ Tab c T
        ∗ (iprop(owns (c : Thread nD τ) arg3 fullShare h ∗ owns (c : Thread nD τ) arg4 fullShare x0 ∗ owns (c : Thread nD τ) arg5 fullShare x1
        ∗ owns (c : Thread nD τ) arg6 fullShare g ∗ owns (c : Thread nD τ) arg7 fullShare n
        ∗ owns (c : Thread nD τ) arg8 fullShare (result T i H x0 x1 h g n) ∗ (∃ d, owns (c : Thread nD τ) arg9 fullShare d) ∗ (∃ d, owns (c : Thread nD τ) arg10 fullShare d) ∗ Tab c T) -∗ K ⟨⟩))
      ⊢ wp frame (wpE (defs₀ (F := F)) 𝒱 (c : Thread nD τ) bd) E
          (cc0_moe_scatter i tabM (Memref.isWhole_whole _) arg3 harg3 arg4 harg4 arg5 harg5 arg6 harg6 arg7 harg7 arg8 harg8 arg9 harg9 arg10 harg10) K := by
  rw [scatter_eq]
  exact body_run 𝒱 c bd E i arg3 arg4 arg5 arg6 arg7 arg8 arg9 arg10 harg10 x0 x1 T H h g n K

/-- The side conditions at every grid point: each expert's window and blocks fit its results. -/
def Hyps : Prop := ∀ i : grid0.Coords, Fits (tbl m 0) i

/-- What a grid point leaves in the output's staging buffer. -/
def outsAt0 (hO : Ok m) (hH : Hyps m) (c : Dev nD) (t : Fin (cfgM m hO).N) : Vec F S1x512x1024 .f32 :=
  result (tbl m 0) (grid0.coords t) (hH (grid0.coords t)) (iblk m hO c 1 t) (iblk m hO c 2 t) (iblk m hO c 0 t) (iblk m hO c 3 t) (iblk m hO c 4 t)

def dats (hO : Ok m) (hH : Hyps m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO hH c t)
  Φ _ := iprop(Pipeline.ΦA spec0 c ∗ Pipeline.ΦT pre0 (tbl m) c)
  q _ := fullShare
  owed _ := 0

theorem A_eq (hO : Ok m) (hH : Hyps m) (c : Dev nD) (w : Fin (cfgM m hO).W) : (dats m hO hH 0 c).A w = V m c (Pipeline.arrRef spec0 w) := by
  dsimp only [dats]

theorem after0_0 (hO : Ok m) (hH : Hyps m) (c : Dev nD) (t : Fin (cfgM m hO).N) : (dats m hO hH 0 c).after 0 t = iblk m hO c 0 t := by dsimp only [dats]; try rfl
theorem after0_1 (hO : Ok m) (hH : Hyps m) (c : Dev nD) (t : Fin (cfgM m hO).N) : (dats m hO hH 0 c).after 1 t = iblk m hO c 1 t := by dsimp only [dats]; try rfl
theorem after0_2 (hO : Ok m) (hH : Hyps m) (c : Dev nD) (t : Fin (cfgM m hO).N) : (dats m hO hH 0 c).after 2 t = iblk m hO c 2 t := by dsimp only [dats]; try rfl
theorem after0_3 (hO : Ok m) (hH : Hyps m) (c : Dev nD) (t : Fin (cfgM m hO).N) : (dats m hO hH 0 c).after 3 t = iblk m hO c 3 t := by dsimp only [dats]; try rfl
theorem after0_4 (hO : Ok m) (hH : Hyps m) (c : Dev nD) (t : Fin (cfgM m hO).N) : (dats m hO hH 0 c).after 4 t = iblk m hO c 4 t := by dsimp only [dats]; try rfl
theorem after0_5 (hO : Ok m) (hH : Hyps m) (c : Dev nD) (t : Fin (cfgM m hO).N) : (dats m hO hH 0 c).after 5 t = (outsAt0 m hO hH c t) := by dsimp only [dats]; try rfl

theorem before0_0 (hO : Ok m) (hH : Hyps m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m) (c : Dev nD) (t : Fin (cfgM m hO).N) (d) : (dats m hO hH 0 c).before 4 t d = iblk m hO c 4 t :=
  before0_4_of m hO (dats m hO hH 0 c) (A_eq m hO hH c 4) (after0_4 m hO hH c) t d

def bodyPre (hO : Ok m) (hH : Hyps m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d)))

def bodyPost (hO : Ok m) (hH : Hyps m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t))

set_option maxHeartbeats 3200000 in
set_option maxRecDepth 131072 in
theorem sound_body (hO : Ok m) (hH : Hyps m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5]
  rw [show (dats m hO hH 0 c).Φ t.castSucc = iprop(Pipeline.ΦA spec0 c ∗ Pipeline.ΦT pre0 (tbl m) c) from rfl, PhiT0_eq, PhiA0_eq]
  unfold outsAt0
  iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
  iapply (scatter_run Variants.none c none Set.univ (grid0.coords t) _ _ _ _ _ _ _ _ _ _ _ _ _ _ _ _ (iblk m hO c 1 t) (iblk m hO c 2 t) (tbl m 0) (hH (grid0.coords t)) (iblk m hO c 0 t) (iblk m hO c 3 t) (iblk m hO c 4 t))
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  iintro ⟨H0, H1, H2, H3, H4, H5, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (hH : Hyps m) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

set_option backward.isDefEq.respectTransparency.types false in
theorem run_main_quiescent (hO : Ok m) (hH : Hyps m) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

theorem run_main (hO : Ok m) (hH : Hyps m) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO hH) (A_eq m hO hH) (run_main m ρ hO hH)

theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hH) ((θ_run defs _ _).mono (fun _ h => h.2) (run_main_quiescent m ρ hO hH))

end Cert.Kernel5Ideal.Scatter

end
-- ==== Proof.ScatterWords.lean ====
/-
The words the scatter's body computes its offsets and its loop bounds from, as natural numbers: for an expert whose
slots of the block begin at `a` and end before `b`, the window's first row, the blocks the loop runs over, and the rows
each covers.
-/
module

public import proofs.«01_k».proof.Proof.ScatterRun

@[expose] public section

set_option maxRecDepth 16384

noncomputable section

namespace Cert.Kernel5Ideal.Scatter

open Idealize.ShloMosaic Cert.Kernel5Ideal.Gen
open Idealize.ShloMosaic.VecWindow (window put)

/-- The first row of the window of an expert whose slots begin at `a`. -/
@[irreducible] def base (a : ℕ) : ℕ := min (a / 16 * 16) 384
/-- The first row block past that window, and the end of the blocks up to slot `b`. -/
def first (a : ℕ) : ℕ := (base a + 128) / 256
def stop (a b : ℕ) : ℕ := if base a + 128 < b then (b + 255) / 256 else first a

theorem base_le (a : ℕ) : base a ≤ a ∧ base a ≤ 384 ∧ 16 ∣ base a := by
  unfold base
  refine ⟨by omega, by omega, ?_⟩
  rcases Nat.le_total (a / 16 * 16) 384 with h | h
  · rw [min_eq_left h]; exact ⟨_, mul_comm _ _⟩
  · rw [min_eq_right h]; exact ⟨24, rfl⟩

theorem stop_le {a b : ℕ} (hb : b ≤ 512) : first a ≤ stop a b ∧ stop a b ≤ 2 := by
  have := base_le a
  unfold stop first
  split <;> omega

theorem base_word {a : ℕ} (h : a ≤ 512) :
    Scalar.minsi (Scalar.andi (BitVec.ofNat 32 a) 4294967280#32) 384#32 = BitVec.ofNat 32 (base a) := by
  have key : ∀ a : Fin 513, Scalar.minsi (Scalar.andi (BitVec.ofNat 32 a.val) 4294967280#32) 384#32 = BitVec.ofNat 32 (min (a.val / 16 * 16) 384) := by decide
  unfold base
  exact key ⟨a, by omega⟩

theorem block_word {n : ℕ} (h : n ≤ 1024) : Scalar.shrui (BitVec.ofNat 32 n) 8#32 = BitVec.ofNat 32 (n / 256) := by
  have key : ∀ n : Fin 1025, Scalar.shrui (BitVec.ofNat 32 n.val) 8#32 = BitVec.ofNat 32 (n.val / 256) := by decide
  exact key ⟨n, by omega⟩

theorem add_word (n k : ℕ) : Scalar.addi (BitVec.ofNat 32 n) (BitVec.ofNat 32 k) = BitVec.ofNat 32 (n + k) :=
  (BitVec.ofNat_add n k).symm

theorem toInt_word {n : ℕ} (h : n ≤ 4096) : (BitVec.ofNat 32 n).toInt = n :=
  WordArith.toInt_ofNat_small n (by omega)

theorem cover_eq {a : ℕ} (ha : a ≤ 512) : cover (BitVec.ofNat 32 a) = BitVec.ofNat 32 (base a + 128) := by
  unfold cover
  rw [base_word ha]; exact add_word _ 128

/-- The loop over the later blocks. -/
theorem loop_word {a b : ℕ} (ha : a ≤ 512) (hb : b ≤ 512) :
    k0_t1_loop (BitVec.ofNat 32 a) (BitVec.ofNat 32 b) = ⟨BitVec.ofNat 32 (first a), BitVec.ofNat 32 (stop a b), 1#32⟩ := by
  have h1 := base_le a
  have hc : Scalar.addi (Scalar.minsi (Scalar.andi (BitVec.ofNat 32 a) 4294967280#32) 384#32) 128#32 = BitVec.ofNat 32 (base a + 128) := cover_eq ha
  have hf : Scalar.shrui (BitVec.ofNat 32 (base a + 128)) 8#32 = BitVec.ofNat 32 (first a) := block_word (by omega)
  have hs : Scalar.shrui (Scalar.addi (BitVec.ofNat 32 b) 255#32) 8#32 = BitVec.ofNat 32 ((b + 255) / 256) := by
    rw [show Scalar.addi (BitVec.ofNat 32 b) 255#32 = BitVec.ofNat 32 (b + 255) from add_word b 255]
    exact block_word (by omega)
  have hg : Scalar.select (Scalar.cmpi .sgt (BitVec.ofNat 32 b) (BitVec.ofNat 32 (base a + 128))) (BitVec.ofNat 32 ((b + 255) / 256)) (BitVec.ofNat 32 (first a))
      = BitVec.ofNat 32 (stop a b) := by
    show (if BitVec.ofBool ((BitVec.ofNat 32 (base a + 128)).slt (BitVec.ofNat 32 b)) = 1 then _ else _) = _
    rw [BitVec.slt, toInt_word (by omega), toInt_word (by omega)]
    unfold stop
    by_cases h : base a + 128 < b
    · have h' : ((base a + 128 : ℕ) : ℤ) < (b : ℤ) := by omega
      simp only [h', h, decide_true, if_true]; rfl
    · have : ¬ ((base a + 128 : ℕ) : ℤ) < (b : ℤ) := by omega
      simp only [this, h, decide_false, if_false]; rfl
  unfold k0_t1_loop
  simp only [hc, hf, hs, hg]
  refine congrArg (fun u => (⟨BitVec.ofNat 32 (first a), u, 1#32⟩ : Scf.Loop 32)) ?_
  simp only [Scalar.divsi, Scalar.muli, Scalar.addi, Scalar.subi, IntOp.muli, IntOp.addi, IntOp.subi, WordArith.divsi_one, BitVec.mul_one]
  bv_omega

theorem loop_trips {a b : ℕ} (ha : a ≤ 512) (hb : b ≤ 512) :
    (k0_t1_loop (BitVec.ofNat 32 a) (BitVec.ofNat 32 b)).trips = stop a b - first a := by
  rw [loop_word ha hb]
  have h := stop_le (a := a) hb
  show (((BitVec.ofNat 32 (stop a b)).toInt - (BitVec.ofNat 32 (first a)).toInt + (1#32 : BitVec 32).toInt - 1) / (1#32 : BitVec 32).toInt).toNat = _
  rw [toInt_word (by omega), toInt_word (by omega), show (1#32 : BitVec 32).toInt = 1 from rfl]
  omega

/-- Block `k` of the loop begins at row `256 · (first a + k)`. -/
theorem block_rows {a : ℕ} (ha : a ≤ 512) (k : ℕ) (hk : first a + k ≤ 2) :
    Scalar.muli (Scf.iv (Scalar.shrui (Scalar.addi (Scalar.minsi (Scalar.andi (BitVec.ofNat 32 a) 4294967280#32) 384#32) 128#32) 8#32) 1#32 k) 256#32
      = BitVec.ofNat 32 ((first a + k) * 256) := by
  have h1 := base_le a
  rw [base_word ha, show Scalar.addi (BitVec.ofNat 32 (base a)) 128#32 = BitVec.ofNat 32 (base a + 128) from add_word _ 128, block_word (by omega)]
  show (BitVec.ofNat 32 (first a) + BitVec.ofNat 32 k * 1#32) * 256#32 = _
  rw [BitVec.mul_one, ← BitVec.ofNat_add]
  exact (BitVec.ofNat_mul _ 256).symm

theorem offW_eq {a : ℕ} (e : ℕ) (ha : a ≤ 512) : offW e (BitVec.ofNat 32 a) = ![0, e, base a, 0] := by
  have h1 := base_le a
  show ![0, e, (Scalar.indexCast (Scalar.minsi (Scalar.andi (BitVec.ofNat 32 a) 4294967280#32) 384#32)).toNat, 0] = _
  rw [base_word ha]
  show ![0, e, (BitVec.ofNat 32 (base a)).toNat, 0] = _
  rw [WordArith.toNat_ofNat_of_lt _ (by omega)]

theorem offB_eq {a b : ℕ} (e : ℕ) (ha : a ≤ 512) (hb : b ≤ 512) (k : Fin (k0_t1_loop (BitVec.ofNat 32 a) (BitVec.ofNat 32 b)).trips) :
    offB e (BitVec.ofNat 32 a) (BitVec.ofNat 32 b) k = ![0, e, (first a + k.val) * 256, 0] := by
  have hk := lt_of_lt_of_eq k.isLt (loop_trips ha hb)
  have h := stop_le (a := a) hb
  unfold offB
  show ![0, e, (Scalar.indexCast (Scalar.muli _ 256#32)).toNat, 0] = _
  rw [block_rows ha k.val (by omega)]
  show ![0, e, (BitVec.ofNat 32 ((first a + k.val) * 256)).toNat, 0] = _
  rw [WordArith.toNat_ofNat_of_lt _ (by omega)]

theorem chkW_of {a : ℕ} (e : Fin 16) (ha : a ≤ 512) : chkW e.val (BitVec.ofNat 32 a) := by
  have h1 := base_le a
  refine ⟨?_, ?_⟩
  · show 16 ∣ (Scalar.minsi (Scalar.andi (BitVec.ofNat 32 a) 4294967280#32) 384#32).toNat
    rw [base_word ha, WordArith.toNat_ofNat_of_lt _ (by omega)]
    exact h1.2.2
  · rw [offW_eq _ ha]
    intro x; fin_cases x
    · show 0 + 1 ≤ 1; omega
    · show e.val + 1 ≤ 16; omega
    · show base a + 128 ≤ 512; omega
    · show 0 + 1024 ≤ 1024; omega

theorem chkB_of {a b : ℕ} (e : Fin 16) (ha : a ≤ 512) (hb : b ≤ 512) : chkB e.val (BitVec.ofNat 32 a) (BitVec.ofNat 32 b) := by
  have hs := stop_le (a := a) hb
  have ht := loop_trips ha hb
  have none : ∀ k : Fin (k0_t2_loop (BitVec.ofNat 32 a) (BitVec.ofNat 32 b)).trips, False :=
    fun k => absurd (lt_of_lt_of_eq k.isLt (rest_trips _ _)) (Nat.not_lt_zero _)
  refine ⟨?_, fun k => ?_, fun k => ?_, ?_, fun k => (none k).elim, fun k => (none k).elim⟩
  · refine ⟨by show 0 < (1#32 : BitVec 32).toInt; decide, ?_⟩
    show (k0_t1_loop (BitVec.ofNat 32 a) (BitVec.ofNat 32 b)).lb.toInt + ((k0_t1_loop (BitVec.ofNat 32 a) (BitVec.ofNat 32 b)).trips : ℤ) * (1#32 : BitVec 32).toInt < 2 ^ 31
    rw [ht, loop_word ha hb]
    show (BitVec.ofNat 32 (first a)).toInt + ((stop a b - first a : ℕ) : ℤ) * (1#32 : BitVec 32).toInt < 2 ^ 31
    rw [toInt_word (by omega), show (1#32 : BitVec 32).toInt = 1 from rfl]
    omega
  · have hk := lt_of_lt_of_eq k.isLt ht
    show 256 ∣ (Scalar.muli _ 256#32).toNat
    rw [block_rows ha k.val (by omega), WordArith.toNat_ofNat_of_lt _ (by omega)]
    exact ⟨_, mul_comm _ _⟩
  · have hk := lt_of_lt_of_eq k.isLt ht
    rw [offB_eq _ ha hb]
    intro x; fin_cases x
    · show 0 + 1 ≤ 1; omega
    · show e.val + 1 ≤ 16; omega
    · show (first a + k.val) * 256 + 256 ≤ 512; omega
    · show 0 + 1024 ≤ 1024; omega
  · refine ⟨by show 0 < (1#32 : BitVec 32).toInt; decide, ?_⟩
    show (k0_t2_loop (BitVec.ofNat 32 a) (BitVec.ofNat 32 b)).lb.toInt + ((k0_t2_loop (BitVec.ofNat 32 a) (BitVec.ofNat 32 b)).trips : ℤ) * (1#32 : BitVec 32).toInt < 2 ^ 31
    rw [rest_trips, show (k0_t2_loop (BitVec.ofNat 32 a) (BitVec.ofNat 32 b)).lb = (k0_t1_loop (BitVec.ofNat 32 a) (BitVec.ofNat 32 b)).ub from rfl, loop_word ha hb]
    show (BitVec.ofNat 32 (stop a b)).toInt + ((0 : ℕ) : ℤ) * (1#32 : BitVec 32).toInt < 2 ^ 31
    rw [toInt_word (by omega)]
    omega

end Cert.Kernel5Ideal.Scatter

end
-- ==== Proof.ScatterPre.lean ====
/-
What the precondition of the scatter's call says of its integer arrays, and that the ranges it allows fit the experts'
results.
-/
module

public import proofs.«01_k».proof.Proof.ScatterFrame
public import proofs.«01_k».proof.Proof.ScatterWords
public import proofs.«01_k».proof.Proof.Gen.Pre_columns_of_choice
public import Idealize.ShloMosaic.Lib.PointwiseCore

@[expose] public section

set_option maxRecDepth 16384

noncomputable section

namespace Cert.Kernel5Ideal.Scatter

open Idealize.ShloMosaic Idealize.ShloMosaic.TcCoe Cert.Kernel5Ideal.Gen Idealize.SL.Sem
open Idealize.ShloMosaic.VecWindow (window put)
open Cert.Pre_columns_of_choice (S16x16x512 S16x4096x16)

/-- The chosen tokens, the tokens' slots and the blocks' slot ranges agree. -/
structure Tables (idx : IVec S16x16x512 32) (sl : IVec S16x4096x16 32) (co : IVec S8448 32) : Prop where
  idx_lt : ∀ b e s, (idx (ix3 b e s)).toNat < 4096
  co_le : ∀ n, (co (ix1 n)).toNat ≤ 512
  hit : ∀ (b e : Fin 16) (t : Fin 4096) (s : Fin 512), sl (ix3 b t e) = BitVec.ofNat 32 s.val ↔ idx (ix3 b e s) = BitVec.ofNat 32 t.val
  range : ∀ (b e : Fin 16) (c : Fin 8) (t : Fin 512), (sl (ix3 b ⟨c.val * 512 + t.val, by omega⟩ e)).toInt < 0 ∨
    (co (ix1 ⟨(b.val * 16 + e.val) * 33 + 4 * c.val, by omega⟩)).toInt ≤ (sl (ix3 b ⟨c.val * 512 + t.val, by omega⟩ e)).toInt
      ∧ (sl (ix3 b ⟨c.val * 512 + t.val, by omega⟩ e)).toInt < (co (ix1 ⟨(b.val * 16 + e.val) * 33 + 4 * c.val + 4, by omega⟩)).toInt

theorem ofBool_one (p : Bool) : BitVec.ofBool p = 1#1 ↔ p = true := by cases p <;> decide
theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem eq_one (a b : BitVec 1) : IntOp.cmpi .eq a b = 1#1 ↔ (a = 1#1 ↔ b = 1#1) := by revert a b; decide

theorem cmp_eq (a b : BitVec 32) : IntOp.cmpi .eq a b = 1#1 ↔ a = b := by
  show BitVec.ofBool (a == b) = 1#1 ↔ _
  rw [ofBool_one]; exact beq_iff_eq
theorem cmp_slt (a b : BitVec 32) : IntOp.cmpi .slt a b = 1#1 ↔ a.toInt < b.toInt := by
  show BitVec.ofBool (decide _) = 1#1 ↔ _
  rw [ofBool_one]; exact decide_eq_true_iff
theorem cmp_sle (a b : BitVec 32) : IntOp.cmpi .sle a b = 1#1 ↔ a.toInt ≤ b.toInt := by
  show BitVec.ofBool (decide _) = 1#1 ↔ _
  rw [ofBool_one]; exact decide_eq_true_iff
theorem cmp_sge (a b : BitVec 32) : IntOp.cmpi .sge a b = 1#1 ↔ b.toInt ≤ a.toInt := by
  show BitVec.ofBool (decide _) = 1#1 ↔ _
  rw [ofBool_one]; exact decide_eq_true_iff

theorem toNat_le {w : BitVec 32} {n : ℕ} (h0 : 0 ≤ w.toInt) (h : w.toInt ≤ n) : w.toNat ≤ n := by
  have := w.isLt
  rw [BitVec.toInt_eq_toNat_cond] at h0 h
  split at h <;> omega

section
variable {F : FTy → Type} [FloatOps F]
variable {a0 : FVec F Cert.Pre_columns_of_choice.S16x4096x1024 .f32} {a1 : FVec F Cert.Pre_columns_of_choice.S16x16x512x1024 .bf16} {a2 : IVec S16x16x512 32}
  {a3 : IVec S16x4096x16 32} {a4 : IVec S8448 32} {a5 : FVec F Cert.Pre_columns_of_choice.S16x1x1024 .f32} {a6 : FVec F Cert.Pre_columns_of_choice.S1024 .f32}

theorem tables_of (h : (Cert.Pre_columns_of_choice.fn (F := F) a0 a1 a2 a3 a4 a5 a6).1 = (fun _ => 1#1)
    ∧ (Cert.Pre_columns_of_choice.fn (F := F) a0 a1 a2 a3 a4 a5 a6).2.1 = (fun _ => 1#1)
    ∧ (Cert.Pre_columns_of_choice.fn (F := F) a0 a1 a2 a3 a4 a5 a6).2.2.1 = (fun _ => 1#1)
    ∧ (Cert.Pre_columns_of_choice.fn (F := F) a0 a1 a2 a3 a4 a5 a6).2.2.2.1 = (fun _ => 1#1)
    ∧ (Cert.Pre_columns_of_choice.fn (F := F) a0 a1 a2 a3 a4 a5 a6).2.2.2.2.1 = (fun _ => 1#1)
    ∧ (Cert.Pre_columns_of_choice.fn (F := F) a0 a1 a2 a3 a4 a5 a6).2.2.2.2.2 = (fun _ => 1#1)) :
    Tables a2 a3 a4 := by
  obtain ⟨h1, h2, h3, h4, h5, h6⟩ := h
  refine ⟨fun b e s => ?_, fun n => ?_, fun b e t s => ?_, fun b e c t => ?_⟩
  · have p : IntOp.cmpi .sge (a2 (ix3 b e s)) 0#32 = 1#1 := congrFun h1 (ix3 b e s)
    have q : IntOp.cmpi .slt (a2 (ix3 b e s)) 4096#32 = 1#1 := congrFun h2 (ix3 b e s)
    rw [cmp_sge] at p; rw [cmp_slt] at q
    have := toNat_le (n := 4095) p (by have : (4096#32 : BitVec 32).toInt = 4096 := rfl; omega)
    omega
  · have p : IntOp.cmpi .sge (a4 (ix1 n)) 0#32 = 1#1 := congrFun h3 (ix1 n)
    have q : IntOp.cmpi .sle (a4 (ix1 n)) 512#32 = 1#1 := congrFun h4 (ix1 n)
    rw [cmp_sge] at p; rw [cmp_sle] at q
    exact toNat_le (n := 512) p q
  · have p : IntOp.cmpi .eq (IntOp.cmpi .eq (a3 (ix3 b t e)) (BitVec.ofNat 32 s.val))
        (IntOp.cmpi .eq (a2 (ix3 b e s)) (BitVec.ofNat 32 t.val)) = 1#1 := by
      have := congrFun h5 (ix4 b e s t)
      refine Eq.trans ?_ this
      unfold Cert.Pre_columns_of_choice.fn Cert.Pre_columns_of_choice.fn_part1
      pointwise
    rw [eq_one, cmp_eq, cmp_eq] at p
    exact p
  · have p : IntOp.ori (IntOp.cmpi .slt (a3 (ix3 b ⟨c.val * 512 + t.val, by omega⟩ e)) 0#32)
        (IntOp.andi (IntOp.cmpi .sge (a3 (ix3 b ⟨c.val * 512 + t.val, by omega⟩ e)) (a4 (ix1 ⟨(b.val * 16 + e.val) * 33 + 4 * c.val, by omega⟩)))
          (IntOp.cmpi .slt (a3 (ix3 b ⟨c.val * 512 + t.val, by omega⟩ e)) (a4 (ix1 ⟨(b.val * 16 + e.val) * 33 + 4 * c.val + 4, by omega⟩)))) = 1#1 := by
      have := congrFun h6 (ix4 b e c t)
      refine Eq.trans ?_ this
      unfold Cert.Pre_columns_of_choice.fn Cert.Pre_columns_of_choice.fn_part1
      pointwise
      simp only [show b.val * 528 + e.val * 33 + (4 + 4 * c.val) = b.val * 528 + e.val * 33 + 4 * c.val + 4 from by omega,
        show (b.val * 16 + e.val) * 33 + 4 * c.val = b.val * 528 + e.val * 33 + 4 * c.val from by omega]
    rw [ori_one, andi_one, cmp_slt, cmp_sge, cmp_slt] at p
    exact p

/-! ## The ranges as natural numbers -/

/-- Where expert `e`'s slots in the block begin and end, of the table. -/
def loN (co : IVec S8448 32) (i : grid0.Coords) (e : Fin 16) : ℕ :=
  (co (ix1 ⟨((i 0).val * 16 + e.val) * 33 + 4 * (i 1).val, by have h0 : (i 0).val < 16 := (i 0).isLt; have h1 : (i 1).val < 8 := (i 1).isLt; omega⟩)).toNat
def hiN (co : IVec S8448 32) (i : grid0.Coords) (e : Fin 16) : ℕ :=
  (co (ix1 ⟨((i 0).val * 16 + e.val) * 33 + 4 * (i 1).val + 4, by have h0 : (i 0).val < 16 := (i 0).isLt; have h1 : (i 1).val < 8 := (i 1).isLt; omega⟩)).toNat

theorem lo_eq (T : Vec F S8448 .i32) (i : grid0.Coords) (e : Fin 16) : lo T i e = BitVec.ofNat 32 (loN T i e) := by
  unfold loN
  rw [BitVec.ofNat_toNat, BitVec.setWidth_eq]
  refine congrArg T (funext fun a => Fin.ext ?_)
  obtain rfl : a = 0 := Subsingleton.elim _ _
  show offLo e.val i 0 + 1 * 0 = _
  rw [offLo_eq _ e.isLt]
  rfl
theorem hi_eq (T : Vec F S8448 .i32) (i : grid0.Coords) (e : Fin 16) : hi T i e = BitVec.ofNat 32 (hiN T i e) := by
  unfold hiN
  rw [BitVec.ofNat_toNat, BitVec.setWidth_eq]
  refine congrArg T (funext fun a => Fin.ext ?_)
  obtain rfl : a = 0 := Subsingleton.elim _ _
  show offHi e.val i 0 + 1 * 0 = _
  rw [offHi_eq _ e.isLt]
  rfl

variable {idx : IVec S16x16x512 32} {sl : IVec S16x4096x16 32} {co : IVec S8448 32}

theorem loN_le (h : Tables idx sl co) (i : grid0.Coords) (e : Fin 16) : loN co i e ≤ 512 := h.co_le _
theorem hiN_le (h : Tables idx sl co) (i : grid0.Coords) (e : Fin 16) : hiN co i e ≤ 512 := h.co_le _

/-- The ranges fit. -/
theorem fits (h : Tables idx sl co) (i : grid0.Coords) : Fits (F := F) co i :=
  ⟨fun e => by rw [lo_eq (F := F)]; exact chkW_of e (loN_le h i e),
   fun e => by rw [lo_eq (F := F), hi_eq (F := F)]; exact chkB_of e (loN_le h i e) (hiN_le h i e)⟩

end

end Cert.Kernel5Ideal.Scatter

end
-- ==== Proof.ScatterRows.lean ====
/-
What the scatter's body adds up, over the extended reals: at a token's row, each expert's window gives the row of the
expert's results at the token's slot when the slot is in the window, and its later blocks give it when the slot is past
the window; together every token gets the row at its slot, once for each expert that chose it.
-/
module

public import proofs.«01_k».proof.Proof.ScatterPre
public import Idealize.ShloMosaic.Lib.Pointwise
public import Idealize.ShloMosaic.Lib.Tactic

@[expose] public section

set_option maxRecDepth 16384

noncomputable section

namespace Cert.Kernel5Ideal.Scatter

open Idealize.ShloMosaic Idealize.ShloMosaic.TcCoe Cert.Kernel5Ideal.Gen Idealize.SL.Sem
open Idealize.ShloMosaic.VecWindow (window put)

variable (x0 : Vec Ideal S1x16x512x1024 .bf16) (x1 : Vec Ideal S1x512x16 .i32)

/-- Row `r`'s slot of expert `e`, and the rows of the expert's results by number. -/
def slot (e : Fin 16) (r : Fin 512) : BitVec 32 := x1 (ix3 0 r e)
def given (e : Fin 16) (d : Fin 1024) (s : ℕ) : EReal := if h : s < 512 then (x0 : S1x16x512x1024.Idx → EReal) (ix4 0 e ⟨s, h⟩ d) else 0

/-- A sum over rows of which one has number `w`. -/
theorem pick (n o : ℕ) (h : o + n ≤ 4096) (f : ℕ → EReal) (w : BitVec 32) :
    (∑ k : Fin n, if w = BitVec.ofNat 32 (o + k.val) then f (o + k.val) else 0) = if o ≤ w.toNat ∧ w.toNat < o + n then f w.toNat else 0 := by
  have key (k : Fin n) : w = BitVec.ofNat 32 (o + k.val) ↔ w.toNat = o + k.val := by
    constructor
    · rintro rfl; exact WordArith.toNat_ofNat_of_lt _ (by omega)
    · intro h; rw [← h, BitVec.ofNat_toNat, BitVec.setWidth_eq]
  by_cases hw : o ≤ w.toNat ∧ w.toNat < o + n
  · rw [if_pos hw]
    refine (Finset.sum_eq_single (⟨w.toNat - o, by omega⟩ : Fin n) (fun k _ hk => if_neg fun e => hk (Fin.ext ?_)) (fun hh => (hh (Finset.mem_univ _)).elim)).trans ?_
    · show k.val = w.toNat - o
      have := (key k).mp e; omega
    · rw [if_pos ((key _).mpr (by show w.toNat = o + (w.toNat - o); omega))]
      exact congrArg f (by show o + (w.toNat - o) = _; omega)
  · rw [if_neg hw]
    exact Finset.sum_eq_zero fun k _ => if_neg fun e => hw (by have := (key k).mp e; have := k.isLt; omega)

theorem sub_word {s : BitVec 32} {o r : ℕ} : s - BitVec.ofNat 32 o = BitVec.ofNat 32 r ↔ s = BitVec.ofNat 32 (o + r) := by
  rw [BitVec.ofNat_add]
  constructor
  · intro h; rw [← h, BitVec.add_comm]; exact (BitVec.sub_add_cancel ..).symm
  · rintro rfl; rw [BitVec.add_comm]; exact BitVec.add_sub_cancel ..

theorem window_at {α : Type} {s : Shape} (x : s.Idx → α) {off off' size : Fin s.rank → ℕ} (inb : ∀ a, off a + size a ≤ s.size a) (e : off = off') (y : (Rect.unit off size inb).shape.Idx) (z : s.Idx)
    (h : ∀ a, off' a + (y a).val = (z a).val) : window x off size inb y = x z := by
  subst e
  refine congrArg x (funext fun a => Fin.ext ?_)
  rw [← h a]
  show off a + 1 * (y a).val = _
  rw [Nat.one_mul]

/-- The one-hot matrix of a window. -/
theorem hot_at {a : ℕ} (ha : a ≤ 512) (s : Vec Ideal S1x512x1 .i32) (r : Fin 512) (k : Fin 128) :
    (k0_pay4 (F := Ideal) (BitVec.ofNat 32 a) s : S512x128.Idx → EReal) (ix2 r k) =
      if (s : IVec S1x512x1 32) (ix3 0 r 0) = BitVec.ofNat 32 (base a + k.val) then 1 else 0 := by
  unfold k0_pay4
  simp only [base_word ha]
  pointwise
  exact if_congr ((cmp_eq _ _).trans sub_word) rfl rfl

theorem win_at (v : Vec Ideal S1x1x128x1024 .bf16) (k : Fin 128) (d : Fin 1024) :
    (k0_pay3 (F := Ideal) v : S1x128x1024.Idx → EReal) (ix3 0 k d) = (v : S1x1x128x1024.Idx → EReal) (ix4 0 0 k d) := by
  unfold k0_pay3
  pointwise

theorem pairSum_at (acc : FVec Ideal S512x1024 .f32) (a b : FVec Ideal S512x128 .bf16) (u v : Vec Ideal S1x128x1024 .bf16) (r : Fin 512) (d : Fin 1024) :
    (pairSum acc a b (stacked u v) : S512x1024.Idx → EReal) (ix2 r d) = (acc : S512x1024.Idx → EReal) (ix2 r d)
      + ((∑ k : Fin 128, (a : S512x128.Idx → EReal) (ix2 r k) * (u : S1x128x1024.Idx → EReal) (ix3 0 k d))
        + ∑ k : Fin 128, (b : S512x128.Idx → EReal) (ix2 r k) * (v : S1x128x1024.Idx → EReal) (ix3 0 k d)) := by
  unfold pairSum
  pointwise
  refine congrArg (_ + ·) (congrArg₂ (· + ·) ?_ ?_)
  · refine Finset.sum_congr rfl fun k _ => congrArg (_ * ·) ?_
    refine (dif_pos (show k.val < 128 from k.isLt)).trans (congrArg u (funext fun a => ?_))
    match a with
    | ⟨0, _⟩ => rfl
    | ⟨1, _⟩ => rfl
    | ⟨2, _⟩ => rfl
  · refine Finset.sum_congr rfl fun k _ => congrArg (_ * ·) ?_
    refine (dif_neg (show ¬ 128 + k.val < 128 by omega)).trans (congrArg v (funext fun a => ?_))
    match a with
    | ⟨0, _⟩ => rfl
    | ⟨1, _⟩ => exact Fin.ext (by show 128 + k.val - 128 = k.val; omega)
    | ⟨2, _⟩ => rfl

theorem block_at {a b : ℕ} (ha : a ≤ 512) (hb : b ≤ 512) (k : Fin (k0_t1_loop (BitVec.ofNat 32 a) (BitVec.ofNat 32 b)).trips) (s : Vec Ideal S1x512x1 .i32)
    (x : Vec Ideal S512x1024 .f32) (y : Vec Ideal S1x1x256x1024 .bf16) (r : Fin 512) (d : Fin 1024) :
    (blockSum (F := Ideal) (BitVec.ofNat 32 a) (BitVec.ofNat 32 b) k s x y : S512x1024.Idx → EReal) (ix2 r d) = (x : S512x1024.Idx → EReal) (ix2 r d)
      + ∑ q : Fin 256, if (s : IVec S1x512x1 32) (ix3 0 r 0) = BitVec.ofNat 32 ((first a + k.val) * 256 + q.val) ∧ base a + 128 ≤ (first a + k.val) * 256 + q.val
          then (y : S1x1x256x1024.Idx → EReal) (ix4 0 0 q d) else 0 := by
  have hk := lt_of_lt_of_eq k.isLt (loop_trips ha hb)
  have hs := stop_le (a := a) hb
  have hbase := base_le a
  have hr := block_rows ha k.val (by omega)
  unfold blockSum
  rw [cover_eq ha]
  rw [base_word ha, show Scalar.addi (BitVec.ofNat 32 (base a)) 128#32 = BitVec.ofNat 32 (base a + 128) from add_word _ 128] at hr
  unfold k0_pay38
  simp only [hr]
  pointwise
  refine congrArg (_ + ·) (Finset.sum_congr rfl fun q _ => if_congr ?_ rfl rfl)
  refine (andi_one _ _).trans ((and_congr (cmp_eq _ _) (cmp_sge _ _)).trans ?_)
  refine (and_congr_left fun _ => sub_word).trans (and_congr_right fun h => ?_)
  rw [h, toInt_word (by omega), toInt_word (by omega)]
  omega

/-! ## The folds -/

section
variable (T : Vec Ideal S8448 .i32) (i : grid0.Coords) (H : Fits T i) (hlo : ∀ e, loN T i e ≤ 512) (hhi : ∀ e, hiN T i e ≤ 512)

/-- The row of expert `e`'s results at row `r`'s slot, the part of it from the window, and the part from the later blocks. -/
def whole (r : Fin 512) (d : Fin 1024) (e : Fin 16) : EReal := given x0 e d (slot x1 e r).toNat
def winPart (r : Fin 512) (d : Fin 1024) (e : Fin 16) : EReal :=
  if base (loN T i e) ≤ (slot x1 e r).toNat ∧ (slot x1 e r).toNat < base (loN T i e) + 128 then whole x0 x1 r d e else 0
def blockPart (r : Fin 512) (d : Fin 1024) (e : Fin 16) : EReal :=
  if base (loN T i e) + 128 ≤ (slot x1 e r).toNat ∧ (slot x1 e r).toNat < stop (loN T i e) (hiN T i e) * 256 then whole x0 x1 r d e else 0

theorem slots_at (e : Fin 16) (r : Fin 512) : slots (F := Ideal) x1 e (ix3 0 r 0) = slot x1 e r :=
  window_at (s := S1x512x16) x1 _ rfl _ _ fun a => by fin_cases a <;> first | rfl | exact Nat.zero_add _

theorem given_at {s : ℕ} (e : Fin 16) (d : Fin 1024) (h : s < 512) : (x0 : S1x16x512x1024.Idx → EReal) (ix4 0 e ⟨s, h⟩ d) = given x0 e d s := by
  unfold given
  rw [dif_pos h]

include hlo in
theorem hot_win (e : Fin 16) (r : Fin 512) (d : Fin 1024) :
    (∑ k : Fin 128, (hot (F := Ideal) T i x1 e : S512x128.Idx → EReal) (ix2 r k) * (win (F := Ideal) T i H x0 e : S1x128x1024.Idx → EReal) (ix3 0 k d)) = winPart x0 x1 T i r d e := by
  have hb := base_le (loN T i e)
  have hh (k : Fin 128) : (hot (F := Ideal) T i x1 e : S512x128.Idx → EReal) (ix2 r k) = if slot x1 e r = BitVec.ofNat 32 (base (loN T i e) + k.val) then 1 else 0 := by
    unfold hot
    rw [lo_eq T i e, hot_at (hlo e), slots_at]
  have hw (k : Fin 128) : (win (F := Ideal) T i H x0 e : S1x128x1024.Idx → EReal) (ix3 0 k d) = given x0 e d (base (loN T i e) + k.val) := by
    unfold win
    refine (win_at _ k d).trans ((window_at (s := S1x16x512x1024) x0 _ ((congrArg (offW e.val) (lo_eq T i e)).trans (offW_eq e.val (hlo e))) _
      (ix4 0 e ⟨base (loN T i e) + k.val, by omega⟩ d) fun a => ?_).trans (given_at x0 e d _))
    fin_cases a <;> first | rfl | exact Nat.zero_add _
  simp only [hh, hw, ite_mul, one_mul, zero_mul]
  exact pick 128 _ (by omega) (given x0 e d) (slot x1 e r)

/-- The sum over the first `n` experts. -/
def upTo (f : Fin 16 → EReal) (n : ℕ) : EReal := ∑ j ∈ Finset.range n, if h : j < 16 then f ⟨j, h⟩ else 0

theorem upTo_succ (f : Fin 16 → EReal) {n : ℕ} (h : n < 16) : upTo f (n + 1) = upTo f n + f ⟨n, h⟩ := by
  unfold upTo
  rw [Finset.sum_range_succ, dif_pos h]

theorem upTo_all (f : Fin 16 → EReal) : upTo f 16 = ∑ j, f j := by
  unfold upTo
  rw [Finset.sum_range]
  exact Finset.sum_congr rfl fun j _ => dif_pos j.isLt

include hlo in
theorem sums_at (r : Fin 512) (d : Fin 1024) : ∀ n ≤ 8,
    (sums T i H x0 x1 n : S512x1024.Idx → EReal) (ix2 r d) = upTo (winPart x0 x1 T i r d) (2 * n)
  | 0, _ => by
    show (k0_pay2 (F := Ideal) : S512x1024.Idx → EReal) (ix2 r d) = 0
    unfold k0_pay2
    pointwise
  | n + 1, hn => by
    have h : n < 8 := by omega
    rw [show sums T i H x0 x1 (n + 1) = _ from dif_pos h, show 2 * (n + 1) = 2 * n + 1 + 1 by omega, upTo_succ _ (by omega), upTo_succ _ (by omega)]
    refine (pairSum_at _ _ _ _ _ r d).trans ?_
    rw [sums_at r d n (by omega), hot_win x0 x1 T i H hlo, hot_win x0 x1 T i H hlo, add_assoc]
    rfl

theorem block_step {w v : BitVec 32} {a b : ℕ} (hw : w = BitVec.ofNat 32 a) (hv : v = BitVec.ofNat 32 b) (ha : a ≤ 512) (hb : b ≤ 512) (e : ℕ) (k : Fin (k0_t1_loop w v).trips) :
    offB e w v k = ![0, e, (first a + k.val) * 256, 0] ∧ first a + k.val < 2
      ∧ ∀ (s : Vec Ideal S1x512x1 .i32) (x : Vec Ideal S512x1024 .f32) (y : Vec Ideal S1x1x256x1024 .bf16) (r : Fin 512) (d : Fin 1024),
        (blockSum (F := Ideal) w v k s x y : S512x1024.Idx → EReal) (ix2 r d) = (x : S512x1024.Idx → EReal) (ix2 r d)
          + ∑ q : Fin 256, if (s : IVec S1x512x1 32) (ix3 0 r 0) = BitVec.ofNat 32 ((first a + k.val) * 256 + q.val) ∧ base a + 128 ≤ (first a + k.val) * 256 + q.val
              then (y : S1x1x256x1024.Idx → EReal) (ix4 0 0 q d) else 0 := by
  subst hw hv
  refine ⟨offB_eq e ha hb k, ?_, block_at ha hb k⟩
  have hk := lt_of_lt_of_eq k.isLt (loop_trips ha hb)
  have hs := stop_le (a := a) hb
  omega

include hlo hhi in
theorem blocks_at (r : Fin 512) (d : Fin 1024) (e : Fin 16) (A : Vec Ideal S512x1024 .f32) : ∀ n ≤ (k0_t1_loop (lo T i e) (hi T i e)).trips,
    (blocks T i H x0 x1 e A n : S512x1024.Idx → EReal) (ix2 r d) = (A : S512x1024.Idx → EReal) (ix2 r d) +
      if base (loN T i e) + 128 ≤ (slot x1 e r).toNat ∧ (slot x1 e r).toNat < (first (loN T i e) + n) * 256 then whole x0 x1 r d e else 0
  | 0, _ => by
    rw [if_neg (by unfold first; omega), add_zero]
    rfl
  | n + 1, hn => by
    have h : n < (k0_t1_loop (lo T i e) (hi T i e)).trips := by omega
    have ih := blocks_at r d e A n (by omega)
    obtain ⟨e1, e2, e3⟩ := block_step (lo_eq T i e) (hi_eq T i e) (hlo e) (hhi e) e.val ⟨n, h⟩
    rw [show blocks T i H x0 x1 e A (n + 1) = _ from dif_pos h]
    refine (e3 _ _ _ r d).trans ?_
    rw [ih, slots_at, add_assoc]
    refine congrArg (_ + ·) ?_
    have e2' : first (loN T i e) + n < 2 := e2
    have hy (q : Fin 256) : window x0 (offB e.val (lo T i e) (hi T i e) ⟨n, h⟩) S1x1x256x1024.size ((H.2 e).2.2.1 ⟨n, h⟩) (ix4 0 0 q d) =
        given x0 e d ((first (loN T i e) + n) * 256 + q.val) := by
      refine (window_at (s := S1x16x512x1024) x0 _ e1 _ (ix4 0 e ⟨(first (loN T i e) + n) * 256 + q.val, by omega⟩ d) fun a => ?_).trans (given_at x0 e d _)
      fin_cases a <;> first | rfl | exact Nat.zero_add _
    have hp := pick 256 ((first (loN T i e) + n) * 256) (by omega) (fun s => if base (loN T i e) + 128 ≤ s then given x0 e d s else 0) (slot x1 e r)
    have hq : (∑ q : Fin 256, if slot x1 e r = BitVec.ofNat 32 ((first (loN T i e) + n) * 256 + q.val) ∧ base (loN T i e) + 128 ≤ (first (loN T i e) + n) * 256 + q.val
        then window x0 (offB e.val (lo T i e) (hi T i e) ⟨n, h⟩) S1x1x256x1024.size ((H.2 e).2.2.1 ⟨n, h⟩) (ix4 0 0 q d) else 0)
        = if (first (loN T i e) + n) * 256 ≤ (slot x1 e r).toNat ∧ (slot x1 e r).toNat < (first (loN T i e) + n) * 256 + 256
          then (if base (loN T i e) + 128 ≤ (slot x1 e r).toNat then given x0 e d (slot x1 e r).toNat else 0) else 0 := by
      refine Eq.trans (Finset.sum_congr rfl fun q _ => ?_) hp
      rw [hy q]
      exact ite_and _ _ _ _
    refine (congrArg (_ + ·) hq).trans ?_
    unfold whole
    by_cases h1 : base (loN T i e) + 128 ≤ (slot x1 e r).toNat
    · rw [if_pos h1]
      by_cases h2 : (slot x1 e r).toNat < (first (loN T i e) + n) * 256
      · rw [if_pos ⟨h1, h2⟩, if_neg (by omega), if_pos (by omega), add_zero]
      · rw [if_neg (by omega), zero_add]
        exact if_congr (by omega) rfl rfl
    · rw [if_neg h1, ite_self, if_neg (by omega), if_neg (by omega), add_zero]

include hlo hhi in
theorem blocks_all (r : Fin 512) (d : Fin 1024) (e : Fin 16) (A : Vec Ideal S512x1024 .f32) :
    (blocks T i H x0 x1 e A (k0_t1_loop (lo T i e) (hi T i e)).trips : S512x1024.Idx → EReal) (ix2 r d) =
      (A : S512x1024.Idx → EReal) (ix2 r d) + blockPart x0 x1 T i r d e := by
  have hb := blocks_at x0 x1 T i H hlo hhi r d e A _ le_rfl
  have ht : first (loN T i e) + (k0_t1_loop (lo T i e) (hi T i e)).trips = stop (loN T i e) (hiN T i e) := by
    have h := stop_le (a := loN T i e) (hhi e)
    have e : (k0_t1_loop (lo T i e) (hi T i e)).trips = _ :=
      (congrArg₂ (fun w v => (k0_t1_loop w v).trips) (lo_eq T i e) (hi_eq T i e)).trans (loop_trips (hlo e) (hhi e))
    rw [e]
    exact Nat.add_sub_cancel' h.1
  rw [ht] at hb
  exact hb

include hlo hhi in
theorem total_at (r : Fin 512) (d : Fin 1024) : ∀ n ≤ 16,
    (total T i H x0 x1 n : S512x1024.Idx → EReal) (ix2 r d) = upTo (winPart x0 x1 T i r d) 16 + upTo (blockPart x0 x1 T i r d) n
  | 0, _ => by
    show (shapeCast S512x1024 (sums T i H x0 x1 8) shapeCasts_S512x1024_S512x1024 : S512x1024.Idx → EReal) (ix2 r d) = _ + 0
    rw [add_zero]
    pointwise
    exact sums_at x0 x1 T i H hlo r d 8 le_rfl
  | n + 1, hn => by
    have h : n < 16 := by omega
    rw [show total T i H x0 x1 (n + 1) = _ from dif_pos h, upTo_succ _ h]
    refine (blocks_all x0 x1 T i H hlo hhi r d ⟨n, h⟩ _).trans ?_
    rw [total_at r d n (by omega), add_assoc]

include hlo hhi in
/-- With every slot of the rows inside its expert's range, a row gets the expert's result at its slot from every expert that has one for it. -/
theorem total_all (r : Fin 512) (d : Fin 1024)
    (hS : ∀ e, (slot x1 e r).toNat < 512 → loN T i e ≤ (slot x1 e r).toNat ∧ (slot x1 e r).toNat < hiN T i e) :
    (total T i H x0 x1 16 : S512x1024.Idx → EReal) (ix2 r d) = ∑ e, given x0 e d (slot x1 e r).toNat := by
  rw [total_at x0 x1 T i H hlo hhi r d 16 le_rfl, upTo_all, upTo_all, ← Finset.sum_add_distrib]
  refine Finset.sum_congr rfl fun e _ => ?_
  unfold winPart blockPart whole
  have hb := base_le (loN T i e)
  by_cases h : (slot x1 e r).toNat < 512
  · have hs := hS e h
    have hst : hiN T i e ≤ base (loN T i e) + 128 ∨ hiN T i e ≤ stop (loN T i e) (hiN T i e) * 256 := by
      unfold stop
      split <;> omega
    by_cases h1 : (slot x1 e r).toNat < base (loN T i e) + 128
    · rw [if_pos (by omega), if_neg (by omega), add_zero]
    · rw [if_neg (by omega), if_pos (by omega), zero_add]
  · rw [show given x0 e d (slot x1 e r).toNat = 0 from dif_neg h, ite_self, ite_self, add_zero]

end

/-! ## The block of results -/

/-- A row over its root mean square (of 1024 numbers and the printed small constant), under a gain. -/
def normed (x n : Fin 1024 → EReal) (d : Fin 1024) : EReal :=
  x d * Ideal.rsqrt (Ideal.div (∑ k, x k * x k) (Ideal.ofBits .f32 1149239296#32) + Ideal.ofBits .f32 897988541#32) * n d

theorem result_at {T : Vec Ideal S8448 .i32} {i : grid0.Coords} (H : Fits T i) (hlo : ∀ e, loN T i e ≤ 512) (hhi : ∀ e, hiN T i e ≤ 512)
    (h : Vec Ideal S1x512x1024 .f32) (g : Vec Ideal S1x1x1024 .f32) (n : Vec Ideal S1x1024 .f32) (a : Fin 1) (r : Fin 512) (d : Fin 1024)
    (hS : ∀ e, (slot x1 e r).toNat < 512 → loN T i e ≤ (slot x1 e r).toNat ∧ (slot x1 e r).toNat < hiN T i e) :
    (result T i H x0 x1 h g n : S1x512x1024.Idx → EReal) (ix3 a r d) =
      normed (fun k => (h : S1x512x1024.Idx → EReal) (ix3 0 r k) + (g : S1x1x1024.Idx → EReal) (ix3 0 0 k) * ∑ e, given x0 e k (slot x1 e r).toNat)
        (fun k => (n : S1x1024.Idx → EReal) (ix2 0 k)) d := by
  have ht (k : Fin 1024) := total_all x0 x1 T i H hlo hhi r k hS
  simp only [← ht]
  unfold result
  generalize total T i H x0 x1 16 = S
  unfold k0_pay1 k0_pay71 k0_pay70 normed
  pointwise

/-- What a token's row of the result is, of the arrays the call reads. -/
def outRow (h : S16x4096x1024.Idx → EReal) (ys : S16x16x512x1024.Idx → EReal) (sl : IVec S16x4096x16 32) (g : S16x1x1024.Idx → EReal) (n : S1024.Idx → EReal)
    (b : Fin 16) (t : Fin 4096) (d : Fin 1024) : EReal :=
  normed (fun k => h (ix3 b t k) + g (ix3 b 0 k) * ∑ e : Fin 16, if hs : (sl (ix3 b t e)).toNat < 512 then ys (ix4 b e ⟨_, hs⟩ k) else 0)
    (fun k => n (ix1 k)) d

/-- A slot of the block is in its expert's range there. -/
theorem range_at {idx : IVec S16x16x512 32} {sl : IVec S16x4096x16 32} {co : IVec S8448 32} (h : Tables idx sl co) (i : grid0.Coords) (b : Fin 16) (c : Fin 8)
    (h0 : (i 0).val = b.val) (h1 : (i 1).val = c.val) (e : Fin 16) (t : Fin 512) (hp : (sl (ix3 b ⟨c.val * 512 + t.val, by omega⟩ e)).toNat < 512) :
    loN co i e ≤ (sl (ix3 b ⟨c.val * 512 + t.val, by omega⟩ e)).toNat ∧ (sl (ix3 b ⟨c.val * 512 + t.val, by omega⟩ e)).toNat < hiN co i e := by
  have small {w : BitVec 32} (h : w.toNat ≤ 512) : w.toInt = w.toNat := by
    rw [BitVec.toInt_eq_toNat_cond, if_pos (by omega)]
  have e1 : loN co i e = (co (ix1 ⟨(b.val * 16 + e.val) * 33 + 4 * c.val, by omega⟩)).toNat :=
    congrArg (fun n : Fin 8448 => (co (ix1 n)).toNat) (Fin.ext (by show ((i 0).val * 16 + e.val) * 33 + 4 * (i 1).val = _; rw [h0, h1]))
  have e2 : hiN co i e = (co (ix1 ⟨(b.val * 16 + e.val) * 33 + 4 * c.val + 4, by omega⟩)).toNat :=
    congrArg (fun n : Fin 8448 => (co (ix1 n)).toNat) (Fin.ext (by show ((i 0).val * 16 + e.val) * 33 + 4 * (i 1).val + 4 = _; rw [h0, h1]))
  have hr := h.range b e c t
  rw [small (le_of_lt hp), small (h.co_le _), small (h.co_le _)] at hr
  rw [e1, e2]
  omega

end Cert.Kernel5Ideal.Scatter

end
-- ==== Proof.ScatterArr.lean ====
module

public import proofs.«01_k».proof.Proof.ScatterRows
public import proofs.«01_k».proof.Proof.ScatterFrame
public import Idealize.ShloMosaic.Lib.Pipeline.Value
public import Idealize.ShloMosaic.Lib.Pipeline.ValueKit
public import Idealize.ShloMosaic.Lib.Pipeline.Covers
public import Idealize.ShloMosaic.Lib.Pointwise
public import Idealize.ShloMosaic.Lib.Tactic

/-!
The scatter's result array.  Point `t` of the 128 is batch `t / 8` and block of 512 tokens `t % 8`; with the tables of a
choice the array is any function that has, at every token, the norm of the token's residual stream plus the gated rows
that the experts have at its slots.
-/

@[expose] public section

set_option maxRecDepth 16384

noncomputable section

namespace Cert.Kernel5Ideal.Scatter

open Idealize.ShloMosaic Idealize.ShloMosaic.TcCoe Cert.Kernel5Ideal.Gen Idealize.SL.Sem
open Cert.Pre_columns_of_choice (S16x16x512)

variable (m : (ℓ : Loc nD τ sig) → Buf (Elt Ideal) ℓ) (hO : Ok m)

theorem coord0 : ∀ t : Fin grid0.N, (grid0.coords t 0).val = t.val / 8 := by decide +kernel
theorem coord1 : ∀ t : Fin grid0.N, (grid0.coords t 1).val = t.val % 8 := by decide +kernel

theorem idx0 (t : Fin (cfgM m hO).N) : ((cfgM m hO).win 0).index t = ![t.val / 8, t.val % 8, 0] :=
  (by decide +kernel : ∀ t : Fin grid0.N, cc0_transform_0 (grid0.coords t) = ![t.val / 8, t.val % 8, 0]) t
theorem idx1 (t : Fin (cfgM m hO).N) : ((cfgM m hO).win 1).index t = ![t.val / 8, 0, 0, 0] :=
  (by decide +kernel : ∀ t : Fin grid0.N, cc0_transform_1 (grid0.coords t) = ![t.val / 8, 0, 0, 0]) t
theorem idx2 (t : Fin (cfgM m hO).N) : ((cfgM m hO).win 2).index t = ![t.val / 8, t.val % 8, 0] :=
  (by decide +kernel : ∀ t : Fin grid0.N, cc0_transform_2 (grid0.coords t) = ![t.val / 8, t.val % 8, 0]) t
theorem idx3 (t : Fin (cfgM m hO).N) : ((cfgM m hO).win 3).index t = ![t.val / 8, 0, 0] :=
  (by decide +kernel : ∀ t : Fin grid0.N, cc0_transform_3 (grid0.coords t) = ![t.val / 8, 0, 0]) t
theorem idx4 (t : Fin (cfgM m hO).N) : ((cfgM m hO).win 4).index t = ![0, 0] :=
  (by decide +kernel : ∀ t : Fin grid0.N, cc0_transform_4 (grid0.coords t) = ![0, 0]) t
theorem idx5 (t : Fin (cfgM m hO).N) : ((cfgM m hO).win 5).index t = ![t.val / 8, t.val % 8, 0] :=
  (by decide +kernel : ∀ t : Fin grid0.N, cc0_transform_5 (grid0.coords t) = ![t.val / 8, t.val % 8, 0]) t

variable (c : Dev nD)

def bat (t : Fin grid0.N) : Fin 16 := ⟨t.val / 8, by have : t.val < 128 := t.isLt; omega⟩
def part (t : Fin grid0.N) : Fin 8 := ⟨t.val % 8, by omega⟩
def row (t : Fin grid0.N) (r : Fin 512) : Fin 4096 := ⟨(part t).val * 512 + r.val, by have := (part t).isLt; omega⟩

theorem res_at (t : Fin (cfgM m hO).N) (a : Fin 1) (r : Fin 512) (d : Fin 1024) :
    (iblk m hO c 0 t : S1x512x1024.Idx → EReal) (ix3 a r d) = (V m c main_arg0 : S16x4096x1024.Idx → EReal) (ix3 (bat t) (row t r) d) := by
  blk_ext [iblk, idx0 m hO t, bat, row, part]
theorem exp_at (t : Fin (cfgM m hO).N) (a : Fin 1) (e : Fin 16) (s : Fin 512) (d : Fin 1024) :
    (iblk m hO c 1 t : S1x16x512x1024.Idx → EReal) (ix4 a e s d) = (V m c main_arg1 : S16x16x512x1024.Idx → EReal) (ix4 (bat t) e s d) := by
  blk_ext [iblk, idx1 m hO t, bat]
theorem slot_at (t : Fin (cfgM m hO).N) (e : Fin 16) (r : Fin 512) :
    slot (iblk m hO c 2 t) e r = (V m c main_arg3 : IVec S16x4096x16 32) (ix3 (bat t) (row t r) e) := by
  unfold slot
  blk_ext [iblk, idx2 m hO t, bat, row, part]

/-- A batch's row of the modulation, padded to 24 rows. -/
theorem padded_at (x : FVec Ideal S16x1x1024 .f32) (z : FVec Ideal S_ .f32) (b : Fin 16) (e : Fin 1024) :
    (pad S24x1x1024 ![0, 0, 0] ![8, 0, 0] ![0, 0, 0] x z pads_S16x1x1024_S24x1x1024_080_000_000 h_S_ :
      S24x1x1024.Idx → EReal) (ix3 ⟨b.val, by omega⟩ 0 e) = x (ix3 b 0 e) := by
  pointwise

theorem V_gate (b : Fin 16) (e : Fin 1024) :
    (V m c main_v0 : S24x1x1024.Idx → EReal) (ix3 ⟨b.val, by omega⟩ 0 e) = (m ((c : Thread nD τ).loc main_arg5) : FVec Ideal S16x1x1024 .f32) (ix3 b 0 e) := by
  have h : V m c main_v0 = (pad S24x1x1024 ![0, 0, 0] ![8, 0, 0] ![0, 0, 0]
    (m ((c : Thread nD τ).loc main_arg5) : FVec Ideal S16x1x1024 .f32) (sitofp .f32 (constantI S_ 32 0#32) : FVec Ideal S_ .f32)
      pads_S16x1x1024_S24x1x1024_080_000_000 h_S_ : FVec Ideal S24x1x1024 .f32) := by rfl
  rw [h]
  exact padded_at _ _ b e

theorem gate_at (t : Fin (cfgM m hO).N) (a b : Fin 1) (e : Fin 1024) :
    (iblk m hO c 3 t : S1x1x1024.Idx → EReal) (ix3 a b e) = (m ((c : Thread nD τ).loc main_arg5) : FVec Ideal S16x1x1024 .f32) (ix3 (bat t) 0 e) := by
  refine Eq.trans ?_ (V_gate m c (bat t) e)
  blk_ext [iblk, idx3 m hO t, bat]

theorem gain_at (t : Fin (cfgM m hO).N) (a : Fin 1) (e : Fin 1024) :
    (iblk m hO c 4 t : S1x1024.Idx → EReal) (ix2 a e) = (m ((c : Thread nD τ).loc main_arg6) : FVec Ideal S1024 .f32) (ix1 e) := by
  have h : V m c main_v1 = (broadcastInDim S1x1024 ![1] bcast_S1024_S1x1024_1 (m ((c : Thread nD τ).loc main_arg6) : FVec Ideal S1024 .f32) : FVec Ideal S1x1024 .f32) := by rfl
  have e1 : (iblk m hO c 4 t : S1x1024.Idx → EReal) (ix2 a e) = (V m c main_v1 : S1x1024.Idx → EReal) (ix2 0 e) := by
    blk_ext [iblk, idx4 m hO t]
  rw [e1, h]
  pointwise

section
variable {idx : IVec S16x16x512 32} (hT : Tables idx (V m c main_arg3) (tbl m 0)) (hH : Hyps m)

include hT in
theorem out_at (t : Fin (cfgM m hO).N) (a : Fin 1) (r : Fin 512) (d : Fin 1024) :
    (outsAt0 m hO hH c t : S1x512x1024.Idx → EReal) (ix3 a r d) =
      outRow (V m c main_arg0) (V m c main_arg1) (V m c main_arg3) (m ((c : Thread nD τ).loc main_arg5)) (m ((c : Thread nD τ).loc main_arg6)) (bat t) (row t r) d := by
  refine (result_at (iblk m hO c 1 t) (iblk m hO c 2 t) (hH (grid0.coords t)) (loN_le hT _) (hiN_le hT _) (iblk m hO c 0 t) (iblk m hO c 3 t) (iblk m hO c 4 t) a r d
    fun e hp => ?_).trans ?_
  · rw [slot_at] at hp ⊢
    exact range_at hT (grid0.coords t) (bat t) (part t) (coord0 t) (coord1 t) e r hp
  · simp only [slot_at, res_at, gate_at, gain_at]
    unfold given outRow
    simp only [exp_at]

theorem covers5 : ((cfgM m hO).win 5).Covers :=
  Pipeline.Window.covers_of_index_surj _ rfl (by decide : ∀ a, 0 < S1x512x1024.size a) fun (β : (a : Fin 3) → Fin ((S16x4096x1024.size a + S1x512x1024.size a - 1) / S1x512x1024.size a)) => by
    have h0 : (β 0).val < 16 := (β 0).isLt
    have h1 : (β 1).val < 8 := (β 1).isLt
    have h2 : (β 2).val < 1 := (β 2).isLt
    refine ⟨(⟨(β 0).val * 8 + (β 1).val, by show _ < 128; omega⟩ : Fin grid0.N), fun a => ?_⟩
    rw [idx5 m hO]
    match a with
    | ⟨0, _⟩ => show ((β 0).val * 8 + (β 1).val) / 8 = (β 0).val; omega
    | ⟨1, _⟩ => show ((β 0).val * 8 + (β 1).val) % 8 = (β 1).val; omega
    | ⟨2, _⟩ => show 0 = (β 2).val; omega

include hT in
theorem result_arr (G : S16x4096x1024.Idx → EReal) (hG : ∀ b t d, G (ix3 b t d) =
      outRow (V m c main_arg0) (V m c main_arg1) (V m c main_arg3) (m ((c : Thread nD τ).loc main_arg5)) (m ((c : Thread nD τ).loc main_arg6)) b t d) :
    (dats m hO hH 0 c).arrAt 5 (cfgM m hO).N = G := by
  refine (dats m hO hH 0 c).arrAt_eq_of_covers 5 _ (covers5 m hO) fun t hfl (y : S1x512x1024.Idx) => ?_
  blk_simp
  rw [after0_5]
  idx_vars y
  have he : (((cfgM m hO).win 5).blk t).view.emb (ix3 y0 y1 y2) = ix3 (bat t) (row t y1) y2 := by blk_ext [idx5 m hO t, bat, row, part]
  rw [he, out_at m hO c hT hH, hG]

end

end Cert.Kernel5Ideal.Scatter

end
-- ==== Proof.ScatterRef.lean ====
module

public import proofs.«01_k».proof.Proof.Gen.Reference5Ideal.Run
public import proofs.«01_k».proof.Proof.ScatterRows
public import Idealize.ShloMosaic.Lib.Routing.OpsPair
public import Idealize.ShloMosaic.Lib.Pointwise
public import Idealize.ShloMosaic.Lib.Tactic

/-!
The scatter's reference, an array at a time: the experts' rows added at the chosen tokens, and the norm of the residual
stream plus their gated sum.
-/

@[expose] public section

set_option maxRecDepth 16384

noncomputable section

namespace Cert.Reference5Ideal.Refer

open Cert.Reference5Ideal Cert.Reference5Ideal.Gen
open Idealize.ShloMosaic Idealize.ShloMosaic.TcCoe Idealize.SL.Sem
open Cert.Kernel5Ideal.Scatter (Tables normed outRow pick cmp_slt)

/-- The batches' numbers, a negative one counted from the end. -/
def batches : IVec S16x1x1 32 :=
  select (cmpi .slt (broadcastInDim S16x1x1 ![0] bcast_S16_S16x1x1_0 (iotaInDim S16 32 0)) (broadcastInDim S16x1x1 ![] bcast_S_S16x1x1 (constantI S_ 32 0#32)))
    (addi (broadcastInDim S16x1x1 ![0] bcast_S16_S16x1x1_0 (iotaInDim S16 32 0)) (broadcastInDim S16x1x1 ![] bcast_S_S16x1x1 (constantI S_ 32 16#32)))
    (broadcastInDim S16x1x1 ![0] bcast_S16_S16x1x1_0 (iotaInDim S16 32 0))

/-- The chosen tokens, a negative one counted from the end. -/
def wrapped (idx : IVec S16x16x512 32) : IVec S16x16x512 32 :=
  select (cmpi .slt idx (broadcastInDim S16x16x512 ![] bcast_S_S16x16x512 (constantI S_ 32 0#32)))
    (addi idx (broadcastInDim S16x16x512 ![] bcast_S_S16x16x512 (constantI S_ 32 4096#32))) idx

/-- Where each row goes: a batch and a token. -/
def places (b : IVec S16x1x1 32) (n : IVec S16x16x512 32) : IVec S16x16x512x2 32 :=
  concatenate S16x16x512x2 3
    [⟨S16x16x512x1, (broadcastInDim S16x16x512x1 ![0, 1, 2] bcast_S16x16x512_S16x16x512x1_0_1_2 (broadcastInDim S16x16x512 ![0, 1, 2] bcast_S16x1x1_S16x16x512_0_1_2 b))⟩,
      ⟨S16x16x512x1, (broadcastInDim S16x16x512x1 ![0, 1, 2] bcast_S16x16x512_S16x16x512x1_0_1_2 n)⟩] concatenates_S16x16x512x1_S16x16x512x1_S16x16x512x2_d3

/-- The rows added there. -/
def added (p : IVec S16x16x512x2 32) (ys : FVec Ideal S16x16x512x1024 .bf16) : FVec Ideal S16x4096x1024 .f32 :=
  Host.scatterAdd scatter_S16x4096x1024_S16x16x512x2_S16x16x512x1024_3_01_01_3
    (broadcastInDim S16x4096x1024 ![] bcast_S_S16x4096x1024 (constant S_ .f32 0x00000000#32)) p (extf .f32 ys bitsLt_bf16_f32)

/-- The residual stream plus the gated sum. -/
def stream (h : FVec Ideal S16x4096x1024 .f32) (g : FVec Ideal S16x1x1024 .f32) (x : FVec Ideal S16x4096x1024 .f32) : FVec Ideal S16x4096x1024 .f32 :=
  addf h (mulf (broadcastInDim S16x4096x1024 ![0, 1, 2] bcast_S16x1x1024_S16x4096x1024_0_1_2 g) x)

/-- A token's mean square and the small constant, under the inverse square root. -/
def inv (x : FVec Ideal S16x4096x1024 .f32) : FVec Ideal S16x4096x1 .f32 :=
  Host.rsqrt (addf (Host.divf (broadcastInDim S16x4096x1 ![0, 1] bcast_S16x4096_S16x4096x1_0_1
      (Host.reduceAdd (mulf x x) (constant S_ .f32 0x00000000#32) reducesTo_S16x4096x1024_S16x4096_d2 h_S_))
      (broadcastInDim S16x4096x1 ![] bcast_S_S16x4096x1 (constant S_ .f32 0x44800000#32)))
    (broadcastInDim S16x4096x1 ![] bcast_S_S16x4096x1 (constant S_ .f32 0x358637BD#32)))

/-- The norm under its gain. -/
def final (x : FVec Ideal S16x4096x1024 .f32) (n : FVec Ideal S1024 .f32) : FVec Ideal S16x4096x1024 .f32 :=
  mulf (mulf x (broadcastInDim S16x4096x1024 ![0, 1, 2] bcast_S16x4096x1_S16x4096x1024_0_1_2 (inv x)))
    (broadcastInDim S16x4096x1024 ![0, 1, 2] bcast_S1x1x1024_S16x4096x1024_0_1_2 (broadcastInDim S1x1x1024 ![2] bcast_S1024_S1x1x1024_2 n))

theorem final_at (x : FVec Ideal S16x4096x1024 .f32) (n : FVec Ideal S1024 .f32) (b : Fin 16) (t : Fin 4096) (d : Fin 1024) :
    (final x n : S16x4096x1024.Idx → EReal) (ix3 b t d) = normed (fun k => x (ix3 b t k)) (fun k => n (ix1 k)) d := by
  unfold final inv
  pointwise
  rfl

theorem stream_at (h : FVec Ideal S16x4096x1024 .f32) (g : FVec Ideal S16x1x1024 .f32) (x : FVec Ideal S16x4096x1024 .f32) (b : Fin 16) (t : Fin 4096) (d : Fin 1024) :
    (stream h g x : S16x4096x1024.Idx → EReal) (ix3 b t d) = (h (ix3 b t d) + g (ix3 b 0 d) * x (ix3 b t d) : EReal) := by
  unfold stream
  pointwise

theorem toInt_small {w : BitVec 32} (h : w.toNat < 4096) : w.toInt = w.toNat := by
  rw [BitVec.toInt_eq_toNat_cond, if_pos (by omega)]

theorem wrapped_eq (idx : IVec S16x16x512 32) (h : ∀ b e q, (idx (ix3 b e q)).toNat < 4096) : wrapped idx = idx := by
  funext y
  idx_vars y
  unfold wrapped
  pointwise
  have := toInt_small (h y0 y1 y2)
  exact if_neg fun hh => by
    have := (cmp_slt _ _).mp hh
    have e0 : (0#32).toInt = 0 := by decide
    omega

theorem batches_at : ∀ b : Fin 16, (batches (ix3 b 0 0)).toInt = b.val := by
  intro b
  unfold batches
  pointwise
  revert b
  decide

theorem places_batch (c : IVec S16x1x1 32) (n : IVec S16x16x512 32) (b e : Fin 16) (s : Fin 512) : places c n (ix4 b e s 0) = c (ix3 b 0 0) := by
  unfold places
  pointwise
theorem places_token (c : IVec S16x1x1 32) (n : IVec S16x16x512 32) (b e : Fin 16) (s : Fin 512) : places c n (ix4 b e s 1) = n (ix3 b e s) := by
  unfold places
  pointwise

theorem siIdx_eq (b e : Fin 16) (s : Fin 512) (d : Fin 1024) (k : Fin 2) :
    scatter_S16x4096x1024_S16x16x512x2_S16x16x512x1024_3_01_01_3.siIdx (ix4 b e s d) ⟨k.val, by have : k.val < 2 := k.isLt; exact this⟩ = ix4 b e s k := by
  funext a
  match a with
  | ⟨0, _⟩ => rfl
  | ⟨1, _⟩ => rfl
  | ⟨2, _⟩ => rfl
  | ⟨3, _⟩ => rfl

/-- Row `d` of slot `s` of expert `e` of batch `b'` is added at `(b, t, d')` exactly when the batch and the lane are the same and the slot's token is `t`. -/
theorem lands (p : IVec S16x16x512x2 32) (b' e : Fin 16) (s : Fin 512) (d' : Fin 1024) (b : Fin 16) (t : Fin 4096) (d : Fin 1024) :
    scatter_S16x4096x1024_S16x16x512x2_S16x16x512x1024_3_01_01_3.resultIdx? (ix4 b' e s d') p = some (ix3 b t d) ↔
      (p (ix4 b' e s 0)).toInt = b.val ∧ (p (ix4 b' e s 1)).toInt = t.val ∧ d' = d := by
  rw [Routing.resultIdx?_eq_some]
  have s0 : scatter_S16x4096x1024_S16x16x512x2_S16x16x512x1024_3_01_01_3.start (ix4 b' e s d') p 0 = (p (ix4 b' e s 0)).toInt :=
    congrArg (fun y => (p y).toInt) (siIdx_eq b' e s d' 0)
  have s1 : scatter_S16x4096x1024_S16x16x512x2_S16x16x512x1024_3_01_01_3.start (ix4 b' e s d') p 1 = (p (ix4 b' e s 1)).toInt :=
    congrArg (fun y => (p y).toInt) (siIdx_eq b' e s d' 1)
  have s2 : scatter_S16x4096x1024_S16x16x512x2_S16x16x512x1024_3_01_01_3.start (ix4 b' e s d') p 2 = 0 := rfl
  have w0 : scatter_S16x4096x1024_S16x16x512x2_S16x16x512x1024_3_01_01_3.window (ix4 b' e s d') 0 = 0 := rfl
  have w1 : scatter_S16x4096x1024_S16x16x512x2_S16x16x512x1024_3_01_01_3.window (ix4 b' e s d') 1 = 0 := rfl
  have w2 : scatter_S16x4096x1024_S16x16x512x2_S16x16x512x1024_3_01_01_3.window (ix4 b' e s d') 2 = d'.val := rfl
  constructor
  · intro h
    have h0 := h 0
    have h1 := h 1
    have h2 := h 2
    rw [s0, w0] at h0; rw [s1, w1] at h1; rw [s2, w2] at h2
    change _ = (b.val : Int) at h0; change _ = (t.val : Int) at h1; change _ = (d.val : Int) at h2
    exact ⟨by omega, by omega, Fin.ext (by omega)⟩
  · rintro ⟨h0, h1, rfl⟩ a
    match a with
    | ⟨0, _⟩ => exact (congrArg₂ (fun x (y : ℕ) => x + (y : Int)) s0 w0).trans (by show _ = (b.val : Int); omega)
    | ⟨1, _⟩ => exact (congrArg₂ (fun x (y : ℕ) => x + (y : Int)) s1 w1).trans (by show _ = (t.val : Int); omega)
    | ⟨2, _⟩ => exact (congrArg₂ (fun x (y : ℕ) => x + (y : Int)) s2 w2).trans (by show _ = (d'.val : Int); omega)

/-- A sum over a four-axis index set. -/
def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := by
    funext a
    match a with
    | ⟨0, _⟩ => rfl
    | ⟨1, _⟩ => rfl
    | ⟨2, _⟩ => rfl
    | ⟨3, _⟩ => rfl
  right_inv p := rfl

theorem sum_idx4 {n0 n1 n2 n3 : ℕ} (f : (⟨4, ![n0, n1, n2, n3]⟩ : Shape).Idx → EReal) : ∑ i, f i = ∑ a, ∑ b, ∑ c, ∑ d, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

theorem added_at (idx : IVec S16x16x512 32) (h : ∀ b e q, (idx (ix3 b e q)).toNat < 4096) (ys : FVec Ideal S16x16x512x1024 .bf16) (b : Fin 16) (t : Fin 4096) (d : Fin 1024) :
    (added (places batches idx) ys : S16x4096x1024.Idx → EReal) (ix3 b t d) =
      ∑ e : Fin 16, ∑ s : Fin 512, if idx (ix3 b e s) = BitVec.ofNat 32 t.val then (ys : S16x16x512x1024.Idx → EReal) (ix4 b e s d) else 0 := by
  unfold added
  simp only [Host.scatterAdd, Ideal.hostScatterAdd_def]
  unfold Ideal.hostScatterAdd
  rw [Finset.sum_filter, sum_idx4]
  have hz : (broadcastInDim S16x4096x1024 ![] bcast_S_S16x4096x1024 (constant (F := Ideal) S_ .f32 0x00000000#32) : S16x4096x1024.Idx → EReal) (ix3 b t d) = 0 := by
    pointwise
  have hp (b' e : Fin 16) (s : Fin 512) (d' : Fin 1024) : (scatter_S16x4096x1024_S16x16x512x2_S16x16x512x1024_3_01_01_3.resultIdx? (ix4 b' e s d') (places batches idx) = some (ix3 b t d)) ↔
      b' = b ∧ idx (ix3 b' e s) = BitVec.ofNat 32 t.val ∧ d' = d := by
    rw [lands, places_batch, places_token, batches_at, toInt_small (h b' e s)]
    refine and_congr ⟨fun h => Fin.ext (by omega), fun h => by rw [h]⟩ (and_congr_left fun _ => ⟨fun h => ?_, fun h => ?_⟩)
    · rw [← show (idx (ix3 b' e s)).toNat = t.val by omega, BitVec.ofNat_toNat, BitVec.setWidth_eq]
    · rw [h, WordArith.toNat_ofNat_of_lt _ (by have := t.isLt; omega)]
  simp only [hp]
  refine (congrArg (· + _) hz).trans ((zero_add _).trans ?_)
  refine (Finset.sum_eq_single b (fun b' _ hb => ?_) fun hh => (hh (Finset.mem_univ _)).elim).trans ?_
  · exact Finset.sum_eq_zero fun e _ => Finset.sum_eq_zero fun s _ => Finset.sum_eq_zero fun d' _ => if_neg fun h => hb h.1
  · refine Finset.sum_congr rfl fun e _ => Finset.sum_congr rfl fun s _ => ?_
    refine (Finset.sum_eq_single d (fun d' _ hd => if_neg fun h => hd h.2.2) fun hh => (hh (Finset.mem_univ _)).elim).trans ?_
    refine if_congr ⟨fun h => h.2.1, fun h => ⟨rfl, h, rfl⟩⟩ ?_ rfl
    pointwise

/-- With the tables of a choice, a token gets the rows at its slots. -/
theorem added_slots {idx : IVec S16x16x512 32} {sl : IVec Cert.Kernel5Ideal.S16x4096x16 32} {co : IVec Cert.Kernel5Ideal.S8448 32} (hT : Tables idx sl co) (ys : FVec Ideal S16x16x512x1024 .bf16)
    (b : Fin 16) (t : Fin 4096) (d : Fin 1024) :
    (added (places batches idx) ys : S16x4096x1024.Idx → EReal) (ix3 b t d) =
      ∑ e : Fin 16, if hs : (sl (ix3 b t e)).toNat < 512 then (ys : S16x16x512x1024.Idx → EReal) (ix4 b e ⟨_, hs⟩ d) else 0 := by
  rw [added_at idx hT.idx_lt ys b t d]
  refine Finset.sum_congr rfl fun e _ => ?_
  have hp := pick 512 0 (by omega) (fun s => if hs : s < 512 then (ys : S16x16x512x1024.Idx → EReal) (ix4 b e ⟨s, hs⟩ d) else 0) (sl (ix3 b t e))
  refine Eq.trans (Finset.sum_congr rfl fun s _ => ?_) (hp.trans ?_)
  · refine if_congr ?_ ?_ rfl
    · rw [Nat.zero_add]; exact (hT.hit b e t s).symm
    · refine Eq.symm ((dif_pos (show 0 + s.val < 512 by omega)).trans ?_)
      exact congrArg (fun q => (ys : S16x16x512x1024.Idx → EReal) (ix4 b e q d)) (Fin.ext (Nat.zero_add _))
  · by_cases hs : (sl (ix3 b t e)).toNat < 512
    · rw [if_pos (by omega)]
    · rw [if_neg (by omega), dif_neg hs]

section

variable (m : (ℓ : Loc nD τ sig) → Buf (Elt Ideal) ℓ) (c : Dev nD)

theorem res_eq : Value.res_main_v34 m c = final (stream (m (c.tc.loc main_arg0)) (m (c.tc.loc main_arg5))
    (added (places batches (wrapped (m (c.tc.loc main_arg2)))) (m (c.tc.loc main_arg1)))) (m (c.tc.loc main_arg6)) := by
  sl_kernel_rfl

theorem res_at {sl : IVec Cert.Kernel5Ideal.S16x4096x16 32} {co : IVec Cert.Kernel5Ideal.S8448 32} (hT : Tables (m (c.tc.loc main_arg2) : IVec S16x16x512 32) sl co)
    (b : Fin 16) (t : Fin 4096) (d : Fin 1024) :
    (Value.res_main_v34 m c : S16x4096x1024.Idx → EReal) (ix3 b t d) =
      outRow (m (c.tc.loc main_arg0)) (m (c.tc.loc main_arg1)) sl (m (c.tc.loc main_arg5)) (m (c.tc.loc main_arg6)) b t d := by
  rw [res_eq, wrapped_eq _ hT.idx_lt, final_at]
  simp only [stream_at, added_slots hT, outRow]

end

end Cert.Reference5Ideal.Refer

end
-- ==== Proof.ScatterTie.lean ====
module

public import proofs.«01_k».proof.Defs
public import proofs.«01_k».proof.Proof.ScatterPre
public import proofs.«01_k».proof.Proof.ScatterArr
public import proofs.«01_k».proof.Proof.ScatterRef

/-!
The scatter's call under tables of a choice: it runs without a fault, and its result is the reference's.
-/

@[expose] public section

set_option maxRecDepth 16384

noncomputable section

namespace Cert.ScatterTie

open Cert.Kernel5Ideal.Scatter
open Cert.Kernel5Ideal.Gen (Ok tbl cfgM V V_main_arg0 V_main_arg1 V_main_arg3 V_main_arg4)
open Idealize.ShloMosaic Idealize.ShloMosaic.TcCoe Idealize.SL.Sem

section
variable {F : FTy → Type} [FloatOps F]
variable (m : (ℓ : Loc Cert.Kernel5Ideal.nD Cert.Kernel5Ideal.τ Cert.Kernel5Ideal.sig) → Buf (Elt F) ℓ)

theorem ok : Ok m := trivial

/-- The table of offsets is not changed before the call. -/
theorem table_eq : (tbl m 0 : IVec Cert.Kernel5Ideal.S8448 32) = m ((0 : Dev Cert.Kernel5Ideal.nD).tc.loc Cert.Kernel5Ideal.main_arg4) := V_main_arg4 m 0

/-- With the tables of a choice every block's range fits the experts' results. -/
theorem hyps {idx sl} (h : Tables idx sl (m ((0 : Dev Cert.Kernel5Ideal.nD).tc.loc Cert.Kernel5Ideal.main_arg4))) : Hyps m :=
  fun i => (congrArg (fun w : IVec Cert.Kernel5Ideal.S8448 32 => Fits (F := F) w i) (table_eq m)).mpr (fits h i)

end

variable (m : (ℓ : Loc Cert.Kernel5Ideal.nD Cert.Kernel5Ideal.τ Cert.Kernel5Ideal.sig) → Buf (Elt Ideal) ℓ)
  (ρ : Dev Cert.Kernel5Ideal.nD → PrngReg)
  (m' : (ℓ : Loc Cert.Reference5Ideal.nD Cert.Reference5Ideal.τ Cert.Reference5Ideal.sig) → Buf (Elt Ideal) ℓ)
  (c : Dev Cert.Kernel5Ideal.nD)

/-- The kernel's run, its result array named. -/
theorem run_blocks (hH : Hyps m) : θ_run Cert.Kernel5Ideal.defs (onTc (τ := Cert.Kernel5Ideal.τ) (Cert.Kernel5Ideal.main (F := Ideal))) ⟨m, fun _ => 0, ρ⟩ (fun r => ∀ c : Dev Cert.Kernel5Ideal.nD,
      r.2.mem ((c.tc : Thread Cert.Kernel5Ideal.nD Cert.Kernel5Ideal.τ).loc Cert.Kernel5Ideal.main_v2) = (dats m (ok m) hH 0 c).arrAt 5 (cfgM m (ok m)).N
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)) :=
  (θ_run Cert.Kernel5Ideal.defs _ _).mono (fun _ h c => ⟨(h.1 c).1 5, h.2 c⟩)
    (θ_run_and (run_main m ρ (ok m) hH) (unchanged m ρ (ok m) hH))

variable {m m' c}

/-- The reference's result, where its arguments are the kernel's. -/
theorem tie (hT : Tables (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) (hH : Hyps m)
    (a0 : m' ((c.tc : Thread Cert.Reference5Ideal.nD Cert.Reference5Ideal.τ).loc Cert.Reference5Ideal.main_arg0) =
      m ((c.tc : Thread Cert.Kernel5Ideal.nD Cert.Kernel5Ideal.τ).loc Cert.Kernel5Ideal.main_arg0))
    (a1 : m' ((c.tc : Thread Cert.Reference5Ideal.nD Cert.Reference5Ideal.τ).loc Cert.Reference5Ideal.main_arg1) =
      m ((c.tc : Thread Cert.Kernel5Ideal.nD Cert.Kernel5Ideal.τ).loc Cert.Kernel5Ideal.main_arg1))
    (a2 : m' ((c.tc : Thread Cert.Reference5Ideal.nD Cert.Reference5Ideal.τ).loc Cert.Reference5Ideal.main_arg2) =
      m ((c.tc : Thread Cert.Kernel5Ideal.nD Cert.Kernel5Ideal.τ).loc Cert.Kernel5Ideal.main_arg2))
    (a5 : m' ((c.tc : Thread Cert.Reference5Ideal.nD Cert.Reference5Ideal.τ).loc Cert.Reference5Ideal.main_arg5) =
      m ((c.tc : Thread Cert.Kernel5Ideal.nD Cert.Kernel5Ideal.τ).loc Cert.Kernel5Ideal.main_arg5))
    (a6 : m' ((c.tc : Thread Cert.Reference5Ideal.nD Cert.Reference5Ideal.τ).loc Cert.Reference5Ideal.main_arg6) =
      m ((c.tc : Thread Cert.Kernel5Ideal.nD Cert.Kernel5Ideal.τ).loc Cert.Kernel5Ideal.main_arg6)) :
    (dats m (ok m) hH 0 c).arrAt 5 (cfgM m (ok m)).N =
      (Cert.Reference5Ideal.Value.res_main_v34 m' c : Cert.Reference5Ideal.S16x4096x1024.Idx → EReal) := by
  obtain rfl : c = 0 := Subsingleton.elim _ _
  have e3 : (V m 0 Cert.Kernel5Ideal.main_arg3 : IVec Cert.Kernel5Ideal.S16x4096x16 32) = m ((0 : Dev Cert.Kernel5Ideal.nD).tc.loc Cert.Kernel5Ideal.main_arg3) := V_main_arg3 m 0
  have hT1 : Tables (m ((0 : Dev Cert.Kernel5Ideal.nD).tc.loc Cert.Kernel5Ideal.main_arg2)) (V m 0 Cert.Kernel5Ideal.main_arg3) (m ((0 : Dev Cert.Kernel5Ideal.nD).tc.loc Cert.Kernel5Ideal.main_arg4)) :=
    (congrArg (fun w : IVec Cert.Kernel5Ideal.S16x4096x16 32 => Tables _ w (m ((0 : Dev Cert.Kernel5Ideal.nD).tc.loc Cert.Kernel5Ideal.main_arg4))) e3).mpr hT
  have hT' : Tables (m ((0 : Dev Cert.Kernel5Ideal.nD).tc.loc Cert.Kernel5Ideal.main_arg2)) (V m 0 Cert.Kernel5Ideal.main_arg3) (tbl m 0) :=
    (congrArg (fun w : IVec Cert.Kernel5Ideal.S8448 32 => Tables _ (V m 0 Cert.Kernel5Ideal.main_arg3) w) (table_eq m)).mpr hT1
  refine result_arr m (ok m) 0 hT' hH _ fun b t d => ?_
  have hR : Tables (m' ((0 : Dev Cert.Reference5Ideal.nD).tc.loc Cert.Reference5Ideal.main_arg2)) (m ((0 : Dev Cert.Kernel5Ideal.nD).tc.loc Cert.Kernel5Ideal.main_arg3)) (m ((0 : Dev Cert.Kernel5Ideal.nD).tc.loc Cert.Kernel5Ideal.main_arg4)) := by
    rw [a2]; exact hT
  refine (Cert.Reference5Ideal.Refer.res_at m' 0 hR b t d).trans ?_
  rw [V_main_arg0, V_main_arg1, V_main_arg3, a0, a1, a5, a6]

end Cert.ScatterTie

end
-- ==== Proof.lean ====
/-
  The proof that the kernels of the attention, of the projection, of the merge, of the experts and of the
  scatter terminate without a fault and leave their arguments alone, that the attention's computes exactly the
  softmax attention of its reference when every query and key is finite, that the projection's and the merge's
  compute exactly their references, and that the experts' and the scatter's compute exactly theirs when their
  integer tables are those of a choice of tokens.

  The attention:
  Proof/Body.lean     one grid point's arithmetic, named, and what the point stores
  Proof/Blocks.lean   what a point's windows and its scratch hold of the arguments
  Proof/Softmax.lean  a running softmax in powers of two is the softmax
  Proof/Stream.lean   a stream of 1024 rows through nine blocks of keys is that softmax
  Proof/Rows.lean     a point's results, a value at a time
  Proof/Output.lean   the kernel's result array
  Proof/Reference.lean  the reference's result, a value at a time
  Proof/Tie.lean      the two arrays are equal
  The projection and the merge:
  Proof/Plain.lean      what they compute of a token's row, over the extended reals
  Proof/ProjBody.lean, Proof/MergeBody.lean  what one grid point stores
  Proof/ProjArr.lean, Proof/MergeArr.lean    the kernel's result arrays
  Proof/ProjRef.lean, Proof/MergeRef.lean    the reference's, a value at a time
  Proof/ProjTie.lean, Proof/MergeTie.lean    they are equal
  The experts:
  Proof/ExpertProg.lean   the body of a grid point, a step of its loops at a time
  Proof/ExpertRun.lean    what each step leaves in the scratch, and the body's run
  Proof/ExpertFrame.lean  the launch and the run of the whole program
  Proof/ExpertWords.lean  the words that place the windows
  Proof/ExpertPre.lean    what the precondition says of the tables
  Proof/ExpertRows.lean   the scratch after the loops, a row at a time
  Proof/ExpertBody.lean   a row of the result is the gated feed-forward of the chosen token
  Proof/ExpertArr.lean    the kernel's result array
  Proof/ExpertRef.lean    the reference's, a value at a time
  Proof/ExpertTie.lean    they are equal
  The scatter:
  Proof/ScatterProg.lean   the body of a grid point, a step at a time
  Proof/ScatterEq.lean     that body is the one printed
  Proof/ScatterRun.lean    what each step leaves in the scratch, and the body's run
  Proof/ScatterFrame.lean  the launch and the run of the whole program
  Proof/ScatterWords.lean  the words that place the windows
  Proof/ScatterPre.lean    what the precondition says of the tables
  Proof/ScatterRows.lean   a row of the result is the norm of the stream plus the gated rows at its slots
  Proof/ScatterArr.lean    the kernel's result array
  Proof/ScatterRef.lean    the reference's, a value at a time
  Proof/ScatterTie.lean    they are equal
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal.Run
public import proofs.«01_k».proof.Proof.Gen.Pre_columns_of_choice
public import proofs.«01_k».proof.Proof.Tie
public import proofs.«01_k».proof.Proof.ProjTie
public import proofs.«01_k».proof.Proof.MergeTie
public import proofs.«01_k».proof.Proof.ExpertTie
public import proofs.«01_k».proof.Proof.ScatterTie
public import Idealize.ShloMosaic.Adequacy
public import Idealize.ShloMosaic.Init
public import Idealize.ShloMosaic.Lib.Tactic

@[expose] public section

noncomputable section

namespace Cert.Proof

open Idealize.ShloMosaic Idealize.ShloMosaic.TcCoe Idealize.SL.Sem

/-- The reference declares no semaphore, so every counter ends at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs end with equal results. -/
theorem algebraic : Cert.algebraic_KernelIdeal_ReferenceIdeal_pre_finite_scores := by
  intro m ρ m' ρ' hpre hagree
  refine ⟨fun c => (Cert.KernelIdeal.Gen.dats m 0 c).arrAt 5 Cert.KernelIdeal.cfg0.N,
    Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨qf, kf, hf⟩ := Cert.Tie.finite m c hpre
  obtain ⟨a0, a1, a2, a3, a4⟩ := hagree c
  rw [Cert.ReferenceIdeal.Refer.res_eq, a0, a1, a2, a3, a4]
  exact (Cert.Tie.tie m c hf).symm

/-- The projection as printed has the text of the projection read over the extended reals, so its run is
    that run over bits. -/
theorem frame_kernel2 : Cert.quiescent_Kernel2 := fun m ρ _ => by
  have h := Cert.Kernel2Ideal.Gen.frame (F := Bits) m ρ
  refine Eq.mp ?_ h
  sl_kernel_rfl

theorem frame_ref2 : Cert.quiescent_Reference2Ideal := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

/-- The projection's two programs end with equal results. -/
theorem algebraic2 : Cert.algebraic_Kernel2Ideal_Reference2Ideal := by
  intro m ρ m' ρ' _ hagree
  refine ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N,
    Cert.Kernel2Ideal.Value.run_blocks m ρ, ?_⟩
  refine (θ_run Cert.Reference2Ideal.defs _ _).mono (fun r h c => ?_)
    (Cert.Reference2Ideal.Value.run (F := Ideal) m' ρ')
  obtain ⟨a0, a1, a2, a3, a4, a5, a6⟩ := hagree c
  have ha : Cert.ProjTie.Agree m m' c := ⟨a0, a1, a2, a3, a4, a5, a6⟩
  obtain ⟨h0, h1, h2, h3, h4, h5, h6, hr⟩ := h c
  exact ⟨h0.trans (Cert.ProjTie.q_tie ha).symm, h1.trans (Cert.ProjTie.k_tie ha).symm,
    h2.trans (Cert.ProjTie.v_tie ha).symm, h3.trans (Cert.ProjTie.hy_tie ha).symm,
    h4.trans (Cert.ProjTie.rx_tie ha).symm, h5.trans (Cert.ProjTie.rg_tie ha).symm,
    h6.trans (Cert.ProjTie.gate_tie ha).symm, hr⟩

/-- The merge as printed has the text of the merge read over the extended reals, so its run is that run
    over bits. -/
theorem frame_kernel3 : Cert.quiescent_Kernel3 := fun m ρ _ => by
  have h := Cert.Kernel3Ideal.Gen.frame (F := Bits) m ρ
  refine Eq.mp ?_ h
  sl_kernel_rfl

theorem frame_ref3 : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

/-- The merge's two programs end with equal results. -/
theorem algebraic3 : Cert.algebraic_Kernel3Ideal_Reference3Ideal := by
  intro m ρ m' ρ' _ hagree
  refine ⟨fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    Cert.Kernel3Ideal.Value.run_blocks m ρ, ?_⟩
  refine (θ_run Cert.Reference3Ideal.defs _ _).mono (fun r h c => ?_)
    (Cert.Reference3Ideal.Value.run (F := Ideal) m' ρ')
  obtain ⟨a0, a1, a2, a3, a4, a5, a6, a7, a8, a9, a10, a11, a12, a13⟩ := hagree c
  have ha : Cert.MergeTie.Agree m m' c := ⟨a0, a1, a2, a3, a4, a5, a6, a7, a8, a9, a10, a11, a12, a13⟩
  exact ⟨(h c).1.trans (Cert.MergeTie.hn_tie ha).symm, (h c).2.1.trans (Cert.MergeTie.u2_tie ha).symm,
    (h c).2.2.1.trans (Cert.MergeTie.lt_tie ha).symm, (h c).2.2.2⟩

/-- The experts' call as printed has the text of the call read over the extended reals, so its run is that
    run over bits. -/
theorem frame_kernel4 : Cert.quiescent_Kernel4 := fun m ρ hpre => by
  have h := Cert.Kernel4Ideal.Expert.frame (F := Bits) m ρ (Cert.ExpertTie.ok m)
    (Cert.ExpertTie.hyps m (Cert.Kernel4Ideal.Expert.tables_of (hpre 0)))
  refine Eq.mp ?_ h
  sl_kernel_rfl

theorem frame_kernel4_ideal : Cert.quiescent_Kernel4Ideal := fun m ρ hpre =>
  Cert.Kernel4Ideal.Expert.frame m ρ (Cert.ExpertTie.ok m)
    (Cert.ExpertTie.hyps m (Cert.Kernel4Ideal.Expert.tables_of (hpre 0)))

theorem frame_ref4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The experts' two programs end with equal results. -/
theorem algebraic4 : Cert.algebraic_Kernel4Ideal_Reference4Ideal := by
  intro m ρ m' ρ' hpre hagree
  have hH := Cert.ExpertTie.hyps m (Cert.Kernel4Ideal.Expert.tables_of (hpre 0))
  refine ⟨fun c => (Cert.Kernel4Ideal.Expert.dats m (Cert.ExpertTie.ok m) hH 0 c).arrAt 6 (Cert.Kernel4Ideal.Expert.cfgM m (Cert.ExpertTie.ok m)).N,
    Cert.ExpertTie.run_blocks m ρ hH, ?_⟩
  refine (θ_run Cert.Reference4Ideal.defs _ _).mono (fun r h c => ?_)
    (Cert.Reference4Ideal.Value.run (F := Ideal) m' ρ')
  obtain ⟨a0, a1, _, a3, _, a5, a6, a7⟩ := hagree c
  obtain rfl : c = 0 := Subsingleton.elim _ _
  exact ⟨(h 0).1.trans (Cert.ExpertTie.tie (Cert.Kernel4Ideal.Expert.tables_of (hpre 0)) hH a0 a1 a3 a5 a6 a7).symm, (h 0).2⟩

/-- The scatter's call as printed has the text of the call read over the extended reals, so its run is that
    run over bits. -/
theorem frame_kernel5 : Cert.quiescent_Kernel5 := fun m ρ hpre => by
  have h := Cert.Kernel5Ideal.Scatter.frame (F := Bits) m ρ (Cert.ScatterTie.ok m)
    (Cert.ScatterTie.hyps m (Cert.Kernel5Ideal.Scatter.tables_of (hpre 0)))
  refine Eq.mp ?_ h
  sl_kernel_rfl

theorem frame_kernel5_ideal : Cert.quiescent_Kernel5Ideal := fun m ρ hpre =>
  Cert.Kernel5Ideal.Scatter.frame m ρ (Cert.ScatterTie.ok m)
    (Cert.ScatterTie.hyps m (Cert.Kernel5Ideal.Scatter.tables_of (hpre 0)))

theorem frame_ref5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The scatter's two programs end with equal results. -/
theorem algebraic5 : Cert.algebraic_Kernel5Ideal_Reference5Ideal := by
  intro m ρ m' ρ' hpre hagree
  have hH := Cert.ScatterTie.hyps m (Cert.Kernel5Ideal.Scatter.tables_of (hpre 0))
  refine ⟨fun c => (Cert.Kernel5Ideal.Scatter.dats m (Cert.ScatterTie.ok m) hH 0 c).arrAt 5 (Cert.Kernel5Ideal.Gen.cfgM m (Cert.ScatterTie.ok m)).N,
    Cert.ScatterTie.run_blocks m ρ hH, ?_⟩
  refine (θ_run Cert.Reference5Ideal.defs _ _).mono (fun r h c => ?_)
    (Cert.Reference5Ideal.Value.run (F := Ideal) m' ρ')
  obtain ⟨a0, a1, a2, _, _, a5, a6⟩ := hagree c
  obtain rfl : c = 0 := Subsingleton.elim _ _
  exact ⟨(h 0).1.trans (Cert.ScatterTie.tie (Cert.Kernel5Ideal.Scatter.tables_of (hpre 0)) hH a0 a1 a2 a5 a6).symm, (h 0).2⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Tie.preFacts, Cert.Pre_tables_of_choice.Gen.facts, Cert.Pre_columns_of_choice.Gen.facts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    frame_kernel2, fun m ρ _ => Cert.Kernel2Ideal.Gen.frame m ρ, frame_ref2,
    frame_kernel3, fun m ρ _ => Cert.Kernel3Ideal.Gen.frame m ρ, frame_ref3,
    frame_kernel4, frame_kernel4_ideal, frame_ref4, fun m ρ _ => frame_ref4 m ρ trivial,
    frame_kernel5, frame_kernel5_ideal, frame_ref5, fun m ρ _ => frame_ref5 m ρ trivial,
    IdealRules.named_const.statement _ _ _ _ _ rfl, algebraic, trivial, algebraic2, trivial, algebraic3,
    trivial, algebraic4, trivial, algebraic5⟩

end Cert.Proof

end
